-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_StickIdeal (m : (ℓ : Loc Cert.StickIdeal.nD Cert.StickIdeal.τ Cert.StickIdeal.sig) → Buf (Elt Ideal) ℓ) : Prop :=
  True

def Pre_StickIdeal_finite [hPre_finite : Cert.Pre_finite.Facts] (m : (ℓ : Loc Cert.StickIdeal.nD Cert.StickIdeal.τ Cert.StickIdeal.sig) → Buf (Elt Ideal) ℓ) : Prop :=
  ∀ c : Dev Cert.StickIdeal.nD,
    (Cert.Pre_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).1 = (fun _ => 1#1)
    ∧ (Cert.Pre_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).2.1 = (fun _ => 1#1)
    ∧ (Cert.Pre_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2)) (m ((c.tc : Thread Cert.StickIdeal.nD Cert.StickIdeal.τ).loc Cert.StickIdeal.main_arg3))).2.2 = (fun _ => 1#1)

def Pre_KProj (m : (ℓ : Loc Cert.KProj.nD Cert.KProj.τ Cert.KProj.sig) → Buf (Elt Bits) ℓ) : Prop :=
  True

def Pre_KProjIdeal (m : (ℓ : Loc Cert.KProjIdeal.nD Cert.KProjIdeal.τ Cert.KProjIdeal.sig) → Buf (Elt Ideal) ℓ) : Prop :=
  True

def Pre_KeysIdeal (m : (ℓ : Loc Cert.KeysIdeal.nD Cert.KeysIdeal.τ Cert.KeysIdeal.sig) → Buf (Elt Ideal) ℓ) : Prop :=
  True

def Pre_VProj (m : (ℓ : Loc Cert.VProj.nD Cert.VProj.τ Cert.VProj.sig) → Buf (Elt Bits) ℓ) : Prop :=
  True

def Pre_VProjIdeal (m : (ℓ : Loc Cert.VProjIdeal.nD Cert.VProjIdeal.τ Cert.VProjIdeal.sig) → Buf (Elt Ideal) ℓ) : Prop :=
  True

def Pre_ValuesIdeal (m : (ℓ : Loc Cert.ValuesIdeal.nD Cert.ValuesIdeal.τ Cert.ValuesIdeal.sig) → Buf (Elt Ideal) ℓ) : Prop :=
  True

def Pre_HgIn (m : (ℓ : Loc Cert.HgIn.nD Cert.HgIn.τ Cert.HgIn.sig) → Buf (Elt Bits) ℓ) : Prop :=
  True

def Pre_HgInIdeal (m : (ℓ : Loc Cert.HgInIdeal.nD Cert.HgInIdeal.τ Cert.HgInIdeal.sig) → Buf (Elt Ideal) ℓ) : Prop :=
  True

def Pre_GatesIdeal (m : (ℓ : Loc Cert.GatesIdeal.nD Cert.GatesIdeal.τ Cert.GatesIdeal.sig) → Buf (Elt Ideal) ℓ) : Prop :=
  True

def Pre_QProj (m : (ℓ : Loc Cert.QProj.nD Cert.QProj.τ Cert.QProj.sig) → Buf (Elt Bits) ℓ) : Prop :=
  True

def Pre_QProjIdeal (m : (ℓ : Loc Cert.QProjIdeal.nD Cert.QProjIdeal.τ Cert.QProjIdeal.sig) → Buf (Elt Ideal) ℓ) : Prop :=
  True

def Pre_QueriesIdeal (m : (ℓ : Loc Cert.QueriesIdeal.nD Cert.QueriesIdeal.τ Cert.QueriesIdeal.sig) → Buf (Elt Ideal) ℓ) : Prop :=
  True

def Pre_SbOut (m : (ℓ : Loc Cert.SbOut.nD Cert.SbOut.τ Cert.SbOut.sig) → Buf (Elt Bits) ℓ) : Prop :=
  True

def Pre_SbOutIdeal (m : (ℓ : Loc Cert.SbOutIdeal.nD Cert.SbOutIdeal.τ Cert.SbOutIdeal.sig) → Buf (Elt Ideal) ℓ) : Prop :=
  True

def Pre_MixedIdeal (m : (ℓ : Loc Cert.MixedIdeal.nD Cert.MixedIdeal.τ Cert.MixedIdeal.sig) → Buf (Elt Ideal) ℓ) : Prop :=
  True

def Pre_KSample (m : (ℓ : Loc Cert.KSample.nD Cert.KSample.τ Cert.KSample.sig) → Buf (Elt Bits) ℓ) : Prop :=
  True

def Pre_KSampleIdeal (m : (ℓ : Loc Cert.KSampleIdeal.nD Cert.KSampleIdeal.τ Cert.KSampleIdeal.sig) → Buf (Elt Ideal) ℓ) : Prop :=
  True

def Pre_KeysSampleIdeal (m : (ℓ : Loc Cert.KeysSampleIdeal.nD Cert.KeysSampleIdeal.τ Cert.KeysSampleIdeal.sig) → Buf (Elt Ideal) ℓ) : Prop :=
  True

def Pre_VSample (m : (ℓ : Loc Cert.VSample.nD Cert.VSample.τ Cert.VSample.sig) → Buf (Elt Bits) ℓ) : Prop :=
  True

def Pre_VSampleIdeal (m : (ℓ : Loc Cert.VSampleIdeal.nD Cert.VSampleIdeal.τ Cert.VSampleIdeal.sig) → Buf (Elt Ideal) ℓ) : Prop :=
  True

def Pre_ValuesSampleIdeal (m : (ℓ : Loc Cert.ValuesSampleIdeal.nD Cert.ValuesSampleIdeal.τ Cert.ValuesSampleIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombinedIdeal (m : (ℓ : Loc Cert.CombinedIdeal.nD Cert.CombinedIdeal.τ Cert.CombinedIdeal.sig) → Buf (Elt Ideal) ℓ) : Prop :=
  True

def Pre_CombineSample (m : (ℓ : Loc Cert.CombineSample.nD Cert.CombineSample.τ Cert.CombineSample.sig) → Buf (Elt Bits) ℓ) : Prop :=
  True

def Pre_CombineSampleIdeal (m : (ℓ : Loc Cert.CombineSampleIdeal.nD Cert.CombineSampleIdeal.τ Cert.CombineSampleIdeal.sig) → Buf (Elt Ideal) ℓ) : Prop :=
  True

def Pre_CombinedSampleIdeal (m : (ℓ : Loc Cert.CombinedSampleIdeal.nD Cert.CombinedSampleIdeal.τ Cert.CombinedSampleIdeal.sig) → Buf (Elt Ideal) ℓ) : Prop :=
  True

def Pre_Experts [hPre_in_use : Cert.Pre_in_use.Facts] (m : (ℓ : Loc Cert.Experts.nD Cert.Experts.τ Cert.Experts.sig) → Buf (Elt Bits) ℓ) : Prop :=
  ∀ c : Dev Cert.Experts.nD,
    (Cert.Pre_in_use.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).1 = (fun _ => 1#1)
    ∧ (Cert.Pre_in_use.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.1 = (fun _ => 1#1)
    ∧ (Cert.Pre_in_use.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))).2.2 = (fun _ => 1#1)

def Pre_ExpertsIdeal [hPre_in_use : Cert.Pre_in_use.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).1 = (fun _ => 1#1)
    ∧ (Cert.Pre_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.1 = (fun _ => 1#1)
    ∧ (Cert.Pre_in_use.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))).2.2 = (fun _ => 1#1)

def Pre_RoutedIdeal (m : (ℓ : Loc Cert.RoutedIdeal.nD Cert.RoutedIdeal.τ Cert.RoutedIdeal.sig) → Buf (Elt Ideal) ℓ) : Prop :=
  True

def Pre_RoutedIdeal_in_use [hPre_in_use : Cert.Pre_in_use.Facts] (m : (ℓ : Loc Cert.RoutedIdeal.nD Cert.RoutedIdeal.τ Cert.RoutedIdeal.sig) → Buf (Elt Ideal) ℓ) : Prop :=
  ∀ c : Dev Cert.RoutedIdeal.nD,
    (Cert.Pre_in_use.fn (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5))).1 = (fun _ => 1#1)
    ∧ (Cert.Pre_in_use.fn (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5))).2.1 = (fun _ => 1#1)
    ∧ (Cert.Pre_in_use.fn (F := Ideal) (m ((c.tc : Thread Cert.RoutedIdeal.nD Cert.RoutedIdeal.τ).loc Cert.RoutedIdeal.main_arg0)) (m ((c.tc : Thread Cert.RoutedIdeal.nD Cert.RoutedIdeal.τ).loc Cert.RoutedIdeal.main_arg1)) (m ((c.tc : Thread Cert.RoutedIdeal.nD Cert.RoutedIdeal.τ).loc Cert.RoutedIdeal.main_arg2)) (m ((c.tc : Thread Cert.RoutedIdeal.nD Cert.RoutedIdeal.τ).loc Cert.RoutedIdeal.main_arg3)) (m ((c.tc : Thread Cert.RoutedIdeal.nD Cert.RoutedIdeal.τ).loc Cert.RoutedIdeal.main_arg4)) (m ((c.tc : Thread Cert.RoutedIdeal.nD Cert.RoutedIdeal.τ).loc Cert.RoutedIdeal.main_arg5))).2.2 = (fun _ => 1#1)

def Pre_Recur (m : (ℓ : Loc Cert.Recur.nD Cert.Recur.τ Cert.Recur.sig) → Buf (Elt Bits) ℓ) : Prop :=
  True

def Pre_RecurIdeal (m : (ℓ : Loc Cert.RecurIdeal.nD Cert.RecurIdeal.τ Cert.RecurIdeal.sig) → Buf (Elt Ideal) ℓ) : Prop :=
  True

def Pre_RecurIdeal_bounded [hPre_bounded : Cert.Pre_bounded.Facts] (m : (ℓ : Loc Cert.RecurIdeal.nD Cert.RecurIdeal.τ Cert.RecurIdeal.sig) → Buf (Elt Ideal) ℓ) : Prop :=
  ∀ c : Dev Cert.RecurIdeal.nD,
    (Cert.Pre_bounded.fn (F := Ideal) (m ((c.tc : Thread Cert.RecurIdeal.nD Cert.RecurIdeal.τ).loc Cert.RecurIdeal.main_arg0)) (m ((c.tc : Thread Cert.RecurIdeal.nD Cert.RecurIdeal.τ).loc Cert.RecurIdeal.main_arg1)) (m ((c.tc : Thread Cert.RecurIdeal.nD Cert.RecurIdeal.τ).loc Cert.RecurIdeal.main_arg2)) (m ((c.tc : Thread Cert.RecurIdeal.nD Cert.RecurIdeal.τ).loc Cert.RecurIdeal.main_arg3))) = (fun _ => 1#1)

def Pre_StateIdeal (m : (ℓ : Loc Cert.StateIdeal.nD Cert.StateIdeal.τ Cert.StateIdeal.sig) → Buf (Elt Ideal) ℓ) : Prop :=
  True

def Pre_StateIdeal_bounded [hPre_bounded : Cert.Pre_bounded.Facts] (m : (ℓ : Loc Cert.StateIdeal.nD Cert.StateIdeal.τ Cert.StateIdeal.sig) → Buf (Elt Ideal) ℓ) : Prop :=
  ∀ c : Dev Cert.StateIdeal.nD,
    (Cert.Pre_bounded.fn (F := Ideal) (m ((c.tc : Thread Cert.StateIdeal.nD Cert.StateIdeal.τ).loc Cert.StateIdeal.main_arg0)) (m ((c.tc : Thread Cert.StateIdeal.nD Cert.StateIdeal.τ).loc Cert.StateIdeal.main_arg1)) (m ((c.tc : Thread Cert.StateIdeal.nD Cert.StateIdeal.τ).loc Cert.StateIdeal.main_arg2)) (m ((c.tc : Thread Cert.StateIdeal.nD Cert.StateIdeal.τ).loc Cert.StateIdeal.main_arg3))) = (fun _ => 1#1)

def Pre_RecurPrompt (m : (ℓ : Loc Cert.RecurPrompt.nD Cert.RecurPrompt.τ Cert.RecurPrompt.sig) → Buf (Elt Bits) ℓ) : Prop :=
  True

def Pre_RecurPromptIdeal (m : (ℓ : Loc Cert.RecurPromptIdeal.nD Cert.RecurPromptIdeal.τ Cert.RecurPromptIdeal.sig) → Buf (Elt Ideal) ℓ) : Prop :=
  True

def Pre_RecurPromptIdeal_bounded_prompt [hPre_bounded_prompt : Cert.Pre_bounded_prompt.Facts] (m : (ℓ : Loc Cert.RecurPromptIdeal.nD Cert.RecurPromptIdeal.τ Cert.RecurPromptIdeal.sig) → Buf (Elt Ideal) ℓ) : Prop :=
  ∀ c : Dev Cert.RecurPromptIdeal.nD,
    (Cert.Pre_bounded_prompt.fn (F := Ideal) (m ((c.tc : Thread Cert.RecurPromptIdeal.nD Cert.RecurPromptIdeal.τ).loc Cert.RecurPromptIdeal.main_arg0)) (m ((c.tc : Thread Cert.RecurPromptIdeal.nD Cert.RecurPromptIdeal.τ).loc Cert.RecurPromptIdeal.main_arg1)) (m ((c.tc : Thread Cert.RecurPromptIdeal.nD Cert.RecurPromptIdeal.τ).loc Cert.RecurPromptIdeal.main_arg2)) (m ((c.tc : Thread Cert.RecurPromptIdeal.nD Cert.RecurPromptIdeal.τ).loc Cert.RecurPromptIdeal.main_arg3))) = (fun _ => 1#1)

def Pre_StatePromptIdeal (m : (ℓ : Loc Cert.StatePromptIdeal.nD Cert.StatePromptIdeal.τ Cert.StatePromptIdeal.sig) → Buf (Elt Ideal) ℓ) : Prop :=
  True

def Pre_StatePromptIdeal_bounded_prompt [hPre_bounded_prompt : Cert.Pre_bounded_prompt.Facts] (m : (ℓ : Loc Cert.StatePromptIdeal.nD Cert.StatePromptIdeal.τ Cert.StatePromptIdeal.sig) → Buf (Elt Ideal) ℓ) : Prop :=
  ∀ c : Dev Cert.StatePromptIdeal.nD,
    (Cert.Pre_bounded_prompt.fn (F := Ideal) (m ((c.tc : Thread Cert.StatePromptIdeal.nD Cert.StatePromptIdeal.τ).loc Cert.StatePromptIdeal.main_arg0)) (m ((c.tc : Thread Cert.StatePromptIdeal.nD Cert.StatePromptIdeal.τ).loc Cert.StatePromptIdeal.main_arg1)) (m ((c.tc : Thread Cert.StatePromptIdeal.nD Cert.StatePromptIdeal.τ).loc Cert.StatePromptIdeal.main_arg2)) (m ((c.tc : Thread Cert.StatePromptIdeal.nD Cert.StatePromptIdeal.τ).loc Cert.StatePromptIdeal.main_arg3))) = (fun _ => 1#1)

def Pre_ExpertsShared (m : (ℓ : Loc Cert.ExpertsShared.nD Cert.ExpertsShared.τ Cert.ExpertsShared.sig) → Buf (Elt Bits) ℓ) : Prop :=
  True

def Pre_ExpertsSharedIdeal (m : (ℓ : Loc Cert.ExpertsSharedIdeal.nD Cert.ExpertsSharedIdeal.τ Cert.ExpertsSharedIdeal.sig) → Buf (Elt Ideal) ℓ) : Prop :=
  True

def Pre_SharedIdeal (m : (ℓ : Loc Cert.SharedIdeal.nD Cert.SharedIdeal.τ Cert.SharedIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_StickIdeal_pre_finite [hStickIdeal : Cert.StickIdeal.Facts] [hPre_finite : Cert.Pre_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2)
      ∧ r.2.mem ((c.tc : Thread Cert.StickIdeal.nD Cert.StickIdeal.τ).loc Cert.StickIdeal.main_arg3) = m ((c.tc : Thread Cert.StickIdeal.nD Cert.StickIdeal.τ).loc Cert.StickIdeal.main_arg3))
      ∧ r.2.sem = fun _ => 0)

def quiescent_KProj [hKProj : Cert.KProj.Facts] : Prop :=
  ∀ (m : (ℓ : Loc Cert.KProj.nD Cert.KProj.τ Cert.KProj.sig) → Buf (Elt Bits) ℓ) (g : Dev Cert.KProj.nD → PrngReg), Pre_KProj m →
    θ_run (Cert.KProj.defs (F := Bits)) (onTc (τ := Cert.KProj.τ) (Cert.KProj.main (F := Bits))) ⟨m, fun _ => 0, g⟩ (fun r => (∀ c : Dev Cert.KProj.nD,
      r.2.mem ((c.tc : Thread Cert.KProj.nD Cert.KProj.τ).loc Cert.KProj.main_arg0) = m ((c.tc : Thread Cert.KProj.nD Cert.KProj.τ).loc Cert.KProj.main_arg0)
      ∧ r.2.mem ((c.tc : Thread Cert.KProj.nD Cert.KProj.τ).loc Cert.KProj.main_arg1) = m ((c.tc : Thread Cert.KProj.nD Cert.KProj.τ).loc Cert.KProj.main_arg1)
      ∧ r.2.mem ((c.tc : Thread Cert.KProj.nD Cert.KProj.τ).loc Cert.KProj.main_arg2) = m ((c.tc : Thread Cert.KProj.nD Cert.KProj.τ).loc Cert.KProj.main_arg2))
      ∧ r.2.sem = fun _ => 0)

def quiescent_KProjIdeal [hKProjIdeal : Cert.KProjIdeal.Facts] : Prop :=
  ∀ (m : (ℓ : Loc Cert.KProjIdeal.nD Cert.KProjIdeal.τ Cert.KProjIdeal.sig) → Buf (Elt Ideal) ℓ) (g : Dev Cert.KProjIdeal.nD → PrngReg), Pre_KProjIdeal m →
    θ_run (Cert.KProjIdeal.defs (F := Ideal)) (onTc (τ := Cert.KProjIdeal.τ) (Cert.KProjIdeal.main (F := Ideal))) ⟨m, fun _ => 0, g⟩ (fun r => (∀ c : Dev Cert.KProjIdeal.nD,
      r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
      ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
      ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_VProj [hVProj : Cert.VProj.Facts] : Prop :=
  ∀ (m : (ℓ : Loc Cert.VProj.nD Cert.VProj.τ Cert.VProj.sig) → Buf (Elt Bits) ℓ) (g : Dev Cert.VProj.nD → PrngReg), Pre_VProj m →
    θ_run (Cert.VProj.defs (F := Bits)) (onTc (τ := Cert.VProj.τ) (Cert.VProj.main (F := Bits))) ⟨m, fun _ => 0, g⟩ (fun r => (∀ c : Dev Cert.VProj.nD,
      r.2.mem ((c.tc : Thread Cert.VProj.nD Cert.VProj.τ).loc Cert.VProj.main_arg0) = m ((c.tc : Thread Cert.VProj.nD Cert.VProj.τ).loc Cert.VProj.main_arg0)
      ∧ r.2.mem ((c.tc : Thread Cert.VProj.nD Cert.VProj.τ).loc Cert.VProj.main_arg1) = m ((c.tc : Thread Cert.VProj.nD Cert.VProj.τ).loc Cert.VProj.main_arg1))
      ∧ r.2.sem = fun _ => 0)

def quiescent_VProjIdeal [hVProjIdeal : Cert.VProjIdeal.Facts] : Prop :=
  ∀ (m : (ℓ : Loc Cert.VProjIdeal.nD Cert.VProjIdeal.τ Cert.VProjIdeal.sig) → Buf (Elt Ideal) ℓ) (g : Dev Cert.VProjIdeal.nD → PrngReg), Pre_VProjIdeal m →
    θ_run (Cert.VProjIdeal.defs (F := Ideal)) (onTc (τ := Cert.VProjIdeal.τ) (Cert.VProjIdeal.main (F := Ideal))) ⟨m, fun _ => 0, g⟩ (fun r => (∀ c : Dev Cert.VProjIdeal.nD,
      r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
      ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ r.2.sem = fun _ => 0)

def quiescent_ValuesIdeal [hValuesIdeal : Cert.ValuesIdeal.Facts] : Prop :=
  ∀ (m : (ℓ : Loc Cert.ValuesIdeal.nD Cert.ValuesIdeal.τ Cert.ValuesIdeal.sig) → Buf (Elt Ideal) ℓ) (g : Dev Cert.ValuesIdeal.nD → PrngReg), Pre_ValuesIdeal m →
    θ_run (Cert.ValuesIdeal.defs (F := Ideal)) (onTc (τ := Cert.ValuesIdeal.τ) (Cert.ValuesIdeal.main (F := Ideal))) ⟨m, fun _ => 0, g⟩ (fun r => (∀ c : Dev Cert.ValuesIdeal.nD,
      r.2.mem ((c.tc : Thread Cert.ValuesIdeal.nD Cert.ValuesIdeal.τ).loc Cert.ValuesIdeal.main_arg0) = m ((c.tc : Thread Cert.ValuesIdeal.nD Cert.ValuesIdeal.τ).loc Cert.ValuesIdeal.main_arg0)
      ∧ r.2.mem ((c.tc : Thread Cert.ValuesIdeal.nD Cert.ValuesIdeal.τ).loc Cert.ValuesIdeal.main_arg1) = m ((c.tc : Thread Cert.ValuesIdeal.nD Cert.ValuesIdeal.τ).loc Cert.ValuesIdeal.main_arg1))
      ∧ r.2.sem = fun _ => 0)

def quiescent_HgIn [hHgIn : Cert.HgIn.Facts] : Prop :=
  ∀ (m : (ℓ : Loc Cert.HgIn.nD Cert.HgIn.τ Cert.HgIn.sig) → Buf (Elt Bits) ℓ) (g : Dev Cert.HgIn.nD → PrngReg), Pre_HgIn m →
    θ_run (Cert.HgIn.defs (F := Bits)) (onTc (τ := Cert.HgIn.τ) (Cert.HgIn.main (F := Bits))) ⟨m, fun _ => 0, g⟩ (fun r => (∀ c : Dev Cert.HgIn.nD,
      r.2.mem ((c.tc : Thread Cert.HgIn.nD Cert.HgIn.τ).loc Cert.HgIn.main_arg0) = m ((c.tc : Thread Cert.HgIn.nD Cert.HgIn.τ).loc Cert.HgIn.main_arg0)
      ∧ r.2.mem ((c.tc : Thread Cert.HgIn.nD Cert.HgIn.τ).loc Cert.HgIn.main_arg1) = m ((c.tc : Thread Cert.HgIn.nD Cert.HgIn.τ).loc Cert.HgIn.main_arg1))
      ∧ r.2.sem = fun _ => 0)

def quiescent_HgInIdeal [hHgInIdeal : Cert.HgInIdeal.Facts] : Prop :=
  ∀ (m : (ℓ : Loc Cert.HgInIdeal.nD Cert.HgInIdeal.τ Cert.HgInIdeal.sig) → Buf (Elt Ideal) ℓ) (g : Dev Cert.HgInIdeal.nD → PrngReg), Pre_HgInIdeal m →
    θ_run (Cert.HgInIdeal.defs (F := Ideal)) (onTc (τ := Cert.HgInIdeal.τ) (Cert.HgInIdeal.main (F := Ideal))) ⟨m, fun _ => 0, g⟩ (fun r => (∀ c : Dev Cert.HgInIdeal.nD,
      r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
      ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_QProj [hQProj : Cert.QProj.Facts] : Prop :=
  ∀ (m : (ℓ : Loc Cert.QProj.nD Cert.QProj.τ Cert.QProj.sig) → Buf (Elt Bits) ℓ) (g : Dev Cert.QProj.nD → PrngReg), Pre_QProj m →
    θ_run (Cert.QProj.defs (F := Bits)) (onTc (τ := Cert.QProj.τ) (Cert.QProj.main (F := Bits))) ⟨m, fun _ => 0, g⟩ (fun r => (∀ c : Dev Cert.QProj.nD,
      r.2.mem ((c.tc : Thread Cert.QProj.nD Cert.QProj.τ).loc Cert.QProj.main_arg0) = m ((c.tc : Thread Cert.QProj.nD Cert.QProj.τ).loc Cert.QProj.main_arg0)
      ∧ r.2.mem ((c.tc : Thread Cert.QProj.nD Cert.QProj.τ).loc Cert.QProj.main_arg1) = m ((c.tc : Thread Cert.QProj.nD Cert.QProj.τ).loc Cert.QProj.main_arg1)
      ∧ r.2.mem ((c.tc : Thread Cert.QProj.nD Cert.QProj.τ).loc Cert.QProj.main_arg2) = m ((c.tc : Thread Cert.QProj.nD Cert.QProj.τ).loc Cert.QProj.main_arg2))
      ∧ r.2.sem = fun _ => 0)

def quiescent_QProjIdeal [hQProjIdeal : Cert.QProjIdeal.Facts] : Prop :=
  ∀ (m : (ℓ : Loc Cert.QProjIdeal.nD Cert.QProjIdeal.τ Cert.QProjIdeal.sig) → Buf (Elt Ideal) ℓ) (g : Dev Cert.QProjIdeal.nD → PrngReg), Pre_QProjIdeal m →
    θ_run (Cert.QProjIdeal.defs (F := Ideal)) (onTc (τ := Cert.QProjIdeal.τ) (Cert.QProjIdeal.main (F := Ideal))) ⟨m, fun _ => 0, g⟩ (fun r => (∀ c : Dev Cert.QProjIdeal.nD,
      r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
      ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
      ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ r.2.sem = fun _ => 0)

def quiescent_QueriesIdeal [hQueriesIdeal : Cert.QueriesIdeal.Facts] : Prop :=
  ∀ (m : (ℓ : Loc Cert.QueriesIdeal.nD Cert.QueriesIdeal.τ Cert.QueriesIdeal.sig) → Buf (Elt Ideal) ℓ) (g : Dev Cert.QueriesIdeal.nD → PrngReg), Pre_QueriesIdeal m →
    θ_run (Cert.QueriesIdeal.defs (F := Ideal)) (onTc (τ := Cert.QueriesIdeal.τ) (Cert.QueriesIdeal.main (F := Ideal))) ⟨m, fun _ => 0, g⟩ (fun r => (∀ c : Dev Cert.QueriesIdeal.nD,
      r.2.mem ((c.tc : Thread Cert.QueriesIdeal.nD Cert.QueriesIdeal.τ).loc Cert.QueriesIdeal.main_arg0) = m ((c.tc : Thread Cert.QueriesIdeal.nD Cert.QueriesIdeal.τ).loc Cert.QueriesIdeal.main_arg0)
      ∧ r.2.mem ((c.tc : Thread Cert.QueriesIdeal.nD Cert.QueriesIdeal.τ).loc Cert.QueriesIdeal.main_arg1) = m ((c.tc : Thread Cert.QueriesIdeal.nD Cert.QueriesIdeal.τ).loc Cert.QueriesIdeal.main_arg1)
      ∧ r.2.mem ((c.tc : Thread Cert.QueriesIdeal.nD Cert.QueriesIdeal.τ).loc Cert.QueriesIdeal.main_arg2) = m ((c.tc : Thread Cert.QueriesIdeal.nD Cert.QueriesIdeal.τ).loc Cert.QueriesIdeal.main_arg2))
      ∧ r.2.sem = fun _ => 0)

def quiescent_SbOut [hSbOut : Cert.SbOut.Facts] : Prop :=
  ∀ (m : (ℓ : Loc Cert.SbOut.nD Cert.SbOut.τ Cert.SbOut.sig) → Buf (Elt Bits) ℓ) (g : Dev Cert.SbOut.nD → PrngReg), Pre_SbOut m →
    θ_run (Cert.SbOut.defs (F := Bits)) (onTc (τ := Cert.SbOut.τ) (Cert.SbOut.main (F := Bits))) ⟨m, fun _ => 0, g⟩ (fun r => (∀ c : Dev Cert.SbOut.nD,
      r.2.mem ((c.tc : Thread Cert.SbOut.nD Cert.SbOut.τ).loc Cert.SbOut.main_arg0) = m ((c.tc : Thread Cert.SbOut.nD Cert.SbOut.τ).loc Cert.SbOut.main_arg0)
      ∧ r.2.mem ((c.tc : Thread Cert.SbOut.nD Cert.SbOut.τ).loc Cert.SbOut.main_arg1) = m ((c.tc : Thread Cert.SbOut.nD Cert.SbOut.τ).loc Cert.SbOut.main_arg1)
      ∧ r.2.mem ((c.tc : Thread Cert.SbOut.nD Cert.SbOut.τ).loc Cert.SbOut.main_arg2) = m ((c.tc : Thread Cert.SbOut.nD Cert.SbOut.τ).loc Cert.SbOut.main_arg2)
      ∧ r.2.mem ((c.tc : Thread Cert.SbOut.nD Cert.SbOut.τ).loc Cert.SbOut.main_arg3) = m ((c.tc : Thread Cert.SbOut.nD Cert.SbOut.τ).loc Cert.SbOut.main_arg3))
      ∧ r.2.sem = fun _ => 0)

def quiescent_SbOutIdeal [hSbOutIdeal : Cert.SbOutIdeal.Facts] : Prop :=
  ∀ (m : (ℓ : Loc Cert.SbOutIdeal.nD Cert.SbOutIdeal.τ Cert.SbOutIdeal.sig) → Buf (Elt Ideal) ℓ) (g : Dev Cert.SbOutIdeal.nD → PrngReg), Pre_SbOutIdeal m →
    θ_run (Cert.SbOutIdeal.defs (F := Ideal)) (onTc (τ := Cert.SbOutIdeal.τ) (Cert.SbOutIdeal.main (F := Ideal))) ⟨m, fun _ => 0, g⟩ (fun r => (∀ c : Dev Cert.SbOutIdeal.nD,
      r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
      ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
      ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2)
      ∧ r.2.mem ((c.tc : Thread Cert.SbOutIdeal.nD Cert.SbOutIdeal.τ).loc Cert.SbOutIdeal.main_arg3) = m ((c.tc : Thread Cert.SbOutIdeal.nD Cert.SbOutIdeal.τ).loc Cert.SbOutIdeal.main_arg3))
      ∧ r.2.sem = fun _ => 0)

def quiescent_MixedIdeal [hMixedIdeal : Cert.MixedIdeal.Facts] : Prop :=
  ∀ (m : (ℓ : Loc Cert.MixedIdeal.nD Cert.MixedIdeal.τ Cert.MixedIdeal.sig) → Buf (Elt Ideal) ℓ) (g : Dev Cert.MixedIdeal.nD → PrngReg), Pre_MixedIdeal m →
    θ_run (Cert.MixedIdeal.defs (F := Ideal)) (onTc (τ := Cert.MixedIdeal.τ) (Cert.MixedIdeal.main (F := Ideal))) ⟨m, fun _ => 0, g⟩ (fun r => (∀ c : Dev Cert.MixedIdeal.nD,
      r.2.mem ((c.tc : Thread Cert.MixedIdeal.nD Cert.MixedIdeal.τ).loc Cert.MixedIdeal.main_arg0) = m ((c.tc : Thread Cert.MixedIdeal.nD Cert.MixedIdeal.τ).loc Cert.MixedIdeal.main_arg0)
      ∧ r.2.mem ((c.tc : Thread Cert.MixedIdeal.nD Cert.MixedIdeal.τ).loc Cert.MixedIdeal.main_arg1) = m ((c.tc : Thread Cert.MixedIdeal.nD Cert.MixedIdeal.τ).loc Cert.MixedIdeal.main_arg1)
      ∧ r.2.mem ((c.tc : Thread Cert.MixedIdeal.nD Cert.MixedIdeal.τ).loc Cert.MixedIdeal.main_arg2) = m ((c.tc : Thread Cert.MixedIdeal.nD Cert.MixedIdeal.τ).loc Cert.MixedIdeal.main_arg2)
      ∧ r.2.mem ((c.tc : Thread Cert.MixedIdeal.nD Cert.MixedIdeal.τ).loc Cert.MixedIdeal.main_arg3) = m ((c.tc : Thread Cert.MixedIdeal.nD Cert.MixedIdeal.τ).loc Cert.MixedIdeal.main_arg3))
      ∧ r.2.sem = fun _ => 0)

def quiescent_KSample [hKSample : Cert.KSample.Facts] : Prop :=
  ∀ (m : (ℓ : Loc Cert.KSample.nD Cert.KSample.τ Cert.KSample.sig) → Buf (Elt Bits) ℓ) (g : Dev Cert.KSample.nD → PrngReg), Pre_KSample m →
    θ_run (Cert.KSample.defs (F := Bits)) (onTc (τ := Cert.KSample.τ) (Cert.KSample.main (F := Bits))) ⟨m, fun _ => 0, g⟩ (fun r => (∀ c : Dev Cert.KSample.nD,
      r.2.mem ((c.tc : Thread Cert.KSample.nD Cert.KSample.τ).loc Cert.KSample.main_arg0) = m ((c.tc : Thread Cert.KSample.nD Cert.KSample.τ).loc Cert.KSample.main_arg0)
      ∧ r.2.mem ((c.tc : Thread Cert.KSample.nD Cert.KSample.τ).loc Cert.KSample.main_arg1) = m ((c.tc : Thread Cert.KSample.nD Cert.KSample.τ).loc Cert.KSample.main_arg1)
      ∧ r.2.mem ((c.tc : Thread Cert.KSample.nD Cert.KSample.τ).loc Cert.KSample.main_arg2) = m ((c.tc : Thread Cert.KSample.nD Cert.KSample.τ).loc Cert.KSample.main_arg2))
      ∧ r.2.sem = fun _ => 0)

def quiescent_KSampleIdeal [hKSampleIdeal : Cert.KSampleIdeal.Facts] : Prop :=
  ∀ (m : (ℓ : Loc Cert.KSampleIdeal.nD Cert.KSampleIdeal.τ Cert.KSampleIdeal.sig) → Buf (Elt Ideal) ℓ) (g : Dev Cert.KSampleIdeal.nD → PrngReg), Pre_KSampleIdeal m →
    θ_run (Cert.KSampleIdeal.defs (F := Ideal)) (onTc (τ := Cert.KSampleIdeal.τ) (Cert.KSampleIdeal.main (F := Ideal))) ⟨m, fun _ => 0, g⟩ (fun r => (∀ c : Dev Cert.KSampleIdeal.nD,
      r.2.mem ((c.tc : Thread Cert.KSampleIdeal.nD Cert.KSampleIdeal.τ).loc Cert.KSampleIdeal.main_arg0) = m ((c.tc : Thread Cert.KSampleIdeal.nD Cert.KSampleIdeal.τ).loc Cert.KSampleIdeal.main_arg0)
      ∧ r.2.mem ((c.tc : Thread Cert.KSampleIdeal.nD Cert.KSampleIdeal.τ).loc Cert.KSampleIdeal.main_arg1) = m ((c.tc : Thread Cert.KSampleIdeal.nD Cert.KSampleIdeal.τ).loc Cert.KSampleIdeal.main_arg1)
      ∧ r.2.mem ((c.tc : Thread Cert.KSampleIdeal.nD Cert.KSampleIdeal.τ).loc Cert.KSampleIdeal.main_arg2) = m ((c.tc : Thread Cert.KSampleIdeal.nD Cert.KSampleIdeal.τ).loc Cert.KSampleIdeal.main_arg2))
      ∧ r.2.sem = fun _ => 0)

def quiescent_KeysSampleIdeal [hKeysSampleIdeal : Cert.KeysSampleIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg), Pre_KeysSampleIdeal m →
    θ_run (Cert.KeysSampleIdeal.defs (F := Ideal)) (onTc (τ := Cert.KeysSampleIdeal.τ) (Cert.KeysSampleIdeal.main (F := Ideal))) ⟨m, fun _ => 0, g⟩ (fun r => (∀ c : Dev Cert.KeysSampleIdeal.nD,
      r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
      ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1)
      ∧ r.2.mem ((c.tc : Thread Cert.KeysSampleIdeal.nD Cert.KeysSampleIdeal.τ).loc Cert.KeysSampleIdeal.main_arg2) = m ((c.tc : Thread Cert.KeysSampleIdeal.nD Cert.KeysSampleIdeal.τ).loc Cert.KeysSampleIdeal.main_arg2))
      ∧ r.2.sem = fun _ => 0)

def quiescent_VSample [hVSample : Cert.VSample.Facts] : Prop :=
  ∀ (m : (ℓ : Loc Cert.VSample.nD Cert.VSample.τ Cert.VSample.sig) → Buf (Elt Bits) ℓ) (g : Dev Cert.VSample.nD → PrngReg), Pre_VSample m →
    θ_run (Cert.VSample.defs (F := Bits)) (onTc (τ := Cert.VSample.τ) (Cert.VSample.main (F := Bits))) ⟨m, fun _ => 0, g⟩ (fun r => (∀ c : Dev Cert.VSample.nD,
      r.2.mem ((c.tc : Thread Cert.VSample.nD Cert.VSample.τ).loc Cert.VSample.main_arg0) = m ((c.tc : Thread Cert.VSample.nD Cert.VSample.τ).loc Cert.VSample.main_arg0)
      ∧ r.2.mem ((c.tc : Thread Cert.VSample.nD Cert.VSample.τ).loc Cert.VSample.main_arg1) = m ((c.tc : Thread Cert.VSample.nD Cert.VSample.τ).loc Cert.VSample.main_arg1))
      ∧ r.2.sem = fun _ => 0)

def quiescent_VSampleIdeal [hVSampleIdeal : Cert.VSampleIdeal.Facts] : Prop :=
  ∀ (m : (ℓ : Loc Cert.VSampleIdeal.nD Cert.VSampleIdeal.τ Cert.VSampleIdeal.sig) → Buf (Elt Ideal) ℓ) (g : Dev Cert.VSampleIdeal.nD → PrngReg), Pre_VSampleIdeal m →
    θ_run (Cert.VSampleIdeal.defs (F := Ideal)) (onTc (τ := Cert.VSampleIdeal.τ) (Cert.VSampleIdeal.main (F := Ideal))) ⟨m, fun _ => 0, g⟩ (fun r => (∀ c : Dev Cert.VSampleIdeal.nD,
      r.2.mem ((c.tc : Thread Cert.VSampleIdeal.nD Cert.VSampleIdeal.τ).loc Cert.VSampleIdeal.main_arg0) = m ((c.tc : Thread Cert.VSampleIdeal.nD Cert.VSampleIdeal.τ).loc Cert.VSampleIdeal.main_arg0)
      ∧ r.2.mem ((c.tc : Thread Cert.VSampleIdeal.nD Cert.VSampleIdeal.τ).loc Cert.VSampleIdeal.main_arg1) = m ((c.tc : Thread Cert.VSampleIdeal.nD Cert.VSampleIdeal.τ).loc Cert.VSampleIdeal.main_arg1))
      ∧ r.2.sem = fun _ => 0)

def quiescent_ValuesSampleIdeal [hValuesSampleIdeal : Cert.ValuesSampleIdeal.Facts] : Prop :=
  ∀ (m : (ℓ : Loc Cert.ValuesSampleIdeal.nD Cert.ValuesSampleIdeal.τ Cert.ValuesSampleIdeal.sig) → Buf (Elt Ideal) ℓ) (g : Dev Cert.ValuesSampleIdeal.nD → PrngReg), Pre_ValuesSampleIdeal m →
    θ_run (Cert.ValuesSampleIdeal.defs (F := Ideal)) (onTc (τ := Cert.ValuesSampleIdeal.τ) (Cert.ValuesSampleIdeal.main (F := Ideal))) ⟨m, fun _ => 0, g⟩ (fun r => (∀ c : Dev Cert.ValuesSampleIdeal.nD,
      r.2.mem ((c.tc : Thread Cert.ValuesSampleIdeal.nD Cert.ValuesSampleIdeal.τ).loc Cert.ValuesSampleIdeal.main_arg0) = m ((c.tc : Thread Cert.ValuesSampleIdeal.nD Cert.ValuesSampleIdeal.τ).loc Cert.ValuesSampleIdeal.main_arg0)
      ∧ r.2.mem ((c.tc : Thread Cert.ValuesSampleIdeal.nD Cert.ValuesSampleIdeal.τ).loc Cert.ValuesSampleIdeal.main_arg1) = m ((c.tc : Thread Cert.ValuesSampleIdeal.nD Cert.ValuesSampleIdeal.τ).loc Cert.ValuesSampleIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ r.2.sem = fun _ => 0)

def quiescent_CombinedIdeal [hCombinedIdeal : Cert.CombinedIdeal.Facts] : Prop :=
  ∀ (m : (ℓ : Loc Cert.CombinedIdeal.nD Cert.CombinedIdeal.τ Cert.CombinedIdeal.sig) → Buf (Elt Ideal) ℓ) (g : Dev Cert.CombinedIdeal.nD → PrngReg), Pre_CombinedIdeal m →
    θ_run (Cert.CombinedIdeal.defs (F := Ideal)) (onTc (τ := Cert.CombinedIdeal.τ) (Cert.CombinedIdeal.main (F := Ideal))) ⟨m, fun _ => 0, g⟩ (fun r => (∀ c : Dev Cert.CombinedIdeal.nD,
      r.2.mem ((c.tc : Thread Cert.CombinedIdeal.nD Cert.CombinedIdeal.τ).loc Cert.CombinedIdeal.main_arg0) = m ((c.tc : Thread Cert.CombinedIdeal.nD Cert.CombinedIdeal.τ).loc Cert.CombinedIdeal.main_arg0)
      ∧ r.2.mem ((c.tc : Thread Cert.CombinedIdeal.nD Cert.CombinedIdeal.τ).loc Cert.CombinedIdeal.main_arg1) = m ((c.tc : Thread Cert.CombinedIdeal.nD Cert.CombinedIdeal.τ).loc Cert.CombinedIdeal.main_arg1)
      ∧ r.2.mem ((c.tc : Thread Cert.CombinedIdeal.nD Cert.CombinedIdeal.τ).loc Cert.CombinedIdeal.main_arg2) = m ((c.tc : Thread Cert.CombinedIdeal.nD Cert.CombinedIdeal.τ).loc Cert.CombinedIdeal.main_arg2)
      ∧ r.2.mem ((c.tc : Thread Cert.CombinedIdeal.nD Cert.CombinedIdeal.τ).loc Cert.CombinedIdeal.main_arg3) = m ((c.tc : Thread Cert.CombinedIdeal.nD Cert.CombinedIdeal.τ).loc Cert.CombinedIdeal.main_arg3)
      ∧ r.2.mem ((c.tc : Thread Cert.CombinedIdeal.nD Cert.CombinedIdeal.τ).loc Cert.CombinedIdeal.main_arg4) = m ((c.tc : Thread Cert.CombinedIdeal.nD Cert.CombinedIdeal.τ).loc Cert.CombinedIdeal.main_arg4))
      ∧ r.2.sem = fun _ => 0)

def quiescent_CombineSample [hCombineSample : Cert.CombineSample.Facts] : Prop :=
  ∀ (m : (ℓ : Loc Cert.CombineSample.nD Cert.CombineSample.τ Cert.CombineSample.sig) → Buf (Elt Bits) ℓ) (g : Dev Cert.CombineSample.nD → PrngReg), Pre_CombineSample m →
    θ_run (Cert.CombineSample.defs (F := Bits)) (onTc (τ := Cert.CombineSample.τ) (Cert.CombineSample.main (F := Bits))) ⟨m, fun _ => 0, g⟩ (fun r => (∀ c : Dev Cert.CombineSample.nD,
      r.2.mem ((c.tc : Thread Cert.CombineSample.nD Cert.CombineSample.τ).loc Cert.CombineSample.main_arg0) = m ((c.tc : Thread Cert.CombineSample.nD Cert.CombineSample.τ).loc Cert.CombineSample.main_arg0)
      ∧ r.2.mem ((c.tc : Thread Cert.CombineSample.nD Cert.CombineSample.τ).loc Cert.CombineSample.main_arg1) = m ((c.tc : Thread Cert.CombineSample.nD Cert.CombineSample.τ).loc Cert.CombineSample.main_arg1)
      ∧ r.2.mem ((c.tc : Thread Cert.CombineSample.nD Cert.CombineSample.τ).loc Cert.CombineSample.main_arg2) = m ((c.tc : Thread Cert.CombineSample.nD Cert.CombineSample.τ).loc Cert.CombineSample.main_arg2)
      ∧ r.2.mem ((c.tc : Thread Cert.CombineSample.nD Cert.CombineSample.τ).loc Cert.CombineSample.main_arg3) = m ((c.tc : Thread Cert.CombineSample.nD Cert.CombineSample.τ).loc Cert.CombineSample.main_arg3)
      ∧ r.2.mem ((c.tc : Thread Cert.CombineSample.nD Cert.CombineSample.τ).loc Cert.CombineSample.main_arg4) = m ((c.tc : Thread Cert.CombineSample.nD Cert.CombineSample.τ).loc Cert.CombineSample.main_arg4))
      ∧ r.2.sem = fun _ => 0)

def quiescent_CombineSampleIdeal [hCombineSampleIdeal : Cert.CombineSampleIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg), Pre_CombineSampleIdeal m →
    θ_run (Cert.CombineSampleIdeal.defs (F := Ideal)) (onTc (τ := Cert.CombineSampleIdeal.τ) (Cert.CombineSampleIdeal.main (F := Ideal))) ⟨m, fun _ => 0, g⟩ (fun r => (∀ c : Dev Cert.CombineSampleIdeal.nD,
      r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
      ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
      ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2)
      ∧ r.2.mem ((c.tc : Thread Cert.CombineSampleIdeal.nD Cert.CombineSampleIdeal.τ).loc Cert.CombineSampleIdeal.main_arg3) = m ((c.tc : Thread Cert.CombineSampleIdeal.nD Cert.CombineSampleIdeal.τ).loc Cert.CombineSampleIdeal.main_arg3)
      ∧ r.2.mem ((c.tc : Thread Cert.CombineSampleIdeal.nD Cert.CombineSampleIdeal.τ).loc Cert.CombineSampleIdeal.main_arg4) = m ((c.tc : Thread Cert.CombineSampleIdeal.nD Cert.CombineSampleIdeal.τ).loc Cert.CombineSampleIdeal.main_arg4))
      ∧ r.2.sem = fun _ => 0)

def quiescent_CombinedSampleIdeal [hCombinedSampleIdeal : Cert.CombinedSampleIdeal.Facts] : Prop :=
  ∀ (m : (ℓ : Loc Cert.CombinedSampleIdeal.nD Cert.CombinedSampleIdeal.τ Cert.CombinedSampleIdeal.sig) → Buf (Elt Ideal) ℓ) (g : Dev Cert.CombinedSampleIdeal.nD → PrngReg), Pre_CombinedSampleIdeal m →
    θ_run (Cert.CombinedSampleIdeal.defs (F := Ideal)) (onTc (τ := Cert.CombinedSampleIdeal.τ) (Cert.CombinedSampleIdeal.main (F := Ideal))) ⟨m, fun _ => 0, g⟩ (fun r => (∀ c : Dev Cert.CombinedSampleIdeal.nD,
      r.2.mem ((c.tc : Thread Cert.CombinedSampleIdeal.nD Cert.CombinedSampleIdeal.τ).loc Cert.CombinedSampleIdeal.main_arg0) = m ((c.tc : Thread Cert.CombinedSampleIdeal.nD Cert.CombinedSampleIdeal.τ).loc Cert.CombinedSampleIdeal.main_arg0)
      ∧ r.2.mem ((c.tc : Thread Cert.CombinedSampleIdeal.nD Cert.CombinedSampleIdeal.τ).loc Cert.CombinedSampleIdeal.main_arg1) = m ((c.tc : Thread Cert.CombinedSampleIdeal.nD Cert.CombinedSampleIdeal.τ).loc Cert.CombinedSampleIdeal.main_arg1)
      ∧ r.2.mem ((c.tc : Thread Cert.CombinedSampleIdeal.nD Cert.CombinedSampleIdeal.τ).loc Cert.CombinedSampleIdeal.main_arg2) = m ((c.tc : Thread Cert.CombinedSampleIdeal.nD Cert.CombinedSampleIdeal.τ).loc Cert.CombinedSampleIdeal.main_arg2)
      ∧ r.2.mem ((c.tc : Thread Cert.CombinedSampleIdeal.nD Cert.CombinedSampleIdeal.τ).loc Cert.CombinedSampleIdeal.main_arg3) = m ((c.tc : Thread Cert.CombinedSampleIdeal.nD Cert.CombinedSampleIdeal.τ).loc Cert.CombinedSampleIdeal.main_arg3)
      ∧ r.2.mem ((c.tc : Thread Cert.CombinedSampleIdeal.nD Cert.CombinedSampleIdeal.τ).loc Cert.CombinedSampleIdeal.main_arg4) = m ((c.tc : Thread Cert.CombinedSampleIdeal.nD Cert.CombinedSampleIdeal.τ).loc Cert.CombinedSampleIdeal.main_arg4))
      ∧ r.2.sem = fun _ => 0)

def quiescent_Experts [hExperts : Cert.Experts.Facts] [hPre_in_use : Cert.Pre_in_use.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_in_use : Cert.Pre_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_RoutedIdeal [hRoutedIdeal : Cert.RoutedIdeal.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
      ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
      ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2)
      ∧ r.2.mem ((c.tc : Thread Cert.RoutedIdeal.nD Cert.RoutedIdeal.τ).loc Cert.RoutedIdeal.main_arg3) = m ((c.tc : Thread Cert.RoutedIdeal.nD Cert.RoutedIdeal.τ).loc Cert.RoutedIdeal.main_arg3)
      ∧ r.2.mem ((c.tc : Thread Cert.RoutedIdeal.nD Cert.RoutedIdeal.τ).loc Cert.RoutedIdeal.main_arg4) = m ((c.tc : Thread Cert.RoutedIdeal.nD Cert.RoutedIdeal.τ).loc Cert.RoutedIdeal.main_arg4)
      ∧ r.2.mem ((c.tc : Thread Cert.RoutedIdeal.nD Cert.RoutedIdeal.τ).loc Cert.RoutedIdeal.main_arg5) = m ((c.tc : Thread Cert.RoutedIdeal.nD Cert.RoutedIdeal.τ).loc Cert.RoutedIdeal.main_arg5))
      ∧ r.2.sem = fun _ => 0)

def quiescent_RoutedIdeal_pre_in_use [hRoutedIdeal : Cert.RoutedIdeal.Facts] [hPre_in_use : Cert.Pre_in_use.Facts] : Prop :=
  ∀ (m : (ℓ : Loc Cert.RoutedIdeal.nD Cert.RoutedIdeal.τ Cert.RoutedIdeal.sig) → Buf (Elt Ideal) ℓ) (g : Dev Cert.RoutedIdeal.nD → PrngReg), Pre_RoutedIdeal_in_use m →
    θ_run (Cert.RoutedIdeal.defs (F := Ideal)) (onTc (τ := Cert.RoutedIdeal.τ) (Cert.RoutedIdeal.main (F := Ideal))) ⟨m, fun _ => 0, g⟩ (fun r => (∀ c : Dev Cert.RoutedIdeal.nD,
      r.2.mem ((c.tc : Thread Cert.RoutedIdeal.nD Cert.RoutedIdeal.τ).loc Cert.RoutedIdeal.main_arg0) = m ((c.tc : Thread Cert.RoutedIdeal.nD Cert.RoutedIdeal.τ).loc Cert.RoutedIdeal.main_arg0)
      ∧ r.2.mem ((c.tc : Thread Cert.RoutedIdeal.nD Cert.RoutedIdeal.τ).loc Cert.RoutedIdeal.main_arg1) = m ((c.tc : Thread Cert.RoutedIdeal.nD Cert.RoutedIdeal.τ).loc Cert.RoutedIdeal.main_arg1)
      ∧ r.2.mem ((c.tc : Thread Cert.RoutedIdeal.nD Cert.RoutedIdeal.τ).loc Cert.RoutedIdeal.main_arg2) = m ((c.tc : Thread Cert.RoutedIdeal.nD Cert.RoutedIdeal.τ).loc Cert.RoutedIdeal.main_arg2)
      ∧ r.2.mem ((c.tc : Thread Cert.RoutedIdeal.nD Cert.RoutedIdeal.τ).loc Cert.RoutedIdeal.main_arg3) = m ((c.tc : Thread Cert.RoutedIdeal.nD Cert.RoutedIdeal.τ).loc Cert.RoutedIdeal.main_arg3)
      ∧ r.2.mem ((c.tc : Thread Cert.RoutedIdeal.nD Cert.RoutedIdeal.τ).loc Cert.RoutedIdeal.main_arg4) = m ((c.tc : Thread Cert.RoutedIdeal.nD Cert.RoutedIdeal.τ).loc Cert.RoutedIdeal.main_arg4)
      ∧ r.2.mem ((c.tc : Thread Cert.RoutedIdeal.nD Cert.RoutedIdeal.τ).loc Cert.RoutedIdeal.main_arg5) = m ((c.tc : Thread Cert.RoutedIdeal.nD Cert.RoutedIdeal.τ).loc Cert.RoutedIdeal.main_arg5))
      ∧ r.2.sem = fun _ => 0)

def quiescent_Recur [hRecur : Cert.Recur.Facts] : Prop :=
  ∀ (m : (ℓ : Loc Cert.Recur.nD Cert.Recur.τ Cert.Recur.sig) → Buf (Elt Bits) ℓ) (g : Dev Cert.Recur.nD → PrngReg), Pre_Recur m →
    θ_run (Cert.Recur.defs (F := Bits)) (onTc (τ := Cert.Recur.τ) (Cert.Recur.main (F := Bits))) ⟨m, fun _ => 0, g⟩ (fun r => (∀ c : Dev Cert.Recur.nD,
      r.2.mem ((c.tc : Thread Cert.Recur.nD Cert.Recur.τ).loc Cert.Recur.main_arg0) = m ((c.tc : Thread Cert.Recur.nD Cert.Recur.τ).loc Cert.Recur.main_arg0)
      ∧ r.2.mem ((c.tc : Thread Cert.Recur.nD Cert.Recur.τ).loc Cert.Recur.main_arg1) = m ((c.tc : Thread Cert.Recur.nD Cert.Recur.τ).loc Cert.Recur.main_arg1)
      ∧ r.2.mem ((c.tc : Thread Cert.Recur.nD Cert.Recur.τ).loc Cert.Recur.main_arg2) = m ((c.tc : Thread Cert.Recur.nD Cert.Recur.τ).loc Cert.Recur.main_arg2)
      ∧ r.2.mem ((c.tc : Thread Cert.Recur.nD Cert.Recur.τ).loc Cert.Recur.main_arg3) = m ((c.tc : Thread Cert.Recur.nD Cert.Recur.τ).loc Cert.Recur.main_arg3))
      ∧ r.2.sem = fun _ => 0)

def quiescent_RecurIdeal [hRecurIdeal : Cert.RecurIdeal.Facts] : Prop :=
  ∀ (m : (ℓ : Loc Cert.RecurIdeal.nD Cert.RecurIdeal.τ Cert.RecurIdeal.sig) → Buf (Elt Ideal) ℓ) (g : Dev Cert.RecurIdeal.nD → PrngReg), Pre_RecurIdeal m →
    θ_run (Cert.RecurIdeal.defs (F := Ideal)) (onTc (τ := Cert.RecurIdeal.τ) (Cert.RecurIdeal.main (F := Ideal))) ⟨m, fun _ => 0, g⟩ (fun r => (∀ c : Dev Cert.RecurIdeal.nD,
      r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
      ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
      ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
      ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3))
      ∧ r.2.sem = fun _ => 0)

def quiescent_RecurIdeal_pre_bounded [hRecurIdeal : Cert.RecurIdeal.Facts] [hPre_bounded : Cert.Pre_bounded.Facts] : Prop :=
  ∀ (m : (ℓ : Loc Cert.RecurIdeal.nD Cert.RecurIdeal.τ Cert.RecurIdeal.sig) → Buf (Elt Ideal) ℓ) (g : Dev Cert.RecurIdeal.nD → PrngReg), Pre_RecurIdeal_bounded m →
    θ_run (Cert.RecurIdeal.defs (F := Ideal)) (onTc (τ := Cert.RecurIdeal.τ) (Cert.RecurIdeal.main (F := Ideal))) ⟨m, fun _ => 0, g⟩ (fun r => (∀ c : Dev Cert.RecurIdeal.nD,
      r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
      ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
      ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
      ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3))
      ∧ r.2.sem = fun _ => 0)

def quiescent_StateIdeal [hStateIdeal : Cert.StateIdeal.Facts] : Prop :=
  ∀ (m : (ℓ : Loc Cert.StateIdeal.nD Cert.StateIdeal.τ Cert.StateIdeal.sig) → Buf (Elt Ideal) ℓ) (g : Dev Cert.StateIdeal.nD → PrngReg), Pre_StateIdeal m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ r.2.sem = fun _ => 0)

def quiescent_StateIdeal_pre_bounded [hStateIdeal : Cert.StateIdeal.Facts] [hPre_bounded : Cert.Pre_bounded.Facts] : Prop :=
  ∀ (m : (ℓ : Loc Cert.StateIdeal.nD Cert.StateIdeal.τ Cert.StateIdeal.sig) → Buf (Elt Ideal) ℓ) (g : Dev Cert.StateIdeal.nD → PrngReg), Pre_StateIdeal_bounded m →
    θ_run (Cert.StateIdeal.defs (F := Ideal)) (onTc (τ := Cert.StateIdeal.τ) (Cert.StateIdeal.main (F := Ideal))) ⟨m, fun _ => 0, g⟩ (fun r => (∀ c : Dev Cert.StateIdeal.nD,
      r.2.mem ((c.tc : Thread Cert.StateIdeal.nD Cert.StateIdeal.τ).loc Cert.StateIdeal.main_arg0) = m ((c.tc : Thread Cert.StateIdeal.nD Cert.StateIdeal.τ).loc Cert.StateIdeal.main_arg0)
      ∧ r.2.mem ((c.tc : Thread Cert.StateIdeal.nD Cert.StateIdeal.τ).loc Cert.StateIdeal.main_arg1) = m ((c.tc : Thread Cert.StateIdeal.nD Cert.StateIdeal.τ).loc Cert.StateIdeal.main_arg1)
      ∧ r.2.mem ((c.tc : Thread Cert.StateIdeal.nD Cert.StateIdeal.τ).loc Cert.StateIdeal.main_arg2) = m ((c.tc : Thread Cert.StateIdeal.nD Cert.StateIdeal.τ).loc Cert.StateIdeal.main_arg2)
      ∧ r.2.mem ((c.tc : Thread Cert.StateIdeal.nD Cert.StateIdeal.τ).loc Cert.StateIdeal.main_arg3) = m ((c.tc : Thread Cert.StateIdeal.nD Cert.StateIdeal.τ).loc Cert.StateIdeal.main_arg3))
      ∧ r.2.sem = fun _ => 0)

def quiescent_RecurPrompt [hRecurPrompt : Cert.RecurPrompt.Facts] : Prop :=
  ∀ (m : (ℓ : Loc Cert.RecurPrompt.nD Cert.RecurPrompt.τ Cert.RecurPrompt.sig) → Buf (Elt Bits) ℓ) (g : Dev Cert.RecurPrompt.nD → PrngReg), Pre_RecurPrompt m →
    θ_run (Cert.RecurPrompt.defs (F := Bits)) (onTc (τ := Cert.RecurPrompt.τ) (Cert.RecurPrompt.main (F := Bits))) ⟨m, fun _ => 0, g⟩ (fun r => (∀ c : Dev Cert.RecurPrompt.nD,
      r.2.mem ((c.tc : Thread Cert.RecurPrompt.nD Cert.RecurPrompt.τ).loc Cert.RecurPrompt.main_arg0) = m ((c.tc : Thread Cert.RecurPrompt.nD Cert.RecurPrompt.τ).loc Cert.RecurPrompt.main_arg0)
      ∧ r.2.mem ((c.tc : Thread Cert.RecurPrompt.nD Cert.RecurPrompt.τ).loc Cert.RecurPrompt.main_arg1) = m ((c.tc : Thread Cert.RecurPrompt.nD Cert.RecurPrompt.τ).loc Cert.RecurPrompt.main_arg1)
      ∧ r.2.mem ((c.tc : Thread Cert.RecurPrompt.nD Cert.RecurPrompt.τ).loc Cert.RecurPrompt.main_arg2) = m ((c.tc : Thread Cert.RecurPrompt.nD Cert.RecurPrompt.τ).loc Cert.RecurPrompt.main_arg2)
      ∧ r.2.mem ((c.tc : Thread Cert.RecurPrompt.nD Cert.RecurPrompt.τ).loc Cert.RecurPrompt.main_arg3) = m ((c.tc : Thread Cert.RecurPrompt.nD Cert.RecurPrompt.τ).loc Cert.RecurPrompt.main_arg3))
      ∧ r.2.sem = fun _ => 0)

def quiescent_RecurPromptIdeal [hRecurPromptIdeal : Cert.RecurPromptIdeal.Facts] : Prop :=
  ∀ (m : (ℓ : Loc Cert.RecurPromptIdeal.nD Cert.RecurPromptIdeal.τ Cert.RecurPromptIdeal.sig) → Buf (Elt Ideal) ℓ) (g : Dev Cert.RecurPromptIdeal.nD → PrngReg), Pre_RecurPromptIdeal m →
    θ_run (Cert.RecurPromptIdeal.defs (F := Ideal)) (onTc (τ := Cert.RecurPromptIdeal.τ) (Cert.RecurPromptIdeal.main (F := Ideal))) ⟨m, fun _ => 0, g⟩ (fun r => (∀ c : Dev Cert.RecurPromptIdeal.nD,
      r.2.mem ((c.tc : Thread Cert.RecurPromptIdeal.nD Cert.RecurPromptIdeal.τ).loc Cert.RecurPromptIdeal.main_arg0) = m ((c.tc : Thread Cert.RecurPromptIdeal.nD Cert.RecurPromptIdeal.τ).loc Cert.RecurPromptIdeal.main_arg0)
      ∧ r.2.mem ((c.tc : Thread Cert.RecurPromptIdeal.nD Cert.RecurPromptIdeal.τ).loc Cert.RecurPromptIdeal.main_arg1) = m ((c.tc : Thread Cert.RecurPromptIdeal.nD Cert.RecurPromptIdeal.τ).loc Cert.RecurPromptIdeal.main_arg1)
      ∧ r.2.mem ((c.tc : Thread Cert.RecurPromptIdeal.nD Cert.RecurPromptIdeal.τ).loc Cert.RecurPromptIdeal.main_arg2) = m ((c.tc : Thread Cert.RecurPromptIdeal.nD Cert.RecurPromptIdeal.τ).loc Cert.RecurPromptIdeal.main_arg2)
      ∧ r.2.mem ((c.tc : Thread Cert.RecurPromptIdeal.nD Cert.RecurPromptIdeal.τ).loc Cert.RecurPromptIdeal.main_arg3) = m ((c.tc : Thread Cert.RecurPromptIdeal.nD Cert.RecurPromptIdeal.τ).loc Cert.RecurPromptIdeal.main_arg3))
      ∧ r.2.sem = fun _ => 0)

def quiescent_RecurPromptIdeal_pre_bounded_prompt [hRecurPromptIdeal : Cert.RecurPromptIdeal.Facts] [hPre_bounded_prompt : Cert.Pre_bounded_prompt.Facts] : Prop :=
  ∀ (m : (ℓ : Loc Cert.RecurPromptIdeal.nD Cert.RecurPromptIdeal.τ Cert.RecurPromptIdeal.sig) → Buf (Elt Ideal) ℓ) (g : Dev Cert.RecurPromptIdeal.nD → PrngReg), Pre_RecurPromptIdeal_bounded_prompt m →
    θ_run (Cert.RecurPromptIdeal.defs (F := Ideal)) (onTc (τ := Cert.RecurPromptIdeal.τ) (Cert.RecurPromptIdeal.main (F := Ideal))) ⟨m, fun _ => 0, g⟩ (fun r => (∀ c : Dev Cert.RecurPromptIdeal.nD,
      r.2.mem ((c.tc : Thread Cert.RecurPromptIdeal.nD Cert.RecurPromptIdeal.τ).loc Cert.RecurPromptIdeal.main_arg0) = m ((c.tc : Thread Cert.RecurPromptIdeal.nD Cert.RecurPromptIdeal.τ).loc Cert.RecurPromptIdeal.main_arg0)
      ∧ r.2.mem ((c.tc : Thread Cert.RecurPromptIdeal.nD Cert.RecurPromptIdeal.τ).loc Cert.RecurPromptIdeal.main_arg1) = m ((c.tc : Thread Cert.RecurPromptIdeal.nD Cert.RecurPromptIdeal.τ).loc Cert.RecurPromptIdeal.main_arg1)
      ∧ r.2.mem ((c.tc : Thread Cert.RecurPromptIdeal.nD Cert.RecurPromptIdeal.τ).loc Cert.RecurPromptIdeal.main_arg2) = m ((c.tc : Thread Cert.RecurPromptIdeal.nD Cert.RecurPromptIdeal.τ).loc Cert.RecurPromptIdeal.main_arg2)
      ∧ r.2.mem ((c.tc : Thread Cert.RecurPromptIdeal.nD Cert.RecurPromptIdeal.τ).loc Cert.RecurPromptIdeal.main_arg3) = m ((c.tc : Thread Cert.RecurPromptIdeal.nD Cert.RecurPromptIdeal.τ).loc Cert.RecurPromptIdeal.main_arg3))
      ∧ r.2.sem = fun _ => 0)

def quiescent_StatePromptIdeal [hStatePromptIdeal : Cert.StatePromptIdeal.Facts] : Prop :=
  ∀ (m : (ℓ : Loc Cert.StatePromptIdeal.nD Cert.StatePromptIdeal.τ Cert.StatePromptIdeal.sig) → Buf (Elt Ideal) ℓ) (g : Dev Cert.StatePromptIdeal.nD → PrngReg), Pre_StatePromptIdeal m →
    θ_run (Cert.StatePromptIdeal.defs (F := Ideal)) (onTc (τ := Cert.StatePromptIdeal.τ) (Cert.StatePromptIdeal.main (F := Ideal))) ⟨m, fun _ => 0, g⟩ (fun r => (∀ c : Dev Cert.StatePromptIdeal.nD,
      r.2.mem ((c.tc : Thread Cert.StatePromptIdeal.nD Cert.StatePromptIdeal.τ).loc Cert.StatePromptIdeal.main_arg0) = m ((c.tc : Thread Cert.StatePromptIdeal.nD Cert.StatePromptIdeal.τ).loc Cert.StatePromptIdeal.main_arg0)
      ∧ r.2.mem ((c.tc : Thread Cert.StatePromptIdeal.nD Cert.StatePromptIdeal.τ).loc Cert.StatePromptIdeal.main_arg1) = m ((c.tc : Thread Cert.StatePromptIdeal.nD Cert.StatePromptIdeal.τ).loc Cert.StatePromptIdeal.main_arg1)
      ∧ r.2.mem ((c.tc : Thread Cert.StatePromptIdeal.nD Cert.StatePromptIdeal.τ).loc Cert.StatePromptIdeal.main_arg2) = m ((c.tc : Thread Cert.StatePromptIdeal.nD Cert.StatePromptIdeal.τ).loc Cert.StatePromptIdeal.main_arg2)
      ∧ r.2.mem ((c.tc : Thread Cert.StatePromptIdeal.nD Cert.StatePromptIdeal.τ).loc Cert.StatePromptIdeal.main_arg3) = m ((c.tc : Thread Cert.StatePromptIdeal.nD Cert.StatePromptIdeal.τ).loc Cert.StatePromptIdeal.main_arg3))
      ∧ r.2.sem = fun _ => 0)

def quiescent_StatePromptIdeal_pre_bounded_prompt [hStatePromptIdeal : Cert.StatePromptIdeal.Facts] [hPre_bounded_prompt : Cert.Pre_bounded_prompt.Facts] : Prop :=
  ∀ (m : (ℓ : Loc Cert.StatePromptIdeal.nD Cert.StatePromptIdeal.τ Cert.StatePromptIdeal.sig) → Buf (Elt Ideal) ℓ) (g : Dev Cert.StatePromptIdeal.nD → PrngReg), Pre_StatePromptIdeal_bounded_prompt m →
    θ_run (Cert.StatePromptIdeal.defs (F := Ideal)) (onTc (τ := Cert.StatePromptIdeal.τ) (Cert.StatePromptIdeal.main (F := Ideal))) ⟨m, fun _ => 0, g⟩ (fun r => (∀ c : Dev Cert.StatePromptIdeal.nD,
      r.2.mem ((c.tc : Thread Cert.StatePromptIdeal.nD Cert.StatePromptIdeal.τ).loc Cert.StatePromptIdeal.main_arg0) = m ((c.tc : Thread Cert.StatePromptIdeal.nD Cert.StatePromptIdeal.τ).loc Cert.StatePromptIdeal.main_arg0)
      ∧ r.2.mem ((c.tc : Thread Cert.StatePromptIdeal.nD Cert.StatePromptIdeal.τ).loc Cert.StatePromptIdeal.main_arg1) = m ((c.tc : Thread Cert.StatePromptIdeal.nD Cert.StatePromptIdeal.τ).loc Cert.StatePromptIdeal.main_arg1)
      ∧ r.2.mem ((c.tc : Thread Cert.StatePromptIdeal.nD Cert.StatePromptIdeal.τ).loc Cert.StatePromptIdeal.main_arg2) = m ((c.tc : Thread Cert.StatePromptIdeal.nD Cert.StatePromptIdeal.τ).loc Cert.StatePromptIdeal.main_arg2)
      ∧ r.2.mem ((c.tc : Thread Cert.StatePromptIdeal.nD Cert.StatePromptIdeal.τ).loc Cert.StatePromptIdeal.main_arg3) = m ((c.tc : Thread Cert.StatePromptIdeal.nD Cert.StatePromptIdeal.τ).loc Cert.StatePromptIdeal.main_arg3))
      ∧ r.2.sem = fun _ => 0)

def quiescent_ExpertsShared [hExpertsShared : Cert.ExpertsShared.Facts] : Prop :=
  ∀ (m : (ℓ : Loc Cert.ExpertsShared.nD Cert.ExpertsShared.τ Cert.ExpertsShared.sig) → Buf (Elt Bits) ℓ) (g : Dev Cert.ExpertsShared.nD → PrngReg), Pre_ExpertsShared m →
    θ_run (Cert.ExpertsShared.defs (F := Bits)) (onTc (τ := Cert.ExpertsShared.τ) (Cert.ExpertsShared.main (F := Bits))) ⟨m, fun _ => 0, g⟩ (fun r => (∀ c : Dev Cert.ExpertsShared.nD,
      r.2.mem ((c.tc : Thread Cert.ExpertsShared.nD Cert.ExpertsShared.τ).loc Cert.ExpertsShared.main_arg0) = m ((c.tc : Thread Cert.ExpertsShared.nD Cert.ExpertsShared.τ).loc Cert.ExpertsShared.main_arg0)
      ∧ r.2.mem ((c.tc : Thread Cert.ExpertsShared.nD Cert.ExpertsShared.τ).loc Cert.ExpertsShared.main_arg1) = m ((c.tc : Thread Cert.ExpertsShared.nD Cert.ExpertsShared.τ).loc Cert.ExpertsShared.main_arg1)
      ∧ r.2.mem ((c.tc : Thread Cert.ExpertsShared.nD Cert.ExpertsShared.τ).loc Cert.ExpertsShared.main_arg2) = m ((c.tc : Thread Cert.ExpertsShared.nD Cert.ExpertsShared.τ).loc Cert.ExpertsShared.main_arg2)
      ∧ r.2.mem ((c.tc : Thread Cert.ExpertsShared.nD Cert.ExpertsShared.τ).loc Cert.ExpertsShared.main_arg3) = m ((c.tc : Thread Cert.ExpertsShared.nD Cert.ExpertsShared.τ).loc Cert.ExpertsShared.main_arg3))
      ∧ r.2.sem = fun _ => 0)

def quiescent_ExpertsSharedIdeal [hExpertsSharedIdeal : Cert.ExpertsSharedIdeal.Facts] : Prop :=
  ∀ (m : (ℓ : Loc Cert.ExpertsSharedIdeal.nD Cert.ExpertsSharedIdeal.τ Cert.ExpertsSharedIdeal.sig) → Buf (Elt Ideal) ℓ) (g : Dev Cert.ExpertsSharedIdeal.nD → PrngReg), Pre_ExpertsSharedIdeal m →
    θ_run (Cert.ExpertsSharedIdeal.defs (F := Ideal)) (onTc (τ := Cert.ExpertsSharedIdeal.τ) (Cert.ExpertsSharedIdeal.main (F := Ideal))) ⟨m, fun _ => 0, g⟩ (fun r => (∀ c : Dev Cert.ExpertsSharedIdeal.nD,
      r.2.mem ((c.tc : Thread Cert.ExpertsSharedIdeal.nD Cert.ExpertsSharedIdeal.τ).loc Cert.ExpertsSharedIdeal.main_arg0) = m ((c.tc : Thread Cert.ExpertsSharedIdeal.nD Cert.ExpertsSharedIdeal.τ).loc Cert.ExpertsSharedIdeal.main_arg0)
      ∧ r.2.mem ((c.tc : Thread Cert.ExpertsSharedIdeal.nD Cert.ExpertsSharedIdeal.τ).loc Cert.ExpertsSharedIdeal.main_arg1) = m ((c.tc : Thread Cert.ExpertsSharedIdeal.nD Cert.ExpertsSharedIdeal.τ).loc Cert.ExpertsSharedIdeal.main_arg1)
      ∧ r.2.mem ((c.tc : Thread Cert.ExpertsSharedIdeal.nD Cert.ExpertsSharedIdeal.τ).loc Cert.ExpertsSharedIdeal.main_arg2) = m ((c.tc : Thread Cert.ExpertsSharedIdeal.nD Cert.ExpertsSharedIdeal.τ).loc Cert.ExpertsSharedIdeal.main_arg2)
      ∧ r.2.mem ((c.tc : Thread Cert.ExpertsSharedIdeal.nD Cert.ExpertsSharedIdeal.τ).loc Cert.ExpertsSharedIdeal.main_arg3) = m ((c.tc : Thread Cert.ExpertsSharedIdeal.nD Cert.ExpertsSharedIdeal.τ).loc Cert.ExpertsSharedIdeal.main_arg3))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3))
      ∧ r.2.sem = fun _ => 0)

def preserves_Attn_AttnIdeal : Prop :=
  IdealRules.named_const.Statement Cert.AttnIdeal.κ "log2e" .f32 0x3FB8AA3B#32 (((Real.log 2)⁻¹ : ℝ) : EReal)
  ∧ IdealRules.named_const.Statement Cert.AttnIdeal.κ "scale_log2e" .f32 0x3E0293EE#32 (((Real.log 2)⁻¹ * (Real.sqrt 128)⁻¹ : ℝ) : EReal)

def algebraic_AttnIdeal_StickIdeal_pre_finite [hAttnIdeal : Cert.AttnIdeal.Facts] [hStickIdeal : Cert.StickIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.StickIdeal.nD Cert.StickIdeal.τ Cert.StickIdeal.sig) → Buf (Elt Ideal) ℓ) (g' : Dev Cert.StickIdeal.nD → PrngReg), Pre_AttnIdeal_finite m →
    (∀ c : Dev Cert.AttnIdeal.nD,
      m' ((c.tc : Thread Cert.StickIdeal.nD Cert.StickIdeal.τ).loc Cert.StickIdeal.main_arg0) = m ((c.tc : Thread Cert.AttnIdeal.nD Cert.AttnIdeal.τ).loc Cert.AttnIdeal.main_arg0)
      ∧ m' ((c.tc : Thread Cert.StickIdeal.nD Cert.StickIdeal.τ).loc Cert.StickIdeal.main_arg1) = m ((c.tc : Thread Cert.AttnIdeal.nD Cert.AttnIdeal.τ).loc Cert.AttnIdeal.main_arg1)
      ∧ m' ((c.tc : Thread Cert.StickIdeal.nD Cert.StickIdeal.τ).loc Cert.StickIdeal.main_arg2) = m ((c.tc : Thread Cert.AttnIdeal.nD Cert.AttnIdeal.τ).loc Cert.AttnIdeal.main_arg2)
      ∧ m' ((c.tc : Thread Cert.StickIdeal.nD Cert.StickIdeal.τ).loc Cert.StickIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.StickIdeal.defs (F := Ideal)) (onTc (τ := Cert.StickIdeal.τ) (Cert.StickIdeal.main (F := Ideal))) ⟨m', fun _ => 0, g'⟩ (fun r => ∀ c : Dev Cert.StickIdeal.nD,
          r.2.mem ((c.tc : Thread Cert.StickIdeal.nD Cert.StickIdeal.τ).loc Cert.StickIdeal.main_v26) = v0 c
          ∧ r.2.mem ((c.tc : Thread Cert.StickIdeal.nD Cert.StickIdeal.τ).loc Cert.StickIdeal.main_arg0) = m' ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m' ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m' ((c.tc : Thread Cert.StickIdeal.nD Cert.StickIdeal.τ).loc Cert.StickIdeal.main_arg2)
          ∧ r.2.mem ((c.tc : Thread Cert.StickIdeal.nD Cert.StickIdeal.τ).loc Cert.StickIdeal.main_arg3) = m' ((c.tc : Thread Cert.StickIdeal.nD Cert.StickIdeal.τ).loc Cert.StickIdeal.main_arg3))

def preserves_KProj_KProjIdeal : Prop :=
  True

def algebraic_KProjIdeal_KeysIdeal [hKProjIdeal : Cert.KProjIdeal.Facts] [hKeysIdeal : Cert.KeysIdeal.Facts] : Prop :=
  ∀ (m : (ℓ : Loc Cert.KProjIdeal.nD Cert.KProjIdeal.τ Cert.KProjIdeal.sig) → Buf (Elt Ideal) ℓ) (g : Dev Cert.KProjIdeal.nD → PrngReg)
    (m' : (ℓ : Loc Cert.KeysIdeal.nD Cert.KeysIdeal.τ Cert.KeysIdeal.sig) → Buf (Elt Ideal) ℓ) (g' : Dev Cert.KeysIdeal.nD → PrngReg), Pre_KProjIdeal m →
    (∀ c : Dev Cert.KProjIdeal.nD,
      m' ((c.tc : Thread Cert.KeysIdeal.nD Cert.KeysIdeal.τ).loc Cert.KeysIdeal.main_arg0) = m ((c.tc : Thread Cert.KProjIdeal.nD Cert.KProjIdeal.τ).loc Cert.KProjIdeal.main_arg0)
      ∧ m' ((c.tc : Thread Cert.KeysIdeal.nD Cert.KeysIdeal.τ).loc Cert.KeysIdeal.main_arg1) = m ((c.tc : Thread Cert.KProjIdeal.nD Cert.KProjIdeal.τ).loc Cert.KProjIdeal.main_arg1)
      ∧ m' ((c.tc : Thread Cert.KeysIdeal.nD Cert.KeysIdeal.τ).loc Cert.KeysIdeal.main_arg2) = m ((c.tc : Thread Cert.KProjIdeal.nD Cert.KProjIdeal.τ).loc Cert.KProjIdeal.main_arg2)) →
    ∃ (v0 : (c : Dev Cert.KProjIdeal.nD) → Buf (Elt Ideal) ((c.tc : Thread Cert.KProjIdeal.nD Cert.KProjIdeal.τ).loc Cert.KProjIdeal.main_v1)),
      θ_run (Cert.KProjIdeal.defs (F := Ideal)) (onTc (τ := Cert.KProjIdeal.τ) (Cert.KProjIdeal.main (F := Ideal))) ⟨m, fun _ => 0, g⟩ (fun r => ∀ c : Dev Cert.KProjIdeal.nD,
          r.2.mem ((c.tc : Thread Cert.KProjIdeal.nD Cert.KProjIdeal.τ).loc Cert.KProjIdeal.main_v1) = v0 c
          ∧ r.2.mem ((c.tc : Thread Cert.KProjIdeal.nD Cert.KProjIdeal.τ).loc Cert.KProjIdeal.main_arg0) = m ((c.tc : Thread Cert.KProjIdeal.nD Cert.KProjIdeal.τ).loc Cert.KProjIdeal.main_arg0)
          ∧ r.2.mem ((c.tc : Thread Cert.KProjIdeal.nD Cert.KProjIdeal.τ).loc Cert.KProjIdeal.main_arg1) = m ((c.tc : Thread Cert.KProjIdeal.nD Cert.KProjIdeal.τ).loc Cert.KProjIdeal.main_arg1)
          ∧ r.2.mem ((c.tc : Thread Cert.KProjIdeal.nD Cert.KProjIdeal.τ).loc Cert.KProjIdeal.main_arg2) = m ((c.tc : Thread Cert.KProjIdeal.nD Cert.KProjIdeal.τ).loc Cert.KProjIdeal.main_arg2))
      ∧ θ_run (Cert.KeysIdeal.defs (F := Ideal)) (onTc (τ := Cert.KeysIdeal.τ) (Cert.KeysIdeal.main (F := Ideal))) ⟨m', fun _ => 0, g'⟩ (fun r => ∀ c : Dev Cert.KeysIdeal.nD,
          r.2.mem ((c.tc : Thread Cert.KeysIdeal.nD Cert.KeysIdeal.τ).loc Cert.KeysIdeal.main_v18) = v0 c
          ∧ r.2.mem ((c.tc : Thread Cert.KeysIdeal.nD Cert.KeysIdeal.τ).loc Cert.KeysIdeal.main_arg0) = m' ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m' ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m' ((c.tc : Thread Cert.KeysIdeal.nD Cert.KeysIdeal.τ).loc Cert.KeysIdeal.main_arg2))

def preserves_VProj_VProjIdeal : Prop :=
  True

def algebraic_VProjIdeal_ValuesIdeal [hVProjIdeal : Cert.VProjIdeal.Facts] [hValuesIdeal : Cert.ValuesIdeal.Facts] : Prop :=
  ∀ (m : (ℓ : Loc Cert.VProjIdeal.nD Cert.VProjIdeal.τ Cert.VProjIdeal.sig) → Buf (Elt Ideal) ℓ) (g : Dev Cert.VProjIdeal.nD → PrngReg)
    (m' : (ℓ : Loc Cert.ValuesIdeal.nD Cert.ValuesIdeal.τ Cert.ValuesIdeal.sig) → Buf (Elt Ideal) ℓ) (g' : Dev Cert.ValuesIdeal.nD → PrngReg), Pre_VProjIdeal m →
    (∀ c : Dev Cert.VProjIdeal.nD,
      m' ((c.tc : Thread Cert.ValuesIdeal.nD Cert.ValuesIdeal.τ).loc Cert.ValuesIdeal.main_arg0) = m ((c.tc : Thread Cert.VProjIdeal.nD Cert.VProjIdeal.τ).loc Cert.VProjIdeal.main_arg0)
      ∧ m' ((c.tc : Thread Cert.ValuesIdeal.nD Cert.ValuesIdeal.τ).loc Cert.ValuesIdeal.main_arg1) = m ((c.tc : Thread Cert.VProjIdeal.nD Cert.VProjIdeal.τ).loc Cert.VProjIdeal.main_arg1)) →
    ∃ (v0 : (c : Dev Cert.VProjIdeal.nD) → Buf (Elt Ideal) ((c.tc : Thread Cert.VProjIdeal.nD Cert.VProjIdeal.τ).loc Cert.VProjIdeal.main_v0)),
      θ_run (Cert.VProjIdeal.defs (F := Ideal)) (onTc (τ := Cert.VProjIdeal.τ) (Cert.VProjIdeal.main (F := Ideal))) ⟨m, fun _ => 0, g⟩ (fun r => ∀ c : Dev Cert.VProjIdeal.nD,
          r.2.mem ((c.tc : Thread Cert.VProjIdeal.nD Cert.VProjIdeal.τ).loc Cert.VProjIdeal.main_v0) = v0 c
          ∧ r.2.mem ((c.tc : Thread Cert.VProjIdeal.nD Cert.VProjIdeal.τ).loc Cert.VProjIdeal.main_arg0) = m ((c.tc : Thread Cert.VProjIdeal.nD Cert.VProjIdeal.τ).loc Cert.VProjIdeal.main_arg0)
          ∧ r.2.mem ((c.tc : Thread Cert.VProjIdeal.nD Cert.VProjIdeal.τ).loc Cert.VProjIdeal.main_arg1) = m ((c.tc : Thread Cert.VProjIdeal.nD Cert.VProjIdeal.τ).loc Cert.VProjIdeal.main_arg1))
      ∧ θ_run (Cert.ValuesIdeal.defs (F := Ideal)) (onTc (τ := Cert.ValuesIdeal.τ) (Cert.ValuesIdeal.main (F := Ideal))) ⟨m', fun _ => 0, g'⟩ (fun r => ∀ c : Dev Cert.ValuesIdeal.nD,
          r.2.mem ((c.tc : Thread Cert.ValuesIdeal.nD Cert.ValuesIdeal.τ).loc Cert.ValuesIdeal.main_v3) = v0 c
          ∧ r.2.mem ((c.tc : Thread Cert.ValuesIdeal.nD Cert.ValuesIdeal.τ).loc Cert.ValuesIdeal.main_arg0) = m' ((c.tc : Thread Cert.ValuesIdeal.nD Cert.ValuesIdeal.τ).loc Cert.ValuesIdeal.main_arg0)
          ∧ r.2.mem ((c.tc : Thread Cert.ValuesIdeal.nD Cert.ValuesIdeal.τ).loc Cert.ValuesIdeal.main_arg1) = m' ((c.tc : Thread Cert.ValuesIdeal.nD Cert.ValuesIdeal.τ).loc Cert.ValuesIdeal.main_arg1))

def preserves_HgIn_HgInIdeal : Prop :=
  True

def algebraic_HgInIdeal_GatesIdeal [hHgInIdeal : Cert.HgInIdeal.Facts] [hGatesIdeal : Cert.GatesIdeal.Facts] : Prop :=
  ∀ (m : (ℓ : Loc Cert.HgInIdeal.nD Cert.HgInIdeal.τ Cert.HgInIdeal.sig) → Buf (Elt Ideal) ℓ) (g : Dev Cert.HgInIdeal.nD → PrngReg)
    (m' : (ℓ : Loc Cert.GatesIdeal.nD Cert.GatesIdeal.τ Cert.GatesIdeal.sig) → Buf (Elt Ideal) ℓ) (g' : Dev Cert.GatesIdeal.nD → PrngReg), Pre_HgInIdeal m →
    (∀ c : Dev Cert.HgInIdeal.nD,
      m' ((c.tc : Thread Cert.GatesIdeal.nD Cert.GatesIdeal.τ).loc Cert.GatesIdeal.main_arg0) = m ((c.tc : Thread Cert.HgInIdeal.nD Cert.HgInIdeal.τ).loc Cert.HgInIdeal.main_arg0)
      ∧ m' ((c.tc : Thread Cert.GatesIdeal.nD Cert.GatesIdeal.τ).loc Cert.GatesIdeal.main_arg1) = m ((c.tc : Thread Cert.HgInIdeal.nD Cert.HgInIdeal.τ).loc Cert.HgInIdeal.main_arg1)) →
    ∃ (v0 : (c : Dev Cert.HgInIdeal.nD) → Buf (Elt Ideal) ((c.tc : Thread Cert.HgInIdeal.nD Cert.HgInIdeal.τ).loc Cert.HgInIdeal.main_v0)),
      θ_run (Cert.HgInIdeal.defs (F := Ideal)) (onTc (τ := Cert.HgInIdeal.τ) (Cert.HgInIdeal.main (F := Ideal))) ⟨m, fun _ => 0, g⟩ (fun r => ∀ c : Dev Cert.HgInIdeal.nD,
          r.2.mem ((c.tc : Thread Cert.HgInIdeal.nD Cert.HgInIdeal.τ).loc Cert.HgInIdeal.main_v0) = v0 c
          ∧ r.2.mem ((c.tc : Thread Cert.HgInIdeal.nD Cert.HgInIdeal.τ).loc Cert.HgInIdeal.main_arg0) = m ((c.tc : Thread Cert.HgInIdeal.nD Cert.HgInIdeal.τ).loc Cert.HgInIdeal.main_arg0)
          ∧ r.2.mem ((c.tc : Thread Cert.HgInIdeal.nD Cert.HgInIdeal.τ).loc Cert.HgInIdeal.main_arg1) = m ((c.tc : Thread Cert.HgInIdeal.nD Cert.HgInIdeal.τ).loc Cert.HgInIdeal.main_arg1))
      ∧ θ_run (Cert.GatesIdeal.defs (F := Ideal)) (onTc (τ := Cert.GatesIdeal.τ) (Cert.GatesIdeal.main (F := Ideal))) ⟨m', fun _ => 0, g'⟩ (fun r => ∀ c : Dev Cert.GatesIdeal.nD,
          r.2.mem ((c.tc : Thread Cert.GatesIdeal.nD Cert.GatesIdeal.τ).loc Cert.GatesIdeal.main_v2) = v0 c
          ∧ r.2.mem ((c.tc : Thread Cert.GatesIdeal.nD Cert.GatesIdeal.τ).loc Cert.GatesIdeal.main_arg0) = m' ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m' ((c.tc : Thread Cert.GatesIdeal.nD Cert.GatesIdeal.τ).loc Cert.GatesIdeal.main_arg1))

def preserves_QProj_QProjIdeal : Prop :=
  True

def algebraic_QProjIdeal_QueriesIdeal [hQProjIdeal : Cert.QProjIdeal.Facts] [hQueriesIdeal : Cert.QueriesIdeal.Facts] : Prop :=
  ∀ (m : (ℓ : Loc Cert.QProjIdeal.nD Cert.QProjIdeal.τ Cert.QProjIdeal.sig) → Buf (Elt Ideal) ℓ) (g : Dev Cert.QProjIdeal.nD → PrngReg)
    (m' : (ℓ : Loc Cert.QueriesIdeal.nD Cert.QueriesIdeal.τ Cert.QueriesIdeal.sig) → Buf (Elt Ideal) ℓ) (g' : Dev Cert.QueriesIdeal.nD → PrngReg), Pre_QProjIdeal m →
    (∀ c : Dev Cert.QProjIdeal.nD,
      m' ((c.tc : Thread Cert.QueriesIdeal.nD Cert.QueriesIdeal.τ).loc Cert.QueriesIdeal.main_arg0) = m ((c.tc : Thread Cert.QProjIdeal.nD Cert.QProjIdeal.τ).loc Cert.QProjIdeal.main_arg0)
      ∧ m' ((c.tc : Thread Cert.QueriesIdeal.nD Cert.QueriesIdeal.τ).loc Cert.QueriesIdeal.main_arg1) = m ((c.tc : Thread Cert.QProjIdeal.nD Cert.QProjIdeal.τ).loc Cert.QProjIdeal.main_arg1)
      ∧ m' ((c.tc : Thread Cert.QueriesIdeal.nD Cert.QueriesIdeal.τ).loc Cert.QueriesIdeal.main_arg2) = m ((c.tc : Thread Cert.QProjIdeal.nD Cert.QProjIdeal.τ).loc Cert.QProjIdeal.main_arg2)) →
    ∃ (v0 : (c : Dev Cert.QProjIdeal.nD) → Buf (Elt Ideal) ((c.tc : Thread Cert.QProjIdeal.nD Cert.QProjIdeal.τ).loc Cert.QProjIdeal.main_v2)),
      θ_run (Cert.QProjIdeal.defs (F := Ideal)) (onTc (τ := Cert.QProjIdeal.τ) (Cert.QProjIdeal.main (F := Ideal))) ⟨m, fun _ => 0, g⟩ (fun r => ∀ c : Dev Cert.QProjIdeal.nD,
          r.2.mem ((c.tc : Thread Cert.QProjIdeal.nD Cert.QProjIdeal.τ).loc Cert.QProjIdeal.main_v2) = v0 c
          ∧ r.2.mem ((c.tc : Thread Cert.QProjIdeal.nD Cert.QProjIdeal.τ).loc Cert.QProjIdeal.main_arg0) = m ((c.tc : Thread Cert.QProjIdeal.nD Cert.QProjIdeal.τ).loc Cert.QProjIdeal.main_arg0)
          ∧ r.2.mem ((c.tc : Thread Cert.QProjIdeal.nD Cert.QProjIdeal.τ).loc Cert.QProjIdeal.main_arg1) = m ((c.tc : Thread Cert.QProjIdeal.nD Cert.QProjIdeal.τ).loc Cert.QProjIdeal.main_arg1)
          ∧ r.2.mem ((c.tc : Thread Cert.QProjIdeal.nD Cert.QProjIdeal.τ).loc Cert.QProjIdeal.main_arg2) = m ((c.tc : Thread Cert.QProjIdeal.nD Cert.QProjIdeal.τ).loc Cert.QProjIdeal.main_arg2))
      ∧ θ_run (Cert.QueriesIdeal.defs (F := Ideal)) (onTc (τ := Cert.QueriesIdeal.τ) (Cert.QueriesIdeal.main (F := Ideal))) ⟨m', fun _ => 0, g'⟩ (fun r => ∀ c : Dev Cert.QueriesIdeal.nD,
          r.2.mem ((c.tc : Thread Cert.QueriesIdeal.nD Cert.QueriesIdeal.τ).loc Cert.QueriesIdeal.main_v18) = v0 c
          ∧ r.2.mem ((c.tc : Thread Cert.QueriesIdeal.nD Cert.QueriesIdeal.τ).loc Cert.QueriesIdeal.main_arg0) = m' ((c.tc : Thread Cert.QueriesIdeal.nD Cert.QueriesIdeal.τ).loc Cert.QueriesIdeal.main_arg0)
          ∧ r.2.mem ((c.tc : Thread Cert.QueriesIdeal.nD Cert.QueriesIdeal.τ).loc Cert.QueriesIdeal.main_arg1) = m' ((c.tc : Thread Cert.QueriesIdeal.nD Cert.QueriesIdeal.τ).loc Cert.QueriesIdeal.main_arg1)
          ∧ r.2.mem ((c.tc : Thread Cert.QueriesIdeal.nD Cert.QueriesIdeal.τ).loc Cert.QueriesIdeal.main_arg2) = m' ((c.tc : Thread Cert.QueriesIdeal.nD Cert.QueriesIdeal.τ).loc Cert.QueriesIdeal.main_arg2))

def preserves_SbOut_SbOutIdeal : Prop :=
  True

def algebraic_SbOutIdeal_MixedIdeal [hSbOutIdeal : Cert.SbOutIdeal.Facts] [hMixedIdeal : Cert.MixedIdeal.Facts] : Prop :=
  ∀ (m : (ℓ : Loc Cert.SbOutIdeal.nD Cert.SbOutIdeal.τ Cert.SbOutIdeal.sig) → Buf (Elt Ideal) ℓ) (g : Dev Cert.SbOutIdeal.nD → PrngReg)
    (m' : (ℓ : Loc Cert.MixedIdeal.nD Cert.MixedIdeal.τ Cert.MixedIdeal.sig) → Buf (Elt Ideal) ℓ) (g' : Dev Cert.MixedIdeal.nD → PrngReg), Pre_SbOutIdeal m →
    (∀ c : Dev Cert.SbOutIdeal.nD,
      m' ((c.tc : Thread Cert.MixedIdeal.nD Cert.MixedIdeal.τ).loc Cert.MixedIdeal.main_arg0) = m ((c.tc : Thread Cert.SbOutIdeal.nD Cert.SbOutIdeal.τ).loc Cert.SbOutIdeal.main_arg0)
      ∧ m' ((c.tc : Thread Cert.MixedIdeal.nD Cert.MixedIdeal.τ).loc Cert.MixedIdeal.main_arg1) = m ((c.tc : Thread Cert.SbOutIdeal.nD Cert.SbOutIdeal.τ).loc Cert.SbOutIdeal.main_arg1)
      ∧ m' ((c.tc : Thread Cert.MixedIdeal.nD Cert.MixedIdeal.τ).loc Cert.MixedIdeal.main_arg2) = m ((c.tc : Thread Cert.SbOutIdeal.nD Cert.SbOutIdeal.τ).loc Cert.SbOutIdeal.main_arg2)
      ∧ m' ((c.tc : Thread Cert.MixedIdeal.nD Cert.MixedIdeal.τ).loc Cert.MixedIdeal.main_arg3) = m ((c.tc : Thread Cert.SbOutIdeal.nD Cert.SbOutIdeal.τ).loc Cert.SbOutIdeal.main_arg3)) →
    ∃ (v0 : (c : Dev Cert.SbOutIdeal.nD) → Buf (Elt Ideal) ((c.tc : Thread Cert.SbOutIdeal.nD Cert.SbOutIdeal.τ).loc Cert.SbOutIdeal.main_v1)),
      θ_run (Cert.SbOutIdeal.defs (F := Ideal)) (onTc (τ := Cert.SbOutIdeal.τ) (Cert.SbOutIdeal.main (F := Ideal))) ⟨m, fun _ => 0, g⟩ (fun r => ∀ c : Dev Cert.SbOutIdeal.nD,
          r.2.mem ((c.tc : Thread Cert.SbOutIdeal.nD Cert.SbOutIdeal.τ).loc Cert.SbOutIdeal.main_v1) = v0 c
          ∧ r.2.mem ((c.tc : Thread Cert.SbOutIdeal.nD Cert.SbOutIdeal.τ).loc Cert.SbOutIdeal.main_arg0) = m ((c.tc : Thread Cert.SbOutIdeal.nD Cert.SbOutIdeal.τ).loc Cert.SbOutIdeal.main_arg0)
          ∧ r.2.mem ((c.tc : Thread Cert.SbOutIdeal.nD Cert.SbOutIdeal.τ).loc Cert.SbOutIdeal.main_arg1) = m ((c.tc : Thread Cert.SbOutIdeal.nD Cert.SbOutIdeal.τ).loc Cert.SbOutIdeal.main_arg1)
          ∧ r.2.mem ((c.tc : Thread Cert.SbOutIdeal.nD Cert.SbOutIdeal.τ).loc Cert.SbOutIdeal.main_arg2) = m ((c.tc : Thread Cert.SbOutIdeal.nD Cert.SbOutIdeal.τ).loc Cert.SbOutIdeal.main_arg2)
          ∧ r.2.mem ((c.tc : Thread Cert.SbOutIdeal.nD Cert.SbOutIdeal.τ).loc Cert.SbOutIdeal.main_arg3) = m ((c.tc : Thread Cert.SbOutIdeal.nD Cert.SbOutIdeal.τ).loc Cert.SbOutIdeal.main_arg3))
      ∧ θ_run (Cert.MixedIdeal.defs (F := Ideal)) (onTc (τ := Cert.MixedIdeal.τ) (Cert.MixedIdeal.main (F := Ideal))) ⟨m', fun _ => 0, g'⟩ (fun r => ∀ c : Dev Cert.MixedIdeal.nD,
          r.2.mem ((c.tc : Thread Cert.MixedIdeal.nD Cert.MixedIdeal.τ).loc Cert.MixedIdeal.main_v9) = v0 c
          ∧ r.2.mem ((c.tc : Thread Cert.MixedIdeal.nD Cert.MixedIdeal.τ).loc Cert.MixedIdeal.main_arg0) = m' ((c.tc : Thread Cert.MixedIdeal.nD Cert.MixedIdeal.τ).loc Cert.MixedIdeal.main_arg0)
          ∧ r.2.mem ((c.tc : Thread Cert.MixedIdeal.nD Cert.MixedIdeal.τ).loc Cert.MixedIdeal.main_arg1) = m' ((c.tc : Thread Cert.MixedIdeal.nD Cert.MixedIdeal.τ).loc Cert.MixedIdeal.main_arg1)
          ∧ r.2.mem ((c.tc : Thread Cert.MixedIdeal.nD Cert.MixedIdeal.τ).loc Cert.MixedIdeal.main_arg2) = m' ((c.tc : Thread Cert.MixedIdeal.nD Cert.MixedIdeal.τ).loc Cert.MixedIdeal.main_arg2)
          ∧ r.2.mem ((c.tc : Thread Cert.MixedIdeal.nD Cert.MixedIdeal.τ).loc Cert.MixedIdeal.main_arg3) = m' ((c.tc : Thread Cert.MixedIdeal.nD Cert.MixedIdeal.τ).loc Cert.MixedIdeal.main_arg3))

def preserves_KSample_KSampleIdeal : Prop :=
  True

def algebraic_KSampleIdeal_KeysSampleIdeal [hKSampleIdeal : Cert.KSampleIdeal.Facts] [hKeysSampleIdeal : Cert.KeysSampleIdeal.Facts] : Prop :=
  ∀ (m : (ℓ : Loc Cert.KSampleIdeal.nD Cert.KSampleIdeal.τ Cert.KSampleIdeal.sig) → Buf (Elt Ideal) ℓ) (g : Dev Cert.KSampleIdeal.nD → PrngReg)
    (m' : (ℓ : Loc Cert.KeysSampleIdeal.nD Cert.KeysSampleIdeal.τ Cert.KeysSampleIdeal.sig) → Buf (Elt Ideal) ℓ) (g' : Dev Cert.KeysSampleIdeal.nD → PrngReg), Pre_KSampleIdeal m →
    (∀ c : Dev Cert.KSampleIdeal.nD,
      m' ((c.tc : Thread Cert.KeysSampleIdeal.nD Cert.KeysSampleIdeal.τ).loc Cert.KeysSampleIdeal.main_arg0) = m ((c.tc : Thread Cert.KSampleIdeal.nD Cert.KSampleIdeal.τ).loc Cert.KSampleIdeal.main_arg0)
      ∧ m' ((c.tc : Thread Cert.KeysSampleIdeal.nD Cert.KeysSampleIdeal.τ).loc Cert.KeysSampleIdeal.main_arg1) = m ((c.tc : Thread Cert.KSampleIdeal.nD Cert.KSampleIdeal.τ).loc Cert.KSampleIdeal.main_arg1)
      ∧ m' ((c.tc : Thread Cert.KeysSampleIdeal.nD Cert.KeysSampleIdeal.τ).loc Cert.KeysSampleIdeal.main_arg2) = m ((c.tc : Thread Cert.KSampleIdeal.nD Cert.KSampleIdeal.τ).loc Cert.KSampleIdeal.main_arg2)) →
    ∃ (v0 : (c : Dev Cert.KSampleIdeal.nD) → Buf (Elt Ideal) ((c.tc : Thread Cert.KSampleIdeal.nD Cert.KSampleIdeal.τ).loc Cert.KSampleIdeal.main_v1)),
      θ_run (Cert.KSampleIdeal.defs (F := Ideal)) (onTc (τ := Cert.KSampleIdeal.τ) (Cert.KSampleIdeal.main (F := Ideal))) ⟨m, fun _ => 0, g⟩ (fun r => ∀ c : Dev Cert.KSampleIdeal.nD,
          r.2.mem ((c.tc : Thread Cert.KSampleIdeal.nD Cert.KSampleIdeal.τ).loc Cert.KSampleIdeal.main_v1) = v0 c
          ∧ r.2.mem ((c.tc : Thread Cert.KSampleIdeal.nD Cert.KSampleIdeal.τ).loc Cert.KSampleIdeal.main_arg0) = m ((c.tc : Thread Cert.KSampleIdeal.nD Cert.KSampleIdeal.τ).loc Cert.KSampleIdeal.main_arg0)
          ∧ r.2.mem ((c.tc : Thread Cert.KSampleIdeal.nD Cert.KSampleIdeal.τ).loc Cert.KSampleIdeal.main_arg1) = m ((c.tc : Thread Cert.KSampleIdeal.nD Cert.KSampleIdeal.τ).loc Cert.KSampleIdeal.main_arg1)
          ∧ r.2.mem ((c.tc : Thread Cert.KSampleIdeal.nD Cert.KSampleIdeal.τ).loc Cert.KSampleIdeal.main_arg2) = m ((c.tc : Thread Cert.KSampleIdeal.nD Cert.KSampleIdeal.τ).loc Cert.KSampleIdeal.main_arg2))
      ∧ θ_run (Cert.KeysSampleIdeal.defs (F := Ideal)) (onTc (τ := Cert.KeysSampleIdeal.τ) (Cert.KeysSampleIdeal.main (F := Ideal))) ⟨m', fun _ => 0, g'⟩ (fun r => ∀ c : Dev Cert.KeysSampleIdeal.nD,
          r.2.mem ((c.tc : Thread Cert.KeysSampleIdeal.nD Cert.KeysSampleIdeal.τ).loc Cert.KeysSampleIdeal.main_v18) = v0 c
          ∧ r.2.mem ((c.tc : Thread Cert.KeysSampleIdeal.nD Cert.KeysSampleIdeal.τ).loc Cert.KeysSampleIdeal.main_arg0) = m' ((c.tc : Thread Cert.KeysSampleIdeal.nD Cert.KeysSampleIdeal.τ).loc Cert.KeysSampleIdeal.main_arg0)
          ∧ r.2.mem ((c.tc : Thread Cert.KeysSampleIdeal.nD Cert.KeysSampleIdeal.τ).loc Cert.KeysSampleIdeal.main_arg1) = m' ((c.tc : Thread Cert.KeysSampleIdeal.nD Cert.KeysSampleIdeal.τ).loc Cert.KeysSampleIdeal.main_arg1)
          ∧ r.2.mem ((c.tc : Thread Cert.KeysSampleIdeal.nD Cert.KeysSampleIdeal.τ).loc Cert.KeysSampleIdeal.main_arg2) = m' ((c.tc : Thread Cert.KeysSampleIdeal.nD Cert.KeysSampleIdeal.τ).loc Cert.KeysSampleIdeal.main_arg2))

def preserves_VSample_VSampleIdeal : Prop :=
  True

def algebraic_VSampleIdeal_ValuesSampleIdeal [hVSampleIdeal : Cert.VSampleIdeal.Facts] [hValuesSampleIdeal : Cert.ValuesSampleIdeal.Facts] : Prop :=
  ∀ (m : (ℓ : Loc Cert.VSampleIdeal.nD Cert.VSampleIdeal.τ Cert.VSampleIdeal.sig) → Buf (Elt Ideal) ℓ) (g : Dev Cert.VSampleIdeal.nD → PrngReg)
    (m' : (ℓ : Loc Cert.ValuesSampleIdeal.nD Cert.ValuesSampleIdeal.τ Cert.ValuesSampleIdeal.sig) → Buf (Elt Ideal) ℓ) (g' : Dev Cert.ValuesSampleIdeal.nD → PrngReg), Pre_VSampleIdeal m →
    (∀ c : Dev Cert.VSampleIdeal.nD,
      m' ((c.tc : Thread Cert.ValuesSampleIdeal.nD Cert.ValuesSampleIdeal.τ).loc Cert.ValuesSampleIdeal.main_arg0) = m ((c.tc : Thread Cert.VSampleIdeal.nD Cert.VSampleIdeal.τ).loc Cert.VSampleIdeal.main_arg0)
      ∧ m' ((c.tc : Thread Cert.ValuesSampleIdeal.nD Cert.ValuesSampleIdeal.τ).loc Cert.ValuesSampleIdeal.main_arg1) = m ((c.tc : Thread Cert.VSampleIdeal.nD Cert.VSampleIdeal.τ).loc Cert.VSampleIdeal.main_arg1)) →
    ∃ (v0 : (c : Dev Cert.VSampleIdeal.nD) → Buf (Elt Ideal) ((c.tc : Thread Cert.VSampleIdeal.nD Cert.VSampleIdeal.τ).loc Cert.VSampleIdeal.main_v0)),
      θ_run (Cert.VSampleIdeal.defs (F := Ideal)) (onTc (τ := Cert.VSampleIdeal.τ) (Cert.VSampleIdeal.main (F := Ideal))) ⟨m, fun _ => 0, g⟩ (fun r => ∀ c : Dev Cert.VSampleIdeal.nD,
          r.2.mem ((c.tc : Thread Cert.VSampleIdeal.nD Cert.VSampleIdeal.τ).loc Cert.VSampleIdeal.main_v0) = v0 c
          ∧ r.2.mem ((c.tc : Thread Cert.VSampleIdeal.nD Cert.VSampleIdeal.τ).loc Cert.VSampleIdeal.main_arg0) = m ((c.tc : Thread Cert.VSampleIdeal.nD Cert.VSampleIdeal.τ).loc Cert.VSampleIdeal.main_arg0)
          ∧ r.2.mem ((c.tc : Thread Cert.VSampleIdeal.nD Cert.VSampleIdeal.τ).loc Cert.VSampleIdeal.main_arg1) = m ((c.tc : Thread Cert.VSampleIdeal.nD Cert.VSampleIdeal.τ).loc Cert.VSampleIdeal.main_arg1))
      ∧ θ_run (Cert.ValuesSampleIdeal.defs (F := Ideal)) (onTc (τ := Cert.ValuesSampleIdeal.τ) (Cert.ValuesSampleIdeal.main (F := Ideal))) ⟨m', fun _ => 0, g'⟩ (fun r => ∀ c : Dev Cert.ValuesSampleIdeal.nD,
          r.2.mem ((c.tc : Thread Cert.ValuesSampleIdeal.nD Cert.ValuesSampleIdeal.τ).loc Cert.ValuesSampleIdeal.main_v3) = v0 c
          ∧ r.2.mem ((c.tc : Thread Cert.ValuesSampleIdeal.nD Cert.ValuesSampleIdeal.τ).loc Cert.ValuesSampleIdeal.main_arg0) = m' ((c.tc : Thread Cert.ValuesSampleIdeal.nD Cert.ValuesSampleIdeal.τ).loc Cert.ValuesSampleIdeal.main_arg0)
          ∧ r.2.mem ((c.tc : Thread Cert.ValuesSampleIdeal.nD Cert.ValuesSampleIdeal.τ).loc Cert.ValuesSampleIdeal.main_arg1) = m' ((c.tc : Thread Cert.ValuesSampleIdeal.nD Cert.ValuesSampleIdeal.τ).loc Cert.ValuesSampleIdeal.main_arg1))

def preserves_Combine_CombineIdeal : Prop :=
  True

def algebraic_CombineIdeal_CombinedIdeal [hCombineIdeal : Cert.CombineIdeal.Facts] [hCombinedIdeal : Cert.CombinedIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombinedIdeal.nD Cert.CombinedIdeal.τ Cert.CombinedIdeal.sig) → Buf (Elt Ideal) ℓ) (g' : Dev Cert.CombinedIdeal.nD → PrngReg), Pre_CombineIdeal m →
    (∀ c : Dev Cert.CombineIdeal.nD,
      m' ((c.tc : Thread Cert.CombinedIdeal.nD Cert.CombinedIdeal.τ).loc Cert.CombinedIdeal.main_arg0) = m ((c.tc : Thread Cert.CombineIdeal.nD Cert.CombineIdeal.τ).loc Cert.CombineIdeal.main_arg0)
      ∧ m' ((c.tc : Thread Cert.CombinedIdeal.nD Cert.CombinedIdeal.τ).loc Cert.CombinedIdeal.main_arg1) = m ((c.tc : Thread Cert.CombineIdeal.nD Cert.CombineIdeal.τ).loc Cert.CombineIdeal.main_arg1)
      ∧ m' ((c.tc : Thread Cert.CombinedIdeal.nD Cert.CombinedIdeal.τ).loc Cert.CombinedIdeal.main_arg2) = m ((c.tc : Thread Cert.CombineIdeal.nD Cert.CombineIdeal.τ).loc Cert.CombineIdeal.main_arg2)
      ∧ m' ((c.tc : Thread Cert.CombinedIdeal.nD Cert.CombinedIdeal.τ).loc Cert.CombinedIdeal.main_arg3) = m ((c.tc : Thread Cert.CombineIdeal.nD Cert.CombineIdeal.τ).loc Cert.CombineIdeal.main_arg3)
      ∧ m' ((c.tc : Thread Cert.CombinedIdeal.nD Cert.CombinedIdeal.τ).loc Cert.CombinedIdeal.main_arg4) = m ((c.tc : Thread Cert.CombineIdeal.nD Cert.CombineIdeal.τ).loc Cert.CombineIdeal.main_arg4)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4))
      ∧ θ_run (Cert.CombinedIdeal.defs (F := Ideal)) (onTc (τ := Cert.CombinedIdeal.τ) (Cert.CombinedIdeal.main (F := Ideal))) ⟨m', fun _ => 0, g'⟩ (fun r => ∀ c : Dev Cert.CombinedIdeal.nD,
          r.2.mem ((c.tc : Thread Cert.CombinedIdeal.nD Cert.CombinedIdeal.τ).loc Cert.CombinedIdeal.main_v10) = v0 c
          ∧ r.2.mem ((c.tc : Thread Cert.CombinedIdeal.nD Cert.CombinedIdeal.τ).loc Cert.CombinedIdeal.main_arg0) = m' ((c.tc : Thread Cert.CombinedIdeal.nD Cert.CombinedIdeal.τ).loc Cert.CombinedIdeal.main_arg0)
          ∧ r.2.mem ((c.tc : Thread Cert.CombinedIdeal.nD Cert.CombinedIdeal.τ).loc Cert.CombinedIdeal.main_arg1) = m' ((c.tc : Thread Cert.CombinedIdeal.nD Cert.CombinedIdeal.τ).loc Cert.CombinedIdeal.main_arg1)
          ∧ r.2.mem ((c.tc : Thread Cert.CombinedIdeal.nD Cert.CombinedIdeal.τ).loc Cert.CombinedIdeal.main_arg2) = m' ((c.tc : Thread Cert.CombinedIdeal.nD Cert.CombinedIdeal.τ).loc Cert.CombinedIdeal.main_arg2)
          ∧ r.2.mem ((c.tc : Thread Cert.CombinedIdeal.nD Cert.CombinedIdeal.τ).loc Cert.CombinedIdeal.main_arg3) = m' ((c.tc : Thread Cert.CombinedIdeal.nD Cert.CombinedIdeal.τ).loc Cert.CombinedIdeal.main_arg3)
          ∧ r.2.mem ((c.tc : Thread Cert.CombinedIdeal.nD Cert.CombinedIdeal.τ).loc Cert.CombinedIdeal.main_arg4) = m' ((c.tc : Thread Cert.CombinedIdeal.nD Cert.CombinedIdeal.τ).loc Cert.CombinedIdeal.main_arg4))

def preserves_CombineSample_CombineSampleIdeal : Prop :=
  True

def algebraic_CombineSampleIdeal_CombinedSampleIdeal [hCombineSampleIdeal : Cert.CombineSampleIdeal.Facts] [hCombinedSampleIdeal : Cert.CombinedSampleIdeal.Facts] : Prop :=
  ∀ (m : (ℓ : Loc Cert.CombineSampleIdeal.nD Cert.CombineSampleIdeal.τ Cert.CombineSampleIdeal.sig) → Buf (Elt Ideal) ℓ) (g : Dev Cert.CombineSampleIdeal.nD → PrngReg)
    (m' : (ℓ : Loc Cert.CombinedSampleIdeal.nD Cert.CombinedSampleIdeal.τ Cert.CombinedSampleIdeal.sig) → Buf (Elt Ideal) ℓ) (g' : Dev Cert.CombinedSampleIdeal.nD → PrngReg), Pre_CombineSampleIdeal m →
    (∀ c : Dev Cert.CombineSampleIdeal.nD,
      m' ((c.tc : Thread Cert.CombinedSampleIdeal.nD Cert.CombinedSampleIdeal.τ).loc Cert.CombinedSampleIdeal.main_arg0) = m ((c.tc : Thread Cert.CombineSampleIdeal.nD Cert.CombineSampleIdeal.τ).loc Cert.CombineSampleIdeal.main_arg0)
      ∧ m' ((c.tc : Thread Cert.CombinedSampleIdeal.nD Cert.CombinedSampleIdeal.τ).loc Cert.CombinedSampleIdeal.main_arg1) = m ((c.tc : Thread Cert.CombineSampleIdeal.nD Cert.CombineSampleIdeal.τ).loc Cert.CombineSampleIdeal.main_arg1)
      ∧ m' ((c.tc : Thread Cert.CombinedSampleIdeal.nD Cert.CombinedSampleIdeal.τ).loc Cert.CombinedSampleIdeal.main_arg2) = m ((c.tc : Thread Cert.CombineSampleIdeal.nD Cert.CombineSampleIdeal.τ).loc Cert.CombineSampleIdeal.main_arg2)
      ∧ m' ((c.tc : Thread Cert.CombinedSampleIdeal.nD Cert.CombinedSampleIdeal.τ).loc Cert.CombinedSampleIdeal.main_arg3) = m ((c.tc : Thread Cert.CombineSampleIdeal.nD Cert.CombineSampleIdeal.τ).loc Cert.CombineSampleIdeal.main_arg3)
      ∧ m' ((c.tc : Thread Cert.CombinedSampleIdeal.nD Cert.CombinedSampleIdeal.τ).loc Cert.CombinedSampleIdeal.main_arg4) = m ((c.tc : Thread Cert.CombineSampleIdeal.nD Cert.CombineSampleIdeal.τ).loc Cert.CombineSampleIdeal.main_arg4)) →
    ∃ (v0 : (c : Dev Cert.CombineSampleIdeal.nD) → Buf (Elt Ideal) ((c.tc : Thread Cert.CombineSampleIdeal.nD Cert.CombineSampleIdeal.τ).loc Cert.CombineSampleIdeal.main_v2)),
      θ_run (Cert.CombineSampleIdeal.defs (F := Ideal)) (onTc (τ := Cert.CombineSampleIdeal.τ) (Cert.CombineSampleIdeal.main (F := Ideal))) ⟨m, fun _ => 0, g⟩ (fun r => ∀ c : Dev Cert.CombineSampleIdeal.nD,
          r.2.mem ((c.tc : Thread Cert.CombineSampleIdeal.nD Cert.CombineSampleIdeal.τ).loc Cert.CombineSampleIdeal.main_v2) = v0 c
          ∧ r.2.mem ((c.tc : Thread Cert.CombineSampleIdeal.nD Cert.CombineSampleIdeal.τ).loc Cert.CombineSampleIdeal.main_arg0) = m ((c.tc : Thread Cert.CombineSampleIdeal.nD Cert.CombineSampleIdeal.τ).loc Cert.CombineSampleIdeal.main_arg0)
          ∧ r.2.mem ((c.tc : Thread Cert.CombineSampleIdeal.nD Cert.CombineSampleIdeal.τ).loc Cert.CombineSampleIdeal.main_arg1) = m ((c.tc : Thread Cert.CombineSampleIdeal.nD Cert.CombineSampleIdeal.τ).loc Cert.CombineSampleIdeal.main_arg1)
          ∧ r.2.mem ((c.tc : Thread Cert.CombineSampleIdeal.nD Cert.CombineSampleIdeal.τ).loc Cert.CombineSampleIdeal.main_arg2) = m ((c.tc : Thread Cert.CombineSampleIdeal.nD Cert.CombineSampleIdeal.τ).loc Cert.CombineSampleIdeal.main_arg2)
          ∧ r.2.mem ((c.tc : Thread Cert.CombineSampleIdeal.nD Cert.CombineSampleIdeal.τ).loc Cert.CombineSampleIdeal.main_arg3) = m ((c.tc : Thread Cert.CombineSampleIdeal.nD Cert.CombineSampleIdeal.τ).loc Cert.CombineSampleIdeal.main_arg3)
          ∧ r.2.mem ((c.tc : Thread Cert.CombineSampleIdeal.nD Cert.CombineSampleIdeal.τ).loc Cert.CombineSampleIdeal.main_arg4) = m ((c.tc : Thread Cert.CombineSampleIdeal.nD Cert.CombineSampleIdeal.τ).loc Cert.CombineSampleIdeal.main_arg4))
      ∧ θ_run (Cert.CombinedSampleIdeal.defs (F := Ideal)) (onTc (τ := Cert.CombinedSampleIdeal.τ) (Cert.CombinedSampleIdeal.main (F := Ideal))) ⟨m', fun _ => 0, g'⟩ (fun r => ∀ c : Dev Cert.CombinedSampleIdeal.nD,
          r.2.mem ((c.tc : Thread Cert.CombinedSampleIdeal.nD Cert.CombinedSampleIdeal.τ).loc Cert.CombinedSampleIdeal.main_v10) = v0 c
          ∧ r.2.mem ((c.tc : Thread Cert.CombinedSampleIdeal.nD Cert.CombinedSampleIdeal.τ).loc Cert.CombinedSampleIdeal.main_arg0) = m' ((c.tc : Thread Cert.CombinedSampleIdeal.nD Cert.CombinedSampleIdeal.τ).loc Cert.CombinedSampleIdeal.main_arg0)
          ∧ r.2.mem ((c.tc : Thread Cert.CombinedSampleIdeal.nD Cert.CombinedSampleIdeal.τ).loc Cert.CombinedSampleIdeal.main_arg1) = m' ((c.tc : Thread Cert.CombinedSampleIdeal.nD Cert.CombinedSampleIdeal.τ).loc Cert.CombinedSampleIdeal.main_arg1)
          ∧ r.2.mem ((c.tc : Thread Cert.CombinedSampleIdeal.nD Cert.CombinedSampleIdeal.τ).loc Cert.CombinedSampleIdeal.main_arg2) = m' ((c.tc : Thread Cert.CombinedSampleIdeal.nD Cert.CombinedSampleIdeal.τ).loc Cert.CombinedSampleIdeal.main_arg2)
          ∧ r.2.mem ((c.tc : Thread Cert.CombinedSampleIdeal.nD Cert.CombinedSampleIdeal.τ).loc Cert.CombinedSampleIdeal.main_arg3) = m' ((c.tc : Thread Cert.CombinedSampleIdeal.nD Cert.CombinedSampleIdeal.τ).loc Cert.CombinedSampleIdeal.main_arg3)
          ∧ r.2.mem ((c.tc : Thread Cert.CombinedSampleIdeal.nD Cert.CombinedSampleIdeal.τ).loc Cert.CombinedSampleIdeal.main_arg4) = m' ((c.tc : Thread Cert.CombinedSampleIdeal.nD Cert.CombinedSampleIdeal.τ).loc Cert.CombinedSampleIdeal.main_arg4))

def preserves_Experts_ExpertsIdeal : Prop :=
  True

def algebraic_ExpertsIdeal_RoutedIdeal [hExpertsIdeal : Cert.ExpertsIdeal.Facts] [hRoutedIdeal : Cert.RoutedIdeal.Facts] [hPre_in_use : Cert.Pre_in_use.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.RoutedIdeal.nD Cert.RoutedIdeal.τ Cert.RoutedIdeal.sig) → Buf (Elt Ideal) ℓ) (g' : Dev Cert.RoutedIdeal.nD → PrngReg), Pre_ExpertsIdeal m →
    (∀ c : Dev Cert.ExpertsIdeal.nD,
      m' ((c.tc : Thread Cert.RoutedIdeal.nD Cert.RoutedIdeal.τ).loc Cert.RoutedIdeal.main_arg0) = m ((c.tc : Thread Cert.ExpertsIdeal.nD Cert.ExpertsIdeal.τ).loc Cert.ExpertsIdeal.main_arg0)
      ∧ m' ((c.tc : Thread Cert.RoutedIdeal.nD Cert.RoutedIdeal.τ).loc Cert.RoutedIdeal.main_arg1) = m ((c.tc : Thread Cert.ExpertsIdeal.nD Cert.ExpertsIdeal.τ).loc Cert.ExpertsIdeal.main_arg1)
      ∧ m' ((c.tc : Thread Cert.RoutedIdeal.nD Cert.RoutedIdeal.τ).loc Cert.RoutedIdeal.main_arg2) = m ((c.tc : Thread Cert.ExpertsIdeal.nD Cert.ExpertsIdeal.τ).loc Cert.ExpertsIdeal.main_arg2)
      ∧ m' ((c.tc : Thread Cert.RoutedIdeal.nD Cert.RoutedIdeal.τ).loc Cert.RoutedIdeal.main_arg3) = m ((c.tc : Thread Cert.ExpertsIdeal.nD Cert.ExpertsIdeal.τ).loc Cert.ExpertsIdeal.main_arg3)
      ∧ m' ((c.tc : Thread Cert.RoutedIdeal.nD Cert.RoutedIdeal.τ).loc Cert.RoutedIdeal.main_arg4) = m ((c.tc : Thread Cert.ExpertsIdeal.nD Cert.ExpertsIdeal.τ).loc Cert.ExpertsIdeal.main_arg4)
      ∧ m' ((c.tc : Thread Cert.RoutedIdeal.nD Cert.RoutedIdeal.τ).loc Cert.RoutedIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v35)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v35) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.RoutedIdeal.defs (F := Ideal)) (onTc (τ := Cert.RoutedIdeal.τ) (Cert.RoutedIdeal.main (F := Ideal))) ⟨m', fun _ => 0, g'⟩ (fun r => ∀ c : Dev Cert.RoutedIdeal.nD,
          r.2.mem ((c.tc : Thread Cert.RoutedIdeal.nD Cert.RoutedIdeal.τ).loc Cert.RoutedIdeal.main_v41) = v0 c
          ∧ r.2.mem ((c.tc : Thread Cert.RoutedIdeal.nD Cert.RoutedIdeal.τ).loc Cert.RoutedIdeal.main_arg0) = m' ((c.tc : Thread Cert.RoutedIdeal.nD Cert.RoutedIdeal.τ).loc Cert.RoutedIdeal.main_arg0)
          ∧ r.2.mem ((c.tc : Thread Cert.RoutedIdeal.nD Cert.RoutedIdeal.τ).loc Cert.RoutedIdeal.main_arg1) = m' ((c.tc : Thread Cert.RoutedIdeal.nD Cert.RoutedIdeal.τ).loc Cert.RoutedIdeal.main_arg1)
          ∧ r.2.mem ((c.tc : Thread Cert.RoutedIdeal.nD Cert.RoutedIdeal.τ).loc Cert.RoutedIdeal.main_arg2) = m' ((c.tc : Thread Cert.RoutedIdeal.nD Cert.RoutedIdeal.τ).loc Cert.RoutedIdeal.main_arg2)
          ∧ r.2.mem ((c.tc : Thread Cert.RoutedIdeal.nD Cert.RoutedIdeal.τ).loc Cert.RoutedIdeal.main_arg3) = m' ((c.tc : Thread Cert.RoutedIdeal.nD Cert.RoutedIdeal.τ).loc Cert.RoutedIdeal.main_arg3)
          ∧ r.2.mem ((c.tc : Thread Cert.RoutedIdeal.nD Cert.RoutedIdeal.τ).loc Cert.RoutedIdeal.main_arg4) = m' ((c.tc : Thread Cert.RoutedIdeal.nD Cert.RoutedIdeal.τ).loc Cert.RoutedIdeal.main_arg4)
          ∧ r.2.mem ((c.tc : Thread Cert.RoutedIdeal.nD Cert.RoutedIdeal.τ).loc Cert.RoutedIdeal.main_arg5) = m' ((c.tc : Thread Cert.RoutedIdeal.nD Cert.RoutedIdeal.τ).loc Cert.RoutedIdeal.main_arg5))

def preserves_Recur_RecurIdeal : Prop :=
  True

def algebraic_RecurIdeal_StateIdeal_pre_bounded [hRecurIdeal : Cert.RecurIdeal.Facts] [hStateIdeal : Cert.StateIdeal.Facts] [hPre_bounded : Cert.Pre_bounded.Facts] : Prop :=
  ∀ (m : (ℓ : Loc Cert.RecurIdeal.nD Cert.RecurIdeal.τ Cert.RecurIdeal.sig) → Buf (Elt Ideal) ℓ) (g : Dev Cert.RecurIdeal.nD → PrngReg)
    (m' : (ℓ : Loc Cert.StateIdeal.nD Cert.StateIdeal.τ Cert.StateIdeal.sig) → Buf (Elt Ideal) ℓ) (g' : Dev Cert.StateIdeal.nD → PrngReg), Pre_RecurIdeal_bounded m →
    (∀ c : Dev Cert.RecurIdeal.nD,
      m' ((c.tc : Thread Cert.StateIdeal.nD Cert.StateIdeal.τ).loc Cert.StateIdeal.main_arg0) = m ((c.tc : Thread Cert.RecurIdeal.nD Cert.RecurIdeal.τ).loc Cert.RecurIdeal.main_arg0)
      ∧ m' ((c.tc : Thread Cert.StateIdeal.nD Cert.StateIdeal.τ).loc Cert.StateIdeal.main_arg1) = m ((c.tc : Thread Cert.RecurIdeal.nD Cert.RecurIdeal.τ).loc Cert.RecurIdeal.main_arg1)
      ∧ m' ((c.tc : Thread Cert.StateIdeal.nD Cert.StateIdeal.τ).loc Cert.StateIdeal.main_arg2) = m ((c.tc : Thread Cert.RecurIdeal.nD Cert.RecurIdeal.τ).loc Cert.RecurIdeal.main_arg2)
      ∧ m' ((c.tc : Thread Cert.StateIdeal.nD Cert.StateIdeal.τ).loc Cert.StateIdeal.main_arg3) = m ((c.tc : Thread Cert.RecurIdeal.nD Cert.RecurIdeal.τ).loc Cert.RecurIdeal.main_arg3)) →
    ∃ (v0 : (c : Dev Cert.RecurIdeal.nD) → Buf (Elt Ideal) ((c.tc : Thread Cert.RecurIdeal.nD Cert.RecurIdeal.τ).loc Cert.RecurIdeal.main_v6_1)),
      θ_run (Cert.RecurIdeal.defs (F := Ideal)) (onTc (τ := Cert.RecurIdeal.τ) (Cert.RecurIdeal.main (F := Ideal))) ⟨m, fun _ => 0, g⟩ (fun r => ∀ c : Dev Cert.RecurIdeal.nD,
          r.2.mem ((c.tc : Thread Cert.RecurIdeal.nD Cert.RecurIdeal.τ).loc Cert.RecurIdeal.main_v6_1) = v0 c
          ∧ r.2.mem ((c.tc : Thread Cert.RecurIdeal.nD Cert.RecurIdeal.τ).loc Cert.RecurIdeal.main_arg0) = m ((c.tc : Thread Cert.RecurIdeal.nD Cert.RecurIdeal.τ).loc Cert.RecurIdeal.main_arg0)
          ∧ r.2.mem ((c.tc : Thread Cert.RecurIdeal.nD Cert.RecurIdeal.τ).loc Cert.RecurIdeal.main_arg1) = m ((c.tc : Thread Cert.RecurIdeal.nD Cert.RecurIdeal.τ).loc Cert.RecurIdeal.main_arg1)
          ∧ r.2.mem ((c.tc : Thread Cert.RecurIdeal.nD Cert.RecurIdeal.τ).loc Cert.RecurIdeal.main_arg2) = m ((c.tc : Thread Cert.RecurIdeal.nD Cert.RecurIdeal.τ).loc Cert.RecurIdeal.main_arg2)
          ∧ r.2.mem ((c.tc : Thread Cert.RecurIdeal.nD Cert.RecurIdeal.τ).loc Cert.RecurIdeal.main_arg3) = m ((c.tc : Thread Cert.RecurIdeal.nD Cert.RecurIdeal.τ).loc Cert.RecurIdeal.main_arg3))
      ∧ θ_run (Cert.StateIdeal.defs (F := Ideal)) (onTc (τ := Cert.StateIdeal.τ) (Cert.StateIdeal.main (F := Ideal))) ⟨m', fun _ => 0, g'⟩ (fun r => ∀ c : Dev Cert.StateIdeal.nD,
          r.2.mem ((c.tc : Thread Cert.StateIdeal.nD Cert.StateIdeal.τ).loc Cert.StateIdeal.main_v37) = v0 c
          ∧ r.2.mem ((c.tc : Thread Cert.StateIdeal.nD Cert.StateIdeal.τ).loc Cert.StateIdeal.main_arg0) = m' ((c.tc : Thread Cert.StateIdeal.nD Cert.StateIdeal.τ).loc Cert.StateIdeal.main_arg0)
          ∧ r.2.mem ((c.tc : Thread Cert.StateIdeal.nD Cert.StateIdeal.τ).loc Cert.StateIdeal.main_arg1) = m' ((c.tc : Thread Cert.StateIdeal.nD Cert.StateIdeal.τ).loc Cert.StateIdeal.main_arg1)
          ∧ r.2.mem ((c.tc : Thread Cert.StateIdeal.nD Cert.StateIdeal.τ).loc Cert.StateIdeal.main_arg2) = m' ((c.tc : Thread Cert.StateIdeal.nD Cert.StateIdeal.τ).loc Cert.StateIdeal.main_arg2)
          ∧ r.2.mem ((c.tc : Thread Cert.StateIdeal.nD Cert.StateIdeal.τ).loc Cert.StateIdeal.main_arg3) = m' ((c.tc : Thread Cert.StateIdeal.nD Cert.StateIdeal.τ).loc Cert.StateIdeal.main_arg3))

def preserves_RecurPrompt_RecurPromptIdeal : Prop :=
  True

def algebraic_RecurPromptIdeal_StatePromptIdeal_pre_bounded_prompt [hRecurPromptIdeal : Cert.RecurPromptIdeal.Facts] [hStatePromptIdeal : Cert.StatePromptIdeal.Facts] [hPre_bounded_prompt : Cert.Pre_bounded_prompt.Facts] : Prop :=
  ∀ (m : (ℓ : Loc Cert.RecurPromptIdeal.nD Cert.RecurPromptIdeal.τ Cert.RecurPromptIdeal.sig) → Buf (Elt Ideal) ℓ) (g : Dev Cert.RecurPromptIdeal.nD → PrngReg)
    (m' : (ℓ : Loc Cert.StatePromptIdeal.nD Cert.StatePromptIdeal.τ Cert.StatePromptIdeal.sig) → Buf (Elt Ideal) ℓ) (g' : Dev Cert.StatePromptIdeal.nD → PrngReg), Pre_RecurPromptIdeal_bounded_prompt m →
    (∀ c : Dev Cert.RecurPromptIdeal.nD,
      m' ((c.tc : Thread Cert.StatePromptIdeal.nD Cert.StatePromptIdeal.τ).loc Cert.StatePromptIdeal.main_arg0) = m ((c.tc : Thread Cert.RecurPromptIdeal.nD Cert.RecurPromptIdeal.τ).loc Cert.RecurPromptIdeal.main_arg0)
      ∧ m' ((c.tc : Thread Cert.StatePromptIdeal.nD Cert.StatePromptIdeal.τ).loc Cert.StatePromptIdeal.main_arg1) = m ((c.tc : Thread Cert.RecurPromptIdeal.nD Cert.RecurPromptIdeal.τ).loc Cert.RecurPromptIdeal.main_arg1)
      ∧ m' ((c.tc : Thread Cert.StatePromptIdeal.nD Cert.StatePromptIdeal.τ).loc Cert.StatePromptIdeal.main_arg2) = m ((c.tc : Thread Cert.RecurPromptIdeal.nD Cert.RecurPromptIdeal.τ).loc Cert.RecurPromptIdeal.main_arg2)
      ∧ m' ((c.tc : Thread Cert.StatePromptIdeal.nD Cert.StatePromptIdeal.τ).loc Cert.StatePromptIdeal.main_arg3) = m ((c.tc : Thread Cert.RecurPromptIdeal.nD Cert.RecurPromptIdeal.τ).loc Cert.RecurPromptIdeal.main_arg3)) →
    ∃ (v0 : (c : Dev Cert.RecurPromptIdeal.nD) → Buf (Elt Ideal) ((c.tc : Thread Cert.RecurPromptIdeal.nD Cert.RecurPromptIdeal.τ).loc Cert.RecurPromptIdeal.main_v3_1)),
      θ_run (Cert.RecurPromptIdeal.defs (F := Ideal)) (onTc (τ := Cert.RecurPromptIdeal.τ) (Cert.RecurPromptIdeal.main (F := Ideal))) ⟨m, fun _ => 0, g⟩ (fun r => ∀ c : Dev Cert.RecurPromptIdeal.nD,
          r.2.mem ((c.tc : Thread Cert.RecurPromptIdeal.nD Cert.RecurPromptIdeal.τ).loc Cert.RecurPromptIdeal.main_v3_1) = v0 c
          ∧ r.2.mem ((c.tc : Thread Cert.RecurPromptIdeal.nD Cert.RecurPromptIdeal.τ).loc Cert.RecurPromptIdeal.main_arg0) = m ((c.tc : Thread Cert.RecurPromptIdeal.nD Cert.RecurPromptIdeal.τ).loc Cert.RecurPromptIdeal.main_arg0)
          ∧ r.2.mem ((c.tc : Thread Cert.RecurPromptIdeal.nD Cert.RecurPromptIdeal.τ).loc Cert.RecurPromptIdeal.main_arg1) = m ((c.tc : Thread Cert.RecurPromptIdeal.nD Cert.RecurPromptIdeal.τ).loc Cert.RecurPromptIdeal.main_arg1)
          ∧ r.2.mem ((c.tc : Thread Cert.RecurPromptIdeal.nD Cert.RecurPromptIdeal.τ).loc Cert.RecurPromptIdeal.main_arg2) = m ((c.tc : Thread Cert.RecurPromptIdeal.nD Cert.RecurPromptIdeal.τ).loc Cert.RecurPromptIdeal.main_arg2)
          ∧ r.2.mem ((c.tc : Thread Cert.RecurPromptIdeal.nD Cert.RecurPromptIdeal.τ).loc Cert.RecurPromptIdeal.main_arg3) = m ((c.tc : Thread Cert.RecurPromptIdeal.nD Cert.RecurPromptIdeal.τ).loc Cert.RecurPromptIdeal.main_arg3))
      ∧ θ_run (Cert.StatePromptIdeal.defs (F := Ideal)) (onTc (τ := Cert.StatePromptIdeal.τ) (Cert.StatePromptIdeal.main (F := Ideal))) ⟨m', fun _ => 0, g'⟩ (fun r => ∀ c : Dev Cert.StatePromptIdeal.nD,
          r.2.mem ((c.tc : Thread Cert.StatePromptIdeal.nD Cert.StatePromptIdeal.τ).loc Cert.StatePromptIdeal.main_v165) = v0 c
          ∧ r.2.mem ((c.tc : Thread Cert.StatePromptIdeal.nD Cert.StatePromptIdeal.τ).loc Cert.StatePromptIdeal.main_arg0) = m' ((c.tc : Thread Cert.StatePromptIdeal.nD Cert.StatePromptIdeal.τ).loc Cert.StatePromptIdeal.main_arg0)
          ∧ r.2.mem ((c.tc : Thread Cert.StatePromptIdeal.nD Cert.StatePromptIdeal.τ).loc Cert.StatePromptIdeal.main_arg1) = m' ((c.tc : Thread Cert.StatePromptIdeal.nD Cert.StatePromptIdeal.τ).loc Cert.StatePromptIdeal.main_arg1)
          ∧ r.2.mem ((c.tc : Thread Cert.StatePromptIdeal.nD Cert.StatePromptIdeal.τ).loc Cert.StatePromptIdeal.main_arg2) = m' ((c.tc : Thread Cert.StatePromptIdeal.nD Cert.StatePromptIdeal.τ).loc Cert.StatePromptIdeal.main_arg2)
          ∧ r.2.mem ((c.tc : Thread Cert.StatePromptIdeal.nD Cert.StatePromptIdeal.τ).loc Cert.StatePromptIdeal.main_arg3) = m' ((c.tc : Thread Cert.StatePromptIdeal.nD Cert.StatePromptIdeal.τ).loc Cert.StatePromptIdeal.main_arg3))

def preserves_ExpertsShared_ExpertsSharedIdeal : Prop :=
  True

def algebraic_ExpertsSharedIdeal_SharedIdeal [hExpertsSharedIdeal : Cert.ExpertsSharedIdeal.Facts] [hSharedIdeal : Cert.SharedIdeal.Facts] : Prop :=
  ∀ (m : (ℓ : Loc Cert.ExpertsSharedIdeal.nD Cert.ExpertsSharedIdeal.τ Cert.ExpertsSharedIdeal.sig) → Buf (Elt Ideal) ℓ) (g : Dev Cert.ExpertsSharedIdeal.nD → PrngReg)
    (m' : (ℓ : Loc Cert.SharedIdeal.nD Cert.SharedIdeal.τ Cert.SharedIdeal.sig) → Buf (Elt Ideal) ℓ) (g' : Dev Cert.SharedIdeal.nD → PrngReg), Pre_ExpertsSharedIdeal m →
    (∀ c : Dev Cert.ExpertsSharedIdeal.nD,
      m' ((c.tc : Thread Cert.SharedIdeal.nD Cert.SharedIdeal.τ).loc Cert.SharedIdeal.main_arg0) = m ((c.tc : Thread Cert.ExpertsSharedIdeal.nD Cert.ExpertsSharedIdeal.τ).loc Cert.ExpertsSharedIdeal.main_arg0)
      ∧ m' ((c.tc : Thread Cert.SharedIdeal.nD Cert.SharedIdeal.τ).loc Cert.SharedIdeal.main_arg1) = m ((c.tc : Thread Cert.ExpertsSharedIdeal.nD Cert.ExpertsSharedIdeal.τ).loc Cert.ExpertsSharedIdeal.main_arg1)
      ∧ m' ((c.tc : Thread Cert.SharedIdeal.nD Cert.SharedIdeal.τ).loc Cert.SharedIdeal.main_arg2) = m ((c.tc : Thread Cert.ExpertsSharedIdeal.nD Cert.ExpertsSharedIdeal.τ).loc Cert.ExpertsSharedIdeal.main_arg2)
      ∧ m' ((c.tc : Thread Cert.SharedIdeal.nD Cert.SharedIdeal.τ).loc Cert.SharedIdeal.main_arg3) = m ((c.tc : Thread Cert.ExpertsSharedIdeal.nD Cert.ExpertsSharedIdeal.τ).loc Cert.ExpertsSharedIdeal.main_arg3)) →
    ∃ (v0 : (c : Dev Cert.ExpertsSharedIdeal.nD) → Buf (Elt Ideal) ((c.tc : Thread Cert.ExpertsSharedIdeal.nD Cert.ExpertsSharedIdeal.τ).loc Cert.ExpertsSharedIdeal.main_v40)),
      θ_run (Cert.ExpertsSharedIdeal.defs (F := Ideal)) (onTc (τ := Cert.ExpertsSharedIdeal.τ) (Cert.ExpertsSharedIdeal.main (F := Ideal))) ⟨m, fun _ => 0, g⟩ (fun r => ∀ c : Dev Cert.ExpertsSharedIdeal.nD,
          r.2.mem ((c.tc : Thread Cert.ExpertsSharedIdeal.nD Cert.ExpertsSharedIdeal.τ).loc Cert.ExpertsSharedIdeal.main_v40) = v0 c
          ∧ r.2.mem ((c.tc : Thread Cert.ExpertsSharedIdeal.nD Cert.ExpertsSharedIdeal.τ).loc Cert.ExpertsSharedIdeal.main_arg0) = m ((c.tc : Thread Cert.ExpertsSharedIdeal.nD Cert.ExpertsSharedIdeal.τ).loc Cert.ExpertsSharedIdeal.main_arg0)
          ∧ r.2.mem ((c.tc : Thread Cert.ExpertsSharedIdeal.nD Cert.ExpertsSharedIdeal.τ).loc Cert.ExpertsSharedIdeal.main_arg1) = m ((c.tc : Thread Cert.ExpertsSharedIdeal.nD Cert.ExpertsSharedIdeal.τ).loc Cert.ExpertsSharedIdeal.main_arg1)
          ∧ r.2.mem ((c.tc : Thread Cert.ExpertsSharedIdeal.nD Cert.ExpertsSharedIdeal.τ).loc Cert.ExpertsSharedIdeal.main_arg2) = m ((c.tc : Thread Cert.ExpertsSharedIdeal.nD Cert.ExpertsSharedIdeal.τ).loc Cert.ExpertsSharedIdeal.main_arg2)
          ∧ r.2.mem ((c.tc : Thread Cert.ExpertsSharedIdeal.nD Cert.ExpertsSharedIdeal.τ).loc Cert.ExpertsSharedIdeal.main_arg3) = m ((c.tc : Thread Cert.ExpertsSharedIdeal.nD Cert.ExpertsSharedIdeal.τ).loc Cert.ExpertsSharedIdeal.main_arg3))
      ∧ θ_run (Cert.SharedIdeal.defs (F := Ideal)) (onTc (τ := Cert.SharedIdeal.τ) (Cert.SharedIdeal.main (F := Ideal))) ⟨m', fun _ => 0, g'⟩ (fun r => ∀ c : Dev Cert.SharedIdeal.nD,
          r.2.mem ((c.tc : Thread Cert.SharedIdeal.nD Cert.SharedIdeal.τ).loc Cert.SharedIdeal.main_v11) = v0 c
          ∧ r.2.mem ((c.tc : Thread Cert.SharedIdeal.nD Cert.SharedIdeal.τ).loc Cert.SharedIdeal.main_arg0) = m' ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m' ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m' ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m' ((c.tc : Thread Cert.SharedIdeal.nD Cert.SharedIdeal.τ).loc Cert.SharedIdeal.main_arg3))

def Claim : Prop :=
  ∃ (hAttn : Cert.Attn.Facts) (hAttnIdeal : Cert.AttnIdeal.Facts) (hStickIdeal : Cert.StickIdeal.Facts) (hKProj : Cert.KProj.Facts) (hKProjIdeal : Cert.KProjIdeal.Facts) (hKeysIdeal : Cert.KeysIdeal.Facts) (hVProj : Cert.VProj.Facts) (hVProjIdeal : Cert.VProjIdeal.Facts) (hValuesIdeal : Cert.ValuesIdeal.Facts) (hHgIn : Cert.HgIn.Facts) (hHgInIdeal : Cert.HgInIdeal.Facts) (hGatesIdeal : Cert.GatesIdeal.Facts) (hQProj : Cert.QProj.Facts) (hQProjIdeal : Cert.QProjIdeal.Facts) (hQueriesIdeal : Cert.QueriesIdeal.Facts) (hSbOut : Cert.SbOut.Facts) (hSbOutIdeal : Cert.SbOutIdeal.Facts) (hMixedIdeal : Cert.MixedIdeal.Facts) (hKSample : Cert.KSample.Facts) (hKSampleIdeal : Cert.KSampleIdeal.Facts) (hKeysSampleIdeal : Cert.KeysSampleIdeal.Facts) (hVSample : Cert.VSample.Facts) (hVSampleIdeal : Cert.VSampleIdeal.Facts) (hValuesSampleIdeal : Cert.ValuesSampleIdeal.Facts) (hCombine : Cert.Combine.Facts) (hCombineIdeal : Cert.CombineIdeal.Facts) (hCombinedIdeal : Cert.CombinedIdeal.Facts) (hCombineSample : Cert.CombineSample.Facts) (hCombineSampleIdeal : Cert.CombineSampleIdeal.Facts) (hCombinedSampleIdeal : Cert.CombinedSampleIdeal.Facts) (hExperts : Cert.Experts.Facts) (hExpertsIdeal : Cert.ExpertsIdeal.Facts) (hRoutedIdeal : Cert.RoutedIdeal.Facts) (hRecur : Cert.Recur.Facts) (hRecurIdeal : Cert.RecurIdeal.Facts) (hStateIdeal : Cert.StateIdeal.Facts) (hRecurPrompt : Cert.RecurPrompt.Facts) (hRecurPromptIdeal : Cert.RecurPromptIdeal.Facts) (hStatePromptIdeal : Cert.StatePromptIdeal.Facts) (hExpertsShared : Cert.ExpertsShared.Facts) (hExpertsSharedIdeal : Cert.ExpertsSharedIdeal.Facts) (hSharedIdeal : Cert.SharedIdeal.Facts) (hPre_finite : Cert.Pre_finite.Facts) (hPre_in_use : Cert.Pre_in_use.Facts) (hPre_bounded : Cert.Pre_bounded.Facts) (hPre_bounded_prompt : Cert.Pre_bounded_prompt.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_StickIdeal (hStickIdeal := hStickIdeal)
    ∧ quiescent_StickIdeal_pre_finite (hStickIdeal := hStickIdeal) (hPre_finite := hPre_finite)
    ∧ quiescent_KProj (hKProj := hKProj)
    ∧ quiescent_KProjIdeal (hKProjIdeal := hKProjIdeal)
    ∧ quiescent_KeysIdeal (hKeysIdeal := hKeysIdeal)
    ∧ quiescent_VProj (hVProj := hVProj)
    ∧ quiescent_VProjIdeal (hVProjIdeal := hVProjIdeal)
    ∧ quiescent_ValuesIdeal (hValuesIdeal := hValuesIdeal)
    ∧ quiescent_HgIn (hHgIn := hHgIn)
    ∧ quiescent_HgInIdeal (hHgInIdeal := hHgInIdeal)
    ∧ quiescent_GatesIdeal (hGatesIdeal := hGatesIdeal)
    ∧ quiescent_QProj (hQProj := hQProj)
    ∧ quiescent_QProjIdeal (hQProjIdeal := hQProjIdeal)
    ∧ quiescent_QueriesIdeal (hQueriesIdeal := hQueriesIdeal)
    ∧ quiescent_SbOut (hSbOut := hSbOut)
    ∧ quiescent_SbOutIdeal (hSbOutIdeal := hSbOutIdeal)
    ∧ quiescent_MixedIdeal (hMixedIdeal := hMixedIdeal)
    ∧ quiescent_KSample (hKSample := hKSample)
    ∧ quiescent_KSampleIdeal (hKSampleIdeal := hKSampleIdeal)
    ∧ quiescent_KeysSampleIdeal (hKeysSampleIdeal := hKeysSampleIdeal)
    ∧ quiescent_VSample (hVSample := hVSample)
    ∧ quiescent_VSampleIdeal (hVSampleIdeal := hVSampleIdeal)
    ∧ quiescent_ValuesSampleIdeal (hValuesSampleIdeal := hValuesSampleIdeal)
    ∧ quiescent_Combine (hCombine := hCombine)
    ∧ quiescent_CombineIdeal (hCombineIdeal := hCombineIdeal)
    ∧ quiescent_CombinedIdeal (hCombinedIdeal := hCombinedIdeal)
    ∧ quiescent_CombineSample (hCombineSample := hCombineSample)
    ∧ quiescent_CombineSampleIdeal (hCombineSampleIdeal := hCombineSampleIdeal)
    ∧ quiescent_CombinedSampleIdeal (hCombinedSampleIdeal := hCombinedSampleIdeal)
    ∧ quiescent_Experts (hExperts := hExperts) (hPre_in_use := hPre_in_use)
    ∧ quiescent_ExpertsIdeal (hExpertsIdeal := hExpertsIdeal) (hPre_in_use := hPre_in_use)
    ∧ quiescent_RoutedIdeal (hRoutedIdeal := hRoutedIdeal)
    ∧ quiescent_RoutedIdeal_pre_in_use (hRoutedIdeal := hRoutedIdeal) (hPre_in_use := hPre_in_use)
    ∧ quiescent_Recur (hRecur := hRecur)
    ∧ quiescent_RecurIdeal (hRecurIdeal := hRecurIdeal)
    ∧ quiescent_RecurIdeal_pre_bounded (hRecurIdeal := hRecurIdeal) (hPre_bounded := hPre_bounded)
    ∧ quiescent_StateIdeal (hStateIdeal := hStateIdeal)
    ∧ quiescent_StateIdeal_pre_bounded (hStateIdeal := hStateIdeal) (hPre_bounded := hPre_bounded)
    ∧ quiescent_RecurPrompt (hRecurPrompt := hRecurPrompt)
    ∧ quiescent_RecurPromptIdeal (hRecurPromptIdeal := hRecurPromptIdeal)
    ∧ quiescent_RecurPromptIdeal_pre_bounded_prompt (hRecurPromptIdeal := hRecurPromptIdeal) (hPre_bounded_prompt := hPre_bounded_prompt)
    ∧ quiescent_StatePromptIdeal (hStatePromptIdeal := hStatePromptIdeal)
    ∧ quiescent_StatePromptIdeal_pre_bounded_prompt (hStatePromptIdeal := hStatePromptIdeal) (hPre_bounded_prompt := hPre_bounded_prompt)
    ∧ quiescent_ExpertsShared (hExpertsShared := hExpertsShared)
    ∧ quiescent_ExpertsSharedIdeal (hExpertsSharedIdeal := hExpertsSharedIdeal)
    ∧ quiescent_SharedIdeal (hSharedIdeal := hSharedIdeal)
    ∧ preserves_Attn_AttnIdeal
    ∧ algebraic_AttnIdeal_StickIdeal_pre_finite (hAttnIdeal := hAttnIdeal) (hStickIdeal := hStickIdeal) (hPre_finite := hPre_finite)
    ∧ preserves_KProj_KProjIdeal
    ∧ algebraic_KProjIdeal_KeysIdeal (hKProjIdeal := hKProjIdeal) (hKeysIdeal := hKeysIdeal)
    ∧ preserves_VProj_VProjIdeal
    ∧ algebraic_VProjIdeal_ValuesIdeal (hVProjIdeal := hVProjIdeal) (hValuesIdeal := hValuesIdeal)
    ∧ preserves_HgIn_HgInIdeal
    ∧ algebraic_HgInIdeal_GatesIdeal (hHgInIdeal := hHgInIdeal) (hGatesIdeal := hGatesIdeal)
    ∧ preserves_QProj_QProjIdeal
    ∧ algebraic_QProjIdeal_QueriesIdeal (hQProjIdeal := hQProjIdeal) (hQueriesIdeal := hQueriesIdeal)
    ∧ preserves_SbOut_SbOutIdeal
    ∧ algebraic_SbOutIdeal_MixedIdeal (hSbOutIdeal := hSbOutIdeal) (hMixedIdeal := hMixedIdeal)
    ∧ preserves_KSample_KSampleIdeal
    ∧ algebraic_KSampleIdeal_KeysSampleIdeal (hKSampleIdeal := hKSampleIdeal) (hKeysSampleIdeal := hKeysSampleIdeal)
    ∧ preserves_VSample_VSampleIdeal
    ∧ algebraic_VSampleIdeal_ValuesSampleIdeal (hVSampleIdeal := hVSampleIdeal) (hValuesSampleIdeal := hValuesSampleIdeal)
    ∧ preserves_Combine_CombineIdeal
    ∧ algebraic_CombineIdeal_CombinedIdeal (hCombineIdeal := hCombineIdeal) (hCombinedIdeal := hCombinedIdeal)
    ∧ preserves_CombineSample_CombineSampleIdeal
    ∧ algebraic_CombineSampleIdeal_CombinedSampleIdeal (hCombineSampleIdeal := hCombineSampleIdeal) (hCombinedSampleIdeal := hCombinedSampleIdeal)
    ∧ preserves_Experts_ExpertsIdeal
    ∧ algebraic_ExpertsIdeal_RoutedIdeal (hExpertsIdeal := hExpertsIdeal) (hRoutedIdeal := hRoutedIdeal) (hPre_in_use := hPre_in_use)
    ∧ preserves_Recur_RecurIdeal
    ∧ algebraic_RecurIdeal_StateIdeal_pre_bounded (hRecurIdeal := hRecurIdeal) (hStateIdeal := hStateIdeal) (hPre_bounded := hPre_bounded)
    ∧ preserves_RecurPrompt_RecurPromptIdeal
    ∧ algebraic_RecurPromptIdeal_StatePromptIdeal_pre_bounded_prompt (hRecurPromptIdeal := hRecurPromptIdeal) (hStatePromptIdeal := hStatePromptIdeal) (hPre_bounded_prompt := hPre_bounded_prompt)
    ∧ preserves_ExpertsShared_ExpertsSharedIdeal
    ∧ algebraic_ExpertsSharedIdeal_SharedIdeal (hExpertsSharedIdeal := hExpertsSharedIdeal) (hSharedIdeal := hSharedIdeal)
-- ==== Pre_bounded.lean ====
abbrev S32x8192 : Shape := ⟨2, ![32, 8192]⟩
abbrev S2048 : Shape := ⟨1, ![2048]⟩
abbrev S8x16x128x128 : Shape := ⟨4, ![8, 16, 128, 128]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S32x8192 .f32) (main_arg1 : FVec F S2048 .f32) (main_arg2 : FVec F S2048 .f32) (main_arg3 : FVec F S8x16x128x128 .f32) : IVec S2048 1 :=
  let main_cst : FVec F S_ .f32 := constant S_ .f32 0x7F800000#32
  let main_v0 : FVec F S2048 .f32 := broadcastInDim S2048 ![] bcast_S_S2048 main_cst
  let main_v1 : IVec S2048 1 := cmpf .olt main_arg1 main_v0
  main_v1
-- ==== Pre_bounded_prompt.lean ====
abbrev S8192x8192 : Shape := ⟨2, ![8192, 8192]⟩
abbrev S2048 : Shape := ⟨1, ![2048]⟩
abbrev S4x16x128x128 : Shape := ⟨4, ![4, 16, 128, 128]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S8192x8192 .f32) (main_arg1 : FVec F S2048 .f32) (main_arg2 : FVec F S2048 .f32) (main_arg3 : FVec F S4x16x128x128 .f32) : IVec S2048 1 :=
  let main_cst : FVec F S_ .f32 := constant S_ .f32 0x7F800000#32
  let main_v0 : FVec F S2048 .f32 := broadcastInDim S2048 ![] bcast_S_S2048 main_cst
  let main_v1 : IVec S2048 1 := cmpf .olt main_arg1 main_v0
  main_v1
-- ==== Pre_finite.lean ====
abbrev S4x2048x16x128 : Shape := ⟨4, ![4, 2048, 16, 128]⟩
abbrev S16 : Shape := ⟨1, ![16]⟩
abbrev S_ : Shape := ⟨0, ![]⟩

class Facts : Prop where
  bcast_S_S4x2048x16x128 : S_.BroadcastsInDim S4x2048x16x128 (![] : Fin 0 → Fin S4x2048x16x128.rank)
  bcast_S_S16 : S_.BroadcastsInDim S16 (![] : Fin 0 → Fin S16.rank)

variable [Facts]

def fn {F : FTy → Type} [FloatOps F] (main_arg0 : FVec F S4x2048x16x128 .f32) (main_arg1 : FVec F S4x2048x16x128 .f32) (main_arg2 : FVec F S4x2048x16x128 .f32) (main_arg3 : FVec F S16 .f32) : IVec S4x2048x16x128 1 × IVec S4x2048x16x128 1 × IVec S16 1 :=
  let main_v0 : FVec F S4x2048x16x128 .f32 := Host.absf main_arg0
  let main_cst : FVec F S_ .f32 := constant S_ .f32 0x7F800000#32
  let main_v1 : FVec F S4x2048x16x128 .f32 := broadcastInDim S4x2048x16x128 ![] bcast_S_S4x2048x16x128 main_cst
  let main_v2 : IVec S4x2048x16x128 1 := cmpf .olt main_v0 main_v1
  let main_v3 : FVec F S4x2048x16x128 .f32 := Host.absf main_arg1
  let main_cst_0 : FVec F S_ .f32 := constant S_ .f32 0x7F800000#32
  let main_v4 : FVec F S4x2048x16x128 .f32 := broadcastInDim S4x2048x16x128 ![] bcast_S_S4x2048x16x128 main_cst_0
  let main_v5 : IVec S4x2048x16x128 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Pre_in_use.lean ====
abbrev S98816x2048 : Shape := ⟨2, ![98816, 2048]⟩
abbrev S193 : Shape := ⟨1, ![193]⟩
abbrev S1 : Shape := ⟨1, ![1]⟩
abbrev S2x64x2048x512 : Shape := ⟨4, ![2, 64, 2048, 512]⟩
abbrev S2x64x512x2048 : Shape := ⟨4, ![2, 64, 512, 2048]⟩
abbrev S_ : Shape := ⟨0, ![]⟩

class Facts : Prop where
  bcast_S_S1 : S_.BroadcastsInDim S1 (![] : Fin 0 → Fin S1.rank)
  bcast_S_S193 : S_.BroadcastsInDim S193 (![] : Fin 0 → Fin S193.rank)

variable [Facts]

def fn {F : FTy → Type} [FloatOps F] (main_arg0 : FVec F S98816x2048 .bf16) (main_arg1 : IVec S193 32) (main_arg2 : IVec S1 32) (main_arg3 : FVec F S2x64x2048x512 .f32) (main_arg4 : FVec F S2x64x2048x512 .f32) (main_arg5 : FVec F S2x64x512x2048 .f32) : IVec S1 1 × IVec S193 1 × IVec S193 1 :=
  let main_c : IVec S_ 32 := constantI S_ 32 1#32
  let main_v0 : IVec S1 32 := broadcastInDim S1 ![] bcast_S_S1 main_c
  let main_v1 : IVec S1 1 := cmpi .sge main_arg2 main_v0
  let main_c_0 : IVec S_ 32 := constantI S_ 32 0#32
  let main_v2 : IVec S193 32 := broadcastInDim S193 ![] bcast_S_S193 main_c_0
  let main_v3 : IVec S193 1 := cmpi .sge main_arg1 main_v2
  let main_c_1 : IVec S_ 32 := constantI S_ 32 64#32
  let main_v4 : IVec S193 32 := broadcastInDim S193 ![] bcast_S_S193 main_c_1
  let main_v5 : IVec S193 1 := cmpi .slt main_arg1 main_v4
  (main_v1, main_v3, main_v5)
-- ==== Attn.lean ====
abbrev S4x2048x16x128 : Shape := ⟨4, ![4, 2048, 16, 128]⟩
abbrev S16 : Shape := ⟨1, ![16]⟩
abbrev S256x256 : Shape := ⟨2, ![256, 256]⟩
abbrev S8192x2048 : Shape := ⟨2, ![8192, 2048]⟩
abbrev S512x128 : Shape := ⟨2, ![512, 128]⟩
abbrev S2048x128 : Shape := ⟨2, ![2048, 128]⟩
abbrev S1 : Shape := ⟨1, ![1]⟩
abbrev S512x256 : Shape := ⟨2, ![512, 256]⟩
abbrev S512x1 : Shape := ⟨2, ![512, 1]⟩
abbrev S256x128 : Shape := ⟨2, ![256, 128]⟩
abbrev S512 : Shape := ⟨1, ![512]⟩
abbrev S1024x256 : Shape := ⟨2, ![1024, 256]⟩
abbrev S1024 : Shape := ⟨1, ![1024]⟩
abbrev S1024x1 : Shape := ⟨2, ![1024, 1]⟩

abbrev nBuf : Space → Nat
  | .hbm => 9
  | .vmem => 9
  | .smem => 1
  | _ => 0

abbrev bufTy : (tb : Table) → Fin (tcTables nBuf tb) → BufTy
  | .hbm, ⟨0, _⟩ => ⟨S4x2048x16x128, .f32⟩
  | .hbm, ⟨1, _⟩ => ⟨S4x2048x16x128, .f32⟩
  | .hbm, ⟨2, _⟩ => ⟨S4x2048x16x128, .f32⟩
  | .hbm, ⟨3, _⟩ => ⟨S16, .f32⟩
  | .hbm, ⟨4, _⟩ => ⟨S256x256, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | .local _ .vmem, ⟨0, _⟩ => ⟨S512x128, .f32⟩
  | .local _ .vmem, ⟨1, _⟩ => ⟨S512x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x256, .bf16⟩
  | .local _ .vmem, ⟨7, _⟩ => ⟨S512x128, .bf16⟩
  | .local _ .vmem, ⟨8, _⟩ => ⟨S512x128, .bf16⟩
  | .local _ .smem, ⟨0, _⟩ => ⟨S16, .f32⟩
  | _, _ => ⟨S4x2048x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 16, 4], ![false, false, false]⟩

def k0_off1 (i : grid0.Coords) : Fin 1 → Nat :=
  let arg1 : BitVec 32 := BitVec.ofNat 32 (i 1).val
  let v0 : Index := Scalar.indexCast arg1
  ![v0.toNat]
def k0_mult1 (i : grid0.Coords) : BitVec 32 :=
  let arg2 : BitVec 32 := BitVec.ofNat 32 (i 2).val
  let c2_i32 : BitVec 32 := 2#32
  let v11 : BitVec 32 := Scalar.muli arg2 c2_i32
  let c1_i32 : BitVec 32 := 1#32
  let v12 : BitVec 32 := Scalar.addi v11 c1_i32
  let c256_i32_5 : BitVec 32 := 256#32
  let v16 : BitVec 32 := Scalar.muli v12 c256_i32_5
  v16
def k0_off2 (i : grid0.Coords) (c1_i32 : BitVec 32) : Fin 2 → Nat :=
  let arg2 : BitVec 32 := BitVec.ofNat 32 (i 2).val
  let c2_i32 : BitVec 32 := 2#32
  let v11 : BitVec 32 := Scalar.muli arg2 c2_i32
  let v12 : BitVec 32 := Scalar.addi v11 c1_i32
  let c256_i32_5 : BitVec 32 := 256#32
  let v16 : BitVec 32 := Scalar.muli v12 c256_i32_5
  let v17 : BitVec 32 := v16
  let v18 : Index := Scalar.indexCast v17
  let c0_6 : Index := 0#32
  ![v18.toNat, 0]
def k0_mult2 (i : grid0.Coords) : BitVec 32 :=
  let arg2 : BitVec 32 := BitVec.ofNat 32 (i 2).val
  let c2_i32_20 : BitVec 32 := 2#32
  let v65 : BitVec 32 := Scalar.muli arg2 c2_i32_20
  let c0_i32 : BitVec 32 := 0#32
  let v66 : BitVec 32 := Scalar.addi v65 c0_i32
  let c256_i32_22 : BitVec 32 := 256#32
  let v70 : BitVec 32 := Scalar.muli v66 c256_i32_22
  v70
@[reducible] def k0_t1_loop (i : grid0.Coords) : Scf.Loop 32 :=
  let c0_i32_37 : BitVec 32 := 0#32
  let arg2 : BitVec 32 := BitVec.ofNat 32 (i 2).val
  let v119 : BitVec 32 := Scalar.subi arg2 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_39 : BitVec 32 := 1#32
  ⟨c0_i32_37, v123, c1_i32_39⟩
def k0_mult3 (i : grid0.Coords) (k0_t1 : Fin (k0_t1_loop i).trips) : BitVec 32 :=
  let arg2 : BitVec 32 := BitVec.ofNat 32 (i 2).val
  let c0_i32_37 : BitVec 32 := 0#32
  let c1_i32_39 : BitVec 32 := 1#32
  let arg9 : BitVec 32 := Scf.iv c0_i32_37 c1_i32_39 k0_t1
  let v128 : BitVec 32 := Scalar.subi arg2 arg9
  let c2_i32_43 : BitVec 32 := 2#32
  let v129 : BitVec 32 := Scalar.muli v128 c2_i32_43
  let c1_i32_44 : BitVec 32 := 1#32
  let v130 : BitVec 32 := Scalar.subi v129 c1_i32_44
  let c0_i32_45 : BitVec 32 := 0#32
  let v131 : BitVec 32 := Scalar.subi v130 c0_i32_45
  let c256_i32_46 : BitVec 32 := 256#32
  let v132 : BitVec 32 := Scalar.muli v131 c256_i32_46
  v132
def k0_off3 (i : grid0.Coords) (k0_t1 : Fin (k0_t1_loop i).trips) (c0_i32_45 : BitVec 32) : Fin 2 → Nat :=
  let arg2 : BitVec 32 := BitVec.ofNat 32 (i 2).val
  let c0_i32_37 : BitVec 32 := 0#32
  let c1_i32_39 : BitVec 32 := 1#32
  let arg9 : BitVec 32 := Scf.iv c0_i32_37 c1_i32_39 k0_t1
  let v128 : BitVec 32 := Scalar.subi arg2 arg9
  let c2_i32_43 : BitVec 32 := 2#32
  let v129 : BitVec 32 := Scalar.muli v128 c2_i32_43
  let c1_i32_44 : BitVec 32 := 1#32
  let v130 : BitVec 32 := Scalar.subi v129 c1_i32_44
  let v131 : BitVec 32 := Scalar.subi v130 c0_i32_45
  let c256_i32_46 : BitVec 32 := 256#32
  let v132 : BitVec 32 := Scalar.muli v131 c256_i32_46
  let v133 : BitVec 32 := v132
  let v134 : Index := Scalar.indexCast v133
  let c0_47 : Index := 0#32
  ![v134.toNat, 0]
def k0_mult4 (i : grid0.Coords) (k0_t1 : Fin (k0_t1_loop i).trips) : BitVec 32 :=
  let arg2 : BitVec 32 := BitVec.ofNat 32 (i 2).val
  let c0_i32_37 : BitVec 32 := 0#32
  let c1_i32_39 : BitVec 32 := 1#32
  let arg9 : BitVec 32 := Scf.iv c0_i32_37 c1_i32_39 k0_t1
  let v147 : BitVec 32 := Scalar.subi arg2 arg9
  let c2_i32_51 : BitVec 32 := 2#32
  let v148 : BitVec 32 := Scalar.muli v147 c2_i32_51
  let c1_i32_52 : BitVec 32 := 1#32
  let v149 : BitVec 32 := Scalar.subi v148 c1_i32_52
  let c1_i32_53 : BitVec 32 := 1#32
  let v150 : BitVec 32 := Scalar.subi v149 c1_i32_53
  let c256_i32_54 : BitVec 32 := 256#32
  let v151 : BitVec 32 := Scalar.muli v150 c256_i32_54
  v151
@[reducible] def k0_t2_loop (i : grid0.Coords) : Scf.Loop 32 :=
  let c0_i32_37 : BitVec 32 := 0#32
  let arg2 : BitVec 32 := BitVec.ofNat 32 (i 2).val
  let v119 : BitVec 32 := Scalar.subi arg2 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let v120 : BitVec 32 := Scalar.addi c0_i32_37 v119
  let c1_i32_40 : BitVec 32 := 1#32
  ⟨v123, v120, c1_i32_40⟩
def k0_mult5 (i : grid0.Coords) (k0_t2 : Fin (k0_t2_loop i).trips) : BitVec 32 :=
  let arg2 : BitVec 32 := BitVec.ofNat 32 (i 2).val
  let c0_i32_37 : BitVec 32 := 0#32
  let v119 : BitVec 32 := Scalar.subi arg2 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg9 : BitVec 32 := Scf.iv v123 c1_i32_40 k0_t2
  let v128 : BitVec 32 := Scalar.subi arg2 arg9
  let c2_i32_43 : BitVec 32 := 2#32
  let v129 : BitVec 32 := Scalar.muli v128 c2_i32_43
  let c1_i32_44 : BitVec 32 := 1#32
  let v130 : BitVec 32 := Scalar.subi v129 c1_i32_44
  let c0_i32_45 : BitVec 32 := 0#32
  let v131 : BitVec 32 := Scalar.subi v130 c0_i32_45
  let c256_i32_46 : BitVec 32 := 256#32
  let v132 : BitVec 32 := Scalar.muli v131 c256_i32_46
  v132
def k0_off4 (i : grid0.Coords) (k0_t2 : Fin (k0_t2_loop i).trips) (c0_i32_45 : BitVec 32) : Fin 2 → Nat :=
  let arg2 : BitVec 32 := BitVec.ofNat 32 (i 2).val
  let c0_i32_37 : BitVec 32 := 0#32
  let v119 : BitVec 32 := Scalar.subi arg2 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg9 : BitVec 32 := Scf.iv v123 c1_i32_40 k0_t2
  let v128 : BitVec 32 := Scalar.subi arg2 arg9
  let c2_i32_43 : BitVec 32 := 2#32
  let v129 : BitVec 32 := Scalar.muli v128 c2_i32_43
  let c1_i32_44 : BitVec 32 := 1#32
  let v130 : BitVec 32 := Scalar.subi v129 c1_i32_44
  let v131 : BitVec 32 := Scalar.subi v130 c0_i32_45
  let c256_i32_46 : BitVec 32 := 256#32
  let v132 : BitVec 32 := Scalar.muli v131 c256_i32_46
  let v133 : BitVec 32 := v132
  let v134 : Index := Scalar.indexCast v133
  let c0_47 : Index := 0#32
  ![v134.toNat, 0]
def k0_mult6 (i : grid0.Coords) (k0_t2 : Fin (k0_t2_loop i).trips) : BitVec 32 :=
  let arg2 : BitVec 32 := BitVec.ofNat 32 (i 2).val
  let c0_i32_37 : BitVec 32 := 0#32
  let v119 : BitVec 32 := Scalar.subi arg2 c0_i32_37
  let c1_i32_38 : BitVec 32 := 1#32
  let v121 : BitVec 32 := Scalar.divsi v119 c1_i32_38
  let v122 : BitVec 32 := Scalar.muli v121 c1_i32_38
  let v123 : BitVec 32 := Scalar.addi c0_i32_37 v122
  let c1_i32_40 : BitVec 32 := 1#32
  let arg9 : BitVec 32 := Scf.iv v123 c1_i32_40 k0_t2
  let v147 : BitVec 32 := Scalar.subi arg2 arg9
  let c2_i32_51 : BitVec 32 := 2#32
  let v148 : BitVec 32 := Scalar.muli v147 c2_i32_51
  let c1_i32_52 : BitVec 32 := 1#32
  let v149 : BitVec 32 := Scalar.subi v148 c1_i32_52
  let c1_i32_53 : BitVec 32 := 1#32
  let v150 : BitVec 32 := Scalar.subi v149 c1_i32_53
  let c256_i32_54 : BitVec 32 := 256#32
  let v151 : BitVec 32 := Scalar.muli v150 c256_i32_54
  v151
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "log2e" => some (((Real.log 2)⁻¹ : ℝ) : EReal)
  | "scale_log2e" => some (((Real.log 2)⁻¹ * (Real.sqrt 128)⁻¹ : ℝ) : EReal)
  | _ => none
-- ==== StickIdeal.lean ====
abbrev S4x2048x16x128 : Shape := ⟨4, ![4, 2048, 16, 128]⟩
abbrev S16 : Shape := ⟨1, ![16]⟩
abbrev S4x16x2048x2048 : Shape := ⟨4, ![4, 16, 2048, 2048]⟩
abbrev S_ : Shape := ⟨0, ![]⟩
abbrev S1x16x1x1 : Shape := ⟨4, ![1, 16, 1, 1]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S4x16x128x2048 : Shape := ⟨4, ![4, 16, 128, 2048]⟩
abbrev S8192x2048 : Shape := ⟨2, ![8192, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x16x128, .f32⟩
  | .hbm, ⟨1, _⟩ => ⟨S4x2048x16x128, .f32⟩
  | .hbm, ⟨2, _⟩ => ⟨S4x2048x16x128, .f32⟩
  | .hbm, ⟨3, _⟩ => ⟨S16, .f32⟩
  | .hbm, ⟨4, _⟩ => ⟨S4x16x2048x2048, .f32⟩
  | .hbm, ⟨5, _⟩ => ⟨S_, .f32⟩
  | .hbm, ⟨6, _⟩ => ⟨S_, .f32⟩
  | .hbm, ⟨7, _⟩ => ⟨S4x16x2048x2048, .f32⟩
  | .hbm, ⟨8, _⟩ => ⟨S4x16x2048x2048, .f32⟩
  | .hbm, ⟨9, _⟩ => ⟨S1x16x1x1, .f32⟩
  | .hbm, ⟨10, _⟩ => ⟨S4x16x2048x2048, .f32⟩
  | .hbm, ⟨11, _⟩ => ⟨S4x16x2048x2048, .f32⟩
  | .hbm, ⟨12, _⟩ => ⟨S2048, .i32⟩
  | .hbm, ⟨13, _⟩ => ⟨S1x2048, .i32⟩
  | .hbm, ⟨14, _⟩ => ⟨S2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S4x16x2048x2048, .f32⟩
  | .hbm, ⟨20, _⟩ => ⟨S4x16x2048x2048, .f32⟩
  | .hbm, ⟨21, _⟩ => ⟨S_, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S_, .f32⟩
  | .hbm, ⟨37, _⟩ => ⟨S_, .f32⟩
  | .hbm, ⟨38, _⟩ => ⟨S4x16x2048x2048, .i1⟩
  | .hbm, ⟨39, _⟩ => ⟨S4x16x2048x2048, .f32⟩
  | .hbm, ⟨40, _⟩ => ⟨S4x16x2048x2048, .f32⟩
  | .hbm, ⟨41, _⟩ => ⟨S_, .f32⟩
  | .hbm, ⟨42, _⟩ => ⟨S_, .f32⟩
  | .hbm, ⟨43, _⟩ => ⟨S4x16x2048x2048, .f32⟩
  | .hbm, ⟨44, _⟩ => ⟨S4x16x2048x2048, .f32⟩
  | .hbm, ⟨45, _⟩ => ⟨S4x16x2048x2048, .f32⟩
  | .hbm, ⟨46, _⟩ => ⟨S_, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .i1⟩
  | .hbm, ⟨52, _⟩ => ⟨S4x16x2048x2048, .f32⟩
  | .hbm, ⟨53, _⟩ => ⟨S4x16x2048x2048, .f32⟩
  | .hbm, ⟨54, _⟩ => ⟨S4x16x2048x2048, .f32⟩
  | .hbm, ⟨55, _⟩ => ⟨S4x16x2048x2048, .f32⟩
  | .hbm, ⟨56, _⟩ => ⟨S4x16x2048x2048, .f32⟩
  | .hbm, ⟨57, _⟩ => ⟨S4x16x2048x2048, .f32⟩
  | .hbm, ⟨58, _⟩ => ⟨S4x16x2048x2048, .f32⟩
  | .hbm, ⟨59, _⟩ => ⟨S4x16x2048x2048, .f32⟩
  | .hbm, ⟨60, _⟩ => ⟨S4x16x2048x2048, .f32⟩
  | .hbm, ⟨61, _⟩ => ⟨S4x16x2048x2048, .f32⟩
  | .hbm, ⟨62, _⟩ => ⟨S4x16x2048x2048, .f32⟩
  | .hbm, ⟨63, _⟩ => ⟨S_, .f32⟩
  | .hbm, ⟨64, _⟩ => ⟨S_, .f32⟩
  | .hbm, ⟨65, _⟩ => ⟨S4x16x2048x2048, .i1⟩
  | .hbm, ⟨66, _⟩ => ⟨S4x16x2048x2048, .f32⟩
  | .hbm, ⟨67, _⟩ => ⟨S4x16x2048x2048, .f32⟩
  | .hbm, ⟨68, _⟩ => ⟨S4x16x128x2048, .f32⟩
  | .hbm, ⟨69, _⟩ => ⟨S4x2048x16x128, .f32⟩
  | .hbm, ⟨70, _⟩ => ⟨S8192x2048, .f32⟩
  | .hbm, ⟨71, _⟩ => ⟨S8192x2048, .bf16⟩
  | _, _ => ⟨S4x2048x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v15 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v16 : Ref sig .tc := ⟨.hbm, 40, rfl⟩
abbrev main_call2_cst : Ref sig .tc := ⟨.hbm, 41, rfl⟩
abbrev main_call2_v0 : Ref sig .tc := ⟨.hbm, 42, rfl⟩
abbrev main_v17 : Ref sig .tc := ⟨.hbm, 43, rfl⟩
abbrev main_v18 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩

abbrev nD : Nat := 1
abbrev τ : Topo := Topo.v7x

variable {F : FTy → Type} [FloatOps F]
-- ==== KProj.lean ====
abbrev S8192x2048 : Shape := ⟨2, ![8192, 2048]⟩
abbrev S2048x4096 : Shape := ⟨2, ![2048, 4096]⟩
abbrev S128 : Shape := ⟨1, ![128]⟩
abbrev S1x128 : Shape := ⟨2, ![1, 128]⟩
abbrev S1024x2048 : Shape := ⟨2, ![1024, 2048]⟩
abbrev S2048x1024 : Shape := ⟨2, ![2048, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S128, .f32⟩
  | .hbm, ⟨3, _⟩ => ⟨S1x128, .f32⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KeysIdeal.lean ====
abbrev S8192x2048 : Shape := ⟨2, ![8192, 2048]⟩
abbrev S2048x4096 : Shape := ⟨2, ![2048, 4096]⟩
abbrev S128 : Shape := ⟨1, ![128]⟩
abbrev S8192x4096 : Shape := ⟨2, ![8192, 4096]⟩
abbrev S4x2048x16x128 : Shape := ⟨4, ![4, 2048, 16, 128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S128, .f32⟩
  | .hbm, ⟨3, _⟩ => ⟨S8192x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S4x2048x16x128, .f32⟩
  | .hbm, ⟨8, _⟩ => ⟨S4x2048x16x128, .f32⟩
  | .hbm, ⟨9, _⟩ => ⟨S_, .f32⟩
  | .hbm, ⟨10, _⟩ => ⟨S4x2048x16, .f32⟩
  | .hbm, ⟨11, _⟩ => ⟨S4x2048x16x1, .f32⟩
  | .hbm, ⟨12, _⟩ => ⟨S_, .f32⟩
  | .hbm, ⟨13, _⟩ => ⟨S4x2048x16x1, .f32⟩
  | .hbm, ⟨14, _⟩ => ⟨S4x2048x16x1, .f32⟩
  | .hbm, ⟨15, _⟩ => ⟨S_, .f32⟩
  | .hbm, ⟨16, _⟩ => ⟨S4x2048x16x1, .f32⟩
  | .hbm, ⟨17, _⟩ => ⟨S4x2048x16x1, .f32⟩
  | .hbm, ⟨18, _⟩ => ⟨S4x2048x16x1, .f32⟩
  | .hbm, ⟨19, _⟩ => ⟨S4x2048x16x128, .f32⟩
  | .hbm, ⟨20, _⟩ => ⟨S4x2048x16x128, .f32⟩
  | .hbm, ⟨21, _⟩ => ⟨S1x1x1x128, .f32⟩
  | .hbm, ⟨22, _⟩ => ⟨S4x2048x16x128, .f32⟩
  | .hbm, ⟨23, _⟩ => ⟨S4x2048x16x128, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== VProj.lean ====
abbrev S8192x2048 : Shape := ⟨2, ![8192, 2048]⟩
abbrev S2048x4096 : Shape := ⟨2, ![2048, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S8192x2048, .f32⟩
  | .hbm, ⟨3, _⟩ => ⟨S8192x4096, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== HgIn.lean ====
abbrev S8192x2048 : Shape := ⟨2, ![8192, 2048]⟩
abbrev S1x2048x8192 : Shape := ⟨3, ![1, 2048, 8192]⟩
abbrev S8192x8192 : Shape := ⟨2, ![8192, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GatesIdeal.lean ====
abbrev S8192x2048 : Shape := ⟨2, ![8192, 2048]⟩
abbrev S1x2048x8192 : Shape := ⟨3, ![1, 2048, 8192]⟩
abbrev S2048x8192 : Shape := ⟨2, ![2048, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x8192, .f32⟩
  | .hbm, ⟨2, _⟩ => ⟨S8192x2048, .f32⟩
  | .hbm, ⟨3, _⟩ => ⟨S2048x8192, .f32⟩
  | .hbm, ⟨4, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QProj.lean ====
abbrev S8192x2048 : Shape := ⟨2, ![8192, 2048]⟩
abbrev S1x2048x2048 : Shape := ⟨3, ![1, 2048, 2048]⟩
abbrev S1x128 : Shape := ⟨2, ![1, 128]⟩
abbrev S128 : Shape := ⟨1, ![128]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x128, .f32⟩
  | .hbm, ⟨3, _⟩ => ⟨S128, .f32⟩
  | .hbm, ⟨4, _⟩ => ⟨S1x128, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x128, .f32⟩
  | .local _ .vmem, ⟨5, _⟩ => ⟨S1024x1024, .f32⟩
  | .local _ .vmem, ⟨6, _⟩ => ⟨S1024x1024, .f32⟩
  | .local _ .vmem, ⟨7, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QueriesIdeal.lean ====
abbrev S8192x2048 : Shape := ⟨2, ![8192, 2048]⟩
abbrev S1x2048x2048 : Shape := ⟨3, ![1, 2048, 2048]⟩
abbrev S1x128 : Shape := ⟨2, ![1, 128]⟩
abbrev S2048x2048 : Shape := ⟨2, ![2048, 2048]⟩
abbrev S4x2048x16x128 : Shape := ⟨4, ![4, 2048, 16, 128]⟩
abbrev S128 : Shape := ⟨1, ![128]⟩
abbrev S_ : Shape := ⟨0, ![]⟩
abbrev S4x2048x16 : Shape := ⟨3, ![4, 2048, 16]⟩
abbrev S4x2048x16x1 : Shape := ⟨4, ![4, 2048, 16, 1]⟩
abbrev S1x1x1x128 : Shape := ⟨4, ![1, 1, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S1x128, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S4x2048x16x128, .f32⟩
  | .hbm, ⟨7, _⟩ => ⟨S128, .f32⟩
  | .hbm, ⟨8, _⟩ => ⟨S4x2048x16x128, .f32⟩
  | .hbm, ⟨9, _⟩ => ⟨S_, .f32⟩
  | .hbm, ⟨10, _⟩ => ⟨S4x2048x16, .f32⟩
  | .hbm, ⟨11, _⟩ => ⟨S4x2048x16x1, .f32⟩
  | .hbm, ⟨12, _⟩ => ⟨S_, .f32⟩
  | .hbm, ⟨13, _⟩ => ⟨S4x2048x16x1, .f32⟩
  | .hbm, ⟨14, _⟩ => ⟨S4x2048x16x1, .f32⟩
  | .hbm, ⟨15, _⟩ => ⟨S_, .f32⟩
  | .hbm, ⟨16, _⟩ => ⟨S4x2048x16x1, .f32⟩
  | .hbm, ⟨17, _⟩ => ⟨S4x2048x16x1, .f32⟩
  | .hbm, ⟨18, _⟩ => ⟨S4x2048x16x1, .f32⟩
  | .hbm, ⟨19, _⟩ => ⟨S4x2048x16x128, .f32⟩
  | .hbm, ⟨20, _⟩ => ⟨S4x2048x16x128, .f32⟩
  | .hbm, ⟨21, _⟩ => ⟨S1x1x1x128, .f32⟩
  | .hbm, ⟨22, _⟩ => ⟨S4x2048x16x128, .f32⟩
  | .hbm, ⟨23, _⟩ => ⟨S4x2048x16x128, .f32⟩
  | .hbm, ⟨24, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== SbOut.lean ====
abbrev S8192x2048 : Shape := ⟨2, ![8192, 2048]⟩
abbrev S1x2048x2048 : Shape := ⟨3, ![1, 2048, 2048]⟩
abbrev S4x2048 : Shape := ⟨2, ![4, 2048]⟩
abbrev S4x1x2048 : Shape := ⟨3, ![4, 1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S4x2048, .f32⟩
  | .hbm, ⟨4, _⟩ => ⟨S4x1x2048, .f32⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixedIdeal.lean ====
abbrev S8192x2048 : Shape := ⟨2, ![8192, 2048]⟩
abbrev S1x2048x2048 : Shape := ⟨3, ![1, 2048, 2048]⟩
abbrev S4x2048 : Shape := ⟨2, ![4, 2048]⟩
abbrev S2048x2048 : Shape := ⟨2, ![2048, 2048]⟩
abbrev S4x2048x2048 : Shape := ⟨3, ![4, 2048, 2048]⟩
abbrev S4x1x2048 : Shape := ⟨3, ![4, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S1x2048x2048, .f32⟩
  | .hbm, ⟨2, _⟩ => ⟨S8192x2048, .f32⟩
  | .hbm, ⟨3, _⟩ => ⟨S4x2048, .f32⟩
  | .hbm, ⟨4, _⟩ => ⟨S8192x2048, .f32⟩
  | .hbm, ⟨5, _⟩ => ⟨S2048x2048, .f32⟩
  | .hbm, ⟨6, _⟩ => ⟨S8192x2048, .f32⟩
  | .hbm, ⟨7, _⟩ => ⟨S4x2048x2048, .f32⟩
  | .hbm, ⟨8, _⟩ => ⟨S4x2048x2048, .f32⟩
  | .hbm, ⟨9, _⟩ => ⟨S4x1x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== KSample.lean ====
abbrev S32x2048 : Shape := ⟨2, ![32, 2048]⟩
abbrev S2048x4096 : Shape := ⟨2, ![2048, 4096]⟩
abbrev S128 : Shape := ⟨1, ![128]⟩
abbrev S1x128 : Shape := ⟨2, ![1, 128]⟩
abbrev S2048x1024 : Shape := ⟨2, ![2048, 1024]⟩
abbrev S32x1024 : Shape := ⟨2, ![32, 1024]⟩
abbrev S32x128 : Shape := ⟨2, ![32, 128]⟩
abbrev S32 : Shape := ⟨1, ![32]⟩
abbrev S32x1 : Shape := ⟨2, ![32, 1]⟩

abbrev nBuf : Space → Nat
  | .hbm => 5
  | .vmem => 7
  | .smem => 0
  | _ => 0

abbrev bufTy : (tb : Table) → Fin (tcTables nBuf tb) → BufTy
  | .hbm, ⟨0, _⟩ => ⟨S32x2048, .bf16⟩
  | .hbm, ⟨1, _⟩ => ⟨S2048x4096, .f32⟩
  | .hbm, ⟨2, _⟩ => ⟨S128, .f32⟩
  | .hbm, ⟨3, _⟩ => ⟨S1x128, .f32⟩
  | .hbm, ⟨4, _⟩ => ⟨S32x2048, .f32⟩
  | .local _ .vmem, ⟨0, _⟩ => ⟨S32x2048, .bf16⟩
  | .local _ .vmem, ⟨1, _⟩ => ⟨S2048x1024, .f32⟩
  | .local _ .vmem, ⟨2, _⟩ => ⟨S2048x1024, .f32⟩
  | .local _ .vmem, ⟨3, _⟩ => ⟨S1x128, .f32⟩
  | .local _ .vmem, ⟨4, _⟩ => ⟨S32x1024, .f32⟩
  | .local _ .vmem, ⟨5, _⟩ => ⟨S32x1024, .f32⟩
  | .local _ .vmem, ⟨6, _⟩ => ⟨S2048x1024, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KeysSampleIdeal.lean ====
abbrev S32x2048 : Shape := ⟨2, ![32, 2048]⟩
abbrev S2048x4096 : Shape := ⟨2, ![2048, 4096]⟩
abbrev S128 : Shape := ⟨1, ![128]⟩
abbrev S32x4096 : Shape := ⟨2, ![32, 4096]⟩
abbrev S8x4x16x128 : Shape := ⟨4, ![8, 4, 16, 128]⟩
abbrev S_ : Shape := ⟨0, ![]⟩
abbrev S8x4x16 : Shape := ⟨3, ![8, 4, 16]⟩
abbrev S8x4x16x1 : Shape := ⟨4, ![8, 4, 16, 1]⟩
abbrev S1x1x1x128 : Shape := ⟨4, ![1, 1, 1, 128]⟩

abbrev nBuf : Space → Nat
  | .hbm => 25
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x4096, .f32⟩
  | .hbm, ⟨2, _⟩ => ⟨S128, .f32⟩
  | .hbm, ⟨3, _⟩ => ⟨S32x2048, .f32⟩
  | .hbm, ⟨4, _⟩ => ⟨S32x4096, .f32⟩
  | .hbm, ⟨5, _⟩ => ⟨S32x2048, .f32⟩
  | .hbm, ⟨6, _⟩ => ⟨S32x2048, .f32⟩
  | .hbm, ⟨7, _⟩ => ⟨S8x4x16x128, .f32⟩
  | .hbm, ⟨8, _⟩ => ⟨S8x4x16x128, .f32⟩
  | .hbm, ⟨9, _⟩ => ⟨S_, .f32⟩
  | .hbm, ⟨10, _⟩ => ⟨S8x4x16, .f32⟩
  | .hbm, ⟨11, _⟩ => ⟨S8x4x16x1, .f32⟩
  | .hbm, ⟨12, _⟩ => ⟨S_, .f32⟩
  | .hbm, ⟨13, _⟩ => ⟨S8x4x16x1, .f32⟩
  | .hbm, ⟨14, _⟩ => ⟨S8x4x16x1, .f32⟩
  | .hbm, ⟨15, _⟩ => ⟨S_, .f32⟩
  | .hbm, ⟨16, _⟩ => ⟨S8x4x16x1, .f32⟩
  | .hbm, ⟨17, _⟩ => ⟨S8x4x16x1, .f32⟩
  | .hbm, ⟨18, _⟩ => ⟨S8x4x16x1, .f32⟩
  | .hbm, ⟨19, _⟩ => ⟨S8x4x16x128, .f32⟩
  | .hbm, ⟨20, _⟩ => ⟨S8x4x16x128, .f32⟩
  | .hbm, ⟨21, _⟩ => ⟨S1x1x1x128, .f32⟩
  | .hbm, ⟨22, _⟩ => ⟨S8x4x16x128, .f32⟩
  | .hbm, ⟨23, _⟩ => ⟨S8x4x16x128, .f32⟩
  | .hbm, ⟨24, _⟩ => ⟨S32x2048, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== VSample.lean ====
abbrev S32x2048 : Shape := ⟨2, ![32, 2048]⟩
abbrev S2048x4096 : Shape := ⟨2, ![2048, 4096]⟩
abbrev S2048x1024 : Shape := ⟨2, ![2048, 1024]⟩
abbrev S32x1024 : Shape := ⟨2, ![32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32x2048, .bf16⟩
  | .hbm, ⟨1, _⟩ => ⟨S2048x4096, .f32⟩
  | .hbm, ⟨2, _⟩ => ⟨S32x2048, .f32⟩
  | .local _ .vmem, ⟨0, _⟩ => ⟨S32x2048, .bf16⟩
  | .local _ .vmem, ⟨1, _⟩ => ⟨S2048x1024, .f32⟩
  | .local _ .vmem, ⟨2, _⟩ => ⟨S2048x1024, .f32⟩
  | .local _ .vmem, ⟨3, _⟩ => ⟨S32x1024, .f32⟩
  | .local _ .vmem, ⟨4, _⟩ => ⟨S32x1024, .f32⟩
  | .local _ .vmem, ⟨5, _⟩ => ⟨S2048x1024, .bf16⟩
  | _, _ => ⟨S32x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValuesSampleIdeal.lean ====
abbrev S32x2048 : Shape := ⟨2, ![32, 2048]⟩
abbrev S2048x4096 : Shape := ⟨2, ![2048, 4096]⟩
abbrev S32x4096 : Shape := ⟨2, ![32, 4096]⟩

abbrev nBuf : Space → Nat
  | .hbm => 6
  | .vmem => 0
  | .smem => 0
  | _ => 0

abbrev bufTy : (tb : Table) → Fin (tcTables nBuf tb) → BufTy
  | .hbm, ⟨0, _⟩ => ⟨S32x2048, .bf16⟩
  | .hbm, ⟨1, _⟩ => ⟨S2048x4096, .f32⟩
  | .hbm, ⟨2, _⟩ => ⟨S32x2048, .f32⟩
  | .hbm, ⟨3, _⟩ => ⟨S32x4096, .f32⟩
  | .hbm, ⟨4, _⟩ => ⟨S32x2048, .f32⟩
  | .hbm, ⟨5, _⟩ => ⟨S32x2048, .f32⟩
  | _, _ => ⟨S32x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Combine.lean ====
abbrev S8192x2048 : Shape := ⟨2, ![8192, 2048]⟩
abbrev S4x2048 : Shape := ⟨2, ![4, 2048]⟩
abbrev S8192x8 : Shape := ⟨2, ![8192, 8]⟩
abbrev S8x8224x2048 : Shape := ⟨3, ![8, 8224, 2048]⟩
abbrev S4x1x2048 : Shape := ⟨3, ![4, 1, 2048]⟩
abbrev S256x2048 : Shape := ⟨2, ![256, 2048]⟩
abbrev S1x1x2048 : Shape := ⟨3, ![1, 1, 2048]⟩
abbrev S256x8 : Shape := ⟨2, ![256, 8]⟩
abbrev S8x256x2048 : Shape := ⟨3, ![8, 256, 2048]⟩
abbrev S256x1 : Shape := ⟨2, ![256, 1]⟩
abbrev S1x256x2048 : Shape := ⟨3, ![1, 256, 2048]⟩
abbrev S1x2048 : Shape := ⟨2, ![1, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S8192x2048, .f32⟩
  | .hbm, ⟨3, _⟩ => ⟨S8192x8, .f32⟩
  | .hbm, ⟨4, _⟩ => ⟨S8x8224x2048, .bf16⟩
  | .hbm, ⟨5, _⟩ => ⟨S4x1x2048, .f32⟩
  | .hbm, ⟨6, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S256x2048, .f32⟩
  | .local _ .vmem, ⟨5, _⟩ => ⟨S256x2048, .f32⟩
  | .local _ .vmem, ⟨6, _⟩ => ⟨S256x8, .f32⟩
  | .local _ .vmem, ⟨7, _⟩ => ⟨S256x8, .f32⟩
  | .local _ .vmem, ⟨8, _⟩ => ⟨S8x256x2048, .bf16⟩
  | .local _ .vmem, ⟨9, _⟩ => ⟨S8x256x2048, .bf16⟩
  | .local _ .vmem, ⟨10, _⟩ => ⟨S256x2048, .f32⟩
  | .local _ .vmem, ⟨11, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombinedIdeal.lean ====
abbrev S8192x2048 : Shape := ⟨2, ![8192, 2048]⟩
abbrev S4x2048 : Shape := ⟨2, ![4, 2048]⟩
abbrev S8192x8 : Shape := ⟨2, ![8192, 8]⟩
abbrev S8x8224x2048 : Shape := ⟨3, ![8, 8224, 2048]⟩
abbrev S8x8192x2048 : Shape := ⟨3, ![8, 8192, 2048]⟩
abbrev S4x2048x2048 : Shape := ⟨3, ![4, 2048, 2048]⟩
abbrev S4x1x2048 : Shape := ⟨3, ![4, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S8192x2048, .f32⟩
  | .hbm, ⟨3, _⟩ => ⟨S8192x8, .f32⟩
  | .hbm, ⟨4, _⟩ => ⟨S8x8224x2048, .bf16⟩
  | .hbm, ⟨5, _⟩ => ⟨S8x8192x2048, .bf16⟩
  | .hbm, ⟨6, _⟩ => ⟨S8x8192x2048, .f32⟩
  | .hbm, ⟨7, _⟩ => ⟨S8192x2048, .f32⟩
  | .hbm, ⟨8, _⟩ => ⟨S8192x2048, .f32⟩
  | .hbm, ⟨9, _⟩ => ⟨S4x2048x2048, .f32⟩
  | .hbm, ⟨10, _⟩ => ⟨S4x1x2048, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== CombineSample.lean ====
abbrev S32x2048 : Shape := ⟨2, ![32, 2048]⟩
abbrev S8x2048 : Shape := ⟨2, ![8, 2048]⟩
abbrev S32x8 : Shape := ⟨2, ![32, 8]⟩
abbrev S8x8224x2048 : Shape := ⟨3, ![8, 8224, 2048]⟩
abbrev S8x4x2048 : Shape := ⟨3, ![8, 4, 2048]⟩
abbrev S8x32x2048 : Shape := ⟨3, ![8, 32, 2048]⟩
abbrev S32x1 : Shape := ⟨2, ![32, 1]⟩
abbrev S1x32x2048 : Shape := ⟨3, ![1, 32, 2048]⟩

abbrev nBuf : Space → Nat
  | .hbm => 8
  | .vmem => 6
  | .smem => 0
  | _ => 0

abbrev bufTy : (tb : Table) → Fin (tcTables nBuf tb) → BufTy
  | .hbm, ⟨0, _⟩ => ⟨S32x2048, .f32⟩
  | .hbm, ⟨1, _⟩ => ⟨S8x2048, .f32⟩
  | .hbm, ⟨2, _⟩ => ⟨S32x2048, .f32⟩
  | .hbm, ⟨3, _⟩ => ⟨S32x8, .f32⟩
  | .hbm, ⟨4, _⟩ => ⟨S8x8224x2048, .bf16⟩
  | .hbm, ⟨5, _⟩ => ⟨S8x4x2048, .f32⟩
  | .hbm, ⟨6, _⟩ => ⟨S32x2048, .f32⟩
  | .hbm, ⟨7, _⟩ => ⟨S32x2048, .f32⟩
  | .local _ .vmem, ⟨0, _⟩ => ⟨S32x2048, .f32⟩
  | .local _ .vmem, ⟨1, _⟩ => ⟨S32x2048, .f32⟩
  | .local _ .vmem, ⟨2, _⟩ => ⟨S32x2048, .f32⟩
  | .local _ .vmem, ⟨3, _⟩ => ⟨S32x8, .f32⟩
  | .local _ .vmem, ⟨4, _⟩ => ⟨S8x32x2048, .bf16⟩
  | .local _ .vmem, ⟨5, _⟩ => ⟨S32x2048, .f32⟩
  | _, _ => ⟨S32x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c256_i32 : BitVec 32 := 256#32
  let v0 : BitVec 32 := Scalar.addi arg0 c256_i32
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x32x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== CombinedSampleIdeal.lean ====
abbrev S32x2048 : Shape := ⟨2, ![32, 2048]⟩
abbrev S8x2048 : Shape := ⟨2, ![8, 2048]⟩
abbrev S32x8 : Shape := ⟨2, ![32, 8]⟩
abbrev S8x8224x2048 : Shape := ⟨3, ![8, 8224, 2048]⟩
abbrev S8x32x2048 : Shape := ⟨3, ![8, 32, 2048]⟩
abbrev S8x4x2048 : Shape := ⟨3, ![8, 4, 2048]⟩
abbrev S8x1x2048 : Shape := ⟨3, ![8, 1, 2048]⟩

abbrev nBuf : Space → Nat
  | .hbm => 16
  | .vmem => 0
  | .smem => 0
  | _ => 0

abbrev bufTy : (tb : Table) → Fin (tcTables nBuf tb) → BufTy
  | .hbm, ⟨0, _⟩ => ⟨S32x2048, .f32⟩
  | .hbm, ⟨1, _⟩ => ⟨S8x2048, .f32⟩
  | .hbm, ⟨2, _⟩ => ⟨S32x2048, .f32⟩
  | .hbm, ⟨3, _⟩ => ⟨S32x8, .f32⟩
  | .hbm, ⟨4, _⟩ => ⟨S8x8224x2048, .bf16⟩
  | .hbm, ⟨5, _⟩ => ⟨S8x32x2048, .bf16⟩
  | .hbm, ⟨6, _⟩ => ⟨S8x32x2048, .f32⟩
  | .hbm, ⟨7, _⟩ => ⟨S32x2048, .f32⟩
  | .hbm, ⟨8, _⟩ => ⟨S32x2048, .f32⟩
  | .hbm, ⟨9, _⟩ => ⟨S8x4x2048, .f32⟩
  | .hbm, ⟨10, _⟩ => ⟨S8x1x2048, .f32⟩
  | .hbm, ⟨11, _⟩ => ⟨S8x4x2048, .f32⟩
  | .hbm, ⟨12, _⟩ => ⟨S8x4x2048, .f32⟩
  | .hbm, ⟨13, _⟩ => ⟨S8x4x2048, .f32⟩
  | .hbm, ⟨14, _⟩ => ⟨S8x4x2048, .f32⟩
  | .hbm, ⟨15, _⟩ => ⟨S32x2048, .f32⟩
  | _, _ => ⟨S32x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Experts.lean ====
abbrev S98816x2048 : Shape := ⟨2, ![98816, 2048]⟩
abbrev S193 : Shape := ⟨1, ![193]⟩
abbrev S1 : Shape := ⟨1, ![1]⟩
abbrev S2x64x2048x512 : Shape := ⟨4, ![2, 64, 2048, 512]⟩
abbrev S2x64x512x2048 : Shape := ⟨4, ![2, 64, 512, 2048]⟩
abbrev S192 : Shape := ⟨1, ![192]⟩
abbrev S_ : Shape := ⟨0, ![]⟩
abbrev S193x1 : Shape := ⟨2, ![193, 1]⟩
abbrev S512x2048 : Shape := ⟨2, ![512, 2048]⟩
abbrev S2x2048x512 : Shape := ⟨3, ![2, 2048, 512]⟩
abbrev S2x512x2048 : Shape := ⟨3, ![2, 512, 2048]⟩
abbrev S2048x512 : Shape := ⟨2, ![2048, 512]⟩
abbrev S3x2 : Shape := ⟨2, ![3, 2]⟩
abbrev S1x1 : Shape := ⟨2, ![1, 1]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S512x512 : Shape := ⟨2, ![512, 512]⟩

abbrev nBuf : Space → Nat
  | .hbm => 75
  | .vmem => 10
  | .smem => 5
  | _ => 0

abbrev bufTy : (tb : Table) → Fin (tcTables nBuf tb) → BufTy
  | .hbm, ⟨0, _⟩ => ⟨S98816x2048, .bf16⟩
  | .hbm, ⟨1, _⟩ => ⟨S2x64x2048x512, .f32⟩
  | .hbm, ⟨2, _⟩ => ⟨S2x64x2048x512, .f32⟩
  | .hbm, ⟨3, _⟩ => ⟨S2x64x512x2048, .f32⟩
  | .hbm, ⟨4, _⟩ => ⟨S193, .i32⟩
  | .hbm, ⟨5, _⟩ => ⟨S1, .i32⟩
  | .hbm, ⟨6, _⟩ => ⟨S192, .i32⟩
  | .hbm, ⟨7, _⟩ => ⟨S193, .i32⟩
  | .hbm, ⟨8, _⟩ => ⟨S_, .i32⟩
  | .hbm, ⟨9, _⟩ => ⟨S193, .i32⟩
  | .hbm, ⟨10, _⟩ => ⟨S193, .i1⟩
  | .hbm, ⟨11, _⟩ => ⟨S_, .i32⟩
  | .hbm, ⟨12, _⟩ => ⟨S193, .i32⟩
  | .hbm, ⟨13, _⟩ => ⟨S193, .i1⟩
  | .hbm, ⟨14, _⟩ => ⟨S193, .i1⟩
  | .hbm, ⟨15, _⟩ => ⟨S193, .i1⟩
  | .hbm, ⟨16, _⟩ => ⟨S193, .i1⟩
  | .hbm, ⟨17, _⟩ => ⟨S193, .i32⟩
  | .hbm, ⟨18, _⟩ => ⟨S_, .i32⟩
  | .hbm, ⟨19, _⟩ => ⟨S_, .i32⟩
  | .hbm, ⟨20, _⟩ => ⟨S193, .i32⟩
  | .hbm, ⟨21, _⟩ => ⟨S_, .i32⟩
  | .hbm, ⟨22, _⟩ => ⟨S193, .i32⟩
  | .hbm, ⟨23, _⟩ => ⟨S193, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S193, .i32⟩
  | .hbm, ⟨31, _⟩ => ⟨S193, .i32⟩
  | .hbm, ⟨32, _⟩ => ⟨S_, .i32⟩
  | .hbm, ⟨33, _⟩ => ⟨S193, .i32⟩
  | .hbm, ⟨34, _⟩ => ⟨S193, .i1⟩
  | .hbm, ⟨35, _⟩ => ⟨S_, .i32⟩
  | .hbm, ⟨36, _⟩ => ⟨S193, .i32⟩
  | .hbm, ⟨37, _⟩ => ⟨S193, .i1⟩
  | .hbm, ⟨38, _⟩ => ⟨S_, .i32⟩
  | .hbm, ⟨39, _⟩ => ⟨S_, .i1⟩
  | .hbm, ⟨40, _⟩ => ⟨S193, .i1⟩
  | .hbm, ⟨41, _⟩ => ⟨S193, .i1⟩
  | .hbm, ⟨42, _⟩ => ⟨S193, .i1⟩
  | .hbm, ⟨43, _⟩ => ⟨S193, .i32⟩
  | .hbm, ⟨44, _⟩ => ⟨S193, .i32⟩
  | .hbm, ⟨45, _⟩ => ⟨S_, .i32⟩
  | .hbm, ⟨46, _⟩ => ⟨S_, .i32⟩
  | .hbm, ⟨47, _⟩ => ⟨S193, .i32⟩
  | .hbm, ⟨48, _⟩ => ⟨S193, .i32⟩
  | .hbm, ⟨49, _⟩ => ⟨S192, .i32⟩
  | .hbm, ⟨50, _⟩ => ⟨S_, .i32⟩
  | .hbm, ⟨51, _⟩ => ⟨S1, .i32⟩
  | .hbm, ⟨52, _⟩ => ⟨S193, .i32⟩
  | .hbm, ⟨53, _⟩ => ⟨S_, .i32⟩
  | .hbm, ⟨54, _⟩ => ⟨S_, .i32⟩
  | .hbm, ⟨55, _⟩ => ⟨S193, .i32⟩
  | .hbm, ⟨56, _⟩ => ⟨S_, .i32⟩
  | .hbm, ⟨57, _⟩ => ⟨S193, .i32⟩
  | .hbm, ⟨58, _⟩ => ⟨S193, .i1⟩
  | .hbm, ⟨59, _⟩ => ⟨S_, .i32⟩
  | .hbm, ⟨60, _⟩ => ⟨S193, .i32⟩
  | .hbm, ⟨61, _⟩ => ⟨S193, .i32⟩
  | .hbm, ⟨62, _⟩ => ⟨S_, .i32⟩
  | .hbm, ⟨63, _⟩ => ⟨S193, .i32⟩
  | .hbm, ⟨64, _⟩ => ⟨S193, .i1⟩
  | .hbm, ⟨65, _⟩ => ⟨S_, .i32⟩
  | .hbm, ⟨66, _⟩ => ⟨S193, .i32⟩
  | .hbm, ⟨67, _⟩ => ⟨S193, .i32⟩
  | .hbm, ⟨68, _⟩ => ⟨S193, .i32⟩
  | .hbm, ⟨69, _⟩ => ⟨S193x1, .i32⟩
  | .hbm, ⟨70, _⟩ => ⟨S193, .i32⟩
  | .hbm, ⟨71, _⟩ => ⟨S_, .i32⟩
  | .hbm, ⟨72, _⟩ => ⟨S_, .i32⟩
  | .hbm, ⟨73, _⟩ => ⟨S193, .i32⟩
  | .hbm, ⟨74, _⟩ => ⟨S98816x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S193, .i32⟩
  | .local _ .smem, ⟨1, _⟩ => ⟨S1, .i32⟩
  | .local _ .smem, ⟨2, _⟩ => ⟨S193, .i32⟩
  | .local _ .smem, ⟨3, _⟩ => ⟨S193, .i32⟩
  | .local _ .smem, ⟨4, _⟩ => ⟨S193, .i32⟩
  | _, _ => ⟨S98816x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_c : Ref sig .tc := ⟨.hbm, 18, rfl⟩
abbrev main_call0_call0_v0 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_c_1 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_c_2 : Ref sig .tc := ⟨.hbm, 45, rfl⟩
abbrev main_call2_v0 : Ref sig .tc := ⟨.hbm, 46, rfl⟩
abbrev main_call2_v1 : Ref sig .tc := ⟨.hbm, 47, rfl⟩
abbrev main_v17 : Ref sig .tc := ⟨.hbm, 48, rfl⟩
abbrev main_v18 : Ref sig .tc := ⟨.hbm, 49, rfl⟩
abbrev main_c_3 : Ref sig .tc := ⟨.hbm, 50, rfl⟩
abbrev main_v19 : Ref sig .tc := ⟨.hbm, 51, rfl⟩
abbrev main_v20 : Ref sig .tc := ⟨.hbm, 52, rfl⟩
abbrev main_call3_c : Ref sig .tc := ⟨.hbm, 53, rfl⟩
abbrev main_call3_v0 : Ref sig .tc := ⟨.hbm, 54, rfl⟩
abbrev main_v21 : Ref sig .tc := ⟨.hbm, 55, rfl⟩
abbrev main_c_4 : Ref sig .tc := ⟨.hbm, 56, rfl⟩
abbrev main_v22 : Ref sig .tc := ⟨.hbm, 57, rfl⟩
abbrev main_v23 : Ref sig .tc := ⟨.hbm, 58, rfl⟩
abbrev main_c_5 : Ref sig .tc := ⟨.hbm, 59, rfl⟩
abbrev main_v24 : Ref sig .tc := ⟨.hbm, 60, rfl⟩
abbrev main_v25 : Ref sig .tc := ⟨.hbm, 61, rfl⟩
abbrev main_c_6 : Ref sig .tc := ⟨.hbm, 62, rfl⟩
abbrev main_v26 : Ref sig .tc := ⟨.hbm, 63, rfl⟩
abbrev main_v27 : Ref sig .tc := ⟨.hbm, 64, rfl⟩
abbrev main_c_7 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_8 : Ref sig .tc := ⟨.hbm, 71, rfl⟩
abbrev main_call4_v0 : Ref sig .tc := ⟨.hbm, 72, rfl⟩
abbrev main_call4_v1 : Ref sig .tc := ⟨.hbm, 73, rfl⟩
abbrev main_v35 : Ref sig .tc := ⟨.hbm, 74, rfl⟩
abbrev main_arg1 : Ref sig .tc := ⟨.smem, 0, rfl⟩
abbrev main_arg2 : Ref sig .tc := ⟨.smem, 1, rfl⟩
abbrev main_v34 : Ref sig .tc := ⟨.smem, 2, rfl⟩
abbrev main_v16 : Ref sig .tc := ⟨.smem, 3, rfl⟩
abbrev main_v33 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![193], ![false]⟩

abbrev pre0 : Pipeline.Prefetch sig := ⟨5, ![main_arg1.idx, main_arg2.idx, main_v34.idx, main_v16.idx, main_v33.idx], fun | 0 => main_arg1.names | 1 => main_arg2.names | 2 => main_v34.names | 3 => main_v16.names | 4 => main_v33.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v16 : BitVec 32) : Fin 4 → Nat :=
  let c0_i32_6 : BitVec 32 := 0#32
  let c0_i32_12 : BitVec 32 := 0#32
  let c0_i32_13 : BitVec 32 := 0#32
  ![0, v16.toNat, 0, 0]

def k0_off2 (v16 : BitVec 32) : Fin 4 → Nat :=
  let c0_i32_22 : BitVec 32 := 0#32
  let c0_i32_27 : BitVec 32 := 0#32
  let c0_i32_28 : BitVec 32 := 0#32
  ![0, v16.toNat, 0, 0]

def k0_chk1 (i : grid0.Coords) (v16 : BitVec 32) : Prop :=
  (∀ (k0_h1 : k0_cond1 i = 1#1), ∀ a, (k0_off1 v16) a + S1x1x2048x512.size a ≤ S2x64x2048x512.size a) ∧
  (∀ (k0_h1 : k0_cond1 i = 1#1), ∀ a, (k0_off2 v16) a + S1x1x512x2048.size a ≤ S2x64x512x2048.size a)
theorem k0_off1_inb : ∀ (i : grid0.Coords) (v16 : BitVec 32) (k0_hw1 : k0_chk1 i v16), ∀ (k0_h1 : k0_cond1 i = 1#1), ∀ a, (k0_off1 v16) a + S1x1x2048x512.size a ≤ S2x64x2048x512.size a := fun i v16 k0_hw1 k0_h1 => k0_hw1.1 k0_h1
theorem k0_off2_inb : ∀ (i : grid0.Coords) (v16 : BitVec 32) (k0_hw1 : k0_chk1 i v16), ∀ (k0_h1 : k0_cond1 i = 1#1), ∀ a, (k0_off2 v16) a + S1x1x512x2048.size a ≤ S2x64x512x2048.size a := fun i v16 k0_hw1 k0_h1 => k0_hw1.2 k0_h1

def k0_off3 (i : grid0.Coords) : Fin 1 → Nat :=
  let arg0 : BitVec 32 := BitVec.ofNat 32 (i 0).val
  let v3 : Index := Scalar.indexCast arg0
  ![v3.toNat]
def k0_off4 (i : grid0.Coords) : Fin 1 → Nat :=
  let arg0 : BitVec 32 := BitVec.ofNat 32 (i 0).val
  let v16 : Index := Scalar.indexCast arg0
  ![v16.toNat]
def k0_off5 (v17 : BitVec 32) : Fin 2 → Nat :=
  let c0_i32_6 : BitVec 32 := 0#32
  ![0, v17.toNat]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v17 : BitVec 32) : Fin 3 → Nat :=
  let c0_i32_7 : BitVec 32 := 0#32
  let c0_i32_8 : BitVec 32 := 0#32
  ![v17.toNat, 0, 0]
def k0_off7 (v19 : BitVec 32) : Fin 4 → Nat :=
  let c0_i32_5 : BitVec 32 := 0#32
  let c0_i32_9 : BitVec 32 := 0#32
  let c0_i32_10 : BitVec 32 := 0#32
  ![0, v19.toNat, 0, 0]

def k0_off8 (v17 : BitVec 32) : Fin 2 → Nat :=
  let c1_i32_12 : BitVec 32 := 1#32
  ![1, v17.toNat]
def k0_off9 (v17 : BitVec 32) : Fin 3 → Nat :=
  let c0_i32_13 : BitVec 32 := 0#32
  let c0_i32_14 : BitVec 32 := 0#32
  ![v17.toNat, 0, 0]
def k0_off10 (v17 : BitVec 32) : Fin 2 → Nat :=
  let c2_i32 : BitVec 32 := 2#32
  ![2, v17.toNat]
def k0_off11 (v17 : BitVec 32) : Fin 3 → Nat :=
  let c0_i32_18 : BitVec 32 := 0#32
  let c0_i32_19 : BitVec 32 := 0#32
  ![v17.toNat, 0, 0]
def k0_off12 (v19 : BitVec 32) : Fin 4 → Nat :=
  let c0_i32_17 : BitVec 32 := 0#32
  let c0_i32_20 : BitVec 32 := 0#32
  let c0_i32_21 : BitVec 32 := 0#32
  ![0, v19.toNat, 0, 0]

def k0_chk3 (v4 : BitVec 32) (v19 : BitVec 32) : Prop :=
  (∀ (k0_h2 : k0_cond2 v4 = 1#1), ∀ a, (k0_off7 v19) a + S1x1x2048x512.size a ≤ S2x64x2048x512.size a) ∧
  (∀ (k0_h2 : k0_cond2 v4 = 1#1), ∀ a, (k0_off12 v19) a + S1x1x512x2048.size a ≤ S2x64x512x2048.size a)
theorem k0_off7_inb : ∀ (v4 : BitVec 32) (v19 : BitVec 32) (k0_hw3 : k0_chk3 v4 v19), ∀ (k0_h2 : k0_cond2 v4 = 1#1), ∀ a, (k0_off7 v19) a + S1x1x2048x512.size a ≤ S2x64x2048x512.size a := fun v4 v19 k0_hw3 k0_h2 => k0_hw3.1 k0_h2
theorem k0_off12_inb : ∀ (v4 : BitVec 32) (v19 : BitVec 32) (k0_hw3 : k0_chk3 v4 v19), ∀ (k0_h2 : k0_cond2 v4 = 1#1), ∀ a, (k0_off12 v19) a + S1x1x512x2048.size a ≤ S2x64x512x2048.size a := fun v4 v19 k0_hw3 k0_h2 => k0_hw3.2 k0_h2

def k0_off13 (i : grid0.Coords) : Fin 1 → Nat :=
  let arg0 : BitVec 32 := BitVec.ofNat 32 (i 0).val
  let v38 : Index := Scalar.indexCast arg0
  ![v38.toNat]
def k0_off14 (i : grid0.Coords) : Fin 1 → Nat :=
  let arg0 : BitVec 32 := BitVec.ofNat 32 (i 0).val
  let v64 : Index := Scalar.indexCast arg0
  ![v64.toNat]
def k0_off15 (v17 : BitVec 32) : Fin 2 → Nat :=
  let c0_i32_38 : BitVec 32 := 0#32
  let c1_i32_36 : BitVec 32 := 1#32
  let v66 : BitVec 32 := Scalar.subi c1_i32_36 v17
  ![0, v66.toNat]
def k0_cond3 (v39 : BitVec 32) : BitVec 1 :=
  let c0_i32_22 : BitVec 32 := 0#32
  let v40 : BitVec 1 := Scalar.cmpi .sge v39 c0_i32_22
  let v41 : BitVec 32 := Scalar.extui v40
  let c0_i32_23 : BitVec 32 := 0#32
  let v42 : BitVec 1 := Scalar.cmpi .ne v41 c0_i32_23
  v42

def k0_off16 (v17 : BitVec 32) : Fin 3 → Nat :=
  let c1_i32_36 : BitVec 32 := 1#32
  let v66 : BitVec 32 := Scalar.subi c1_i32_36 v17
  let c0_i32_39 : BitVec 32 := 0#32
  let c0_i32_40 : BitVec 32 := 0#32
  ![v66.toNat, 0, 0]
def k0_off17 (v65 : BitVec 32) : Fin 4 → Nat :=
  let c0_i32_37 : BitVec 32 := 0#32
  let c0_i32_41 : BitVec 32 := 0#32
  let c0_i32_42 : BitVec 32 := 0#32
  ![0, v65.toNat, 0, 0]

def k0_off18 (v17 : BitVec 32) : Fin 2 → Nat :=
  let c1_i32_44 : BitVec 32 := 1#32
  let c1_i32_36 : BitVec 32 := 1#32
  let v66 : BitVec 32 := Scalar.subi c1_i32_36 v17
  ![1, v66.toNat]
def k0_off19 (v17 : BitVec 32) : Fin 3 → Nat :=
  let c1_i32_36 : BitVec 32 := 1#32
  let v66 : BitVec 32 := Scalar.subi c1_i32_36 v17
  let c0_i32_45 : BitVec 32 := 0#32
  let c0_i32_46 : BitVec 32 := 0#32
  ![v66.toNat, 0, 0]
def k0_off20 (v17 : BitVec 32) : Fin 2 → Nat :=
  let c2_i32_50 : BitVec 32 := 2#32
  let c1_i32_36 : BitVec 32 := 1#32
  let v66 : BitVec 32 := Scalar.subi c1_i32_36 v17
  ![2, v66.toNat]
def k0_off21 (v17 : BitVec 32) : Fin 3 → Nat :=
  let c1_i32_36 : BitVec 32 := 1#32
  let v66 : BitVec 32 := Scalar.subi c1_i32_36 v17
  let c0_i32_51 : BitVec 32 := 0#32
  let c0_i32_52 : BitVec 32 := 0#32
  ![v66.toNat, 0, 0]

def k0_chk4 (v4 : BitVec 32) (v17 : BitVec 32) (v39 : BitVec 32) : Prop :=
  (∀ (k0_h2 : k0_cond2 v4 = 1#1), ∀ (k0_h3 : k0_cond3 v39 = 1#1), ∀ a, (k0_off15 v17) a + S1x1.size a ≤ S3x2.size a) ∧
  (∀ (k0_h2 : k0_cond2 v4 = 1#1), ∀ (k0_h3 : k0_cond3 v39 = 1#1), ∀ a, (k0_off16 v17) a + S1x2048x512.size a ≤ S2x2048x512.size a) ∧
  (∀ (k0_h2 : k0_cond2 v4 = 1#1), ∀ (k0_h3 : k0_cond3 v39 = 1#1), ∀ a, (k0_off18 v17) a + S1x1.size a ≤ S3x2.size a) ∧
  (∀ (k0_h2 : k0_cond2 v4 = 1#1), ∀ (k0_h3 : k0_cond3 v39 = 1#1), ∀ a, (k0_off19 v17) a + S1x2048x512.size a ≤ S2x2048x512.size a) ∧
  (∀ (k0_h2 : k0_cond2 v4 = 1#1), ∀ (k0_h3 : k0_cond3 v39 = 1#1), ∀ a, (k0_off20 v17) a + S1x1.size a ≤ S3x2.size a) ∧
  (∀ (k0_h2 : k0_cond2 v4 = 1#1), ∀ (k0_h3 : k0_cond3 v39 = 1#1), ∀ a, (k0_off21 v17) a + S1x512x2048.size a ≤ S2x512x2048.size a)
theorem k0_off15_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off15 v17) a + S1x1.size a ≤ S3x2.size a := fun v4 v17 v39 k0_hw4 k0_h2 k0_h3 => k0_hw4.1 k0_h2 k0_h3
theorem k0_off16_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off16 v17) a + S1x2048x512.size a ≤ S2x2048x512.size a := fun v4 v17 v39 k0_hw4 k0_h2 k0_h3 => k0_hw4.2.1 k0_h2 k0_h3
theorem k0_off18_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off18 v17) a + S1x1.size a ≤ S3x2.size a := fun v4 v17 v39 k0_hw4 k0_h2 k0_h3 => k0_hw4.2.2.1 k0_h2 k0_h3
theorem k0_off19_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off19 v17) a + S1x2048x512.size a ≤ S2x2048x512.size a := fun v4 v17 v39 k0_hw4 k0_h2 k0_h3 => k0_hw4.2.2.2.1 k0_h2 k0_h3
theorem k0_off20_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off20 v17) a + S1x1.size a ≤ S3x2.size a := fun v4 v17 v39 k0_hw4 k0_h2 k0_h3 => k0_hw4.2.2.2.2.1 k0_h2 k0_h3
theorem k0_off21_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off21 v17) a + S1x512x2048.size a ≤ S2x512x2048.size a := fun v4 v17 v39 k0_hw4 k0_h2 k0_h3 => k0_hw4.2.2.2.2.2 k0_h2 k0_h3

def k0_off22 (v65 : BitVec 32) : Fin 4 → Nat :=
  let c0_i32_49 : BitVec 32 := 0#32
  let c0_i32_53 : BitVec 32 := 0#32
  let c0_i32_54 : BitVec 32 := 0#32
  ![0, v65.toNat, 0, 0]

def k0_chk5 (v4 : BitVec 32) (v39 : BitVec 32) (v65 : BitVec 32) : Prop :=
  (∀ (k0_h2 : k0_cond2 v4 = 1#1), ∀ (k0_h3 : k0_cond3 v39 = 1#1), ∀ a, (k0_off17 v65) a + S1x1x2048x512.size a ≤ S2x64x2048x512.size a) ∧
  (∀ (k0_h2 : k0_cond2 v4 = 1#1), ∀ (k0_h3 : k0_cond3 v39 = 1#1), ∀ a, (k0_off22 v65) a + S1x1x512x2048.size a ≤ S2x64x512x2048.size a)
theorem k0_off17_inb : ∀ (v4 : BitVec 32) (v39 : BitVec 32) (v65 : BitVec 32) (k0_hw5 : k0_chk5 v4 v39 v65), ∀ (k0_h2 : k0_cond2 v4 = 1#1), ∀ (k0_h3 : k0_cond3 v39 = 1#1), ∀ a, (k0_off17 v65) a + S1x1x2048x512.size a ≤ S2x64x2048x512.size a := fun v4 v39 v65 k0_hw5 k0_h2 k0_h3 => k0_hw5.1 k0_h2 k0_h3
theorem k0_off22_inb : ∀ (v4 : BitVec 32) (v39 : BitVec 32) (v65 : BitVec 32) (k0_hw5 : k0_chk5 v4 v39 v65), ∀ (k0_h2 : k0_cond2 v4 = 1#1), ∀ (k0_h3 : k0_cond3 v39 = 1#1), ∀ a, (k0_off22 v65) a + S1x1x512x2048.size a ≤ S2x64x512x2048.size a := fun v4 v39 v65 k0_hw5 k0_h2 k0_h3 => k0_hw5.2 k0_h2 k0_h3

def k0_off23 (v17 : BitVec 32) : Fin 3 → Nat :=
  let v43 : Index := Scalar.indexCast v17
  let c0_24 : Index := 0#32
  let c0_25 : Index := 0#32
  ![v43.toNat, 0, 0]
def k0_off24 (v17 : BitVec 32) : Fin 3 → Nat :=
  let v57 : Index := Scalar.indexCast v17
  let c0_32 : Index := 0#32
  let c0_33 : Index := 0#32
  ![v57.toNat, 0, 0]

def k0_chk2 (v4 : BitVec 32) (v17 : BitVec 32) : Prop :=
  (∀ (k0_h2 : k0_cond2 v4 = 1#1), ∀ a, (k0_off5 v17) a + S1x1.size a ≤ S3x2.size a) ∧
  (∀ (k0_h2 : k0_cond2 v4 = 1#1), ∀ a, (k0_off6 v17) a + S1x2048x512.size a ≤ S2x2048x512.size a) ∧
  (∀ (k0_h2 : k0_cond2 v4 = 1#1), ∀ a, (k0_off8 v17) a + S1x1.size a ≤ S3x2.size a) ∧
  (∀ (k0_h2 : k0_cond2 v4 = 1#1), ∀ a, (k0_off9 v17) a + S1x2048x512.size a ≤ S2x2048x512.size a) ∧
  (∀ (k0_h2 : k0_cond2 v4 = 1#1), ∀ a, (k0_off10 v17) a + S1x1.size a ≤ S3x2.size a) ∧
  (∀ (k0_h2 : k0_cond2 v4 = 1#1), ∀ a, (k0_off11 v17) a + S1x512x2048.size a ≤ S2x512x2048.size a) ∧
  (∀ (k0_h2 : k0_cond2 v4 = 1#1), ∀ a, (k0_off23 v17) a + S1x2048x512.size a ≤ S2x2048x512.size a) ∧
  (∀ (k0_h2 : k0_cond2 v4 = 1#1), ∀ a, (k0_off24 v17) a + S1x512x2048.size a ≤ S2x512x2048.size a)
theorem k0_off5_inb : ∀ (v4 : BitVec 32) (v17 : BitVec 32) (k0_hw2 : k0_chk2 v4 v17), ∀ (k0_h2 : k0_cond2 v4 = 1#1), ∀ a, (k0_off5 v17) a + S1x1.size a ≤ S3x2.size a := fun v4 v17 k0_hw2 k0_h2 => k0_hw2.1 k0_h2
theorem k0_off6_inb : ∀ (v4 : BitVec 32) (v17 : BitVec 32) (k0_hw2 : k0_chk2 v4 v17), ∀ (k0_h2 : k0_cond2 v4 = 1#1), ∀ a, (k0_off6 v17) a + S1x2048x512.size a ≤ S2x2048x512.size a := fun v4 v17 k0_hw2 k0_h2 => k0_hw2.2.1 k0_h2
theorem k0_off8_inb : ∀ (v4 : BitVec 32) (v17 : BitVec 32) (k0_hw2 : k0_chk2 v4 v17), ∀ (k0_h2 : k0_cond2 v4 = 1#1), ∀ a, (k0_off8 v17) a + S1x1.size a ≤ S3x2.size a := fun v4 v17 k0_hw2 k0_h2 => k0_hw2.2.2.1 k0_h2
theorem k0_off9_inb : ∀ (v4 : BitVec 32) (v17 : BitVec 32) (k0_hw2 : k0_chk2 v4 v17), ∀ (k0_h2 : k0_cond2 v4 = 1#1), ∀ a, (k0_off9 v17) a + S1x2048x512.size a ≤ S2x2048x512.size a := fun v4 v17 k0_hw2 k0_h2 => k0_hw2.2.2.2.1 k0_h2
theorem k0_off10_inb : ∀ (v4 : BitVec 32) (v17 : BitVec 32) (k0_hw2 : k0_chk2 v4 v17), ∀ (k0_h2 : k0_cond2 v4 = 1#1), ∀ a, (k0_off10 v17) a + S1x1.size a ≤ S3x2.size a := fun v4 v17 k0_hw2 k0_h2 => k0_hw2.2.2.2.2.1 k0_h2
theorem k0_off11_inb : ∀ (v4 : BitVec 32) (v17 : BitVec 32) (k0_hw2 : k0_chk2 v4 v17), ∀ (k0_h2 : k0_cond2 v4 = 1#1), ∀ a, (k0_off11 v17) a + S1x512x2048.size a ≤ S2x512x2048.size a := fun v4 v17 k0_hw2 k0_h2 => k0_hw2.2.2.2.2.2.1 k0_h2
theorem k0_off23_inb : ∀ (v4 : BitVec 32) (v17 : BitVec 32) (k0_hw2 : k0_chk2 v4 v17), ∀ (k0_h2 : k0_cond2 v4 = 1#1), ∀ a, (k0_off23 v17) a + S1x2048x512.size a ≤ S2x2048x512.size a := fun v4 v17 k0_hw2 k0_h2 => k0_hw2.2.2.2.2.2.2.1 k0_h2
theorem k0_off24_inb : ∀ (v4 : BitVec 32) (v17 : BitVec 32) (k0_hw2 : k0_chk2 v4 v17), ∀ (k0_h2 : k0_cond2 v4 = 1#1), ∀ a, (k0_off24 v17) a + S1x512x2048.size a ≤ S2x512x2048.size a := fun v4 v17 k0_hw2 k0_h2 => k0_hw2.2.2.2.2.2.2.2 k0_h2

def k0_cond4 (i : grid0.Coords) (v8 : BitVec 32) : BitVec 1 :=
  let arg0 : BitVec 32 := BitVec.ofNat 32 (i 0).val
  let v9 : BitVec 1 := Scalar.cmpi .slt arg0 v8
  let v10 : BitVec 32 := Scalar.extui v9
  let c0_i32_2 : BitVec 32 := 0#32
  let v11 : BitVec 1 := Scalar.cmpi .ne v10 c0_i32_2
  v11

def k0_cond5 (i : grid0.Coords) (v12 : BitVec 32) : BitVec 1 :=
  let arg0 : BitVec 32 := BitVec.ofNat 32 (i 0).val
  let v13 : BitVec 1 := Scalar.cmpi .sge arg0 v12
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== RoutedIdeal.lean ====
abbrev S98816x2048 : Shape := ⟨2, ![98816, 2048]⟩
abbrev S193 : Shape := ⟨1, ![193]⟩
abbrev S1 : Shape := ⟨1, ![1]⟩
abbrev S2x64x2048x512 : Shape := ⟨4, ![2, 64, 2048, 512]⟩
abbrev S2x64x512x2048 : Shape := ⟨4, ![2, 64, 512, 2048]⟩
abbrev S193x512x2048 : Shape := ⟨3, ![193, 512, 2048]⟩
abbrev S1x64x2048x512 : Shape := ⟨4, ![1, 64, 2048, 512]⟩
abbrev S64x2048x512 : Shape := ⟨3, ![64, 2048, 512]⟩
abbrev S_ : Shape := ⟨0, ![]⟩
abbrev S193x1 : Shape := ⟨2, ![193, 1]⟩
abbrev S193x2048x512 : Shape := ⟨3, ![193, 2048, 512]⟩
abbrev S193x512x512 : Shape := ⟨3, ![193, 512, 512]⟩
abbrev S1x64x512x2048 : Shape := ⟨4, ![1, 64, 512, 2048]⟩
abbrev S64x512x2048 : Shape := ⟨3, ![64, 512, 2048]⟩
abbrev S193x1x1 : Shape := ⟨3, ![193, 1, 1]⟩

abbrev nBuf : Space → Nat
  | .hbm => 66
  | .vmem => 0
  | .smem => 0
  | _ => 0

abbrev bufTy : (tb : Table) → Fin (tcTables nBuf tb) → BufTy
  | .hbm, ⟨0, _⟩ => ⟨S98816x2048, .bf16⟩
  | .hbm, ⟨1, _⟩ => ⟨S193, .i32⟩
  | .hbm, ⟨2, _⟩ => ⟨S1, .i32⟩
  | .hbm, ⟨3, _⟩ => ⟨S2x64x2048x512, .f32⟩
  | .hbm, ⟨4, _⟩ => ⟨S2x64x2048x512, .f32⟩
  | .hbm, ⟨5, _⟩ => ⟨S2x64x512x2048, .f32⟩
  | .hbm, ⟨6, _⟩ => ⟨S193x512x2048, .bf16⟩
  | .hbm, ⟨7, _⟩ => ⟨S193x512x2048, .f32⟩
  | .hbm, ⟨8, _⟩ => ⟨S1x64x2048x512, .f32⟩
  | .hbm, ⟨9, _⟩ => ⟨S64x2048x512, .f32⟩
  | .hbm, ⟨10, _⟩ => ⟨S_, .i32⟩
  | .hbm, ⟨11, _⟩ => ⟨S193, .i32⟩
  | .hbm, ⟨12, _⟩ => ⟨S193, .i1⟩
  | .hbm, ⟨13, _⟩ => ⟨S_, .i32⟩
  | .hbm, ⟨14, _⟩ => ⟨S193, .i32⟩
  | .hbm, ⟨15, _⟩ => ⟨S193, .i32⟩
  | .hbm, ⟨16, _⟩ => ⟨S193, .i32⟩
  | .hbm, ⟨17, _⟩ => ⟨S193x1, .i32⟩
  | .hbm, ⟨18, _⟩ => ⟨S193x2048x512, .f32⟩
  | .hbm, ⟨19, _⟩ => ⟨S193x512x512, .f32⟩
  | .hbm, ⟨20, _⟩ => ⟨S1x64x2048x512, .f32⟩
  | .hbm, ⟨21, _⟩ => ⟨S64x2048x512, .f32⟩
  | .hbm, ⟨22, _⟩ => ⟨S_, .i32⟩
  | .hbm, ⟨23, _⟩ => ⟨S193, .i32⟩
  | .hbm, ⟨24, _⟩ => ⟨S193, .i1⟩
  | .hbm, ⟨25, _⟩ => ⟨S_, .i32⟩
  | .hbm, ⟨26, _⟩ => ⟨S193, .i32⟩
  | .hbm, ⟨27, _⟩ => ⟨S193, .i32⟩
  | .hbm, ⟨28, _⟩ => ⟨S193, .i32⟩
  | .hbm, ⟨29, _⟩ => ⟨S193x1, .i32⟩
  | .hbm, ⟨30, _⟩ => ⟨S193x2048x512, .f32⟩
  | .hbm, ⟨31, _⟩ => ⟨S193x512x512, .f32⟩
  | .hbm, ⟨32, _⟩ => ⟨S193x512x512, .f32⟩
  | .hbm, ⟨33, _⟩ => ⟨S193x512x512, .f32⟩
  | .hbm, ⟨34, _⟩ => ⟨S_, .f32⟩
  | .hbm, ⟨35, _⟩ => ⟨S193x512x512, .f32⟩
  | .hbm, ⟨36, _⟩ => ⟨S193x512x512, .f32⟩
  | .hbm, ⟨37, _⟩ => ⟨S_, .f32⟩
  | .hbm, ⟨38, _⟩ => ⟨S193x512x512, .f32⟩
  | .hbm, ⟨39, _⟩ => ⟨S193x512x512, .f32⟩
  | .hbm, ⟨40, _⟩ => ⟨S193x512x512, .f32⟩
  | .hbm, ⟨41, _⟩ => ⟨S193x512x512, .f32⟩
  | .hbm, ⟨42, _⟩ => ⟨S1x64x512x2048, .f32⟩
  | .hbm, ⟨43, _⟩ => ⟨S64x512x2048, .f32⟩
  | .hbm, ⟨44, _⟩ => ⟨S_, .i32⟩
  | .hbm, ⟨45, _⟩ => ⟨S193, .i32⟩
  | .hbm, ⟨46, _⟩ => ⟨S193, .i1⟩
  | .hbm, ⟨47, _⟩ => ⟨S_, .i32⟩
  | .hbm, ⟨48, _⟩ => ⟨S193, .i32⟩
  | .hbm, ⟨49, _⟩ => ⟨S193, .i32⟩
  | .hbm, ⟨50, _⟩ => ⟨S193, .i32⟩
  | .hbm, ⟨51, _⟩ => ⟨S193x1, .i32⟩
  | .hbm, ⟨52, _⟩ => ⟨S193x512x2048, .f32⟩
  | .hbm, ⟨53, _⟩ => ⟨S193x512x2048, .f32⟩
  | .hbm, ⟨54, _⟩ => ⟨S193, .i32⟩
  | .hbm, ⟨55, _⟩ => ⟨S193x1x1, .i32⟩
  | .hbm, ⟨56, _⟩ => ⟨S_, .i32⟩
  | .hbm, ⟨57, _⟩ => ⟨S193x1x1, .i32⟩
  | .hbm, ⟨58, _⟩ => ⟨S193x1x1, .i1⟩
  | .hbm, ⟨59, _⟩ => ⟨S_, .f32⟩
  | .hbm, ⟨60, _⟩ => ⟨S_, .f32⟩
  | .hbm, ⟨61, _⟩ => ⟨S193x512x2048, .i1⟩
  | .hbm, ⟨62, _⟩ => ⟨S193x512x2048, .f32⟩
  | .hbm, ⟨63, _⟩ => ⟨S193x512x2048, .f32⟩
  | .hbm, ⟨64, _⟩ => ⟨S98816x2048, .f32⟩
  | .hbm, ⟨65, _⟩ => ⟨S98816x2048, .bf16⟩
  | _, _ => ⟨S98816x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_c_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Recur.lean ====
abbrev S32x8192 : Shape := ⟨2, ![32, 8192]⟩
abbrev S2048 : Shape := ⟨1, ![2048]⟩
abbrev S8x16x128x128 : Shape := ⟨4, ![8, 16, 128, 128]⟩
abbrev S448x64 : Shape := ⟨2, ![448, 64]⟩
abbrev S7x64x64 : Shape := ⟨3, ![7, 64, 64]⟩
abbrev S8x4x8192 : Shape := ⟨3, ![8, 4, 8192]⟩
abbrev S_ : Shape := ⟨0, ![]⟩
abbrev S8x64x8192 : Shape := ⟨3, ![8, 64, 8192]⟩
abbrev S512x8192 : Shape := ⟨2, ![512, 8192]⟩
abbrev S1x2048 : Shape := ⟨2, ![1, 2048]⟩
abbrev S8x64x2048 : Shape := ⟨3, ![8, 64, 2048]⟩
abbrev S1x64x128 : Shape := ⟨3, ![1, 64, 128]⟩
abbrev S1x128 : Shape := ⟨2, ![1, 128]⟩
abbrev S1x1x128x128 : Shape := ⟨4, ![1, 1, 128, 128]⟩
abbrev S128x128 : Shape := ⟨2, ![128, 128]⟩
abbrev S64x128 : Shape := ⟨2, ![64, 128]⟩
abbrev S448x128 : Shape := ⟨2, ![448, 128]⟩
abbrev S1x64x64 : Shape := ⟨3, ![1, 64, 64]⟩
abbrev S64x64 : Shape := ⟨2, ![64, 64]⟩
abbrev S64 : Shape := ⟨1, ![64]⟩
abbrev S64x1 : Shape := ⟨2, ![64, 1]⟩

abbrev nBuf : Space → Nat
  | .hbm => 16
  | .vmem => 21
  | .smem => 0
  | _ => 0

abbrev bufTy : (tb : Table) → Fin (tcTables nBuf tb) → BufTy
  | .hbm, ⟨0, _⟩ => ⟨S32x8192, .f32⟩
  | .hbm, ⟨1, _⟩ => ⟨S2048, .f32⟩
  | .hbm, ⟨2, _⟩ => ⟨S2048, .f32⟩
  | .hbm, ⟨3, _⟩ => ⟨S8x16x128x128, .f32⟩
  | .hbm, ⟨4, _⟩ => ⟨S448x64, .bf16⟩
  | .hbm, ⟨5, _⟩ => ⟨S7x64x64, .f32⟩
  | .hbm, ⟨6, _⟩ => ⟨S8x4x8192, .f32⟩
  | .hbm, ⟨7, _⟩ => ⟨S_, .i32⟩
  | .hbm, ⟨8, _⟩ => ⟨S_, .f32⟩
  | .hbm, ⟨9, _⟩ => ⟨S8x64x8192, .f32⟩
  | .hbm, ⟨10, _⟩ => ⟨S512x8192, .f32⟩
  | .hbm, ⟨11, _⟩ => ⟨S8x64x8192, .f32⟩
  | .hbm, ⟨12, _⟩ => ⟨S1x2048, .f32⟩
  | .hbm, ⟨13, _⟩ => ⟨S1x2048, .f32⟩
  | .hbm, ⟨14, _⟩ => ⟨S8x64x2048, .bf16⟩
  | .hbm, ⟨15, _⟩ => ⟨S8x16x128x128, .f32⟩
  | .local _ .vmem, ⟨0, _⟩ => ⟨S1x64x128, .f32⟩
  | .local _ .vmem, ⟨1, _⟩ => ⟨S1x64x128, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x64x128, .f32⟩
  | .local _ .vmem, ⟨7, _⟩ => ⟨S1x64x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x1x128x128, .f32⟩
  | .local _ .vmem, ⟨13, _⟩ => ⟨S1x1x128x128, .f32⟩
  | .local _ .vmem, ⟨14, _⟩ => ⟨S448x64, .bf16⟩
  | .local _ .vmem, ⟨15, _⟩ => ⟨S7x64x64, .f32⟩
  | .local _ .vmem, ⟨16, _⟩ => ⟨S1x64x128, .bf16⟩
  | .local _ .vmem, ⟨17, _⟩ => ⟨S1x64x128, .bf16⟩
  | .local _ .vmem, ⟨18, _⟩ => ⟨S1x1x128x128, .f32⟩
  | .local _ .vmem, ⟨19, _⟩ => ⟨S1x1x128x128, .f32⟩
  | .local _ .vmem, ⟨20, _⟩ => ⟨S128x128, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![8, 16, 1], ![false, false, false]⟩

def k0_cond2 (i : grid0.Coords) : BitVec 1 :=
  let arg2 : BitVec 32 := BitVec.ofNat 32 (i 2).val
  let c0_i32_67 : BitVec 32 := 0#32
  let v171 : BitVec 1 := Scalar.cmpi .eq arg2 c0_i32_67
  let v172 : BitVec 32 := Scalar.extui v171
  let c0_i32_68 : BitVec 32 := 0#32
  let v173 : BitVec 1 := Scalar.cmpi .ne v172 c0_i32_68
  v173

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg1 c32_i32
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi arg1 c48_i32
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S448x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S7x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== StateIdeal.lean ====
abbrev S32x8192 : Shape := ⟨2, ![32, 8192]⟩
abbrev S2048 : Shape := ⟨1, ![2048]⟩
abbrev S8x16x128x128 : Shape := ⟨4, ![8, 16, 128, 128]⟩
abbrev S8x4x8192 : Shape := ⟨3, ![8, 4, 8192]⟩
abbrev S8x4x2048 : Shape := ⟨3, ![8, 4, 2048]⟩
abbrev S_ : Shape := ⟨0, ![]⟩
abbrev S1x1x2048 : Shape := ⟨3, ![1, 1, 2048]⟩
abbrev S8x4x16x128 : Shape := ⟨4, ![8, 4, 16, 128]⟩
abbrev S8x1x16x128 : Shape := ⟨4, ![8, 1, 16, 128]⟩
abbrev S8x16x128 : Shape := ⟨3, ![8, 16, 128]⟩
abbrev S8x16x128x1 : Shape := ⟨4, ![8, 16, 128, 1]⟩

abbrev nBuf : Space → Nat
  | .hbm => 48
  | .vmem => 0
  | .smem => 0
  | _ => 0

abbrev bufTy : (tb : Table) → Fin (tcTables nBuf tb) → BufTy
  | .hbm, ⟨0, _⟩ => ⟨S32x8192, .f32⟩
  | .hbm, ⟨1, _⟩ => ⟨S2048, .f32⟩
  | .hbm, ⟨2, _⟩ => ⟨S2048, .f32⟩
  | .hbm, ⟨3, _⟩ => ⟨S8x16x128x128, .f32⟩
  | .hbm, ⟨4, _⟩ => ⟨S8x4x8192, .f32⟩
  | .hbm, ⟨5, _⟩ => ⟨S8x4x2048, .f32⟩
  | .hbm, ⟨6, _⟩ => ⟨S8x4x2048, .f32⟩
  | .hbm, ⟨7, _⟩ => ⟨S8x4x2048, .f32⟩
  | .hbm, ⟨8, _⟩ => ⟨S8x4x2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S8x4x2048, .f32⟩
  | .hbm, ⟨13, _⟩ => ⟨S8x4x2048, .f32⟩
  | .hbm, ⟨14, _⟩ => ⟨S_, .f32⟩
  | .hbm, ⟨15, _⟩ => ⟨S8x4x2048, .f32⟩
  | .hbm, ⟨16, _⟩ => ⟨S8x4x2048, .f32⟩
  | .hbm, ⟨17, _⟩ => ⟨S_, .f32⟩
  | .hbm, ⟨18, _⟩ => ⟨S8x4x2048, .f32⟩
  | .hbm, ⟨19, _⟩ => ⟨S8x4x2048, .f32⟩
  | .hbm, ⟨20, _⟩ => ⟨S1x1x2048, .f32⟩
  | .hbm, ⟨21, _⟩ => ⟨S8x4x2048, .f32⟩
  | .hbm, ⟨22, _⟩ => ⟨S8x4x2048, .f32⟩
  | .hbm, ⟨23, _⟩ => ⟨S1x1x2048, .f32⟩
  | .hbm, ⟨24, _⟩ => ⟨S8x4x2048, .f32⟩
  | .hbm, ⟨25, _⟩ => ⟨S8x4x2048, .f32⟩
  | .hbm, ⟨26, _⟩ => ⟨S8x4x2048, .f32⟩
  | .hbm, ⟨27, _⟩ => ⟨S8x4x16x128, .f32⟩
  | .hbm, ⟨28, _⟩ => ⟨S_, .f32⟩
  | .hbm, ⟨29, _⟩ => ⟨S_, .f32⟩
  | .hbm, ⟨30, _⟩ => ⟨S8x4x16x128, .f32⟩
  | .hbm, ⟨31, _⟩ => ⟨S8x1x16x128, .f32⟩
  | .hbm, ⟨32, _⟩ => ⟨S8x16x128, .f32⟩
  | .hbm, ⟨33, _⟩ => ⟨S8x16x128, .f32⟩
  | .hbm, ⟨34, _⟩ => ⟨S8x16x128x1, .f32⟩
  | .hbm, ⟨35, _⟩ => ⟨S8x16x128x128, .f32⟩
  | .hbm, ⟨36, _⟩ => ⟨S8x16x128x128, .f32⟩
  | .hbm, ⟨37, _⟩ => ⟨S_, .f32⟩
  | .hbm, ⟨38, _⟩ => ⟨S8x4x2048, .f32⟩
  | .hbm, ⟨39, _⟩ => ⟨S8x4x2048, .f32⟩
  | .hbm, ⟨40, _⟩ => ⟨S8x4x16x128, .f32⟩
  | .hbm, ⟨41, _⟩ => ⟨S8x4x16x128, .f32⟩
  | .hbm, ⟨42, _⟩ => ⟨S8x4x16x128, .f32⟩
  | .hbm, ⟨43, _⟩ => ⟨S8x4x16x128, .f32⟩
  | .hbm, ⟨44, _⟩ => ⟨S8x4x16x128, .f32⟩
  | .hbm, ⟨45, _⟩ => ⟨S8x4x16x128, .f32⟩
  | .hbm, ⟨46, _⟩ => ⟨S8x16x128x128, .f32⟩
  | .hbm, ⟨47, _⟩ => ⟨S8x16x128x128, .f32⟩
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_call0_cst : Ref sig .tc := ⟨.hbm, 28, rfl⟩
abbrev main_call0_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== RecurPrompt.lean ====
abbrev S8192x8192 : Shape := ⟨2, ![8192, 8192]⟩
abbrev S2048 : Shape := ⟨1, ![2048]⟩
abbrev S4x16x128x128 : Shape := ⟨4, ![4, 16, 128, 128]⟩
abbrev S448x64 : Shape := ⟨2, ![448, 64]⟩
abbrev S7x64x64 : Shape := ⟨3, ![7, 64, 64]⟩
abbrev S4x2048x8192 : Shape := ⟨3, ![4, 2048, 8192]⟩
abbrev S1x2048 : Shape := ⟨2, ![1, 2048]⟩
abbrev S4x2048x2048 : Shape := ⟨3, ![4, 2048, 2048]⟩
abbrev S1x512x128 : Shape := ⟨3, ![1, 512, 128]⟩
abbrev S1x128 : Shape := ⟨2, ![1, 128]⟩
abbrev S1x1x128x128 : Shape := ⟨4, ![1, 1, 128, 128]⟩
abbrev S128x128 : Shape := ⟨2, ![128, 128]⟩
abbrev S1x64x128 : Shape := ⟨3, ![1, 64, 128]⟩
abbrev S64x128 : Shape := ⟨2, ![64, 128]⟩
abbrev S448x128 : Shape := ⟨2, ![448, 128]⟩
abbrev S1x64x64 : Shape := ⟨3, ![1, 64, 64]⟩
abbrev S64x64 : Shape := ⟨2, ![64, 64]⟩
abbrev S64 : Shape := ⟨1, ![64]⟩
abbrev S64x1 : Shape := ⟨2, ![64, 1]⟩

abbrev nBuf : Space → Nat
  | .hbm => 11
  | .vmem => 21
  | .smem => 0
  | _ => 0

abbrev bufTy : (tb : Table) → Fin (tcTables nBuf tb) → BufTy
  | .hbm, ⟨0, _⟩ => ⟨S8192x8192, .f32⟩
  | .hbm, ⟨1, _⟩ => ⟨S2048, .f32⟩
  | .hbm, ⟨2, _⟩ => ⟨S2048, .f32⟩
  | .hbm, ⟨3, _⟩ => ⟨S4x16x128x128, .f32⟩
  | .hbm, ⟨4, _⟩ => ⟨S448x64, .bf16⟩
  | .hbm, ⟨5, _⟩ => ⟨S7x64x64, .f32⟩
  | .hbm, ⟨6, _⟩ => ⟨S4x2048x8192, .f32⟩
  | .hbm, ⟨7, _⟩ => ⟨S1x2048, .f32⟩
  | .hbm, ⟨8, _⟩ => ⟨S1x2048, .f32⟩
  | .hbm, ⟨9, _⟩ => ⟨S4x2048x2048, .bf16⟩
  | .hbm, ⟨10, _⟩ => ⟨S4x16x128x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x1x128x128, .f32⟩
  | .local _ .vmem, ⟨13, _⟩ => ⟨S1x1x128x128, .f32⟩
  | .local _ .vmem, ⟨14, _⟩ => ⟨S448x64, .bf16⟩
  | .local _ .vmem, ⟨15, _⟩ => ⟨S7x64x64, .f32⟩
  | .local _ .vmem, ⟨16, _⟩ => ⟨S1x512x128, .bf16⟩
  | .local _ .vmem, ⟨17, _⟩ => ⟨S1x512x128, .bf16⟩
  | .local _ .vmem, ⟨18, _⟩ => ⟨S1x1x128x128, .f32⟩
  | .local _ .vmem, ⟨19, _⟩ => ⟨S1x1x128x128, .f32⟩
  | .local _ .vmem, ⟨20, _⟩ => ⟨S128x128, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 16, 4], ![false, false, false]⟩

def k0_cond2 (i : grid0.Coords) : BitVec 1 :=
  let arg2 : BitVec 32 := BitVec.ofNat 32 (i 2).val
  let c3_i32 : BitVec 32 := 3#32
  let v1219 : BitVec 1 := Scalar.cmpi .eq arg2 c3_i32
  let v1220 : BitVec 32 := Scalar.extui v1219
  let c0_i32_498 : BitVec 32 := 0#32
  let v1221 : BitVec 1 := Scalar.cmpi .ne v1220 c0_i32_498
  v1221

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi arg1 c16_i32
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi arg1 c32_i32
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c48_i32 : BitVec 32 := 48#32
  let v0 : BitVec 32 := Scalar.addi arg1 c48_i32
  let c0_i32 : BitVec 32 := 0#32
  ![arg0.toNat, arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S448x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S7x64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== StatePromptIdeal.lean ====
abbrev S8192x8192 : Shape := ⟨2, ![8192, 8192]⟩
abbrev S2048 : Shape := ⟨1, ![2048]⟩
abbrev S4x16x128x128 : Shape := ⟨4, ![4, 16, 128, 128]⟩
abbrev S4x2048x8192 : Shape := ⟨3, ![4, 2048, 8192]⟩
abbrev S4x2048x2048 : Shape := ⟨3, ![4, 2048, 2048]⟩
abbrev S_ : Shape := ⟨0, ![]⟩
abbrev S1x1x2048 : Shape := ⟨3, ![1, 1, 2048]⟩
abbrev S4x32x64x16x128 : Shape := ⟨5, ![4, 32, 64, 16, 128]⟩
abbrev S4x32x1x16x128 : Shape := ⟨5, ![4, 32, 1, 16, 128]⟩
abbrev S4x32x16x128 : Shape := ⟨4, ![4, 32, 16, 128]⟩
abbrev S4x32x16x128x1 : Shape := ⟨5, ![4, 32, 16, 128, 1]⟩
abbrev S4x32x16x128x128 : Shape := ⟨5, ![4, 32, 16, 128, 128]⟩
abbrev S4x1x16x128x128 : Shape := ⟨5, ![4, 1, 16, 128, 128]⟩

abbrev nBuf : Space → Nat
  | .hbm => 176
  | .vmem => 0
  | .smem => 0
  | _ => 0

abbrev hbmTy0_0 (i : Nat) : BufTy := match i % 128 with
  | 0 => ⟨S8192x8192, .f32⟩
  | 1 => ⟨S2048, .f32⟩
  | 2 => ⟨S2048, .f32⟩
  | 3 => ⟨S4x16x128x128, .f32⟩
  | 4 => ⟨S4x2048x8192, .f32⟩
  | 5 => ⟨S4x2048x2048, .f32⟩
  | 6 => ⟨S4x2048x2048, .f32⟩
  | 7 => ⟨S4x2048x2048, .f32⟩
  | 8 => ⟨S4x2048x2048, .f32⟩
  | 9 => ⟨S_, .f32⟩
  | 10 => ⟨S2048, .f32⟩
  | 11 => ⟨S2048, .f32⟩
  | 12 => ⟨S4x2048x2048, .f32⟩
  | 13 => ⟨S4x2048x2048, .f32⟩
  | 14 => ⟨S_, .f32⟩
  | 15 => ⟨S4x2048x2048, .f32⟩
  | 16 => ⟨S4x2048x2048, .f32⟩
  | 17 => ⟨S_, .f32⟩
  | 18 => ⟨S4x2048x2048, .f32⟩
  | 19 => ⟨S4x2048x2048, .f32⟩
  | 20 => ⟨S1x1x2048, .f32⟩
  | 21 => ⟨S4x2048x2048, .f32⟩
  | 22 => ⟨S4x2048x2048, .f32⟩
  | 23 => ⟨S1x1x2048, .f32⟩
  | 24 => ⟨S4x2048x2048, .f32⟩
  | 25 => ⟨S4x2048x2048, .f32⟩
  | 26 => ⟨S4x2048x2048, .f32⟩
  | 27 => ⟨S4x32x64x16x128, .f32⟩
  | 28 => ⟨S_, .f32⟩
  | 29 => ⟨S_, .f32⟩
  | 30 => ⟨S4x32x64x16x128, .f32⟩
  | 31 => ⟨S4x32x1x16x128, .f32⟩
  | 32 => ⟨S4x32x16x128, .f32⟩
  | 33 => ⟨S4x32x16x128, .f32⟩
  | 34 => ⟨S4x32x16x128x1, .f32⟩
  | 35 => ⟨S4x32x16x128x128, .f32⟩
  | 36 => ⟨S_, .f32⟩
  | 37 => ⟨S4x2048x2048, .f32⟩
  | 38 => ⟨S4x2048x2048, .f32⟩
  | 39 => ⟨S4x32x64x16x128, .f32⟩
  | 40 => ⟨S4x32x64x16x128, .f32⟩
  | 41 => ⟨S4x32x64x16x128, .f32⟩
  | 42 => ⟨S4x32x64x16x128, .f32⟩
  | 43 => ⟨S4x32x64x16x128, .f32⟩
  | 44 => ⟨S4x32x64x16x128, .f32⟩
  | 45 => ⟨S4x32x16x128x128, .f32⟩
  | 46 => ⟨S4x1x16x128x128, .f32⟩
  | 47 => ⟨S4x1x16x128x128, .f32⟩
  | 48 => ⟨S4x1x16x128x128, .f32⟩
  | 49 => ⟨S4x1x16x128x128, .f32⟩
  | 50 => ⟨S4x1x16x128x128, .f32⟩
  | 51 => ⟨S4x1x16x128x128, .f32⟩
  | 52 => ⟨S4x1x16x128x128, .f32⟩
  | 53 => ⟨S4x1x16x128x128, .f32⟩
  | 54 => ⟨S4x1x16x128x128, .f32⟩
  | 55 => ⟨S4x1x16x128x128, .f32⟩
  | 56 => ⟨S4x1x16x128x128, .f32⟩
  | 57 => ⟨S4x1x16x128x128, .f32⟩
  | 58 => ⟨S4x1x16x128x128, .f32⟩
  | 59 => ⟨S4x1x16x128x128, .f32⟩
  | 60 => ⟨S4x1x16x128x128, .f32⟩
  | 61 => ⟨S4x1x16x128x128, .f32⟩
  | 62 => ⟨S4x1x16x128x128, .f32⟩
  | 63 => ⟨S4x1x16x128x128, .f32⟩
  | 64 => ⟨S4x1x16x128x128, .f32⟩
  | 65 => ⟨S4x1x16x128x128, .f32⟩
  | 66 => ⟨S4x1x16x128x128, .f32⟩
  | 67 => ⟨S4x1x16x128x128, .f32⟩
  | 68 => ⟨S4x1x16x128x128, .f32⟩
  | 69 => ⟨S4x1x16x128x128, .f32⟩
  | 70 => ⟨S4x1x16x128x128, .f32⟩
  | 71 => ⟨S4x1x16x128x128, .f32⟩
  | 72 => ⟨S4x1x16x128x128, .f32⟩
  | 73 => ⟨S4x1x16x128x128, .f32⟩
  | 74 => ⟨S4x1x16x128x128, .f32⟩
  | 75 => ⟨S4x1x16x128x128, .f32⟩
  | 76 => ⟨S4x1x16x128x128, .f32⟩
  | 77 => ⟨S4x1x16x128x128, .f32⟩
  | 78 => ⟨S4x1x16x128x128, .f32⟩
  | 79 => ⟨S4x1x16x128x128, .f32⟩
  | 80 => ⟨S4x1x16x128x128, .f32⟩
  | 81 => ⟨S4x1x16x128x128, .f32⟩
  | 82 => ⟨S4x1x16x128x128, .f32⟩
  | 83 => ⟨S4x1x16x128x128, .f32⟩
  | 84 => ⟨S4x1x16x128x128, .f32⟩
  | 85 => ⟨S4x1x16x128x128, .f32⟩
  | 86 => ⟨S4x1x16x128x128, .f32⟩
  | 87 => ⟨S4x1x16x128x128, .f32⟩
  | 88 => ⟨S4x1x16x128x128, .f32⟩
  | 89 => ⟨S4x1x16x128x128, .f32⟩
  | 90 => ⟨S4x1x16x128x128, .f32⟩
  | 91 => ⟨S4x1x16x128x128, .f32⟩
  | 92 => ⟨S4x1x16x128x128, .f32⟩
  | 93 => ⟨S4x1x16x128x128, .f32⟩
  | 94 => ⟨S4x1x16x128x128, .f32⟩
  | 95 => ⟨S4x1x16x128x128, .f32⟩
  | 96 => ⟨S4x1x16x128x128, .f32⟩
  | 97 => ⟨S4x1x16x128x128, .f32⟩
  | 98 => ⟨S4x1x16x128x128, .f32⟩
  | 99 => ⟨S4x1x16x128x128, .f32⟩
  | 100 => ⟨S4x1x16x128x128, .f32⟩
  | 101 => ⟨S4x1x16x128x128, .f32⟩
  | 102 => ⟨S4x1x16x128x128, .f32⟩
  | 103 => ⟨S4x1x16x128x128, .f32⟩
  | 104 => ⟨S4x1x16x128x128, .f32⟩
  | 105 => ⟨S4x1x16x128x128, .f32⟩
  | 106 => ⟨S4x1x16x128x128, .f32⟩
  | 107 => ⟨S4x1x16x128x128, .f32⟩
  | 108 => ⟨S4x1x16x128x128, .f32⟩
  | 109 => ⟨S4x1x16x128x128, .f32⟩
  | 110 => ⟨S4x1x16x128x128, .f32⟩
  | 111 => ⟨S4x1x16x128x128, .f32⟩
  | 112 => ⟨S4x1x16x128x128, .f32⟩
  | 113 => ⟨S4x1x16x128x128, .f32⟩
  | 114 => ⟨S4x1x16x128x128, .f32⟩
  | 115 => ⟨S4x1x16x128x128, .f32⟩
  | 116 => ⟨S4x1x16x128x128, .f32⟩
  | 117 => ⟨S4x1x16x128x128, .f32⟩
  | 118 => ⟨S4x1x16x128x128, .f32⟩
  | 119 => ⟨S4x1x16x128x128, .f32⟩
  | 120 => ⟨S4x1x16x128x128, .f32⟩
  | 121 => ⟨S4x1x16x128x128, .f32⟩
  | 122 => ⟨S4x1x16x128x128, .f32⟩
  | 123 => ⟨S4x1x16x128x128, .f32⟩
  | 124 => ⟨S4x1x16x128x128, .f32⟩
  | 125 => ⟨S4x1x16x128x128, .f32⟩
  | 126 => ⟨S4x1x16x128x128, .f32⟩
  | 127 => ⟨S4x1x16x128x128, .f32⟩
  | _ => ⟨S8192x8192, .f32⟩

abbrev hbmTy0_1 (i : Nat) : BufTy := match i % 128 with
  | 0 => ⟨S4x1x16x128x128, .f32⟩
  | 1 => ⟨S4x1x16x128x128, .f32⟩
  | 2 => ⟨S4x1x16x128x128, .f32⟩
  | 3 => ⟨S4x1x16x128x128, .f32⟩
  | 4 => ⟨S4x1x16x128x128, .f32⟩
  | 5 => ⟨S4x1x16x128x128, .f32⟩
  | 6 => ⟨S4x1x16x128x128, .f32⟩
  | 7 => ⟨S4x1x16x128x128, .f32⟩
  | 8 => ⟨S4x1x16x128x128, .f32⟩
  | 9 => ⟨S4x1x16x128x128, .f32⟩
  | 10 => ⟨S4x1x16x128x128, .f32⟩
  | 11 => ⟨S4x1x16x128x128, .f32⟩
  | 12 => ⟨S4x1x16x128x128, .f32⟩
  | 13 => ⟨S4x1x16x128x128, .f32⟩
  | 14 => ⟨S4x1x16x128x128, .f32⟩
  | 15 => ⟨S4x1x16x128x128, .f32⟩
  | 16 => ⟨S4x1x16x128x128, .f32⟩
  | 17 => ⟨S4x1x16x128x128, .f32⟩
  | 18 => ⟨S4x1x16x128x128, .f32⟩
  | 19 => ⟨S4x1x16x128x128, .f32⟩
  | 20 => ⟨S4x1x16x128x128, .f32⟩
  | 21 => ⟨S4x1x16x128x128, .f32⟩
  | 22 => ⟨S4x1x16x128x128, .f32⟩
  | 23 => ⟨S4x1x16x128x128, .f32⟩
  | 24 => ⟨S4x1x16x128x128, .f32⟩
  | 25 => ⟨S4x1x16x128x128, .f32⟩
  | 26 => ⟨S4x1x16x128x128, .f32⟩
  | 27 => ⟨S4x1x16x128x128, .f32⟩
  | 28 => ⟨S4x1x16x128x128, .f32⟩
  | 29 => ⟨S4x1x16x128x128, .f32⟩
  | 30 => ⟨S4x1x16x128x128, .f32⟩
  | 31 => ⟨S4x1x16x128x128, .f32⟩
  | 32 => ⟨S4x1x16x128x128, .f32⟩
  | 33 => ⟨S4x1x16x128x128, .f32⟩
  | 34 => ⟨S4x1x16x128x128, .f32⟩
  | 35 => ⟨S4x1x16x128x128, .f32⟩
  | 36 => ⟨S4x1x16x128x128, .f32⟩
  | 37 => ⟨S4x1x16x128x128, .f32⟩
  | 38 => ⟨S4x1x16x128x128, .f32⟩
  | 39 => ⟨S4x1x16x128x128, .f32⟩
  | 40 => ⟨S4x1x16x128x128, .f32⟩
  | 41 => ⟨S4x1x16x128x128, .f32⟩
  | 42 => ⟨S4x1x16x128x128, .f32⟩
  | 43 => ⟨S4x1x16x128x128, .f32⟩
  | 44 => ⟨S4x1x16x128x128, .f32⟩
  | 45 => ⟨S4x1x16x128x128, .f32⟩
  | 46 => ⟨S4x1x16x128x128, .f32⟩
  | 47 => ⟨S4x16x128x128, .f32⟩
  | _ => ⟨S8192x8192, .f32⟩

abbrev hbmTy (i : Nat) : BufTy := match i / 128 with
  | 0 => hbmTy0_0 i
  | 1 => hbmTy0_1 i
  | _ => ⟨S8192x8192, .f32⟩

abbrev bufTy : (tb : Table) → Fin (tcTables nBuf tb) → BufTy
  | .hbm, ⟨i, _⟩ => hbmTy i
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_call0_cst : Ref sig .tc := ⟨.hbm, 28, rfl⟩
abbrev main_call0_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩

abbrev nD : Nat := 1
abbrev τ : Topo := Topo.v7x

variable {F : FTy → Type} [FloatOps F]
-- ==== ExpertsShared.lean ====
abbrev S8192x2048 : Shape := ⟨2, ![8192, 2048]⟩
abbrev S2x2048x512 : Shape := ⟨3, ![2, 2048, 512]⟩
abbrev S2x512x2048 : Shape := ⟨3, ![2, 512, 2048]⟩
abbrev S_ : Shape := ⟨0, ![]⟩
abbrev S16 : Shape := ⟨1, ![16]⟩
abbrev S1 : Shape := ⟨1, ![1]⟩
abbrev S2x1x2048x512 : Shape := ⟨4, ![2, 1, 2048, 512]⟩
abbrev S2x1x512x2048 : Shape := ⟨4, ![2, 1, 512, 2048]⟩
abbrev S15 : Shape := ⟨1, ![15]⟩
abbrev S16x1 : Shape := ⟨2, ![16, 1]⟩
abbrev S512x2048 : Shape := ⟨2, ![512, 2048]⟩
abbrev S2048x512 : Shape := ⟨2, ![2048, 512]⟩
abbrev S3x2 : Shape := ⟨2, ![3, 2]⟩
abbrev S1x1 : Shape := ⟨2, ![1, 1]⟩
abbrev S1x2048x512 : Shape := ⟨3, ![1, 2048, 512]⟩
abbrev S1x1x2048x512 : Shape := ⟨4, ![1, 1, 2048, 512]⟩
abbrev S1x512x2048 : Shape := ⟨3, ![1, 512, 2048]⟩
abbrev S1x1x512x2048 : Shape := ⟨4, ![1, 1, 512, 2048]⟩
abbrev S512x512 : Shape := ⟨2, ![512, 512]⟩

abbrev nBuf : Space → Nat
  | .hbm => 80
  | .vmem => 10
  | .smem => 5
  | _ => 0

abbrev bufTy : (tb : Table) → Fin (tcTables nBuf tb) → BufTy
  | .hbm, ⟨0, _⟩ => ⟨S8192x2048, .bf16⟩
  | .hbm, ⟨1, _⟩ => ⟨S2x2048x512, .f32⟩
  | .hbm, ⟨2, _⟩ => ⟨S2x2048x512, .f32⟩
  | .hbm, ⟨3, _⟩ => ⟨S2x512x2048, .f32⟩
  | .hbm, ⟨4, _⟩ => ⟨S_, .i32⟩
  | .hbm, ⟨5, _⟩ => ⟨S_, .i32⟩
  | .hbm, ⟨6, _⟩ => ⟨S2x1x2048x512, .f32⟩
  | .hbm, ⟨7, _⟩ => ⟨S2x1x2048x512, .f32⟩
  | .hbm, ⟨8, _⟩ => ⟨S2x1x512x2048, .f32⟩
  | .hbm, ⟨9, _⟩ => ⟨S16, .i32⟩
  | .hbm, ⟨10, _⟩ => ⟨S1, .i32⟩
  | .hbm, ⟨11, _⟩ => ⟨S15, .i32⟩
  | .hbm, ⟨12, _⟩ => ⟨S16, .i32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16, .i1⟩
  | .hbm, ⟨20, _⟩ => ⟨S16, .i1⟩
  | .hbm, ⟨21, _⟩ => ⟨S16, .i1⟩
  | .hbm, ⟨22, _⟩ => ⟨S16, .i32⟩
  | .hbm, ⟨23, _⟩ => ⟨S_, .i32⟩
  | .hbm, ⟨24, _⟩ => ⟨S_, .i32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S_, .i32⟩
  | .hbm, ⟨38, _⟩ => ⟨S16, .i32⟩
  | .hbm, ⟨39, _⟩ => ⟨S16, .i1⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S_, .i32⟩
  | .hbm, ⟨44, _⟩ => ⟨S_, .i1⟩
  | .hbm, ⟨45, _⟩ => ⟨S16, .i1⟩
  | .hbm, ⟨46, _⟩ => ⟨S16, .i1⟩
  | .hbm, ⟨47, _⟩ => ⟨S16, .i1⟩
  | .hbm, ⟨48, _⟩ => ⟨S16, .i32⟩
  | .hbm, ⟨49, _⟩ => ⟨S16, .i32⟩
  | .hbm, ⟨50, _⟩ => ⟨S_, .i32⟩
  | .hbm, ⟨51, _⟩ => ⟨S_, .i32⟩
  | .hbm, ⟨52, _⟩ => ⟨S16, .i32⟩
  | .hbm, ⟨53, _⟩ => ⟨S16, .i32⟩
  | .hbm, ⟨54, _⟩ => ⟨S15, .i32⟩
  | .hbm, ⟨55, _⟩ => ⟨S_, .i32⟩
  | .hbm, ⟨56, _⟩ => ⟨S1, .i32⟩
  | .hbm, ⟨57, _⟩ => ⟨S16, .i32⟩
  | .hbm, ⟨58, _⟩ => ⟨S_, .i32⟩
  | .hbm, ⟨59, _⟩ => ⟨S_, .i32⟩
  | .hbm, ⟨60, _⟩ => ⟨S16, .i32⟩
  | .hbm, ⟨61, _⟩ => ⟨S_, .i32⟩
  | .hbm, ⟨62, _⟩ => ⟨S16, .i32⟩
  | .hbm, ⟨63, _⟩ => ⟨S16, .i1⟩
  | .hbm, ⟨64, _⟩ => ⟨S_, .i32⟩
  | .hbm, ⟨65, _⟩ => ⟨S16, .i32⟩
  | .hbm, ⟨66, _⟩ => ⟨S16, .i32⟩
  | .hbm, ⟨67, _⟩ => ⟨S_, .i32⟩
  | .hbm, ⟨68, _⟩ => ⟨S16, .i32⟩
  | .hbm, ⟨69, _⟩ => ⟨S16, .i1⟩
  | .hbm, ⟨70, _⟩ => ⟨S_, .i32⟩
  | .hbm, ⟨71, _⟩ => ⟨S16, .i32⟩
  | .hbm, ⟨72, _⟩ => ⟨S16, .i32⟩
  | .hbm, ⟨73, _⟩ => ⟨S16, .i32⟩
  | .hbm, ⟨74, _⟩ => ⟨S16x1, .i32⟩
  | .hbm, ⟨75, _⟩ => ⟨S16, .i32⟩
  | .hbm, ⟨76, _⟩ => ⟨S_, .i32⟩
  | .hbm, ⟨77, _⟩ => ⟨S_, .i32⟩
  | .hbm, ⟨78, _⟩ => ⟨S16, .i32⟩
  | .hbm, ⟨79, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2x2048x512, .f32⟩
  | .local _ .vmem, ⟨5, _⟩ => ⟨S2x2048x512, .f32⟩
  | .local _ .vmem, ⟨6, _⟩ => ⟨S2x512x2048, .f32⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .smem, ⟨0, _⟩ => ⟨S16, .i32⟩
  | .local _ .smem, ⟨1, _⟩ => ⟨S1, .i32⟩
  | .local _ .smem, ⟨2, _⟩ => ⟨S16, .i32⟩
  | .local _ .smem, ⟨3, _⟩ => ⟨S16, .i32⟩
  | .local _ .smem, ⟨4, _⟩ => ⟨S16, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_call0_c : Ref sig .tc := ⟨.hbm, 23, rfl⟩
abbrev main_call0_call0_v0 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_c_3 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_c_4 : Ref sig .tc := ⟨.hbm, 50, rfl⟩
abbrev main_call2_v0 : Ref sig .tc := ⟨.hbm, 51, rfl⟩
abbrev main_call2_v1 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_call3_c : Ref sig .tc := ⟨.hbm, 58, rfl⟩
abbrev main_call3_v0 : Ref sig .tc := ⟨.hbm, 59, rfl⟩
abbrev main_v26 : Ref sig .tc := ⟨.hbm, 60, rfl⟩
abbrev main_c_6 : Ref sig .tc := ⟨.hbm, 61, rfl⟩
abbrev main_v27 : Ref sig .tc := ⟨.hbm, 62, rfl⟩
abbrev main_v28 : Ref sig .tc := ⟨.hbm, 63, rfl⟩
abbrev main_c_7 : Ref sig .tc := ⟨.hbm, 64, rfl⟩
abbrev main_v29 : Ref sig .tc := ⟨.hbm, 65, rfl⟩
abbrev main_v30 : Ref sig .tc := ⟨.hbm, 66, rfl⟩
abbrev main_c_8 : Ref sig .tc := ⟨.hbm, 67, rfl⟩
abbrev main_v31 : Ref sig .tc := ⟨.hbm, 68, rfl⟩
abbrev main_v32 : Ref sig .tc := ⟨.hbm, 69, rfl⟩
abbrev main_c_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_10 : Ref sig .tc := ⟨.hbm, 76, rfl⟩
abbrev main_call4_v0 : Ref sig .tc := ⟨.hbm, 77, rfl⟩
abbrev main_call4_v1 : Ref sig .tc := ⟨.hbm, 78, rfl⟩
abbrev main_v40 : Ref sig .tc := ⟨.hbm, 79, rfl⟩
abbrev main_v0 : Ref sig .tc := ⟨.smem, 0, rfl⟩
abbrev main_v1 : Ref sig .tc := ⟨.smem, 1, rfl⟩
abbrev main_v39 : Ref sig .tc := ⟨.smem, 2, rfl⟩
abbrev main_v21 : Ref sig .tc := ⟨.smem, 3, rfl⟩
abbrev main_v38 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨5, ![main_v0.idx, main_v1.idx, main_v39.idx, main_v21.idx, main_v38.idx], fun | 0 => main_v0.names | 1 => main_v1.names | 2 => main_v39.names | 3 => main_v21.names | 4 => main_v38.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v16 : BitVec 32) : Fin 4 → Nat :=
  let c0_i32_6 : BitVec 32 := 0#32
  let c0_i32_12 : BitVec 32 := 0#32
  let c0_i32_13 : BitVec 32 := 0#32
  ![0, v16.toNat, 0, 0]

def k0_off2 (v16 : BitVec 32) : Fin 4 → Nat :=
  let c0_i32_22 : BitVec 32 := 0#32
  let c0_i32_27 : BitVec 32 := 0#32
  let c0_i32_28 : BitVec 32 := 0#32
  ![0, v16.toNat, 0, 0]

def k0_chk1 (i : grid0.Coords) (v16 : BitVec 32) : Prop :=
  (∀ (k0_h1 : k0_cond1 i = 1#1), ∀ a, (k0_off1 v16) a + S1x1x2048x512.size a ≤ S2x1x2048x512.size a) ∧
  (∀ (k0_h1 : k0_cond1 i = 1#1), ∀ a, (k0_off2 v16) a + S1x1x512x2048.size a ≤ S2x1x512x2048.size a)
theorem k0_off1_inb : ∀ (i : grid0.Coords) (v16 : BitVec 32) (k0_hw1 : k0_chk1 i v16), ∀ (k0_h1 : k0_cond1 i = 1#1), ∀ a, (k0_off1 v16) a + S1x1x2048x512.size a ≤ S2x1x2048x512.size a := fun i v16 k0_hw1 k0_h1 => k0_hw1.1 k0_h1
theorem k0_off2_inb : ∀ (i : grid0.Coords) (v16 : BitVec 32) (k0_hw1 : k0_chk1 i v16), ∀ (k0_h1 : k0_cond1 i = 1#1), ∀ a, (k0_off2 v16) a + S1x1x512x2048.size a ≤ S2x1x512x2048.size a := fun i v16 k0_hw1 k0_h1 => k0_hw1.2 k0_h1

def k0_off3 (i : grid0.Coords) : Fin 1 → Nat :=
  let arg0 : BitVec 32 := BitVec.ofNat 32 (i 0).val
  let v3 : Index := Scalar.indexCast arg0
  ![v3.toNat]
def k0_off4 (i : grid0.Coords) : Fin 1 → Nat :=
  let arg0 : BitVec 32 := BitVec.ofNat 32 (i 0).val
  let v16 : Index := Scalar.indexCast arg0
  ![v16.toNat]
def k0_off5 (v17 : BitVec 32) : Fin 2 → Nat :=
  let c0_i32_6 : BitVec 32 := 0#32
  ![0, v17.toNat]
def k0_cond2 (v4 : BitVec 32) : BitVec 1 :=
  let c1_i32 : BitVec 32 := 1#32
  let v5 : BitVec 1 := Scalar.cmpi .eq v4 c1_i32
  let v6 : BitVec 32 := Scalar.extui v5
  let c0_i32_1 : BitVec 32 := 0#32
  let v7 : BitVec 1 := Scalar.cmpi .ne v6 c0_i32_1
  v7

def k0_off6 (v17 : BitVec 32) : Fin 3 → Nat :=
  let c0_i32_7 : BitVec 32 := 0#32
  let c0_i32_8 : BitVec 32 := 0#32
  ![v17.toNat, 0, 0]
def k0_off7 (v19 : BitVec 32) : Fin 4 → Nat :=
  let c0_i32_5 : BitVec 32 := 0#32
  let c0_i32_9 : BitVec 32 := 0#32
  let c0_i32_10 : BitVec 32 := 0#32
  ![0, v19.toNat, 0, 0]

def k0_off8 (v17 : BitVec 32) : Fin 2 → Nat :=
  let c1_i32_12 : BitVec 32 := 1#32
  ![1, v17.toNat]
def k0_off9 (v17 : BitVec 32) : Fin 3 → Nat :=
  let c0_i32_13 : BitVec 32 := 0#32
  let c0_i32_14 : BitVec 32 := 0#32
  ![v17.toNat, 0, 0]
def k0_off10 (v17 : BitVec 32) : Fin 2 → Nat :=
  let c2_i32 : BitVec 32 := 2#32
  ![2, v17.toNat]
def k0_off11 (v17 : BitVec 32) : Fin 3 → Nat :=
  let c0_i32_18 : BitVec 32 := 0#32
  let c0_i32_19 : BitVec 32 := 0#32
  ![v17.toNat, 0, 0]
def k0_off12 (v19 : BitVec 32) : Fin 4 → Nat :=
  let c0_i32_17 : BitVec 32 := 0#32
  let c0_i32_20 : BitVec 32 := 0#32
  let c0_i32_21 : BitVec 32 := 0#32
  ![0, v19.toNat, 0, 0]

def k0_chk3 (v4 : BitVec 32) (v19 : BitVec 32) : Prop :=
  (∀ (k0_h2 : k0_cond2 v4 = 1#1), ∀ a, (k0_off7 v19) a + S1x1x2048x512.size a ≤ S2x1x2048x512.size a) ∧
  (∀ (k0_h2 : k0_cond2 v4 = 1#1), ∀ a, (k0_off12 v19) a + S1x1x512x2048.size a ≤ S2x1x512x2048.size a)
theorem k0_off7_inb : ∀ (v4 : BitVec 32) (v19 : BitVec 32) (k0_hw3 : k0_chk3 v4 v19), ∀ (k0_h2 : k0_cond2 v4 = 1#1), ∀ a, (k0_off7 v19) a + S1x1x2048x512.size a ≤ S2x1x2048x512.size a := fun v4 v19 k0_hw3 k0_h2 => k0_hw3.1 k0_h2
theorem k0_off12_inb : ∀ (v4 : BitVec 32) (v19 : BitVec 32) (k0_hw3 : k0_chk3 v4 v19), ∀ (k0_h2 : k0_cond2 v4 = 1#1), ∀ a, (k0_off12 v19) a + S1x1x512x2048.size a ≤ S2x1x512x2048.size a := fun v4 v19 k0_hw3 k0_h2 => k0_hw3.2 k0_h2

def k0_off13 (i : grid0.Coords) : Fin 1 → Nat :=
  let arg0 : BitVec 32 := BitVec.ofNat 32 (i 0).val
  let v38 : Index := Scalar.indexCast arg0
  ![v38.toNat]
def k0_off14 (i : grid0.Coords) : Fin 1 → Nat :=
  let arg0 : BitVec 32 := BitVec.ofNat 32 (i 0).val
  let v64 : Index := Scalar.indexCast arg0
  ![v64.toNat]
def k0_off15 (v17 : BitVec 32) : Fin 2 → Nat :=
  let c0_i32_38 : BitVec 32 := 0#32
  let c1_i32_36 : BitVec 32 := 1#32
  let v66 : BitVec 32 := Scalar.subi c1_i32_36 v17
  ![0, v66.toNat]
def k0_cond3 (v39 : BitVec 32) : BitVec 1 :=
  let c0_i32_22 : BitVec 32 := 0#32
  let v40 : BitVec 1 := Scalar.cmpi .sge v39 c0_i32_22
  let v41 : BitVec 32 := Scalar.extui v40
  let c0_i32_23 : BitVec 32 := 0#32
  let v42 : BitVec 1 := Scalar.cmpi .ne v41 c0_i32_23
  v42

def k0_off16 (v17 : BitVec 32) : Fin 3 → Nat :=
  let c1_i32_36 : BitVec 32 := 1#32
  let v66 : BitVec 32 := Scalar.subi c1_i32_36 v17
  let c0_i32_39 : BitVec 32 := 0#32
  let c0_i32_40 : BitVec 32 := 0#32
  ![v66.toNat, 0, 0]
def k0_off17 (v65 : BitVec 32) : Fin 4 → Nat :=
  let c0_i32_37 : BitVec 32 := 0#32
  let c0_i32_41 : BitVec 32 := 0#32
  let c0_i32_42 : BitVec 32 := 0#32
  ![0, v65.toNat, 0, 0]

def k0_off18 (v17 : BitVec 32) : Fin 2 → Nat :=
  let c1_i32_44 : BitVec 32 := 1#32
  let c1_i32_36 : BitVec 32 := 1#32
  let v66 : BitVec 32 := Scalar.subi c1_i32_36 v17
  ![1, v66.toNat]
def k0_off19 (v17 : BitVec 32) : Fin 3 → Nat :=
  let c1_i32_36 : BitVec 32 := 1#32
  let v66 : BitVec 32 := Scalar.subi c1_i32_36 v17
  let c0_i32_45 : BitVec 32 := 0#32
  let c0_i32_46 : BitVec 32 := 0#32
  ![v66.toNat, 0, 0]
def k0_off20 (v17 : BitVec 32) : Fin 2 → Nat :=
  let c2_i32_50 : BitVec 32 := 2#32
  let c1_i32_36 : BitVec 32 := 1#32
  let v66 : BitVec 32 := Scalar.subi c1_i32_36 v17
  ![2, v66.toNat]
def k0_off21 (v17 : BitVec 32) : Fin 3 → Nat :=
  let c1_i32_36 : BitVec 32 := 1#32
  let v66 : BitVec 32 := Scalar.subi c1_i32_36 v17
  let c0_i32_51 : BitVec 32 := 0#32
  let c0_i32_52 : BitVec 32 := 0#32
  ![v66.toNat, 0, 0]

def k0_chk4 (v4 : BitVec 32) (v17 : BitVec 32) (v39 : BitVec 32) : Prop :=
  (∀ (k0_h2 : k0_cond2 v4 = 1#1), ∀ (k0_h3 : k0_cond3 v39 = 1#1), ∀ a, (k0_off15 v17) a + S1x1.size a ≤ S3x2.size a) ∧
  (∀ (k0_h2 : k0_cond2 v4 = 1#1), ∀ (k0_h3 : k0_cond3 v39 = 1#1), ∀ a, (k0_off16 v17) a + S1x2048x512.size a ≤ S2x2048x512.size a) ∧
  (∀ (k0_h2 : k0_cond2 v4 = 1#1), ∀ (k0_h3 : k0_cond3 v39 = 1#1), ∀ a, (k0_off18 v17) a + S1x1.size a ≤ S3x2.size a) ∧
  (∀ (k0_h2 : k0_cond2 v4 = 1#1), ∀ (k0_h3 : k0_cond3 v39 = 1#1), ∀ a, (k0_off19 v17) a + S1x2048x512.size a ≤ S2x2048x512.size a) ∧
  (∀ (k0_h2 : k0_cond2 v4 = 1#1), ∀ (k0_h3 : k0_cond3 v39 = 1#1), ∀ a, (k0_off20 v17) a + S1x1.size a ≤ S3x2.size a) ∧
  (∀ (k0_h2 : k0_cond2 v4 = 1#1), ∀ (k0_h3 : k0_cond3 v39 = 1#1), ∀ a, (k0_off21 v17) a + S1x512x2048.size a ≤ S2x512x2048.size a)
theorem k0_off15_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off15 v17) a + S1x1.size a ≤ S3x2.size a := fun v4 v17 v39 k0_hw4 k0_h2 k0_h3 => k0_hw4.1 k0_h2 k0_h3
theorem k0_off16_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off16 v17) a + S1x2048x512.size a ≤ S2x2048x512.size a := fun v4 v17 v39 k0_hw4 k0_h2 k0_h3 => k0_hw4.2.1 k0_h2 k0_h3
theorem k0_off18_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off18 v17) a + S1x1.size a ≤ S3x2.size a := fun v4 v17 v39 k0_hw4 k0_h2 k0_h3 => k0_hw4.2.2.1 k0_h2 k0_h3
theorem k0_off19_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off19 v17) a + S1x2048x512.size a ≤ S2x2048x512.size a := fun v4 v17 v39 k0_hw4 k0_h2 k0_h3 => k0_hw4.2.2.2.1 k0_h2 k0_h3
theorem k0_off20_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off20 v17) a + S1x1.size a ≤ S3x2.size a := fun v4 v17 v39 k0_hw4 k0_h2 k0_h3 => k0_hw4.2.2.2.2.1 k0_h2 k0_h3
theorem k0_off21_inb : ∀ (v4 : BitVec 32) (v17 : BitVec 32) (v39 : BitVec 32) (k0_hw4 : k0_chk4 v4 v17 v39), ∀ (k0_h2 : k0_cond2 v4 = 1#1), ∀ (k0_h3 : k0_cond3 v39 = 1#1), ∀ a, (k0_off21 v17) a + S1x512x2048.size a ≤ S2x512x2048.size a := fun v4 v17 v39 k0_hw4 k0_h2 k0_h3 => k0_hw4.2.2.2.2.2 k0_h2 k0_h3

def k0_off22 (v65 : BitVec 32) : Fin 4 → Nat :=
  let c0_i32_49 : BitVec 32 := 0#32
  let c0_i32_53 : BitVec 32 := 0#32
  let c0_i32_54 : BitVec 32 := 0#32
  ![0, v65.toNat, 0, 0]

def k0_chk5 (v4 : BitVec 32) (v39 : BitVec 32) (v65 : BitVec 32) : Prop :=
  (∀ (k0_h2 : k0_cond2 v4 = 1#1), ∀ (k0_h3 : k0_cond3 v39 = 1#1), ∀ a, (k0_off17 v65) a + S1x1x2048x512.size a ≤ S2x1x2048x512.size a) ∧
  (∀ (k0_h2 : k0_cond2 v4 = 1#1), ∀ (k0_h3 : k0_cond3 v39 = 1#1), ∀ a, (k0_off22 v65) a + S1x1x512x2048.size a ≤ S2x1x512x2048.size a)
theorem k0_off17_inb : ∀ (v4 : BitVec 32) (v39 : BitVec 32) (v65 : BitVec 32) (k0_hw5 : k0_chk5 v4 v39 v65), ∀ (k0_h2 : k0_cond2 v4 = 1#1), ∀ (k0_h3 : k0_cond3 v39 = 1#1), ∀ a, (k0_off17 v65) a + S1x1x2048x512.size a ≤ S2x1x2048x512.size a := fun v4 v39 v65 k0_hw5 k0_h2 k0_h3 => k0_hw5.1 k0_h2 k0_h3
theorem k0_off22_inb : ∀ (v4 : BitVec 32) (v39 : BitVec 32) (v65 : BitVec 32) (k0_hw5 : k0_chk5 v4 v39 v65), ∀ (k0_h2 : k0_cond2 v4 = 1#1), ∀ (k0_h3 : k0_cond3 v39 = 1#1), ∀ a, (k0_off22 v65) a + S1x1x512x2048.size a ≤ S2x1x512x2048.size a := fun v4 v39 v65 k0_hw5 k0_h2 k0_h3 => k0_hw5.2 k0_h2 k0_h3

def k0_off23 (v17 : BitVec 32) : Fin 3 → Nat :=
  let v43 : Index := Scalar.indexCast v17
  let c0_24 : Index := 0#32
  let c0_25 : Index := 0#32
  ![v43.toNat, 0, 0]
def k0_off24 (v17 : BitVec 32) : Fin 3 → Nat :=
  let v57 : Index := Scalar.indexCast v17
  let c0_32 : Index := 0#32
  let c0_33 : Index := 0#32
  ![v57.toNat, 0, 0]

def k0_chk2 (v4 : BitVec 32) (v17 : BitVec 32) : Prop :=
  (∀ (k0_h2 : k0_cond2 v4 = 1#1), ∀ a, (k0_off5 v17) a + S1x1.size a ≤ S3x2.size a) ∧
  (∀ (k0_h2 : k0_cond2 v4 = 1#1), ∀ a, (k0_off6 v17) a + S1x2048x512.size a ≤ S2x2048x512.size a) ∧
  (∀ (k0_h2 : k0_cond2 v4 = 1#1), ∀ a, (k0_off8 v17) a + S1x1.size a ≤ S3x2.size a) ∧
  (∀ (k0_h2 : k0_cond2 v4 = 1#1), ∀ a, (k0_off9 v17) a + S1x2048x512.size a ≤ S2x2048x512.size a) ∧
  (∀ (k0_h2 : k0_cond2 v4 = 1#1), ∀ a, (k0_off10 v17) a + S1x1.size a ≤ S3x2.size a) ∧
  (∀ (k0_h2 : k0_cond2 v4 = 1#1), ∀ a, (k0_off11 v17) a + S1x512x2048.size a ≤ S2x512x2048.size a) ∧
  (∀ (k0_h2 : k0_cond2 v4 = 1#1), ∀ a, (k0_off23 v17) a + S1x2048x512.size a ≤ S2x2048x512.size a) ∧
  (∀ (k0_h2 : k0_cond2 v4 = 1#1), ∀ a, (k0_off24 v17) a + S1x512x2048.size a ≤ S2x512x2048.size a)
theorem k0_off5_inb : ∀ (v4 : BitVec 32) (v17 : BitVec 32) (k0_hw2 : k0_chk2 v4 v17), ∀ (k0_h2 : k0_cond2 v4 = 1#1), ∀ a, (k0_off5 v17) a + S1x1.size a ≤ S3x2.size a := fun v4 v17 k0_hw2 k0_h2 => k0_hw2.1 k0_h2
theorem k0_off6_inb : ∀ (v4 : BitVec 32) (v17 : BitVec 32) (k0_hw2 : k0_chk2 v4 v17), ∀ (k0_h2 : k0_cond2 v4 = 1#1), ∀ a, (k0_off6 v17) a + S1x2048x512.size a ≤ S2x2048x512.size a := fun v4 v17 k0_hw2 k0_h2 => k0_hw2.2.1 k0_h2
theorem k0_off8_inb : ∀ (v4 : BitVec 32) (v17 : BitVec 32) (k0_hw2 : k0_chk2 v4 v17), ∀ (k0_h2 : k0_cond2 v4 = 1#1), ∀ a, (k0_off8 v17) a + S1x1.size a ≤ S3x2.size a := fun v4 v17 k0_hw2 k0_h2 => k0_hw2.2.2.1 k0_h2
theorem k0_off9_inb : ∀ (v4 : BitVec 32) (v17 : BitVec 32) (k0_hw2 : k0_chk2 v4 v17), ∀ (k0_h2 : k0_cond2 v4 = 1#1), ∀ a, (k0_off9 v17) a + S1x2048x512.size a ≤ S2x2048x512.size a := fun v4 v17 k0_hw2 k0_h2 => k0_hw2.2.2.2.1 k0_h2
theorem k0_off10_inb : ∀ (v4 : BitVec 32) (v17 : BitVec 32) (k0_hw2 : k0_chk2 v4 v17), ∀ (k0_h2 : k0_cond2 v4 = 1#1), ∀ a, (k0_off10 v17) a + S1x1.size a ≤ S3x2.size a := fun v4 v17 k0_hw2 k0_h2 => k0_hw2.2.2.2.2.1 k0_h2
theorem k0_off11_inb : ∀ (v4 : BitVec 32) (v17 : BitVec 32) (k0_hw2 : k0_chk2 v4 v17), ∀ (k0_h2 : k0_cond2 v4 = 1#1), ∀ a, (k0_off11 v17) a + S1x512x2048.size a ≤ S2x512x2048.size a := fun v4 v17 k0_hw2 k0_h2 => k0_hw2.2.2.2.2.2.1 k0_h2
theorem k0_off23_inb : ∀ (v4 : BitVec 32) (v17 : BitVec 32) (k0_hw2 : k0_chk2 v4 v17), ∀ (k0_h2 : k0_cond2 v4 = 1#1), ∀ a, (k0_off23 v17) a + S1x2048x512.size a ≤ S2x2048x512.size a := fun v4 v17 k0_hw2 k0_h2 => k0_hw2.2.2.2.2.2.2.1 k0_h2
theorem k0_off24_inb : ∀ (v4 : BitVec 32) (v17 : BitVec 32) (k0_hw2 : k0_chk2 v4 v17), ∀ (k0_h2 : k0_cond2 v4 = 1#1), ∀ a, (k0_off24 v17) a + S1x512x2048.size a ≤ S2x512x2048.size a := fun v4 v17 k0_hw2 k0_h2 => k0_hw2.2.2.2.2.2.2.2 k0_h2

def k0_cond4 (i : grid0.Coords) (v8 : BitVec 32) : BitVec 1 :=
  let arg0 : BitVec 32 := BitVec.ofNat 32 (i 0).val
  let v9 : BitVec 1 := Scalar.cmpi .slt arg0 v8
  let v10 : BitVec 32 := Scalar.extui v9
  let c0_i32_2 : BitVec 32 := 0#32
  let v11 : BitVec 1 := Scalar.cmpi .ne v10 c0_i32_2
  v11

def k0_cond5 (i : grid0.Coords) (v12 : BitVec 32) : BitVec 1 :=
  let arg0 : BitVec 32 := BitVec.ofNat 32 (i 0).val
  let v13 : BitVec 1 := Scalar.cmpi .sge arg0 v12
  let v14 : BitVec 32 := Scalar.extui v13
  let c0_i32_4 : BitVec 32 := 0#32
  let v15 : BitVec 1 := Scalar.cmpi .ne v14 c0_i32_4
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SharedIdeal.lean ====
abbrev S8192x2048 : Shape := ⟨2, ![8192, 2048]⟩
abbrev S2x2048x512 : Shape := ⟨3, ![2, 2048, 512]⟩
abbrev S2x512x2048 : Shape := ⟨3, ![2, 512, 2048]⟩
abbrev S1x2048x512 : Shape := ⟨3, ![1, 2048, 512]⟩
abbrev S2048x512 : Shape := ⟨2, ![2048, 512]⟩
abbrev S8192x512 : Shape := ⟨2, ![8192, 512]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x512, .f32⟩
  | .hbm, ⟨2, _⟩ => ⟨S2x2048x512, .f32⟩
  | .hbm, ⟨3, _⟩ => ⟨S2x512x2048, .f32⟩
  | .hbm, ⟨4, _⟩ => ⟨S8192x2048, .f32⟩
  | .hbm, ⟨5, _⟩ => ⟨S1x2048x512, .f32⟩
  | .hbm, ⟨6, _⟩ => ⟨S2048x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S1x2048x512, .f32⟩
  | .hbm, ⟨18, _⟩ => ⟨S2048x512, .f32⟩
  | .hbm, ⟨19, _⟩ => ⟨S8192x512, .f32⟩
  | .hbm, ⟨20, _⟩ => ⟨S8192x512, .f32⟩
  | .hbm, ⟨21, _⟩ => ⟨S1x512x2048, .f32⟩
  | .hbm, ⟨22, _⟩ => ⟨S512x2048, .f32⟩
  | .hbm, ⟨23, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]
-- ==== Proof.Tile.lean ====
/- The mathematics of stick-breaking attention, with no program in it: the softplus function in base 2 and base e, the
   weight of a key, and what one tile of 256 keys adds to the running sums. -/
module

public import Idealize.ShloMosaic.Lib.Pointwise

@[expose] public section

noncomputable section

namespace Cert.Stick

open Idealize.ShloMosaic

/-- `log (1 + e^z)`, in the form that both programs compute. -/
def sp (z : ℝ) : ℝ := max z 0 + Real.log (1 + Real.exp (-|z|))

/-- `1 / log 2`, the factor between the two bases. -/
def l2e : ℝ := (Real.log 2)⁻¹

theorem l2e_pos : 0 < l2e := inv_pos.2 (Real.log_pos (by norm_num))

theorem rpow_two_mul_l2e (x : ℝ) : Real.rpow 2 (x * l2e) = Real.exp x := by
  show (2 : ℝ) ^ (x * l2e) = _
  rw [Real.rpow_def_of_pos (by norm_num), l2e]
  congr 1
  have : Real.log 2 ≠ 0 := (Real.log_pos (by norm_num)).ne'
  field_simp

/-- `softplus (-z) = softplus z - z`. -/
theorem sp_neg (z : ℝ) : sp (-z) = sp z - z := by
  unfold sp
  rw [abs_neg]
  rcases le_total 0 z with h | h
  · rw [max_eq_right (by linarith : -z ≤ 0), max_eq_left h]; ring
  · rw [max_eq_left (by linarith : 0 ≤ -z), max_eq_right h]; ring

theorem one_add_exp_pos (z : ℝ) : 0 < 1 + Real.exp z := by positivity

theorem log_one_add_exp_coe (z : ℝ) :
    Ideal.log (1 + ((Real.exp z : ℝ) : EReal)) = ((Real.log (1 + Real.exp z) : ℝ) : EReal) := by
  have h : (1 : EReal) + ((Real.exp z : ℝ) : EReal) = ((1 + Real.exp z : ℝ) : EReal) := by
    rw [EReal.coe_add, EReal.coe_one]
  rw [h]
  show (if (1 + Real.exp z) ≤ 0 then (⊥ : EReal) else _) = _
  rw [if_neg (not_le.2 (one_add_exp_pos z))]

theorem max_coe_zero (x : ℝ) : max ((x : ℝ) : EReal) 0 = ((max x 0 : ℝ) : EReal) := by
  rw [← EReal.coe_zero]; exact (EReal.coe_strictMono.monotone.map_max).symm

/-- The base-2 softplus of `z / log 2`, as the kernel computes it, is `softplus z / log 2`. -/
theorem drop_coe (z : ℝ) :
    max ((z * l2e : ℝ) : EReal) 0 + Ideal.log (1 + Ideal.exp2 (-((|z * l2e| : ℝ) : EReal))) * ((l2e : ℝ) : EReal)
      = ((sp z * l2e : ℝ) : EReal) := by
  rw [← EReal.coe_neg, Ideal.exp2_coe, abs_mul, abs_of_pos l2e_pos, ← neg_mul, rpow_two_mul_l2e, log_one_add_exp_coe,
    max_coe_zero, ← EReal.coe_mul, ← EReal.coe_add]
  congr 1
  rw [sp, add_mul]
  congr 1
  rcases le_total 0 z with h | h
  · rw [max_eq_left (mul_nonneg h l2e_pos.le), max_eq_left h]
  · rw [max_eq_right (mul_nonpos_of_nonpos_of_nonneg h l2e_pos.le), max_eq_right h, zero_mul]

/-- The softplus the reference computes, on a real argument. -/
theorem softplus_coe (z : ℝ) :
    max ((z : ℝ) : EReal) 0 + Ideal.log1p (Ideal.exp (-((|z| : ℝ) : EReal))) = ((sp z : ℝ) : EReal) := by
  rw [← EReal.coe_neg, Ideal.exp_coe, Ideal.log1p, log_one_add_exp_coe, max_coe_zero, ← EReal.coe_add, sp]

/-- The stick broken off between key `L` and the query at position `t`: `∑ softplus` over the keys from `L` up to `t`. -/
def G (z : ℕ → ℝ) (L t : ℕ) : ℝ := ∑ j ∈ Finset.Ico L t, sp (z j)

/-- The weight of key `j` for the query at position `t`. -/
def Wt (z : ℕ → ℝ) (j t : ℕ) : ℝ := Real.exp (z j - G z j t)

/-- The attention of the query at position `t` over its keys from `L` on. -/
def Att (z : ℕ → ℝ) (V : ℕ → EReal) (L t : ℕ) : EReal :=
  ∑ j ∈ Finset.Ico L t, ((Wt z j t : ℝ) : EReal) * V j

/-- A sum over the keys from `L + a` up to `t`, cut at the end of the tile of 256 keys that begins at `L`. -/
theorem sum_tile {M : Type} [AddCommMonoid M] (g : ℕ → M) (L a t : ℕ) (ha : a ≤ 256) :
    ∑ j ∈ Finset.Ico (L + 256) t, g j + ∑ s : Fin 256, (if a ≤ s.val ∧ L + s.val < t then g (L + s.val) else 0)
      = ∑ j ∈ Finset.Ico (L + a) t, g j := by
  have hd : Disjoint (Finset.Ico (L + 256) t)
      (((Finset.range 256).filter fun s => a ≤ s ∧ L + s < t).map (addLeftEmbedding L)) := by
    rw [Finset.disjoint_left]
    intro j h1 h2
    simp only [Finset.mem_Ico, Finset.mem_map, Finset.mem_filter, Finset.mem_range, addLeftEmbedding_apply] at h1 h2
    obtain ⟨s, ⟨h3, -, -⟩, rfl⟩ := h2
    omega
  rw [Fin.sum_univ_eq_sum_range (fun s => if a ≤ s ∧ L + s < t then g (L + s) else 0) 256, ← Finset.sum_filter,
    show ∑ s ∈ Finset.range 256 with a ≤ s ∧ L + s < t, g (L + s)
      = ∑ j ∈ ((Finset.range 256).filter fun s => a ≤ s ∧ L + s < t).map (addLeftEmbedding L), g j from
    (Finset.sum_map _ (addLeftEmbedding L) g).symm, ← Finset.sum_disjUnion hd]
  refine Finset.sum_congr (Finset.ext fun j => ?_) fun _ _ => rfl
  simp only [Finset.mem_disjUnion, Finset.mem_Ico, Finset.mem_map, Finset.mem_filter, Finset.mem_range,
    addLeftEmbedding_apply]
  constructor
  · rintro (h | ⟨s, ⟨h1, h2, h3⟩, rfl⟩) <;> omega
  · intro h
    by_cases h' : L + 256 ≤ j
    · exact Or.inl ⟨h', h.2⟩
    · exact Or.inr ⟨j - L, ⟨by omega, by omega, by omega⟩, by omega⟩

theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- What a tile adds to the stick. -/
theorem G_tile (z : ℕ → ℝ) (L t : ℕ) :
    ((G z (L + 256) t * l2e : ℝ) : EReal)
        + ∑ s : Fin 256, (if L + s.val < t then ((sp (z (L + s.val)) * l2e : ℝ) : EReal) else 0)
      = ((G z L t * l2e : ℝ) : EReal) := by
  have h := sum_tile (fun j => ((sp (z j) * l2e : ℝ) : EReal)) L 0 t (by omega)
  simp only [Nat.zero_le, true_and, Nat.add_zero] at h
  rw [G, G, Finset.sum_mul, Finset.sum_mul, coe_sum, coe_sum, h]

/-- The stick between a key of the tile and the query: what the keys after it in the tile break off, and the newer tiles. -/
theorem G_suffix (z : ℕ → ℝ) (L t : ℕ) (c : Fin 256) :
    (∑ s : Fin 256, (if L + s.val < t then ((sp (z (L + s.val)) * l2e : ℝ) : EReal) else 0)
          * (if c.val < s.val then 1 else 0))
        + ((G z (L + 256) t * l2e : ℝ) : EReal)
      = ((G z (L + c.val + 1) t * l2e : ℝ) : EReal) := by
  have h := sum_tile (fun j => ((sp (z j) * l2e : ℝ) : EReal)) L (c.val + 1) t (by omega)
  rw [G, G, Finset.sum_mul, Finset.sum_mul, coe_sum, coe_sum, add_comm, Nat.add_assoc, ← h]
  congr 1
  refine Finset.sum_congr rfl fun s _ => ?_
  by_cases h1 : c.val < s.val <;> by_cases h2 : L + s.val < t <;>
    simp [h1, h2, Nat.succ_le_iff]

theorem G_succ (z : ℕ → ℝ) (j t : ℕ) (h : j < t) : G z j t = sp (z j) + G z (j + 1) t := by
  rw [G, G, Finset.sum_eq_sum_Ico_succ_bot h]

/-- The weight as the kernel computes it, in base 2. -/
theorem Wt_exp2 (z : ℕ → ℝ) (j t : ℕ) (h : j < t) :
    Ideal.exp2 (((z j * l2e : ℝ) : EReal) - ((sp (z j) * l2e : ℝ) : EReal) - ((G z (j + 1) t * l2e : ℝ) : EReal))
      = ((Wt z j t : ℝ) : EReal) := by
  rw [← EReal.coe_sub, ← EReal.coe_sub, Ideal.exp2_coe,
    show z j * l2e - sp (z j) * l2e - G z (j + 1) t * l2e = (z j - G z j t) * l2e by rw [G_succ z j t h]; ring,
    rpow_two_mul_l2e, Wt]

/-- What a tile adds to the attention. -/
theorem Att_tile (z : ℕ → ℝ) (V : ℕ → EReal) (L t : ℕ) :
    Att z V (L + 256) t
        + ∑ s : Fin 256, (if L + s.val < t then ((Wt z (L + s.val) t : ℝ) : EReal) else 0) * V (L + s.val)
      = Att z V L t := by
  have h := sum_tile (fun j => ((Wt z j t : ℝ) : EReal) * V j) L 0 t (by omega)
  simp only [Nat.zero_le, true_and, Nat.add_zero] at h
  rw [Att, Att, ← h]
  congr 1
  refine Finset.sum_congr rfl fun s _ => ?_
  split <;> simp

theorem G_self (z : ℕ → ℝ) (L t : ℕ) (h : t ≤ L) : G z L t = 0 := by rw [G, Finset.Ico_eq_empty_of_le h]; rfl
theorem Att_self (z : ℕ → ℝ) (V : ℕ → EReal) (L t : ℕ) (h : t ≤ L) : Att z V L t = 0 := by
  rw [Att, Finset.Ico_eq_empty_of_le h]; rfl

/-- One tile's step of the attention, as the kernel computes it: the stick after each key by a product with the strictly
    lower triangular matrix, in two halves of which the second is the remainder of a rounding. -/
theorem tile_step (z : ℕ → ℝ) (V : ℕ → EReal) (L t : ℕ) (w drop D v : Fin 256 → EReal) (U : Fin 256 → Fin 256 → EReal)
    (rsum acc : EReal) (hw : ∀ s, w s = ((z (L + s.val) * l2e : ℝ) : EReal))
    (hdrop : ∀ s, drop s = ((sp (z (L + s.val)) * l2e : ℝ) : EReal))
    (hD : ∀ s, D s = if L + s.val < t then ((sp (z (L + s.val)) * l2e : ℝ) : EReal) else 0)
    (hU : ∀ s c, U s c = if c.val < s.val then 1 else 0) (hv : ∀ s, v s = V (L + s.val))
    (hr : rsum = ((G z (L + 256) t * l2e : ℝ) : EReal)) (ha : acc = Att z V (L + 256) t) :
    acc + ∑ x : Fin 256, (if L + x.val < t then
        Ideal.exp2 (w x - drop x - (∑ y, D y * U y x + ∑ y, (D y - D y) * U y x + rsum)) * v x else 0)
      = Att z V L t := by
  rw [ha, ← Att_tile z V L t]
  congr 1
  refine Finset.sum_congr rfl fun x _ => ?_
  have h0 : ∀ y, D y - D y = 0 := fun y => by
    rw [hD]
    split
    · rw [← EReal.coe_sub, sub_self, EReal.coe_zero]
    · simp
  have h1 : (∑ y, D y * U y x + ∑ y, (D y - D y) * U y x + rsum) = ((G z (L + x.val + 1) t * l2e : ℝ) : EReal) := by
    rw [← G_suffix z L t x, hr]
    simp only [h0, zero_mul, Finset.sum_const_zero, add_zero]
    simp only [hD, hU]
  split
  · next h => rw [h1, hw, hdrop, Wt_exp2 z _ t h, hv]
  · rw [zero_mul]

/-- The stick's own step. -/
theorem stick_step (z : ℕ → ℝ) (L t : ℕ) (D : Fin 256 → EReal) (rsum : EReal)
    (hD : ∀ s, D s = if L + s.val < t then ((sp (z (L + s.val)) * l2e : ℝ) : EReal) else 0)
    (hr : rsum = ((G z (L + 256) t * l2e : ℝ) : EReal)) :
    rsum + ∑ s, D s = ((G z L t * l2e : ℝ) : EReal) := by
  rw [hr, ← G_tile z L t]; simp only [hD]

end Cert.Stick

end
-- ==== Proof.Payload.lean ====
/- What the attention kernel computes on one block of 512 queries, tile by tile of 256 keys. -/
module

public import proofs.«01_k».proof.Proof.Gen.AttnIdeal.Value
public import proofs.«01_k».proof.Proof.Tile
public import Idealize.ShloMosaic.Lib.Pipeline.ValueKit
public import Idealize.ShloMosaic.Lib.Pointwise

@[expose] public section

set_option maxRecDepth 16384

noncomputable section

namespace Cert.AttnIdeal.Value

open Cert.AttnIdeal Cert.AttnIdeal.Gen Cert.Stick Idealize.ShloMosaic Idealize.ShloMosaic.TcCoe Idealize.SL.Sem

/-- The kernel's named constant `1 / log 2`. -/
theorem named_log2e : Named.named (F := Ideal) (φ := .f32) κ "log2e" 0x3FB8AA3B#32 = ((l2e : ℝ) : EReal) := rfl

/-- The kernel's named constant `1 / (log 2 · sqrt 128)`. -/
theorem named_scale : Named.named (F := Ideal) (φ := .f32) κ "scale_log2e" 0x3E0293EE#32
    = (((Real.sqrt 128)⁻¹ * l2e : ℝ) : EReal) := by
  rw [mul_comm]; rfl

/-- A select on `s + a < r`, of small words. -/
theorem select_slt {α : Type} (s a r : ℕ) (x y : α) (h1 : s + a < 2 ^ 31) (h2 : r < 2 ^ 31) :
    Scalar.select (IntOp.cmpi CmpIPredicate.slt (IntOp.addi (BitVec.ofNat 32 s) (BitVec.ofNat 32 a)) (BitVec.ofNat 32 r)) x y
      = if s + a < r then x else y := by
  have e : IntOp.addi (BitVec.ofNat 32 s) (BitVec.ofNat 32 a) = BitVec.ofNat 32 (s + a) := (BitVec.ofNat_add s a).symm
  have t : ∀ n : ℕ, n < 2 ^ 31 → (BitVec.ofNat 32 n).toInt = (n : ℤ) := fun n hn => by
    rw [BitVec.toInt_eq_toNat_cond, BitVec.toNat_ofNat]; split <;> omega
  have h : (BitVec.ofNat 32 (s + a)).slt (BitVec.ofNat 32 r) = decide (s + a < r) := by
    rw [BitVec.slt, t _ h1, t _ h2]; simp only [Nat.cast_lt]
  rw [e]
  show (if BitVec.ofBool ((BitVec.ofNat 32 (s + a)).slt (BitVec.ofNat 32 r)) = 1 then x else y) = _
  rw [h]
  by_cases hh : s + a < r <;> simp [hh]

/-- The logit of the query `qr` against the key `kj`, under the bias `β`. -/
def logit (qr kj : Fin 128 → ℝ) (β : ℝ) : ℝ := (∑ x, qr x * kj x) * (Real.sqrt 128)⁻¹ + β

/-- The kernel's logit, in base 2. -/
theorem logit_coe (qr kj : Fin 128 → ℝ) (β : ℝ) :
    (∑ x, ((qr x : ℝ) : EReal) * ((kj x : ℝ) : EReal)) * (((Real.sqrt 128)⁻¹ * l2e : ℝ) : EReal)
        + ((β : ℝ) : EReal) * ((l2e : ℝ) : EReal) = ((logit qr kj β * l2e : ℝ) : EReal) := by
  simp only [← EReal.coe_mul, ← coe_sum, ← EReal.coe_add]
  congr 1
  rw [logit]; ring

/-- The base-2 softplus, as the payloads write it. -/
theorem drop_of (w : EReal) (z : ℝ) (h : w = ((z * l2e : ℝ) : EReal)) :
    max w 0 + Ideal.log (1 + FloatOps.exp2 (F := Ideal) (φ := .f32) (0 - FloatOps.absf (F := Ideal) (φ := .f32) w)) * ((l2e : ℝ) : EReal)
      = ((sp z * l2e : ℝ) : EReal) := by
  rw [h, ← drop_coe]
  congr 4
  show Ideal.exp2 (0 - ((|z * l2e| : ℝ) : EReal)) = _
  rw [zero_sub]

variable (q : Fin 512 → Fin 128 → ℝ) (k : ℕ → Fin 128 → ℝ) (β : ℝ) (Vv : ℕ → Fin 128 → EReal) (T : ℕ)

/-- The logits of a query of the block. -/
def zz (r : Fin 512) (j : ℕ) : ℝ := logit (q r) (k j) β

/-- The running sums for the queries of the block that begins at position `T`, when the keys from `L` on are summed. -/
def Inv (L : ℕ) (st : FVec Ideal S512x1 .f32 × FVec Ideal S512x128 .f32) : Prop :=
  ∀ r : Fin 512, st.1 (ix2 r 0) = ((G (zz q k β r) L (T + r.val) * l2e : ℝ) : EReal)
    ∧ ∀ d : Fin 128, st.2 (ix2 r d) = Att (zz q k β r) (fun j => Vv j d) L (T + r.val)

variable {q k β Vv T}
variable {b : Elt Ideal .f32} {x : Vec Ideal S512x128 .f32} {U : Vec Ideal S256x256 .bf16}

/-- The first tile: the block's upper 256 keys, masked. -/
theorem first (hb : b = ((β : ℝ) : EReal)) (hx : ∀ r d, x (ix2 r d) = ((q r d : ℝ) : EReal))
    (hU : ∀ s c, U (ix2 s c) = if c.val < s.val then 1 else 0) (kt vt : Vec Ideal S256x128 .f32)
    (hk : ∀ s d, kt (ix2 s d) = ((k (T + 256 + s.val) d : ℝ) : EReal)) (hv : ∀ s d, vt (ix2 s d) = Vv (T + 256 + s.val) d) :
    Inv q k β Vv T (T + 256)
      (k0_pay20 k0_pay11 k0_pay13 (k0_pay16 b x kt) (k0_pay17 b x kt),
       k0_pay21 U k0_pay11 k0_pay12 k0_pay13 (k0_pay14 vt) (k0_pay15 b x kt) (k0_pay16 b x kt) (k0_pay17 b x kt)) := by
  intro r
  have hw : ∀ s : Fin 256, k0_pay15 b x kt (ix2 r s) = ((zz q k β r (T + 256 + s.val) * l2e : ℝ) : EReal) := fun s => by
    pointwise [k0_pay15, k0_pay10, k0_pay9]
    rw [named_log2e, named_scale, hb]
    simp only [hx, hk]
    exact logit_coe _ _ _
  have hdrop : ∀ s : Fin 256, k0_pay18 (k0_pay16 b x kt) (k0_pay17 b x kt) (ix2 r s) = ((sp (zz q k β r (T + 256 + s.val)) * l2e : ℝ) : EReal) := fun s => by
    pointwise [k0_pay18, k0_pay16, k0_pay17]
    rw [named_log2e]
    exact drop_of _ _ (hw s)
  have hM : ∀ (s : Fin 256) (x y : EReal), Scalar.select (k0_pay13 (ix2 r s)) x y = if T + 256 + s.val < T + r.val then x else y := fun s x y => by
    pointwise [k0_pay13]
    rw [if_congr (show T + 256 + s.val < T + r.val ↔ s.val + 256 < r.val by omega) rfl rfl]
    exact select_slt s.val 256 r.val _ _ (by omega) (by omega)
  have hD : ∀ s : Fin 256, k0_pay19 k0_pay13 (k0_pay16 b x kt) (k0_pay17 b x kt) (ix2 r s)
      = if T + 256 + s.val < T + r.val then ((sp (zz q k β r (T + 256 + s.val)) * l2e : ℝ) : EReal) else 0 := fun s => by
    pointwise [k0_pay19]
    rw [hdrop, hM]
  have h0 : k0_pay11 (F := Ideal) (ix2 r 0) = ((G (zz q k β r) (T + 256 + 256) (T + r.val) * l2e : ℝ) : EReal) := by
    pointwise [k0_pay11]
    rw [G_self _ _ _ (by omega)]; simp
  refine ⟨?_, fun d => ?_⟩
  · pointwise [k0_pay20]
    exact stick_step (zz q k β r) (T + 256) (T + r.val) _ _ hD h0
  · have h1 : k0_pay12 (F := Ideal) (ix2 r d) = Att (zz q k β r) (fun j => Vv j d) (T + 256 + 256) (T + r.val) := by
      pointwise [k0_pay12]
      rw [Att_self _ _ _ _ (by omega)]
    pointwise [k0_pay21, k0_pay14]
    simp only [hM]
    exact tile_step (zz q k β r) (fun j => Vv j d) (T + 256) (T + r.val) _ _ _ (fun s => vt (ix2 s d)) (fun s c => U (ix2 s c))
      _ _ hw hdrop hD hU (fun s => hv s d) h0 h1

/-- The second tile: the block's lower 256 keys, masked. -/
theorem second (hb : b = ((β : ℝ) : EReal)) (hx : ∀ r d, x (ix2 r d) = ((q r d : ℝ) : EReal))
    (hU : ∀ s c, U (ix2 s c) = if c.val < s.val then 1 else 0) (kt vt : Vec Ideal S256x128 .f32)
    (hk : ∀ s d, kt (ix2 s d) = ((k (T + s.val) d : ℝ) : EReal)) (hv : ∀ s d, vt (ix2 s d) = Vv (T + s.val) d)
    (v61 : FVec Ideal S512x1 .f32) (v64 : FVec Ideal S512x128 .f32) (h : Inv q k β Vv T (T + 256) (v61, v64)) :
    Inv q k β Vv T T
      (k0_pay29 v61 (k0_pay22 (iota Kind.tc S512x256 32 [0] iota_S512x256_d0_w32) (iota Kind.tc S512x256 32 [1] iota_S512x256_d1_w32))
          (k0_pay24 (k0_pay10 x) kt) (k0_pay25 (k0_pay9 b)),
       k0_pay30 U v61 v64 (k0_pay22 (iota Kind.tc S512x256 32 [0] iota_S512x256_d0_w32) (iota Kind.tc S512x256 32 [1] iota_S512x256_d1_w32))
          (k0_pay23 vt) (k0_pay24 (k0_pay10 x) kt) (k0_pay25 (k0_pay9 b))) := by
  intro r
  have hw : ∀ s : Fin 256, k0_pay26 (k0_pay24 (k0_pay10 x) kt) (k0_pay25 (k0_pay9 b)) (ix2 r s)
      = ((zz q k β r (T + s.val) * l2e : ℝ) : EReal) := fun s => by
    pointwise [k0_pay26, k0_pay24, k0_pay25, k0_pay10, k0_pay9]
    rw [named_log2e, named_scale, hb]
    simp only [hx, hk]
    exact logit_coe _ _ _
  generalize k0_pay24 (k0_pay10 x) kt = v82 at hw ⊢
  generalize k0_pay25 (k0_pay9 b) = v83 at hw ⊢
  have hM : ∀ (s : Fin 256) (x y : EReal), Scalar.select (k0_pay22 (iota Kind.tc S512x256 32 [0] iota_S512x256_d0_w32)
      (iota Kind.tc S512x256 32 [1] iota_S512x256_d1_w32) (ix2 r s)) x y = if T + s.val < T + r.val then x else y := fun s x y => by
    pointwise [k0_pay22]
    rw [if_congr (show T + s.val < T + r.val ↔ s.val + 0 < r.val by omega) rfl rfl]
    exact select_slt s.val 0 r.val _ _ (by omega) (by omega)
  generalize k0_pay22 (iota Kind.tc S512x256 32 [0] iota_S512x256_d0_w32) (iota Kind.tc S512x256 32 [1] iota_S512x256_d1_w32) = v69 at hM ⊢
  have hdrop : ∀ s : Fin 256, k0_pay27 v82 v83 (ix2 r s) = ((sp (zz q k β r (T + s.val)) * l2e : ℝ) : EReal) := fun s => by
    pointwise [k0_pay27]
    rw [named_log2e]
    exact drop_of _ _ (hw s)
  have hD : ∀ s : Fin 256, k0_pay28 v69 v82 v83 (ix2 r s)
      = if T + s.val < T + r.val then ((sp (zz q k β r (T + s.val)) * l2e : ℝ) : EReal) else 0 := fun s => by
    pointwise [k0_pay28]
    rw [hdrop, hM]
  refine ⟨?_, fun d => ?_⟩
  · pointwise [k0_pay29]
    exact stick_step (zz q k β r) T (T + r.val) _ _ hD (h r).1
  · pointwise [k0_pay30, k0_pay23]
    simp only [hM]
    exact tile_step (zz q k β r) (fun j => Vv j d) T (T + r.val) _ _ _ (fun s => vt (ix2 s d)) (fun s c => U (ix2 s c))
      _ _ hw hdrop hD hU (fun s => hv s d) (h r).1 ((h r).2 d)

/-- A tile whose keys are all seen. -/
theorem tile_step_all (z : ℕ → ℝ) (V : ℕ → EReal) (L t : ℕ) (ht : L + 256 ≤ t) (w D v : Fin 256 → EReal) (U : Fin 256 → Fin 256 → EReal)
    (rsum acc : EReal) (hw : ∀ s, w s = ((z (L + s.val) * l2e : ℝ) : EReal))
    (hdrop : ∀ s, D s = ((sp (z (L + s.val)) * l2e : ℝ) : EReal))
    (hU : ∀ s c, U s c = if c.val < s.val then 1 else 0) (hv : ∀ s, v s = V (L + s.val))
    (hr : rsum = ((G z (L + 256) t * l2e : ℝ) : EReal)) (ha : acc = Att z V (L + 256) t) :
    rsum + ∑ s, D s = ((G z L t * l2e : ℝ) : EReal)
    ∧ acc + ∑ x : Fin 256, Ideal.exp2 (w x - D x - (∑ y, D y * U y x + ∑ y, (D y - D y) * U y x + rsum)) * v x = Att z V L t := by
  have hD : ∀ s : Fin 256, D s = if L + s.val < t then ((sp (z (L + s.val)) * l2e : ℝ) : EReal) else 0 := fun s => by
    rw [if_pos (by omega), hdrop]
  refine ⟨stick_step z L t D rsum hD hr, ?_⟩
  rw [← tile_step z V L t w D D v U rsum acc hw hdrop hD hU hv hr ha]
  congr 1
  refine Finset.sum_congr rfl fun x _ => ?_
  rw [if_pos (by omega)]

/-- One trip of the loop: two tiles of keys that every query of the block sees. -/
theorem trip_step (L : ℕ) (hL : L + 512 ≤ T) (hb : b = ((β : ℝ) : EReal)) (hx : ∀ r d, x (ix2 r d) = ((q r d : ℝ) : EReal))
    (hU : ∀ s c, U (ix2 s c) = if c.val < s.val then 1 else 0) (k1 v1 k2 v2 : Vec Ideal S256x128 .f32)
    (hk1 : ∀ s d, k1 (ix2 s d) = ((k (L + 256 + s.val) d : ℝ) : EReal)) (hv1 : ∀ s d, v1 (ix2 s d) = Vv (L + 256 + s.val) d)
    (hk2 : ∀ s d, k2 (ix2 s d) = ((k (L + s.val) d : ℝ) : EReal)) (hv2 : ∀ s d, v2 (ix2 s d) = Vv (L + s.val) d)
    (acc : FVec Ideal S512x1 .f32 × FVec Ideal S512x128 .f32) (h : Inv q k β Vv T (L + 512) acc) :
    Inv q k β Vv T L
      (k0_pay34 acc.1 (k0_pay3 (k0_pay9 b) (k0_pay10 x) k1 k2) (k0_pay4 (k0_pay9 b) (k0_pay10 x) k1 k2),
       k0_pay35 U acc.1 acc.2 (k0_pay1 v1) (k0_pay2 v2)
         (k0_pay3 (k0_pay9 b) (k0_pay10 x) k1 k2) (k0_pay4 (k0_pay9 b) (k0_pay10 x) k1 k2)) := by
  intro r
  have hw1 : ∀ s : Fin 256, k0_pay3 (k0_pay9 b) (k0_pay10 x) k1 k2 (ix2 ⟨r.val, by omega⟩ s)
      = ((zz q k β r (L + 256 + s.val) * l2e : ℝ) : EReal) := fun s => by
    pointwise [k0_pay3, k0_pay10, k0_pay9]
    rw [named_log2e, named_scale, hb]
    simp only [hx, hk1]
    exact logit_coe _ _ _
  have hw2 : ∀ s : Fin 256, k0_pay3 (k0_pay9 b) (k0_pay10 x) k1 k2 (ix2 ⟨512 + r.val, by omega⟩ s)
      = ((zz q k β r (L + s.val) * l2e : ℝ) : EReal) := fun s => by
    pointwise [k0_pay3, k0_pay10, k0_pay9]
    rw [named_log2e, named_scale, hb]
    simp only [hx, hk2]
    exact logit_coe _ _ _
  have hd1 : ∀ s : Fin 256, k0_pay31 (k0_pay3 (k0_pay9 b) (k0_pay10 x) k1 k2) (k0_pay4 (k0_pay9 b) (k0_pay10 x) k1 k2) (ix2 ⟨r.val, by omega⟩ s)
      = ((sp (zz q k β r (L + 256 + s.val)) * l2e : ℝ) : EReal) := fun s => by
    pointwise [k0_pay31, k0_pay4]
    rw [named_log2e]
    exact drop_of _ _ (hw1 s)
  have hd2 : ∀ s : Fin 256, k0_pay31 (k0_pay3 (k0_pay9 b) (k0_pay10 x) k1 k2) (k0_pay4 (k0_pay9 b) (k0_pay10 x) k1 k2) (ix2 ⟨512 + r.val, by omega⟩ s)
      = ((sp (zz q k β r (L + s.val)) * l2e : ℝ) : EReal) := fun s => by
    pointwise [k0_pay31, k0_pay4]
    rw [named_log2e]
    exact drop_of _ _ (hw2 s)
  generalize k0_pay3 (k0_pay9 b) (k0_pay10 x) k1 k2 = v5 at *
  generalize k0_pay4 (k0_pay9 b) (k0_pay10 x) k1 k2 = v6 at *
  have t1 := fun d => tile_step_all (zz q k β r) (fun j => Vv j d) (L + 256) (T + r.val) (by omega) _ _ (fun s => v1 (ix2 s d)) (fun s c => U (ix2 s c))
      _ _ hw1 hd1 hU (fun s => hv1 s d) (h r).1 ((h r).2 d)
  have t2 := fun d => tile_step_all (zz q k β r) (fun j => Vv j d) L (T + r.val) (by omega) _ _ (fun s => v2 (ix2 s d)) (fun s c => U (ix2 s c))
      _ _ hw2 hd2 hU (fun s => hv2 s d) (t1 d).1 (t1 d).2
  refine ⟨?_, fun d => ?_⟩
  · pointwise [k0_pay34, k0_pay33, k0_pay32]
    exact (t2 0).1
  · pointwise [k0_pay35, k0_pay33, k0_pay32, k0_pay1, k0_pay2]
    exact (t2 d).2

end Cert.AttnIdeal.Value

end
-- ==== Proof.TableDef.lean ====
/- What is checked of the kernel's constant triangular matrix. -/
module

public import proofs.«01_k».proof.AttnIdeal

@[expose] public section

noncomputable section

namespace Cert.AttnIdeal.Value

open Cert.AttnIdeal

/-- Entry `i` of the table, row-major, is one (as a bfloat16 word) if its column is below its row, and zero otherwise. -/
abbrev triAt (i : ℕ) : Bool := Nat.beq (lit0t i).toNat (bif Nat.blt (i % 256) (i / 256) then 16256 else 0)

/-- So are the 4096 entries from `4096 * a` on. -/
abbrev triOk (a : ℕ) : Bool := (List.range 4096).all fun i => triAt (4096 * a + i)

end Cert.AttnIdeal.Value

end
-- ==== Proof.Table0.lean ====
/- The kernel's constant triangular matrix, entries 0 to 16383. -/
module

public import proofs.«01_k».proof.Proof.TableDef

@[expose] public section

set_option maxRecDepth 16384

namespace Cert.AttnIdeal.Value

/-- Entries 0 to 4095 are those of the strictly lower triangle. -/
theorem tri0 : triOk 0 = true := by decide +kernel

/-- Entries 4096 to 8191 are those of the strictly lower triangle. -/
theorem tri1 : triOk 1 = true := by decide +kernel

/-- Entries 8192 to 12287 are those of the strictly lower triangle. -/
theorem tri2 : triOk 2 = true := by decide +kernel

/-- Entries 12288 to 16383 are those of the strictly lower triangle. -/
theorem tri3 : triOk 3 = true := by decide +kernel

end Cert.AttnIdeal.Value

end
-- ==== Proof.Table1.lean ====
/- The kernel's constant triangular matrix, entries 16384 to 32767. -/
module

public import proofs.«01_k».proof.Proof.TableDef

@[expose] public section

set_option maxRecDepth 16384

namespace Cert.AttnIdeal.Value

/-- Entries 16384 to 20479 are those of the strictly lower triangle. -/
theorem tri4 : triOk 4 = true := by decide +kernel

/-- Entries 20480 to 24575 are those of the strictly lower triangle. -/
theorem tri5 : triOk 5 = true := by decide +kernel

/-- Entries 24576 to 28671 are those of the strictly lower triangle. -/
theorem tri6 : triOk 6 = true := by decide +kernel

/-- Entries 28672 to 32767 are those of the strictly lower triangle. -/
theorem tri7 : triOk 7 = true := by decide +kernel

end Cert.AttnIdeal.Value

end
-- ==== Proof.Table2.lean ====
/- The kernel's constant triangular matrix, entries 32768 to 49151. -/
module

public import proofs.«01_k».proof.Proof.TableDef

@[expose] public section

set_option maxRecDepth 16384

namespace Cert.AttnIdeal.Value

/-- Entries 32768 to 36863 are those of the strictly lower triangle. -/
theorem tri8 : triOk 8 = true := by decide +kernel

/-- Entries 36864 to 40959 are those of the strictly lower triangle. -/
theorem tri9 : triOk 9 = true := by decide +kernel

/-- Entries 40960 to 45055 are those of the strictly lower triangle. -/
theorem tri10 : triOk 10 = true := by decide +kernel

/-- Entries 45056 to 49151 are those of the strictly lower triangle. -/
theorem tri11 : triOk 11 = true := by decide +kernel

end Cert.AttnIdeal.Value

end
-- ==== Proof.Table3.lean ====
/- The kernel's constant triangular matrix, entries 49152 to 65535. -/
module

public import proofs.«01_k».proof.Proof.TableDef

@[expose] public section

set_option maxRecDepth 16384

namespace Cert.AttnIdeal.Value

/-- Entries 49152 to 53247 are those of the strictly lower triangle. -/
theorem tri12 : triOk 12 = true := by decide +kernel

/-- Entries 53248 to 57343 are those of the strictly lower triangle. -/
theorem tri13 : triOk 13 = true := by decide +kernel

/-- Entries 57344 to 61439 are those of the strictly lower triangle. -/
theorem tri14 : triOk 14 = true := by decide +kernel

/-- Entries 61440 to 65535 are those of the strictly lower triangle. -/
theorem tri15 : triOk 15 = true := by decide +kernel

end Cert.AttnIdeal.Value

end
-- ==== Proof.Table.lean ====
/- The kernel's constant matrix is the strictly lower triangle. -/
module

public import proofs.«01_k».proof.Proof.Table0
public import proofs.«01_k».proof.Proof.Table1
public import proofs.«01_k».proof.Proof.Table2
public import proofs.«01_k».proof.Proof.Table3

@[expose] public section

noncomputable section

namespace Cert.AttnIdeal.Value

open Cert.AttnIdeal

/-- Every entry of the table: one below the diagonal, zero elsewhere. -/
theorem lit_tri (i : ℕ) (hi : i < 65536) : lit0t i = if i % 256 < i / 256 then 0x3F80#16 else 0#16 := by
  have h : ∀ a, triOk a = true → ∀ j, j < 4096 → triAt (4096 * a + j) = true := fun a ha j hj =>
    List.all_eq_true.1 ha j (List.mem_range.2 hj)
  have h' : triAt i = true := by
    have e : i = 4096 * (i / 4096) + i % 4096 := by omega
    have hm : i % 4096 < 4096 := Nat.mod_lt _ (by omega)
    have hq : i / 4096 < 16 := by omega
    generalize i / 4096 = a at *
    rw [e]
    refine h a ?_ _ hm
    clear e
    interval_cases a
    exacts [tri0, tri1, tri2, tri3, tri4, tri5, tri6, tri7, tri8, tri9, tri10, tri11, tri12, tri13, tri14, tri15]
  have h2 := Nat.eq_of_beq_eq_true h'
  apply BitVec.eq_of_toNat_eq
  rw [h2]
  by_cases hc : i % 256 < i / 256
  · rw [show Nat.blt (i % 256) (i / 256) = true from Nat.ble_eq_true_of_le hc, if_pos hc]; rfl
  · rw [show Nat.blt (i % 256) (i / 256) = false from Bool.eq_false_iff.2 fun h => hc (Nat.le_of_ble_eq_true h), if_neg hc]; rfl

end Cert.AttnIdeal.Value

end
-- ==== Proof.Block.lean ====
/- What one grid point of the attention kernel writes: stick-breaking attention for its 512 queries. -/
module

public import proofs.«01_k».proof.Proof.Payload
public import proofs.«01_k».proof.Proof.Table

@[expose] public section

set_option maxRecDepth 16384

noncomputable section

namespace Cert.AttnIdeal.Value

open Cert.AttnIdeal Cert.AttnIdeal.Gen Cert.Stick Idealize.ShloMosaic Idealize.ShloMosaic.TcCoe Idealize.SL.Sem

variable (m : (ℓ : Loc nD τ sig) → Buf (Elt Ideal) ℓ)

/-- Where a trip of the loop loads its two tiles. -/
theorem off3_eq : ∀ i : grid0.Coords, ∀ k : Fin (k0_t1_loop i).trips, ∀ r : Fin 2,
    k0_off3 i k (BitVec.ofNat 32 r.val) = ![512 * (i 2).val - 256 - 512 * k.val - 256 * r.val, 0] := by decide +kernel

/-- The loop over the earlier keys makes one trip per earlier block of queries. -/
theorem trips1 : ∀ i : grid0.Coords, (k0_t1_loop i).trips = (i 2).val := by decide +kernel

/-- The unrolled loop's remainder is empty. -/
theorem trips2 : ∀ i : grid0.Coords, (k0_t2_loop i).trips = 0 := by decide +kernel

/-- The grid point's coordinates: sequence, head, block of queries; and the blocks its windows stage. -/
theorem idx : ∀ t : Fin cfg0.N, win0_0.index t = ![0]
    ∧ win0_1.index t = ![4 * (grid0.coords t 0).val + (grid0.coords t 2).val, (grid0.coords t 1).val]
    ∧ win0_2.index t = ![(grid0.coords t 0).val, (grid0.coords t 1).val]
    ∧ win0_3.index t = ![(grid0.coords t 0).val, (grid0.coords t 1).val]
    ∧ win0_4.index t = ![0, 0]
    ∧ win0_5.index t = ![4 * (grid0.coords t 0).val + (grid0.coords t 2).val, (grid0.coords t 1).val] := by decide +kernel

section Reads

variable (c : Dev nD) (t : Fin cfg0.N) (b : Fin 4) (hb : b.val = (grid0.coords t 0).val)
  (h : Fin 16) (hh : h.val = (grid0.coords t 1).val)
include hb hh

/-- The staged queries. -/
theorem iblk1 (r : Fin 512) (d : Fin 128) (R : Fin 2048) (hR : R.val = 512 * (grid0.coords t 2).val + r.val) :
    iblk m c 1 t (ix2 r d) = m ((c : Thread nD τ).loc main_arg0) (ix4 b R h d) := by
  obtain ⟨e0, e1, e2, e3, e4, e5⟩ := idx t
  blk_simp [iblk, V, e1]
  entry_read
  pointwise []
  blk_ext [e1]

/-- The staged keys. -/
theorem iblk2 (r : Fin 2048) (d : Fin 128) :
    iblk m c 2 t (ix2 r d) = m ((c : Thread nD τ).loc main_arg1) (ix4 b r h d) := by
  obtain ⟨e0, e1, e2, e3, e4, e5⟩ := idx t
  blk_simp [iblk, V, e2]
  entry_read
  pointwise []
  blk_ext [e2]

/-- The staged values. -/
theorem iblk3 (r : Fin 2048) (d : Fin 128) :
    iblk m c 3 t (ix2 r d) = m ((c : Thread nD τ).loc main_arg2) (ix4 b r h d) := by
  obtain ⟨e0, e1, e2, e3, e4, e5⟩ := idx t
  blk_simp [iblk, V, e3]
  entry_read
  pointwise []
  blk_ext [e3]

end Reads

/-- The bias of the head. -/
theorem bias_read (c : Dev nD) (t : Fin cfg0.N) (h : Fin 16) (hh : h.val = (grid0.coords t 1).val) (p q) :
    View.ld (iblk m c 0 t) (Rect.unit (k0_off1 (grid0.coords t)) ![1] p) (Shape.Idx.first q)
      = m ((c : Thread nD τ).loc main_arg3) (ix1 h) := by
  obtain ⟨e0, e1, e2, e3, e4, e5⟩ := idx t
  pointwise []
  blk_simp [iblk, V, e0]
  blk_ext [e0]
  rw [k0_off1_eq]; exact hh.symm

theorem lit0_eq (j : Fin 65536) : lit0 j = lit0t j.val := by cases j; rfl

/-- The staged triangular matrix. -/
theorem iblk4 (c : Dev nD) (t : Fin cfg0.N) (s c' : Fin 256) :
    iblk m c 4 t (ix2 s c') = if c'.val < s.val then (1 : EReal) else 0 := by
  obtain ⟨e0, e1, e2, e3, e4, e5⟩ := idx t
  blk_simp [iblk, V, e4]
  entry_read
  have e : ((View.whole main_cst).slice (win0_4.rect t)).emb (ix2 s c') = ix2 s c' := by blk_ext [e4]
  rw [e]
  refine (congrArg (Ideal.ofBits .bf16) (lit0_eq (S256x256.rowMajor (ix2 s c')))).trans ?_
  rw [Shape.rowMajor_val_two]
  have hv : (ix2 s c' 0).val * 256 + (ix2 s c' 1).val = s.val * 256 + c'.val := rfl
  refine (congrArg (fun n => Ideal.ofBits .bf16 (lit0t n)) hv).trans ?_
  show Ideal.ofBits .bf16 (lit0t (s.val * 256 + c'.val)) = _
  rw [lit_tri _ (by omega), show (s.val * 256 + c'.val) % 256 = c'.val by omega, show (s.val * 256 + c'.val) / 256 = s.val by omega]
  split
  · show FloatOps.ofBits (F := Ideal) .bf16 0x3F80#16 = 1
    pointwise []
  · show FloatOps.ofBits (F := Ideal) .bf16 0#16 = 0
    pointwise []

/-- A load of 256 rows of a block. -/
theorem ld_rows (X : Vec Ideal S2048x128 .f32) (off) (p) (L : ℕ) (e : off = ![L, 0]) (s : Fin 256) (d : Fin 128)
    (r : Fin 2048) (hr : r.val = L + s.val) :
    View.ld X (Rect.unit off ![256, 128] p) (ix2 s d) = X (ix2 r d) := by
  subst e
  pointwise []
  blk_ext []

/-- The loop over the earlier keys keeps the running sums. -/
theorem loop_inv (c : Dev nD) (t : Fin cfg0.N) (𝒱) (bd) (a2) (bb : Elt Ideal .f32) (x : Vec Ideal S512x128 .f32)
    (U : Vec Ideal S256x256 .bf16) (v61 v64 v69 v79 v82 v83) (K Va : Vec Ideal S2048x128 .f32)
    (q : Fin 512 → Fin 128 → ℝ) (k : ℕ → Fin 128 → ℝ) (β : ℝ) (Vv : ℕ → Fin 128 → EReal)
    (hb : bb = ((β : ℝ) : EReal)) (hx : ∀ r d, x (ix2 r d) = ((q r d : ℝ) : EReal))
    (hU : ∀ s c, U (ix2 s c) = if c.val < s.val then 1 else 0)
    (hk : ∀ (r : Fin 2048) d, K (ix2 r d) = ((k r.val d : ℝ) : EReal)) (hv : ∀ (r : Fin 2048) d, Va (ix2 r d) = Vv r.val d)
    (init) (hi : Inv q k β Vv (512 * (grid0.coords t 2).val) (512 * (grid0.coords t 2).val) init) :
    ∀ n : ℕ, n ≤ (grid0.coords t 2).val → Inv q k β Vv (512 * (grid0.coords t 2).val) (512 * (grid0.coords t 2).val - 512 * n)
      (st_k0_t1 (F := Ideal) 𝒱 c bd (grid0.coords t) (ms0_0 t) (hs0_0 t) (ms0_1 t) (hs0_1 t) (ms0_2 t) (hs0_2 t) (ms0_3 t) (hs0_3 t)
        (ms0_4 t) (hs0_4 t) (ms0_5 t) (hs0_5 t) a2 (k0_pay9 bb) (k0_pay10 x) U v61 v64 v69 v79 v82 v83
        ((hs0_2 t).unread K) ((hs0_3 t).unread Va) init n)
  | 0, _ => by rw [st_k0_t1_zero]; exact hi
  | n + 1, hn => by
    have ht : n < (k0_t1_loop (grid0.coords t)).trips := by rw [trips1]; omega
    have hq : (grid0.coords t 2).val < 4 := (grid0.coords t 2).isLt
    have h := loop_inv c t 𝒱 bd a2 bb x U v61 v64 v69 v79 v82 v83 K Va q k β Vv hb hx hU hk hv init hi n (by omega)
    have e := st_k0_t1_succ (F := Ideal) 𝒱 c bd (grid0.coords t) (ms0_0 t) (hs0_0 t) (ms0_1 t) (hs0_1 t) (ms0_2 t) (hs0_2 t) (ms0_3 t) (hs0_3 t)
        (ms0_4 t) (hs0_4 t) (ms0_5 t) (hs0_5 t) a2 (k0_pay9 bb) (k0_pay10 x) U v61 v64 v69 v79 v82 v83
        ((hs0_2 t).unread K) ((hs0_3 t).unread Va) init ⟨n, ht⟩
    rw [e]
    generalize st_k0_t1 (F := Ideal) 𝒱 c bd (grid0.coords t) (ms0_0 t) (hs0_0 t) (ms0_1 t) (hs0_1 t) (ms0_2 t) (hs0_2 t) (ms0_3 t) (hs0_3 t)
        (ms0_4 t) (hs0_4 t) (ms0_5 t) (hs0_5 t) a2 (k0_pay9 bb) (k0_pay10 x) U v61 v64 v69 v79 v82 v83
        ((hs0_2 t).unread K) ((hs0_3 t).unread Va) init n = acc at h ⊢
    unfold tripR_k0_t1 trip_k0_t1
    frame_out
    have o0 := off3_eq (grid0.coords t) ⟨n, ht⟩ 0
    have o1 := off3_eq (grid0.coords t) ⟨n, ht⟩ 1
    have r0 : ∀ (X : Vec Ideal S2048x128 .f32) (p) (s : Fin 256) (d : Fin 128),
        View.ld X (Rect.unit (k0_off3 (grid0.coords t) ⟨n, ht⟩ 0#32) ![256, 128] p) (ix2 s d)
          = X (ix2 ⟨512 * (grid0.coords t 2).val - 512 * (n + 1) + 256 + s.val, by omega⟩ d) := fun X p s d =>
      ld_rows X _ p _ o0 s d _ (by show _ = 512 * (grid0.coords t 2).val - 256 - 512 * n - 256 * 0 + s.val; dsimp only; omega)
    have r1 : ∀ (X : Vec Ideal S2048x128 .f32) (p) (s : Fin 256) (d : Fin 128),
        View.ld X (Rect.unit (k0_off3 (grid0.coords t) ⟨n, ht⟩ 1#32) ![256, 128] p) (ix2 s d)
          = X (ix2 ⟨512 * (grid0.coords t 2).val - 512 * (n + 1) + s.val, by omega⟩ d) := fun X p s d =>
      ld_rows X _ p _ o1 s d _ (by show _ = 512 * (grid0.coords t 2).val - 256 - 512 * n - 256 * 1 + s.val; dsimp only; omega)
    refine trip_step (512 * (grid0.coords t 2).val - 512 * (n + 1)) (by omega) hb hx hU _ _ _ _
      (fun s d => (r0 K _ s d).trans (hk _ d)) (fun s d => (r0 Va _ s d).trans (hv _ d))
      (fun s d => (r1 K _ s d).trans (hk _ d)) (fun s d => (r1 Va _ s d).trans (hv _ d)) acc ?_
    rw [show 512 * (grid0.coords t 2).val - 512 * (n + 1) + 512 = 512 * (grid0.coords t 2).val - 512 * n by omega]
    exact h

theorem trips1_eq (i : grid0.Coords) : Scf.trips (0#32)
    (Scalar.addi (0#32) (Scalar.muli (Scalar.divsi (Scalar.subi (BitVec.ofNat 32 ↑(i 2)) 0#32) 1#32) 1#32)) 1#32
      = (i 2).val := trips1 i

theorem trips2_eq (i : grid0.Coords) : Scf.trips
    (Scalar.addi (0#32) (Scalar.muli (Scalar.divsi (Scalar.subi (BitVec.ofNat 32 ↑(i 2)) 0#32) 1#32) 1#32))
    (Scalar.addi (0#32) (Scalar.subi (BitVec.ofNat 32 ↑(i 2)) 0#32)) 1#32 = 0 := trips2 i

/-- The last rounding is the identity on the extended reals. -/
theorem pay41 (v : FVec Ideal S512x128 .f32) (i : S512x128.Idx) : k0_pay41 v i = v i := by unfold k0_pay41; rfl

/-- What the grid point writes. -/
theorem block (c : Dev nD) (t : Fin cfg0.N) (b : Fin 4) (hb : b.val = (grid0.coords t 0).val)
    (h : Fin 16) (hh : h.val = (grid0.coords t 1).val)
    (qa ka : S4x2048x16x128.Idx → ℝ) (ba : S16.Idx → ℝ)
    (hqa : ∀ i, m ((c : Thread nD τ).loc main_arg0) i = ((qa i : ℝ) : EReal))
    (hka : ∀ i, m ((c : Thread nD τ).loc main_arg1) i = ((ka i : ℝ) : EReal))
    (hba : ∀ i, m ((c : Thread nD τ).loc main_arg3) i = ((ba i : ℝ) : EReal)) (r : Fin 512) (d : Fin 128) :
    outsAt0 m c t (ix2 r d) = Att
      (fun j => logit (fun x => qa (ix4 b (Fin.ofNat 2048 (512 * (grid0.coords t 2).val + r.val)) h x))
        (fun x => ka (ix4 b (Fin.ofNat 2048 j) h x)) (ba (ix1 h)))
      (fun j => m ((c : Thread nD τ).loc main_arg2) (ix4 b (Fin.ofNat 2048 j) h d)) 0 (512 * (grid0.coords t 2).val + r.val) := by
  have hq : (grid0.coords t 2).val < 4 := (grid0.coords t 2).isLt
  have hofNat : ∀ (n : ℕ) (h : n < 2048), Fin.ofNat 2048 n = ⟨n, h⟩ := fun n h => Fin.ext (Nat.mod_eq_of_lt h)
  have hx : ∀ (r : Fin 512) (d : Fin 128), iblk m c 1 t (ix2 r d)
      = ((qa (ix4 b (Fin.ofNat 2048 (512 * (grid0.coords t 2).val + r.val)) h d) : ℝ) : EReal) := fun r d => by
    rw [iblk1 m c t b hb h hh r d (Fin.ofNat 2048 (512 * (grid0.coords t 2).val + r.val)) (Nat.mod_eq_of_lt (by omega)), hqa]
  have hk : ∀ (r : Fin 2048) (d : Fin 128), iblk m c 2 t (ix2 r d)
      = ((ka (ix4 b (Fin.ofNat 2048 r.val) h d) : ℝ) : EReal) := fun r d => by
    rw [iblk2 m c t b hb h hh r d, hka, hofNat r.val r.isLt]
  have hv : ∀ (r : Fin 2048) (d : Fin 128), iblk m c 3 t (ix2 r d)
      = m ((c : Thread nD τ).loc main_arg2) (ix4 b (Fin.ofNat 2048 r.val) h d) := fun r d => by
    rw [iblk3 m c t b hb h hh r d, hofNat r.val r.isLt]
  have o0 := k0_off2_eq (grid0.coords t) 0
  have o1 := k0_off2_eq (grid0.coords t) 1
  have r0 : ∀ (X : Vec Ideal S2048x128 .f32) (p) (s : Fin 256) (d : Fin 128),
      View.ld X (Rect.unit (k0_off2 (grid0.coords t) 0#32) ![256, 128] p) (ix2 s d)
        = X (ix2 ⟨512 * (grid0.coords t 2).val + s.val, by omega⟩ d) := fun X p s d =>
    ld_rows X _ p _ o0 s d _ (by show _ = 512 * (grid0.coords t 2).val + 256 * 0 + s.val; dsimp only; omega)
  have r1 : ∀ (X : Vec Ideal S2048x128 .f32) (p) (s : Fin 256) (d : Fin 128),
      View.ld X (Rect.unit (k0_off2 (grid0.coords t) 1#32) ![256, 128] p) (ix2 s d)
        = X (ix2 ⟨512 * (grid0.coords t 2).val + 256 + s.val, by omega⟩ d) := fun X p s d =>
    ld_rows X _ p _ o1 s d _ (by show _ = 512 * (grid0.coords t 2).val + 256 * 1 + s.val; dsimp only)
  have hbias := fun p q => (bias_read m c t h hh p q).trans (hba _)
  have hU := iblk4 m c t
  unfold outsAt0
  frame_out
  rw [trips1_eq, trips2_eq, st_k0_t2_zero]
  rw [pay41]
  refine ((fun st (hs : Inv _ _ _ _ (512 * (grid0.coords t 2).val) (512 * (grid0.coords t 2).val - 512 * (grid0.coords t 2).val) st) =>
    (by rwa [Nat.sub_self] at hs : Inv (fun r d => qa (ix4 b (Fin.ofNat 2048 (512 * (grid0.coords t 2).val + r.val)) h d))
    (fun j d => ka (ix4 b (Fin.ofNat 2048 j) h d)) (ba (ix1 h))
    (fun j d => m ((c : Thread nD τ).loc main_arg2) (ix4 b (Fin.ofNat 2048 j) h d))
    (512 * (grid0.coords t 2).val) 0 st)) _ ?_ r).2 d
  refine loop_inv c t _ _ _ _ _ _ _ _ _ _ _ _ _ _ _ _ _ _ (hbias _ _) hx hU hk hv _ ?_ _ le_rfl
  refine second (hbias _ _) hx hU _ _ (fun s d => (r0 _ _ s d).trans (hk _ d)) (fun s d => (r0 _ _ s d).trans (hv _ d)) _ _ ?_
  exact first (hbias _ _) hx hU _ _ (fun s d => (r1 _ _ s d).trans (hk _ d)) (fun s d => (r1 _ _ s d).trans (hv _ d))

end Cert.AttnIdeal.Value

end
-- ==== Proof.Ref.lean ====
/- What the reference computes: the same stick-breaking average, read off its stages. -/
module

public import proofs.«01_k».proof.Proof.Gen.StickIdeal.Read
public import proofs.«01_k».proof.Proof.Payload

@[expose] public section

set_option maxRecDepth 16384

noncomputable section

namespace Cert.StickIdeal.Read

open Cert.StickIdeal Cert.StickIdeal.Gen Cert.Stick Idealize.ShloMosaic Idealize.ShloMosaic.TcCoe Idealize.SL.Sem

open Cert.AttnIdeal.Value (logit)

/-- A left fold of additions is the initial value plus the sum. -/
theorem foldl_add_sum {n : ℕ} (f : Fin n → EReal) (v : EReal) :
    (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- The window of a running sum along the last of four axes, as its last coordinate. -/
def winEquiv : (⟨4, ![1, 1, 1, 2048]⟩ : Shape).Idx ≃ Fin 2048 where
  toFun i := i 3
  invFun k := ix4 0 0 0 k
  left_inv i := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  right_inv k := rfl

/-- One position of the window. -/
theorem window_entry (x : S4x16x2048x2048.Idx → EReal) (b : Fin 4) (g : Fin 16) (t s : Fin 2048)
    (w : (⟨4, ![1, 1, 1, 2048]⟩ : Shape).Idx)
    (inst : Decidable (∀ a : Fin 4, (![0, 0, 0, 0] : Fin 4 → ℕ) a ≤ (ix4 b g t s a).val * (![1, 1, 1, 1] : Fin 4 → ℕ) a + (w a).val
          ∧ (ix4 b g t s a).val * (![1, 1, 1, 1] : Fin 4 → ℕ) a + (w a).val - (![0, 0, 0, 0] : Fin 4 → ℕ) a < (![4, 16, 2048, 2048] : Fin 4 → ℕ) a)) :
    (@dite EReal _ inst (fun hin =>
        x (fun a => ⟨(ix4 b g t s a).val * (![1, 1, 1, 1] : Fin 4 → ℕ) a + (w a).val - (![0, 0, 0, 0] : Fin 4 → ℕ) a, (hin a).2⟩))
      (fun _ => 0)) = if hk : s.val + (w 3).val < 2048 then x (ix4 b g t ⟨s.val + (w 3).val, hk⟩) else 0 := by
  have w0 : (w 0).val = 0 := Nat.lt_one_iff.1 (w 0).isLt
  have w1 : (w 1).val = 0 := Nat.lt_one_iff.1 (w 1).isLt
  have w2 : (w 2).val = 0 := Nat.lt_one_iff.1 (w 2).isLt
  have hb := b.isLt
  have hg := g.isLt
  have ht := t.isLt
  by_cases hk : s.val + (w 3).val < 2048
  · rw [dif_pos hk, dif_pos]
    · congr 1
      funext a
      match a with
      | ⟨0, _⟩ => exact Fin.ext (by show b.val * 1 + (w 0).val - 0 = b.val; omega)
      | ⟨1, _⟩ => exact Fin.ext (by show g.val * 1 + (w 1).val - 0 = g.val; omega)
      | ⟨2, _⟩ => exact Fin.ext (by show t.val * 1 + (w 2).val - 0 = t.val; omega)
      | ⟨3, _⟩ => exact Fin.ext (by show s.val * 1 + (w 3).val - 0 = s.val + (w 3).val; omega)
    · intro a
      match a with
      | ⟨0, _⟩ => show 0 ≤ b.val * 1 + (w 0).val ∧ b.val * 1 + (w 0).val - 0 < 4; omega
      | ⟨1, _⟩ => show 0 ≤ g.val * 1 + (w 1).val ∧ g.val * 1 + (w 1).val - 0 < 16; omega
      | ⟨2, _⟩ => show 0 ≤ t.val * 1 + (w 2).val ∧ t.val * 1 + (w 2).val - 0 < 2048; omega
      | ⟨3, _⟩ => show 0 ≤ s.val * 1 + (w 3).val ∧ s.val * 1 + (w 3).val - 0 < 2048; omega
  · rw [dif_neg hk, dif_neg]
    intro hh
    have h3 : 0 ≤ s.val * 1 + (w 3).val ∧ s.val * 1 + (w 3).val - 0 < 2048 := hh (3 : Fin 4)
    omega

/-- The reversed running sum along the last axis: the sum over the positions from `j` on. -/
theorem window_sum (x : S4x16x2048x2048.Idx → EReal) (init : S_.Idx → EReal) (h0 : ∀ i, init i = 0) (h) (hu)
    (b : Fin 4) (g : Fin 16) (t s : Fin 2048) :
    Host.reduceWindowAdd (F := Ideal) (φ := .f32) (s := S4x16x2048x2048) (t := S4x16x2048x2048) (u := S_) ![1, 1, 1, 2048] ![1, 1, 1, 1] ![0, 0, 0, 0] ![0, 0, 0, 2047] x init h hu (ix4 b g t s)
      = ∑ k : Fin 2048, if hk : s.val + k.val < 2048 then x (ix4 b g t ⟨s.val + k.val, hk⟩) else 0 := by
  unfold Host.reduceWindowAdd
  rw [Ideal.hostReduceWindowAdd_def]
  unfold Ideal.hostReduceWindowAdd Host.reduceWindow
  dsimp only
  rw [h0, foldl_add_sum, zero_add, ← Equiv.sum_comp ((Shape.rowMajor (⟨4, ![1, 1, 1, 2048]⟩ : Shape)).symm.trans winEquiv)]
  refine Finset.sum_congr rfl fun n _ => ?_
  exact window_entry x b g t s ((Shape.rowMajor (⟨4, ![1, 1, 1, 2048]⟩ : Shape)).symm n) _

/-- A sum over the positions from `s` on, of terms that vanish from `t` on. -/
theorem shift_sum (f : ℕ → EReal) (s t : ℕ) (ht : t < 2048) :
    (∑ k : Fin 2048, if s + k.val < 2048 then (if s + k.val < t then f (s + k.val) else 0) else 0) = ∑ j ∈ Finset.Ico s t, f j := by
  have e : ∀ k : Fin 2048, (if s + k.val < 2048 then (if s + k.val < t then f (s + k.val) else 0) else 0)
      = (fun k => if s + k < t then f (s + k) else 0) k.val := fun k => by
    dsimp only
    by_cases h : s + k.val < t
    · rw [if_pos h, if_pos (by omega)]
    · rw [if_neg h]; split <;> rfl
  rw [Finset.sum_congr rfl fun k _ => e k, Fin.sum_univ_eq_sum_range (fun k => if s + k < t then f (s + k) else 0) 2048,
    Finset.sum_Ico_eq_sum_range, ← Finset.sum_filter]
  refine Finset.sum_congr (Finset.ext fun k => ?_) fun _ _ => rfl
  simp only [Finset.mem_filter, Finset.mem_range]
  omega

/-- The reference's softplus chain at a real. -/
theorem softplus_chain (y z0 : EReal) (x : ℝ) (hy : y = ((x : ℝ) : EReal)) (hz : z0 = 0) :
    Scalar.select (FloatOps.cmpf (F := Ideal) (φ := .f32) .une (FloatOps.subf (F := Ideal) (φ := .f32) y z0) (FloatOps.subf (F := Ideal) (φ := .f32) y z0))
      (FloatOps.addf (F := Ideal) (φ := .f32) y z0)
      (FloatOps.addf (F := Ideal) (φ := .f32) (FloatOps.maximumf (F := Ideal) (φ := .f32) y z0)
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) y z0))))))
      = ((sp x : ℝ) : EReal) := by
  subst hy hz
  have e : FloatOps.subf (F := Ideal) (φ := .f32) ((x : ℝ) : EReal) (0 : EReal) = ((x : ℝ) : EReal) := sub_zero _
  rw [e]
  have c : FloatOps.cmpf (F := Ideal) (φ := .f32) .une ((x : ℝ) : EReal) ((x : ℝ) : EReal) = 0#1 := by

    rw [Ideal.cmpf_def]
    simp only [Ideal.cmp]
    simp
  rw [c]
  exact softplus_coe x

variable (x0 x1 x2 : S4x2048x16x128.Idx → EReal) (x3 : S16.Idx → EReal)

/-- The mask: the key's index below the query's. -/
theorem mask_select {α : Type} (t s : Fin 2048) (x y : α) :
    Scalar.select (val_main_v13 (F := Ideal) (ix2 t s)) x y = if s.val < t.val then x else y := by
  rw [val_main_v13_apply, val_main_v11_apply, val_main_v8_apply, val_main_v7_apply, val_main_v12_apply, val_main_v10_apply, val_main_v9_apply]
  have h := Cert.AttnIdeal.Value.select_slt s.val 0 t.val x y (by omega) (by omega)
  rw [show IntOp.addi (BitVec.ofNat 32 s.val) (BitVec.ofNat 32 0) = BitVec.ofNat 32 s.val from BitVec.add_zero _] at h
  exact h

theorem zero_word : FloatOps.ofBits (F := Ideal) .f32 0x00000000#32 = 0 := by pointwise []

section
variable (qa ka : S4x2048x16x128.Idx → ℝ) (ba : S16.Idx → ℝ)
  (h0 : ∀ i, x0 i = ((qa i : ℝ) : EReal)) (h1 : ∀ i, x1 i = ((ka i : ℝ) : EReal)) (h3 : ∀ i, x3 i = ((ba i : ℝ) : EReal))

/-- The logits of query `t`, as a function of the key's index. -/
def zrow (b : Fin 4) (h : Fin 16) (t : Fin 2048) (j : ℕ) : ℝ :=
  logit (fun x => qa (ix4 b t h x)) (fun x => ka (ix4 b (Fin.ofNat 2048 j) h x)) (ba (ix1 h))

include h0 h1 h3 in
/-- The reference's logits. -/
theorem v6_eq (b : Fin 4) (h : Fin 16) (t s : Fin 2048) :
    val_main_v6 (F := Ideal) x0 x1 x3 (ix4 b h t s) = ((zrow qa ka ba b h t s.val : ℝ) : EReal) := by
  have e1 : ∀ k : Fin 128, lidx_main_v0 (ix4 b h t s) k = ix4 b t h k := fun k => by
    funext a; match a with
    | ⟨0, _⟩ => rfl
    | ⟨1, _⟩ => rfl
    | ⟨2, _⟩ => rfl
    | ⟨3, _⟩ => rfl
  have e2 : ∀ k : Fin 128, ridx_main_v0 (ix4 b h t s) k = ix4 b s h k := fun k => by
    funext a; match a with
    | ⟨0, _⟩ => rfl
    | ⟨1, _⟩ => rfl
    | ⟨2, _⟩ => rfl
    | ⟨3, _⟩ => rfl
  have e3 : idx_main_v4 (idx_main_v5 (ix4 b h t s)) = ix1 h := by
    funext a; match a with
    | ⟨0, _⟩ => rfl
  have e4 : Fin.ofNat 2048 s.val = s := Fin.ext (Nat.mod_eq_of_lt s.isLt)
  rw [val_main_v6_apply, val_main_v3_apply, val_main_v0_apply, val_main_v2_apply, val_main_v1_apply, val_main_cst_apply,
    val_main_v5_apply, val_main_v4_apply, e3, h3]
  simp only [e1, e2, h0, h1]
  have hc : FloatOps.hostUnary (F := Ideal) .sqrt (FloatOps.ofBits (F := Ideal) .f32 0x43000000#32) = ((Real.sqrt 128 : ℝ) : EReal) := by
    have : FloatOps.ofBits (F := Ideal) .f32 0x43000000#32 = ((128 : ℝ) : EReal) := by
      show Ideal.ofBits .f32 0x43000000#32 = _
      simp [Ideal.ofBits, Ideal.ieee, -EReal.coe_mul]; norm_num
    rw [this]
    exact (Ideal.sqrt_coe 128).trans (if_neg (by norm_num))
  rw [hc]
  simp only [← EReal.coe_mul, ← coe_sum]
  have hs : (Real.sqrt 128) ≠ 0 := (Real.sqrt_pos.2 (by norm_num)).ne'
  have hd : FloatOps.hostDivf (F := Ideal) (φ := .f32) (((∑ x, qa (ix4 b t h x) * ka (ix4 b s h x) : ℝ)) : EReal) ((Real.sqrt 128 : ℝ) : EReal)
      = (((∑ x, qa (ix4 b t h x) * ka (ix4 b s h x)) * (Real.sqrt 128)⁻¹ : ℝ) : EReal) := by
    show Ideal.div _ _ = _
    rw [Ideal.div, if_neg (by exact_mod_cast hs), EReal.coe_mul, EReal.coe_inv]
  rw [hd]
  show ((_ : ℝ) : EReal) + ((_ : ℝ) : EReal) = _
  rw [← EReal.coe_add, zrow, logit, e4]

include h0 h1 h3 in
/-- The logarithm of the stick kept by a key: minus the softplus of its logit. -/
theorem v15_eq (b : Fin 4) (h : Fin 16) (t s : Fin 2048) :
    val_main_v15 (F := Ideal) x0 x1 x3 (ix4 b h t s) = ((-sp (zrow qa ka ba b h t s.val) : ℝ) : EReal) := by
  have e : val_main_call0_v0 (F := Ideal) x0 x1 x3 (ix4 b h t s) = ((zrow qa ka ba b h t s.val : ℝ) : EReal) := by
    rw [val_main_call0_v0_apply, val_main_v14_apply, v6_eq x0 x1 x3 qa ka ba h0 h1 h3]
    show -(-((_ : ℝ) : EReal)) = _
    rw [neg_neg]
  rw [val_main_v15_apply, val_main_call0_v1_apply, val_main_call0_call0_v4_apply, val_main_call0_call0_v6_apply,
    val_main_call0_call0_v11_apply, val_main_call0_call0_v10_apply, val_main_call0_call0_v9_apply, val_main_call0_call0_v8_apply,
    val_main_call0_call0_v7_apply, val_main_call0_call0_v3_apply, val_main_call0_call0_v1_apply, val_main_call0_call0_v2_apply,
    val_main_call0_call0_v0_apply, val_main_call0_call0_v5_apply]
  simp only [val_main_call0_call0_cst_apply]
  rw [softplus_chain _ _ _ e zero_word]
  rfl

include h0 h1 h3 in
/-- The logarithm of the share a key takes of what is left. -/
theorem v19_eq (b : Fin 4) (h : Fin 16) (t s : Fin 2048) :
    val_main_v19 (F := Ideal) x0 x1 x3 (ix4 b h t s)
      = ((zrow qa ka ba b h t s.val - sp (zrow qa ka ba b h t s.val) : ℝ) : EReal) := by
  have e : val_main_call3_v0 (F := Ideal) x0 x1 x3 (ix4 b h t s) = ((-zrow qa ka ba b h t s.val : ℝ) : EReal) := by
    rw [val_main_call3_v0_apply, v6_eq x0 x1 x3 qa ka ba h0 h1 h3]
    rfl
  rw [val_main_v19_apply, val_main_call3_v1_apply, val_main_call3_call0_v4_apply, val_main_call3_call0_v6_apply,
    val_main_call3_call0_v11_apply, val_main_call3_call0_v10_apply, val_main_call3_call0_v9_apply, val_main_call3_call0_v8_apply,
    val_main_call3_call0_v7_apply, val_main_call3_call0_v3_apply, val_main_call3_call0_v1_apply, val_main_call3_call0_v2_apply,
    val_main_call3_call0_v0_apply, val_main_call3_call0_v5_apply]
  simp only [val_main_call3_call0_cst_apply]
  rw [softplus_chain _ _ _ e zero_word, sp_neg]
  show -((_ : ℝ) : EReal) = _
  rw [← EReal.coe_neg, neg_sub]

include h0 h1 h3 in
/-- The masked logarithms. -/
theorem v16_eq (b : Fin 4) (h : Fin 16) (t s : Fin 2048) :
    val_main_v16 (F := Ideal) x0 x1 x3 (ix4 b h t s)
      = if s.val < t.val then ((-sp (zrow qa ka ba b h t s.val) : ℝ) : EReal) else 0 := by
  have e : idx_main_call1_v1 (ix4 b h t s) = ix2 t s := by
    funext a; match a with
    | ⟨0, _⟩ => rfl
    | ⟨1, _⟩ => rfl
  rw [val_main_v16_apply, val_main_call1_v1_apply, e, mask_select, v15_eq x0 x1 x3 qa ka ba h0 h1 h3, val_main_call1_v2_apply,
    val_main_call1_v0_apply, val_main_cst_0_apply, zero_word]

include h0 h1 h3 in
/-- The logarithm of what the keys from `s` on leave of the stick. -/
theorem v17_eq (b : Fin 4) (h : Fin 16) (t s : Fin 2048) :
    val_main_v17 (F := Ideal) x0 x1 x3 (ix4 b h t s) = ((-G (zrow qa ka ba b h t) s.val t.val : ℝ) : EReal) := by
  unfold val_main_v17
  refine (window_sum _ _ (fun i => ?_) _ _ b h t s).trans ?_
  · rw [val_main_call2_v0_apply, val_main_call2_cst_apply, zero_word]
  simp only [v16_eq x0 x1 x3 qa ka ba h0 h1 h3, dite_eq_ite]
  rw [shift_sum (fun j => ((-sp (zrow qa ka ba b h t j) : ℝ) : EReal)) s.val t.val t.isLt, ← coe_sum, Finset.sum_neg_distrib, G]

include h0 h1 h3 in
/-- The weight of a key. -/
theorem v22_eq (b : Fin 4) (h : Fin 16) (t s : Fin 2048) :
    val_main_v22 (F := Ideal) x0 x1 x3 (ix4 b h t s)
      = if s.val < t.val then ((Wt (zrow qa ka ba b h t) s.val t.val : ℝ) : EReal) else 0 := by
  have e : idx_main_call4_v1 (ix4 b h t s) = ix2 t s := by
    funext a; match a with
    | ⟨0, _⟩ => rfl
    | ⟨1, _⟩ => rfl
  rw [val_main_v22_apply, val_main_call4_v1_apply, e, mask_select, val_main_call4_v2_apply, val_main_call4_v0_apply,
    val_main_cst_1_apply, zero_word]
  by_cases hs : s.val < t.val
  · rw [if_pos hs, if_pos hs, val_main_v21_apply, val_main_v20_apply, val_main_v18_apply,
      v19_eq x0 x1 x3 qa ka ba h0 h1 h3, v17_eq x0 x1 x3 qa ka ba h0 h1 h3, v16_eq x0 x1 x3 qa ka ba h0 h1 h3, if_pos hs]
    show Ideal.exp (((_ : ℝ) : EReal) + (((_ : ℝ) : EReal) - ((_ : ℝ) : EReal))) = _
    rw [← EReal.coe_sub, ← EReal.coe_add, Ideal.exp_coe, Wt]
    congr 2
    ring
  · rw [if_neg hs, if_neg hs]

include h0 h1 h3 in
/-- The reference's result, at a batch, a head, a query and a column. -/
theorem v24_eq (b : Fin 4) (h : Fin 16) (t : Fin 2048) (d : Fin 128) :
    val_main_v24 (F := Ideal) x0 x1 x2 x3 (ix4 b t h d)
      = Att (zrow qa ka ba b h t) (fun j => x2 (ix4 b (Fin.ofNat 2048 j) h d)) 0 t.val := by
  have e : idx_main_v24 (ix4 b t h d) = ix4 b h d t := by
    funext a; match a with
    | ⟨0, _⟩ => rfl
    | ⟨1, _⟩ => rfl
    | ⟨2, _⟩ => rfl
    | ⟨3, _⟩ => rfl
  have e1 : ∀ k : Fin 2048, lidx_main_v23 (ix4 b h d t) k = ix4 b (Fin.ofNat 2048 k.val) h d := fun k => by
    have e4 : Fin.ofNat 2048 k.val = k := Fin.ext (Nat.mod_eq_of_lt k.isLt)
    rw [e4]
    funext a; match a with
    | ⟨0, _⟩ => rfl
    | ⟨1, _⟩ => rfl
    | ⟨2, _⟩ => rfl
    | ⟨3, _⟩ => rfl
  have e2 : ∀ k : Fin 2048, ridx_main_v23 (ix4 b h d t) k = ix4 b h t k := fun k => by
    funext a; match a with
    | ⟨0, _⟩ => rfl
    | ⟨1, _⟩ => rfl
    | ⟨2, _⟩ => rfl
    | ⟨3, _⟩ => rfl
  rw [val_main_v24_apply, e, val_main_v23_apply]
  simp only [e1, e2, v22_eq x0 x1 x3 qa ka ba h0 h1 h3]
  generalize zrow qa ka ba b h t = z
  rw [Fin.sum_univ_eq_sum_range (fun k => x2 (ix4 b (Fin.ofNat 2048 k) h d) * if k < t.val then ((Wt z k t.val : ℝ) : EReal) else 0) 2048, Att,
    Finset.range_eq_Ico]
  simp only [mul_ite, mul_zero]
  rw [← Finset.sum_filter]
  have := t.isLt
  refine Finset.sum_congr (Finset.ext fun k => ?_) fun k _ => mul_comm _ _
  simp only [Finset.mem_filter, Finset.mem_Ico]
  omega

include h0 h1 h3 in
/-- The reference's result, at a row and a column of the flat array. -/
theorem v26_eq (i : S8192x2048.Idx) (b : Fin 4) (h : Fin 16) (t : Fin 2048) (d : Fin 128)
    (hr : (i 0).val = 2048 * b.val + t.val) (hc : (i 1).val = 128 * h.val + d.val) :
    val_main_v26 (F := Ideal) x0 x1 x2 x3 i
      = Att (zrow qa ka ba b h t) (fun j => x2 (ix4 b (Fin.ofNat 2048 j) h d)) 0 t.val := by
  have hh := h.isLt
  have hd := d.isLt
  have ht := t.isLt
  have e : idx_main_v25 i = ix4 b t h d := by
    funext a; match a with
    | ⟨0, _⟩ => exact Fin.ext (by show ((i 0).val * 2048 + (i 1).val) / 4194304 = b.val; omega)
    | ⟨1, _⟩ => exact Fin.ext (by show ((i 0).val * 2048 + (i 1).val) / 2048 % 2048 = t.val; omega)
    | ⟨2, _⟩ => exact Fin.ext (by show ((i 0).val * 2048 + (i 1).val) / 128 % 16 = h.val; omega)
    | ⟨3, _⟩ => exact Fin.ext (by show ((i 0).val * 2048 + (i 1).val) % 128 = d.val; omega)
  rw [val_main_v26_apply, val_main_v25_apply, e, v24_eq x0 x1 x2 x3 qa ka ba h0 h1 h3]
  rfl

end

end Cert.StickIdeal.Read

end
-- ==== Proof.Final.lean ====
/- The attention kernel's whole result is the reference's. -/
module

public import proofs.«01_k».proof.Proof.Block
public import proofs.«01_k».proof.Proof.Ref
public import proofs.«01_k».proof.Proof.Gen.Pre_finite
public import Idealize.ShloMosaic.Lib.KernelVsHost

@[expose] public section

set_option maxRecDepth 16384

noncomputable section

namespace Cert.AttnIdeal.Value

open Cert.AttnIdeal Cert.AttnIdeal.Gen Cert.Stick Idealize.ShloMosaic Idealize.ShloMosaic.TcCoe Idealize.SL.Sem

/-- An extended real whose absolute value compares below infinity is a real. -/
theorem real_of_lt (x : EReal) (h : FloatOps.cmpf (F := Ideal) (φ := .f32) .olt (FloatOps.hostAbsf (F := Ideal) (φ := .f32) x)
    (FloatOps.ofBits (F := Ideal) .f32 0x7F800000#32) = 1#1) : ((x.toReal : ℝ) : EReal) = x := by
  rw [← Ideal.xori_weird_eq_hostAbsf_olt_inf] at h
  refine EReal.coe_toReal (fun e => ?_) (fun e => ?_)
  · subst e; exact absurd h (by show ¬ IntOp.xori (BitVec.ofBool (decide ((⊤ : EReal) = ⊤ ∨ (⊤ : EReal) = ⊥))) 1#1 = 1#1; simp [IntOp.xori])
  · subst e; exact absurd h (by show ¬ IntOp.xori (BitVec.ofBool (decide ((⊥ : EReal) = ⊤ ∨ (⊥ : EReal) = ⊥))) 1#1 = 1#1; simp [IntOp.xori])

/-- The precondition says that every query, key and bias entry is a real. -/
theorem finite_decode (x0 x1 x2 : FVec Ideal S4x2048x16x128 .f32) (x3 : FVec Ideal S16 .f32)
    (h : (Cert.Pre_finite.fn (F := Ideal) x0 x1 x2 x3).1 = (fun _ => 1#1)
      ∧ (Cert.Pre_finite.fn (F := Ideal) x0 x1 x2 x3).2.1 = (fun _ => 1#1)
      ∧ (Cert.Pre_finite.fn (F := Ideal) x0 x1 x2 x3).2.2 = (fun _ => 1#1)) :
    (∀ i, x0 i = (((x0 i : EReal).toReal : ℝ) : EReal)) ∧ (∀ i, x1 i = (((x1 i : EReal).toReal : ℝ) : EReal))
      ∧ (∀ i, x3 i = (((x3 i : EReal).toReal : ℝ) : EReal)) := by
  obtain ⟨h0, h1, h3⟩ := h
  exact ⟨fun i => (real_of_lt _ (congrFun h0 i)).symm, fun i => (real_of_lt _ (congrFun h1 i)).symm,
    fun i => (real_of_lt _ (congrFun h3 i)).symm⟩

variable (m : (ℓ : Loc nD τ sig) → Buf (Elt Ideal) ℓ)

/-- The kernel's final array is the reference's result on the same arguments. -/
theorem final (c : Dev nD) (qa ka : S4x2048x16x128.Idx → ℝ) (ba : S16.Idx → ℝ)
    (hqa : ∀ i, m ((c : Thread nD τ).loc main_arg0) i = ((qa i : ℝ) : EReal))
    (hka : ∀ i, m ((c : Thread nD τ).loc main_arg1) i = ((ka i : ℝ) : EReal))
    (hba : ∀ i, m ((c : Thread nD τ).loc main_arg3) i = ((ba i : ℝ) : EReal)) :
    (dats m 0 c).arrAt 5 cfg0.N = Cert.StickIdeal.Read.val_main_v26 (F := Ideal) (m ((c : Thread nD τ).loc main_arg0))
      (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨-, -, -, -, -, e5⟩ := idx t
  blk_simp
  rw [after0_5]
  have hq : (grid0.coords t 2).val < 4 := (grid0.coords t 2).isLt
  have hh : (grid0.coords t 1).val < 16 := (grid0.coords t 1).isLt
  have hb : (grid0.coords t 0).val < 4 := (grid0.coords t 0).isLt
  have hy0 : (y 0).val < 512 := (y 0).isLt
  have hy1 : (y 1).val < 128 := (y 1).isLt
  have key := block m c t ⟨_, hb⟩ rfl ⟨_, hh⟩ rfl qa ka ba hqa hka hba (y 0) (y 1)
  have key2 := Cert.StickIdeal.Read.v26_eq (m ((c : Thread nD τ).loc main_arg0)) (m ((c : Thread nD τ).loc main_arg1))
    (m ((c : Thread nD τ).loc main_arg2)) (m ((c : Thread nD τ).loc main_arg3)) qa ka ba hqa hka hba
    (((cfg0.win 5).blk t).view.emb y) ⟨_, hb⟩ ⟨_, hh⟩ ⟨512 * (grid0.coords t 2).val + (y 0).val, by omega⟩ ⟨(y 1).val, hy1⟩
    (by blk_simp [e5]; simp; omega) (by blk_simp [e5]; simp; omega)
  rw [key2]
  refine Eq.trans (congrArg _ ?_) (key.trans ?_)
  · funext a; match a with
    | ⟨0, _⟩ => rfl
    | ⟨1, _⟩ => rfl
  · have e : Fin.ofNat 2048 (512 * (grid0.coords t 2).val + (y 0).val) = ⟨512 * (grid0.coords t 2).val + (y 0).val, by omega⟩ :=
      Fin.ext (Nat.mod_eq_of_lt (by omega))
    show Att _ _ 0 (512 * (grid0.coords t 2).val + (y 0).val) = _
    rw [e]
    rfl

end Cert.AttnIdeal.Value

end
-- ==== Proof.KTile.lean ====
/- The key projection's call: every block of its result is a block of one matrix product, normalised head by head. -/
module

public import proofs.«01_k».proof.Proof.Gen.KProjIdeal.Value
public import proofs.«01_k».proof.Proof.Gen.KeysIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KProjIdeal.Value

open Cert.KProjIdeal Cert.KProjIdeal.Gen Idealize.ShloMosaic Idealize.ShloMosaic.TcCoe Idealize.SL.Sem

variable (m : (ℓ : Loc nD τ sig) → Buf (Elt Ideal) ℓ)

/-- The blocks that a grid point's windows stage: 1024 rows, 1024 of the columns. -/
theorem idx : ∀ t : Fin cfg0.N, win0_0.index t = ![t.val % 8, 0] ∧ win0_1.index t = ![0, t.val / 8]
    ∧ win0_2.index t = ![0, 0] ∧ win0_3.index t = ![t.val % 8, t.val / 8] := by decide +kernel

/-- The staged rows. -/
theorem rows (c : Dev nD) (t : Fin cfg0.N) (r : Fin 1024) (k : Fin 2048) (R : Fin 8192) (hR : R.val = 1024 * (t.val % 8) + r.val) :
    iblk m c 0 t (ix2 r k) = m ((c : Thread nD τ).loc main_arg0) (ix2 R k) := by
  obtain ⟨e0, e1, e2, e3⟩ := idx t
  blk_simp [iblk, V, e0]
  blk_ext [e0]

/-- The staged columns of the weights. -/
theorem cols (c : Dev nD) (t : Fin cfg0.N) (k : Fin 2048) (j : Fin 1024) (C : Fin 4096) (hC : C.val = 1024 * (t.val / 8) + j.val) :
    iblk m c 1 t (ix2 k j) = m ((c : Thread nD τ).loc main_arg1) (ix2 k C) := by
  obtain ⟨e0, e1, e2, e3⟩ := idx t
  blk_simp [iblk, V, e1]
  blk_ext [e1]

/-- The scratch holds the point's columns of the weights, staged at the first point of their run. -/
theorem held (c : Dev nD) : ∀ (n : ℕ) (hn : n < cfg0.N) (k : Fin 2048) (j : Fin 1024) (C : Fin 4096),
    C.val = 1024 * (n / 8) + j.val → (outsAt0 m c n hn).2 (ix2 k j) = m ((c : Thread nD τ).loc main_arg1) (ix2 k C) := by
  intro n
  induction n with
  | zero =>
    intro hn k j C hC
    rw [outsAt0_A m c ⟨0, hn⟩ rfl]
    frame_out
    unfold k0_pay1
    pointwise []
    exact cols m c ⟨0, hn⟩ k j C hC
  | succ n ih =>
    intro hn k j C hC
    by_cases h : (n + 1) % 8 = 0
    · rw [outsAt0_A m c ⟨n + 1, hn⟩ h]
      frame_out
      unfold k0_pay1
      pointwise []
      exact cols m c ⟨n + 1, hn⟩ k j C hC
    · rw [outsAt0_B m c ⟨n + 1, hn⟩ h]
      frame_out
      exact ih _ k j C (by omega)

/-- The staged gain. -/
theorem gain (c : Dev nD) (t : Fin cfg0.N) (d : Fin 128) :
    iblk m c 2 t (ix2 0 d) = m ((c : Thread nD τ).loc main_arg2) (ix1 d) := by
  obtain ⟨e0, e1, e2, e3⟩ := idx t
  blk_simp [iblk, V, e2]
  entry_read
  refine (shapeCast_apply _ shapeCasts_S128_S1x128 _ (ix1 d) ?_)
  rw [Shape.rowMajor_val_one, Shape.rowMajor_val_two]
  have h0 : win0_2.index t 0 = 0 := by rw [e2]; rfl
  have h1 : win0_2.index t 1 = 0 := by rw [e2]; rfl
  show d.val = (win0_2.index t 0 * 1 + 1 * 0) * 128 + (win0_2.index t 1 * 128 + 1 * d.val)
  omega

/-- One entry `p` of a head whose entries are `P`, divided by the root of the mean of their squares, times a gain. -/
def headNorm (P : Fin 128 → EReal) (p g : EReal) : EReal :=
  p * Ideal.rsqrt (Ideal.div (∑ d, P d * P d) (Ideal.ofBits FTy.f32 1124073472#32) + Ideal.ofBits FTy.f32 897988541#32) * g

/-- A block of eight heads, each normalised. -/
def normed (y : S1024x1024.Idx → EReal) (g : S1x128.Idx → EReal) (i : S1024x1024.Idx) : EReal :=
  headNorm (fun d => y (ix2 (i 0) ⟨128 * ((i 1).val / 128) + d.val, by have := d.isLt; have : (i 1).val < 1024 := (i 1).isLt; omega⟩)) (y i)
    (g (ix2 0 ⟨(i 1).val % 128, Nat.mod_lt _ (by decide)⟩))

/-- The normalised block at a column of the head that starts at column `o`. -/
theorem normed_at (y : S1024x1024.Idx → EReal) (g : S1x128.Idx → EReal) (x : S1024x128.Idx) (o : ℕ) (ho : o % 128 = 0 ∧ o ≤ 896)
    (i : S1024x1024.Idx) (h0 : (i 0).val = 0 + 1 * (x 0).val) (h1 : (i 1).val = o + 1 * (x 1).val) :
    headNorm (fun d => y (ix2 (x 0) ⟨o + d.val, by have := d.isLt; omega⟩))
      (y (ix2 (x 0) ⟨o + (x 1).val, by have : (x 1).val < 128 := (x 1).isLt; omega⟩)) (g (ix2 0 (x 1))) = normed y g i := by
  have hx : (x 1).val < 128 := (x 1).isLt
  have e0 : i 0 = x 0 := Fin.ext (by rw [h0]; omega)
  have ei : ix2 (x 0) ⟨o + (x 1).val, by omega⟩ = i := by
    funext a; match a with
    | ⟨0, _⟩ => exact e0.symm
    | ⟨1, _⟩ => exact Fin.ext (by show o + (x 1).val = (i 1).val; omega)
  have hd : 128 * ((i 1).val / 128) = o := by omega
  have hm : (i 1).val % 128 = (x 1).val := by omega
  refine congr (congr (congrArg headNorm (funext fun d => congrArg y ?_)) (congrArg y ei)) (congrArg g ?_)
  · funext a; match a with
    | ⟨0, _⟩ => exact e0.symm
    | ⟨1, _⟩ => exact Fin.ext (by show o + d.val = 128 * ((i 1).val / 128) + d.val; omega)
  · funext a; match a with
    | ⟨0, _⟩ => rfl
    | ⟨1, _⟩ => exact Fin.ext (by show (x 1).val = (i 1).val % 128; omega)

theorem head0 (a : Vec Ideal S1024x2048 .bf16) (b : Vec Ideal S2048x1024 .bf16) (g : S1x128.Idx → EReal) (x : S1024x128.Idx) (i : S1024x1024.Idx)
    (h0 : (i 0).val = 0 + 1 * (x 0).val) (h1 : (i 1).val = 0 + 1 * (x 1).val) :
    k0_pay4 (F := Ideal) a b g x = normed (k0_pay2 (F := Ideal) a b) g i := by
  unfold k0_pay4 k0_pay3
  generalize k0_pay2 (F := Ideal) a b = y
  pointwise []
  refine Eq.trans ?_ (normed_at y g x 0 (by decide) i h0 h1)
  unfold headNorm
  simp only [Nat.zero_add]

theorem head128 (a : Vec Ideal S1024x2048 .bf16) (b : Vec Ideal S2048x1024 .bf16) (g : S1x128.Idx → EReal) (x : S1024x128.Idx) (i : S1024x1024.Idx)
    (h0 : (i 0).val = 0 + 1 * (x 0).val) (h1 : (i 1).val = 128 + 1 * (x 1).val) :
    k0_pay5 (F := Ideal) a b g x = normed (k0_pay2 (F := Ideal) a b) g i := by
  unfold k0_pay5 k0_pay3
  generalize k0_pay2 (F := Ideal) a b = y
  pointwise []
  exact normed_at y g x 128 (by decide) i h0 h1

theorem head256 (y : S1024x1024.Idx → EReal) (g : S1x128.Idx → EReal) (x : S1024x128.Idx) (i : S1024x1024.Idx)
    (h0 : (i 0).val = 0 + 1 * (x 0).val) (h1 : (i 1).val = 256 + 1 * (x 1).val) :
    k0_pay6 (F := Ideal) y (k0_pay3 (F := Ideal) g) x = normed y g i := by
  unfold k0_pay6 k0_pay3
  pointwise []
  exact normed_at y g x 256 (by decide) i h0 h1

theorem head384 (y : S1024x1024.Idx → EReal) (g : S1x128.Idx → EReal) (x : S1024x128.Idx) (i : S1024x1024.Idx)
    (h0 : (i 0).val = 0 + 1 * (x 0).val) (h1 : (i 1).val = 384 + 1 * (x 1).val) :
    k0_pay7 (F := Ideal) y (k0_pay3 (F := Ideal) g) x = normed y g i := by
  unfold k0_pay7 k0_pay3
  pointwise []
  exact normed_at y g x 384 (by decide) i h0 h1

theorem head512 (y : S1024x1024.Idx → EReal) (g : S1x128.Idx → EReal) (x : S1024x128.Idx) (i : S1024x1024.Idx)
    (h0 : (i 0).val = 0 + 1 * (x 0).val) (h1 : (i 1).val = 512 + 1 * (x 1).val) :
    k0_pay8 (F := Ideal) y (k0_pay3 (F := Ideal) g) x = normed y g i := by
  unfold k0_pay8 k0_pay3
  pointwise []
  exact normed_at y g x 512 (by decide) i h0 h1

theorem head640 (y : S1024x1024.Idx → EReal) (g : S1x128.Idx → EReal) (x : S1024x128.Idx) (i : S1024x1024.Idx)
    (h0 : (i 0).val = 0 + 1 * (x 0).val) (h1 : (i 1).val = 640 + 1 * (x 1).val) :
    k0_pay9 (F := Ideal) y (k0_pay3 (F := Ideal) g) x = normed y g i := by
  unfold k0_pay9 k0_pay3
  pointwise []
  exact normed_at y g x 640 (by decide) i h0 h1

theorem head768 (y : S1024x1024.Idx → EReal) (g : S1x128.Idx → EReal) (x : S1024x128.Idx) (i : S1024x1024.Idx)
    (h0 : (i 0).val = 0 + 1 * (x 0).val) (h1 : (i 1).val = 768 + 1 * (x 1).val) :
    k0_pay10 (F := Ideal) y (k0_pay3 (F := Ideal) g) x = normed y g i := by
  unfold k0_pay10 k0_pay3
  pointwise []
  exact normed_at y g x 768 (by decide) i h0 h1

theorem head896 (y : S1024x1024.Idx → EReal) (g : S1x128.Idx → EReal) (x : S1024x128.Idx) (i : S1024x1024.Idx)
    (h0 : (i 0).val = 0 + 1 * (x 0).val) (h1 : (i 1).val = 896 + 1 * (x 1).val) :
    k0_pay11 (F := Ideal) y (k0_pay3 (F := Ideal) g) x = normed y g i := by
  unfold k0_pay11 k0_pay3
  pointwise []
  exact normed_at y g x 896 (by decide) i h0 h1

/-- The products of the staged rows with the held columns. -/
def prods (X : S8192x2048.Idx → EReal) (W : S2048x4096.Idx → EReal) (R : Fin 8192) (C : Fin 4096) : EReal := ∑ k : Fin 2048, X (ix2 R k) * W (ix2 k C)

/-- A block of the result is eight normalised heads of the products. -/
theorem block (c : Dev nD) (t : Fin cfg0.N) (i : S1024x1024.Idx) :
    ∃ y : S1024x1024.Idx → EReal, (∀ r j, ∀ (R : Fin 8192) (C : Fin 4096), R.val = 1024 * (t.val % 8) + r.val → C.val = 1024 * (t.val / 8) + j.val →
      ∀ (X : S8192x2048.Idx → EReal) (W : S2048x4096.Idx → EReal), (∀ i, m ((c : Thread nD τ).loc main_arg0) i = X i) →
      (∀ i, m ((c : Thread nD τ).loc main_arg1) i = W i) → y (ix2 r j) = prods X W R C) ∧
    (outsAt0 m c t.val t.isLt).1 i = normed y (iblk m c 2 t) i := by
  by_cases h : t.val % 8 = 0
  · rw [outsAt0_A m c t h]
    frame_out
    refine ⟨k0_pay2 (iblk m c 0 t) (k0_pay1 (iblk m c 1 t)), fun r j R C hR hC X W hX hW => ?_, ?_⟩
    · unfold k0_pay2
      pointwise []
      refine Finset.sum_congr rfl fun k _ => congr (congrArg _ ((rows m c t r k R hR).trans (hX _))) ?_
      unfold k0_pay1
      pointwise []
      exact (cols m c t k j C hC).trans (hW _)
    · refine View.canon_apply_of_pieces (Val := Elt Ideal) (e := .f32) (normed _ _) _ (View.PiecesOf.mem ?_) i (View.cover_of_tiledL (s := S1024x1024) _ S1024x128.size (by sl_kernel_rfl) i)
      exact ⟨fun x => head896 _ _ x _ rfl rfl, fun x => head768 _ _ x _ rfl rfl, fun x => head640 _ _ x _ rfl rfl, fun x => head512 _ _ x _ rfl rfl,
        fun x => head384 _ _ x _ rfl rfl, fun x => head256 _ _ x _ rfl rfl, fun x => head128 _ _ _ x _ rfl rfl, fun x => head0 _ _ _ x _ rfl rfl, trivial⟩
  · rw [outsAt0_B m c t h]
    frame_out
    refine ⟨k0_pay2 (iblk m c 0 t) (View.read (Elt Ideal) (View.whole cc0_scratch0) ((Memref.isWhole_whole cc0_scratch0).unread
      (outsAt0 m c (t.val - 1) (Nat.lt_of_le_of_lt (Nat.sub_le t.val 1) t.isLt)).2)), fun r j R C hR hC X W hX hW => ?_, ?_⟩
    rotate_left
    · refine View.canon_apply_of_pieces (Val := Elt Ideal) (e := .f32) (normed _ _) _ (View.PiecesOf.mem ?_) i (View.cover_of_tiledL (s := S1024x1024) _ S1024x128.size (by sl_kernel_rfl) i)
      exact ⟨fun x => head896 _ _ x _ rfl rfl, fun x => head768 _ _ x _ rfl rfl, fun x => head640 _ _ x _ rfl rfl, fun x => head512 _ _ x _ rfl rfl,
        fun x => head384 _ _ x _ rfl rfl, fun x => head256 _ _ x _ rfl rfl, fun x => head128 _ _ _ x _ rfl rfl, fun x => head0 _ _ _ x _ rfl rfl, trivial⟩
    · unfold k0_pay2
      pointwise []
      refine Finset.sum_congr rfl fun k _ => congr (congrArg _ ((rows m c t r k R hR).trans (hX _))) ?_
      exact (congrFun ((Memref.isWhole_whole _).read_unread _) _).trans ((held m c (t.val - 1) _ k j C (by omega)).trans (hW _))

open Cert.KeysIdeal.Read in
/-- The reference's entry. -/
theorem keys (X : S8192x2048.Idx → EReal) (W : S2048x4096.Idx → EReal) (g : Cert.KeysIdeal.S128.Idx → EReal) (i : S8192x2048.Idx) :
    val_main_v18 (F := Ideal) X W g i
      = headNorm (fun d => prods X W (i 0) ⟨128 * ((i 1).val / 128) + d.val, by have := d.isLt; have : (i 1).val < 2048 := (i 1).isLt; omega⟩)
          (prods X W (i 0) ⟨(i 1).val, by have : (i 1).val < 2048 := (i 1).isLt; omega⟩) (g (ix1 ⟨(i 1).val % 128, Nat.mod_lt _ (by decide)⟩)) := by
  have hi0 : (i 0).val < 8192 := (i 0).isLt
  have hi1 : (i 1).val < 2048 := (i 1).isLt
  have main : ∀ (j : Cert.KeysIdeal.S4x2048x16x128.Idx) (C : Fin 4096), (((j 0).val * 2048 + (j 1).val) * 16 + (j 2).val) * 128 + (j 3).val = (i 0).val * 2048 + C.val → C.val < 2048 →
      val_main_v4 (F := Ideal) X W j = prods X W (i 0) C := by
    intro j C h hC
    rw [val_main_v4_apply, val_main_v2_apply, val_main_v1_apply]
    refine Finset.sum_congr rfl fun k _ => congr (congrArg _ (congrArg X ?_)) (congrArg W ?_)
    · funext a; match a with
      | ⟨0, _⟩ => exact Fin.ext (by show ((((j 0).val * 2048 + (j 1).val) * 16 + (j 2).val) * 128 + (j 3).val) / 2048 = (i 0).val; omega)
      | ⟨1, _⟩ => rfl
    · funext a; match a with
      | ⟨0, _⟩ => rfl
      | ⟨1, _⟩ => exact Fin.ext (by show ((((j 0).val * 2048 + (j 1).val) * 16 + (j 2).val) * 128 + (j 3).val) % 2048 = C.val; omega)
  rw [val_main_v18_apply, val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_cst_apply, val_main_cst_0_apply, val_main_cst_1_apply]
  rw [main _ ⟨(i 1).val, by omega⟩ (by show (((((i 0).val * 2048 + (i 1).val) / 4194304) * 2048 + ((i 0).val * 2048 + (i 1).val) / 2048 % 2048) * 16 + ((i 0).val * 2048 + (i 1).val) / 128 % 16) * 128 + ((i 0).val * 2048 + (i 1).val) % 128 = (i 0).val * 2048 + (i 1).val; omega) hi1]
  unfold headNorm
  refine congr (congrArg _ (congrArg _ (congrArg Ideal.rsqrt (congr (congrArg _ (congr (congrArg _ ?_) rfl)) rfl)))) (congrArg g ?_)
  · refine (congr (congrArg _ (Ideal.ofBits_zero FTy.f32)) rfl).trans ((zero_add _).trans (Finset.sum_congr rfl fun d _ => ?_))
    rw [val_main_v5_apply]
    have e := main (idx_main_v6 (idx_main_v7 (idx_main_v13 (idx_main_v18 i))) d) ⟨128 * ((i 1).val / 128) + d.val, by have := d.isLt; omega⟩
      (by show (((((i 0).val * 2048 + (i 1).val) / 4194304) * 2048 + ((i 0).val * 2048 + (i 1).val) / 2048 % 2048) * 16 + ((i 0).val * 2048 + (i 1).val) / 128 % 16) * 128 + d.val = (i 0).val * 2048 + (128 * ((i 1).val / 128) + d.val); omega)
      (by have := d.isLt; show 128 * ((i 1).val / 128) + d.val < 2048; omega)
    exact congr (congrArg _ e) e
  · funext a; match a with
    | ⟨0, _⟩ => exact Fin.ext (by show ((i 0).val * 2048 + (i 1).val) % 128 = (i 1).val % 128; omega)

/-- The call's result is the normalised first half of the product's columns. -/
theorem final (c : Dev nD) : (dats m 0 c).arrAt 3 cfg0.N
    = Cert.KeysIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e3⟩ := idx t
  blk_simp
  rw [after0_3]
  have ht : t.val < 16 := t.isLt
  have hy0 : (y 0).val < 1024 := (y 0).isLt
  have hy1 : (y 1).val < 1024 := (y 1).isLt
  obtain ⟨p, hp, hb⟩ := block m c t y
  rw [keys]
  have h0 : win0_3.index t 0 = t.val % 8 := by rw [e3]; rfl
  have h1 : win0_3.index t 1 = t.val / 8 := by rw [e3]; rfl
  refine Eq.trans (congrArg _ ?_) (hb.trans ?_)
  · rfl
  · refine (congr (congr (congrArg headNorm (funext fun d => ?_)) ?_) ?_)
    · refine hp (y 0) _ _ _ ?_ ?_ _ _ (fun _ => rfl) (fun _ => rfl)
      · show win0_3.index t 0 * 1024 + 1 * (y 0).val = 1024 * (t.val % 8) + (y 0).val
        omega
      · show 128 * ((win0_3.index t 1 * 1024 + 1 * (y 1).val) / 128) + d.val = 1024 * (t.val / 8) + (128 * ((y 1).val / 128) + d.val)
        omega
    · refine Eq.trans (congrArg p ?_) (hp (y 0) (y 1) _ _ ?_ ?_ _ _ (fun _ => rfl) (fun _ => rfl))
      · funext a; match a with
        | ⟨0, _⟩ => rfl
        | ⟨1, _⟩ => rfl
      · show win0_3.index t 0 * 1024 + 1 * (y 0).val = 1024 * (t.val % 8) + (y 0).val
        omega
      · show win0_3.index t 1 * 1024 + 1 * (y 1).val = 1024 * (t.val / 8) + (y 1).val
        omega
    · refine (gain m c t _).trans (congrArg _ ?_)
      funext a; match a with
      | ⟨0, _⟩ => exact Fin.ext (by show (y 1).val % 128 = (win0_3.index t 1 * 1024 + 1 * (y 1).val) % 128; omega)

end Cert.KProjIdeal.Value

end
-- ==== Proof.VTile.lean ====
/- The value projection's call: every block of its result is a block of one matrix product. -/
module

public import proofs.«01_k».proof.Proof.Gen.VProjIdeal.Value
public import proofs.«01_k».proof.Proof.Gen.ValuesIdeal.Read
public import Idealize.ShloMosaic.Lib.Pointwise
public import Idealize.ShloMosaic.Lib.Pipeline.ValueKit

@[expose] public section

set_option maxRecDepth 16384

noncomputable section

namespace Cert.VProjIdeal.Value

open Cert.VProjIdeal Cert.VProjIdeal.Gen Idealize.ShloMosaic Idealize.ShloMosaic.TcCoe Idealize.SL.Sem

variable (m : (ℓ : Loc nD τ sig) → Buf (Elt Ideal) ℓ)

/-- The blocks that a grid point's windows stage: 1024 rows, 1024 of the value columns. -/
theorem idx : ∀ t : Fin cfg0.N, win0_0.index t = ![t.val % 8, 0] ∧ win0_1.index t = ![0, t.val / 8 + 2]
    ∧ win0_2.index t = ![t.val % 8, t.val / 8] := by decide +kernel

/-- The staged rows. -/
theorem rows (c : Dev nD) (t : Fin cfg0.N) (r : Fin 1024) (k : Fin 2048) (R : Fin 8192) (hR : R.val = 1024 * (t.val % 8) + r.val) :
    iblk m c 0 t (ix2 r k) = m ((c : Thread nD τ).loc main_arg0) (ix2 R k) := by
  obtain ⟨e0, e1, e2⟩ := idx t
  blk_simp [iblk, V, e0]
  blk_ext [e0]

/-- The staged columns of the weights. -/
theorem cols (c : Dev nD) (t : Fin cfg0.N) (k : Fin 2048) (j : Fin 1024) (C : Fin 4096) (hC : C.val = 1024 * (t.val / 8 + 2) + j.val) :
    iblk m c 1 t (ix2 k j) = m ((c : Thread nD τ).loc main_arg1) (ix2 k C) := by
  obtain ⟨e0, e1, e2⟩ := idx t
  blk_simp [iblk, V, e1]
  blk_ext [e1]

/-- The scratch holds the point's columns of the weights, staged at the first point of their run. -/
theorem held (c : Dev nD) : ∀ (n : ℕ) (hn : n < cfg0.N) (k : Fin 2048) (j : Fin 1024) (C : Fin 4096),
    C.val = 1024 * (n / 8 + 2) + j.val → (outsAt0 m c n hn).2 (ix2 k j) = m ((c : Thread nD τ).loc main_arg1) (ix2 k C) := by
  intro n
  induction n with
  | zero =>
    intro hn k j C hC
    rw [outsAt0_A m c ⟨0, hn⟩ rfl]
    frame_out
    unfold k0_pay1
    pointwise []
    exact cols m c ⟨0, hn⟩ k j C hC
  | succ n ih =>
    intro hn k j C hC
    by_cases h : (n + 1) % 8 = 0
    · rw [outsAt0_A m c ⟨n + 1, hn⟩ h]
      frame_out
      unfold k0_pay1
      pointwise []
      exact cols m c ⟨n + 1, hn⟩ k j C hC
    · rw [outsAt0_B m c ⟨n + 1, hn⟩ h]
      frame_out
      exact ih _ k j C (by omega)

/-- A block of the result: the products of the block's rows with the block's columns. -/
theorem block (X : S8192x2048.Idx → EReal) (W : S2048x4096.Idx → EReal) (c : Dev nD)
    (hX : ∀ i, m ((c : Thread nD τ).loc main_arg0) i = X i) (hW : ∀ i, m ((c : Thread nD τ).loc main_arg1) i = W i)
    (t : Fin cfg0.N) (r j : Fin 1024) (R : Fin 8192) (hR : R.val = 1024 * (t.val % 8) + r.val)
    (C : Fin 4096) (hC : C.val = 1024 * (t.val / 8 + 2) + j.val) :
    (outsAt0 m c t.val t.isLt).1 (ix2 r j) = ∑ k : Fin 2048, X (ix2 R k) * W (ix2 k C) := by
  by_cases h : t.val % 8 = 0
  · rw [outsAt0_A m c t h]
    frame_out
    unfold k0_pay2
    pointwise []
    refine Finset.sum_congr rfl fun k _ => congr (congrArg _ ((rows m c t r k R hR).trans (hX _))) ?_
    unfold k0_pay1
    pointwise []
    exact (cols m c t k j C hC).trans (hW _)
  · rw [outsAt0_B m c t h]
    frame_out
    unfold k0_pay2
    pointwise []
    refine Finset.sum_congr rfl fun k _ => congr (congrArg _ ((rows m c t r k R hR).trans (hX _))) ?_
    exact (congrFun ((Memref.isWhole_whole _).read_unread _) _).trans ((held m c (t.val - 1) _ k j C (by omega)).trans (hW _))

/-- The call's result is the second half of the product's columns. -/
theorem final (c : Dev nD) : (dats m 0 c).arrAt 2 cfg0.N
    = Cert.ValuesIdeal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨-, -, e2⟩ := idx t
  blk_simp
  rw [after0_2]
  have ht : t.val < 16 := t.isLt
  have hy0 : (y 0).val < 1024 := (y 0).isLt
  have hy1 : (y 1).val < 1024 := (y 1).isLt
  rw [Cert.ValuesIdeal.Read.val_main_v3_apply, Cert.ValuesIdeal.Read.val_main_v1_apply]
  refine Eq.trans (congrArg _ ?_) ((block m _ _ c (fun _ => rfl) (fun _ => rfl) t (y 0) (y 1)
    ⟨1024 * (t.val % 8) + (y 0).val, by omega⟩ rfl ⟨1024 * (t.val / 8 + 2) + (y 1).val, by omega⟩ rfl).trans ?_)
  · funext a; match a with
    | ⟨0, _⟩ => rfl
    | ⟨1, _⟩ => rfl
  · refine Finset.sum_congr rfl fun k _ => congr (congrArg _ (congrArg _ ?_)) (congrArg _ ?_)
    · blk_ext [e2]
    · blk_ext [e2]

end Cert.VProjIdeal.Value

end
-- ==== Proof.HgTile.lean ====
/- The recurrence's input projection: every block of its result is a block of one matrix product. -/
module

public import proofs.«01_k».proof.Proof.Gen.HgInIdeal.Value
public import proofs.«01_k».proof.Proof.Gen.GatesIdeal.Read
public import Idealize.ShloMosaic.Lib.Pointwise
public import Idealize.ShloMosaic.Lib.Pipeline.ValueKit

@[expose] public section

set_option maxRecDepth 16384

noncomputable section

namespace Cert.HgInIdeal.Value

open Cert.HgInIdeal Cert.HgInIdeal.Gen Idealize.ShloMosaic Idealize.ShloMosaic.TcCoe Idealize.SL.Sem

variable (m : (ℓ : Loc nD τ sig) → Buf (Elt Ideal) ℓ)

/-- The blocks that a grid point's windows stage: 1024 rows, 1024 columns. -/
theorem idx : ∀ t : Fin cfg0.N, win0_0.index t = ![t.val % 8, 0] ∧ win0_1.index t = ![0, 0, t.val / 8]
    ∧ win0_2.index t = ![t.val % 8, t.val / 8] := by decide +kernel

/-- The staged rows. -/
theorem rows (c : Dev nD) (t : Fin cfg0.N) (r : Fin 1024) (k : Fin 2048) (R : Fin 8192) (hR : R.val = 1024 * (t.val % 8) + r.val) :
    iblk m c 0 t (ix2 r k) = m ((c : Thread nD τ).loc main_arg0) (ix2 R k) := by
  obtain ⟨e0, e1, e2⟩ := idx t
  blk_simp [iblk, V, e0]
  blk_ext [e0]

/-- The staged columns of the weights. -/
theorem cols (c : Dev nD) (t : Fin cfg0.N) (k : Fin 2048) (j : Fin 1024) (C : Fin 8192) (hC : C.val = 1024 * (t.val / 8) + j.val) :
    iblk m c 1 t (ix3 0 k j) = m ((c : Thread nD τ).loc main_arg1) (ix3 0 k C) := by
  obtain ⟨e0, e1, e2⟩ := idx t
  blk_simp [iblk, V, e1]
  blk_ext [e1]

/-- The scratch holds the point's columns of the weights, staged at the first point of their run. -/
theorem held (c : Dev nD) : ∀ (n : ℕ) (hn : n < cfg0.N) (k : Fin 2048) (j : Fin 1024) (C : Fin 8192),
    C.val = 1024 * (n / 8) + j.val → (outsAt0 m c n hn).2 (ix2 k j) = m ((c : Thread nD τ).loc main_arg1) (ix3 0 k C) := by
  intro n
  induction n with
  | zero =>
    intro hn k j C hC
    rw [outsAt0_A m c ⟨0, hn⟩ rfl]
    frame_out
    unfold k0_pay1
    pointwise []
    exact cols m c ⟨0, hn⟩ k j C hC
  | succ n ih =>
    intro hn k j C hC
    by_cases h : (n + 1) % 8 = 0
    · rw [outsAt0_A m c ⟨n + 1, hn⟩ h]
      frame_out
      unfold k0_pay1
      pointwise []
      exact cols m c ⟨n + 1, hn⟩ k j C hC
    · rw [outsAt0_B m c ⟨n + 1, hn⟩ h]
      frame_out
      exact ih _ k j C (by omega)

/-- A block of the result: the products of the block's rows with the block's columns. -/
theorem block (X : S8192x2048.Idx → EReal) (W : S1x2048x8192.Idx → EReal) (c : Dev nD)
    (hX : ∀ i, m ((c : Thread nD τ).loc main_arg0) i = X i) (hW : ∀ i, m ((c : Thread nD τ).loc main_arg1) i = W i)
    (t : Fin cfg0.N) (r j : Fin 1024) (R : Fin 8192) (hR : R.val = 1024 * (t.val % 8) + r.val)
    (C : Fin 8192) (hC : C.val = 1024 * (t.val / 8) + j.val) :
    (outsAt0 m c t.val t.isLt).1 (ix2 r j) = ∑ k : Fin 2048, X (ix2 R k) * W (ix3 0 k C) := by
  by_cases h : t.val % 8 = 0
  · rw [outsAt0_A m c t h]
    frame_out
    unfold k0_pay2
    pointwise []
    refine Finset.sum_congr rfl fun k _ => congr (congrArg _ ((rows m c t r k R hR).trans (hX _))) ?_
    unfold k0_pay1
    pointwise []
    exact (cols m c t k j C hC).trans (hW _)
  · rw [outsAt0_B m c t h]
    frame_out
    unfold k0_pay2
    pointwise []
    refine Finset.sum_congr rfl fun k _ => congr (congrArg _ ((rows m c t r k R hR).trans (hX _))) ?_
    exact (congrFun ((Memref.isWhole_whole _).read_unread _) _).trans ((held m c (t.val - 1) _ k j C (by omega)).trans (hW _))

/-- The call's result is the product. -/
theorem final (c : Dev nD) : (dats m 0 c).arrAt 2 cfg0.N
    = Cert.GatesIdeal.Read.val_main_v2 (F := Ideal) (m ((c : Thread nD τ).loc main_arg0)) (m ((c : Thread nD τ).loc main_arg1)) := by
  refine (dats m 0 c).arrAt_eq_of_covers 2 _ (by decide +kernel) fun t hf y => ?_
  obtain ⟨-, -, e2⟩ := idx t
  blk_simp
  rw [after0_2]
  have ht : t.val < 64 := t.isLt
  have hy0 : (y 0).val < 1024 := (y 0).isLt
  have hy1 : (y 1).val < 1024 := (y 1).isLt
  rw [Cert.GatesIdeal.Read.val_main_v2_apply]
  refine Eq.trans (congrArg _ ?_) ((block m _ _ c (fun _ => rfl) (fun _ => rfl) t (y 0) (y 1)
    ⟨1024 * (t.val % 8) + (y 0).val, by omega⟩ rfl ⟨1024 * (t.val / 8) + (y 1).val, by omega⟩ rfl).trans ?_)
  · funext a; match a with
    | ⟨0, _⟩ => rfl
    | ⟨1, _⟩ => rfl
  · refine Finset.sum_congr rfl fun k _ => congr (congrArg _ (congrArg _ ?_)) ?_
    · blk_ext [e2]
    · rw [Cert.GatesIdeal.Read.val_main_v1_apply]
      blk_ext [e2]

end Cert.HgInIdeal.Value

end
-- ==== Proof.QTile.lean ====
/- The query projection's call: every block of its result is a block of one matrix product, normalised head by head. -/
module

public import proofs.«01_k».proof.Proof.Gen.QProjIdeal.Value
public import proofs.«01_k».proof.Proof.Gen.QueriesIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.QProjIdeal.Value

open Cert.QProjIdeal Cert.QProjIdeal.Gen Idealize.ShloMosaic Idealize.ShloMosaic.TcCoe Idealize.SL.Sem

variable (m : (ℓ : Loc nD τ sig) → Buf (Elt Ideal) ℓ)

/-- The blocks that a grid point's windows stage: 1024 rows, 1024 of the columns. -/
theorem idx : ∀ t : Fin cfg0.N, win0_0.index t = ![t.val % 8, 0] ∧ win0_1.index t = ![0, 0, t.val / 8]
    ∧ win0_2.index t = ![0, 0] ∧ win0_3.index t = ![t.val % 8, t.val / 8] := by decide +kernel

/-- The staged rows. -/
theorem rows (c : Dev nD) (t : Fin cfg0.N) (r : Fin 1024) (k : Fin 2048) (R : Fin 8192) (hR : R.val = 1024 * (t.val % 8) + r.val) :
    iblk m c 0 t (ix2 r k) = m ((c : Thread nD τ).loc main_arg0) (ix2 R k) := by
  obtain ⟨e0, e1, e2, e3⟩ := idx t
  blk_simp [iblk, V, e0]
  blk_ext [e0]

/-- The staged columns of the weights. -/
theorem cols (c : Dev nD) (t : Fin cfg0.N) (k : Fin 2048) (j : Fin 1024) (C : Fin 2048) (hC : C.val = 1024 * (t.val / 8) + j.val) :
    iblk m c 1 t (ix3 0 k j) = m ((c : Thread nD τ).loc main_arg1) (ix3 0 k C) := by
  obtain ⟨e0, e1, e2, e3⟩ := idx t
  blk_simp [iblk, V, e1]
  blk_ext [e1]

/-- The scratch holds the point's columns of the weights, staged at the first point of their run. -/
theorem held (c : Dev nD) : ∀ (n : ℕ) (hn : n < cfg0.N) (k : Fin 2048) (j : Fin 1024) (C : Fin 2048),
    C.val = 1024 * (n / 8) + j.val → (outsAt0 m c n hn).2 (ix2 k j) = m ((c : Thread nD τ).loc main_arg1) (ix3 0 k C) := by
  intro n
  induction n with
  | zero =>
    intro hn k j C hC
    rw [outsAt0_A m c ⟨0, hn⟩ rfl]
    frame_out
    unfold k0_pay1
    pointwise []
    exact cols m c ⟨0, hn⟩ k j C hC
  | succ n ih =>
    intro hn k j C hC
    by_cases h : (n + 1) % 8 = 0
    · rw [outsAt0_A m c ⟨n + 1, hn⟩ h]
      frame_out
      unfold k0_pay1
      pointwise []
      exact cols m c ⟨n + 1, hn⟩ k j C hC
    · rw [outsAt0_B m c ⟨n + 1, hn⟩ h]
      frame_out
      exact ih _ k j C (by omega)

/-- The staged gain. -/
theorem gain (c : Dev nD) (t : Fin cfg0.N) (d : Fin 128) :
    iblk m c 2 t (ix2 0 d) = m ((c : Thread nD τ).loc main_arg2) (ix2 0 d) := by
  obtain ⟨e0, e1, e2, e3⟩ := idx t
  blk_simp [iblk, V, e2]
  entry_read
  refine (shapeCast_apply _ shapeCasts_S128_S1x128 _ (ix1 d) ?_).trans (shapeCast_apply _ shapeCasts_S1x128_S128 _ (ix2 0 d) ?_)
  · rw [Shape.rowMajor_val_one, Shape.rowMajor_val_two]
    have h0 : win0_2.index t 0 = 0 := by rw [e2]; rfl
    have h1 : win0_2.index t 1 = 0 := by rw [e2]; rfl
    show d.val = (win0_2.index t 0 * 1 + 1 * 0) * 128 + (win0_2.index t 1 * 128 + 1 * d.val)
    omega
  · rw [Shape.rowMajor_val_one, Shape.rowMajor_val_two]
    show 0 * 128 + d.val = d.val
    omega

/-- One entry `p` of a head whose entries are `P`, divided by the root of the mean of their squares, times a gain. -/
def headNorm (P : Fin 128 → EReal) (p g : EReal) : EReal :=
  p * Ideal.rsqrt (Ideal.div (∑ d, P d * P d) (Ideal.ofBits FTy.f32 1124073472#32) + Ideal.ofBits FTy.f32 897988541#32) * g

/-- A block of eight heads, each normalised. -/
def normed (y : S1024x1024.Idx → EReal) (g : S1x128.Idx → EReal) (i : S1024x1024.Idx) : EReal :=
  headNorm (fun d => y (ix2 (i 0) ⟨128 * ((i 1).val / 128) + d.val, by have := d.isLt; have : (i 1).val < 1024 := (i 1).isLt; omega⟩)) (y i)
    (g (ix2 0 ⟨(i 1).val % 128, Nat.mod_lt _ (by decide)⟩))

/-- The normalised block at a column of the head that starts at column `o`. -/
theorem normed_at (y : S1024x1024.Idx → EReal) (g : S1x128.Idx → EReal) (x : S1024x128.Idx) (o : ℕ) (ho : o % 128 = 0 ∧ o ≤ 896)
    (i : S1024x1024.Idx) (h0 : (i 0).val = 0 + 1 * (x 0).val) (h1 : (i 1).val = o + 1 * (x 1).val) :
    headNorm (fun d => y (ix2 (x 0) ⟨o + d.val, by have := d.isLt; omega⟩))
      (y (ix2 (x 0) ⟨o + (x 1).val, by have : (x 1).val < 128 := (x 1).isLt; omega⟩)) (g (ix2 0 (x 1))) = normed y g i := by
  have hx : (x 1).val < 128 := (x 1).isLt
  have e0 : i 0 = x 0 := Fin.ext (by rw [h0]; omega)
  have ei : ix2 (x 0) ⟨o + (x 1).val, by omega⟩ = i := by
    funext a; match a with
    | ⟨0, _⟩ => exact e0.symm
    | ⟨1, _⟩ => exact Fin.ext (by show o + (x 1).val = (i 1).val; omega)
  have hd : 128 * ((i 1).val / 128) = o := by omega
  have hm : (i 1).val % 128 = (x 1).val := by omega
  refine congr (congr (congrArg headNorm (funext fun d => congrArg y ?_)) (congrArg y ei)) (congrArg g ?_)
  · funext a; match a with
    | ⟨0, _⟩ => exact e0.symm
    | ⟨1, _⟩ => exact Fin.ext (by show o + d.val = 128 * ((i 1).val / 128) + d.val; omega)
  · funext a; match a with
    | ⟨0, _⟩ => rfl
    | ⟨1, _⟩ => exact Fin.ext (by show (x 1).val = (i 1).val % 128; omega)

theorem head0 (a : Vec Ideal S1024x2048 .bf16) (b : Vec Ideal S2048x1024 .bf16) (g : S1x128.Idx → EReal) (x : S1024x128.Idx) (i : S1024x1024.Idx)
    (h0 : (i 0).val = 0 + 1 * (x 0).val) (h1 : (i 1).val = 0 + 1 * (x 1).val) :
    k0_pay4 (F := Ideal) a b g x = normed (k0_pay2 (F := Ideal) a b) g i := by
  unfold k0_pay4 k0_pay3
  generalize k0_pay2 (F := Ideal) a b = y
  pointwise []
  refine Eq.trans ?_ (normed_at y g x 0 (by decide) i h0 h1)
  unfold headNorm
  simp only [Nat.zero_add]

theorem head128 (a : Vec Ideal S1024x2048 .bf16) (b : Vec Ideal S2048x1024 .bf16) (g : S1x128.Idx → EReal) (x : S1024x128.Idx) (i : S1024x1024.Idx)
    (h0 : (i 0).val = 0 + 1 * (x 0).val) (h1 : (i 1).val = 128 + 1 * (x 1).val) :
    k0_pay5 (F := Ideal) a b g x = normed (k0_pay2 (F := Ideal) a b) g i := by
  unfold k0_pay5 k0_pay3
  generalize k0_pay2 (F := Ideal) a b = y
  pointwise []
  exact normed_at y g x 128 (by decide) i h0 h1

theorem head256 (y : S1024x1024.Idx → EReal) (g : S1x128.Idx → EReal) (x : S1024x128.Idx) (i : S1024x1024.Idx)
    (h0 : (i 0).val = 0 + 1 * (x 0).val) (h1 : (i 1).val = 256 + 1 * (x 1).val) :
    k0_pay6 (F := Ideal) y (k0_pay3 (F := Ideal) g) x = normed y g i := by
  unfold k0_pay6 k0_pay3
  pointwise []
  exact normed_at y g x 256 (by decide) i h0 h1

theorem head384 (y : S1024x1024.Idx → EReal) (g : S1x128.Idx → EReal) (x : S1024x128.Idx) (i : S1024x1024.Idx)
    (h0 : (i 0).val = 0 + 1 * (x 0).val) (h1 : (i 1).val = 384 + 1 * (x 1).val) :
    k0_pay7 (F := Ideal) y (k0_pay3 (F := Ideal) g) x = normed y g i := by
  unfold k0_pay7 k0_pay3
  pointwise []
  exact normed_at y g x 384 (by decide) i h0 h1

theorem head512 (y : S1024x1024.Idx → EReal) (g : S1x128.Idx → EReal) (x : S1024x128.Idx) (i : S1024x1024.Idx)
    (h0 : (i 0).val = 0 + 1 * (x 0).val) (h1 : (i 1).val = 512 + 1 * (x 1).val) :
    k0_pay8 (F := Ideal) y (k0_pay3 (F := Ideal) g) x = normed y g i := by
  unfold k0_pay8 k0_pay3
  pointwise []
  exact normed_at y g x 512 (by decide) i h0 h1

theorem head640 (y : S1024x1024.Idx → EReal) (g : S1x128.Idx → EReal) (x : S1024x128.Idx) (i : S1024x1024.Idx)
    (h0 : (i 0).val = 0 + 1 * (x 0).val) (h1 : (i 1).val = 640 + 1 * (x 1).val) :
    k0_pay9 (F := Ideal) y (k0_pay3 (F := Ideal) g) x = normed y g i := by
  unfold k0_pay9 k0_pay3
  pointwise []
  exact normed_at y g x 640 (by decide) i h0 h1

theorem head768 (y : S1024x1024.Idx → EReal) (g : S1x128.Idx → EReal) (x : S1024x128.Idx) (i : S1024x1024.Idx)
    (h0 : (i 0).val = 0 + 1 * (x 0).val) (h1 : (i 1).val = 768 + 1 * (x 1).val) :
    k0_pay10 (F := Ideal) y (k0_pay3 (F := Ideal) g) x = normed y g i := by
  unfold k0_pay10 k0_pay3
  pointwise []
  exact normed_at y g x 768 (by decide) i h0 h1

theorem head896 (y : S1024x1024.Idx → EReal) (g : S1x128.Idx → EReal) (x : S1024x128.Idx) (i : S1024x1024.Idx)
    (h0 : (i 0).val = 0 + 1 * (x 0).val) (h1 : (i 1).val = 896 + 1 * (x 1).val) :
    k0_pay11 (F := Ideal) y (k0_pay3 (F := Ideal) g) x = normed y g i := by
  unfold k0_pay11 k0_pay3
  pointwise []
  exact normed_at y g x 896 (by decide) i h0 h1

/-- The products of the staged rows with the held columns. -/
def prods (X : S8192x2048.Idx → EReal) (W : S1x2048x2048.Idx → EReal) (R : Fin 8192) (C : Fin 2048) : EReal := ∑ k : Fin 2048, X (ix2 R k) * W (ix3 0 k C)

/-- A block of the result is eight normalised heads of the products. -/
theorem block (c : Dev nD) (t : Fin cfg0.N) (i : S1024x1024.Idx) :
    ∃ y : S1024x1024.Idx → EReal, (∀ r j, ∀ (R : Fin 8192) (C : Fin 2048), R.val = 1024 * (t.val % 8) + r.val → C.val = 1024 * (t.val / 8) + j.val →
      ∀ (X : S8192x2048.Idx → EReal) (W : S1x2048x2048.Idx → EReal), (∀ i, m ((c : Thread nD τ).loc main_arg0) i = X i) →
      (∀ i, m ((c : Thread nD τ).loc main_arg1) i = W i) → y (ix2 r j) = prods X W R C) ∧
    (outsAt0 m c t.val t.isLt).1 i = normed y (iblk m c 2 t) i := by
  by_cases h : t.val % 8 = 0
  · rw [outsAt0_A m c t h]
    frame_out
    refine ⟨k0_pay2 (iblk m c 0 t) (k0_pay1 (iblk m c 1 t)), fun r j R C hR hC X W hX hW => ?_, ?_⟩
    · unfold k0_pay2
      pointwise []
      refine Finset.sum_congr rfl fun k _ => congr (congrArg _ ((rows m c t r k R hR).trans (hX _))) ?_
      unfold k0_pay1
      pointwise []
      exact (cols m c t k j C hC).trans (hW _)
    · refine View.canon_apply_of_pieces (Val := Elt Ideal) (e := .f32) (normed _ _) _ (View.PiecesOf.mem ?_) i (View.cover_of_tiledL (s := S1024x1024) _ S1024x128.size (by sl_kernel_rfl) i)
      exact ⟨fun x => head896 _ _ x _ rfl rfl, fun x => head768 _ _ x _ rfl rfl, fun x => head640 _ _ x _ rfl rfl, fun x => head512 _ _ x _ rfl rfl,
        fun x => head384 _ _ x _ rfl rfl, fun x => head256 _ _ x _ rfl rfl, fun x => head128 _ _ _ x _ rfl rfl, fun x => head0 _ _ _ x _ rfl rfl, trivial⟩
  · rw [outsAt0_B m c t h]
    frame_out
    refine ⟨k0_pay2 (iblk m c 0 t) (View.read (Elt Ideal) (View.whole cc0_scratch0) ((Memref.isWhole_whole cc0_scratch0).unread
      (outsAt0 m c (t.val - 1) (Nat.lt_of_le_of_lt (Nat.sub_le t.val 1) t.isLt)).2)), fun r j R C hR hC X W hX hW => ?_, ?_⟩
    rotate_left
    · refine View.canon_apply_of_pieces (Val := Elt Ideal) (e := .f32) (normed _ _) _ (View.PiecesOf.mem ?_) i (View.cover_of_tiledL (s := S1024x1024) _ S1024x128.size (by sl_kernel_rfl) i)
      exact ⟨fun x => head896 _ _ x _ rfl rfl, fun x => head768 _ _ x _ rfl rfl, fun x => head640 _ _ x _ rfl rfl, fun x => head512 _ _ x _ rfl rfl,
        fun x => head384 _ _ x _ rfl rfl, fun x => head256 _ _ x _ rfl rfl, fun x => head128 _ _ _ x _ rfl rfl, fun x => head0 _ _ _ x _ rfl rfl, trivial⟩
    · unfold k0_pay2
      pointwise []
      refine Finset.sum_congr rfl fun k _ => congr (congrArg _ ((rows m c t r k R hR).trans (hX _))) ?_
      exact (congrFun ((Memref.isWhole_whole _).read_unread _) _).trans ((held m c (t.val - 1) _ k j C (by omega)).trans (hW _))

open Cert.QueriesIdeal.Read in
/-- The reference's entry. -/
theorem keys (X : S8192x2048.Idx → EReal) (W : S1x2048x2048.Idx → EReal) (g : Cert.QueriesIdeal.S1x128.Idx → EReal) (i : S8192x2048.Idx) :
    val_main_v18 (F := Ideal) X W g i
      = headNorm (fun d => prods X W (i 0) ⟨128 * ((i 1).val / 128) + d.val, by have := d.isLt; have : (i 1).val < 2048 := (i 1).isLt; omega⟩)
          (prods X W (i 0) ⟨(i 1).val, by have : (i 1).val < 2048 := (i 1).isLt; omega⟩) (g (ix2 0 ⟨(i 1).val % 128, Nat.mod_lt _ (by decide)⟩)) := by
  have hi0 : (i 0).val < 8192 := (i 0).isLt
  have hi1 : (i 1).val < 2048 := (i 1).isLt
  have main : ∀ (j : Cert.QueriesIdeal.S4x2048x16x128.Idx) (C : Fin 2048), (((j 0).val * 2048 + (j 1).val) * 16 + (j 2).val) * 128 + (j 3).val = (i 0).val * 2048 + C.val → C.val < 2048 →
      val_main_v3 (F := Ideal) X W j = prods X W (i 0) C := by
    intro j C h hC
    rw [val_main_v3_apply, val_main_v2_apply]
    refine Finset.sum_congr rfl fun k _ => congr (congrArg _ (congrArg X ?_)) ((val_main_v1_apply _ _).trans (congrArg W ?_))
    · funext a; match a with
      | ⟨0, _⟩ => exact Fin.ext (by show ((((j 0).val * 2048 + (j 1).val) * 16 + (j 2).val) * 128 + (j 3).val) / 2048 = (i 0).val; omega)
      | ⟨1, _⟩ => rfl
    · funext a; match a with
      | ⟨0, _⟩ => rfl
      | ⟨1, _⟩ => exact Fin.ext (by
          have hk := k.isLt
          show (k.val * 2048 + ((((j 0).val * 2048 + (j 1).val) * 16 + (j 2).val) * 128 + (j 3).val) % 2048) / 2048 % 2048 = k.val; omega)
      | ⟨2, _⟩ => exact Fin.ext (by
          have hk := k.isLt
          show (k.val * 2048 + ((((j 0).val * 2048 + (j 1).val) * 16 + (j 2).val) * 128 + (j 3).val) % 2048) % 2048 = C.val; omega)
  rw [val_main_v18_apply, val_main_v17_apply, val_main_v16_apply, val_main_v15_apply, val_main_v4_apply, val_main_v14_apply, val_main_v13_apply, val_main_v12_apply, val_main_v11_apply,
    val_main_v10_apply, val_main_v9_apply, val_main_v8_apply, val_main_v7_apply, val_main_v6_apply, val_main_cst_apply, val_main_cst_0_apply, val_main_cst_1_apply]
  rw [main _ ⟨(i 1).val, by omega⟩ (by show (((((i 0).val * 2048 + (i 1).val) / 4194304) * 2048 + ((i 0).val * 2048 + (i 1).val) / 2048 % 2048) * 16 + ((i 0).val * 2048 + (i 1).val) / 128 % 16) * 128 + ((i 0).val * 2048 + (i 1).val) % 128 = (i 0).val * 2048 + (i 1).val; omega) hi1]
  unfold headNorm
  refine congr (congrArg _ (congrArg _ (congrArg Ideal.rsqrt (congr (congrArg _ (congr (congrArg _ ?_) rfl)) rfl)))) (congrArg g ?_)
  · refine (congr (congrArg _ (Ideal.ofBits_zero FTy.f32)) rfl).trans ((zero_add _).trans (Finset.sum_congr rfl fun d _ => ?_))
    rw [val_main_v5_apply]
    have e := main (idx_main_v6 (idx_main_v7 (idx_main_v13 (idx_main_v18 i))) d) ⟨128 * ((i 1).val / 128) + d.val, by have := d.isLt; omega⟩
      (by show (((((i 0).val * 2048 + (i 1).val) / 4194304) * 2048 + ((i 0).val * 2048 + (i 1).val) / 2048 % 2048) * 16 + ((i 0).val * 2048 + (i 1).val) / 128 % 16) * 128 + d.val = (i 0).val * 2048 + (128 * ((i 1).val / 128) + d.val); omega)
      (by have := d.isLt; show 128 * ((i 1).val / 128) + d.val < 2048; omega)
    exact congr (congrArg _ e) e
  · funext a; match a with
    | ⟨0, _⟩ => rfl
    | ⟨1, _⟩ => exact Fin.ext (by show ((i 0).val * 2048 + (i 1).val) % 128 % 128 = (i 1).val % 128; omega)

/-- The call's result is the normalised product. -/
theorem final (c : Dev nD) : (dats m 0 c).arrAt 3 cfg0.N
    = Cert.QueriesIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e3⟩ := idx t
  blk_simp
  rw [after0_3]
  have ht : t.val < 16 := t.isLt
  have hy0 : (y 0).val < 1024 := (y 0).isLt
  have hy1 : (y 1).val < 1024 := (y 1).isLt
  obtain ⟨p, hp, hb⟩ := block m c t y
  rw [keys]
  have h0 : win0_3.index t 0 = t.val % 8 := by rw [e3]; rfl
  have h1 : win0_3.index t 1 = t.val / 8 := by rw [e3]; rfl
  refine Eq.trans (congrArg _ ?_) (hb.trans ?_)
  · rfl
  · refine (congr (congr (congrArg headNorm (funext fun d => ?_)) ?_) ?_)
    · refine hp (y 0) _ _ _ ?_ ?_ _ _ (fun _ => rfl) (fun _ => rfl)
      · show win0_3.index t 0 * 1024 + 1 * (y 0).val = 1024 * (t.val % 8) + (y 0).val
        omega
      · show 128 * ((win0_3.index t 1 * 1024 + 1 * (y 1).val) / 128) + d.val = 1024 * (t.val / 8) + (128 * ((y 1).val / 128) + d.val)
        omega
    · refine Eq.trans (congrArg p ?_) (hp (y 0) (y 1) _ _ ?_ ?_ _ _ (fun _ => rfl) (fun _ => rfl))
      · funext a; match a with
        | ⟨0, _⟩ => rfl
        | ⟨1, _⟩ => rfl
      · show win0_3.index t 0 * 1024 + 1 * (y 0).val = 1024 * (t.val % 8) + (y 0).val
        omega
      · show win0_3.index t 1 * 1024 + 1 * (y 1).val = 1024 * (t.val / 8) + (y 1).val
        omega
    · refine (gain m c t _).trans (congrArg _ ?_)
      funext a; match a with
      | ⟨0, _⟩ => rfl
      | ⟨1, _⟩ => exact Fin.ext (by show (y 1).val % 128 = (win0_3.index t 1 * 1024 + 1 * (y 1).val) % 128; omega)

end Cert.QProjIdeal.Value

end
-- ==== Proof.SbTile.lean ====
/- The attention's output projection: every block of its result is a block of one matrix product. -/
module

public import proofs.«01_k».proof.Proof.Gen.SbOutIdeal.Value
public import proofs.«01_k».proof.Proof.Gen.MixedIdeal.Read
public import Idealize.ShloMosaic.Lib.Pointwise
public import Idealize.ShloMosaic.Lib.Pipeline.ValueKit

@[expose] public section

set_option maxRecDepth 16384

noncomputable section

namespace Cert.SbOutIdeal.Value

open Cert.SbOutIdeal Cert.SbOutIdeal.Gen Idealize.ShloMosaic Idealize.ShloMosaic.TcCoe Idealize.SL.Sem

variable (m : (ℓ : Loc nD τ sig) → Buf (Elt Ideal) ℓ)

/-- Splitting a row-major position by sequence and row, and joining it again, gives its row. -/
theorem unflat (R C : ℕ) (hC : C < 2048) : (((R * 2048 + C) / 4194304 * 2048 + (R * 2048 + C) / 2048 % 2048) * 2048
    + (R * 2048 + C) % 2048) / 2048 = R := by
  have h1 : (R * 2048 + C) / 2048 = R := by omega
  have h2 : (R * 2048 + C) % 2048 = C := by omega
  have h3 : (R * 2048 + C) / 4194304 = R / 2048 := by omega
  rw [h1, h2, h3]; omega

/-- The blocks that a grid point's windows stage: 1024 rows, 1024 columns. -/
theorem idx : ∀ t : Fin cfg0.N, win0_0.index t = ![t.val % 8, 0] ∧ win0_1.index t = ![0, 0, t.val / 8]
    ∧ win0_2.index t = ![t.val % 8, t.val / 8] ∧ win0_3.index t = ![t.val % 8 / 2, 0, t.val / 8]
    ∧ win0_4.index t = ![t.val % 8, t.val / 8] := by decide +kernel

/-- The staged rows. -/
theorem rows (c : Dev nD) (t : Fin cfg0.N) (r : Fin 1024) (k : Fin 2048) (R : Fin 8192) (hR : R.val = 1024 * (t.val % 8) + r.val) :
    iblk m c 0 t (ix2 r k) = m ((c : Thread nD τ).loc main_arg0) (ix2 R k) := by
  obtain ⟨e0, e1, e2, e3, e4⟩ := idx t
  blk_simp [iblk, V, e0]
  blk_ext [e0]

/-- The staged columns of the weights. -/
theorem cols (c : Dev nD) (t : Fin cfg0.N) (k : Fin 2048) (j : Fin 1024) (C : Fin 2048) (hC : C.val = 1024 * (t.val / 8) + j.val) :
    iblk m c 1 t (ix3 0 k j) = m ((c : Thread nD τ).loc main_arg1) (ix3 0 k C) := by
  obtain ⟨e0, e1, e2, e3, e4⟩ := idx t
  blk_simp [iblk, V, e1]
  blk_ext [e1]

/-- The staged block of the stream. -/
theorem stream (c : Dev nD) (t : Fin cfg0.N) (r j : Fin 1024) (R : Fin 8192) (hR : R.val = 1024 * (t.val % 8) + r.val)
    (C : Fin 2048) (hC : C.val = 1024 * (t.val / 8) + j.val) :
    iblk m c 2 t (ix2 r j) = m ((c : Thread nD τ).loc main_arg2) (ix2 R C) := by
  obtain ⟨e0, e1, e2, e3, e4⟩ := idx t
  blk_simp [iblk, V, e2]
  blk_ext [e2]

/-- The staged gate of the block's sequence. -/
theorem gate (c : Dev nD) (t : Fin cfg0.N) (j : Fin 1024) (B : Fin 4) (hB : B.val = t.val % 8 / 2)
    (C : Fin 2048) (hC : C.val = 1024 * (t.val / 8) + j.val) :
    iblk m c 3 t (ix3 0 0 j) = m ((c : Thread nD τ).loc main_arg3) (ix2 B C) := by
  obtain ⟨e0, e1, e2, e3, e4⟩ := idx t
  blk_simp [iblk, V, e3]
  entry_read
  pointwise []
  blk_ext [e3]

/-- The scratch holds the point's columns of the weights, staged at the first point of their run. -/
theorem held (c : Dev nD) : ∀ (n : ℕ) (hn : n < cfg0.N) (k : Fin 2048) (j : Fin 1024) (C : Fin 2048),
    C.val = 1024 * (n / 8) + j.val → (outsAt0 m c n hn).2 (ix2 k j) = m ((c : Thread nD τ).loc main_arg1) (ix3 0 k C) := by
  intro n
  induction n with
  | zero =>
    intro hn k j C hC
    rw [outsAt0_A m c ⟨0, hn⟩ rfl]
    frame_out
    unfold k0_pay1
    pointwise []
    exact cols m c ⟨0, hn⟩ k j C hC
  | succ n ih =>
    intro hn k j C hC
    by_cases h : (n + 1) % 8 = 0
    · rw [outsAt0_A m c ⟨n + 1, hn⟩ h]
      frame_out
      unfold k0_pay1
      pointwise []
      exact cols m c ⟨n + 1, hn⟩ k j C hC
    · rw [outsAt0_B m c ⟨n + 1, hn⟩ h]
      frame_out
      exact ih _ k j C (by omega)

/-- A block of the result: the stream plus the gate times the products of the block's rows with the block's columns. -/
theorem block (X : S8192x2048.Idx → EReal) (W : S1x2048x2048.Idx → EReal) (c : Dev nD)
    (hX : ∀ i, m ((c : Thread nD τ).loc main_arg0) i = X i) (hW : ∀ i, m ((c : Thread nD τ).loc main_arg1) i = W i)
    (Y : S8192x2048.Idx → EReal) (hY : ∀ i, m ((c : Thread nD τ).loc main_arg2) i = Y i)
    (Z : S4x2048.Idx → EReal) (hZ : ∀ i, m ((c : Thread nD τ).loc main_arg3) i = Z i)
    (t : Fin cfg0.N) (r j : Fin 1024) (R : Fin 8192) (hR : R.val = 1024 * (t.val % 8) + r.val)
    (C : Fin 2048) (hC : C.val = 1024 * (t.val / 8) + j.val)
    (B : Fin 4) (hB : B.val = t.val % 8 / 2) :
    (outsAt0 m c t.val t.isLt).1 (ix2 r j) = Y (ix2 R C) + Z (ix2 B C) * ∑ k : Fin 2048, X (ix2 R k) * W (ix3 0 k C) := by
  by_cases h : t.val % 8 = 0
  · rw [outsAt0_A m c t h]
    frame_out
    unfold k0_pay2
    pointwise []
    refine congr (congrArg _ ((stream m c t r j R hR C hC).trans (hY _))) (congr (congrArg _ ((gate m c t j B hB C hC).trans (hZ _))) ?_)
    refine Finset.sum_congr rfl fun k _ => congr (congrArg _ ((rows m c t r k R hR).trans (hX _))) ?_
    unfold k0_pay1
    pointwise []
    exact (cols m c t k j C hC).trans (hW _)
  · rw [outsAt0_B m c t h]
    frame_out
    unfold k0_pay2
    pointwise []
    refine congr (congrArg _ ((stream m c t r j R hR C hC).trans (hY _))) (congr (congrArg _ ((gate m c t j B hB C hC).trans (hZ _))) ?_)
    refine Finset.sum_congr rfl fun k _ => congr (congrArg _ ((rows m c t r k R hR).trans (hX _))) ?_
    exact (congrFun ((Memref.isWhole_whole _).read_unread _) _).trans ((held m c (t.val - 1) _ k j C (by omega)).trans (hW _))

/-- The call's result is the stream plus the gated product. -/
theorem final (c : Dev nD) : (dats m 0 c).arrAt 4 cfg0.N
    = Cert.MixedIdeal.Read.val_main_v9 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf y => ?_
  obtain ⟨-, -, -, -, e4⟩ := idx t
  blk_simp
  rw [after0_4]
  have ht : t.val < 16 := t.isLt
  have hy0 : (y 0).val < 1024 := (y 0).isLt
  have hy1 : (y 1).val < 1024 := (y 1).isLt
  rw [Cert.MixedIdeal.Read.val_main_v9_apply, Cert.MixedIdeal.Read.val_main_v8_apply, Cert.MixedIdeal.Read.val_main_v7_apply,
    Cert.MixedIdeal.Read.val_main_v6_apply, Cert.MixedIdeal.Read.val_main_v5_apply, Cert.MixedIdeal.Read.val_main_v4_apply,
    Cert.MixedIdeal.Read.val_main_v3_apply, Cert.MixedIdeal.Read.val_main_v2_apply]
  refine Eq.trans (congrArg _ ?_) ((block m _ _ c (fun _ => rfl) (fun _ => rfl) _ (fun _ => rfl) _ (fun _ => rfl) t (y 0) (y 1)
    ⟨1024 * (t.val % 8) + (y 0).val, by omega⟩ rfl ⟨1024 * (t.val / 8) + (y 1).val, by omega⟩ rfl ⟨t.val % 8 / 2, by omega⟩ rfl).trans ?_)
  · funext a; match a with
    | ⟨0, _⟩ => rfl
    | ⟨1, _⟩ => rfl
  · refine congr (congrArg _ (congrArg _ ?_)) (congr (congrArg _ (congrArg _ ?_)) (Finset.sum_congr rfl fun k _ => congr (congrArg _ (congrArg _ ?_)) ?_))
    · blk_ext [e4]
      exact ((unflat _ _ (by omega)).trans (by omega)).symm
    · blk_ext [e4]
    · blk_ext [e4]
      exact ((unflat _ _ (by omega)).trans (by omega)).symm
    · rw [Cert.MixedIdeal.Read.val_main_v1_apply]
      blk_ext [e4]

end Cert.SbOutIdeal.Value

end
-- ==== Proof.KSampleTile.lean ====
/- The key projection's call in the sample group: every block of its result is a block of one matrix product, normalised head by head. -/
module

public import proofs.«01_k».proof.Proof.Gen.KSampleIdeal.Value
public import proofs.«01_k».proof.Proof.Gen.KeysSampleIdeal.Read
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KSampleIdeal.Value

open Cert.KSampleIdeal Cert.KSampleIdeal.Gen Idealize.ShloMosaic Idealize.ShloMosaic.TcCoe Idealize.SL.Sem

variable (m : (ℓ : Loc nD τ sig) → Buf (Elt Ideal) ℓ)

/-- The blocks that a grid point's windows stage: all 32 rows, 1024 of the columns. -/
theorem idx : ∀ t : Fin cfg0.N, win0_0.index t = ![0, 0] ∧ win0_1.index t = ![0, t.val]
    ∧ win0_2.index t = ![0, 0] ∧ win0_3.index t = ![0, t.val] := by decide +kernel

/-- The staged rows. -/
theorem rows (c : Dev nD) (t : Fin cfg0.N) (r : Fin 32) (k : Fin 2048) (R : Fin 32) (hR : R.val = r.val) :
    iblk m c 0 t (ix2 r k) = m ((c : Thread nD τ).loc main_arg0) (ix2 R k) := by
  obtain ⟨e0, e1, e2, e3⟩ := idx t
  blk_simp [iblk, V, e0]
  blk_ext [e0]

/-- The staged columns of the weights. -/
theorem cols (c : Dev nD) (t : Fin cfg0.N) (k : Fin 2048) (j : Fin 1024) (C : Fin 4096) (hC : C.val = 1024 * (t.val) + j.val) :
    iblk m c 1 t (ix2 k j) = m ((c : Thread nD τ).loc main_arg1) (ix2 k C) := by
  obtain ⟨e0, e1, e2, e3⟩ := idx t
  blk_simp [iblk, V, e1]
  blk_ext [e1]

/-- The staged gain. -/
theorem gain (c : Dev nD) (t : Fin cfg0.N) (d : Fin 128) :
    iblk m c 2 t (ix2 0 d) = m ((c : Thread nD τ).loc main_arg2) (ix1 d) := by
  obtain ⟨e0, e1, e2, e3⟩ := idx t
  blk_simp [iblk, V, e2]
  entry_read
  refine (shapeCast_apply _ shapeCasts_S128_S1x128 _ (ix1 d) ?_)
  rw [Shape.rowMajor_val_one, Shape.rowMajor_val_two]
  have h0 : win0_2.index t 0 = 0 := by rw [e2]; rfl
  have h1 : win0_2.index t 1 = 0 := by rw [e2]; rfl
  show d.val = (win0_2.index t 0 * 1 + 1 * 0) * 128 + (win0_2.index t 1 * 128 + 1 * d.val)
  omega

/-- One entry `p` of a head whose entries are `P`, divided by the root of the mean of their squares, times a gain. -/
def headNorm (P : Fin 128 → EReal) (p g : EReal) : EReal :=
  p * Ideal.rsqrt (Ideal.div (∑ d, P d * P d) (Ideal.ofBits FTy.f32 1124073472#32) + Ideal.ofBits FTy.f32 897988541#32) * g

/-- A block of eight heads, each normalised. -/
def normed (y : S32x1024.Idx → EReal) (g : S1x128.Idx → EReal) (i : S32x1024.Idx) : EReal :=
  headNorm (fun d => y (ix2 (i 0) ⟨128 * ((i 1).val / 128) + d.val, by have := d.isLt; have : (i 1).val < 1024 := (i 1).isLt; omega⟩)) (y i)
    (g (ix2 0 ⟨(i 1).val % 128, Nat.mod_lt _ (by decide)⟩))

/-- The normalised block at a column of the head that starts at column `o`. -/
theorem normed_at (y : S32x1024.Idx → EReal) (g : S1x128.Idx → EReal) (x : S32x128.Idx) (o : ℕ) (ho : o % 128 = 0 ∧ o ≤ 896)
    (i : S32x1024.Idx) (h0 : (i 0).val = 0 + 1 * (x 0).val) (h1 : (i 1).val = o + 1 * (x 1).val) :
    headNorm (fun d => y (ix2 (x 0) ⟨o + d.val, by have := d.isLt; omega⟩))
      (y (ix2 (x 0) ⟨o + (x 1).val, by have : (x 1).val < 128 := (x 1).isLt; omega⟩)) (g (ix2 0 (x 1))) = normed y g i := by
  have hx : (x 1).val < 128 := (x 1).isLt
  have e0 : i 0 = x 0 := Fin.ext (by rw [h0]; omega)
  have ei : ix2 (x 0) ⟨o + (x 1).val, by omega⟩ = i := by
    funext a; match a with
    | ⟨0, _⟩ => exact e0.symm
    | ⟨1, _⟩ => exact Fin.ext (by show o + (x 1).val = (i 1).val; omega)
  have hd : 128 * ((i 1).val / 128) = o := by omega
  have hm : (i 1).val % 128 = (x 1).val := by omega
  refine congr (congr (congrArg headNorm (funext fun d => congrArg y ?_)) (congrArg y ei)) (congrArg g ?_)
  · funext a; match a with
    | ⟨0, _⟩ => exact e0.symm
    | ⟨1, _⟩ => exact Fin.ext (by show o + d.val = 128 * ((i 1).val / 128) + d.val; omega)
  · funext a; match a with
    | ⟨0, _⟩ => rfl
    | ⟨1, _⟩ => exact Fin.ext (by show (x 1).val = (i 1).val % 128; omega)

theorem head0 (a : Vec Ideal S32x2048 .bf16) (b : Vec Ideal S2048x1024 .bf16) (g : S1x128.Idx → EReal) (x : S32x128.Idx) (i : S32x1024.Idx)
    (h0 : (i 0).val = 0 + 1 * (x 0).val) (h1 : (i 1).val = 0 + 1 * (x 1).val) :
    k0_pay4 (F := Ideal) a b g x = normed (k0_pay2 (F := Ideal) a b) g i := by
  unfold k0_pay4 k0_pay3
  generalize k0_pay2 (F := Ideal) a b = y
  pointwise []
  refine Eq.trans ?_ (normed_at y g x 0 (by decide) i h0 h1)
  unfold headNorm
  simp only [Nat.zero_add]

theorem head128 (a : Vec Ideal S32x2048 .bf16) (b : Vec Ideal S2048x1024 .bf16) (g : S1x128.Idx → EReal) (x : S32x128.Idx) (i : S32x1024.Idx)
    (h0 : (i 0).val = 0 + 1 * (x 0).val) (h1 : (i 1).val = 128 + 1 * (x 1).val) :
    k0_pay5 (F := Ideal) a b g x = normed (k0_pay2 (F := Ideal) a b) g i := by
  unfold k0_pay5 k0_pay3
  generalize k0_pay2 (F := Ideal) a b = y
  pointwise []
  exact normed_at y g x 128 (by decide) i h0 h1

theorem head256 (y : S32x1024.Idx → EReal) (g : S1x128.Idx → EReal) (x : S32x128.Idx) (i : S32x1024.Idx)
    (h0 : (i 0).val = 0 + 1 * (x 0).val) (h1 : (i 1).val = 256 + 1 * (x 1).val) :
    k0_pay6 (F := Ideal) y (k0_pay3 (F := Ideal) g) x = normed y g i := by
  unfold k0_pay6 k0_pay3
  pointwise []
  exact normed_at y g x 256 (by decide) i h0 h1

theorem head384 (y : S32x1024.Idx → EReal) (g : S1x128.Idx → EReal) (x : S32x128.Idx) (i : S32x1024.Idx)
    (h0 : (i 0).val = 0 + 1 * (x 0).val) (h1 : (i 1).val = 384 + 1 * (x 1).val) :
    k0_pay7 (F := Ideal) y (k0_pay3 (F := Ideal) g) x = normed y g i := by
  unfold k0_pay7 k0_pay3
  pointwise []
  exact normed_at y g x 384 (by decide) i h0 h1

theorem head512 (y : S32x1024.Idx → EReal) (g : S1x128.Idx → EReal) (x : S32x128.Idx) (i : S32x1024.Idx)
    (h0 : (i 0).val = 0 + 1 * (x 0).val) (h1 : (i 1).val = 512 + 1 * (x 1).val) :
    k0_pay8 (F := Ideal) y (k0_pay3 (F := Ideal) g) x = normed y g i := by
  unfold k0_pay8 k0_pay3
  pointwise []
  exact normed_at y g x 512 (by decide) i h0 h1

theorem head640 (y : S32x1024.Idx → EReal) (g : S1x128.Idx → EReal) (x : S32x128.Idx) (i : S32x1024.Idx)
    (h0 : (i 0).val = 0 + 1 * (x 0).val) (h1 : (i 1).val = 640 + 1 * (x 1).val) :
    k0_pay9 (F := Ideal) y (k0_pay3 (F := Ideal) g) x = normed y g i := by
  unfold k0_pay9 k0_pay3
  pointwise []
  exact normed_at y g x 640 (by decide) i h0 h1

theorem head768 (y : S32x1024.Idx → EReal) (g : S1x128.Idx → EReal) (x : S32x128.Idx) (i : S32x1024.Idx)
    (h0 : (i 0).val = 0 + 1 * (x 0).val) (h1 : (i 1).val = 768 + 1 * (x 1).val) :
    k0_pay10 (F := Ideal) y (k0_pay3 (F := Ideal) g) x = normed y g i := by
  unfold k0_pay10 k0_pay3
  pointwise []
  exact normed_at y g x 768 (by decide) i h0 h1

theorem head896 (y : S32x1024.Idx → EReal) (g : S1x128.Idx → EReal) (x : S32x128.Idx) (i : S32x1024.Idx)
    (h0 : (i 0).val = 0 + 1 * (x 0).val) (h1 : (i 1).val = 896 + 1 * (x 1).val) :
    k0_pay11 (F := Ideal) y (k0_pay3 (F := Ideal) g) x = normed y g i := by
  unfold k0_pay11 k0_pay3
  pointwise []
  exact normed_at y g x 896 (by decide) i h0 h1

/-- The products of the staged rows with the held columns. -/
def prods (X : S32x2048.Idx → EReal) (W : S2048x4096.Idx → EReal) (R : Fin 32) (C : Fin 4096) : EReal := ∑ k : Fin 2048, X (ix2 R k) * W (ix2 k C)

/-- A block of the result is eight normalised heads of the products. -/
theorem block (c : Dev nD) (t : Fin cfg0.N) (i : S32x1024.Idx) :
    ∃ y : S32x1024.Idx → EReal, (∀ r j, ∀ (R : Fin 32) (C : Fin 4096), R.val = r.val → C.val = 1024 * (t.val) + j.val →
      ∀ (X : S32x2048.Idx → EReal) (W : S2048x4096.Idx → EReal), (∀ i, m ((c : Thread nD τ).loc main_arg0) i = X i) →
      (∀ i, m ((c : Thread nD τ).loc main_arg1) i = W i) → y (ix2 r j) = prods X W R C) ∧
    outsAt0 m c t i = normed y (iblk m c 2 t) i := by
  unfold outsAt0
  frame_out
  refine ⟨k0_pay2 (iblk m c 0 t) (k0_pay1 (iblk m c 1 t)), fun r j R C hR hC X W hX hW => ?_, ?_⟩
  · unfold k0_pay2
    pointwise []
    refine Finset.sum_congr rfl fun k _ => congr (congrArg _ ((rows m c t r k R hR).trans (hX _))) ?_
    unfold k0_pay1
    pointwise []
    exact (cols m c t k j C hC).trans (hW _)
  · refine View.canon_apply_of_pieces (Val := Elt Ideal) (e := .f32) (normed _ _) _ (View.PiecesOf.mem ?_) i (View.cover_of_tiledL (s := S32x1024) _ S32x128.size (by sl_kernel_rfl) i)
    exact ⟨fun x => head896 _ _ x _ rfl rfl, fun x => head768 _ _ x _ rfl rfl, fun x => head640 _ _ x _ rfl rfl, fun x => head512 _ _ x _ rfl rfl,
      fun x => head384 _ _ x _ rfl rfl, fun x => head256 _ _ x _ rfl rfl, fun x => head128 _ _ _ x _ rfl rfl, fun x => head0 _ _ _ x _ rfl rfl, trivial⟩

open Cert.KeysSampleIdeal.Read in
/-- The reference's entry. -/
theorem keys (X : S32x2048.Idx → EReal) (W : S2048x4096.Idx → EReal) (g : Cert.KeysSampleIdeal.S128.Idx → EReal) (i : S32x2048.Idx) :
    val_main_v18 (F := Ideal) X W g i
      = headNorm (fun d => prods X W (i 0) ⟨128 * ((i 1).val / 128) + d.val, by have := d.isLt; have : (i 1).val < 2048 := (i 1).isLt; omega⟩)
          (prods X W (i 0) ⟨(i 1).val, by have : (i 1).val < 2048 := (i 1).isLt; omega⟩) (g (ix1 ⟨(i 1).val % 128, Nat.mod_lt _ (by decide)⟩)) := by
  have hi0 : (i 0).val < 32 := (i 0).isLt
  have hi1 : (i 1).val < 2048 := (i 1).isLt
  have main : ∀ (j : Cert.KeysSampleIdeal.S8x4x16x128.Idx) (C : Fin 4096), (((j 0).val * 4 + (j 1).val) * 16 + (j 2).val) * 128 + (j 3).val = (i 0).val * 2048 + C.val → C.val < 2048 →
      val_main_v4 (F := Ideal) X W j = prods X W (i 0) C := by
    intro j C h hC
    rw [val_main_v4_apply, val_main_v2_apply, val_main_v1_apply]
    refine Finset.sum_congr rfl fun k _ => congr (congrArg _ (congrArg X ?_)) (congrArg W ?_)
    · funext a; match a with
      | ⟨0, _⟩ => exact Fin.ext (by show ((((j 0).val * 4 + (j 1).val) * 16 + (j 2).val) * 128 + (j 3).val) / 2048 = (i 0).val; omega)
      | ⟨1, _⟩ => rfl
    · funext a; match a with
      | ⟨0, _⟩ => rfl
      | ⟨1, _⟩ => exact Fin.ext (by show ((((j 0).val * 4 + (j 1).val) * 16 + (j 2).val) * 128 + (j 3).val) % 2048 = C.val; omega)
  rw [val_main_v18_apply, val_main_v17_apply, val_main_v16_apply, val_main_v15_apply, val_main_v14_apply, val_main_v13_apply, val_main_v12_apply, val_main_v11_apply,
    val_main_v10_apply, val_main_v9_apply, val_main_v8_apply, val_main_v7_apply, val_main_v6_apply, val_main_cst_apply, val_main_cst_0_apply, val_main_cst_1_apply]
  rw [main _ ⟨(i 1).val, by omega⟩ (by show (((((i 0).val * 2048 + (i 1).val) / 8192) * 4 + ((i 0).val * 2048 + (i 1).val) / 2048 % 4) * 16 + ((i 0).val * 2048 + (i 1).val) / 128 % 16) * 128 + ((i 0).val * 2048 + (i 1).val) % 128 = (i 0).val * 2048 + (i 1).val; omega) hi1]
  unfold headNorm
  refine congr (congrArg _ (congrArg _ (congrArg Ideal.rsqrt (congr (congrArg _ (congr (congrArg _ ?_) rfl)) rfl)))) (congrArg g ?_)
  · refine (congr (congrArg _ (Ideal.ofBits_zero FTy.f32)) rfl).trans ((zero_add _).trans (Finset.sum_congr rfl fun d _ => ?_))
    rw [val_main_v5_apply]
    have e := main (idx_main_v6 (idx_main_v7 (idx_main_v13 (idx_main_v18 i))) d) ⟨128 * ((i 1).val / 128) + d.val, by have := d.isLt; omega⟩
      (by show (((((i 0).val * 2048 + (i 1).val) / 8192) * 4 + ((i 0).val * 2048 + (i 1).val) / 2048 % 4) * 16 + ((i 0).val * 2048 + (i 1).val) / 128 % 16) * 128 + d.val = (i 0).val * 2048 + (128 * ((i 1).val / 128) + d.val); omega)
      (by have := d.isLt; show 128 * ((i 1).val / 128) + d.val < 2048; omega)
    exact congr (congrArg _ e) e
  · funext a; match a with
    | ⟨0, _⟩ => exact Fin.ext (by show ((i 0).val * 2048 + (i 1).val) % 128 = (i 1).val % 128; omega)

/-- The call's result is the normalised first half of the product's columns. -/
theorem final (c : Dev nD) : (dats m 0 c).arrAt 3 cfg0.N
    = Cert.KeysSampleIdeal.Read.val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨-, -, -, e3⟩ := idx t
  blk_simp
  rw [after0_3]
  have ht : t.val < 2 := t.isLt
  have hy0 : (y 0).val < 32 := (y 0).isLt
  have hy1 : (y 1).val < 1024 := (y 1).isLt
  obtain ⟨p, hp, hb⟩ := block m c t y
  rw [keys]
  have h0 : win0_3.index t 0 = 0 := by rw [e3]; rfl
  have h1 : win0_3.index t 1 = t.val := by rw [e3]; rfl
  refine Eq.trans (congrArg _ ?_) (hb.trans ?_)
  · rfl
  · refine (congr (congr (congrArg headNorm (funext fun d => ?_)) ?_) ?_)
    · refine hp (y 0) _ _ _ ?_ ?_ _ _ (fun _ => rfl) (fun _ => rfl)
      · show win0_3.index t 0 * 32 + 1 * (y 0).val = (y 0).val
        omega
      · show 128 * ((win0_3.index t 1 * 1024 + 1 * (y 1).val) / 128) + d.val = 1024 * (t.val) + (128 * ((y 1).val / 128) + d.val)
        omega
    · refine Eq.trans (congrArg p ?_) (hp (y 0) (y 1) _ _ ?_ ?_ _ _ (fun _ => rfl) (fun _ => rfl))
      · funext a; match a with
        | ⟨0, _⟩ => rfl
        | ⟨1, _⟩ => rfl
      · show win0_3.index t 0 * 32 + 1 * (y 0).val = (y 0).val
        omega
      · show win0_3.index t 1 * 1024 + 1 * (y 1).val = 1024 * (t.val) + (y 1).val
        omega
    · refine (gain m c t _).trans (congrArg _ ?_)
      funext a; match a with
      | ⟨0, _⟩ => exact Fin.ext (by show (y 1).val % 128 = (win0_3.index t 1 * 1024 + 1 * (y 1).val) % 128; omega)

end Cert.KSampleIdeal.Value

end
-- ==== Proof.VSampleTile.lean ====
/- The value projection's call in the sample group: every block of its result is a block of one matrix product. -/
module

public import proofs.«01_k».proof.Proof.Gen.VSampleIdeal.Value
public import proofs.«01_k».proof.Proof.Gen.ValuesSampleIdeal.Read
public import Idealize.ShloMosaic.Lib.Pointwise
public import Idealize.ShloMosaic.Lib.Pipeline.ValueKit

@[expose] public section

set_option maxRecDepth 16384

noncomputable section

namespace Cert.VSampleIdeal.Value

open Cert.VSampleIdeal Cert.VSampleIdeal.Gen Idealize.ShloMosaic Idealize.ShloMosaic.TcCoe Idealize.SL.Sem

variable (m : (ℓ : Loc nD τ sig) → Buf (Elt Ideal) ℓ)

/-- The blocks that a grid point's windows stage: all 32 rows, 1024 of the value columns. -/
theorem idx : ∀ t : Fin cfg0.N, win0_0.index t = ![0, 0] ∧ win0_1.index t = ![0, t.val + 2]
    ∧ win0_2.index t = ![0, t.val] := by decide +kernel

/-- The staged rows. -/
theorem rows (c : Dev nD) (t : Fin cfg0.N) (r : Fin 32) (k : Fin 2048) (R : Fin 32) (hR : R.val = r.val) :
    iblk m c 0 t (ix2 r k) = m ((c : Thread nD τ).loc main_arg0) (ix2 R k) := by
  obtain ⟨e0, e1, e2⟩ := idx t
  blk_simp [iblk, V, e0]
  blk_ext [e0]

/-- The staged columns of the weights. -/
theorem cols (c : Dev nD) (t : Fin cfg0.N) (k : Fin 2048) (j : Fin 1024) (C : Fin 4096) (hC : C.val = 1024 * (t.val + 2) + j.val) :
    iblk m c 1 t (ix2 k j) = m ((c : Thread nD τ).loc main_arg1) (ix2 k C) := by
  obtain ⟨e0, e1, e2⟩ := idx t
  blk_simp [iblk, V, e1]
  blk_ext [e1]

/-- A block of the result: the products of the block's rows with the block's columns. -/
theorem block (X : S32x2048.Idx → EReal) (W : S2048x4096.Idx → EReal) (c : Dev nD)
    (hX : ∀ i, m ((c : Thread nD τ).loc main_arg0) i = X i) (hW : ∀ i, m ((c : Thread nD τ).loc main_arg1) i = W i)
    (t : Fin cfg0.N) (r : Fin 32) (j : Fin 1024) (R : Fin 32) (hR : R.val = r.val)
    (C : Fin 4096) (hC : C.val = 1024 * (t.val + 2) + j.val) :
    outsAt0 m c t (ix2 r j) = ∑ k : Fin 2048, X (ix2 R k) * W (ix2 k C) := by
  unfold outsAt0
  frame_out
  unfold k0_pay2
  pointwise []
  refine Finset.sum_congr rfl fun k _ => congr (congrArg _ ((rows m c t r k R hR).trans (hX _))) ?_
  unfold k0_pay1
  pointwise []
  exact (cols m c t k j C hC).trans (hW _)

/-- The call's result is the second half of the product's columns. -/
theorem final (c : Dev nD) : (dats m 0 c).arrAt 2 cfg0.N
    = Cert.ValuesSampleIdeal.Read.val_main_v3 (F := Ideal) (m ((c : Thread nD τ).loc main_arg0)) (m ((c : Thread nD τ).loc main_arg1)) := by
  refine (dats m 0 c).arrAt_eq_of_covers 2 _ (by decide +kernel) fun t hf y => ?_
  obtain ⟨-, -, e2⟩ := idx t
  blk_simp
  rw [after0_2]
  have ht : t.val < 2 := t.isLt
  have hy0 : (y 0).val < 32 := (y 0).isLt
  have hy1 : (y 1).val < 1024 := (y 1).isLt
  rw [Cert.ValuesSampleIdeal.Read.val_main_v3_apply, Cert.ValuesSampleIdeal.Read.val_main_v1_apply]
  refine Eq.trans (congrArg _ ?_) ((block m _ _ c (fun _ => rfl) (fun _ => rfl) t (y 0) (y 1)
    ⟨(y 0).val, by omega⟩ rfl ⟨1024 * (t.val + 2) + (y 1).val, by omega⟩ rfl).trans ?_)
  · funext a; match a with
    | ⟨0, _⟩ => rfl
    | ⟨1, _⟩ => rfl
  · refine Finset.sum_congr rfl fun k _ => congr (congrArg _ (congrArg _ ?_)) (congrArg _ ?_)
    · blk_ext [e2]
    · blk_ext [e2]

end Cert.VSampleIdeal.Value

end
-- ==== Proof.CombineTile.lean ====
/- The combination of the experts' outputs: every block of its result is the stream plus the gated sum of a block. -/
module

public import proofs.«01_k».proof.Proof.Gen.CombineIdeal.Value
public import proofs.«01_k».proof.Proof.Gen.CombinedIdeal.Read
public import Idealize.ShloMosaic.Lib.Pointwise
public import Idealize.ShloMosaic.Lib.Pipeline.ValueKit

@[expose] public section

set_option maxRecDepth 16384

noncomputable section

namespace Cert.CombineIdeal.Value

open Cert.CombineIdeal Cert.CombineIdeal.Gen Idealize.ShloMosaic Idealize.ShloMosaic.TcCoe Idealize.SL.Sem

variable (m : (ℓ : Loc nD τ sig) → Buf (Elt Ideal) ℓ)

/-- Eight products added one by one to a starting value are their sum plus the value. -/
theorem eight (s s' : EReal) (p q e w : Fin 8 → EReal) (hs : s = s') (hp : ∀ k, p k = w k) (hq : ∀ k, q k = e k) :
    s + p 0 * q 0 + p 1 * q 1 + p 2 * q 2 + p 3 * q 3 + p 4 * q 4 + p 5 * q 5 + p 6 * q 6 + p 7 * q 7 = (∑ k, e k * w k) + s' := by
  simp only [hs, hp, hq, Fin.sum_univ_eight, mul_comm (w _) (e _), add_comm _ s', ← add_assoc]

/-- The blocks that a grid point's windows stage: 256 rows of everything, and the gate of their sequence. -/
theorem idx : ∀ t : Fin cfg0.N, win0_0.index t = ![t.val, 0] ∧ win0_1.index t = ![t.val / 8, 0, 0]
    ∧ win0_2.index t = ![t.val, 0] ∧ win0_3.index t = ![t.val, 0] ∧ win0_4.index t = ![0, t.val, 0]
    ∧ win0_5.index t = ![t.val, 0] := by decide +kernel

/-- The staged block of the stream. -/
theorem stream (c : Dev nD) (t : Fin cfg0.N) (r : Fin 256) (j : Fin 2048) (R : Fin 8192) (hR : R.val = 256 * t.val + r.val) :
    iblk m c 0 t (ix2 r j) = m ((c : Thread nD τ).loc main_arg0) (ix2 R j) := by
  obtain ⟨e0, e1, e2, e3, e4, e5⟩ := idx t
  blk_simp [iblk, V, e0]
  blk_ext [e0]

/-- The staged gate of the block's sequence. -/
theorem gate (c : Dev nD) (t : Fin cfg0.N) (j : Fin 2048) (B : Fin 4) (hB : B.val = t.val / 8) :
    iblk m c 1 t (ix3 0 0 j) = m ((c : Thread nD τ).loc main_arg1) (ix2 B j) := by
  obtain ⟨e0, e1, e2, e3, e4, e5⟩ := idx t
  blk_simp [iblk, V, e1]
  entry_read
  pointwise []
  blk_ext [e1]

/-- The staged block of the shared expert's output. -/
theorem shared (c : Dev nD) (t : Fin cfg0.N) (r : Fin 256) (j : Fin 2048) (R : Fin 8192) (hR : R.val = 256 * t.val + r.val) :
    iblk m c 2 t (ix2 r j) = m ((c : Thread nD τ).loc main_arg2) (ix2 R j) := by
  obtain ⟨e0, e1, e2, e3, e4, e5⟩ := idx t
  blk_simp [iblk, V, e2]
  blk_ext [e2]

/-- The staged routing weights. -/
theorem weights (c : Dev nD) (t : Fin cfg0.N) (r : Fin 256) (k : Fin 8) (R : Fin 8192) (hR : R.val = 256 * t.val + r.val) :
    iblk m c 3 t (ix2 r k) = m ((c : Thread nD τ).loc main_arg3) (ix2 R k) := by
  obtain ⟨e0, e1, e2, e3, e4, e5⟩ := idx t
  blk_simp [iblk, V, e3]
  blk_ext [e3]

/-- The staged outputs of the experts. -/
theorem outputs (c : Dev nD) (t : Fin cfg0.N) (k : Fin 8) (r : Fin 256) (j : Fin 2048) (R : Fin 8224) (hR : R.val = 256 * t.val + r.val) :
    X0_4 m c t (ix3 k r j) = m ((c : Thread nD τ).loc main_arg4) (ix3 k R j) := by
  obtain ⟨e0, e1, e2, e3, e4, e5⟩ := idx t
  unfold X0_4 Pipeline.Window.fill
  rw [dif_pos (moved0_4 t _)]
  blk_simp [iblk, V, e4]
  blk_ext [e4]

/-- A block of the result. -/
theorem block (X : S8192x2048.Idx → EReal) (Z : S4x2048.Idx → EReal) (S : S8192x2048.Idx → EReal) (W : S8192x8.Idx → EReal)
    (E : S8x8224x2048.Idx → EReal) (c : Dev nD)
    (hX : ∀ i, m ((c : Thread nD τ).loc main_arg0) i = X i) (hZ : ∀ i, m ((c : Thread nD τ).loc main_arg1) i = Z i)
    (hS : ∀ i, m ((c : Thread nD τ).loc main_arg2) i = S i) (hW : ∀ i, m ((c : Thread nD τ).loc main_arg3) i = W i)
    (hE : ∀ i, m ((c : Thread nD τ).loc main_arg4) i = E i)
    (t : Fin cfg0.N) (r : Fin 256) (j : Fin 2048) (R : Fin 8192) (hR : R.val = 256 * t.val + r.val) (Q : Fin 8224) (hQ : Q.val = 256 * t.val + r.val)
    (B : Fin 4) (hB : B.val = t.val / 8) :
    outsAt0 m c t (ix2 r j) = X (ix2 R j) + Z (ix2 B j) * ((∑ k : Fin 8, E (ix3 k Q j) * W (ix2 R k)) + S (ix2 R j)) := by
  unfold outsAt0
  frame_out
  unfold k0_pay1 k0_pay2 k0_pay3
  pointwise []
  refine congr (congrArg _ ((stream m c t r j R hR).trans (hX _))) (congr (congrArg _ ((gate m c t j B hB).trans (hZ _))) ?_)
  exact eight _ _ (fun k => iblk m c 3 t (ix2 r k)) (fun k => X0_4 m c t (ix3 k r j)) (fun k => E (ix3 k Q j)) (fun k => W (ix2 R k))
    ((shared m c t r j R hR).trans (hS _)) (fun k => (weights m c t r k R hR).trans (hW _)) (fun k => (outputs m c t k r j Q hQ).trans (hE _))

open Cert.CombinedIdeal.Read in
/-- The call's result is the stream plus the gated sum of the shared expert's output and the weighted outputs of the experts. -/
theorem final (c : Dev nD) : (dats m 0 c).arrAt 5 cfg0.N
    = val_main_v10 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨-, -, -, -, -, e5⟩ := idx t
  blk_simp
  rw [after0_5]
  have ht : t.val < 32 := t.isLt
  have hy0 : (y 0).val < 256 := (y 0).isLt
  have hy1 : (y 1).val < 2048 := (y 1).isLt
  rw [val_main_v10_apply, val_main_v9_apply, val_main_v8_apply, val_main_v7_apply, val_main_v6_apply, val_main_v5_apply,
    val_main_v4_apply, val_main_v3_apply, val_main_v2_apply]
  refine Eq.trans (congrArg _ ?_) ((block m _ _ _ _ _ c (fun _ => rfl) (fun _ => rfl) (fun _ => rfl) (fun _ => rfl) (fun _ => rfl) t (y 0) (y 1)
    ⟨256 * t.val + (y 0).val, by omega⟩ rfl ⟨256 * t.val + (y 0).val, by omega⟩ rfl ⟨t.val / 8, by omega⟩ rfl).trans ?_)
  · funext a; match a with
    | ⟨0, _⟩ => rfl
    | ⟨1, _⟩ => rfl
  · refine congr (congrArg _ (congrArg _ ?_)) (congr (congrArg _ (congrArg _ ?_)) (congr (congrArg _ (Finset.sum_congr rfl fun k _ => congr (congrArg _ ?_) (congrArg _ ?_))) (congrArg _ ?_)))
    · blk_ext [e5]
    · blk_ext [e5]
    · rw [val_main_v1_apply, val_main_v0_apply]
      refine congrArg (m ((c : Thread nD τ).loc main_arg4)) ?_
      blk_ext [e5]
    · blk_ext [e5]
    · blk_ext [e5]

end Cert.CombineIdeal.Value

end
-- ==== Proof.CombineSampleTile.lean ====
/- The combination of the experts' outputs in the sample group: its result is the stream plus the gated sum. -/
module

public import proofs.«01_k».proof.Proof.Gen.CombineSampleIdeal.Value
public import proofs.«01_k».proof.Proof.Gen.CombinedSampleIdeal.Read
public import Idealize.ShloMosaic.Lib.Pointwise
public import Idealize.ShloMosaic.Lib.Pipeline.ValueKit

@[expose] public section

set_option maxRecDepth 16384

noncomputable section

namespace Cert.CombineSampleIdeal.Value

open Cert.CombineSampleIdeal Cert.CombineSampleIdeal.Gen Idealize.ShloMosaic Idealize.ShloMosaic.TcCoe Idealize.SL.Sem

variable (m : (ℓ : Loc nD τ sig) → Buf (Elt Ideal) ℓ)

/-- Eight products added one by one to a starting value are their sum plus the value. -/
theorem eight (s s' : EReal) (p q e w : Fin 8 → EReal) (hs : s = s') (hp : ∀ k, p k = w k) (hq : ∀ k, q k = e k) :
    s + p 0 * q 0 + p 1 * q 1 + p 2 * q 2 + p 3 * q 3 + p 4 * q 4 + p 5 * q 5 + p 6 * q 6 + p 7 * q 7 = (∑ k, e k * w k) + s' := by
  simp only [hs, hp, hq, Fin.sum_univ_eight, mul_comm (w _) (e _), add_comm _ s', ← add_assoc]

/-- The blocks that a grid point's windows stage: everything, of the experts' outputs the last 32 rows. -/
theorem idx : ∀ t : Fin cfg0.N, win0_0.index t = ![0, 0] ∧ win0_1.index t = ![0, 0]
    ∧ win0_2.index t = ![0, 0] ∧ win0_3.index t = ![0, 0] ∧ win0_4.index t = ![0, 256, 0]
    ∧ win0_5.index t = ![0, 0] := by decide +kernel

/-- The staged block of the stream. -/
theorem stream (c : Dev nD) (t : Fin cfg0.N) (r : Fin 32) (j : Fin 2048) (R : Fin 32) (hR : R.val = r.val) :
    iblk m c 0 t (ix2 r j) = m ((c : Thread nD τ).loc main_arg0) (ix2 R j) := by
  obtain ⟨e0, e1, e2, e3, e4, e5⟩ := idx t
  blk_simp [iblk, V, e0]
  blk_ext [e0]

/-- The staged gate of a row's sequence. -/
theorem gate (c : Dev nD) (t : Fin cfg0.N) (r : Fin 32) (j : Fin 2048) (B : Fin 8) (hB : B.val = r.val / 4) :
    iblk m c 1 t (ix2 r j) = m ((c : Thread nD τ).loc main_arg1) (ix2 B j) := by
  obtain ⟨e0, e1, e2, e3, e4, e5⟩ := idx t
  blk_simp [iblk, V, e1]
  entry_read
  pointwise []
  blk_ext [e1]

/-- The staged block of the shared expert's output. -/
theorem shared (c : Dev nD) (t : Fin cfg0.N) (r : Fin 32) (j : Fin 2048) (R : Fin 32) (hR : R.val = r.val) :
    iblk m c 2 t (ix2 r j) = m ((c : Thread nD τ).loc main_arg2) (ix2 R j) := by
  obtain ⟨e0, e1, e2, e3, e4, e5⟩ := idx t
  blk_simp [iblk, V, e2]
  blk_ext [e2]

/-- The staged routing weights. -/
theorem weights (c : Dev nD) (t : Fin cfg0.N) (r : Fin 32) (k : Fin 8) (R : Fin 32) (hR : R.val = r.val) :
    iblk m c 3 t (ix2 r k) = m ((c : Thread nD τ).loc main_arg3) (ix2 R k) := by
  obtain ⟨e0, e1, e2, e3, e4, e5⟩ := idx t
  blk_simp [iblk, V, e3]
  blk_ext [e3]

/-- The staged outputs of the experts. -/
theorem outputs (c : Dev nD) (t : Fin cfg0.N) (k : Fin 8) (r : Fin 32) (j : Fin 2048) (R : Fin 8224) (hR : R.val = 8192 + r.val) :
    iblk m c 4 t (ix3 k r j) = m ((c : Thread nD τ).loc main_arg4) (ix3 k R j) := by
  obtain ⟨e0, e1, e2, e3, e4, e5⟩ := idx t
  blk_simp [iblk, V, e4]
  blk_ext [e4]

/-- A block of the result. -/
theorem block (X : S32x2048.Idx → EReal) (Z : S8x2048.Idx → EReal) (S : S32x2048.Idx → EReal) (W : S32x8.Idx → EReal)
    (E : S8x8224x2048.Idx → EReal) (c : Dev nD)
    (hX : ∀ i, m ((c : Thread nD τ).loc main_arg0) i = X i) (hZ : ∀ i, m ((c : Thread nD τ).loc main_arg1) i = Z i)
    (hS : ∀ i, m ((c : Thread nD τ).loc main_arg2) i = S i) (hW : ∀ i, m ((c : Thread nD τ).loc main_arg3) i = W i)
    (hE : ∀ i, m ((c : Thread nD τ).loc main_arg4) i = E i)
    (t : Fin cfg0.N) (r : Fin 32) (j : Fin 2048) (R : Fin 32) (hR : R.val = r.val) (Q : Fin 8224) (hQ : Q.val = 8192 + r.val)
    (B : Fin 8) (hB : B.val = r.val / 4) :
    out0_5 (iblk m c 0 t) (iblk m c 1 t) (iblk m c 2 t) (iblk m c 3 t) (iblk m c 4 t) (ix2 r j) = X (ix2 R j) + Z (ix2 B j) * ((∑ k : Fin 8, E (ix3 k Q j) * W (ix2 R k)) + S (ix2 R j)) := by
  frame_out
  unfold k0_pay1 k0_pay2 k0_pay3
  pointwise []
  refine congr (congrArg _ ((stream m c t r j R hR).trans (hX _))) (congr (congrArg _ ((gate m c t r j B hB).trans (hZ _))) ?_)
  exact eight _ _ (fun k => iblk m c 3 t (ix2 r k)) (fun k => iblk m c 4 t (ix3 k r j)) (fun k => E (ix3 k Q j)) (fun k => W (ix2 R k))
    ((shared m c t r j R hR).trans (hS _)) (fun k => (weights m c t r k R hR).trans (hW _)) (fun k => (outputs m c t k r j Q hQ).trans (hE _))

open Cert.CombinedSampleIdeal.Read in
/-- The call's result is the stream plus the gated sum of the shared expert's output and the weighted outputs of the experts. -/
theorem final (c : Dev nD) : (dats m 0 c).arrAt 5 cfg0.N
    = val_main_v10 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨-, -, -, -, -, e5⟩ := idx t
  blk_simp
  rw [after0_5]
  have ht : t.val < 1 := t.isLt
  have hy0 : (y 0).val < 32 := (y 0).isLt
  have hy1 : (y 1).val < 2048 := (y 1).isLt
  rw [val_main_v10_apply, val_main_v9_apply, val_main_v8_apply, val_main_v7_apply, val_main_v6_apply, val_main_v5_apply,
    val_main_v4_apply, val_main_v3_apply, val_main_v2_apply]
  refine Eq.trans (congrArg _ ?_) ((block m _ _ _ _ _ c (fun _ => rfl) (fun _ => rfl) (fun _ => rfl) (fun _ => rfl) (fun _ => rfl) t (y 0) (y 1)
    ⟨(y 0).val, by omega⟩ rfl ⟨8192 + (y 0).val, by omega⟩ rfl ⟨(y 0).val / 4, by omega⟩ rfl).trans ?_)
  · funext a; match a with
    | ⟨0, _⟩ => rfl
    | ⟨1, _⟩ => rfl
  · refine congr (congrArg _ (congrArg _ ?_)) (congr (congrArg _ (congrArg _ ?_)) (congr (congrArg _ (Finset.sum_congr rfl fun k _ => congr (congrArg _ ?_) (congrArg _ ?_))) (congrArg _ ?_)))
    · blk_ext [e5]
    · blk_ext [e5]
    · rw [val_main_v1_apply, val_main_v0_apply]
      refine congrArg (m ((c : Thread nD τ).loc main_arg4)) ?_
      blk_ext [e5]
    · blk_ext [e5]
    · blk_ext [e5]

end Cert.CombineSampleIdeal.Value

end
-- ==== Proof.ExpertsLane.lean ====
/-
  The routed experts' kernel fetches one expert's three weight matrices ahead of the rows that use them, by transfers of
  its own between two slots. Here are the rules for one such lane: a matrix left in HBM, a slot of a ring, and the
  semaphore the transfer completes on.
-/
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the proof speaks of: the pipeline's beside the transfers' counters. -/
abbrev Res (F : FTy → Type) : Type := MT nD τ sig Unit (Elt F) ℕ (Pipeline.UD sig nD τ) ℕ

/-- A weakest precondition of the kernel's own programs. -/
abbrev run {α : Type} (c : Dev nD) (p : Prog (TpuEff nD τ sig (Elt F) Λ₀ .tc) α) (Q : α → sProp (Res F)) : sProp (Res F) :=
  wp frame (wpE (defs₀ (F := F)) Variants.none (c : Thread nD τ) none) Set.univ p Q

/-- A slot held at some contents. -/
def Slot {s : Shape} (D : Memref sig .tc .vmem s .f32) (c : Dev nD) : sProp (Res F) :=
  iprop(∃ f : Buf (Elt F) (D.view.loc (c : Thread nD τ)), D.view.loc (c : Thread nD τ) ↦[D.view.set]{fullShare} f)

/-- A transfer of the matrix `S` into the slot `D` under way, completing on `sm`: at its wait it brings the slot holding
    the matrix and the matrix back. The rest of the array the matrix is part of stays with the core. -/
def Pend {s : Shape} (S : Memref sig .tc .hbm s .f32) (D : Memref sig .tc .vmem s .f32) (sm : DmaSem sig) (c : Dev nD)
    (V : Buf (Elt F) (S.view.loc (c : Thread nD τ))) : sProp (Res F) :=
  iprop(∃ fd : Buf (Elt F) (D.view.loc (c : Thread nD τ)),
    Transfers.Flight (countersEmb (U := Pipeline.UD sig nD τ)) (c : Thread nD τ) (.dma sm) () (D.view.amount (.dma sm))
      iprop((D.view.loc (c : Thread nD τ) ↦[D.view.set]{fullShare} (D.view.write (Elt F) fd (S.view.read (Elt F) V) Finset.univ))
        ∗ (S.view.loc (c : Thread nD τ) ↦[S.view.set]{fullShare} V))
    ∗ (S.view.loc (c : Thread nD τ) ↦[Finset.univ \ S.view.set]{fullShare} V))

/-- Starting the transfer. -/
theorem run_issue {s : Shape} {α : Type} {S src : Memref sig .tc .hbm s .f32} {D dst : Memref sig .tc .vmem s .f32} {M sem : DmaSem sig}
    (hs : src = S) (hd : dst = D) (hm : sem = M) (hp : 0 < s.numel) (c : Dev nD)
    {V : Buf (Elt F) (S.view.loc (c : Thread nD τ))}
    {h1 : src.view.WordExact} {h2 : dst.view.WordExact} {h3 : DmaTarget.Typed (nD := nD) (τ := τ) .hbm (.dma sem) (.here (p := Proc.tc) dst)}
    {k : PUnit → Prog (TpuEff nD τ sig (Elt F) Λ₀ .tc) α} {Q : α → sProp (Res F)} :
    iprop((S.view.loc (c : Thread nD τ) ↦{fullShare} V) ∗ Slot D c ∗ semVal ((c : Thread nD τ), SemLoc.dma M) 0)
      ⊢ iprop((Pend S D M c V -∗ run c (k ⟨⟩) Q)
          -∗ run c (Prog.lift (.enqueueDma src (.here dst) (.dma sem) h1 h2 h3) >>= k) Q) := by
  subst hs hd hm
  iintro ⟨HS, HD, Hv⟩ Hk
  unfold Slot
  icases HD with ⟨%fd, HD⟩
  ihave HS' := (pointsTo_split_subset (Finset.subset_univ src.view.set)).1 $$ HS
  icases HS' with ⟨HS1, HS2⟩
  iapply (Transfers.wp_dmaLocal (countersEmb (U := Pipeline.UD sig nD τ)) Variants.none (c : Thread nD τ) none () (dst.view.amount (.dma sem)) rfl
    (View.amount_pos _ _ hp) (Finset.Subset.refl _) (k := k)) $$ [HS1 HD Hv]
  · isplitl [HS1]; · iexact HS1
    isplitl [HD]; · iexact HD
    iexact Hv
  iintro HF
  iapply Hk
  unfold Pend
  iexists fd
  isplitl [HF]
  · iexact HF
  iexact HS2

/-- Waiting for it. -/
theorem run_wait {s : Shape} {α : Type} {S src : Memref sig .tc .hbm s .f32} {D dst : Memref sig .tc .vmem s .f32} {M sem : DmaSem sig}
    (hd : dst = D) (hm : sem = M) (c : Dev nD)
    {V : Buf (Elt F) (S.view.loc (c : Thread nD τ))} {W : Waits sig Unit}
    {h1 : src.view.WordExact} {h2 : dst.view.WordExact}
    {k : PUnit → Prog (TpuEff nD τ sig (Elt F) Λ₀ .tc) α} {Q : α → sProp (Res F)} :
    iprop(Pend S D M c V ∗ owes (c : Thread nD τ) 0 W)
      ⊢ iprop((iprop(owns (c : Thread nD τ) D fullShare (S.view.read (Elt F) V) ∗ (S.view.loc (c : Thread nD τ) ↦{fullShare} V)
              ∗ semVal ((c : Thread nD τ), SemLoc.dma M) 0 ∗ owes (c : Thread nD τ) 0 (insert (SemLoc.dma M, ()) W)) -∗ run c (k ⟨⟩) Q)
          -∗ run c (Prog.lift (.waitDma2 sem src dst h1 h2) >>= k) Q) := by
  subst hd hm
  iintro ⟨HP, HO⟩ Hk
  unfold Pend
  icases HP with ⟨%fd, HF, HS2⟩
  iapply (Transfers.wp_waitLocal (countersEmb (U := Pipeline.UD sig nD τ)) Variants.none (c : Thread nD τ) none () (k := k)
    (N := dst.view.amount (.dma sem)) rfl) $$ [HF HO]
  · isplitl [HF]; · iexact HF
    iexact HO
  iintro ⟨⟨HD, HS1⟩, Hv, HO⟩
  iapply Hk
  isplitl [HD]
  · unfold owns
    iexists (dst.view.write (Elt F) fd (S.view.read (Elt F) V) Finset.univ)
    isplitr
    · ipureintro; exact View.read_write_univ _ _
    iexact HD
  isplitl [HS1 HS2]
  · iapply (pointsTo_split_subset (Finset.subset_univ S.view.set)).2
    isplitl [HS1]; · iexact HS1
    iexact HS2
  isplitl [Hv]; · iexact Hv
  iexact HO

/-! ## Loads, stores and side conditions -/

/-- A word of a table. -/
theorem run_word {s : Shape} {α : Type} {M : Memref sig .tc .smem s .i32} {r : Rect s} {h1 : r.shape.numel = 1} {hp : (EltTy.i32).packing = 1}
    (c : Dev nD) {q : PosShare TreeShare} {f : Buf (Elt F) (M.view.loc (c : Thread nD τ))} {v : Elt F .i32}
    (hv : (M.access r).read (Elt F) f (Shape.Idx.first (h1.symm ▸ Nat.one_pos)) = v)
    {k : Elt F .i32 → Prog (TpuEff nD τ sig (Elt F) Λ₀ .tc) α} {Q : α → sProp (Res F)} :
    (M.view.loc (c : Thread nD τ) ↦{q} f)
      ⊢ iprop(((M.view.loc (c : Thread nD τ) ↦{q} f) -∗ run c (k v) Q) -∗ run c (smemLoad M r h1 hp >>= k) Q) := by
  subst hv
  exact wp_smemLoadElt (m := M) (r := r) (hw := View.loads_smem_one hp h1) (f := f) (k := k) Variants.none (c : Thread nD τ) none Set.univ (Finset.subset_univ _)

/-- A side condition of the program's, where it holds. -/
theorem run_assume {P : Prop} {d : Decidable P} {α : Type} (h : P) (c : Dev nD)
    {k : PLift P → Prog (TpuEff nD τ sig (Elt F) Λ₀ .tc) α} {Q : α → sProp (Res F)} :
    run c (k ⟨h⟩) Q ⊢ run c (Prog.lift (TpuEff.assume P d) >>= k) Q :=
  wp_assume Variants.none (c : Thread nD τ) none Set.univ h

/-- The program's end. -/
theorem run_ret {α : Type} (c : Dev nD) {a : α} {Q : α → sProp (Res F)} : Q a ⊢ run c (pure a) Q := by
  unfold run
  rw [wp_pure]
  exact fupd_intro

theorem run_ret' {α : Type} (c : Dev nD) {a b : α} {Q : α → sProp (Res F)} (h : a = b) : Q b ⊢ run c (pure a) Q := h ▸ run_ret c

/-- A stretch of the program, then the rest. -/
theorem run_bind {α β : Type} {A : Prog (TpuEff nD τ sig (Elt F) Λ₀ .tc) α} {k : α → Prog (TpuEff nD τ sig (Elt F) Λ₀ .tc) β}
    (c : Dev nD) {Q : β → sProp (Res F)} : run c A (fun a => run c (k a) Q) ⊢ run c (A >>= k) Q := by
  unfold run
  rw [wp_bind]

/-- One stretch of the program after another. -/
theorem run_seq {α β : Type} {A : Prog (TpuEff nD τ sig (Elt F) Λ₀ .tc) α} {k : α → Prog (TpuEff nD τ sig (Elt F) Λ₀ .tc) β}
    (c : Dev nD) {P G : sProp (Res F)} (P' : α → sProp (Res F)) {Q : β → sProp (Res F)}
    (h : P ⊢ run c A P') (hk : ∀ a, P' a ⊢ run c (k a) Q) : P ⊢ run c (A >>= k) Q := by
  unfold run
  rw [wp_bind]
  exact h.trans (wp_mono _ _ _ hk)

/-- A load of the whole of a memref. -/
theorem run_load {s : Shape} {e : EltTy} {α : Type} {M : Memref sig .tc .vmem s e} {off : Fin s.rank → Nat} (ho : off = fun _ => 0)
    {inb : ∀ a, off a + s.size a ≤ s.size a} {hl : M.view.LoadsAt (Rect.unit off s.size inb).toLoadRect} (c : Dev nD)
    {q : PosShare TreeShare} {X : s.Idx → Elt F e}
    {k : (s.Idx → Elt F e) → Prog (TpuEff nD τ sig (Elt F) Λ₀ .tc) α} {Q : α → sProp (Res F)} :
    owns (c : Thread nD τ) M q X
      ⊢ iprop((owns (c : Thread nD τ) M q X -∗ run c (k X) Q)
        -∗ run c (Prog.lift (.load M (Rect.unit off s.size inb).toLoadRect hl) >>= k) Q) := by
  subst ho
  unfold owns
  iintro ⟨%f, %hf, H⟩ Hk
  subst hf
  have e : M.view.readAt (Elt F) (Rect.unit (fun _ => 0) s.size inb).toLoadRect f = M.view.read (Elt F) f := by
    funext x
    rw [View.readAt_apply]
    refine congrArg _ (funext fun a => Fin.ext ?_)
    show 0 + 1 * (x a).val = (x a).val
    omega
  have h := wp_load (m := M) (hl := hl) (f := f) (q := q) (k := k) (defs := defs₀ (F := F)) (S := M.view.set) (Q := Q)
    (Name := ℕ) (U := Pipeline.UD sig nD τ) (Lvl := ℕ) (Ix := Unit) (Γ := PendingWaitsCtx.empty) Variants.none (c : Thread nD τ) none Set.univ
    (View.setOn_subset_set _ _)
  rw [e] at h
  iapply h $$ H
  iintro H
  iapply Hk
  iexists f
  isplitr
  · ipureintro; rfl
  iexact H

/-- A store of the whole of a memref. -/
theorem run_store {s : Shape} {e : EltTy} {α : Type} {M : Memref sig .tc .vmem s e} {off : Fin s.rank → Nat} (ho : off = fun _ => 0)
    {inb : ∀ a, off a + s.size a ≤ s.size a} {w : s.Idx → Elt F e}
    {hx : (M.access (Rect.unit off s.size inb)).Stores Finset.univ}
    {hm : Finset.univ = Finset.univ ∨ ∀ a, (Rect.unit off s.size inb).stride a = 1} (c : Dev nD) {X : s.Idx → Elt F e}
    {k : PUnit → Prog (TpuEff nD τ sig (Elt F) Λ₀ .tc) α} {Q : α → sProp (Res F)} :
    owns (c : Thread nD τ) M fullShare X
      ⊢ iprop((owns (c : Thread nD τ) M fullShare w -∗ run c (k ⟨⟩) Q)
        -∗ run c (Prog.lift (.store M (Rect.unit off s.size inb) w Finset.univ hx hm) >>= k) Q) := by
  subst ho
  unfold owns
  iintro ⟨%f, %hf, H⟩ Hk
  have e : M.view.read (Elt F) ((M.access (Rect.unit (fun _ => 0) s.size inb)).write (Elt F) f w Finset.univ) = w := by
    funext x
    have hx : (Rect.unit (fun _ => 0) s.size inb).emb x = x := funext fun a => Fin.ext (by
      show 0 + 1 * (x a).val = (x a).val
      omega)
    have h := View.read_slice_write_emb (Val := Elt F) (v := M.view) (Rect.unit (fun _ => 0) s.size inb) f w (Finset.mem_univ x)
    rwa [hx] at h
  have h := wp_store (m := M) (hx := hx) (hm := hm) (f := f) (k := k) (w := w) (defs := defs₀ (F := F)) (S := M.view.set) (Q := Q)
    (Name := ℕ) (U := Pipeline.UD sig nD τ) (Lvl := ℕ) (Ix := Unit) (Γ := PendingWaitsCtx.empty) Variants.none (c : Thread nD τ) none Set.univ
    ((View.setOn_subset_set _ _).trans (View.set_slice_subset _ _))
  iapply h $$ H
  iintro H
  iapply Hk
  iexists ((M.access (Rect.unit (fun _ => 0) s.size inb)).write (Elt F) f w Finset.univ)
  isplitr
  · ipureintro; exact e
  iexact H

end Cert.ExpertsIdeal.Hand

end
-- ==== Proof.ExpertsBody.lean ====
/-
  The routed experts' kernel at one grid point: what the slots, the semaphores and the narrowed weights hold before and
  after, in terms of a schedule read off the tables.
-/
module

public import proofs.«01_k».proof.Proof.ExpertsLane

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The rings' slots, the experts' matrices and the semaphores -/

theorem slotIn (s : Fin 2) : ∀ a, (![s.val, 0, 0] : Fin 3 → Nat) a + S1x2048x512.size a ≤ S2x2048x512.size a := by
  revert s; decide
theorem slotIn' (s : Fin 2) : ∀ a, (![s.val, 0, 0] : Fin 3 → Nat) a + S1x512x2048.size a ≤ S2x512x2048.size a := by
  revert s; decide
theorem matIn (e : Fin 64) : ∀ a, (![0, e.val, 0, 0] : Fin 4 → Nat) a + S1x1x2048x512.size a ≤ S2x64x2048x512.size a := by
  revert e; decide
theorem matIn' (e : Fin 64) : ∀ a, (![0, e.val, 0, 0] : Fin 4 → Nat) a + S1x1x512x2048.size a ≤ S2x64x512x2048.size a := by
  revert e; decide
theorem cellIn (j : Fin 3) (s : Fin 2) : ∀ a, (![j.val, s.val] : Fin 2 → Nat) a + S1x1.size a ≤ S3x2.size a := by
  revert j s; decide

abbrev ring0 : Memref sig .tc .vmem S2x2048x512 .f32 := Memref.whole cc0_scratch0
abbrev ring1 : Memref sig .tc .vmem S2x2048x512 .f32 := Memref.whole cc0_scratch1
abbrev ring2 : Memref sig .tc .vmem S2x512x2048 .f32 := Memref.whole cc0_scratch2
abbrev arr0 : Memref sig .tc .hbm S2x64x2048x512 .f32 := Memref.whole main_arg3
abbrev arr1 : Memref sig .tc .hbm S2x64x2048x512 .f32 := Memref.whole main_arg4
abbrev arr2 : Memref sig .tc .hbm S2x64x512x2048 .f32 := Memref.whole main_arg5

/-- Slot `s` of a ring of two `2048 × 512` slots. -/
abbrev slotA (R : Memref sig .tc .vmem S2x2048x512 .f32) (s : Fin 2) : Memref sig .tc .vmem S2048x512 .f32 :=
  (R.slice (Rect.unit (s := S2x2048x512) ![s.val, 0, 0] S1x2048x512.size (slotIn s)) (fun _ => rfl)).squeeze S2048x512 squeezes_S1x2048x512_S2048x512
/-- Slot `s` of a ring of two `512 × 2048` slots. -/
abbrev slotB (R : Memref sig .tc .vmem S2x512x2048 .f32) (s : Fin 2) : Memref sig .tc .vmem S512x2048 .f32 :=
  (R.slice (Rect.unit (s := S2x512x2048) ![s.val, 0, 0] S1x512x2048.size (slotIn' s)) (fun _ => rfl)).squeeze S512x2048 squeezes_S1x512x2048_S512x2048
/-- Expert `e`'s matrix of the layer. -/
abbrev matA (A : Memref sig .tc .hbm S2x64x2048x512 .f32) (e : Fin 64) : Memref sig .tc .hbm S2048x512 .f32 :=
  (A.slice (Rect.unit (s := S2x64x2048x512) ![0, e.val, 0, 0] S1x1x2048x512.size (matIn e)) (fun _ => rfl)).squeeze S2048x512 squeezes_S1x1x2048x512_S2048x512
abbrev matB (A : Memref sig .tc .hbm S2x64x512x2048 .f32) (e : Fin 64) : Memref sig .tc .hbm S512x2048 .f32 :=
  (A.slice (Rect.unit (s := S2x64x512x2048) ![0, e.val, 0, 0] S1x1x512x2048.size (matIn' e)) (fun _ => rfl)).squeeze S512x2048 squeezes_S1x1x512x2048_S512x2048
/-- The semaphore of matrix `j`'s transfers into slot `s`. -/
abbrev cell (j : Fin 3) (s : Fin 2) : DmaSem sig :=
  ((cc0_scratch6.slice (Rect.unit (s := S3x2) ![j.val, s.val] S1x1.size (cellIn j s))).squeeze S_ squeezes_S1x1_S_).sem

theorem slotA_eq {R : Memref sig .tc .vmem S2x2048x512 .f32} {s : Fin 2} {off : Fin 3 → Nat} (h : off = ![s.val, 0, 0])
    (inb : ∀ a, off a + S1x2048x512.size a ≤ S2x2048x512.size a) :
    (R.slice (Rect.unit (s := S2x2048x512) off S1x2048x512.size inb) (fun _ => rfl)).squeeze S2048x512 squeezes_S1x2048x512_S2048x512 = slotA R s := by
  subst h; rfl
theorem slotB_eq {R : Memref sig .tc .vmem S2x512x2048 .f32} {s : Fin 2} {off : Fin 3 → Nat} (h : off = ![s.val, 0, 0])
    (inb : ∀ a, off a + S1x512x2048.size a ≤ S2x512x2048.size a) :
    (R.slice (Rect.unit (s := S2x512x2048) off S1x512x2048.size inb) (fun _ => rfl)).squeeze S512x2048 squeezes_S1x512x2048_S512x2048 = slotB R s := by
  subst h; rfl
theorem matA_eq {A : Memref sig .tc .hbm S2x64x2048x512 .f32} {e : Fin 64} {off : Fin 4 → Nat} (h : off = ![0, e.val, 0, 0])
    (inb : ∀ a, off a + S1x1x2048x512.size a ≤ S2x64x2048x512.size a) :
    (A.slice (Rect.unit (s := S2x64x2048x512) off S1x1x2048x512.size inb) (fun _ => rfl)).squeeze S2048x512 squeezes_S1x1x2048x512_S2048x512 = matA A e := by
  subst h; rfl
theorem matB_eq {A : Memref sig .tc .hbm S2x64x512x2048 .f32} {e : Fin 64} {off : Fin 4 → Nat} (h : off = ![0, e.val, 0, 0])
    (inb : ∀ a, off a + S1x1x512x2048.size a ≤ S2x64x512x2048.size a) :
    (A.slice (Rect.unit (s := S2x64x512x2048) off S1x1x512x2048.size inb) (fun _ => rfl)).squeeze S512x2048 squeezes_S1x1x512x2048_S512x2048 = matB A e := by
  subst h; rfl
theorem cell_eq {j : Fin 3} {s : Fin 2} {off : Fin 2 → Nat} (h : off = ![j.val, s.val]) (inb : ∀ a, off a + S1x1.size a ≤ S3x2.size a) :
    ((cc0_scratch6.slice (Rect.unit (s := S3x2) off S1x1.size inb)).squeeze S_ squeezes_S1x1_S_).sem = cell j s := by
  subst h; rfl

/-! ## A slot read through its ring -/

/-- A slot's matrix at the ring's indices. -/
abbrev unsq {s s' : Shape} (h : s.Squeezes s') (X : s'.Idx → Elt F .f32) : s.Idx → Elt F .f32 :=
  fun j => X ((Shape.reshapeEquiv h.numel_eq).symm j)

theorem run_slot {s s' : Shape} {α : Type} {R : Memref sig .tc .vmem s .f32} {off off' size : Fin s.rank → Nat} (ho : off = off')
    {inb : ∀ a, off a + size a ≤ s.size a} {inb' : ∀ a, off' a + size a ≤ s.size a}
    {hst : ∀ a, (Rect.unit off' size inb').stride a = 1} {hq : (Rect.unit off' size inb').shape.Squeezes s'}
    {hl : R.view.LoadsAt (Rect.unit off size inb).toLoadRect} (c : Dev nD) {q : PosShare TreeShare} {X : s'.Idx → Elt F .f32}
    {k : ((Rect.unit off size inb).shape.Idx → Elt F .f32) → Prog (TpuEff nD τ sig (Elt F) Λ₀ .tc) α} {Q : α → sProp (Res F)} :
    owns (c : Thread nD τ) ((R.slice (Rect.unit off' size inb') hst).squeeze s' hq) q X
      ⊢ iprop((owns (c : Thread nD τ) ((R.slice (Rect.unit off' size inb') hst).squeeze s' hq) q X -∗ run c (k (unsq hq X)) Q)
        -∗ run c (Prog.lift (.load R (Rect.unit off size inb).toLoadRect hl) >>= k) Q) := by
  subst ho
  unfold owns
  iintro ⟨%f, %hf, H⟩ Hk
  subst hf
  have e : R.view.readAt (Elt F) (Rect.unit off size inb).toLoadRect f
      = unsq hq (((R.slice (Rect.unit off size inb) hst).squeeze s' hq).view.read (Elt F) f) := by
    funext x
    rw [View.readAt_rect]
    show _ = (R.view.slice (Rect.unit off size inb)).read (Elt F) f (Shape.reshapeEquiv hq.numel_eq ((Shape.reshapeEquiv hq.numel_eq).symm x))
    rw [Equiv.apply_symm_apply]
  have h := wp_load_rect (m := R) (r := Rect.unit off size inb) (hl := hl) (f := f) (q := q) (k := k) (defs := defs₀ (F := F))
    (S := ((R.slice (Rect.unit off size inb) hst).squeeze s' hq).view.set) (Q := Q)
    (Name := ℕ) (U := Pipeline.UD sig nD τ) (Lvl := ℕ) (Ix := Unit) (Γ := PendingWaitsCtx.empty) Variants.none (c : Thread nD τ) none Set.univ
    (by rw [Memref.set_view_squeeze])
  rw [show (R.access (Rect.unit off size inb)).read (Elt F) f = unsq hq (((R.slice (Rect.unit off size inb) hst).squeeze s' hq).view.read (Elt F) f) from e] at h
  iapply h $$ H
  iintro H
  iapply Hk
  iexists f
  isplitr
  · ipureintro; rfl
  iexact H

/-! ## What a lane holds -/

section Lane

variable {s : Shape} (W : Fin 64 → Memref sig .tc .hbm s .f32) (D : Fin 2 → Memref sig .tc .vmem s .f32) (cl : Fin 2 → DmaSem sig)
  (c : Dev nD) (V : ∀ e, Buf (Elt F) ((W e).view.loc (c : Thread nD τ)))

/-- A lane: with nothing under way, or with expert `e`'s matrix on its way into slot `s`. -/
def Lane : Option (Fin 64 × Fin 2) → sProp (Res F)
  | none => iprop(((W 0).view.loc (c : Thread nD τ) ↦{fullShare} V 0) ∗ Slot (D 0) c ∗ Slot (D 1) c
      ∗ semVal ((c : Thread nD τ), SemLoc.dma (cl 0)) 0 ∗ semVal ((c : Thread nD τ), SemLoc.dma (cl 1)) 0)
  | some (e, b) => iprop(Pend (W e) (D b) (cl b) c (V e) ∗ Slot (D (1 - b)) c ∗ semVal ((c : Thread nD τ), SemLoc.dma (cl (1 - b))) 0)

/-- The rest of a lane whose slot `b` is in use: the other slot empty, or expert `e`'s matrix on its way into it. -/
def Other (b : Fin 2) : Option (Fin 64) → sProp (Res F)
  | none => iprop(((W 0).view.loc (c : Thread nD τ) ↦{fullShare} V 0) ∗ Slot (D (1 - b)) c
      ∗ semVal ((c : Thread nD τ), SemLoc.dma (cl (1 - b))) 0 ∗ semVal ((c : Thread nD τ), SemLoc.dma (cl b)) 0)
  | some e => iprop(Pend (W e) (D (1 - b)) (cl (1 - b)) c (V e) ∗ semVal ((c : Thread nD τ), SemLoc.dma (cl b)) 0)

/-- What the matrices' array holds does not depend on the expert it is spoken of through. -/
def Alike : Prop := ∀ e e', ((W e).view.loc (c : Thread nD τ) ↦{fullShare} V e : sProp (Res F)) = ((W e').view.loc (c : Thread nD τ) ↦{fullShare} V e')

variable {W D cl V}

theorem lane_of_other {b : Fin 2} {o : Option (Fin 64)} {X : s.Idx → Elt F .f32} :
    iprop(owns (c : Thread nD τ) (D b) fullShare X ∗ Other W D cl c V b o) ⊢ Lane W D cl c V (o.map fun e => (e, 1 - b)) := by
  have hb : (1 : Fin 2) - (1 - b) = b := by revert b; decide
  have hs : owns (c : Thread nD τ) (D b) fullShare X ⊢ (Slot (D b) c : sProp (Res F)) := by
    unfold owns Slot
    iintro ⟨%f, -, H⟩
    iexists f
    iexact H
  cases o with
  | some e =>
    simp only [Other, Lane, Option.map_some, hb]
    iintro ⟨Ho, HP, Hv⟩
    isplitl [HP]; · iexact HP
    isplitl [Ho]; · iapply hs; iexact Ho
    iexact Hv
  | none =>
    simp only [Other, Lane, Option.map_none]
    have h2 : ∀ b' : Fin 2, b' = 0 ∨ b' = 1 := by decide
    obtain rfl | rfl := h2 b
    · iintro ⟨Ho, HW, HS, Hv1, Hv0⟩
      isplitl [HW]; · iexact HW
      isplitl [Ho]; · iapply hs; iexact Ho
      isplitl [HS]; · iexact HS
      isplitl [Hv0]; · iexact Hv0
      iexact Hv1
    · iintro ⟨Ho, HW, HS, Hv1, Hv0⟩
      isplitl [HW]; · iexact HW
      isplitl [HS]; · iexact HS
      isplitl [Ho]; · iapply hs; iexact Ho
      isplitl [Hv1]; · iexact Hv1
      iexact Hv0

/-- The first transfer, into slot `0`. -/
theorem lane_start (hV : Alike W c V) {e : Fin 64} {α : Type} {src : Memref sig .tc .hbm s .f32} {dst : Memref sig .tc .vmem s .f32} {sem : DmaSem sig}
    (hs : src = W e) (hd : dst = D 0) (hm : sem = cl 0) (hp : 0 < s.numel)
    {h1 : src.view.WordExact} {h2 : dst.view.WordExact} {h3 : DmaTarget.Typed (nD := nD) (τ := τ) .hbm (.dma sem) (.here (p := Proc.tc) dst)}
    {k : PUnit → Prog (TpuEff nD τ sig (Elt F) Λ₀ .tc) α} {Q : α → sProp (Res F)} :
    Lane W D cl c V none
      ⊢ iprop((Lane W D cl c V (some (e, 0)) -∗ run c (k ⟨⟩) Q)
          -∗ run c (Prog.lift (.enqueueDma src (.here dst) (.dma sem) h1 h2 h3) >>= k) Q) := by
  simp only [Lane]
  rw [hV 0 e]
  iintro ⟨HW, HS0, HS1, Hv0, Hv1⟩ Hk
  iapply (run_issue hs hd hm hp c (V := V e)) $$ [HW HS0 Hv0]
  · isplitl [HW]; · iexact HW
    isplitl [HS0]; · iexact HS0
    iexact Hv0
  iintro HP
  iapply Hk
  isplitl [HP]; · iexact HP
  isplitl [HS1]; · iexact HS1
  iexact Hv1

/-- A wait for the transfer under way. -/
theorem lane_wait (hV : Alike W c V) {e : Fin 64} {b : Fin 2} {α : Type} {src : Memref sig .tc .hbm s .f32} {dst : Memref sig .tc .vmem s .f32} {sem : DmaSem sig}
    (hd : dst = D b) (hm : sem = cl b)
    {h1 : src.view.WordExact} {h2 : dst.view.WordExact} {Ws : Waits sig Unit}
    {k : PUnit → Prog (TpuEff nD τ sig (Elt F) Λ₀ .tc) α} {Q : α → sProp (Res F)} :
    iprop(Lane W D cl c V (some (e, b)) ∗ owes (c : Thread nD τ) 0 Ws)
      ⊢ iprop((iprop(owns (c : Thread nD τ) (D b) fullShare ((W e).view.read (Elt F) (V e)) ∗ Other W D cl c V b none
              ∗ owes (c : Thread nD τ) 0 (insert (SemLoc.dma (cl b), ()) Ws)) -∗ run c (k ⟨⟩) Q)
          -∗ run c (Prog.lift (.waitDma2 sem src dst h1 h2) >>= k) Q) := by
  simp only [Lane, Other]
  rw [hV 0 e]
  iintro ⟨⟨HP, HS1, Hv1⟩, HO⟩ Hk
  iapply (run_wait (S := W e) hd hm c (V := V e)) $$ [HP HO]
  · isplitl [HP]; · iexact HP
    iexact HO
  iintro ⟨HD, HW, Hv, HO⟩
  iapply Hk
  isplitl [HD]; · iexact HD
  isplitr [HO]
  · isplitl [HW]; · iexact HW
    isplitl [HS1]; · iexact HS1
    isplitl [Hv1]; · iexact Hv1
    iexact Hv
  iexact HO

/-- The next transfer, into the slot not in use. -/
theorem lane_next (hV : Alike W c V) {e : Fin 64} {b : Fin 2} {α : Type} {src : Memref sig .tc .hbm s .f32} {dst : Memref sig .tc .vmem s .f32} {sem : DmaSem sig}
    (hs : src = W e) (hd : dst = D (1 - b)) (hm : sem = cl (1 - b)) (hp : 0 < s.numel)
    {h1 : src.view.WordExact} {h2 : dst.view.WordExact} {h3 : DmaTarget.Typed (nD := nD) (τ := τ) .hbm (.dma sem) (.here (p := Proc.tc) dst)}
    {k : PUnit → Prog (TpuEff nD τ sig (Elt F) Λ₀ .tc) α} {Q : α → sProp (Res F)} :
    Other W D cl c V b none
      ⊢ iprop((Other W D cl c V b (some e) -∗ run c (k ⟨⟩) Q)
          -∗ run c (Prog.lift (.enqueueDma src (.here dst) (.dma sem) h1 h2 h3) >>= k) Q) := by
  simp only [Other]
  rw [hV 0 e]
  iintro ⟨HW, HS, Hv1, Hv0⟩ Hk
  iapply (run_issue hs hd hm hp c (V := V e)) $$ [HW HS Hv1]
  · isplitl [HW]; · iexact HW
    isplitl [HS]; · iexact HS
    iexact Hv1
  iintro HP
  iapply Hk
  isplitl [HP]; · iexact HP
  iexact Hv0

end Lane

/-! ## The kernel's computed offsets at words that name an expert or a slot -/

/-- The word of an expert, of a slot. -/
abbrev word {n : Nat} (e : Fin n) : BitVec 32 := BitVec.ofNat 32 e.val

theorem off1_w : ∀ e : Fin 64, k0_off1 (word e) = ![0, e.val, 0, 0] := by decide +kernel
theorem off2_w : ∀ e : Fin 64, k0_off2 (word e) = ![0, e.val, 0, 0] := by decide +kernel
theorem off7_w : ∀ e : Fin 64, k0_off7 (word e) = ![0, e.val, 0, 0] := by decide +kernel
theorem off12_w : ∀ e : Fin 64, k0_off12 (word e) = ![0, e.val, 0, 0] := by decide +kernel
theorem off17_w : ∀ e : Fin 64, k0_off17 (word e) = ![0, e.val, 0, 0] := by decide +kernel
theorem off22_w : ∀ e : Fin 64, k0_off22 (word e) = ![0, e.val, 0, 0] := by decide +kernel
theorem off5_w : ∀ b : Fin 2, k0_off5 (word b) = ![(0 : Fin 3).val, b.val] := by decide +kernel
theorem off8_w : ∀ b : Fin 2, k0_off8 (word b) = ![(1 : Fin 3).val, b.val] := by decide +kernel
theorem off10_w : ∀ b : Fin 2, k0_off10 (word b) = ![(2 : Fin 3).val, b.val] := by decide +kernel
theorem off6_w : ∀ b : Fin 2, k0_off6 (word b) = ![b.val, 0, 0] := by decide +kernel
theorem off9_w : ∀ b : Fin 2, k0_off9 (word b) = ![b.val, 0, 0] := by decide +kernel
theorem off11_w : ∀ b : Fin 2, k0_off11 (word b) = ![b.val, 0, 0] := by decide +kernel
theorem off23_w : ∀ b : Fin 2, k0_off23 (word b) = ![b.val, 0, 0] := by decide +kernel
theorem off24_w : ∀ b : Fin 2, k0_off24 (word b) = ![b.val, 0, 0] := by decide +kernel
theorem off15_w : ∀ b : Fin 2, k0_off15 (word b) = ![(0 : Fin 3).val, (1 - b).val] := by decide +kernel
theorem off18_w : ∀ b : Fin 2, k0_off18 (word b) = ![(1 : Fin 3).val, (1 - b).val] := by decide +kernel
theorem off20_w : ∀ b : Fin 2, k0_off20 (word b) = ![(2 : Fin 3).val, (1 - b).val] := by decide +kernel
theorem off16_w : ∀ b : Fin 2, k0_off16 (word b) = ![(1 - b).val, 0, 0] := by decide +kernel
theorem off19_w : ∀ b : Fin 2, k0_off19 (word b) = ![(1 - b).val, 0, 0] := by decide +kernel
theorem off21_w : ∀ b : Fin 2, k0_off21 (word b) = ![(1 - b).val, 0, 0] := by decide +kernel

theorem chk1_w (i : grid0.Coords) (e : Fin 64) : k0_chk1 i (word e) :=
  ⟨fun _ => by rw [off1_w]; exact matIn e, fun _ => by rw [off2_w]; exact matIn' e⟩
theorem chk2_w (v : BitVec 32) (b : Fin 2) : k0_chk2 v (word b) :=
  ⟨fun _ => by rw [off5_w]; exact cellIn 0 b, fun _ => by rw [off6_w]; exact slotIn b,
    fun _ => by rw [off8_w]; exact cellIn 1 b, fun _ => by rw [off9_w]; exact slotIn b,
    fun _ => by rw [off10_w]; exact cellIn 2 b, fun _ => by rw [off11_w]; exact slotIn' b,
    fun _ => by rw [off23_w]; exact slotIn b, fun _ => by rw [off24_w]; exact slotIn' b⟩
theorem chk3_w (v : BitVec 32) (e : Fin 64) : k0_chk3 v (word e) :=
  ⟨fun _ => by rw [off7_w]; exact matIn e, fun _ => by rw [off12_w]; exact matIn' e⟩
theorem chk4_w (v v' : BitVec 32) (b : Fin 2) : k0_chk4 v (word b) v' :=
  ⟨fun _ _ => by rw [off15_w]; exact cellIn 0 (1 - b), fun _ _ => by rw [off16_w]; exact slotIn (1 - b),
    fun _ _ => by rw [off18_w]; exact cellIn 1 (1 - b), fun _ _ => by rw [off19_w]; exact slotIn (1 - b),
    fun _ _ => by rw [off20_w]; exact cellIn 2 (1 - b), fun _ _ => by rw [off21_w]; exact slotIn' (1 - b)⟩
theorem chk5_w (v v' : BitVec 32) (e : Fin 64) : k0_chk5 v v' (word e) :=
  ⟨fun _ _ => by rw [off17_w]; exact matIn e, fun _ _ => by rw [off22_w]; exact matIn' e⟩

theorem cond3_w : ∀ e : Fin 64, k0_cond3 (word e) = 1#1 := by decide +kernel
theorem cond3_none : ¬ k0_cond3 (4294967295#32) = 1#1 := by decide +kernel

theorem guard_iff : ∀ b : Bool, Scalar.cmpi .ne (Scalar.extui (BitVec.ofBool b)) 0#32 = 1#1 ↔ b = true := by decide

theorem cond1_iff (i : grid0.Coords) : k0_cond1 i = 1#1 ↔ (i 0).val = 0 := by
  have h : ∀ n : Fin 193, (BitVec.ofNat 32 n.val = 0#32) ↔ n.val = 0 := by decide +kernel
  rw [← h (i 0)]
  exact (guard_iff (BitVec.ofNat 32 (i 0).val == 0#32)).trans beq_iff_eq

theorem cond2_iff (v : BitVec 32) : k0_cond2 v = 1#1 ↔ v = 1#32 := (guard_iff (v == 1#32)).trans beq_iff_eq

theorem cond4_iff (i : grid0.Coords) (v : BitVec 32) : k0_cond4 i v = 1#1 ↔ (BitVec.ofNat 32 (i 0).val).slt v = true := guard_iff _

theorem cond45 (i : grid0.Coords) (v : BitVec 32) : k0_cond5 i v = 1#1 ↔ ¬ k0_cond4 i v = 1#1 := by
  rw [cond4_iff]
  refine (guard_iff (v.sle (BitVec.ofNat 32 (i 0).val))).trans ?_
  rw [BitVec.sle_eq_not_slt]
  simp

end Cert.ExpertsIdeal.Hand

end
-- ==== Proof.ExpertsStep.lean ====
/-
  One grid point of the routed experts' kernel, run: the first point starts the first transfer; a point whose expert is
  new waits for its matrices, starts the next expert's and narrows the ones that came; every point writes its block.
-/
module

public import proofs.«01_k».proof.Proof.ExpertsBody

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The five tables, as words. -/
structure Tables where
  be : S193.Idx → BitVec 32
  nu : S1.Idx → BitVec 32
  fi : S193.Idx → BitVec 32
  sl : S193.Idx → BitVec 32
  nx : S193.Idx → BitVec 32

/-- Entry `t` of a table. -/
abbrev ent (t : Fin 193) : S193.Idx := fun a => ⟨t.val, by rw [Subsingleton.elim a (0 : Fin 1)]; exact t.isLt⟩
/-- The entry of a table of one. -/
abbrev ent0 : S1.Idx := fun a => ⟨0, by rw [Subsingleton.elim a (0 : Fin 1)]; exact Nat.one_pos⟩

/-- The schedule the tables spell: `pend t` is the transfer under way before point `t` (its expert and slot) once the
    first point has started the first, `cur t` the expert whose narrowed matrices are held before point `t`. -/
structure Sched (T : Tables) (pend : ℕ → Option (Fin 64 × Fin 2)) (cur : ℕ → Fin 64) : Prop where
  first0 : T.fi (ent 0) = 1#32
  start : ∃ e : Fin 64, T.be (ent 0) = word e ∧ pend 0 = some (e, 0)
  load : ∀ t : Fin 193, T.fi (ent t) = 1#32 → ∃ (e : Fin 64) (b : Fin 2) (o : Option (Fin 64)), T.be (ent t) = word e ∧ T.sl (ent t) = word b
    ∧ pend t.val = some (e, b) ∧ cur (t.val + 1) = e ∧ pend (t.val + 1) = o.map (fun e' => (e', 1 - b))
    ∧ T.nx (ent t) = (match o with | none => 4294967295#32 | some e' => word e')
  keep : ∀ t : Fin 193, T.fi (ent t) ≠ 1#32 → pend (t.val + 1) = pend t.val ∧ cur (t.val + 1) = cur t.val
  last : pend 193 = none

/-- The weights' arrays. -/
structure Arrays (F : FTy → Type) where
  g : S2x64x2048x512.Idx → Elt F .f32
  u : S2x64x2048x512.Idx → Elt F .f32
  d : S2x64x512x2048.Idx → Elt F .f32

variable (A : Arrays F) (T : Tables)

/-- An expert's three matrices. -/
abbrev Xg (e : Fin 64) : S2048x512.Idx → Elt F .f32 := (matA arr0 e).view.read (Elt F) A.g
abbrev Xu (e : Fin 64) : S2048x512.Idx → Elt F .f32 := (matA arr1 e).view.read (Elt F) A.u
abbrev Xd (e : Fin 64) : S512x2048.Idx → Elt F .f32 := (matB arr2 e).view.read (Elt F) A.d

/-- The matrices narrowed, as the kernel keeps them. -/
abbrev Ng (e : Fin 64) : FVec F S2048x512 .bf16 := k0_pay1 (k0_pay6 (unsq squeezes_S1x2048x512_S2048x512 (Xg A e)))
abbrev Nu (e : Fin 64) : FVec F S2048x512 .bf16 := k0_pay2 (unsq squeezes_S1x2048x512_S2048x512 (Xu A e))
abbrev Nd (e : Fin 64) : FVec F S512x2048 .bf16 := k0_pay3 (unsq squeezes_S1x512x2048_S512x2048 (Xd A e))

abbrev bufG : Memref sig .tc .vmem S2048x512 .bf16 := Memref.whole cc0_scratch3
abbrev bufU : Memref sig .tc .vmem S2048x512 .bf16 := Memref.whole cc0_scratch4
abbrev bufD : Memref sig .tc .vmem S512x2048 .bf16 := Memref.whole cc0_scratch5

variable (c : Dev nD)

/-- The three lanes. -/
abbrev lane0 (o : Option (Fin 64 × Fin 2)) : sProp (Res F) := Lane (matA arr0) (slotA ring0) (cell 0) c (fun _ => A.g) o
abbrev lane1 (o : Option (Fin 64 × Fin 2)) : sProp (Res F) := Lane (matA arr1) (slotA ring1) (cell 1) c (fun _ => A.u) o
abbrev lane2 (o : Option (Fin 64 × Fin 2)) : sProp (Res F) := Lane (matB arr2) (slotB ring2) (cell 2) c (fun _ => A.d) o
abbrev other0 (b : Fin 2) (o : Option (Fin 64)) : sProp (Res F) := Other (matA arr0) (slotA ring0) (cell 0) c (fun _ => A.g) b o
abbrev other1 (b : Fin 2) (o : Option (Fin 64)) : sProp (Res F) := Other (matA arr1) (slotA ring1) (cell 1) c (fun _ => A.u) b o
abbrev other2 (b : Fin 2) (o : Option (Fin 64)) : sProp (Res F) := Other (matB arr2) (slotB ring2) (cell 2) c (fun _ => A.d) b o

theorem alike0 : Alike (matA arr0) c (fun _ => A.g) := fun _ _ => rfl
theorem alike1 : Alike (matA arr1) c (fun _ => A.u) := fun _ _ => rfl
theorem alike2 : Alike (matB arr2) c (fun _ => A.d) := fun _ _ => rfl

/-- The narrowed matrices: at some contents, or expert `e`'s. -/
def Kept : Option (Fin 64) → sProp (Res F)
  | none => iprop((∃ X, owns (c : Thread nD τ) bufG fullShare X) ∗ (∃ X, owns (c : Thread nD τ) bufU fullShare X)
      ∗ (∃ X, owns (c : Thread nD τ) bufD fullShare X))
  | some e => iprop(owns (c : Thread nD τ) bufG fullShare (Ng A e) ∗ owns (c : Thread nD τ) bufU fullShare (Nu A e)
      ∗ owns (c : Thread nD τ) bufD fullShare (Nd A e))

theorem kept_some (o : Option (Fin 64)) : Kept A c o ⊢ Kept A c none := by
  cases o with
  | none => exact .rfl
  | some e =>
    simp only [Kept]
    iintro ⟨H1, H2, H3⟩
    isplitl [H1]; · iexists _; iexact H1
    isplitl [H2]; · iexists _; iexact H2
    iexists _; iexact H3

/-- A table held at the tables' share. -/
abbrev tab {s : Shape} (M : Memref sig .tc .smem s .i32) (f : Buf (Elt F) (M.view.loc (c : Thread nD τ))) : sProp (Res F) :=
  M.view.loc (c : Thread nD τ) ↦{fullShare.right} f

abbrev tabBe : Memref sig .tc .smem S193 .i32 := Memref.whole main_arg1
abbrev tabNu : Memref sig .tc .smem S1 .i32 := Memref.whole main_arg2
abbrev tabFi : Memref sig .tc .smem S193 .i32 := Memref.whole main_v34
abbrev tabSl : Memref sig .tc .smem S193 .i32 := Memref.whole main_v16
abbrev tabNx : Memref sig .tc .smem S193 .i32 := Memref.whole main_v33

/-- The tables. -/
abbrev Tabs : sProp (Res F) :=
  iprop(tab c tabBe T.be ∗ tab c tabNu T.nu ∗ tab c tabFi T.fi ∗ tab c tabSl T.sl ∗ tab c tabNx T.nx)

/-! ## Words of the tables -/

theorem read_be (f : S193.Idx → BitVec 32) (t : Fin 193) {off : Fin 1 → Nat} (ho : off = ![t.val])
    {inb : ∀ a, off a + S1.size a ≤ S193.size a} (h : 0 < (Rect.unit (s := S193) off S1.size inb).shape.numel) :
    ((Memref.whole main_arg1 : Memref sig .tc .smem S193 .i32).access (Rect.unit (s := S193) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_fi (f : S193.Idx → BitVec 32) (t : Fin 193) {off : Fin 1 → Nat} (ho : off = ![t.val])
    {inb : ∀ a, off a + S1.size a ≤ S193.size a} (h : 0 < (Rect.unit (s := S193) off S1.size inb).shape.numel) :
    ((Memref.whole main_v34 : Memref sig .tc .smem S193 .i32).access (Rect.unit (s := S193) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_sl (f : S193.Idx → BitVec 32) (t : Fin 193) {off : Fin 1 → Nat} (ho : off = ![t.val])
    {inb : ∀ a, off a + S1.size a ≤ S193.size a} (h : 0 < (Rect.unit (s := S193) off S1.size inb).shape.numel) :
    ((Memref.whole main_v16 : Memref sig .tc .smem S193 .i32).access (Rect.unit (s := S193) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_nx (f : S193.Idx → BitVec 32) (t : Fin 193) {off : Fin 1 → Nat} (ho : off = ![t.val])
    {inb : ∀ a, off a + S1.size a ≤ S193.size a} (h : 0 < (Rect.unit (s := S193) off S1.size inb).shape.numel) :
    ((Memref.whole main_v33 : Memref sig .tc .smem S193 .i32).access (Rect.unit (s := S193) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_nu (f : S1.Idx → BitVec 32) {inb : ∀ a, (![0] : Fin 1 → Nat) a + S1.size a ≤ S1.size a}
    (h : 0 < (Rect.unit (s := S1) ![0] S1.size inb).shape.numel) :
    ((Memref.whole main_arg2 : Memref sig .tc .smem S1 .i32).access (Rect.unit (s := S1) ![0] S1.size inb)).read (Elt F) f (Shape.Idx.first h) = f ent0 := by
  show f _ = f _
  refine congrArg f (funext fun a => Fin.ext ?_)
  have h0 := (Shape.Idx.first h a).isLt
  match a with
  | 0 =>
    show 0 + 1 * (Shape.Idx.first h 0).val = 0
    have h1 : (Shape.Idx.first h 0).val < 1 := h0
    omega

/-! ## A point whose expert is new: wait, start the next, read the first matrix -/

theorem run_part1 (t : Fin 193) (i : grid0.Coords) (hi : (i 0).val = t.val)
    (M6 : Memref sig .tc .vmem S512x2048 .bf16) (h6 : M6.IsWhole) (M10 : Memref sig .tc .vmem S512x2048 .bf16) (h10 : M10.IsWhole)
    (v4 : BitVec 32) (hc : k0_cond2 v4 = 1#1) {e : Fin 64} {b : Fin 2} {o : Option (Fin 64)}
    (hbe : T.be (ent t) = word e) (hsl : T.sl (ent t) = word b)
    (hnx : T.nx (ent t) = (match o with | none => 4294967295#32 | some e' => word e'))
    {Ws : Waits sig Unit} {Q : (Σ' (v17 : Elt F .i32) (k0_hw2 : k0_chk2 v4 v17), FVec F S2048x512 .bf16) → sProp (Res F)}
    {R : Σ' (v17 : Elt F .i32) (k0_hw2 : k0_chk2 v4 v17), FVec F S2048x512 .bf16}
    (hR : R = ⟨word b, chk2_w v4 b, k0_pay6 (unsq squeezes_S1x2048x512_S2048x512 (Xg A e))⟩) :
    iprop(lane0 A c (some (e, b)) ∗ lane1 A c (some (e, b)) ∗ lane2 A c (some (e, b)) ∗ Tabs T c ∗ owes (c : Thread nD τ) 0 Ws)
      ⊢ iprop((iprop(owns (c : Thread nD τ) (slotA ring0 b) fullShare (Xg A e) ∗ owns (c : Thread nD τ) (slotA ring1 b) fullShare (Xu A e)
            ∗ owns (c : Thread nD τ) (slotB ring2 b) fullShare (Xd A e)
            ∗ other0 A c b o ∗ other1 A c b o ∗ other2 A c b o ∗ Tabs T c ∗ (∃ Ws', owes (c : Thread nD τ) 0 Ws'))
            -∗ Q R)
        -∗ run c (k0_part1 i (Memref.whole main_arg1) (Memref.isWhole_whole _) (Memref.whole main_arg2) (Memref.isWhole_whole _)
            (Memref.whole main_v34) (Memref.isWhole_whole _) (Memref.whole main_v16) (Memref.isWhole_whole _) (Memref.whole main_v33) (Memref.isWhole_whole _)
            M6 h6 arr0 (Memref.isWhole_whole _) arr1 (Memref.isWhole_whole _) arr2 (Memref.isWhole_whole _) M10 h10
            ring0 (Memref.isWhole_whole _) ring1 (Memref.isWhole_whole _) ring2 (Memref.isWhole_whole _)
            bufG (Memref.isWhole_whole _) bufU (Memref.isWhole_whole _) bufD (Memref.isWhole_whole _) cc0_scratch6
            (BitVec.ofNat 32 (i 0).val) v4 hc) Q) := by
  simp only [k0_part1_eq_skeleton]
  unfold k0_part1_skel
  iintro ⟨L0, L1, L2, ⟨Tb, Tn, Tf, Ts, Tx⟩, HO⟩ HQ
  iapply (run_word c (v := word b) (by rw [← hsl]; exact read_sl T.sl t (by rw [k0_off4_eq, hi]) _)) $$ Ts
  iintro Ts
  iapply (run_assume (chk2_w v4 b) c)
  iapply (run_word c (v := word e) (by rw [← hbe]; exact read_be T.be t (by rw [k0_off4_eq, hi]) _)) $$ Tb
  iintro Tb
  iapply (run_assume (chk3_w v4 e) c)
  iapply (lane_wait c (alike0 A c) (slotA_eq (off6_w b) _) (cell_eq (off5_w b) _)) $$ [L0 HO]
  · isplitl [L0]; · iexact L0
    iexact HO
  iintro ⟨D0, O0, HO⟩
  iapply (lane_wait c (alike1 A c) (slotA_eq (off9_w b) _) (cell_eq (off8_w b) _)) $$ [L1 HO]
  · isplitl [L1]; · iexact L1
    iexact HO
  iintro ⟨D1, O1, HO⟩
  iapply (lane_wait c (alike2 A c) (slotB_eq (off11_w b) _) (cell_eq (off10_w b) _)) $$ [L2 HO]
  · isplitl [L2]; · iexact L2
    iexact HO
  iintro ⟨D2, O2, HO⟩
  iapply (run_word c (v := T.nx (ent t)) (read_nx T.nx t (by rw [k0_off13_eq, hi]) _)) $$ Tx
  iintro Tx
  iapply (run_assume (chk4_w v4 (T.nx (ent t)) b) c)
  have fin : ∀ o' : Option (Fin 64),
      iprop(owns (c : Thread nD τ) (slotA ring0 b) fullShare (Xg A e) ∗ owns (c : Thread nD τ) (slotA ring1 b) fullShare (Xu A e)
            ∗ owns (c : Thread nD τ) (slotB ring2 b) fullShare (Xd A e)
            ∗ other0 A c b o' ∗ other1 A c b o' ∗ other2 A c b o' ∗ Tabs T c ∗ (∃ Ws', owes (c : Thread nD τ) 0 Ws'))
      ⊢ iprop((iprop(owns (c : Thread nD τ) (slotA ring0 b) fullShare (Xg A e) ∗ owns (c : Thread nD τ) (slotA ring1 b) fullShare (Xu A e)
            ∗ owns (c : Thread nD τ) (slotB ring2 b) fullShare (Xd A e)
            ∗ other0 A c b o' ∗ other1 A c b o' ∗ other2 A c b o' ∗ Tabs T c ∗ (∃ Ws', owes (c : Thread nD τ) 0 Ws'))
            -∗ Q R)
        -∗ run c (Prog.lift (.load ring0 (Rect.unit (s := S2x2048x512) (k0_off23 (word b)) S1x2048x512.size (k0_off23_inb v4 (word b) (chk2_w v4 b) hc)).toLoadRect
              (View.loadsAt_vmem h_S1x2048x512))
            >>= fun v44 => pure ⟨word b, chk2_w v4 b, k0_pay6 v44⟩) Q) := by
    intro o'
    iintro ⟨D0, D1, D2, G⟩ HQ
    iapply (run_slot (off23_w b) c) $$ D0
    iintro D0
    iapply (run_ret' (b := R) c hR.symm)
    iapply HQ
    isplitl [D0]; · iexact D0
    isplitl [D1]; · iexact D1
    isplitl [D2]; · iexact D2
    iexact G
  cases o with
  | none =>
    have hc3 : ¬ k0_cond3 (T.nx (ent t)) = 1#1 := by rw [hnx]; exact cond3_none
    rw [dif_neg hc3]
    beta_reduce
    iapply (fin none) $$ [D0 D1 D2 O0 O1 O2 Tb Tn Tf Ts Tx HO] [HQ]
    · isplitl [D0]; · iexact D0
      isplitl [D1]; · iexact D1
      isplitl [D2]; · iexact D2
      isplitl [O0]; · iexact O0
      isplitl [O1]; · iexact O1
      isplitl [O2]; · iexact O2
      isplitr [HO]
      · isplitl [Tb]; · iexact Tb
        isplitl [Tn]; · iexact Tn
        isplitl [Tf]; · iexact Tf
        isplitl [Ts]; · iexact Ts
        iexact Tx
      iexists _
      iexact HO
    iexact HQ
  | some e' =>
    have hc3 : k0_cond3 (T.nx (ent t)) = 1#1 := by rw [hnx]; exact cond3_w e'
    rw [dif_pos hc3]
    iapply (run_word c (v := word e') (by
      have h := read_nx (F := F) T.nx t (off := k0_off14 i) (by rw [k0_off14_eq, hi]) (inb := k0_off14_inb i) (numel1_S1.symm ▸ Nat.one_pos)
      rw [hnx] at h
      exact h)) $$ Tx
    iintro Tx
    iapply (run_assume (chk5_w v4 (T.nx (ent t)) e') c)
    iapply (lane_next c (alike0 A c) (matA_eq (off17_w e') _) (slotA_eq (off16_w b) _) (cell_eq (off15_w b) _) (by decide)) $$ O0
    iintro O0
    iapply (lane_next c (alike1 A c) (matA_eq (off17_w e') _) (slotA_eq (off19_w b) _) (cell_eq (off18_w b) _) (by decide)) $$ O1
    iintro O1
    iapply (lane_next c (alike2 A c) (matB_eq (off22_w e') _) (slotB_eq (off21_w b) _) (cell_eq (off20_w b) _) (by decide)) $$ O2
    iintro O2
    iapply (fin (some e')) $$ [D0 D1 D2 O0 O1 O2 Tb Tn Tf Ts Tx HO] [HQ]
    · isplitl [D0]; · iexact D0
      isplitl [D1]; · iexact D1
      isplitl [D2]; · iexact D2
      isplitl [O0]; · iexact O0
      isplitl [O1]; · iexact O1
      isplitl [O2]; · iexact O2
      isplitr [HO]
      · isplitl [Tb]; · iexact Tb
        isplitl [Tn]; · iexact Tn
        isplitl [Tf]; · iexact Tf
        isplitl [Ts]; · iexact Ts
        iexact Tx
      iexists _
      iexact HO
    iexact HQ

end Cert.ExpertsIdeal.Hand

end
-- ==== Proof.ExpertsPoint.lean ====
/-
  The routed experts' kernel at one grid point, from its first instruction to its last.
-/
module

public import proofs.«01_k».proof.Proof.ExpertsStep

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (A : Arrays F) (T : Tables) (c : Dev nD)

/-- The end of a point: the block's product where it is in use, zero where it is not. -/
abbrev tailProg (i : grid0.Coords) (M6 : Memref sig .tc .vmem S512x2048 .bf16) (M10 : Memref sig .tc .vmem S512x2048 .bf16) (h10 : M10.IsWhole) :
    Prog (TpuEff nD τ sig (Elt F) Λ₀ .tc) PUnit := do
  let v8 : Elt F .i32 ← smemLoad tabNu (Rect.unit (s := S1) ![0] S1.size inb_S1_S1_0) numel1_S1 rfl
  if k0_h4 : k0_cond4 i v8 = 1#1 then do
    let v16 : Vec F S512x2048 .bf16 ← Prog.lift (.load M6 (Rect.unit (s := S512x2048) ![0, 0] S512x2048.size inb_S512x2048_S512x2048_0_0).toLoadRect (View.loadsAt_vmem h_S512x2048))
    let v17 : Vec F S2048x512 .bf16 ← Prog.lift (.load bufG (Rect.unit (s := S2048x512) ![0, 0] S2048x512.size inb_S2048x512_S2048x512_0_0).toLoadRect (View.loadsAt_vmem h_S2048x512))
    let v19 : Vec F S2048x512 .bf16 ← Prog.lift (.load bufU (Rect.unit (s := S2048x512) ![0, 0] S2048x512.size inb_S2048x512_S2048x512_0_0).toLoadRect (View.loadsAt_vmem h_S2048x512))
    let v31 : Vec F S512x2048 .bf16 ← Prog.lift (.load bufD (Rect.unit (s := S512x2048) ![0, 0] S512x2048.size inb_S512x2048_S512x2048_0_0).toLoadRect (View.loadsAt_vmem h_S512x2048))
    let v34 : Vec F S512x2048 .bf16 ← Prog.lift (.load M10 (Rect.unit (s := S512x2048) ![0, 0] S512x2048.size inb_S512x2048_S512x2048_0_0).toLoadRect (View.loadsAt_vmem h_S512x2048))
    Prog.lift (.store M10 (Rect.unit (s := S512x2048) ![0, 0] S512x2048.size inb_S512x2048_S512x2048_0_0) (k0_pay4 v16 v17 v19 v31) Finset.univ (View.stores_vmem h_S512x2048 (h10.storeExact_slice rfl _ packedbf16_S512x2048_S512x2048_0_0) (fun _ => rfl)) (.inl rfl))
    pure ⟨⟩
  else do
    pure ⟨⟩
  let v12 : Elt F .i32 ← smemLoad tabNu (Rect.unit (s := S1) ![0] S1.size inb_S1_S1_0) numel1_S1 rfl
  if k0_h5 : k0_cond5 i v12 = 1#1 then do
    let v17 : Vec F S512x2048 .bf16 ← Prog.lift (.load M10 (Rect.unit (s := S512x2048) ![0, 0] S512x2048.size inb_S512x2048_S512x2048_0_0).toLoadRect (View.loadsAt_vmem h_S512x2048))
    Prog.lift (.store M10 (Rect.unit (s := S512x2048) ![0, 0] S512x2048.size inb_S512x2048_S512x2048_0_0) (k0_pay5 (F := F)) Finset.univ (View.stores_vmem h_S512x2048 (h10.storeExact_slice rfl _ packedbf16_S512x2048_S512x2048_0_0) (fun _ => rfl)) (.inl rfl))
    pure ⟨⟩
  else do
    pure ⟨⟩
  pure ⟨⟩

/-- What a point leaves in its block. -/
def leaves (i : grid0.Coords) (X : S512x2048.Idx → Elt F .bf16) (e : Fin 64) : S512x2048.Idx → Elt F .bf16 :=
  if (BitVec.ofNat 32 (i 0).val).slt (T.nu ent0) = true then k0_pay4 X (Ng A e) (Nu A e) (Nd A e) else k0_pay5

theorem zero2 : (![0, 0] : Fin 2 → Nat) = fun _ => 0 := by decide

theorem run_tail (i : grid0.Coords) (M6 : Memref sig .tc .vmem S512x2048 .bf16) (M10 : Memref sig .tc .vmem S512x2048 .bf16) (h10 : M10.IsWhole)
    {X Y : S512x2048.Idx → Elt F .bf16} {e : Fin 64} {Q : PUnit → sProp (Res F)} :
    iprop(Tabs T c ∗ Kept A c (some e) ∗ owns (c : Thread nD τ) M6 fullShare X ∗ owns (c : Thread nD τ) M10 fullShare Y)
      ⊢ iprop((iprop(Tabs T c ∗ Kept A c (some e) ∗ owns (c : Thread nD τ) M6 fullShare X
            ∗ owns (c : Thread nD τ) M10 fullShare (leaves A T i X e)) -∗ Q ⟨⟩)
        -∗ run c (tailProg i M6 M10 h10) Q) := by
  simp only [Kept]
  iintro ⟨⟨Tb, Tn, Tf, Ts, Tx⟩, ⟨KG, KU, KD⟩, H6, H10⟩ HQ
  iapply (run_word c (v := T.nu ent0) (read_nu T.nu _)) $$ Tn
  iintro Tn
  by_cases h4 : k0_cond4 i (T.nu ent0) = 1#1
  · have hl : leaves A T i X e = k0_pay4 X (Ng A e) (Nu A e) (Nd A e) := if_pos ((cond4_iff i _).1 h4)
    have h5 : ¬ k0_cond5 i (T.nu ent0) = 1#1 := fun h => (cond45 i _).1 h h4
    rw [dif_pos h4, hl]
    iapply (run_load zero2 c) $$ H6
    iintro H6
    iapply (run_load zero2 c) $$ KG
    iintro KG
    iapply (run_load zero2 c) $$ KU
    iintro KU
    iapply (run_load zero2 c) $$ KD
    iintro KD
    iapply (run_load zero2 c) $$ H10
    iintro H10
    iapply (run_store zero2 c) $$ H10
    iintro H10
    iapply (run_word c (v := T.nu ent0) (read_nu T.nu _)) $$ Tn
    iintro Tn
    rw [dif_neg h5]
    iapply (run_ret c)
    iapply HQ
    isplitl [Tb Tn Tf Ts Tx]
    · isplitl [Tb]; · iexact Tb
      isplitl [Tn]; · iexact Tn
      isplitl [Tf]; · iexact Tf
      isplitl [Ts]; · iexact Ts
      iexact Tx
    isplitl [KG KU KD]
    · isplitl [KG]; · iexact KG
      isplitl [KU]; · iexact KU
      iexact KD
    isplitl [H6]; · iexact H6
    iexact H10
  · have hl : leaves A T i X e = k0_pay5 := if_neg fun h => h4 ((cond4_iff i _).2 h)
    have h5 : k0_cond5 i (T.nu ent0) = 1#1 := (cond45 i _).2 h4
    rw [dif_neg h4, hl]
    iapply (run_word c (v := T.nu ent0) (read_nu T.nu _)) $$ Tn
    iintro Tn
    rw [dif_pos h5]
    iapply (run_load zero2 c) $$ H10
    iintro H10
    iapply (run_store zero2 c) $$ H10
    iintro H10
    iapply (run_ret c)
    iapply HQ
    isplitl [Tb Tn Tf Ts Tx]
    · isplitl [Tb]; · iexact Tb
      isplitl [Tn]; · iexact Tn
      isplitl [Tf]; · iexact Tf
      isplitl [Ts]; · iexact Ts
      iexact Tx
    isplitl [KG KU KD]
    · isplitl [KG]; · iexact KG
      isplitl [KU]; · iexact KU
      iexact KD
    isplitl [H6]; · iexact H6
    iexact H10

/-- The middle of a point: a new expert's matrices, where the point begins one. -/
abbrev midProg (i : grid0.Coords) (M6 : Memref sig .tc .vmem S512x2048 .bf16) (h6 : M6.IsWhole) (M10 : Memref sig .tc .vmem S512x2048 .bf16) (h10 : M10.IsWhole) :
    Prog (TpuEff nD τ sig (Elt F) Λ₀ .tc) PUnit := do
  let v4 : Elt F .i32 ← smemLoad tabFi (Rect.unit (s := S193) (k0_off3 i) S1.size (k0_off3_inb i)) numel1_S1 rfl
  if k0_h2 : k0_cond2 v4 = 1#1 then do
    let ⟨v17, k0_hw2, v46⟩ : Σ' (v17 : Elt F .i32) (k0_hw2 : k0_chk2 v4 v17), FVec F S2048x512 .bf16 ← k0_part1 i (Memref.whole main_arg1) (Memref.isWhole_whole _) (Memref.whole main_arg2) (Memref.isWhole_whole _)
            (Memref.whole main_v34) (Memref.isWhole_whole _) (Memref.whole main_v16) (Memref.isWhole_whole _) (Memref.whole main_v33) (Memref.isWhole_whole _)
            M6 h6 arr0 (Memref.isWhole_whole _) arr1 (Memref.isWhole_whole _) arr2 (Memref.isWhole_whole _) M10 h10
            ring0 (Memref.isWhole_whole _) ring1 (Memref.isWhole_whole _) ring2 (Memref.isWhole_whole _)
            bufG (Memref.isWhole_whole _) bufU (Memref.isWhole_whole _) bufD (Memref.isWhole_whole _) cc0_scratch6 (BitVec.ofNat 32 (i 0).val) v4 k0_h2
    let v47 : Vec F S2048x512 .bf16 ← Prog.lift (.load bufG (Rect.unit (s := S2048x512) ![0, 0] S2048x512.size inb_S2048x512_S2048x512_0_0).toLoadRect (View.loadsAt_vmem h_S2048x512))
    Prog.lift (.store bufG (Rect.unit (s := S2048x512) ![0, 0] S2048x512.size inb_S2048x512_S2048x512_0_0) (k0_pay1 v46) Finset.univ (View.stores_vmem h_S2048x512 ((Memref.isWhole_whole cc0_scratch3).storeExact_slice rfl _ packedbf16_S2048x512_S2048x512_0_0) (fun _ => rfl)) (.inl rfl))
    let v51 : Vec F S1x2048x512 .f32 ← Prog.lift (.load ring1 (Rect.unit (s := S2x2048x512) (k0_off23 v17) S1x2048x512.size (k0_off23_inb v4 v17 k0_hw2 k0_h2)).toLoadRect (View.loadsAt_vmem h_S1x2048x512))
    let v54 : Vec F S2048x512 .bf16 ← Prog.lift (.load bufU (Rect.unit (s := S2048x512) ![0, 0] S2048x512.size inb_S2048x512_S2048x512_0_0).toLoadRect (View.loadsAt_vmem h_S2048x512))
    Prog.lift (.store bufU (Rect.unit (s := S2048x512) ![0, 0] S2048x512.size inb_S2048x512_S2048x512_0_0) (k0_pay2 v51) Finset.univ (View.stores_vmem h_S2048x512 ((Memref.isWhole_whole cc0_scratch4).storeExact_slice rfl _ packedbf16_S2048x512_S2048x512_0_0) (fun _ => rfl)) (.inl rfl))
    let v58 : Vec F S1x512x2048 .f32 ← Prog.lift (.load ring2 (Rect.unit (s := S2x512x2048) (k0_off24 v17) S1x512x2048.size (k0_off24_inb v4 v17 k0_hw2 k0_h2)).toLoadRect (View.loadsAt_vmem h_S1x512x2048))
    let v61 : Vec F S512x2048 .bf16 ← Prog.lift (.load bufD (Rect.unit (s := S512x2048) ![0, 0] S512x2048.size inb_S512x2048_S512x2048_0_0).toLoadRect (View.loadsAt_vmem h_S512x2048))
    Prog.lift (.store bufD (Rect.unit (s := S512x2048) ![0, 0] S512x2048.size inb_S512x2048_S512x2048_0_0) (k0_pay3 v58) Finset.univ (View.stores_vmem h_S512x2048 ((Memref.isWhole_whole cc0_scratch5).storeExact_slice rfl _ packedbf16_S512x2048_S512x2048_0_0) (fun _ => rfl)) (.inl rfl))
    pure ⟨⟩
  else do
    pure ⟨⟩
  tailProg i M6 M10 h10

/-- A point that begins no expert. -/
theorem run_keep (t : Fin 193) (i : grid0.Coords) (hi : (i 0).val = t.val) (M6 : Memref sig .tc .vmem S512x2048 .bf16) (h6 : M6.IsWhole)
    (M10 : Memref sig .tc .vmem S512x2048 .bf16) (h10 : M10.IsWhole) (hf : T.fi (ent t) ≠ 1#32)
    {X Y : S512x2048.Idx → Elt F .bf16} {e : Fin 64} {Q : PUnit → sProp (Res F)} :
    iprop(Tabs T c ∗ Kept A c (some e) ∗ owns (c : Thread nD τ) M6 fullShare X ∗ owns (c : Thread nD τ) M10 fullShare Y)
      ⊢ iprop((iprop(Tabs T c ∗ Kept A c (some e) ∗ owns (c : Thread nD τ) M6 fullShare X
            ∗ owns (c : Thread nD τ) M10 fullShare (leaves A T i X e)) -∗ Q ⟨⟩)
        -∗ run c (midProg i M6 h6 M10 h10) Q) := by
  iintro ⟨⟨Tb, Tn, Tf, Ts, Tx⟩, K, H6, H10⟩ HQ
  iapply (run_word c (v := T.fi (ent t)) (read_fi T.fi t (by rw [k0_off3_eq, hi]) _)) $$ Tf
  iintro Tf
  rw [dif_neg fun h => hf ((cond2_iff _).1 h)]
  iapply (run_tail A T c i M6 M10 h10) $$ [Tb Tn Tf Ts Tx K H6 H10] [HQ]
  · isplitl [Tb Tn Tf Ts Tx]
    · isplitl [Tb]; · iexact Tb
      isplitl [Tn]; · iexact Tn
      isplitl [Tf]; · iexact Tf
      isplitl [Ts]; · iexact Ts
      iexact Tx
    isplitl [K]; · iexact K
    isplitl [H6]; · iexact H6
    iexact H10
  iexact HQ

/-- A point that begins an expert. -/
theorem run_new (t : Fin 193) (i : grid0.Coords) (hi : (i 0).val = t.val) (M6 : Memref sig .tc .vmem S512x2048 .bf16) (h6 : M6.IsWhole)
    (M10 : Memref sig .tc .vmem S512x2048 .bf16) (h10 : M10.IsWhole) (hf : T.fi (ent t) = 1#32)
    {e : Fin 64} {b : Fin 2} {o : Option (Fin 64)} (hbe : T.be (ent t) = word e) (hsl : T.sl (ent t) = word b)
    (hnx : T.nx (ent t) = (match o with | none => 4294967295#32 | some e' => word e')) {Ws : Waits sig Unit}
    {X Y : S512x2048.Idx → Elt F .bf16} {Q : PUnit → sProp (Res F)} :
    iprop((lane0 A c (some (e, b)) ∗ lane1 A c (some (e, b)) ∗ lane2 A c (some (e, b))) ∗ Tabs T c ∗ Kept A c none
        ∗ owes (c : Thread nD τ) 0 Ws ∗ owns (c : Thread nD τ) M6 fullShare X ∗ owns (c : Thread nD τ) M10 fullShare Y)
      ⊢ iprop((iprop((lane0 A c (o.map fun e' => (e', 1 - b)) ∗ lane1 A c (o.map fun e' => (e', 1 - b)) ∗ lane2 A c (o.map fun e' => (e', 1 - b)))
            ∗ Tabs T c ∗ Kept A c (some e) ∗ (∃ Ws', owes (c : Thread nD τ) 0 Ws') ∗ owns (c : Thread nD τ) M6 fullShare X
            ∗ owns (c : Thread nD τ) M10 fullShare (leaves A T i X e)) -∗ Q ⟨⟩)
        -∗ run c (midProg i M6 h6 M10 h10) Q) := by
  simp only [Kept]
  iintro ⟨⟨L0, L1, L2⟩, ⟨Tb, Tn, Tf, Ts, Tx⟩, ⟨⟨%XG, KG⟩, ⟨%XU, KU⟩, ⟨%XD, KD⟩⟩, HO, H6, H10⟩ HQ
  iapply (run_word c (v := T.fi (ent t)) (read_fi T.fi t (by rw [k0_off3_eq, hi]) _)) $$ Tf
  iintro Tf
  rw [dif_pos ((cond2_iff _).2 hf)]
  iapply (run_bind c)
  iapply (run_part1 A T c t i hi M6 h6 M10 h10 (T.fi (ent t)) ((cond2_iff _).2 hf) hbe hsl hnx rfl) $$ [L0 L1 L2 Tb Tn Tf Ts Tx HO]
  · isplitl [L0]; · iexact L0
    isplitl [L1]; · iexact L1
    isplitl [L2]; · iexact L2
    isplitr [HO]
    · isplitl [Tb]; · iexact Tb
      isplitl [Tn]; · iexact Tn
      isplitl [Tf]; · iexact Tf
      isplitl [Ts]; · iexact Ts
      iexact Tx
    iexact HO
  iintro ⟨D0, D1, D2, O0, O1, O2, HT, HO⟩
  iapply (run_load zero2 c) $$ KG
  iintro KG
  iapply (run_store zero2 c) $$ KG
  iintro KG
  iapply (run_slot (off23_w b) c) $$ D1
  iintro D1
  iapply (run_load zero2 c) $$ KU
  iintro KU
  iapply (run_store zero2 c) $$ KU
  iintro KU
  iapply (run_slot (off24_w b) c) $$ D2
  iintro D2
  iapply (run_load zero2 c) $$ KD
  iintro KD
  iapply (run_store zero2 c) $$ KD
  iintro KD
  iapply (run_tail A T c i M6 M10 h10 (e := e)) $$ [HT KG KU KD H6 H10] [HQ D0 D1 D2 O0 O1 O2 HO]
  · isplitl [HT]; · iexact HT
    isplitl [KG KU KD]
    · simp only [Kept]
      isplitl [KG]; · iexact KG
      isplitl [KU]; · iexact KU
      iexact KD
    isplitl [H6]; · iexact H6
    iexact H10
  iintro ⟨HT, K, H6, H10⟩
  iapply HQ
  isplitl [D0 D1 D2 O0 O1 O2]
  · isplitl [D0 O0]
    · iapply (lane_of_other c)
      isplitl [D0]; · iexact D0
      iexact O0
    isplitl [D1 O1]
    · iapply (lane_of_other c)
      isplitl [D1]; · iexact D1
      iexact O1
    iapply (lane_of_other c)
    isplitl [D2]; · iexact D2
    iexact O2
  isplitl [HT]; · iexact HT
  isplitl [K]; · simp only [Kept]; iexact K
  isplitl [HO]; · iexact HO
  isplitl [H6]; · iexact H6
  iexact H10

/-- The transfer under way before point `t`: none before the first point. -/
def started (pend : ℕ → Option (Fin 64 × Fin 2)) (t : ℕ) : Option (Fin 64 × Fin 2) := if t = 0 then none else pend t
/-- The expert whose narrowed matrices are held before point `t`. -/
def held (cur : ℕ → Fin 64) (t : ℕ) : Option (Fin 64) := if t = 0 then none else some (cur t)
/-- The three lanes before point `t`. -/
abbrev Lanes (pend : ℕ → Option (Fin 64 × Fin 2)) (t : ℕ) : sProp (Res F) :=
  iprop(lane0 A c (started pend t) ∗ lane1 A c (started pend t) ∗ lane2 A c (started pend t))

/-- The kernel's body at point `t`. -/
theorem run_point {pend : ℕ → Option (Fin 64 × Fin 2)} {cur : ℕ → Fin 64} (hS : Sched T pend cur)
    (t : Fin 193) (i : grid0.Coords) (hi : (i 0).val = t.val) (M6 : Memref sig .tc .vmem S512x2048 .bf16) (h6 : M6.IsWhole)
    (M10 : Memref sig .tc .vmem S512x2048 .bf16) (h10 : M10.IsWhole) {Ws : Waits sig Unit}
    {X Y : S512x2048.Idx → Elt F .bf16} {Q : PUnit → sProp (Res F)} :
    iprop(Lanes A c pend t.val ∗ Tabs T c ∗ Kept A c (held cur t.val)
        ∗ owes (c : Thread nD τ) 0 Ws ∗ owns (c : Thread nD τ) M6 fullShare X ∗ owns (c : Thread nD τ) M10 fullShare Y)
      ⊢ iprop((iprop(Lanes A c pend (t.val + 1) ∗ Tabs T c ∗ Kept A c (held cur (t.val + 1))
            ∗ (∃ Ws', owes (c : Thread nD τ) 0 Ws') ∗ owns (c : Thread nD τ) M6 fullShare X
            ∗ owns (c : Thread nD τ) M10 fullShare (leaves A T i X (cur (t.val + 1)))) -∗ Q ⟨⟩)
        -∗ run c (cc0_experts_routed i (Memref.whole main_arg1) (Memref.isWhole_whole _) (Memref.whole main_arg2) (Memref.isWhole_whole _)
            (Memref.whole main_v34) (Memref.isWhole_whole _) (Memref.whole main_v16) (Memref.isWhole_whole _) (Memref.whole main_v33) (Memref.isWhole_whole _)
            M6 h6 arr0 (Memref.isWhole_whole _) arr1 (Memref.isWhole_whole _) arr2 (Memref.isWhole_whole _) M10 h10
            ring0 (Memref.isWhole_whole _) ring1 (Memref.isWhole_whole _) ring2 (Memref.isWhole_whole _)
            bufG (Memref.isWhole_whole _) bufU (Memref.isWhole_whole _) bufD (Memref.isWhole_whole _) cc0_scratch6) Q) := by
  rw [cc0_experts_routed_eq_skeleton]
  unfold cc0_experts_routed_skel
  have hs1 : started pend (t.val + 1) = pend (t.val + 1) := if_neg (Nat.succ_ne_zero _)
  have hh1 : held cur (t.val + 1) = some (cur (t.val + 1)) := if_neg (Nat.succ_ne_zero _)
  by_cases h0 : t.val = 0
  · obtain rfl : t = 0 := Fin.ext h0
    obtain ⟨e, hbe, hp⟩ := hS.start
    obtain ⟨e', b, o, hbe', hsl, hp', hcur, hp1, hnx⟩ := hS.load 0 hS.first0
    have hpe : (e', b) = (e, 0) := Option.some.inj (hp'.symm.trans hp)
    obtain ⟨rfl, rfl⟩ := Prod.mk.inj hpe
    have hs0 : started pend (0 : Fin 193).val = none := if_pos rfl
    have hh0 : held cur (0 : Fin 193).val = none := if_pos rfl
    simp only [Lanes, hs0, hh0, hs1, hh1, hp1, hcur]
    have h1 : k0_cond1 i = 1#1 := (cond1_iff i).2 (hi.trans rfl)
    rw [dif_pos h1]
    iintro ⟨⟨L0, L1, L2⟩, ⟨Tb, Tn, Tf, Ts, Tx⟩, K, HO, H6, H10⟩ HQ
    iapply (run_word c (v := word e') (by rw [← hbe]; exact read_be T.be 0 rfl _)) $$ Tb
    iintro Tb
    iapply (run_assume (chk1_w i e') c)
    iapply (lane_start c (alike0 A c) (matA_eq (off1_w e') _) (slotA_eq (s := 0) rfl _) (cell_eq (j := 0) (s := 0) rfl _) (by decide)) $$ L0
    iintro L0
    iapply (lane_start c (alike1 A c) (matA_eq (off1_w e') _) (slotA_eq (s := 0) rfl _) (cell_eq (j := 1) (s := 0) rfl _) (by decide)) $$ L1
    iintro L1
    iapply (lane_start c (alike2 A c) (matB_eq (off2_w e') _) (slotB_eq (s := 0) rfl _) (cell_eq (j := 2) (s := 0) rfl _) (by decide)) $$ L2
    iintro L2
    iapply (run_new A T c 0 i hi M6 h6 M10 h10 hS.first0 hbe' hsl hnx) $$ [L0 L1 L2 Tb Tn Tf Ts Tx K HO H6 H10] [HQ]
    · isplitl [L0 L1 L2]
      · isplitl [L0]; · iexact L0
        isplitl [L1]; · iexact L1
        iexact L2
      isplitl [Tb Tn Tf Ts Tx]
      · isplitl [Tb]; · iexact Tb
        isplitl [Tn]; · iexact Tn
        isplitl [Tf]; · iexact Tf
        isplitl [Ts]; · iexact Ts
        iexact Tx
      isplitl [K]; · iexact K
      isplitl [HO]; · iexact HO
      isplitl [H6]; · iexact H6
      iexact H10
    iexact HQ
  · have h1 : ¬ k0_cond1 i = 1#1 := fun h => h0 (hi.symm.trans ((cond1_iff i).1 h))
    have hs0 : started pend t.val = pend t.val := if_neg h0
    have hh0 : held cur t.val = some (cur t.val) := if_neg h0
    rw [dif_neg h1]
    by_cases hf : T.fi (ent t) = 1#32
    · obtain ⟨e, b, o, hbe, hsl, hp, hcur, hp1, hnx⟩ := hS.load t hf
      simp only [Lanes, hs0, hh0, hs1, hh1, hp, hp1, hcur]
      iintro ⟨HL, HT, K, HO, H6, H10⟩ HQ
      iapply (run_new A T c t i hi M6 h6 M10 h10 hf hbe hsl hnx) $$ [HL HT K HO H6 H10] [HQ]
      · isplitl [HL]; · iexact HL
        isplitl [HT]; · iexact HT
        isplitl [K]; · iapply (kept_some A c (some (cur t.val))); iexact K
        isplitl [HO]; · iexact HO
        isplitl [H6]; · iexact H6
        iexact H10
      iexact HQ
    · obtain ⟨hp1, hcur⟩ := hS.keep t hf
      simp only [Lanes, hs0, hh0, hs1, hh1, hp1, hcur]
      iintro ⟨HL, HT, K, HO, H6, H10⟩ HQ
      iapply (run_keep A T c t i hi M6 h6 M10 h10 hf) $$ [HT K H6 H10] [HQ HL HO]
      · isplitl [HT]; · iexact HT
        isplitl [K]; · iexact K
        isplitl [H6]; · iexact H6
        iexact H10
      iintro ⟨HT, K, H6, H10⟩
      iapply HQ
      isplitl [HL]; · iexact HL
      isplitl [HT]; · iexact HT
      isplitl [K]; · iexact K
      isplitl [HO]; · iexists _; iexact HO
      isplitl [H6]; · iexact H6
      iexact H10

end Cert.ExpertsIdeal.Hand

end
-- ==== Proof.ExpertsFrame.lean ====
/-
  The routed experts' region, run: from the memory the host's operations leave, through the 193 points, to the result's
  blocks. The schedule of the transfers is a hypothesis here.
-/
module

public import proofs.«01_k».proof.Proof.ExpertsPoint
public import proofs.«01_k».proof.Proof.Gen.ExpertsIdeal.Launch
public import Idealize.ShloMosaic.Lib.Claim
public import Idealize.ShloMosaic.Lib.Ring

@[expose] public section

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## Up to the region -/

/-- The host's operations before the region, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- The buffers as the region finds them. -/
def V (c : Dev nD) (b : Ref sig .tc) : Buf (Elt F) ((c : Thread nD τ).loc b) :=
  StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub⟩
theorem opss_fresh : (opss (F := F)).Forall fun ops => ops.Forall fun op => op.fresh = ∅ := by
  simp only [List.Forall]; repeat' constructor

set_option maxHeartbeats 800000 in
theorem entered : Pipeline.HMainP (Ix := Unit) (Name := ℕ) (U := Pipeline.UD sig nD τ) (Lvl := ℕ) (pcfgs (F := F)) 0 defs₀ Variants.none m (main (F := F)) (V m) :=
  Pipeline.hmainP_prefixes (pcfgs (F := F)) 0 defs₀ Variants.none m main opss opss_sub opss_fresh main_chain

theorem flat_arg (b : Ref sig .tc) (c : Dev nD)
    (h : (opss (F := F)).flatten.Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg1 (c : Dev nD) : V m c main_arg1 = m ((c : Thread nD τ).loc main_arg1) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg2 (c : Dev nD) : V m c main_arg2 = m ((c : Thread nD τ).loc main_arg2) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg3 (c : Dev nD) : V m c main_arg3 = m ((c : Thread nD τ).loc main_arg3) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg4 (c : Dev nD) : V m c main_arg4 = m ((c : Thread nD τ).loc main_arg4) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg5 (c : Dev nD) : V m c main_arg5 = m ((c : Thread nD τ).loc main_arg5) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))

/-! ## The tables and the weights -/

/-- The tables as the region finds them. -/
def tb (c : Dev nD) : Tables := ⟨V m c main_arg1, V m c main_arg2, V m c main_v34, V m c main_v16, V m c main_v33⟩
/-- The weights' arrays. -/
def ws (c : Dev nD) : Arrays F := ⟨V m c main_arg3, V m c main_arg4, V m c main_arg5⟩

/-- The tables' contents, as the launch takes them. -/
def adm : (p : Fin 1) → (pcfgs (F := F) p).Adm := fun _ => ⟨fun k => V m 0 (pre0.ref k), trivial⟩

/-- The pipeline at those contents. -/
abbrev cfgE : Pipeline.Cfg sig Λ₀ := Pipeline.pin (pcfgs (F := F)) (adm m) 0

/-- Point `t`'s number. -/
abbrev num (t : Fin (cfgE m).N) : Fin 193 := ⟨t.val, lt_of_lt_of_eq t.isLt N_0⟩
theorem coords_num (t : Fin (cfgE m).N) : (grid0.coords t 0).val = (num m t).val := by
  rw [Pipeline.Grid.coords_val (G := grid0) t 0 (S := 1) (B := 193) (by decide) (by decide), Nat.div_one]
  exact Nat.mod_eq_of_lt (num m t).isLt

/-- Window `w`'s block at point `t`. -/
def iblk (c : Dev nD) (w : Fin (cfgE m).W) (t : Fin (cfgE m).N) : (((cfgE m).win w).xblock ((cfgE m).grid.coords t)).Idx → Elt F ((cfgE m).win w).elt :=
  (((cfgE m).win w).blk t).view.read (Elt F) (V m c (Pipeline.arrRef spec0 w))

variable (pend : ℕ → Option (Fin 64 × Fin 2)) (cur : ℕ → Fin 64)

/-- What holds before point `n` and after the last. -/
def inv (c : Dev nD) (n : ℕ) : sProp (Res F) :=
  iprop((∃ r, prngReg c r) ∗ Lanes (ws m c) c pend n ∗ Tabs (tb m c) c ∗ Kept (ws m c) c (held cur n))

/-- The proof data. -/
def dats (_ : Fin 1) (c : Dev nD) : Dat τ (Elt F) Unit ℕ (Pipeline.UD sig nD τ) ℕ (cfgE m) c where
  A w := V m c (Pipeline.arrRef spec0 w)
  after w t := match w with
    | ⟨0, _⟩ => iblk m c 0 t
    | ⟨1, _⟩ => leaves (ws m c) (tb m c) (grid0.coords t) (iblk m c 0 t) (cur (t.val + 1))
  Φ n := inv m pend cur c n.val
  q _ := fullShare
  owed _ := 0

theorem A_eq (c : Dev nD) (w : Fin (cfgE m).W) : (dats m pend cur 0 c).A w = V m c (Pipeline.arrRef spec0 w) := by
  dsimp only [dats]
theorem after0 (c : Dev nD) (t : Fin (cfgE m).N) : (dats m pend cur 0 c).after 0 t = iblk m c 0 t := by dsimp only [dats]; rfl
theorem after1 (c : Dev nD) (t : Fin (cfgE m).N) :
    (dats m pend cur 0 c).after 1 t = leaves (ws m c) (tb m c) (grid0.coords t) (iblk m c 0 t) (cur (t.val + 1)) := by dsimp only [dats]; rfl
theorem before0 (c : Dev nD) (t : Fin (cfgE m).N) (d) : (dats m pend cur 0 c).before 0 t d = iblk m c 0 t :=
  ((dats m pend cur 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

/-! ## The body at a point -/

abbrev in6 (t : Fin (cfgE m).N) : Memref sig .tc .vmem S512x2048 .bf16 := spec0_0.stage ((cfgE m).slots t 0)
abbrev out10 (t : Fin (cfgE m).N) : Memref sig .tc .vmem S512x2048 .bf16 := spec0_1.stage ((cfgE m).slots t 1)

/-- The kernel's body as the region calls it at point `t`. -/
abbrev bodyAt (t : Fin (cfgE m).N) : Prog (TpuEff nD τ sig (Elt F) Λ₀ .tc) PUnit :=
  cc0_experts_routed (grid0.coords t) (Memref.whole main_arg1) (Memref.isWhole_whole _) (Memref.whole main_arg2) (Memref.isWhole_whole _)
    (Memref.whole main_v34) (Memref.isWhole_whole _) (Memref.whole main_v16) (Memref.isWhole_whole _) (Memref.whole main_v33) (Memref.isWhole_whole _)
    (in6 m t) (hstage0_0 (((cfgE m).slots t 0).cast nbuf0_0)) arr0 (Memref.isWhole_whole _) arr1 (Memref.isWhole_whole _) arr2 (Memref.isWhole_whole _)
    (out10 m t) (hstage0_1 (((cfgE m).slots t 1).cast nbuf0_1))
    ring0 (Memref.isWhole_whole _) ring1 (Memref.isWhole_whole _) ring2 (Memref.isWhole_whole _)
    bufG (Memref.isWhole_whole _) bufU (Memref.isWhole_whole _) bufD (Memref.isWhole_whole _) cc0_scratch6

theorem row (t : Fin (cfgE m).N) : defs₀ (F := F) .tc (cfgE m).body ((cfgE m).bodyArgs t ((cfgE m).slots t)) = bodyAt m t := by
  unfold defs₀; rw [Defs.onTc_tc]

variable {pend cur}

def bodyPre (pend : ℕ → Option (Fin 64 × Fin 2)) (cur : ℕ → Fin 64) (c : Dev nD) (t : Fin (cfgE m).N) : sProp (Res F) :=
  iprop((dats m pend cur 0 c).Φ t.castSucc ∗ (dats m pend cur 0 c).owesAt () t.castSucc
    ∗ (∃ d, owns (c : Thread nD τ) (in6 m t) fullShare ((dats m pend cur 0 c).before 0 t d))
    ∗ (∃ d, owns (c : Thread nD τ) (out10 m t) fullShare ((dats m pend cur 0 c).before 1 t d)))

def bodyPost (pend : ℕ → Option (Fin 64 × Fin 2)) (cur : ℕ → Fin 64) (c : Dev nD) (t : Fin (cfgE m).N) : sProp (Res F) :=
  iprop((dats m pend cur 0 c).Φ t.succ ∗ (dats m pend cur 0 c).owesAt () t.succ
    ∗ owns (c : Thread nD τ) (in6 m t) fullShare ((dats m pend cur 0 c).after 0 t)
    ∗ owns (c : Thread nD τ) (out10 m t) fullShare ((dats m pend cur 0 c).after 1 t))

theorem sound (c : Dev nD) (hS : Sched (tb m c) pend cur) (t : Fin (cfgE m).N) :
    bodyPre m pend cur c t ⊢ run c (bodyAt m t) (fun _ => bodyPost m pend cur c t) := by
  unfold bodyPre bodyPost
  simp only [before0]
  rw [after0, after1]
  rw [show (dats m pend cur 0 c).Φ t.castSucc = inv m pend cur c t.val from rfl,
    show (dats m pend cur 0 c).Φ t.succ = inv m pend cur c (t.val + 1) from rfl]
  unfold inv
  iintro ⟨⟨Hg, HL, HT, HK⟩, ⟨%W, %hW, HO⟩, ⟨%d0, H6⟩, ⟨%d1, H10⟩⟩
  iapply (run_point (ws m c) (tb m c) c hS (num m t) (grid0.coords t) (coords_num m t) (in6 m t) _ (out10 m t) _) $$ [HL HT HK HO H6 H10] [Hg]
  · isplitl [HL]; · iexact HL
    isplitl [HT]; · iexact HT
    isplitl [HK]; · iexact HK
    isplitl [HO]; · iexact HO
    isplitl [H6]; · iexact H6
    iexact H10
  iintro ⟨HL, HT, HK, ⟨%W', HO⟩, H6, H10⟩
  isplitl [Hg HL HT HK]
  · isplitl [Hg]; · iexact Hg
    isplitl [HL]; · iexact HL
    isplitl [HT]; · iexact HT
    iexact HK
  isplitl [HO]
  · iexists W'
    isplitr
    · ipureintro; exact fun _ _ => Set.mem_union_left _ trivial
    iexact HO
  isplitl [H6]; · iexact H6
  iexact H10

theorem idle_off {a b : BitVec 1} (h : a = 1#1 ∨ b = 1#1) : (!(a == 1#1) && !(b == 1#1)) = false := by
  rcases h with rfl | rfl
  · rfl
  · cases (a == 1#1) <;> rfl

theorem idle_pf (pf : pre0.Contents (Elt F)) (i : grid0.Coords) : idle0 pf 1 i = false := by
  show (!(k0_cond4 i (pf.atD 1 ![0]) == 1#1) && !(k0_cond5 i (pf.atD 1 ![0]) == 1#1)) = false
  generalize pf.atD 1 ![0] = v
  refine idle_off ?_
  by_cases h4 : k0_cond4 i v = 1#1
  · exact .inl h4
  · exact .inr ((cond45 _ _).2 h4)

theorem idle_at (a : (pcfg0 (F := F)).Adm) (i : grid0.Coords) : (pcfg0.at a).idle (1 : Fin 2) i = false := idle_pf a.1 i

theorem idle1 (t : Fin (cfgE m).N) : (cfgE m).idle (1 : Fin 2) ((cfgE m).grid.coords t) = false := idle_at (adm m 0) _

theorem obliged (c : Dev nD) (hS : Sched (tb m c) pend cur) :
    BodyObligation (dats m pend cur 0 c) (defs₀ (F := F)) Variants.none () Set.univ := fun t => by
  have h1 := idle1 m t
  rw [bigSep_W0, bigSep_W0, row]
  rewrite [h1]
  exact triple_restated (sound m c hS t) rfl .rfl fun _ => .rfl

/-! ## The region's ends -/

theorem ringA_disjoint (b b' : Fin 2) (h : b ≠ b') :
    Disjoint (Rect.unit (s := S2x2048x512) ![b.val, 0, 0] S1x2048x512.size (slotIn b)).set (Rect.unit (s := S2x2048x512) ![b'.val, 0, 0] S1x2048x512.size (slotIn b')).set :=
  Ring.lead_disjoint (s := S2x2048x512) 0 1 (fun b : Fin 2 => ![b.val, 0, 0]) S1x2048x512.size slotIn (fun b => (Nat.one_mul _).symm) rfl b b' h
theorem ringA_cover : Finset.univ.biUnion (fun b : Fin 2 => (Rect.unit (s := S2x2048x512) ![b.val, 0, 0] S1x2048x512.size (slotIn b)).set) = Finset.univ :=
  Ring.lead_cover (s := S2x2048x512) 0 1 (fun b : Fin 2 => ![b.val, 0, 0]) S1x2048x512.size slotIn (fun b => (Nat.one_mul _).symm)
    (by decide) rfl (by decide) rfl
theorem ringB_disjoint (b b' : Fin 2) (h : b ≠ b') :
    Disjoint (Rect.unit (s := S2x512x2048) ![b.val, 0, 0] S1x512x2048.size (slotIn' b)).set (Rect.unit (s := S2x512x2048) ![b'.val, 0, 0] S1x512x2048.size (slotIn' b')).set :=
  Ring.lead_disjoint (s := S2x512x2048) 0 1 (fun b : Fin 2 => ![b.val, 0, 0]) S1x512x2048.size slotIn' (fun b => (Nat.one_mul _).symm) rfl b b' h
theorem ringB_cover : Finset.univ.biUnion (fun b : Fin 2 => (Rect.unit (s := S2x512x2048) ![b.val, 0, 0] S1x512x2048.size (slotIn' b)).set) = Finset.univ :=
  Ring.lead_cover (s := S2x512x2048) 0 1 (fun b : Fin 2 => ![b.val, 0, 0]) S1x512x2048.size slotIn' (fun b => (Nat.one_mul _).symm)
    (by decide) rfl (by decide) rfl

theorem set0 (b : Fin 2) : (slotA ring0 b).view.set = (Rect.unit (s := S2x2048x512) ![b.val, 0, 0] S1x2048x512.size (slotIn b)).set :=
  (Memref.set_view_squeeze _ _).trans (View.set_slice_whole _ _)
theorem set1 (b : Fin 2) : (slotA ring1 b).view.set = (Rect.unit (s := S2x2048x512) ![b.val, 0, 0] S1x2048x512.size (slotIn b)).set :=
  (Memref.set_view_squeeze _ _).trans (View.set_slice_whole _ _)
theorem set2 (b : Fin 2) : (slotB ring2 b).view.set = (Rect.unit (s := S2x512x2048) ![b.val, 0, 0] S1x512x2048.size (slotIn' b)).set :=
  (Memref.set_view_squeeze _ _).trans (View.set_slice_whole _ _)

theorem split0 (c : Dev nD) : iprop(∃ f : Buf (Elt F) ((c : Thread nD τ).loc cc0_scratch0), ((c : Thread nD τ).loc cc0_scratch0) ↦{fullShare} f)
    ⊢ (iprop(Slot (slotA ring0 0) c ∗ Slot (slotA ring0 1) c) : sProp (Res F)) :=
  Ring.slots2_split (ℓ := (c : Thread nD τ).loc cc0_scratch0) (fun b => (Rect.unit (s := S2x2048x512) ![b.val, 0, 0] S1x2048x512.size (slotIn b)).set)
    ringA_disjoint ringA_cover _ _ (fun f => by rw [← set0 0]) (fun f => by rw [← set0 1])
theorem join0 (c : Dev nD) : iprop(Slot (slotA ring0 0) c ∗ Slot (slotA ring0 1) c)
    ⊢ (iprop(∃ f : Buf (Elt F) ((c : Thread nD τ).loc cc0_scratch0), ((c : Thread nD τ).loc cc0_scratch0) ↦{fullShare} f) : sProp (Res F)) :=
  Ring.slots2_join (ℓ := (c : Thread nD τ).loc cc0_scratch0) (fun b => (Rect.unit (s := S2x2048x512) ![b.val, 0, 0] S1x2048x512.size (slotIn b)).set)
    ringA_disjoint ringA_cover _ _ (fun f => by rw [← set0 0]) (fun f => by rw [← set0 1])
theorem split1 (c : Dev nD) : iprop(∃ f : Buf (Elt F) ((c : Thread nD τ).loc cc0_scratch1), ((c : Thread nD τ).loc cc0_scratch1) ↦{fullShare} f)
    ⊢ (iprop(Slot (slotA ring1 0) c ∗ Slot (slotA ring1 1) c) : sProp (Res F)) :=
  Ring.slots2_split (ℓ := (c : Thread nD τ).loc cc0_scratch1) (fun b => (Rect.unit (s := S2x2048x512) ![b.val, 0, 0] S1x2048x512.size (slotIn b)).set)
    ringA_disjoint ringA_cover _ _ (fun f => by rw [← set1 0]) (fun f => by rw [← set1 1])
theorem join1 (c : Dev nD) : iprop(Slot (slotA ring1 0) c ∗ Slot (slotA ring1 1) c)
    ⊢ (iprop(∃ f : Buf (Elt F) ((c : Thread nD τ).loc cc0_scratch1), ((c : Thread nD τ).loc cc0_scratch1) ↦{fullShare} f) : sProp (Res F)) :=
  Ring.slots2_join (ℓ := (c : Thread nD τ).loc cc0_scratch1) (fun b => (Rect.unit (s := S2x2048x512) ![b.val, 0, 0] S1x2048x512.size (slotIn b)).set)
    ringA_disjoint ringA_cover _ _ (fun f => by rw [← set1 0]) (fun f => by rw [← set1 1])
theorem split2 (c : Dev nD) : iprop(∃ f : Buf (Elt F) ((c : Thread nD τ).loc cc0_scratch2), ((c : Thread nD τ).loc cc0_scratch2) ↦{fullShare} f)
    ⊢ (iprop(Slot (slotB ring2 0) c ∗ Slot (slotB ring2 1) c) : sProp (Res F)) :=
  Ring.slots2_split (ℓ := (c : Thread nD τ).loc cc0_scratch2) (fun b => (Rect.unit (s := S2x512x2048) ![b.val, 0, 0] S1x512x2048.size (slotIn' b)).set)
    ringB_disjoint ringB_cover _ _ (fun f => by rw [← set2 0]) (fun f => by rw [← set2 1])
theorem join2 (c : Dev nD) : iprop(Slot (slotB ring2 0) c ∗ Slot (slotB ring2 1) c)
    ⊢ (iprop(∃ f : Buf (Elt F) ((c : Thread nD τ).loc cc0_scratch2), ((c : Thread nD τ).loc cc0_scratch2) ↦{fullShare} f) : sProp (Res F)) :=
  Ring.slots2_join (ℓ := (c : Thread nD τ).loc cc0_scratch2) (fun b => (Rect.unit (s := S2x512x2048) ![b.val, 0, 0] S1x512x2048.size (slotIn' b)).set)
    ringB_disjoint ringB_cover _ _ (fun f => by rw [← set2 0]) (fun f => by rw [← set2 1])

theorem of_eq {P Q : sProp (Res F)} (e : P = Q) : P ⊢ Q := e ▸ .rfl

/-- A whole buffer at some contents, as the narrowed matrices' buffers are held. -/
theorem some_of (c : Dev nD) (r : Ref sig .tc) :
    iprop(∃ f : Buf (Elt F) ((c : Thread nD τ).loc r), ((c : Thread nD τ).loc r) ↦{fullShare} f)
      ⊢ (iprop(∃ X, owns (c : Thread nD τ) (Memref.whole r) fullShare X) : sProp (Res F)) := by
  iintro ⟨%f, H⟩
  iexists _
  iapply (of_eq (owns_whole (Ix := Unit) (Name := ℕ) (U := Pipeline.UD sig nD τ) (Lvl := ℕ) (c : Thread nD τ) r fullShare f).symm)
  iexact H
theorem some_to (c : Dev nD) (r : Ref sig .tc) :
    iprop(∃ X, owns (c : Thread nD τ) (Memref.whole r) fullShare X)
      ⊢ (iprop(∃ f : Buf (Elt F) ((c : Thread nD τ).loc r), ((c : Thread nD τ).loc r) ↦{fullShare} f) : sProp (Res F)) := by
  iintro ⟨%f, H⟩
  iexists _
  iapply (of_eq (owns_whole (Ix := Unit) (Name := ℕ) (U := Pipeline.UD sig nD τ) (Lvl := ℕ) (c : Thread nD τ) r fullShare f))
  iexact H

/-- The kernel's own semaphores. -/
abbrev osem : Fin 6 → SemLoc sig := fun j => (![.dma (cell 0 0), .dma (cell 0 1), .dma (cell 1 0), .dma (cell 1 1), .dma (cell 2 0), .dma (cell 2 1)] : Fin 6 → SemLoc sig) j

theorem osem_facts : Pipeline.OwnSemFacts spec0 osem := by decide

/-- The arrays the kernel reads by its own transfers. -/
abbrev own : Finset (Ref sig .tc) := {main_arg3, main_arg4, main_arg5}

theorem own_sub : own ⊆ Pipeline.restRefsP sig pre0 spec0 := by decide

theorem own_eq (c : Dev nD) : (bigSep own fun b => ((c : Thread nD τ).loc b) ↦{fullShare} V m c b : sProp (Res F))
    = iprop((((c : Thread nD τ).loc main_arg3) ↦{fullShare} V m c main_arg3) ∗ (((c : Thread nD τ).loc main_arg4) ↦{fullShare} V m c main_arg4)
      ∗ (((c : Thread nD τ).loc main_arg5) ↦{fullShare} V m c main_arg5)) :=
  BI.bigSep_eq_bigSepL_of_eq [main_arg3, main_arg4, main_arg5] (by decide) (by decide) _

theorem osem_eq (c : Dev nD) :
    (Pipeline.ownSems0 (Ix := Unit) (Name := ℕ) (U := Pipeline.UD sig nD τ) (Lvl := ℕ) (Val := Elt F) (τ := τ) osem c : sProp (Res F))
    = iprop(semVal ((c : Thread nD τ), SemLoc.dma (cell 0 0)) 0 ∗ semVal ((c : Thread nD τ), SemLoc.dma (cell 0 1)) 0
      ∗ semVal ((c : Thread nD τ), SemLoc.dma (cell 1 0)) 0 ∗ semVal ((c : Thread nD τ), SemLoc.dma (cell 1 1)) 0
      ∗ semVal ((c : Thread nD τ), SemLoc.dma (cell 2 0)) 0 ∗ semVal ((c : Thread nD τ), SemLoc.dma (cell 2 1)) 0) :=
  Pipeline.ownSems0_eq_of_list c osem [0, 1, 2, 3, 4, 5] (by decide) (by decide)

theorem tabs_eq (c : Dev nD) :
    (Pipeline.ΦT pre0 (adm m 0).1 c : sProp (Res F)) = Tabs (tb m c) c := by
  obtain rfl : c = 0 := Subsingleton.elim _ _
  exact bigSep_univ_eq_bigSepL [(0 : Fin 5), 1, 2, 3, 4] (by decide) (by decide) _

theorem begins (c : Dev nD) : iprop(Pipeline.ΦD osem spec0 own (V m) c ∗ Pipeline.ΦT pre0 (adm m 0).1 c) ⊢ inv m pend cur c 0 := by
  rw [Pipeline.ΦD_eq, scopedRest0_eq, osem_eq, own_eq, tabs_eq]
  unfold inv
  have hs0 : started pend 0 = none := if_pos rfl
  have hh0 : held cur 0 = none := if_pos rfl
  simp only [Lanes, hs0, hh0, Lane, Kept]
  iintro ⟨⟨⟨B0, B1, B2, B3, B4, B5⟩, Hg, ⟨s00, s01, s10, s11, s20, s21⟩, W3, W4, W5⟩, HT⟩
  ihave B0 := (split0 c) $$ B0
  icases B0 with ⟨B00, B01⟩
  ihave B1 := (split1 c) $$ B1
  icases B1 with ⟨B10, B11⟩
  ihave B2 := (split2 c) $$ B2
  icases B2 with ⟨B20, B21⟩
  ihave B3 := (some_of c cc0_scratch3) $$ B3
  ihave B4 := (some_of c cc0_scratch4) $$ B4
  ihave B5 := (some_of c cc0_scratch5) $$ B5
  isplitl [Hg]; · iexact Hg
  isplitl [W3 W4 W5 B00 B01 B10 B11 B20 B21 s00 s01 s10 s11 s20 s21]
  · isplitl [W3 B00 B01 s00 s01]
    · isplitl [W3]; · iexact W3
      isplitl [B00]; · iexact B00
      isplitl [B01]; · iexact B01
      isplitl [s00]; · iexact s00
      iexact s01
    isplitl [W4 B10 B11 s10 s11]
    · isplitl [W4]; · iexact W4
      isplitl [B10]; · iexact B10
      isplitl [B11]; · iexact B11
      isplitl [s10]; · iexact s10
      iexact s11
    isplitl [W5]; · iexact W5
    isplitl [B20]; · iexact B20
    isplitl [B21]; · iexact B21
    isplitl [s20]; · iexact s20
    iexact s21
  isplitl [HT]; · iexact HT
  isplitl [B3]; · iexact B3
  isplitl [B4]; · iexact B4
  iexact B5

theorem ends (c : Dev nD) (hS : Sched (tb m c) pend cur) : inv m pend cur c 193 ⊢ Pipeline.ΦD osem spec0 own (V m) c := by
  rw [Pipeline.ΦD_eq, scopedRest0_eq, osem_eq, own_eq]
  unfold inv
  have hs0 : started pend 193 = none := (if_neg (by decide)).trans hS.last
  refine (Laws.sep_mono .rfl (Laws.sep_mono .rfl (Laws.sep_mono .rfl (kept_some (ws m c) c (held cur 193))))).trans ?_
  simp only [Lanes, hs0, Lane, Kept]
  iintro ⟨Hg, ⟨⟨W3, B00, B01, s00, s01⟩, ⟨W4, B10, B11, s10, s11⟩, ⟨W5, B20, B21, s20, s21⟩⟩, HT, B3, B4, B5⟩
  ihave B0 := (join0 c) $$ [B00 B01]
  · isplitl [B00]; · iexact B00
    iexact B01
  ihave B1 := (join1 c) $$ [B10 B11]
  · isplitl [B10]; · iexact B10
    iexact B11
  ihave B2 := (join2 c) $$ [B20 B21]
  · isplitl [B20]; · iexact B20
    iexact B21
  ihave B3 := (some_to c cc0_scratch3) $$ B3
  ihave B4 := (some_to c cc0_scratch4) $$ B4
  ihave B5 := (some_to c cc0_scratch5) $$ B5
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [Hg]; · iexact Hg
  isplitl [s00 s01 s10 s11 s20 s21]
  · isplitl [s00]; · iexact s00
    isplitl [s01]; · iexact s01
    isplitl [s10]; · iexact s10
    isplitl [s11]; · iexact s11
    isplitl [s20]; · iexact s20
    iexact s21
  isplitl [W3]; · iexact W3
  isplitl [W4]; · iexact W4
  iexact W5

/-! ## The run -/

theorem pf_eq (c : Dev nD) (k : Fin 5) : V m c (pre0.ref k) = (adm m 0).1 k := by
  obtain rfl : c = 0 := Subsingleton.elim _ _
  rfl

set_option backward.isDefEq.respectTransparency.types false in
/-- The whole program run: every array as the points leave it, every other buffer as the region found it, the
    semaphores at zero. -/
theorem run_all (hS : ∀ c, Sched (tb m c) pend cur) :
    θ_run defs (onTc (τ := τ) (main (F := F))) (s₀ m ρ)
      (fun r => (Pipeline.FramePost (Pipeline.pin (pcfgs (F := F)) (adm m)) (dats m pend cur) 0 (V m)) r ∧ r.2.sem = fun _ => 0) :=
  Pipeline.θ_run_frameP_dma (Q' := _) (pcfgs (F := F)) (adm m) (dats m pend cur) (0 : Fin 1) launch0 osem defs₀ Variants.none osem_facts own own_sub m ρ main
    (hbody := fun c => (obliged m c (hS c)).loose) (hshare := fun c => (dats m pend cur 0 c).share_full fun _ => rfl)
    (howed := fun _ _ => rfl) (V := V m) (hmain := entered m) (hA := A_eq m pend cur) (hpf := pf_eq m)
    (hin := fun c => begins m c)
    (hout := fun c => (show (dats m pend cur 0 c).Φ (Fin.last (cfgE m).N) = inv m pend cur c 193 from congrArg (inv m pend cur c) N_0) ▸ ends m c (hS c))

theorem mem_rest (b : Ref sig .tc) (h : b ∈ Pipeline.restRefs sig spec0) {r : PUnit × MemSt nD τ sig (Elt F)}
    (hr : Pipeline.FramePost (Pipeline.pin (pcfgs (F := F)) (adm m)) (dats m pend cur) 0 (V m) r) (c : Dev nD) :
    r.2.mem ((c : Thread nD τ).loc b) = V m c b := (hr c).2 b h

/-- The arguments end unchanged. -/
theorem args_of {r : PUnit × MemSt nD τ sig (Elt F)}
    (h : Pipeline.FramePost (Pipeline.pin (pcfgs (F := F)) (adm m)) (dats m pend cur) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m pend cur 0 c).arrAt_in 0 rfl _).trans ((A_eq m pend cur c 0).trans (V_arg0 m c))),
    (mem_rest m main_arg1 (Pipeline.mem_restRefs_of main_arg1 (by decide) (by decide)) h c).trans (V_arg1 m c),
    (mem_rest m main_arg2 (Pipeline.mem_restRefs_of main_arg2 (by decide) (by decide)) h c).trans (V_arg2 m c),
    (mem_rest m main_arg3 (Pipeline.mem_restRefs_of main_arg3 (by decide) (by decide)) h c).trans (V_arg3 m c),
    (mem_rest m main_arg4 (Pipeline.mem_restRefs_of main_arg4 (by decide) (by decide)) h c).trans (V_arg4 m c),
    (mem_rest m main_arg5 (Pipeline.mem_restRefs_of main_arg5 (by decide) (by decide)) h c).trans (V_arg5 m c)⟩

/-- The run's frame: the arguments end unchanged and the semaphores at zero. -/
theorem frame_of_run (hS : ∀ c, Sched (tb m c) pend cur) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m h.1 c, h.2⟩) (run_all m ρ hS)

end Cert.ExpertsIdeal.Hand

end
-- ==== Proof.ExpertsOrder.lean ====
/-
  Which expert's matrices are wanted when: of the points where an expert's run of blocks begins, the schedule of the
  transfers, from the tables' entries.
-/
module

public import proofs.«01_k».proof.Proof.ExpertsStep
public import Mathlib.Order.Interval.Finset.Nat

@[expose] public section

noncomputable section

namespace Cert.ExpertsIdeal.Hand

open Cert.ExpertsIdeal Cert.ExpertsIdeal.Gen
open Idealize.ShloMosaic Idealize.ShloMosaic.TcCoe

open Classical in
/-- The first number from `t` on with the property, if there is one. -/
def nxt (P : ℕ → Prop) (t : ℕ) : Option ℕ := if h : ∃ q, t ≤ q ∧ P q then some (Nat.find h) else none

open Classical in
theorem nxt_some {P : ℕ → Prop} {t q : ℕ} (hq : t ≤ q) (hP : P q) (hm : ∀ r, t ≤ r → P r → q ≤ r) : nxt P t = some q := by
  have h : ∃ q, t ≤ q ∧ P q := ⟨q, hq, hP⟩
  unfold nxt
  rw [dif_pos h]
  exact congrArg some (le_antisymm (Nat.find_min' h ⟨hq, hP⟩) (hm _ (Nat.find_spec h).1 (Nat.find_spec h).2))

open Classical in
theorem nxt_none {P : ℕ → Prop} {t : ℕ} (hn : ∀ r, t ≤ r → ¬ P r) : nxt P t = none := by
  unfold nxt
  rw [dif_neg (fun ⟨q, hq, hP⟩ => hn q hq hP)]

open Classical in
theorem nxt_cases (P : ℕ → Prop) (t : ℕ) :
    (nxt P t = none ∧ ∀ r, t ≤ r → ¬ P r) ∨ ∃ q, nxt P t = some q ∧ t ≤ q ∧ P q ∧ ∀ r, t ≤ r → P r → q ≤ r := by
  by_cases h : ∃ q, t ≤ q ∧ P q
  · have hs := Nat.find_spec h
    exact .inr ⟨Nat.find h, nxt_some hs.1 hs.2 (fun r h1 h2 => Nat.find_min' h ⟨h1, h2⟩), hs.1, hs.2, fun r h1 h2 => Nat.find_min' h ⟨h1, h2⟩⟩
  · exact .inl ⟨nxt_none fun r h1 h2 => h ⟨r, h1, h2⟩, fun r h1 h2 => h ⟨r, h1, h2⟩⟩

theorem nxt_self {P : ℕ → Prop} {t : ℕ} (h : P t) : nxt P t = some t := nxt_some le_rfl h fun _ h _ => h

theorem nxt_step {P : ℕ → Prop} {t : ℕ} (h : ¬ P t) : nxt P (t + 1) = nxt P t := by
  rcases nxt_cases P (t + 1) with ⟨e, hn⟩ | ⟨q, e, hq, hP, hm⟩
  · rw [e, nxt_none]
    intro r hr hPr
    rcases Nat.eq_or_lt_of_le hr with rfl | hlt
    · exact h hPr
    · exact hn r hlt hPr
  · rw [e, nxt_some (by omega) hP]
    intro r hr hPr
    rcases Nat.eq_or_lt_of_le hr with rfl | hlt
    · exact absurd hPr h
    · exact hm r hlt hPr

open Classical in
/-- How many numbers below `t` have the property. -/
def cnt (P : ℕ → Prop) (t : ℕ) : ℕ := ((List.range t).map fun i => if P i then 1 else 0).sum

open Classical in
theorem cnt_succ (P : ℕ → Prop) (t : ℕ) : cnt P (t + 1) = cnt P t + if P t then 1 else 0 := by
  unfold cnt
  rw [List.range_succ, List.map_append, List.sum_append]
  simp

theorem cnt_pos {P : ℕ → Prop} {t : ℕ} (h : P t) : cnt P (t + 1) = cnt P t + 1 := by rw [cnt_succ, if_pos h]
theorem cnt_neg {P : ℕ → Prop} {t : ℕ} (h : ¬ P t) : cnt P (t + 1) = cnt P t := by rw [cnt_succ, if_neg h, Nat.add_zero]

theorem cnt_le (P : ℕ → Prop) (t : ℕ) : cnt P t ≤ t := by
  induction t with
  | zero => exact le_rfl
  | succ t ih => rw [cnt_succ]; split <;> omega

/-- The expert of block `t`. -/
def expert (B : ℕ → BitVec 32) (t : ℕ) : Fin 64 := ⟨(B t).toNat % 64, Nat.mod_lt _ (by decide)⟩
/-- The slot of the run that comes after `k` runs. -/
def slotOf (k : ℕ) : Fin 2 := ⟨k % 2, Nat.mod_lt _ (by decide)⟩

theorem slot_flip (k : ℕ) : slotOf (k + 1) = 1 - slotOf k := by
  rcases Nat.mod_two_eq_zero_or_one k with h | h
  · rw [show slotOf k = 0 from Fin.ext h, show slotOf (k + 1) = 1 from Fin.ext (by show (k + 1) % 2 = 1; omega)]; rfl
  · rw [show slotOf k = 1 from Fin.ext h, show slotOf (k + 1) = 0 from Fin.ext (by show (k + 1) % 2 = 0; omega)]; rfl

/-- Block `t` begins an expert's run: it is in use, and the block before it, if any, is another expert's. -/
def heads (B : ℕ → BitVec 32) (n : BitVec 32) (t : ℕ) : Prop :=
  t < 193 ∧ (BitVec.ofNat 32 t).slt n = true ∧ (t = 0 ∨ B t ≠ B (t - 1))

/-- The transfer under way before point `t`: the next run's expert, into the slots in turn. -/
def pendOf (B : ℕ → BitVec 32) (P : ℕ → Prop) (t : ℕ) : Option (Fin 64 × Fin 2) :=
  (nxt P t).map fun q => (expert B q, slotOf (cnt P t))

open Classical in
/-- The expert whose matrices are held before point `t`: the last run's to have begun. -/
def curOf (B : ℕ → BitVec 32) (P : ℕ → Prop) : ℕ → Fin 64
  | 0 => 0
  | t + 1 => if P t then expert B t else curOf B P t

theorem word_expert {B : ℕ → BitVec 32} {t : ℕ} (h : (B t).toNat < 64) : B t = word (expert B t) := by
  apply BitVec.eq_of_toNat_eq
  show _ = (BitVec.ofNat 32 ((B t).toNat % 64)).toNat
  rw [BitVec.toNat_ofNat, Nat.mod_eq_of_lt h, Nat.mod_eq_of_lt (by omega)]

theorem sched_of (T : Tables) (B : ℕ → BitVec 32) (P : ℕ → Prop) (hB : ∀ t : Fin 193, T.be (ent t) = B t.val)
    (hr : ∀ t, t < 193 → (B t).toNat < 64) (hP : ∀ t, P t → t < 193) (h0 : P 0)
    (hfi : ∀ t : Fin 193, T.fi (ent t) = 1#32 ↔ P t.val)
    (hsl : ∀ t : Fin 193, P t.val → T.sl (ent t) = BitVec.ofNat 32 (cnt P t.val % 2))
    (hnx : ∀ t : Fin 193, T.nx (ent t) = match nxt P (t.val + 1) with | none => 4294967295#32 | some q => B q) :
    Sched T (pendOf B P) (curOf B P) where
  first0 := (hfi 0).2 h0
  start := ⟨expert B 0, by rw [hB]; exact word_expert (hr 0 (by decide)), by unfold pendOf; rw [nxt_self h0]; rfl⟩
  load t ht := by
    have hPt := (hfi t).1 ht
    refine ⟨expert B t.val, slotOf (cnt P t.val), (nxt P (t.val + 1)).map (expert B), ?_, hsl t hPt, ?_, ?_, ?_, ?_⟩
    · rw [hB]; exact word_expert (hr _ t.isLt)
    · unfold pendOf; rw [nxt_self hPt]; rfl
    · exact if_pos hPt
    · unfold pendOf
      rw [cnt_pos hPt, slot_flip, Option.map_map]
      rfl
    · rw [hnx]
      rcases nxt_cases P (t.val + 1) with ⟨e, hn⟩ | ⟨q, e, hq, hPq, hm⟩
      · rw [e]; rfl
      · rw [e]; exact word_expert (hr _ (hP _ hPq))
  keep t ht := by
    have hPt := fun h => ht ((hfi t).2 h)
    refine ⟨?_, if_neg hPt⟩
    unfold pendOf
    rw [cnt_neg hPt, nxt_step hPt]
  last := by
    unfold pendOf
    rw [nxt_none fun r hr hPr => absurd (hP r hPr) (by omega)]
    rfl

/-- A block in use is computed with its own expert's matrices. -/
theorem cur_expert (B : ℕ → BitVec 32) (n : BitVec 32) (t : ℕ) (ht : t < 193) (hn : (BitVec.ofNat 32 t).slt n = true) :
    curOf B (heads B n) (t + 1) = expert B t := by
  induction t with
  | zero => exact if_pos ⟨ht, hn, .inl rfl⟩
  | succ t ih =>
    by_cases h : heads B n (t + 1)
    · exact if_pos h
    · have he : B (t + 1) = B t := by
        by_contra hne
        exact h ⟨ht, hn, .inr hne⟩
      have hn' : (BitVec.ofNat 32 t).slt n = true := by
        rw [BitVec.slt_iff_toInt_lt] at hn ⊢
        rw [WordCmp.toInt_ofNat_of_lt (by omega)] at hn ⊢
        omega
      refine (if_neg h).trans ((ih (by omega) hn').trans ?_)
      exact Fin.ext (by show _ % 64 = _ % 64; rw [he])

end Cert.ExpertsIdeal.Hand
-- ==== Proof.ExpertsTables.lean ====
/-
  The tables the host computes for the region: where an expert's run of blocks begins, the slot of its matrices, and the
  expert of the run after it; and the schedule they spell.
-/
module

public import proofs.«01_k».proof.Proof.ExpertsFrame
public import proofs.«01_k».proof.Proof.ExpertsOrder
public import Idealize.ShloMosaic.Lib.StableHlo.ReadAt
public import Idealize.ShloMosaic.Lib.Routing.OpsSet

@[expose] public section

noncomputable section

namespace Cert.ExpertsIdeal.Hand

open Cert.ExpertsIdeal Cert.ExpertsIdeal.Gen
open Idealize.ShloMosaic Idealize.ShloMosaic.TcCoe Idealize.ShloMosaic.Tactic

variable {F : FTy → Type} [FloatOps F]
variable (m : (ℓ : Loc nD τ sig) → Buf (Elt F) ℓ) (c : Dev nD)

/-! ## The operations, read -/

/-- What the operations up to the running minimum leave. -/
def mid : Valuation τ sig (Elt F) := StableHlo.after
  (hostOps0 ++ hostOps0_1 ++ hostOps0_2 ++ hostOps0_3 ++ hostOps0_4 ++ hostOps0_5 ++ hostOps0_6 ++ hostOps0_7) (fun b => m (c, b))

theorem after_both (k l : List (HloOp τ sig (Elt F))) (X : Valuation τ sig (Elt F)) :
    StableHlo.after (k ++ l) X = StableHlo.after l (StableHlo.after k X) := by
  induction k generalizing X with
  | nil => rfl
  | cons op k ih => exact ih _

theorem V_mid (b : Ref sig .tc) : V m c b = StableHlo.after (hostOps0_8 ++ hostOps0_9 ++ hostOps0_10) (mid m c) (Proc.devRef .tc b) := by
  unfold V mid
  rw [← after_both]
  simp only [opss, List.flatten_cons, List.flatten_nil, List.append_nil, List.append_assoc]

theorem ent_ix1 (t : Fin 193) : ent t = Idealize.ShloMosaic.ix1 t := by
  funext a
  match a with
  | ⟨0, _⟩ => rfl

theorem ent_vix1 (t : Fin 193) : ent t = Idealize.ShloMosaic.ValueIdx.ix1 t := by
  funext a
  match a with
  | ⟨0, _⟩ => rfl
theorem ent0_ix1 : ent0 = Idealize.ShloMosaic.ix1 0 := by
  funext a
  match a with
  | ⟨0, _⟩ => rfl

theorem v3_eq : V m c main_v3 = concatenate S193 0 [⟨S1, extractStridedSlice S1 ![0] (m (c.tc.loc main_arg1)) slices_S193_S1_0⟩,
    ⟨S192, extractStridedSlice S192 ![0] (m (c.tc.loc main_arg1)) slices_S193_S192_0⟩] concatenates_S1_S192_S193_d0 := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  rfl

theorem v11_eq : V m c main_v11 = (andi (cmpi .slt (iotaInDim S193 32 0) (broadcastInDim S193 ![] bcast_S_S193 (shapeCast S_ (m (c.tc.loc main_arg2)) shapeCasts_S1_S_)))
    (ori (cmpi .eq (iotaInDim S193 32 0) (broadcastInDim S193 ![] bcast_S_S193 (constantI S_ 32 0#32))) (cmpi .ne (m (c.tc.loc main_arg1)) (V m c main_v3))) : IVec S193 1) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  try rfl

theorem v34_eq : V m c main_v34 = extui 32 (V m c main_v11) natLt_1_32 := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp

theorem v13_eq : V m c main_v13 = Host.reduceWindow IntOp.addi ![193] ![1] ![192] ![0] (extui 32 (V m c main_v11) natLt_1_32)
    (broadcastInDim S_ ![] bcast_S_S_ (constantI S_ 32 0#32)) reduceWindows_S193_S193_w193s1p192_0 h_S_ := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  all_goals simp -implicitDefEqProofs only [StableHlo.TRef.toBuf, StableHlo.TRef.ofBuf, cast_cast, cast_eq]

/-- A word less one, taken modulo two as the host takes it. -/
def parity (W : BitVec 32) : BitVec 32 :=
  Scalar.select
    (IntOp.andi (IntOp.cmpi .ne (IntOp.cmpi .slt (IntOp.remsi .host (IntOp.subi W 1#32) 2#32) 0#32) (IntOp.cmpi .slt 2#32 0#32))
      (IntOp.cmpi .ne (IntOp.remsi .host (IntOp.subi W 1#32) 2#32) 0#32))
    (IntOp.addi (IntOp.remsi .host (IntOp.subi W 1#32) 2#32) 2#32)
    (IntOp.remsi .host (IntOp.subi W 1#32) 2#32)

theorem parity_at (k : Fin 194) : parity (BitVec.ofNat 32 (k.val + 1)) = BitVec.ofNat 32 (k.val % 2) := by
  revert k
  decide +kernel

theorem v16_at (t : Fin 193) : V m c main_v16 (ent t) = parity (V m c main_v13 (ent t)) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  generalize Host.reduceWindow _ _ _ _ _ _ _ _ _ _ = W
  rfl

theorem v17_eq : V m c main_v17 = select (V m c main_v11) (iotaInDim S193 32 0) (broadcastInDim S193 ![] bcast_S_S193 (constantI S_ 32 193#32)) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  try simp -implicitDefEqProofs only [StableHlo.TRef.toBuf, StableHlo.TRef.ofBuf, cast_cast, cast_eq]
  try rfl

/-- What the operations before the shifted table leave. -/
def early : Valuation τ sig (Elt F) := StableHlo.after
  (hostOps0 ++ hostOps0_1 ++ hostOps0_2 ++ hostOps0_3 ++ hostOps0_4 ++ hostOps0_5) (fun b => m (c, b))

theorem V_early (b : Ref sig .tc) : V m c b
    = StableHlo.after (hostOps0_6 ++ hostOps0_7 ++ hostOps0_8 ++ hostOps0_9 ++ hostOps0_10) (early m c) (Proc.devRef .tc b) := by
  unfold V early
  rw [← after_both]
  simp only [opss, List.flatten_cons, List.flatten_nil, List.append_nil, List.append_assoc]

theorem v20_eq : V m c main_v20 = concatenate S193 0 [⟨S192, extractStridedSlice S192 ![1] (V m c main_v17) slices_S193_S192_1⟩,
    ⟨S1, broadcastInDim S1 ![] bcast_S_S1 (constantI S_ 32 193#32)⟩] concatenates_S192_S1_S193_d0 := by
  have e : V m c main_v17 = early m c (Proc.devRef .tc main_v17) := by
    rw [V_early]
    generalize early m c = X
    simp only [hostOps0_6, hostOps0_7, hostOps0_8, hostOps0_9, hostOps0_10, List.cons_append, List.nil_append]
    after_reads_simp
  rw [e, V_early]
  generalize early m c = X
  simp only [hostOps0_6, hostOps0_7, hostOps0_8, hostOps0_9, hostOps0_10, List.cons_append, List.nil_append]
  after_reads_simp
  rfl

theorem v21_eq : V m c main_v21 = Host.reduceWindow IntOp.minsi ![193] ![1] ![0] ![192] (V m c main_v20)
    (broadcastInDim S_ ![] bcast_S_S_ (constantI S_ 32 2147483647#32)) reduceWindows_S193_S193_w193s1p0_192 h_S_ := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  all_goals simp -implicitDefEqProofs only [StableHlo.TRef.toBuf, StableHlo.TRef.ofBuf, cast_cast, cast_eq]

theorem v33_at (t : Fin 193) : V m c main_v33 (ent t)
    = Scalar.select (IntOp.cmpi .slt (V m c main_v21 (ent t)) 193#32) (V m c main_v32 (ent t)) 4294967295#32 := by
  simp only [V_mid]
  generalize mid m c = X
  simp only [hostOps0_8, hostOps0_9, hostOps0_10, List.cons_append, List.nil_append]
  after_reads_at
  try rfl

theorem v31_at (t : Fin 193) : V m c main_v31 (Idealize.ShloMosaic.ix2 t (0 : Fin 1))
    = Scalar.select (IntOp.cmpi .slt (IntOp.minsi (V m c main_v21 (ent t)) 192#32) 0#32)
      (IntOp.addi (IntOp.minsi (V m c main_v21 (ent t)) 192#32) 193#32) (IntOp.minsi (V m c main_v21 (ent t)) 192#32) := by
  simp only [V_mid]
  generalize mid m c = X
  simp only [hostOps0_8, hostOps0_9, hostOps0_10, List.cons_append, List.nil_append]
  after_reads_at
  rw [ent_ix1]
  try rfl

theorem v32_eq : V m c main_v32 = Host.gather gather_S193_S193x1_S193_n_0_n_n_0_1_1 (m (c.tc.loc main_arg1)) (V m c main_v31) := by
  rw [← V_arg1 m c]
  simp only [V_mid]
  generalize mid m c = X
  simp only [hostOps0_8, hostOps0_9, hostOps0_10, List.cons_append, List.nil_append]
  after_reads_simp

/-! ## Their entries -/

/-- A table's entries, as a sequence. -/
def seqOf (x : S193.Idx → BitVec 32) (t : ℕ) : BitVec 32 := if h : t < 193 then x (ent ⟨t, h⟩) else 0#32

theorem seqOf_at (x : S193.Idx → BitVec 32) (t : Fin 193) : x (ent t) = seqOf x t.val := by
  unfold seqOf
  rw [dif_pos t.isLt]

theorem before_at (x : IVec S193 32) (t : Fin 193) (h : 0 < t.val) :
    concatenate S193 0 [⟨S1, extractStridedSlice S1 ![0] x slices_S193_S1_0⟩, ⟨S192, extractStridedSlice S192 ![0] x slices_S193_S192_0⟩] concatenates_S1_S192_S193_d0 (ent t)
      = x (ent ⟨t.val - 1, by omega⟩) := by
  pointwise
  rw [dif_neg (by omega)]
  exact congrArg x (ent_ix1 _).symm

theorem shift_at (x : IVec S193 32) (t : Fin 193) :
    concatenate S193 0 [⟨S192, extractStridedSlice S192 ![1] x slices_S193_S192_1⟩, ⟨S1, broadcastInDim S1 ![] bcast_S_S1 (constantI S_ 32 193#32)⟩] concatenates_S192_S1_S193_d0 (ent t)
      = if h : t.val + 1 < 193 then x (ent ⟨t.val + 1, h⟩) else 193#32 := by
  pointwise
  by_cases h : t.val < 192
  · rw [dif_pos h, dif_pos (by omega)]
    exact congrArg x ((congrArg Idealize.ShloMosaic.ix1 (Fin.ext (Nat.add_comm _ _))).trans (ent_ix1 _).symm)
  · rw [dif_neg h, dif_neg (by omega)]

/-- The running minimum's fold: one of the values, and at most each of them. -/
theorem foldl_min' {ι : Type} (f : ι → BitVec 32) (l : List ι) (v : BitVec 32) :
    ((l.foldl (fun r n => IntOp.minsi r (f n)) v) = v ∨ ∃ n ∈ l, (l.foldl (fun r n => IntOp.minsi r (f n)) v) = f n)
      ∧ (l.foldl (fun r n => IntOp.minsi r (f n)) v).toInt ≤ v.toInt
      ∧ ∀ n ∈ l, (l.foldl (fun r n => IntOp.minsi r (f n)) v).toInt ≤ (f n).toInt := by
  induction l generalizing v with
  | nil => exact ⟨.inl rfl, le_rfl, fun n hn => absurd hn List.not_mem_nil⟩
  | cons a l ih =>
    rw [List.foldl_cons]
    obtain ⟨h1, h2, h3⟩ := ih (IntOp.minsi v (f a))
    have hle : (IntOp.minsi v (f a)).toInt ≤ v.toInt ∧ (IntOp.minsi v (f a)).toInt ≤ (f a).toInt ∧ (IntOp.minsi v (f a) = v ∨ IntOp.minsi v (f a) = f a) := by
      unfold IntOp.minsi
      split
      · next h => rw [BitVec.slt_iff_toInt_lt] at h; exact ⟨le_rfl, by omega, .inl rfl⟩
      · next h => rw [BitVec.slt_iff_toInt_lt] at h; exact ⟨by omega, le_rfl, .inr rfl⟩
    refine ⟨?_, by omega, fun n hn => ?_⟩
    · rcases h1 with h1 | ⟨n, hn, h1⟩
      · rcases hle.2.2 with e | e
        · exact .inl (h1.trans e)
        · exact .inr ⟨a, List.mem_cons_self, h1.trans e⟩
      · exact .inr ⟨n, List.mem_cons_of_mem _ hn, h1⟩
    · rcases List.mem_cons.mp hn with rfl | hn
      · omega
      · exact h3 n hn

theorem foldl_min {ι : Type} (f : ι → BitVec 32) (l : List ι) (v R : BitVec 32) (h : l.foldl (fun r n => IntOp.minsi r (f n)) v = R) :
    (R = v ∨ ∃ n ∈ l, R = f n) ∧ R.toInt ≤ v.toInt ∧ ∀ n ∈ l, R.toInt ≤ (f n).toInt := h ▸ foldl_min' f l v

set_option maxHeartbeats 1000000 in
theorem cummin_at {N K : ℕ} (hN : K + 1 = N) (x : IVec (Routing.shape1 N) 32) (init : IVec Routing.shape0 32) (v : BitVec 32)
    (h : (Routing.shape1 N).ReduceWindows (![N] : Fin 1 → ℕ) ![1] ![0] ![K] (Routing.shape1 N)) (hu : 0 < Routing.shape0.numel)
    (hinit : init (Shape.Idx.first hu) = v) (j : Fin N) :
    (Host.reduceWindow IntOp.minsi ![N] ![1] ![0] ![K] x init h hu (Idealize.ShloMosaic.ix1 j) = v
      ∨ ∃ i : Fin N, j.val ≤ i.val ∧ Host.reduceWindow IntOp.minsi ![N] ![1] ![0] ![K] x init h hu (Idealize.ShloMosaic.ix1 j) = x (Idealize.ShloMosaic.ix1 i))
    ∧ ∀ i : Fin N, j.val ≤ i.val →
      (Host.reduceWindow IntOp.minsi ![N] ![1] ![0] ![K] x init h hu (Idealize.ShloMosaic.ix1 j)).toInt ≤ (x (Idealize.ShloMosaic.ix1 i)).toInt := by
  subst hinit
  have hw : ∀ n : Fin (Routing.shape1 N).numel, ((Routing.shape1 N).rowMajor.symm n (0 : Fin 1)).val = n.val := fun n => by
    rw [Routing.symm1 n]; rfl
  have hj := j.isLt
  generalize hR : Host.reduceWindow IntOp.minsi _ _ _ _ x init h hu (Idealize.ShloMosaic.ix1 j) = R
  unfold Host.reduceWindow at hR
  dsimp only at hR
  obtain ⟨h1, h2, h3⟩ := foldl_min _ _ _ R hR
  refine ⟨?_, fun i hi => ?_⟩
  · rcases h1 with h1 | ⟨n, _, h1⟩
    · exact .inl h1
    · split at h1
      · next hin =>
        have h0 := (hin 0).2
        change j.val * 1 + ((Routing.shape1 N).rowMajor.symm n (0 : Fin 1)).val - 0 < N at h0
        refine .inr ⟨⟨_, h0⟩, ?_, h1.trans (congrArg x (funext fun a => Fin.ext ?_))⟩
        · show j.val ≤ j.val * 1 + _ - 0
          omega
        · match a with
          | ⟨0, _⟩ => rfl
      · exact .inl h1
  · have hn : i.val - j.val < (Routing.shape1 N).numel := by rw [Routing.numel1]; omega
    refine (h3 ⟨i.val - j.val, hn⟩ (List.mem_finRange _)).trans (le_of_eq (congrArg BitVec.toInt ?_))
    rw [dif_pos]
    · refine congrArg x (funext fun a => Fin.ext ?_)
      match a with
      | ⟨0, _⟩ =>
        show j.val * 1 + ((Routing.shape1 N).rowMajor.symm _ (0 : Fin 1)).val - 0 = i.val
        rw [hw]
        show j.val * 1 + (i.val - j.val) - 0 = i.val
        omega
    · intro a
      match a with
      | ⟨0, _⟩ =>
        show 0 ≤ j.val * 1 + ((Routing.shape1 N).rowMajor.symm _ (0 : Fin 1)).val ∧ j.val * 1 + ((Routing.shape1 N).rowMajor.symm _ (0 : Fin 1)).val - 0 < N
        rw [hw]
        show 0 ≤ j.val * 1 + (i.val - j.val) ∧ j.val * 1 + (i.val - j.val) - 0 < N
        omega

/-- The experts of the blocks, as a sequence. -/
abbrev blk : ℕ → BitVec 32 := seqOf (m (c.tc.loc main_arg1))
/-- The number of blocks in use. -/
abbrev used : BitVec 32 := (m (c.tc.loc main_arg2) : S1.Idx → BitVec 32) ent0
/-- Where the runs begin. -/
abbrev runs : ℕ → Prop := heads (blk m c) (used m c)

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem wide_one (a : BitVec 1) : a.setWidth 32 = 1#32 ↔ a = 1#1 := by revert a; decide
theorem wide_bit (a : BitVec 1) (p : Prop) [Decidable p] (h : a = 1#1 ↔ p) : a.setWidth 32 = BitVec.ofNat 32 (if p then 1 else 0) := by
  by_cases hp : p
  · rw [if_pos hp, h.2 hp]; rfl
  · rw [if_neg hp]
    have : a ≠ 1#1 := fun e => hp (h.1 e)
    have key : ∀ a : BitVec 1, a ≠ 1#1 → a.setWidth 32 = 0#32 := by decide
    exact key a this
theorem ofBool_one (b : Bool) : BitVec.ofBool b = 1#1 ↔ b = true := by cases b <;> decide

theorem v11_iff (t : Fin 193) : V m c main_v11 (ent t) = (1#1 : BitVec 1) ↔ runs m c t.val := by
  have hv : V m c main_v11 (ent t) = IntOp.andi (IntOp.cmpi .slt (BitVec.ofNat 32 t.val) (used m c))
      (IntOp.ori (IntOp.cmpi .eq (BitVec.ofNat 32 t.val) 0#32) (IntOp.cmpi .ne ((m (c.tc.loc main_arg1) : S193.Idx → BitVec 32) (ent t)) ((V m c main_v3 : S193.Idx → BitVec 32) (ent t)))) := by
    rw [v11_eq]
    generalize V m c main_v3 = W
    rw [show used m c = (m (c.tc.loc main_arg2) : S1.Idx → BitVec 32) (Idealize.ShloMosaic.ix1 0) from congrArg _ ent0_ix1]
    pointwise
  rw [hv, and_one, or_one]
  unfold IntOp.cmpi
  simp only [ofBool_one, beq_iff_eq, bne_iff_ne]
  have ht := t.isLt
  unfold runs heads
  by_cases h0 : t.val = 0
  · rw [h0]
    simp
  · have h3 : (V m c main_v3 : S193.Idx → BitVec 32) (ent t) = blk m c (t.val - 1) := by
      rw [v3_eq]
      exact (before_at _ t (by omega)).trans (seqOf_at _ ⟨t.val - 1, by omega⟩)
    rw [h3, show (m (c.tc.loc main_arg1) : S193.Idx → BitVec 32) (ent t) = blk m c t.val from seqOf_at _ t]
    have hz : ¬ BitVec.ofNat 32 t.val = 0#32 := fun e => h0 (by
      have := congrArg BitVec.toNat e
      rw [BitVec.toNat_ofNat, Nat.mod_eq_of_lt (by omega)] at this
      exact this)
    simp only [hz, h0, ht, false_or, true_and]

theorem v34_iff (t : Fin 193) : (V m c main_v34 : S193.Idx → BitVec 32) (ent t) = 1#32 ↔ runs m c t.val := by
  rw [v34_eq]
  exact (wide_one _).trans (v11_iff m c t)

open Classical in
theorem v13_at (t : Fin 193) : (V m c main_v13 : S193.Idx → BitVec 32) (ent t) = BitVec.ofNat 32 (cnt (runs m c) (t.val + 1)) := by
  rw [v13_eq, ent_vix1]
  exact Routing.cumsum1 (Nm1 := 192) rfl _ (fun i => if runs m c i then 1 else 0)
    (fun i => by rw [← ent_vix1]; exact wide_bit _ _ (v11_iff m c i)) _ rfl _ _ t

theorem v16_of (t : Fin 193) (h : runs m c t.val) : (V m c main_v16 : S193.Idx → BitVec 32) (ent t) = BitVec.ofNat 32 (cnt (runs m c) t.val % 2) := by
  rw [v16_at, v13_at, cnt_pos h]
  exact parity_at ⟨cnt (runs m c) t.val, by have := cnt_le (runs m c) t.val; have := t.isLt; omega⟩

open Classical in
theorem v20_at (t : Fin 193) : (V m c main_v20 : S193.Idx → BitVec 32) (ent t) = if runs m c (t.val + 1) then BitVec.ofNat 32 (t.val + 1) else 193#32 := by
  rw [v20_eq]
  refine (shift_at _ t).trans ?_
  by_cases h : t.val + 1 < 193
  · rw [dif_pos h, v17_eq]
    refine (?_ : Scalar.select (V m c main_v11 (ent ⟨t.val + 1, h⟩) : BitVec 1) (BitVec.ofNat 32 (t.val + 1)) 193#32 = _)
    unfold Scalar.select
    have e := v11_iff m c ⟨t.val + 1, h⟩
    by_cases hp : runs m c (t.val + 1)
    · rw [if_pos hp]; exact if_pos (e.2 hp)
    · rw [if_neg hp]; exact if_neg fun h' => hp (e.1 h')
  · rw [dif_neg h, if_neg fun hp => h hp.1]

theorem v21_at (t : Fin 193) : (V m c main_v21 : S193.Idx → BitVec 32) (ent t)
    = match nxt (runs m c) (t.val + 1) with | none => 193#32 | some q => BitVec.ofNat 32 q := by
  classical
  have key := cummin_at (K := 192) rfl (V m c main_v20) (broadcastInDim S_ ![] bcast_S_S_ (constantI S_ 32 2147483647#32)) 2147483647#32
    reduceWindows_S193_S193_w193s1p0_192 h_S_ rfl t
  have hR : (V m c main_v21 : S193.Idx → BitVec 32) (ent t) = Host.reduceWindow IntOp.minsi ![193] ![1] ![0] ![192] (V m c main_v20)
    (broadcastInDim S_ ![] bcast_S_S_ (constantI S_ 32 2147483647#32)) reduceWindows_S193_S193_w193s1p0_192 h_S_ (Idealize.ShloMosaic.ix1 t) := by
    rw [v21_eq, ent_ix1]
  rw [← hR] at key
  generalize (V m c main_v21 : S193.Idx → BitVec 32) (ent t) = R at key ⊢
  obtain ⟨h1, h2⟩ := key
  have ht := t.isLt
  have hx : ∀ i : Fin 193, (V m c main_v20 : S193.Idx → BitVec 32) (Idealize.ShloMosaic.ix1 i) = if runs m c (i.val + 1) then BitVec.ofNat 32 (i.val + 1) else 193#32 :=
    fun i => by rw [← ent_ix1]; exact v20_at m c i
  have hti : ∀ k : ℕ, k < 193 → (BitVec.ofNat 32 k).toInt = k := fun k hk => WordCmp.toInt_ofNat_of_lt (by omega)
  have hlast := h2 ⟨192, by decide⟩ (by show t.val ≤ 192; omega)
  rw [hx, if_neg fun hp => absurd hp.1 (by decide), show (193#32 : BitVec 32).toInt = 193 from rfl] at hlast
  rcases nxt_cases (runs m c) (t.val + 1) with ⟨e, hn⟩ | ⟨q, e, hq, hP, hm⟩
  · rw [e]
    rcases h1 with h1 | ⟨i, hi, h1⟩
    · rw [h1] at hlast
      exact absurd hlast (by decide)
    · rw [hx, if_neg (hn _ (by omega))] at h1
      exact h1
  · rw [e]
    have hq' := hP.1
    have hb := h2 ⟨q - 1, by omega⟩ (by show t.val ≤ q - 1; omega)
    rw [hx, show q - 1 + 1 = q by omega, if_pos hP, hti q hq'] at hb
    rcases h1 with h1 | ⟨i, hi, h1⟩
    · rw [h1] at hlast
      exact absurd hlast (by decide)
    · rw [hx] at h1
      by_cases hp : runs m c (i.val + 1)
      · rw [if_pos hp] at h1
        have hle := hm _ (by omega) hp
        have hlt := hp.1
        rw [h1, hti _ hlt] at hb
        rw [h1, show i.val + 1 = q by omega]
      · rw [if_neg hp] at h1
        rw [h1, show (193#32 : BitVec 32).toInt = 193 from rfl] at hb
        omega

theorem clamp_at (q : Fin 193) : Scalar.select (IntOp.cmpi .slt (IntOp.minsi (BitVec.ofNat 32 q.val) 192#32) 0#32)
      (IntOp.addi (IntOp.minsi (BitVec.ofNat 32 q.val) 192#32) 193#32) (IntOp.minsi (BitVec.ofNat 32 q.val) 192#32) = BitVec.ofNat 32 q.val := by
  revert q
  decide +kernel
theorem inside_at (q : Fin 193) : IntOp.cmpi .slt (BitVec.ofNat 32 q.val) 193#32 = 1#1 := by
  revert q
  decide +kernel

theorem v33_of (t : Fin 193) : (V m c main_v33 : S193.Idx → BitVec 32) (ent t)
    = match nxt (runs m c) (t.val + 1) with | none => 4294967295#32 | some q => blk m c q := by
  rw [v33_at]
  rcases nxt_cases (runs m c) (t.val + 1) with ⟨e, hn⟩ | ⟨q, e, hq, hP, hm⟩
  · rw [v21_at, e]
    exact if_neg (by show ¬ IntOp.cmpi .slt 193#32 193#32 = 1; decide)
  · have h21 := v21_at m c t
    rw [e] at h21 ⊢
    have hi : (V m c main_v31 : S193x1.Idx → BitVec 32) (Idealize.ShloMosaic.ix2 t (0 : Fin 1)) = BitVec.ofNat 32 q := by
      rw [v31_at, h21]
      exact clamp_at ⟨q, hP.1⟩
    rw [h21]
    refine (if_pos (inside_at ⟨q, hP.1⟩)).trans ?_
    rw [v32_eq, ent_vix1]
    refine (Routing.gather_take1 _ rfl rfl rfl rfl _ _ t ⟨q, hP.1⟩ hi (by decide)).trans ?_
    rw [← ent_vix1]
    exact seqOf_at _ ⟨q, hP.1⟩

/-! ## The schedule -/

/-- The experts named are experts, and some block is in use. -/
structure InUse : Prop where
  used_pos : (0#32 : BitVec 32).slt (used m c) = true
  named : ∀ t : Fin 193, ((m (c.tc.loc main_arg1) : S193.Idx → BitVec 32) (ent t)).toNat < 64

theorem tb_be : (tb m c).be = V m c main_arg1 := by
  unfold tb
  dsimp only
theorem tb_fi : (tb m c).fi = V m c main_v34 := by
  unfold tb
  dsimp only
theorem tb_sl : (tb m c).sl = V m c main_v16 := by
  unfold tb
  dsimp only
theorem tb_nx : (tb m c).nx = V m c main_v33 := by
  unfold tb
  dsimp only

theorem sched (h : InUse m c) : Sched (tb m c) (pendOf (blk m c) (runs m c)) (curOf (blk m c) (runs m c)) := by
  refine sched_of _ _ _ (fun t => ?_) (fun t ht => ?_) (fun t ht => ht.1) ⟨Nat.succ_pos _, h.used_pos, .inl rfl⟩ (fun t => ?_) (fun t ht => ?_) (fun t => ?_)
  · rw [tb_be, V_arg1]; exact seqOf_at _ t
  · rw [show blk m c t = (m (c.tc.loc main_arg1) : S193.Idx → BitVec 32) (ent ⟨t, ht⟩) from (seqOf_at _ ⟨t, ht⟩).symm]
    exact h.named ⟨t, ht⟩
  · rw [tb_fi]; exact v34_iff m c t
  · rw [tb_sl]; exact v16_of m c t ht
  · rw [tb_nx]; exact v33_of m c t

end Cert.ExpertsIdeal.Hand
-- ==== Proof.ExpertsRef.lean ====
/- The routed experts' reference, read at an entry: a block of rows through the gated feed-forward of the block's expert. -/
module

public import proofs.«01_k».proof.Proof.Gen.RoutedIdeal.Read
public import Idealize.ShloMosaic.Lib.Pointwise
public import Idealize.ShloMosaic.Lib.Pipeline.ValueKit
public import Idealize.ShloMosaic.Lib.StableHlo.Predicate

@[expose] public section

set_option maxRecDepth 16384

noncomputable section

namespace Cert.RoutedIdeal.Hand

open Cert.RoutedIdeal Cert.RoutedIdeal.Read Idealize.ShloMosaic Idealize.ShloMosaic.TcCoe

/-! ## One matrix of a stack for every block -/

/-- The stack of the matrices named by the blocks, read at an entry. -/
theorem stack_at {α : Type} {N P Q R : Nat} (d : GatherDims ⟨3, ![N, P, Q]⟩ ⟨2, ![R, 1]⟩ ⟨3, ![R, P, Q]⟩) (hoff : d.offsetDims = [1, 2])
    (hcoll : d.collapsedSliceDims = [0]) (hob : d.operandBatchingDims = []) (hsim : d.startIndexMap = [0]) (hivd : d.indexVectorDim = 1)
    (x : (⟨3, ![N, P, Q]⟩ : Shape).Idx → α) (idx : IVec ⟨2, ![R, 1]⟩ 32) (r : Fin R) (p : Fin P) (q : Fin Q) (b : Fin N)
    (hb : idx (ix2 r 0) = BitVec.ofNat 32 b.val) (hN : N < 2 ^ 31) :
    Host.gather d x idx (ix3 r p q) = x (ix3 b p q) := by
  have hB : ∀ a', a' ∉ d.operandBatchingDims := fun a' => by rw [hob]; exact List.not_mem_nil
  have hkept : d.sKept = [1, 2] := by unfold GatherDims.sKept; rw [hcoll, hob]; rfl
  have hbatch : d.batchDims = [0] := by unfold GatherDims.batchDims; rw [hoff]; rfl
  have n0 : (0 : Fin 3) ∉ ([1, 2] : List (Fin 3)) := by decide
  have n1 : (1 : Fin 3) ∈ ([1, 2] : List (Fin 3)) := by decide
  have n2 : (2 : Fin 3) ∈ ([1, 2] : List (Fin 3)) := by decide
  have n3 : (1 : Fin 3) ∉ ([0] : List (Fin 3)) := by decide
  have n4 : (2 : Fin 3) ∉ ([0] : List (Fin 3)) := by decide
  unfold Host.gather
  refine congrArg x (funext fun a => Fin.ext ?_)
  match a with
  | ⟨0, _⟩ =>
    have hk : (0 : Fin 3) ∉ d.sKept := by rw [hkept]; exact n0
    have hm : (0 : Fin 3) ∈ d.startIndexMap := by rw [hsim]; exact List.mem_singleton.2 rfl
    have hsl : d.sliceSizes 0 = 1 := d.slice_collapsed 0 (by rw [hcoll]; exact List.mem_singleton.2 rfl)
    show d.start (ix3 r p q) idx 0 + d.batchCoord (ix3 r p q) 0 + d.offCoord (ix3 r p q) 0 = b.val
    rw [d.batchCoord_eq_zero _ _ (hB 0), d.offCoord_eq_zero _ _ hk]
    simp only [Nat.add_zero]
    unfold GatherDims.start
    rw [dif_pos hm]
    have hsi : d.siIdx (ix3 r p q) ⟨d.startIndexMap.idxOf 0, List.idxOf_lt_length_iff.2 hm⟩ = ix2 r 0 := by
      funext b'
      refine Fin.ext ?_
      match b' with
      | ⟨0, _⟩ =>
        unfold GatherDims.siIdx
        rw [dif_neg (by rw [hivd]; exact Nat.zero_ne_one)]
        unfold GatherDims.siCoord
        have h0 : ∀ X : Fin 3, X ∈ d.batchDims → (ix3 r p q X).val = r.val := fun X h => by
          rw [hbatch, List.mem_singleton] at h; subst h; rfl
        exact h0 _ (List.getElem_mem _)
      | ⟨1, _⟩ =>
        unfold GatherDims.siIdx
        rw [dif_pos (by rw [hivd])]
        show List.idxOf (0 : Fin 3) d.startIndexMap = 0
        rw [hsim]; rfl
    have hbl := b.isLt
    rw [hsi, hb, hsl, StableHlo.Predicate.toInt_ofNat_small _ (by omega)]
    show min ((b.val : Int)).toNat (N - 1) = b.val
    omega
  | ⟨1, _⟩ =>
    have hk : (1 : Fin 3) ∈ d.sKept := by rw [hkept]; exact n1
    have hm : (1 : Fin 3) ∉ d.startIndexMap := by rw [hsim]; exact n3
    show d.start (ix3 r p q) idx 1 + d.batchCoord (ix3 r p q) 1 + d.offCoord (ix3 r p q) 1 = p.val
    rw [d.batchCoord_eq_zero _ _ (hB 1), Nat.add_zero]
    unfold GatherDims.start GatherDims.offCoord
    rw [dif_neg hm, dif_pos hk, Nat.zero_add]
    have h1 : ∀ X : Fin 3, X = 1 → (ix3 r p q X).val = p.val := fun X h => by subst h; rfl
    refine h1 _ ?_
    simp only [hkept, hoff]
    rfl
  | ⟨2, _⟩ =>
    have hk : (2 : Fin 3) ∈ d.sKept := by rw [hkept]; exact n2
    have hm : (2 : Fin 3) ∉ d.startIndexMap := by rw [hsim]; exact n4
    show d.start (ix3 r p q) idx 2 + d.batchCoord (ix3 r p q) 2 + d.offCoord (ix3 r p q) 2 = q.val
    rw [d.batchCoord_eq_zero _ _ (hB 2), Nat.add_zero]
    unfold GatherDims.start GatherDims.offCoord
    rw [dif_neg hm, dif_pos hk, Nat.zero_add]
    have h1 : ∀ X : Fin 3, X = 2 → (ix3 r p q X).val = q.val := fun X h => by subst h; rfl
    refine h1 _ ?_
    simp only [hkept, hoff]
    rfl

/-! ## The blocks' experts -/

/-- A word below 64 is not negative. -/
theorem keep (w : BitVec 32) (h : w.toNat < 64) : Scalar.select (IntOp.cmpi .slt w 0#32) (IntOp.addi w 64#32) w = w := by
  have : ¬(IntOp.cmpi .slt w 0#32 = 1#1) := by
    have hs : w.slt 0#32 = false := by
      simp only [BitVec.slt, BitVec.toInt_eq_toNat_cond, decide_eq_false_iff_not]
      have : (0#32 : BitVec 32).toNat = 0 := rfl
      rw [this]
      omega
    simp only [IntOp.cmpi, hs]
    decide
  exact if_neg this

section Named
variable (B : S193.Idx → BitVec 32) (r : Fin 193) (e : Fin 64) (he : B (ix1 r) = BitVec.ofNat 32 e.val)
include he

theorem small : (B (ix1 r)).toNat < 64 := by
  rw [he, BitVec.toNat_ofNat]; have := e.isLt; omega

theorem name9 : val_main_v9 (F := Ideal) B (ix2 r 0) = BitVec.ofNat 32 e.val := by
  have hi : idx_main_v9 (ix2 r 0) = ix1 r := by funext a; match a with | ⟨0, _⟩ => rfl
  rw [val_main_v9_apply, hi, val_main_v8_apply, val_main_v5_apply, val_main_v7_apply, val_main_v4_apply, val_main_v6_apply,
    val_main_c_apply, val_main_c_0_apply]
  exact (keep _ (small B r e he)).trans he

theorem name19 : val_main_v19 (F := Ideal) B (ix2 r 0) = BitVec.ofNat 32 e.val := by
  have hi : idx_main_v19 (ix2 r 0) = ix1 r := by funext a; match a with | ⟨0, _⟩ => rfl
  rw [val_main_v19_apply, hi, val_main_v18_apply, val_main_v15_apply, val_main_v17_apply, val_main_v14_apply, val_main_v16_apply,
    val_main_c_1_apply, val_main_c_2_apply]
  exact (keep _ (small B r e he)).trans he

theorem name31 : val_main_v31 (F := Ideal) B (ix2 r 0) = BitVec.ofNat 32 e.val := by
  have hi : idx_main_v31 (ix2 r 0) = ix1 r := by funext a; match a with | ⟨0, _⟩ => rfl
  rw [val_main_v31_apply, hi, val_main_v30_apply, val_main_v27_apply, val_main_v29_apply, val_main_v26_apply, val_main_v28_apply,
    val_main_c_3_apply, val_main_c_4_apply]
  exact (keep _ (small B r e he)).trans he

theorem mat10 (G : S2x64x2048x512.Idx → EReal) (k : Fin 2048) (j : Fin 512) :
    val_main_v10 (F := Ideal) B G (ix3 r k j) = G (ix4 0 e k j) := by
  unfold val_main_v10
  rw [stack_at gather_S64x2048x512_S193x1_S193x2048x512_12_0_n_n_0_1_12048512 rfl rfl rfl rfl rfl _ _ r k j e (name9 B r e he) (by norm_num)]
  rw [val_main_v3_apply, val_main_v2_apply]
  refine congrArg G ?_
  blk_ext

theorem mat20 (G : S2x64x2048x512.Idx → EReal) (k : Fin 2048) (j : Fin 512) :
    val_main_v20 (F := Ideal) B G (ix3 r k j) = G (ix4 0 e k j) := by
  unfold val_main_v20
  rw [stack_at gather_S64x2048x512_S193x1_S193x2048x512_12_0_n_n_0_1_12048512 rfl rfl rfl rfl rfl _ _ r k j e (name19 B r e he) (by norm_num)]
  rw [val_main_v13_apply, val_main_v12_apply]
  refine congrArg G ?_
  blk_ext

theorem mat32 (D : S2x64x512x2048.Idx → EReal) (k : Fin 512) (j : Fin 2048) :
    val_main_v32 (F := Ideal) B D (ix3 r k j) = D (ix4 0 e k j) := by
  unfold val_main_v32
  rw [stack_at gather_S64x512x2048_S193x1_S193x512x2048_12_0_n_n_0_1_15122048 rfl rfl rfl rfl rfl _ _ r k j e (name31 B r e he) (by norm_num)]
  rw [val_main_v25_apply, val_main_v24_apply]
  refine congrArg D ?_
  blk_ext

end Named

/-! ## The result -/

/-- The activation: the product of a value with its logistic, times the other projection. -/
def act (g u : EReal) : EReal := g * Ideal.div (Ideal.ofBits .f32 0x3F800000#32) (Ideal.ofBits .f32 0x3F800000#32 + Ideal.exp (-g)) * u

/-- A row through an expert. -/
def through (X : S98816x2048.Idx → EReal) (G U : S2x64x2048x512.Idx → EReal) (D : S2x64x512x2048.Idx → EReal) (R : Fin 98816) (e : Fin 64)
    (C : Fin 2048) : EReal :=
  ∑ k : Fin 512, act (∑ j : Fin 2048, X (ix2 R j) * G (ix4 0 e j k)) (∑ j : Fin 2048, X (ix2 R j) * U (ix4 0 e j k)) * D (ix4 0 e k C)

/-- The reference's entry in row `y` of block `r`. -/
theorem entry (X : S98816x2048.Idx → EReal) (B : S193.Idx → BitVec 32) (n : S1.Idx → BitVec 32) (G U : S2x64x2048x512.Idx → EReal)
    (D : S2x64x512x2048.Idx → EReal) (r : Fin 193) (y : Fin 512) (C : Fin 2048) (R : Fin 98816) (hR : R.val = 512 * r.val + y.val)
    (e : Fin 64) (he : B (ix1 r) = BitVec.ofNat 32 e.val) :
    val_main_v41 (F := Ideal) X B n G U D (ix2 R C)
      = if (BitVec.ofNat 32 r.val).slt (n (ix1 0)) = true then through X G U D R e C else 0 := by
  have hr := r.isLt
  have hy := y.isLt
  have hi : idx_main_v40 (ix2 R C) = ix3 r y C := by
    blk_ext
  have hx : ∀ k, val_main_v1 (F := Ideal) X (ix3 r y k) = X (ix2 R k) := fun k => by
    rw [val_main_v1_apply, val_main_v0_apply]
    refine congrArg X ?_
    blk_ext
  have hv36 : val_main_v36 (F := Ideal) n (idx_main_v37 (idx_main_call1_v1 (ix3 r y C))) = n (ix1 0) := by
    unfold val_main_v36
    exact shapeCast_apply n _ _ (ix1 0) (by rfl)
  have hg : ∀ k, val_main_v11 (F := Ideal) X B G (ix3 r y k) = ∑ j : Fin 2048, X (ix2 R j) * G (ix4 0 e j k) := fun k => by
    rw [val_main_v11_apply]
    refine Finset.sum_congr rfl fun j _ => congr (congrArg _ (Eq.trans (congrArg _ ?_) (hx j))) (Eq.trans (congrArg _ ?_) (mat10 B r e he G j k))
    · blk_ext
    · blk_ext
  have hu : ∀ k, val_main_v21 (F := Ideal) X B U (ix3 r y k) = ∑ j : Fin 2048, X (ix2 R j) * U (ix4 0 e j k) := fun k => by
    rw [val_main_v21_apply]
    refine Finset.sum_congr rfl fun j _ => congr (congrArg _ (Eq.trans (congrArg _ ?_) (hx j))) (Eq.trans (congrArg _ ?_) (mat20 B r e he U j k))
    · blk_ext
    · blk_ext
  have ha : ∀ k, val_main_v23 (F := Ideal) X B G U (ix3 r y k)
      = act (∑ j : Fin 2048, X (ix2 R j) * G (ix4 0 e j k)) (∑ j : Fin 2048, X (ix2 R j) * U (ix4 0 e j k)) := fun k => by
    rw [val_main_v23_apply, val_main_v22_apply, val_main_call0_v5_apply, val_main_call0_v4_apply, val_main_call0_v3_apply,
      val_main_call0_v2_apply, val_main_call0_v1_apply, val_main_call0_v0_apply, val_main_call0_cst_apply, val_main_call0_cst_0_apply,
      hg, hu]
    rfl
  rw [val_main_v41_apply, val_main_v40_apply, hi, val_main_v39_apply, val_main_call1_v1_apply, val_main_v38_apply, val_main_v35_apply,
    val_main_v34_apply, val_main_v37_apply, hv36, val_main_call1_v2_apply, val_main_call1_v0_apply, val_main_cst_apply, val_main_v33_apply]
  have hs : (∑ k : Fin 512, val_main_v23 (F := Ideal) X B G U (lidx_main_v33 (ix3 r y C) k) * val_main_v32 (F := Ideal) B D (ridx_main_v33 (ix3 r y C) k))
      = through X G U D R e C := by
    unfold through
    refine Finset.sum_congr rfl fun k _ => congr (congrArg _ (Eq.trans (congrArg _ ?_) (ha k))) (Eq.trans (congrArg _ ?_) (mat32 B r e he D k C))
    · blk_ext
    · blk_ext
  rw [hs]
  show Scalar.select (IntOp.cmpi .slt (BitVec.ofNat 32 r.val) (n (ix1 0))) (through X G U D R e C) (Ideal.ofBits .f32 0x00000000#32) = _
  by_cases h : (BitVec.ofNat 32 r.val).slt (n (ix1 0)) = true
  · rw [if_pos h]
    refine if_pos ?_
    simp only [IntOp.cmpi, h]
    rfl
  · rw [if_neg h]
    refine Eq.trans (if_neg ?_) (Ideal.ofBits_zero FTy.f32)
    simp only [IntOp.cmpi, Bool.not_eq_true] at h ⊢
    rw [h]
    decide

end Cert.RoutedIdeal.Hand

end
-- ==== Proof.ExpertsValue.lean ====
/- The routed experts' kernel over the extended reals: every block of its result is the block's rows through the block's expert. -/
module

public import proofs.«01_k».proof.Proof.ExpertsTables
public import proofs.«01_k».proof.Proof.ExpertsRef
public import Idealize.ShloMosaic.Lib.Pointwise
public import Idealize.ShloMosaic.Lib.ValueLayout
public import Idealize.ShloMosaic.Lib.Pipeline.ValueKit

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Cert.RoutedIdeal.Hand (act through)

/-! ## An expert's matrices -/

theorem four {P Q : ℕ} {e : Fin 64} {p : Fin P} {q : Fin Q} {i : (⟨4, ![2, 64, P, Q]⟩ : Shape).Idx} (h0 : (i 0).val = 0)
    (h1 : (i 1).val = e.val) (h2 : (i 2).val = p.val) (h3 : (i 3).val = q.val) : i = ix4 0 e p q := by
  funext a
  refine Fin.ext ?_
  match a with
  | ⟨0, _⟩ => exact h0
  | ⟨1, _⟩ => exact h1
  | ⟨2, _⟩ => exact h2
  | ⟨3, _⟩ => exact h3

theorem back {P Q : ℕ} (h : (⟨2, ![P, Q]⟩ : Shape).numel = (⟨4, ![1, 1, P, Q]⟩ : Shape).numel) (p : Fin P) (q : Fin Q) :
    Shape.reshapeEquiv h (ix2 p q) = ix4 (0 : Fin 1) (0 : Fin 1) p q := ValueIdx.reshapeEquiv_ix2_11ab h p q

theorem g_at (A : Arrays Ideal) (e : Fin 64) (k : Fin 2048) (j : Fin 512) : Xg A e (ix2 k j) = A.g (ix4 0 e k j) := by
  show (arr0.view.slice (Rect.unit (s := S2x64x2048x512) ![0, e.val, 0, 0] S1x1x2048x512.size (matIn e))).read (Elt Ideal) A.g
    (Shape.reshapeEquiv squeezes_S1x1x2048x512_S2048x512.numel_eq (ix2 k j)) = _
  rw [back _ k j]
  refine congrArg A.g (four rfl ?_ ?_ ?_)
  · show e.val + 1 * 0 = e.val; omega
  · show 0 + 1 * k.val = k.val; omega
  · show 0 + 1 * j.val = j.val; omega

theorem u_at (A : Arrays Ideal) (e : Fin 64) (k : Fin 2048) (j : Fin 512) : Xu A e (ix2 k j) = A.u (ix4 0 e k j) := by
  show (arr1.view.slice (Rect.unit (s := S2x64x2048x512) ![0, e.val, 0, 0] S1x1x2048x512.size (matIn e))).read (Elt Ideal) A.u
    (Shape.reshapeEquiv squeezes_S1x1x2048x512_S2048x512.numel_eq (ix2 k j)) = _
  rw [back _ k j]
  refine congrArg A.u (four rfl ?_ ?_ ?_)
  · show e.val + 1 * 0 = e.val; omega
  · show 0 + 1 * k.val = k.val; omega
  · show 0 + 1 * j.val = j.val; omega

theorem d_at (A : Arrays Ideal) (e : Fin 64) (k : Fin 512) (j : Fin 2048) : Xd A e (ix2 k j) = A.d (ix4 0 e k j) := by
  show (arr2.view.slice (Rect.unit (s := S2x64x512x2048) ![0, e.val, 0, 0] S1x1x512x2048.size (matIn' e))).read (Elt Ideal) A.d
    (Shape.reshapeEquiv squeezes_S1x1x512x2048_S512x2048.numel_eq (ix2 k j)) = _
  rw [back _ k j]
  refine congrArg A.d (four rfl ?_ ?_ ?_)
  · show e.val + 1 * 0 = e.val; omega
  · show 0 + 1 * k.val = k.val; omega
  · show 0 + 1 * j.val = j.val; omega

theorem unsqA (X : S2048x512.Idx → EReal) (k : Fin 2048) (j : Fin 512) :
    unsq (F := Ideal) squeezes_S1x2048x512_S2048x512 X (ix3 0 k j) = X (ix2 k j) := by
  refine congrArg X ?_
  rw [Equiv.symm_apply_eq]
  exact (ValueIdx.reshapeEquiv_ix2_1ab _ k j).symm

theorem unsqB (X : S512x2048.Idx → EReal) (k : Fin 512) (j : Fin 2048) :
    unsq (F := Ideal) squeezes_S1x512x2048_S512x2048 X (ix3 0 k j) = X (ix2 k j) := by
  refine congrArg X ?_
  rw [Equiv.symm_apply_eq]
  exact (ValueIdx.reshapeEquiv_ix2_1ab _ k j).symm

theorem Ng_at (A : Arrays Ideal) (e : Fin 64) (k : Fin 2048) (j : Fin 512) : Ng A e (ix2 k j) = A.g (ix4 0 e k j) := by
  unfold Ng k0_pay1 k0_pay6
  pointwise []
  exact (unsqA _ k j).trans (g_at A e k j)

theorem Nu_at (A : Arrays Ideal) (e : Fin 64) (k : Fin 2048) (j : Fin 512) : Nu A e (ix2 k j) = A.u (ix4 0 e k j) := by
  unfold Nu k0_pay2
  pointwise []
  exact (unsqA _ k j).trans (u_at A e k j)

theorem Nd_at (A : Arrays Ideal) (e : Fin 64) (k : Fin 512) (j : Fin 2048) : Nd A e (ix2 k j) = A.d (ix4 0 e k j) := by
  unfold Nd k0_pay3
  pointwise []
  exact (unsqB _ k j).trans (d_at A e k j)

/-! ## A block -/

theorem pay4_at (X : S512x2048.Idx → EReal) (G U : S2048x512.Idx → EReal) (D : S512x2048.Idx → EReal) (r : Fin 512) (C : Fin 2048) :
    k0_pay4 (F := Ideal) X G U D (ix2 r C)
      = ∑ k : Fin 512, act (∑ j : Fin 2048, X (ix2 r j) * G (ix2 j k)) (∑ j : Fin 2048, X (ix2 r j) * U (ix2 j k)) * D (ix2 k C) := by
  unfold k0_pay4
  pointwise []
  refine Finset.sum_congr rfl fun k _ => congrArg (· * D (ix2 k C)) ?_
  unfold act
  rw [Ideal.ofBits_one_f32, ← zero_sub]

theorem pay5_at (i : S512x2048.Idx) : k0_pay5 (F := Ideal) i = (0 : EReal) := Ideal.ofBits_zero_bf16

/-- What a point leaves, at an entry. -/
theorem leaves_at (A : Arrays Ideal) (T : Tables) (i : grid0.Coords) (X : S512x2048.Idx → EReal) (e : Fin 64) (r : Fin 512) (C : Fin 2048) :
    leaves (F := Ideal) A T i X e (ix2 r C)
      = if (BitVec.ofNat 32 (i 0).val).slt (T.nu ent0) = true then
          ∑ k : Fin 512, act (∑ j : Fin 2048, X (ix2 r j) * A.g (ix4 0 e j k)) (∑ j : Fin 2048, X (ix2 r j) * A.u (ix4 0 e j k)) * A.d (ix4 0 e k C)
        else (0 : EReal) := by
  unfold leaves
  by_cases h : (BitVec.ofNat 32 (i 0).val).slt (T.nu ent0) = true
  · rw [if_pos h, if_pos h, pay4_at]
    refine Finset.sum_congr rfl fun k _ => congr (congrArg _ (congr (congrArg act ?_) ?_)) (Nd_at A e k C)
    · exact Finset.sum_congr rfl fun j _ => congrArg _ (Ng_at A e j k)
    · exact Finset.sum_congr rfl fun j _ => congrArg _ (Nu_at A e j k)
  · rw [if_neg h, if_neg h]
    exact pay5_at _

/-- What a point leaves is the row through the point's expert, where the block is in use. -/
theorem leaves_through (X : S98816x2048.Idx → EReal) (G U : S2x64x2048x512.Idx → EReal) (D : S2x64x512x2048.Idx → EReal)
    (A : Arrays Ideal) (T : Tables) (i : grid0.Coords) (Y : S512x2048.Idx → EReal) (e e' : Fin 64) (r : Fin 512) (C : Fin 2048) (R : Fin 98816)
    (hY : ∀ j, Y (ix2 r j) = X (ix2 R j)) (hG : A.g = G) (hU : A.u = U) (hD : A.d = D) (n : BitVec 32) (hn : T.nu ent0 = n)
    (k : ℕ) (hk : (i 0).val = k) (he : (BitVec.ofNat 32 k).slt n = true → e = e') :
    leaves (F := Ideal) A T i Y e (ix2 r C) = if (BitVec.ofNat 32 k).slt n = true then through X G U D R e' C else 0 := by
  rw [leaves_at, hn, hk, hG, hU, hD]
  by_cases h : (BitVec.ofNat 32 k).slt n = true
  · rw [if_pos h, if_pos h, he h]
    unfold through
    simp only [hY]
  · rw [if_neg h, if_neg h]

/-! ## The blocks of the result -/

variable (m : (ℓ : Loc nD τ sig) → Buf (Elt Ideal) ℓ)

theorem index0 (t : Fin (cfgE m).N) : ((cfgE m).win 0).index t = ![t.val, 0] := by
  show cc0_transform_0 (grid0.coords t) = _
  unfold cc0_transform_0
  rw [coords_num]
  have := (num m t).isLt
  funext a
  match a with
  | ⟨0, _⟩ => show (BitVec.ofNat 32 t.val).toNat = t.val; rw [BitVec.toNat_ofNat]; exact Nat.mod_eq_of_lt (by have : t.val < 193 := this; omega)
  | ⟨1, _⟩ => rfl

theorem index1 (t : Fin (cfgE m).N) : ((cfgE m).win 1).index t = ![t.val, 0] := by
  show cc0_transform_4 (grid0.coords t) = _
  unfold cc0_transform_4
  rw [coords_num]
  have := (num m t).isLt
  funext a
  match a with
  | ⟨0, _⟩ => show (BitVec.ofNat 32 t.val).toNat = t.val; rw [BitVec.toNat_ofNat]; exact Nat.mod_eq_of_lt (by have : t.val < 193 := this; omega)
  | ⟨1, _⟩ => rfl

theorem flushes (t : Fin (cfgE m).N) : ((cfgE m).win 1).flush t = true := by
  unfold Pipeline.Window.flush
  refine Bool.and_eq_true_iff.2 ⟨rfl, ?_⟩
  by_cases h : t.val + 1 = (cfgE m).grid.N
  · exact Bool.or_eq_true_iff.2 (.inl (decide_eq_true h))
  · refine Bool.or_eq_true_iff.2 (.inr (decide_eq_true ⟨lt_of_le_of_ne t.isLt h, fun e => ?_⟩))
    rw [index1, index1] at e
    have := congrFun e 0
    exact absurd (show t.val + 1 = t.val from this) (by omega)

theorem covers : ((cfgE m).win 1).Covers := by
  refine ⟨fun a => ?_, fun β => ?_⟩
  · match a with
    | ⟨0, _⟩ => show 0 < 512; decide
    | ⟨1, _⟩ => show 0 < 2048; decide
  · have h0 : (β (0 : Fin 2)).val < 193 := lt_of_lt_of_eq (β (0 : Fin 2)).isLt (by show (98816 + 512 - 1) / 512 = 193; rfl)
    have h1 : (β (1 : Fin 2)).val < 1 := lt_of_lt_of_eq (β (1 : Fin 2)).isLt (by show (2048 + 2048 - 1) / 2048 = 1; rfl)
    refine ⟨⟨(β (0 : Fin 2)).val, lt_of_lt_of_eq h0 N_0.symm⟩, flushes m _, fun a => ⟨?_, .inl ?_⟩⟩
    · rw [index1]
      match a with
      | ⟨0, _⟩ => rfl
      | ⟨1, _⟩ => show 0 = (β (1 : Fin 2)).val; omega
    · match a with
      | ⟨0, _⟩ => rfl
      | ⟨1, _⟩ => rfl

/-- The staged rows. -/
theorem rows (c : Dev nD) (t : Fin (cfgE m).N) (r : Fin 512) (k : Fin 2048) (R : Fin 98816) (hR : R.val = 512 * t.val + r.val) :
    iblk m c 0 t (ix2 r k) = m ((c : Thread nD τ).loc main_arg0) (ix2 R k) := by
  have e0 := index0 m t
  rw [← V_arg0 m c]
  blk_simp [iblk, e0]
  blk_ext [e0]

set_option maxHeartbeats 2000000 in
/-- A block of the result, entry by entry. -/
theorem block (X : S98816x2048.Idx → EReal) (B : S193.Idx → BitVec 32) (n : S1.Idx → BitVec 32) (G U : S2x64x2048x512.Idx → EReal)
    (D : S2x64x512x2048.Idx → EReal) (c : Dev nD) (hX : ∀ i, m ((c : Thread nD τ).loc main_arg0) i = X i)
    (hB : m ((c : Thread nD τ).loc main_arg1) = B) (hn : m ((c : Thread nD τ).loc main_arg2) = n)
    (hG : m ((c : Thread nD τ).loc main_arg3) = G) (hU : m ((c : Thread nD τ).loc main_arg4) = U) (hD : m ((c : Thread nD τ).loc main_arg5) = D)
    (h : InUse m c) (t : Fin (cfgE m).N) (r : Fin 512) (C : Fin 2048) (R : Fin 98816) (hR : R.val = 512 * t.val + r.val) :
    leaves (ws m c) (tb m c) (grid0.coords t) (iblk m c 0 t) (curOf (blk m c) (runs m c) (t.val + 1)) (ix2 r C)
      = Cert.RoutedIdeal.Read.val_main_v41 (F := Ideal) X B n G U D (ix2 R C) := by
  have hname : B (ix1 (num m t)) = BitVec.ofNat 32 (expert (blk m c) t.val).val := by
    have hs : m ((c : Thread nD τ).loc main_arg1) (ent (num m t)) = blk m c t.val := seqOf_at _ (num m t)
    have hw := h.named (num m t)
    rw [← hB, ← ent_ix1, hs]
    exact word_expert (by rw [← hs]; exact hw)
  rw [Cert.RoutedIdeal.Hand.entry X B n G U D (num m t) r C R hR (expert (blk m c) t.val) hname]
  have hu : used m c = n (ix1 0) := by rw [← hn, ← ent0_ix1]
  have hlt : t.val < 193 := (num m t).isLt
  have hcur : (BitVec.ofNat 32 t.val).slt (n (ix1 0)) = true → curOf (blk m c) (runs m c) (t.val + 1) = expert (blk m c) t.val := by
    rw [← hu]
    unfold runs
    exact cur_expert (blk m c) (used m c) t.val hlt
  exact leaves_through X G U D (ws m c) (tb m c) (grid0.coords t) (iblk m c 0 t) _ (expert (blk m c) t.val) r C R
    (fun j => (rows m c t r j R hR).trans (hX _)) ((V_arg3 m c).trans hG) ((V_arg4 m c).trans hU) ((V_arg5 m c).trans hD) _
    ((congrFun (V_arg2 m c) ent0).trans hu) _ (coords_num m t)
    hcur

/-- The call's result is the reference's. -/
theorem final (c : Dev nD) (h : InUse m c) :
    (dats m (pendOf (blk m c) (runs m c)) (curOf (blk m c) (runs m c)) 0 c).arrAt 1 (cfgE m).N
      = Cert.RoutedIdeal.Read.val_main_v41 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m (pendOf (blk m c) (runs m c)) (curOf (blk m c) (runs m c)) 0 c).arrAt_eq_of_covers 1 _ (covers m) fun t hf y => ?_
  have e1 := index1 m t
  rw [after1]
  have ht : t.val < 193 := (num m t).isLt
  have hy0 : (y (0 : Fin 2)).val < 512 := (y (0 : Fin 2)).isLt
  have hy1 : (y (1 : Fin 2)).val < 2048 := (y (1 : Fin 2)).isLt
  refine Eq.trans ?_ ((block m _ _ _ _ _ _ c (fun _ => rfl) rfl rfl rfl rfl rfl h t ⟨(y (0 : Fin 2)).val, hy0⟩ ⟨(y (1 : Fin 2)).val, hy1⟩
    ⟨512 * t.val + (y (0 : Fin 2)).val, by omega⟩ rfl).trans (congrArg _ ?_))
  · blk_simp
    refine congrArg _ ?_
    blk_ext
  · blk_ext [e1]

end Cert.ExpertsIdeal.Hand

end
-- ==== Proof.ExpertsSame.lean ====
/-
  The kernel and its ideal reading have one text: their body tables and their programs are equal, so a run of the one is a
  run of the other.
-/
module

public import proofs.«01_k».proof.Proof.Gen.Experts
public import proofs.«01_k».proof.Proof.ExpertsFrame

@[expose] public section

namespace Cert.Experts.Hand

open Idealize.ShloMosaic

variable {F : FTy → Type} [FloatOps F]

theorem body_same : @Cert.Experts.cc0_experts_routed F _ _ = @Cert.ExpertsIdeal.cc0_experts_routed F _ _ := rfl

theorem bodies_same : Cert.Experts.defs₀ (F := F) = Cert.ExpertsIdeal.defs₀ (F := F) := by
  unfold Cert.Experts.defs₀ Cert.ExpertsIdeal.defs₀
  refine congrArg Defs.onTc ?_
  funext l x
  match l with
  | ⟨0, _⟩ => rfl

theorem defs_same : Cert.Experts.defs (F := F) = Cert.ExpertsIdeal.defs (F := F) :=
  congrArg (Pipeline.defs Cert.Experts.pcfgs) bodies_same

set_option maxHeartbeats 20000000 in
theorem main_same : @Cert.Experts.main F _ _ = @Cert.ExpertsIdeal.main F _ _ := rfl

/-- What holds of every run of the ideal reading holds of every run of the kernel. -/
theorem of_ideal (s : MemSt Cert.ExpertsIdeal.nD Cert.ExpertsIdeal.τ Cert.ExpertsIdeal.sig (Elt F))
    (Q : PUnit × MemSt Cert.ExpertsIdeal.nD Cert.ExpertsIdeal.τ Cert.ExpertsIdeal.sig (Elt F) → Prop)
    (h : θ_run (Cert.ExpertsIdeal.defs (F := F)) (onTc (τ := Cert.ExpertsIdeal.τ) (Cert.ExpertsIdeal.main (F := F))) s Q) :
    θ_run (Cert.Experts.defs (F := F)) (onTc (τ := Cert.Experts.τ) (Cert.Experts.main (F := F))) s Q := by
  rw [defs_same, main_same]
  exact h

end Cert.Experts.Hand
-- ==== Proof.SharedLane.lean ====
/-
  The shared expert's kernel fetches one expert's three weight matrices ahead of the rows that use them, by transfers of
  its own between two slots. Here are the rules for one such lane: a matrix left in HBM, a slot of a ring, and the
  semaphore the transfer completes on.
-/
module

public import proofs.«01_k».proof.Proof.Gen.ExpertsSharedIdeal.Launch
public import proofs.«01_k».proof.Proof.Gen.ExpertsSharedIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.ExpertsSharedIdeal.Hand

open Cert.ExpertsSharedIdeal Cert.ExpertsSharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resources the proof speaks of: the pipeline's beside the transfers' counters. -/
abbrev Res (F : FTy → Type) : Type := MT nD τ sig Unit (Elt F) ℕ (Pipeline.UD sig nD τ) ℕ

/-- A weakest precondition of the kernel's own programs. -/
abbrev run {α : Type} (c : Dev nD) (p : Prog (TpuEff nD τ sig (Elt F) Λ₀ .tc) α) (Q : α → sProp (Res F)) : sProp (Res F) :=
  wp frame (wpE (defs₀ (F := F)) Variants.none (c : Thread nD τ) none) Set.univ p Q

/-- A slot held at some contents. -/
def Slot {s : Shape} (D : Memref sig .tc .vmem s .f32) (c : Dev nD) : sProp (Res F) :=
  iprop(∃ f : Buf (Elt F) (D.view.loc (c : Thread nD τ)), D.view.loc (c : Thread nD τ) ↦[D.view.set]{fullShare} f)

/-- A transfer of the matrix `S` into the slot `D` under way, completing on `sm`: at its wait it brings the slot holding
    the matrix and the matrix back. The rest of the array the matrix is part of stays with the core. -/
def Pend {s : Shape} (S : Memref sig .tc .hbm s .f32) (D : Memref sig .tc .vmem s .f32) (sm : DmaSem sig) (c : Dev nD)
    (V : Buf (Elt F) (S.view.loc (c : Thread nD τ))) : sProp (Res F) :=
  iprop(∃ fd : Buf (Elt F) (D.view.loc (c : Thread nD τ)),
    Transfers.Flight (countersEmb (U := Pipeline.UD sig nD τ)) (c : Thread nD τ) (.dma sm) () (D.view.amount (.dma sm))
      iprop((D.view.loc (c : Thread nD τ) ↦[D.view.set]{fullShare} (D.view.write (Elt F) fd (S.view.read (Elt F) V) Finset.univ))
        ∗ (S.view.loc (c : Thread nD τ) ↦[S.view.set]{fullShare} V))
    ∗ (S.view.loc (c : Thread nD τ) ↦[Finset.univ \ S.view.set]{fullShare} V))

/-- Starting the transfer. -/
theorem run_issue {s : Shape} {α : Type} {S src : Memref sig .tc .hbm s .f32} {D dst : Memref sig .tc .vmem s .f32} {M sem : DmaSem sig}
    (hs : src = S) (hd : dst = D) (hm : sem = M) (hp : 0 < s.numel) (c : Dev nD)
    {V : Buf (Elt F) (S.view.loc (c : Thread nD τ))}
    {h1 : src.view.WordExact} {h2 : dst.view.WordExact} {h3 : DmaTarget.Typed (nD := nD) (τ := τ) .hbm (.dma sem) (.here (p := Proc.tc) dst)}
    {k : PUnit → Prog (TpuEff nD τ sig (Elt F) Λ₀ .tc) α} {Q : α → sProp (Res F)} :
    iprop((S.view.loc (c : Thread nD τ) ↦{fullShare} V) ∗ Slot D c ∗ semVal ((c : Thread nD τ), SemLoc.dma M) 0)
      ⊢ iprop((Pend S D M c V -∗ run c (k ⟨⟩) Q)
          -∗ run c (Prog.lift (.enqueueDma src (.here dst) (.dma sem) h1 h2 h3) >>= k) Q) := by
  subst hs hd hm
  iintro ⟨HS, HD, Hv⟩ Hk
  unfold Slot
  icases HD with ⟨%fd, HD⟩
  ihave HS' := (pointsTo_split_subset (Finset.subset_univ src.view.set)).1 $$ HS
  icases HS' with ⟨HS1, HS2⟩
  iapply (Transfers.wp_dmaLocal (countersEmb (U := Pipeline.UD sig nD τ)) Variants.none (c : Thread nD τ) none () (dst.view.amount (.dma sem)) rfl
    (View.amount_pos _ _ hp) (Finset.Subset.refl _) (k := k)) $$ [HS1 HD Hv]
  · isplitl [HS1]; · iexact HS1
    isplitl [HD]; · iexact HD
    iexact Hv
  iintro HF
  iapply Hk
  unfold Pend
  iexists fd
  isplitl [HF]
  · iexact HF
  iexact HS2

/-- Waiting for it. -/
theorem run_wait {s : Shape} {α : Type} {S src : Memref sig .tc .hbm s .f32} {D dst : Memref sig .tc .vmem s .f32} {M sem : DmaSem sig}
    (hd : dst = D) (hm : sem = M) (c : Dev nD)
    {V : Buf (Elt F) (S.view.loc (c : Thread nD τ))} {W : Waits sig Unit}
    {h1 : src.view.WordExact} {h2 : dst.view.WordExact}
    {k : PUnit → Prog (TpuEff nD τ sig (Elt F) Λ₀ .tc) α} {Q : α → sProp (Res F)} :
    iprop(Pend S D M c V ∗ owes (c : Thread nD τ) 0 W)
      ⊢ iprop((iprop(owns (c : Thread nD τ) D fullShare (S.view.read (Elt F) V) ∗ (S.view.loc (c : Thread nD τ) ↦{fullShare} V)
              ∗ semVal ((c : Thread nD τ), SemLoc.dma M) 0 ∗ owes (c : Thread nD τ) 0 (insert (SemLoc.dma M, ()) W)) -∗ run c (k ⟨⟩) Q)
          -∗ run c (Prog.lift (.waitDma2 sem src dst h1 h2) >>= k) Q) := by
  subst hd hm
  iintro ⟨HP, HO⟩ Hk
  unfold Pend
  icases HP with ⟨%fd, HF, HS2⟩
  iapply (Transfers.wp_waitLocal (countersEmb (U := Pipeline.UD sig nD τ)) Variants.none (c : Thread nD τ) none () (k := k)
    (N := dst.view.amount (.dma sem)) rfl) $$ [HF HO]
  · isplitl [HF]; · iexact HF
    iexact HO
  iintro ⟨⟨HD, HS1⟩, Hv, HO⟩
  iapply Hk
  isplitl [HD]
  · unfold owns
    iexists (dst.view.write (Elt F) fd (S.view.read (Elt F) V) Finset.univ)
    isplitr
    · ipureintro; exact View.read_write_univ _ _
    iexact HD
  isplitl [HS1 HS2]
  · iapply (pointsTo_split_subset (Finset.subset_univ S.view.set)).2
    isplitl [HS1]; · iexact HS1
    iexact HS2
  isplitl [Hv]; · iexact Hv
  iexact HO

/-! ## Loads, stores and side conditions -/

/-- A word of a table. -/
theorem run_word {s : Shape} {α : Type} {M : Memref sig .tc .smem s .i32} {r : Rect s} {h1 : r.shape.numel = 1} {hp : (EltTy.i32).packing = 1}
    (c : Dev nD) {q : PosShare TreeShare} {f : Buf (Elt F) (M.view.loc (c : Thread nD τ))} {v : Elt F .i32}
    (hv : (M.access r).read (Elt F) f (Shape.Idx.first (h1.symm ▸ Nat.one_pos)) = v)
    {k : Elt F .i32 → Prog (TpuEff nD τ sig (Elt F) Λ₀ .tc) α} {Q : α → sProp (Res F)} :
    (M.view.loc (c : Thread nD τ) ↦{q} f)
      ⊢ iprop(((M.view.loc (c : Thread nD τ) ↦{q} f) -∗ run c (k v) Q) -∗ run c (smemLoad M r h1 hp >>= k) Q) := by
  subst hv
  exact wp_smemLoadElt (m := M) (r := r) (hw := View.loads_smem_one hp h1) (f := f) (k := k) Variants.none (c : Thread nD τ) none Set.univ (Finset.subset_univ _)

/-- A side condition of the program's, where it holds. -/
theorem run_assume {P : Prop} {d : Decidable P} {α : Type} (h : P) (c : Dev nD)
    {k : PLift P → Prog (TpuEff nD τ sig (Elt F) Λ₀ .tc) α} {Q : α → sProp (Res F)} :
    run c (k ⟨h⟩) Q ⊢ run c (Prog.lift (TpuEff.assume P d) >>= k) Q :=
  wp_assume Variants.none (c : Thread nD τ) none Set.univ h

/-- The program's end. -/
theorem run_ret {α : Type} (c : Dev nD) {a : α} {Q : α → sProp (Res F)} : Q a ⊢ run c (pure a) Q := by
  unfold run
  rw [wp_pure]
  exact fupd_intro

theorem run_ret' {α : Type} (c : Dev nD) {a b : α} {Q : α → sProp (Res F)} (h : a = b) : Q b ⊢ run c (pure a) Q := h ▸ run_ret c

/-- A stretch of the program, then the rest. -/
theorem run_bind {α β : Type} {A : Prog (TpuEff nD τ sig (Elt F) Λ₀ .tc) α} {k : α → Prog (TpuEff nD τ sig (Elt F) Λ₀ .tc) β}
    (c : Dev nD) {Q : β → sProp (Res F)} : run c A (fun a => run c (k a) Q) ⊢ run c (A >>= k) Q := by
  unfold run
  rw [wp_bind]

/-- One stretch of the program after another. -/
theorem run_seq {α β : Type} {A : Prog (TpuEff nD τ sig (Elt F) Λ₀ .tc) α} {k : α → Prog (TpuEff nD τ sig (Elt F) Λ₀ .tc) β}
    (c : Dev nD) {P G : sProp (Res F)} (P' : α → sProp (Res F)) {Q : β → sProp (Res F)}
    (h : P ⊢ run c A P') (hk : ∀ a, P' a ⊢ run c (k a) Q) : P ⊢ run c (A >>= k) Q := by
  unfold run
  rw [wp_bind]
  exact h.trans (wp_mono _ _ _ hk)

/-- A load of the whole of a memref. -/
theorem run_load {s : Shape} {e : EltTy} {α : Type} {M : Memref sig .tc .vmem s e} {off : Fin s.rank → Nat} (ho : off = fun _ => 0)
    {inb : ∀ a, off a + s.size a ≤ s.size a} {hl : M.view.LoadsAt (Rect.unit off s.size inb).toLoadRect} (c : Dev nD)
    {q : PosShare TreeShare} {X : s.Idx → Elt F e}
    {k : (s.Idx → Elt F e) → Prog (TpuEff nD τ sig (Elt F) Λ₀ .tc) α} {Q : α → sProp (Res F)} :
    owns (c : Thread nD τ) M q X
      ⊢ iprop((owns (c : Thread nD τ) M q X -∗ run c (k X) Q)
        -∗ run c (Prog.lift (.load M (Rect.unit off s.size inb).toLoadRect hl) >>= k) Q) := by
  subst ho
  unfold owns
  iintro ⟨%f, %hf, H⟩ Hk
  subst hf
  have e : M.view.readAt (Elt F) (Rect.unit (fun _ => 0) s.size inb).toLoadRect f = M.view.read (Elt F) f := by
    funext x
    rw [View.readAt_apply]
    refine congrArg _ (funext fun a => Fin.ext ?_)
    show 0 + 1 * (x a).val = (x a).val
    omega
  have h := wp_load (m := M) (hl := hl) (f := f) (q := q) (k := k) (defs := defs₀ (F := F)) (S := M.view.set) (Q := Q)
    (Name := ℕ) (U := Pipeline.UD sig nD τ) (Lvl := ℕ) (Ix := Unit) (Γ := PendingWaitsCtx.empty) Variants.none (c : Thread nD τ) none Set.univ
    (View.setOn_subset_set _ _)
  rw [e] at h
  iapply h $$ H
  iintro H
  iapply Hk
  iexists f
  isplitr
  · ipureintro; rfl
  iexact H

/-- A store of the whole of a memref. -/
theorem run_store {s : Shape} {e : EltTy} {α : Type} {M : Memref sig .tc .vmem s e} {off : Fin s.rank → Nat} (ho : off = fun _ => 0)
    {inb : ∀ a, off a + s.size a ≤ s.size a} {w : s.Idx → Elt F e}
    {hx : (M.access (Rect.unit off s.size inb)).Stores Finset.univ}
    {hm : Finset.univ = Finset.univ ∨ ∀ a, (Rect.unit off s.size inb).stride a = 1} (c : Dev nD) {X : s.Idx → Elt F e}
    {k : PUnit → Prog (TpuEff nD τ sig (Elt F) Λ₀ .tc) α} {Q : α → sProp (Res F)} :
    owns (c : Thread nD τ) M fullShare X
      ⊢ iprop((owns (c : Thread nD τ) M fullShare w -∗ run c (k ⟨⟩) Q)
        -∗ run c (Prog.lift (.store M (Rect.unit off s.size inb) w Finset.univ hx hm) >>= k) Q) := by
  subst ho
  unfold owns
  iintro ⟨%f, %hf, H⟩ Hk
  have e : M.view.read (Elt F) ((M.access (Rect.unit (fun _ => 0) s.size inb)).write (Elt F) f w Finset.univ) = w := by
    funext x
    have hx : (Rect.unit (fun _ => 0) s.size inb).emb x = x := funext fun a => Fin.ext (by
      show 0 + 1 * (x a).val = (x a).val
      omega)
    have h := View.read_slice_write_emb (Val := Elt F) (v := M.view) (Rect.unit (fun _ => 0) s.size inb) f w (Finset.mem_univ x)
    rwa [hx] at h
  have h := wp_store (m := M) (hx := hx) (hm := hm) (f := f) (k := k) (w := w) (defs := defs₀ (F := F)) (S := M.view.set) (Q := Q)
    (Name := ℕ) (U := Pipeline.UD sig nD τ) (Lvl := ℕ) (Ix := Unit) (Γ := PendingWaitsCtx.empty) Variants.none (c : Thread nD τ) none Set.univ
    ((View.setOn_subset_set _ _).trans (View.set_slice_subset _ _))
  iapply h $$ H
  iintro H
  iapply Hk
  iexists ((M.access (Rect.unit (fun _ => 0) s.size inb)).write (Elt F) f w Finset.univ)
  isplitr
  · ipureintro; exact e
  iexact H

end Cert.ExpertsSharedIdeal.Hand

end
-- ==== Proof.SharedBody.lean ====
/-
  The shared expert's kernel at one grid point: what the slots, the semaphores and the narrowed weights hold before and
  after, in terms of a schedule read off the tables.
-/
module

public import proofs.«01_k».proof.Proof.SharedLane

@[expose] public section

noncomputable section

namespace Cert.ExpertsSharedIdeal.Hand

open Cert.ExpertsSharedIdeal Cert.ExpertsSharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The rings' slots, the experts' matrices and the semaphores -/

theorem slotIn (s : Fin 2) : ∀ a, (![s.val, 0, 0] : Fin 3 → Nat) a + S1x2048x512.size a ≤ S2x2048x512.size a := by
  revert s; decide
theorem slotIn' (s : Fin 2) : ∀ a, (![s.val, 0, 0] : Fin 3 → Nat) a + S1x512x2048.size a ≤ S2x512x2048.size a := by
  revert s; decide
theorem matIn (e : Fin 1) : ∀ a, (![0, e.val, 0, 0] : Fin 4 → Nat) a + S1x1x2048x512.size a ≤ S2x1x2048x512.size a := by
  revert e; decide
theorem matIn' (e : Fin 1) : ∀ a, (![0, e.val, 0, 0] : Fin 4 → Nat) a + S1x1x512x2048.size a ≤ S2x1x512x2048.size a := by
  revert e; decide
theorem cellIn (j : Fin 3) (s : Fin 2) : ∀ a, (![j.val, s.val] : Fin 2 → Nat) a + S1x1.size a ≤ S3x2.size a := by
  revert j s; decide

abbrev ring0 : Memref sig .tc .vmem S2x2048x512 .f32 := Memref.whole cc0_scratch0
abbrev ring1 : Memref sig .tc .vmem S2x2048x512 .f32 := Memref.whole cc0_scratch1
abbrev ring2 : Memref sig .tc .vmem S2x512x2048 .f32 := Memref.whole cc0_scratch2
abbrev arr0 : Memref sig .tc .hbm S2x1x2048x512 .f32 := Memref.whole main_v2
abbrev arr1 : Memref sig .tc .hbm S2x1x2048x512 .f32 := Memref.whole main_v3
abbrev arr2 : Memref sig .tc .hbm S2x1x512x2048 .f32 := Memref.whole main_v4

/-- Slot `s` of a ring of two `2048 × 512` slots. -/
abbrev slotA (R : Memref sig .tc .vmem S2x2048x512 .f32) (s : Fin 2) : Memref sig .tc .vmem S2048x512 .f32 :=
  (R.slice (Rect.unit (s := S2x2048x512) ![s.val, 0, 0] S1x2048x512.size (slotIn s)) (fun _ => rfl)).squeeze S2048x512 squeezes_S1x2048x512_S2048x512
/-- Slot `s` of a ring of two `512 × 2048` slots. -/
abbrev slotB (R : Memref sig .tc .vmem S2x512x2048 .f32) (s : Fin 2) : Memref sig .tc .vmem S512x2048 .f32 :=
  (R.slice (Rect.unit (s := S2x512x2048) ![s.val, 0, 0] S1x512x2048.size (slotIn' s)) (fun _ => rfl)).squeeze S512x2048 squeezes_S1x512x2048_S512x2048
/-- Expert `e`'s matrix of the layer. -/
abbrev matA (A : Memref sig .tc .hbm S2x1x2048x512 .f32) (e : Fin 1) : Memref sig .tc .hbm S2048x512 .f32 :=
  (A.slice (Rect.unit (s := S2x1x2048x512) ![0, e.val, 0, 0] S1x1x2048x512.size (matIn e)) (fun _ => rfl)).squeeze S2048x512 squeezes_S1x1x2048x512_S2048x512
abbrev matB (A : Memref sig .tc .hbm S2x1x512x2048 .f32) (e : Fin 1) : Memref sig .tc .hbm S512x2048 .f32 :=
  (A.slice (Rect.unit (s := S2x1x512x2048) ![0, e.val, 0, 0] S1x1x512x2048.size (matIn' e)) (fun _ => rfl)).squeeze S512x2048 squeezes_S1x1x512x2048_S512x2048
/-- The semaphore of matrix `j`'s transfers into slot `s`. -/
abbrev cell (j : Fin 3) (s : Fin 2) : DmaSem sig :=
  ((cc0_scratch6.slice (Rect.unit (s := S3x2) ![j.val, s.val] S1x1.size (cellIn j s))).squeeze S_ squeezes_S1x1_S_).sem

theorem slotA_eq {R : Memref sig .tc .vmem S2x2048x512 .f32} {s : Fin 2} {off : Fin 3 → Nat} (h : off = ![s.val, 0, 0])
    (inb : ∀ a, off a + S1x2048x512.size a ≤ S2x2048x512.size a) :
    (R.slice (Rect.unit (s := S2x2048x512) off S1x2048x512.size inb) (fun _ => rfl)).squeeze S2048x512 squeezes_S1x2048x512_S2048x512 = slotA R s := by
  subst h; rfl
theorem slotB_eq {R : Memref sig .tc .vmem S2x512x2048 .f32} {s : Fin 2} {off : Fin 3 → Nat} (h : off = ![s.val, 0, 0])
    (inb : ∀ a, off a + S1x512x2048.size a ≤ S2x512x2048.size a) :
    (R.slice (Rect.unit (s := S2x512x2048) off S1x512x2048.size inb) (fun _ => rfl)).squeeze S512x2048 squeezes_S1x512x2048_S512x2048 = slotB R s := by
  subst h; rfl
theorem matA_eq {A : Memref sig .tc .hbm S2x1x2048x512 .f32} {e : Fin 1} {off : Fin 4 → Nat} (h : off = ![0, e.val, 0, 0])
    (inb : ∀ a, off a + S1x1x2048x512.size a ≤ S2x1x2048x512.size a) :
    (A.slice (Rect.unit (s := S2x1x2048x512) off S1x1x2048x512.size inb) (fun _ => rfl)).squeeze S2048x512 squeezes_S1x1x2048x512_S2048x512 = matA A e := by
  subst h; rfl
theorem matB_eq {A : Memref sig .tc .hbm S2x1x512x2048 .f32} {e : Fin 1} {off : Fin 4 → Nat} (h : off = ![0, e.val, 0, 0])
    (inb : ∀ a, off a + S1x1x512x2048.size a ≤ S2x1x512x2048.size a) :
    (A.slice (Rect.unit (s := S2x1x512x2048) off S1x1x512x2048.size inb) (fun _ => rfl)).squeeze S512x2048 squeezes_S1x1x512x2048_S512x2048 = matB A e := by
  subst h; rfl
theorem cell_eq {j : Fin 3} {s : Fin 2} {off : Fin 2 → Nat} (h : off = ![j.val, s.val]) (inb : ∀ a, off a + S1x1.size a ≤ S3x2.size a) :
    ((cc0_scratch6.slice (Rect.unit (s := S3x2) off S1x1.size inb)).squeeze S_ squeezes_S1x1_S_).sem = cell j s := by
  subst h; rfl

/-! ## A slot read through its ring -/

/-- A slot's matrix at the ring's indices. -/
abbrev unsq {s s' : Shape} (h : s.Squeezes s') (X : s'.Idx → Elt F .f32) : s.Idx → Elt F .f32 :=
  fun j => X ((Shape.reshapeEquiv h.numel_eq).symm j)

theorem run_slot {s s' : Shape} {α : Type} {R : Memref sig .tc .vmem s .f32} {off off' size : Fin s.rank → Nat} (ho : off = off')
    {inb : ∀ a, off a + size a ≤ s.size a} {inb' : ∀ a, off' a + size a ≤ s.size a}
    {hst : ∀ a, (Rect.unit off' size inb').stride a = 1} {hq : (Rect.unit off' size inb').shape.Squeezes s'}
    {hl : R.view.LoadsAt (Rect.unit off size inb).toLoadRect} (c : Dev nD) {q : PosShare TreeShare} {X : s'.Idx → Elt F .f32}
    {k : ((Rect.unit off size inb).shape.Idx → Elt F .f32) → Prog (TpuEff nD τ sig (Elt F) Λ₀ .tc) α} {Q : α → sProp (Res F)} :
    owns (c : Thread nD τ) ((R.slice (Rect.unit off' size inb') hst).squeeze s' hq) q X
      ⊢ iprop((owns (c : Thread nD τ) ((R.slice (Rect.unit off' size inb') hst).squeeze s' hq) q X -∗ run c (k (unsq hq X)) Q)
        -∗ run c (Prog.lift (.load R (Rect.unit off size inb).toLoadRect hl) >>= k) Q) := by
  subst ho
  unfold owns
  iintro ⟨%f, %hf, H⟩ Hk
  subst hf
  have e : R.view.readAt (Elt F) (Rect.unit off size inb).toLoadRect f
      = unsq hq (((R.slice (Rect.unit off size inb) hst).squeeze s' hq).view.read (Elt F) f) := by
    funext x
    rw [View.readAt_rect]
    show _ = (R.view.slice (Rect.unit off size inb)).read (Elt F) f (Shape.reshapeEquiv hq.numel_eq ((Shape.reshapeEquiv hq.numel_eq).symm x))
    rw [Equiv.apply_symm_apply]
  have h := wp_load_rect (m := R) (r := Rect.unit off size inb) (hl := hl) (f := f) (q := q) (k := k) (defs := defs₀ (F := F))
    (S := ((R.slice (Rect.unit off size inb) hst).squeeze s' hq).view.set) (Q := Q)
    (Name := ℕ) (U := Pipeline.UD sig nD τ) (Lvl := ℕ) (Ix := Unit) (Γ := PendingWaitsCtx.empty) Variants.none (c : Thread nD τ) none Set.univ
    (by rw [Memref.set_view_squeeze])
  rw [show (R.access (Rect.unit off size inb)).read (Elt F) f = unsq hq (((R.slice (Rect.unit off size inb) hst).squeeze s' hq).view.read (Elt F) f) from e] at h
  iapply h $$ H
  iintro H
  iapply Hk
  iexists f
  isplitr
  · ipureintro; rfl
  iexact H

/-! ## What a lane holds -/

section Lane

variable {s : Shape} (W : Fin 1 → Memref sig .tc .hbm s .f32) (D : Fin 2 → Memref sig .tc .vmem s .f32) (cl : Fin 2 → DmaSem sig)
  (c : Dev nD) (V : ∀ e, Buf (Elt F) ((W e).view.loc (c : Thread nD τ)))

/-- A lane: with nothing under way, or with expert `e`'s matrix on its way into slot `s`. -/
def Lane : Option (Fin 1 × Fin 2) → sProp (Res F)
  | none => iprop(((W 0).view.loc (c : Thread nD τ) ↦{fullShare} V 0) ∗ Slot (D 0) c ∗ Slot (D 1) c
      ∗ semVal ((c : Thread nD τ), SemLoc.dma (cl 0)) 0 ∗ semVal ((c : Thread nD τ), SemLoc.dma (cl 1)) 0)
  | some (e, b) => iprop(Pend (W e) (D b) (cl b) c (V e) ∗ Slot (D (1 - b)) c ∗ semVal ((c : Thread nD τ), SemLoc.dma (cl (1 - b))) 0)

/-- The rest of a lane whose slot `b` is in use: the other slot empty, or expert `e`'s matrix on its way into it. -/
def Other (b : Fin 2) : Option (Fin 1) → sProp (Res F)
  | none => iprop(((W 0).view.loc (c : Thread nD τ) ↦{fullShare} V 0) ∗ Slot (D (1 - b)) c
      ∗ semVal ((c : Thread nD τ), SemLoc.dma (cl (1 - b))) 0 ∗ semVal ((c : Thread nD τ), SemLoc.dma (cl b)) 0)
  | some e => iprop(Pend (W e) (D (1 - b)) (cl (1 - b)) c (V e) ∗ semVal ((c : Thread nD τ), SemLoc.dma (cl b)) 0)

/-- What the matrices' array holds does not depend on the expert it is spoken of through. -/
def Alike : Prop := ∀ e e', ((W e).view.loc (c : Thread nD τ) ↦{fullShare} V e : sProp (Res F)) = ((W e').view.loc (c : Thread nD τ) ↦{fullShare} V e')

variable {W D cl V}

theorem lane_of_other {b : Fin 2} {o : Option (Fin 1)} {X : s.Idx → Elt F .f32} :
    iprop(owns (c : Thread nD τ) (D b) fullShare X ∗ Other W D cl c V b o) ⊢ Lane W D cl c V (o.map fun e => (e, 1 - b)) := by
  have hb : (1 : Fin 2) - (1 - b) = b := by revert b; decide
  have hs : owns (c : Thread nD τ) (D b) fullShare X ⊢ (Slot (D b) c : sProp (Res F)) := by
    unfold owns Slot
    iintro ⟨%f, -, H⟩
    iexists f
    iexact H
  cases o with
  | some e =>
    simp only [Other, Lane, Option.map_some, hb]
    iintro ⟨Ho, HP, Hv⟩
    isplitl [HP]; · iexact HP
    isplitl [Ho]; · iapply hs; iexact Ho
    iexact Hv
  | none =>
    simp only [Other, Lane, Option.map_none]
    have h2 : ∀ b' : Fin 2, b' = 0 ∨ b' = 1 := by decide
    obtain rfl | rfl := h2 b
    · iintro ⟨Ho, HW, HS, Hv1, Hv0⟩
      isplitl [HW]; · iexact HW
      isplitl [Ho]; · iapply hs; iexact Ho
      isplitl [HS]; · iexact HS
      isplitl [Hv0]; · iexact Hv0
      iexact Hv1
    · iintro ⟨Ho, HW, HS, Hv1, Hv0⟩
      isplitl [HW]; · iexact HW
      isplitl [HS]; · iexact HS
      isplitl [Ho]; · iapply hs; iexact Ho
      isplitl [Hv1]; · iexact Hv1
      iexact Hv0

/-- The first transfer, into slot `0`. -/
theorem lane_start (hV : Alike W c V) {e : Fin 1} {α : Type} {src : Memref sig .tc .hbm s .f32} {dst : Memref sig .tc .vmem s .f32} {sem : DmaSem sig}
    (hs : src = W e) (hd : dst = D 0) (hm : sem = cl 0) (hp : 0 < s.numel)
    {h1 : src.view.WordExact} {h2 : dst.view.WordExact} {h3 : DmaTarget.Typed (nD := nD) (τ := τ) .hbm (.dma sem) (.here (p := Proc.tc) dst)}
    {k : PUnit → Prog (TpuEff nD τ sig (Elt F) Λ₀ .tc) α} {Q : α → sProp (Res F)} :
    Lane W D cl c V none
      ⊢ iprop((Lane W D cl c V (some (e, 0)) -∗ run c (k ⟨⟩) Q)
          -∗ run c (Prog.lift (.enqueueDma src (.here dst) (.dma sem) h1 h2 h3) >>= k) Q) := by
  simp only [Lane]
  rw [hV 0 e]
  iintro ⟨HW, HS0, HS1, Hv0, Hv1⟩ Hk
  iapply (run_issue hs hd hm hp c (V := V e)) $$ [HW HS0 Hv0]
  · isplitl [HW]; · iexact HW
    isplitl [HS0]; · iexact HS0
    iexact Hv0
  iintro HP
  iapply Hk
  isplitl [HP]; · iexact HP
  isplitl [HS1]; · iexact HS1
  iexact Hv1

/-- A wait for the transfer under way. -/
theorem lane_wait (hV : Alike W c V) {e : Fin 1} {b : Fin 2} {α : Type} {src : Memref sig .tc .hbm s .f32} {dst : Memref sig .tc .vmem s .f32} {sem : DmaSem sig}
    (hd : dst = D b) (hm : sem = cl b)
    {h1 : src.view.WordExact} {h2 : dst.view.WordExact} {Ws : Waits sig Unit}
    {k : PUnit → Prog (TpuEff nD τ sig (Elt F) Λ₀ .tc) α} {Q : α → sProp (Res F)} :
    iprop(Lane W D cl c V (some (e, b)) ∗ owes (c : Thread nD τ) 0 Ws)
      ⊢ iprop((iprop(owns (c : Thread nD τ) (D b) fullShare ((W e).view.read (Elt F) (V e)) ∗ Other W D cl c V b none
              ∗ owes (c : Thread nD τ) 0 (insert (SemLoc.dma (cl b), ()) Ws)) -∗ run c (k ⟨⟩) Q)
          -∗ run c (Prog.lift (.waitDma2 sem src dst h1 h2) >>= k) Q) := by
  simp only [Lane, Other]
  rw [hV 0 e]
  iintro ⟨⟨HP, HS1, Hv1⟩, HO⟩ Hk
  iapply (run_wait (S := W e) hd hm c (V := V e)) $$ [HP HO]
  · isplitl [HP]; · iexact HP
    iexact HO
  iintro ⟨HD, HW, Hv, HO⟩
  iapply Hk
  isplitl [HD]; · iexact HD
  isplitr [HO]
  · isplitl [HW]; · iexact HW
    isplitl [HS1]; · iexact HS1
    isplitl [Hv1]; · iexact Hv1
    iexact Hv
  iexact HO

/-- The next transfer, into the slot not in use. -/
theorem lane_next (hV : Alike W c V) {e : Fin 1} {b : Fin 2} {α : Type} {src : Memref sig .tc .hbm s .f32} {dst : Memref sig .tc .vmem s .f32} {sem : DmaSem sig}
    (hs : src = W e) (hd : dst = D (1 - b)) (hm : sem = cl (1 - b)) (hp : 0 < s.numel)
    {h1 : src.view.WordExact} {h2 : dst.view.WordExact} {h3 : DmaTarget.Typed (nD := nD) (τ := τ) .hbm (.dma sem) (.here (p := Proc.tc) dst)}
    {k : PUnit → Prog (TpuEff nD τ sig (Elt F) Λ₀ .tc) α} {Q : α → sProp (Res F)} :
    Other W D cl c V b none
      ⊢ iprop((Other W D cl c V b (some e) -∗ run c (k ⟨⟩) Q)
          -∗ run c (Prog.lift (.enqueueDma src (.here dst) (.dma sem) h1 h2 h3) >>= k) Q) := by
  simp only [Other]
  rw [hV 0 e]
  iintro ⟨HW, HS, Hv1, Hv0⟩ Hk
  iapply (run_issue hs hd hm hp c (V := V e)) $$ [HW HS Hv1]
  · isplitl [HW]; · iexact HW
    isplitl [HS]; · iexact HS
    iexact Hv1
  iintro HP
  iapply Hk
  isplitl [HP]; · iexact HP
  iexact Hv0

end Lane

/-! ## The kernel's computed offsets at words that name an expert or a slot -/

/-- The word of an expert, of a slot. -/
abbrev word {n : Nat} (e : Fin n) : BitVec 32 := BitVec.ofNat 32 e.val

theorem off1_w : ∀ e : Fin 1, k0_off1 (word e) = ![0, e.val, 0, 0] := by decide +kernel
theorem off2_w : ∀ e : Fin 1, k0_off2 (word e) = ![0, e.val, 0, 0] := by decide +kernel
theorem off7_w : ∀ e : Fin 1, k0_off7 (word e) = ![0, e.val, 0, 0] := by decide +kernel
theorem off12_w : ∀ e : Fin 1, k0_off12 (word e) = ![0, e.val, 0, 0] := by decide +kernel
theorem off17_w : ∀ e : Fin 1, k0_off17 (word e) = ![0, e.val, 0, 0] := by decide +kernel
theorem off22_w : ∀ e : Fin 1, k0_off22 (word e) = ![0, e.val, 0, 0] := by decide +kernel
theorem off5_w : ∀ b : Fin 2, k0_off5 (word b) = ![(0 : Fin 3).val, b.val] := by decide +kernel
theorem off8_w : ∀ b : Fin 2, k0_off8 (word b) = ![(1 : Fin 3).val, b.val] := by decide +kernel
theorem off10_w : ∀ b : Fin 2, k0_off10 (word b) = ![(2 : Fin 3).val, b.val] := by decide +kernel
theorem off6_w : ∀ b : Fin 2, k0_off6 (word b) = ![b.val, 0, 0] := by decide +kernel
theorem off9_w : ∀ b : Fin 2, k0_off9 (word b) = ![b.val, 0, 0] := by decide +kernel
theorem off11_w : ∀ b : Fin 2, k0_off11 (word b) = ![b.val, 0, 0] := by decide +kernel
theorem off23_w : ∀ b : Fin 2, k0_off23 (word b) = ![b.val, 0, 0] := by decide +kernel
theorem off24_w : ∀ b : Fin 2, k0_off24 (word b) = ![b.val, 0, 0] := by decide +kernel
theorem off15_w : ∀ b : Fin 2, k0_off15 (word b) = ![(0 : Fin 3).val, (1 - b).val] := by decide +kernel
theorem off18_w : ∀ b : Fin 2, k0_off18 (word b) = ![(1 : Fin 3).val, (1 - b).val] := by decide +kernel
theorem off20_w : ∀ b : Fin 2, k0_off20 (word b) = ![(2 : Fin 3).val, (1 - b).val] := by decide +kernel
theorem off16_w : ∀ b : Fin 2, k0_off16 (word b) = ![(1 - b).val, 0, 0] := by decide +kernel
theorem off19_w : ∀ b : Fin 2, k0_off19 (word b) = ![(1 - b).val, 0, 0] := by decide +kernel
theorem off21_w : ∀ b : Fin 2, k0_off21 (word b) = ![(1 - b).val, 0, 0] := by decide +kernel

theorem chk1_w (i : grid0.Coords) (e : Fin 1) : k0_chk1 i (word e) :=
  ⟨fun _ => by rw [off1_w]; exact matIn e, fun _ => by rw [off2_w]; exact matIn' e⟩
theorem chk2_w (v : BitVec 32) (b : Fin 2) : k0_chk2 v (word b) :=
  ⟨fun _ => by rw [off5_w]; exact cellIn 0 b, fun _ => by rw [off6_w]; exact slotIn b,
    fun _ => by rw [off8_w]; exact cellIn 1 b, fun _ => by rw [off9_w]; exact slotIn b,
    fun _ => by rw [off10_w]; exact cellIn 2 b, fun _ => by rw [off11_w]; exact slotIn' b,
    fun _ => by rw [off23_w]; exact slotIn b, fun _ => by rw [off24_w]; exact slotIn' b⟩
theorem chk3_w (v : BitVec 32) (e : Fin 1) : k0_chk3 v (word e) :=
  ⟨fun _ => by rw [off7_w]; exact matIn e, fun _ => by rw [off12_w]; exact matIn' e⟩
theorem chk4_w (v v' : BitVec 32) (b : Fin 2) : k0_chk4 v (word b) v' :=
  ⟨fun _ _ => by rw [off15_w]; exact cellIn 0 (1 - b), fun _ _ => by rw [off16_w]; exact slotIn (1 - b),
    fun _ _ => by rw [off18_w]; exact cellIn 1 (1 - b), fun _ _ => by rw [off19_w]; exact slotIn (1 - b),
    fun _ _ => by rw [off20_w]; exact cellIn 2 (1 - b), fun _ _ => by rw [off21_w]; exact slotIn' (1 - b)⟩
theorem chk5_w (v v' : BitVec 32) (e : Fin 1) : k0_chk5 v v' (word e) :=
  ⟨fun _ _ => by rw [off17_w]; exact matIn e, fun _ _ => by rw [off22_w]; exact matIn' e⟩

theorem cond3_w : ∀ e : Fin 1, k0_cond3 (word e) = 1#1 := by decide +kernel
theorem cond3_none : ¬ k0_cond3 (4294967295#32) = 1#1 := by decide +kernel

theorem guard_iff : ∀ b : Bool, Scalar.cmpi .ne (Scalar.extui (BitVec.ofBool b)) 0#32 = 1#1 ↔ b = true := by decide

theorem cond1_iff (i : grid0.Coords) : k0_cond1 i = 1#1 ↔ (i 0).val = 0 := by
  have h : ∀ n : Fin 16, (BitVec.ofNat 32 n.val = 0#32) ↔ n.val = 0 := by decide +kernel
  rw [← h (i 0)]
  exact (guard_iff (BitVec.ofNat 32 (i 0).val == 0#32)).trans beq_iff_eq

theorem cond2_iff (v : BitVec 32) : k0_cond2 v = 1#1 ↔ v = 1#32 := (guard_iff (v == 1#32)).trans beq_iff_eq

theorem cond4_iff (i : grid0.Coords) (v : BitVec 32) : k0_cond4 i v = 1#1 ↔ (BitVec.ofNat 32 (i 0).val).slt v = true := guard_iff _

theorem cond45 (i : grid0.Coords) (v : BitVec 32) : k0_cond5 i v = 1#1 ↔ ¬ k0_cond4 i v = 1#1 := by
  rw [cond4_iff]
  refine (guard_iff (v.sle (BitVec.ofNat 32 (i 0).val))).trans ?_
  rw [BitVec.sle_eq_not_slt]
  simp

end Cert.ExpertsSharedIdeal.Hand

end
-- ==== Proof.SharedStep.lean ====
/-
  One grid point of the shared expert's kernel, run: the first point starts the first transfer; a point whose expert is
  new waits for its matrices, starts the next expert's and narrows the ones that came; every point writes its block.
-/
module

public import proofs.«01_k».proof.Proof.SharedBody

@[expose] public section

noncomputable section

namespace Cert.ExpertsSharedIdeal.Hand

open Cert.ExpertsSharedIdeal Cert.ExpertsSharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The five tables, as words. -/
structure Tables where
  be : S16.Idx → BitVec 32
  nu : S1.Idx → BitVec 32
  fi : S16.Idx → BitVec 32
  sl : S16.Idx → BitVec 32
  nx : S16.Idx → BitVec 32

/-- Entry `t` of a table. -/
abbrev ent (t : Fin 16) : S16.Idx := fun a => ⟨t.val, by rw [Subsingleton.elim a (0 : Fin 1)]; exact t.isLt⟩
/-- The entry of a table of one. -/
abbrev ent0 : S1.Idx := fun a => ⟨0, by rw [Subsingleton.elim a (0 : Fin 1)]; exact Nat.one_pos⟩

/-- The schedule the tables spell: `pend t` is the transfer under way before point `t` (its expert and slot) once the
    first point has started the first, `cur t` the expert whose narrowed matrices are held before point `t`. -/
structure Sched (T : Tables) (pend : ℕ → Option (Fin 1 × Fin 2)) (cur : ℕ → Fin 1) : Prop where
  first0 : T.fi (ent 0) = 1#32
  start : ∃ e : Fin 1, T.be (ent 0) = word e ∧ pend 0 = some (e, 0)
  load : ∀ t : Fin 16, T.fi (ent t) = 1#32 → ∃ (e : Fin 1) (b : Fin 2) (o : Option (Fin 1)), T.be (ent t) = word e ∧ T.sl (ent t) = word b
    ∧ pend t.val = some (e, b) ∧ cur (t.val + 1) = e ∧ pend (t.val + 1) = o.map (fun e' => (e', 1 - b))
    ∧ T.nx (ent t) = (match o with | none => 4294967295#32 | some e' => word e')
  keep : ∀ t : Fin 16, T.fi (ent t) ≠ 1#32 → pend (t.val + 1) = pend t.val ∧ cur (t.val + 1) = cur t.val
  last : pend 16 = none

/-- The weights' arrays. -/
structure Arrays (F : FTy → Type) where
  g : S2x1x2048x512.Idx → Elt F .f32
  u : S2x1x2048x512.Idx → Elt F .f32
  d : S2x1x512x2048.Idx → Elt F .f32

variable (A : Arrays F) (T : Tables)

/-- An expert's three matrices. -/
abbrev Xg (e : Fin 1) : S2048x512.Idx → Elt F .f32 := (matA arr0 e).view.read (Elt F) A.g
abbrev Xu (e : Fin 1) : S2048x512.Idx → Elt F .f32 := (matA arr1 e).view.read (Elt F) A.u
abbrev Xd (e : Fin 1) : S512x2048.Idx → Elt F .f32 := (matB arr2 e).view.read (Elt F) A.d

/-- The matrices narrowed, as the kernel keeps them. -/
abbrev Ng (e : Fin 1) : FVec F S2048x512 .bf16 := k0_pay1 (k0_pay6 (unsq squeezes_S1x2048x512_S2048x512 (Xg A e)))
abbrev Nu (e : Fin 1) : FVec F S2048x512 .bf16 := k0_pay2 (unsq squeezes_S1x2048x512_S2048x512 (Xu A e))
abbrev Nd (e : Fin 1) : FVec F S512x2048 .bf16 := k0_pay3 (unsq squeezes_S1x512x2048_S512x2048 (Xd A e))

abbrev bufG : Memref sig .tc .vmem S2048x512 .bf16 := Memref.whole cc0_scratch3
abbrev bufU : Memref sig .tc .vmem S2048x512 .bf16 := Memref.whole cc0_scratch4
abbrev bufD : Memref sig .tc .vmem S512x2048 .bf16 := Memref.whole cc0_scratch5

variable (c : Dev nD)

/-- The three lanes. -/
abbrev lane0 (o : Option (Fin 1 × Fin 2)) : sProp (Res F) := Lane (matA arr0) (slotA ring0) (cell 0) c (fun _ => A.g) o
abbrev lane1 (o : Option (Fin 1 × Fin 2)) : sProp (Res F) := Lane (matA arr1) (slotA ring1) (cell 1) c (fun _ => A.u) o
abbrev lane2 (o : Option (Fin 1 × Fin 2)) : sProp (Res F) := Lane (matB arr2) (slotB ring2) (cell 2) c (fun _ => A.d) o
abbrev other0 (b : Fin 2) (o : Option (Fin 1)) : sProp (Res F) := Other (matA arr0) (slotA ring0) (cell 0) c (fun _ => A.g) b o
abbrev other1 (b : Fin 2) (o : Option (Fin 1)) : sProp (Res F) := Other (matA arr1) (slotA ring1) (cell 1) c (fun _ => A.u) b o
abbrev other2 (b : Fin 2) (o : Option (Fin 1)) : sProp (Res F) := Other (matB arr2) (slotB ring2) (cell 2) c (fun _ => A.d) b o

theorem alike0 : Alike (matA arr0) c (fun _ => A.g) := fun _ _ => rfl
theorem alike1 : Alike (matA arr1) c (fun _ => A.u) := fun _ _ => rfl
theorem alike2 : Alike (matB arr2) c (fun _ => A.d) := fun _ _ => rfl

/-- The narrowed matrices: at some contents, or expert `e`'s. -/
def Kept : Option (Fin 1) → sProp (Res F)
  | none => iprop((∃ X, owns (c : Thread nD τ) bufG fullShare X) ∗ (∃ X, owns (c : Thread nD τ) bufU fullShare X)
      ∗ (∃ X, owns (c : Thread nD τ) bufD fullShare X))
  | some e => iprop(owns (c : Thread nD τ) bufG fullShare (Ng A e) ∗ owns (c : Thread nD τ) bufU fullShare (Nu A e)
      ∗ owns (c : Thread nD τ) bufD fullShare (Nd A e))

theorem kept_some (o : Option (Fin 1)) : Kept A c o ⊢ Kept A c none := by
  cases o with
  | none => exact .rfl
  | some e =>
    simp only [Kept]
    iintro ⟨H1, H2, H3⟩
    isplitl [H1]; · iexists _; iexact H1
    isplitl [H2]; · iexists _; iexact H2
    iexists _; iexact H3

/-- A table held at the tables' share. -/
abbrev tab {s : Shape} (M : Memref sig .tc .smem s .i32) (f : Buf (Elt F) (M.view.loc (c : Thread nD τ))) : sProp (Res F) :=
  M.view.loc (c : Thread nD τ) ↦{fullShare.right} f

abbrev tabBe : Memref sig .tc .smem S16 .i32 := Memref.whole main_v0
abbrev tabNu : Memref sig .tc .smem S1 .i32 := Memref.whole main_v1
abbrev tabFi : Memref sig .tc .smem S16 .i32 := Memref.whole main_v39
abbrev tabSl : Memref sig .tc .smem S16 .i32 := Memref.whole main_v21
abbrev tabNx : Memref sig .tc .smem S16 .i32 := Memref.whole main_v38

/-- The tables. -/
abbrev Tabs : sProp (Res F) :=
  iprop(tab c tabBe T.be ∗ tab c tabNu T.nu ∗ tab c tabFi T.fi ∗ tab c tabSl T.sl ∗ tab c tabNx T.nx)

/-! ## Words of the tables -/

theorem read_be (f : S16.Idx → BitVec 32) (t : Fin 16) {off : Fin 1 → Nat} (ho : off = ![t.val])
    {inb : ∀ a, off a + S1.size a ≤ S16.size a} (h : 0 < (Rect.unit (s := S16) off S1.size inb).shape.numel) :
    ((Memref.whole main_v0 : Memref sig .tc .smem S16 .i32).access (Rect.unit (s := S16) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_fi (f : S16.Idx → BitVec 32) (t : Fin 16) {off : Fin 1 → Nat} (ho : off = ![t.val])
    {inb : ∀ a, off a + S1.size a ≤ S16.size a} (h : 0 < (Rect.unit (s := S16) off S1.size inb).shape.numel) :
    ((Memref.whole main_v39 : Memref sig .tc .smem S16 .i32).access (Rect.unit (s := S16) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_sl (f : S16.Idx → BitVec 32) (t : Fin 16) {off : Fin 1 → Nat} (ho : off = ![t.val])
    {inb : ∀ a, off a + S1.size a ≤ S16.size a} (h : 0 < (Rect.unit (s := S16) off S1.size inb).shape.numel) :
    ((Memref.whole main_v21 : Memref sig .tc .smem S16 .i32).access (Rect.unit (s := S16) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_nx (f : S16.Idx → BitVec 32) (t : Fin 16) {off : Fin 1 → Nat} (ho : off = ![t.val])
    {inb : ∀ a, off a + S1.size a ≤ S16.size a} (h : 0 < (Rect.unit (s := S16) off S1.size inb).shape.numel) :
    ((Memref.whole main_v38 : Memref sig .tc .smem S16 .i32).access (Rect.unit (s := S16) off S1.size inb)).read (Elt F) f (Shape.Idx.first h) = f (ent t) := by
  subst ho
  show f _ = f _
  refine congrArg f (funext fun a => Fin.ext ?_)
  have h0 := (Shape.Idx.first h a).isLt
  match a with
  | 0 =>
    show t.val + 1 * (Shape.Idx.first h 0).val = t.val
    have h1 : (Shape.Idx.first h 0).val < 1 := h0
    omega
theorem read_nu (f : S1.Idx → BitVec 32) {inb : ∀ a, (![0] : Fin 1 → Nat) a + S1.size a ≤ S1.size a}
    (h : 0 < (Rect.unit (s := S1) ![0] S1.size inb).shape.numel) :
    ((Memref.whole main_v1 : Memref sig .tc .smem S1 .i32).access (Rect.unit (s := S1) ![0] S1.size inb)).read (Elt F) f (Shape.Idx.first h) = f ent0 := by
  show f _ = f _
  refine congrArg f (funext fun a => Fin.ext ?_)
  have h0 := (Shape.Idx.first h a).isLt
  match a with
  | 0 =>
    show 0 + 1 * (Shape.Idx.first h 0).val = 0
    have h1 : (Shape.Idx.first h 0).val < 1 := h0
    omega

/-! ## A point whose expert is new: wait, start the next, read the first matrix -/

theorem run_part1 (t : Fin 16) (i : grid0.Coords) (hi : (i 0).val = t.val)
    (M6 : Memref sig .tc .vmem S512x2048 .bf16) (h6 : M6.IsWhole) (M10 : Memref sig .tc .vmem S512x2048 .f32) (h10 : M10.IsWhole)
    (v4 : BitVec 32) (hc : k0_cond2 v4 = 1#1) {e : Fin 1} {b : Fin 2} {o : Option (Fin 1)}
    (hbe : T.be (ent t) = word e) (hsl : T.sl (ent t) = word b)
    (hnx : T.nx (ent t) = (match o with | none => 4294967295#32 | some e' => word e'))
    {Ws : Waits sig Unit} {Q : (Σ' (v17 : Elt F .i32) (k0_hw2 : k0_chk2 v4 v17), FVec F S2048x512 .bf16) → sProp (Res F)}
    {R : Σ' (v17 : Elt F .i32) (k0_hw2 : k0_chk2 v4 v17), FVec F S2048x512 .bf16}
    (hR : R = ⟨word b, chk2_w v4 b, k0_pay6 (unsq squeezes_S1x2048x512_S2048x512 (Xg A e))⟩) :
    iprop(lane0 A c (some (e, b)) ∗ lane1 A c (some (e, b)) ∗ lane2 A c (some (e, b)) ∗ Tabs T c ∗ owes (c : Thread nD τ) 0 Ws)
      ⊢ iprop((iprop(owns (c : Thread nD τ) (slotA ring0 b) fullShare (Xg A e) ∗ owns (c : Thread nD τ) (slotA ring1 b) fullShare (Xu A e)
            ∗ owns (c : Thread nD τ) (slotB ring2 b) fullShare (Xd A e)
            ∗ other0 A c b o ∗ other1 A c b o ∗ other2 A c b o ∗ Tabs T c ∗ (∃ Ws', owes (c : Thread nD τ) 0 Ws'))
            -∗ Q R)
        -∗ run c (k0_part1 i (Memref.whole main_v0) (Memref.isWhole_whole _) (Memref.whole main_v1) (Memref.isWhole_whole _)
            (Memref.whole main_v39) (Memref.isWhole_whole _) (Memref.whole main_v21) (Memref.isWhole_whole _) (Memref.whole main_v38) (Memref.isWhole_whole _)
            M6 h6 arr0 (Memref.isWhole_whole _) arr1 (Memref.isWhole_whole _) arr2 (Memref.isWhole_whole _) M10 h10
            ring0 (Memref.isWhole_whole _) ring1 (Memref.isWhole_whole _) ring2 (Memref.isWhole_whole _)
            bufG (Memref.isWhole_whole _) bufU (Memref.isWhole_whole _) bufD (Memref.isWhole_whole _) cc0_scratch6
            (BitVec.ofNat 32 (i 0).val) v4 hc) Q) := by
  simp only [k0_part1_eq_skeleton]
  unfold k0_part1_skel
  iintro ⟨L0, L1, L2, ⟨Tb, Tn, Tf, Ts, Tx⟩, HO⟩ HQ
  iapply (run_word c (v := word b) (by rw [← hsl]; exact read_sl T.sl t (by rw [k0_off4_eq, hi]) _)) $$ Ts
  iintro Ts
  iapply (run_assume (chk2_w v4 b) c)
  iapply (run_word c (v := word e) (by rw [← hbe]; exact read_be T.be t (by rw [k0_off4_eq, hi]) _)) $$ Tb
  iintro Tb
  iapply (run_assume (chk3_w v4 e) c)
  iapply (lane_wait c (alike0 A c) (slotA_eq (off6_w b) _) (cell_eq (off5_w b) _)) $$ [L0 HO]
  · isplitl [L0]; · iexact L0
    iexact HO
  iintro ⟨D0, O0, HO⟩
  iapply (lane_wait c (alike1 A c) (slotA_eq (off9_w b) _) (cell_eq (off8_w b) _)) $$ [L1 HO]
  · isplitl [L1]; · iexact L1
    iexact HO
  iintro ⟨D1, O1, HO⟩
  iapply (lane_wait c (alike2 A c) (slotB_eq (off11_w b) _) (cell_eq (off10_w b) _)) $$ [L2 HO]
  · isplitl [L2]; · iexact L2
    iexact HO
  iintro ⟨D2, O2, HO⟩
  iapply (run_word c (v := T.nx (ent t)) (read_nx T.nx t (by rw [k0_off13_eq, hi]) _)) $$ Tx
  iintro Tx
  iapply (run_assume (chk4_w v4 (T.nx (ent t)) b) c)
  have fin : ∀ o' : Option (Fin 1),
      iprop(owns (c : Thread nD τ) (slotA ring0 b) fullShare (Xg A e) ∗ owns (c : Thread nD τ) (slotA ring1 b) fullShare (Xu A e)
            ∗ owns (c : Thread nD τ) (slotB ring2 b) fullShare (Xd A e)
            ∗ other0 A c b o' ∗ other1 A c b o' ∗ other2 A c b o' ∗ Tabs T c ∗ (∃ Ws', owes (c : Thread nD τ) 0 Ws'))
      ⊢ iprop((iprop(owns (c : Thread nD τ) (slotA ring0 b) fullShare (Xg A e) ∗ owns (c : Thread nD τ) (slotA ring1 b) fullShare (Xu A e)
            ∗ owns (c : Thread nD τ) (slotB ring2 b) fullShare (Xd A e)
            ∗ other0 A c b o' ∗ other1 A c b o' ∗ other2 A c b o' ∗ Tabs T c ∗ (∃ Ws', owes (c : Thread nD τ) 0 Ws'))
            -∗ Q R)
        -∗ run c (Prog.lift (.load ring0 (Rect.unit (s := S2x2048x512) (k0_off23 (word b)) S1x2048x512.size (k0_off23_inb v4 (word b) (chk2_w v4 b) hc)).toLoadRect
              (View.loadsAt_vmem h_S1x2048x512))
            >>= fun v44 => pure ⟨word b, chk2_w v4 b, k0_pay6 v44⟩) Q) := by
    intro o'
    iintro ⟨D0, D1, D2, G⟩ HQ
    iapply (run_slot (off23_w b) c) $$ D0
    iintro D0
    iapply (run_ret' (b := R) c hR.symm)
    iapply HQ
    isplitl [D0]; · iexact D0
    isplitl [D1]; · iexact D1
    isplitl [D2]; · iexact D2
    iexact G
  cases o with
  | none =>
    have hc3 : ¬ k0_cond3 (T.nx (ent t)) = 1#1 := by rw [hnx]; exact cond3_none
    rw [dif_neg hc3]
    beta_reduce
    iapply (fin none) $$ [D0 D1 D2 O0 O1 O2 Tb Tn Tf Ts Tx HO] [HQ]
    · isplitl [D0]; · iexact D0
      isplitl [D1]; · iexact D1
      isplitl [D2]; · iexact D2
      isplitl [O0]; · iexact O0
      isplitl [O1]; · iexact O1
      isplitl [O2]; · iexact O2
      isplitr [HO]
      · isplitl [Tb]; · iexact Tb
        isplitl [Tn]; · iexact Tn
        isplitl [Tf]; · iexact Tf
        isplitl [Ts]; · iexact Ts
        iexact Tx
      iexists _
      iexact HO
    iexact HQ
  | some e' =>
    have hc3 : k0_cond3 (T.nx (ent t)) = 1#1 := by rw [hnx]; exact cond3_w e'
    rw [dif_pos hc3]
    iapply (run_word c (v := word e') (by
      have h := read_nx (F := F) T.nx t (off := k0_off14 i) (by rw [k0_off14_eq, hi]) (inb := k0_off14_inb i) (numel1_S1.symm ▸ Nat.one_pos)
      rw [hnx] at h
      exact h)) $$ Tx
    iintro Tx
    iapply (run_assume (chk5_w v4 (T.nx (ent t)) e') c)
    iapply (lane_next c (alike0 A c) (matA_eq (off17_w e') _) (slotA_eq (off16_w b) _) (cell_eq (off15_w b) _) (by decide)) $$ O0
    iintro O0
    iapply (lane_next c (alike1 A c) (matA_eq (off17_w e') _) (slotA_eq (off19_w b) _) (cell_eq (off18_w b) _) (by decide)) $$ O1
    iintro O1
    iapply (lane_next c (alike2 A c) (matB_eq (off22_w e') _) (slotB_eq (off21_w b) _) (cell_eq (off20_w b) _) (by decide)) $$ O2
    iintro O2
    iapply (fin (some e')) $$ [D0 D1 D2 O0 O1 O2 Tb Tn Tf Ts Tx HO] [HQ]
    · isplitl [D0]; · iexact D0
      isplitl [D1]; · iexact D1
      isplitl [D2]; · iexact D2
      isplitl [O0]; · iexact O0
      isplitl [O1]; · iexact O1
      isplitl [O2]; · iexact O2
      isplitr [HO]
      · isplitl [Tb]; · iexact Tb
        isplitl [Tn]; · iexact Tn
        isplitl [Tf]; · iexact Tf
        isplitl [Ts]; · iexact Ts
        iexact Tx
      iexists _
      iexact HO
    iexact HQ

end Cert.ExpertsSharedIdeal.Hand

end
-- ==== Proof.SharedPoint.lean ====
/-
  The shared expert's kernel at one grid point, from its first instruction to its last.
-/
module

public import proofs.«01_k».proof.Proof.SharedStep

@[expose] public section

noncomputable section

namespace Cert.ExpertsSharedIdeal.Hand

open Cert.ExpertsSharedIdeal Cert.ExpertsSharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (A : Arrays F) (T : Tables) (c : Dev nD)

/-- The end of a point: the block's product where it is in use, zero where it is not. -/
abbrev tailProg (i : grid0.Coords) (M6 : Memref sig .tc .vmem S512x2048 .bf16) (M10 : Memref sig .tc .vmem S512x2048 .f32) (h10 : M10.IsWhole) :
    Prog (TpuEff nD τ sig (Elt F) Λ₀ .tc) PUnit := do
  let v8 : Elt F .i32 ← smemLoad tabNu (Rect.unit (s := S1) ![0] S1.size inb_S1_S1_0) numel1_S1 rfl
  if k0_h4 : k0_cond4 i v8 = 1#1 then do
    let v16 : Vec F S512x2048 .bf16 ← Prog.lift (.load M6 (Rect.unit (s := S512x2048) ![0, 0] S512x2048.size inb_S512x2048_S512x2048_0_0).toLoadRect (View.loadsAt_vmem h_S512x2048))
    let v17 : Vec F S2048x512 .bf16 ← Prog.lift (.load bufG (Rect.unit (s := S2048x512) ![0, 0] S2048x512.size inb_S2048x512_S2048x512_0_0).toLoadRect (View.loadsAt_vmem h_S2048x512))
    let v19 : Vec F S2048x512 .bf16 ← Prog.lift (.load bufU (Rect.unit (s := S2048x512) ![0, 0] S2048x512.size inb_S2048x512_S2048x512_0_0).toLoadRect (View.loadsAt_vmem h_S2048x512))
    let v31 : Vec F S512x2048 .bf16 ← Prog.lift (.load bufD (Rect.unit (s := S512x2048) ![0, 0] S512x2048.size inb_S512x2048_S512x2048_0_0).toLoadRect (View.loadsAt_vmem h_S512x2048))
    let v33 : Vec F S512x2048 .f32 ← Prog.lift (.load M10 (Rect.unit (s := S512x2048) ![0, 0] S512x2048.size inb_S512x2048_S512x2048_0_0).toLoadRect (View.loadsAt_vmem h_S512x2048))
    Prog.lift (.store M10 (Rect.unit (s := S512x2048) ![0, 0] S512x2048.size inb_S512x2048_S512x2048_0_0) (k0_pay4 v16 v17 v19 v31) Finset.univ (View.stores_vmem_bits_univ h_S512x2048 rfl) (.inl rfl))
    pure ⟨⟩
  else do
    pure ⟨⟩
  let v12 : Elt F .i32 ← smemLoad tabNu (Rect.unit (s := S1) ![0] S1.size inb_S1_S1_0) numel1_S1 rfl
  if k0_h5 : k0_cond5 i v12 = 1#1 then do
    let v17 : Vec F S512x2048 .f32 ← Prog.lift (.load M10 (Rect.unit (s := S512x2048) ![0, 0] S512x2048.size inb_S512x2048_S512x2048_0_0).toLoadRect (View.loadsAt_vmem h_S512x2048))
    Prog.lift (.store M10 (Rect.unit (s := S512x2048) ![0, 0] S512x2048.size inb_S512x2048_S512x2048_0_0) (k0_pay5 (F := F)) Finset.univ (View.stores_vmem_bits_univ h_S512x2048 rfl) (.inl rfl))
    pure ⟨⟩
  else do
    pure ⟨⟩
  pure ⟨⟩

/-- What a point leaves in its block. -/
def leaves (i : grid0.Coords) (X : S512x2048.Idx → Elt F .bf16) (e : Fin 1) : S512x2048.Idx → Elt F .f32 :=
  if (BitVec.ofNat 32 (i 0).val).slt (T.nu ent0) = true then k0_pay4 X (Ng A e) (Nu A e) (Nd A e) else k0_pay5

theorem zero2 : (![0, 0] : Fin 2 → Nat) = fun _ => 0 := by decide

theorem run_tail (i : grid0.Coords) (M6 : Memref sig .tc .vmem S512x2048 .bf16) (M10 : Memref sig .tc .vmem S512x2048 .f32) (h10 : M10.IsWhole)
    {X : S512x2048.Idx → Elt F .bf16} {Y : S512x2048.Idx → Elt F .f32} {e : Fin 1} {Q : PUnit → sProp (Res F)} :
    iprop(Tabs T c ∗ Kept A c (some e) ∗ owns (c : Thread nD τ) M6 fullShare X ∗ owns (c : Thread nD τ) M10 fullShare Y)
      ⊢ iprop((iprop(Tabs T c ∗ Kept A c (some e) ∗ owns (c : Thread nD τ) M6 fullShare X
            ∗ owns (c : Thread nD τ) M10 fullShare (leaves A T i X e)) -∗ Q ⟨⟩)
        -∗ run c (tailProg i M6 M10 h10) Q) := by
  simp only [Kept]
  iintro ⟨⟨Tb, Tn, Tf, Ts, Tx⟩, ⟨KG, KU, KD⟩, H6, H10⟩ HQ
  iapply (run_word c (v := T.nu ent0) (read_nu T.nu _)) $$ Tn
  iintro Tn
  by_cases h4 : k0_cond4 i (T.nu ent0) = 1#1
  · have hl : leaves A T i X e = k0_pay4 X (Ng A e) (Nu A e) (Nd A e) := if_pos ((cond4_iff i _).1 h4)
    have h5 : ¬ k0_cond5 i (T.nu ent0) = 1#1 := fun h => (cond45 i _).1 h h4
    rw [dif_pos h4, hl]
    iapply (run_load zero2 c) $$ H6
    iintro H6
    iapply (run_load zero2 c) $$ KG
    iintro KG
    iapply (run_load zero2 c) $$ KU
    iintro KU
    iapply (run_load zero2 c) $$ KD
    iintro KD
    iapply (run_load zero2 c) $$ H10
    iintro H10
    iapply (run_store zero2 c) $$ H10
    iintro H10
    iapply (run_word c (v := T.nu ent0) (read_nu T.nu _)) $$ Tn
    iintro Tn
    rw [dif_neg h5]
    iapply (run_ret c)
    iapply HQ
    isplitl [Tb Tn Tf Ts Tx]
    · isplitl [Tb]; · iexact Tb
      isplitl [Tn]; · iexact Tn
      isplitl [Tf]; · iexact Tf
      isplitl [Ts]; · iexact Ts
      iexact Tx
    isplitl [KG KU KD]
    · isplitl [KG]; · iexact KG
      isplitl [KU]; · iexact KU
      iexact KD
    isplitl [H6]; · iexact H6
    iexact H10
  · have hl : leaves A T i X e = k0_pay5 := if_neg fun h => h4 ((cond4_iff i _).2 h)
    have h5 : k0_cond5 i (T.nu ent0) = 1#1 := (cond45 i _).2 h4
    rw [dif_neg h4, hl]
    iapply (run_word c (v := T.nu ent0) (read_nu T.nu _)) $$ Tn
    iintro Tn
    rw [dif_pos h5]
    iapply (run_load zero2 c) $$ H10
    iintro H10
    iapply (run_store zero2 c) $$ H10
    iintro H10
    iapply (run_ret c)
    iapply HQ
    isplitl [Tb Tn Tf Ts Tx]
    · isplitl [Tb]; · iexact Tb
      isplitl [Tn]; · iexact Tn
      isplitl [Tf]; · iexact Tf
      isplitl [Ts]; · iexact Ts
      iexact Tx
    isplitl [KG KU KD]
    · isplitl [KG]; · iexact KG
      isplitl [KU]; · iexact KU
      iexact KD
    isplitl [H6]; · iexact H6
    iexact H10

/-- The middle of a point: a new expert's matrices, where the point begins one. -/
abbrev midProg (i : grid0.Coords) (M6 : Memref sig .tc .vmem S512x2048 .bf16) (h6 : M6.IsWhole) (M10 : Memref sig .tc .vmem S512x2048 .f32) (h10 : M10.IsWhole) :
    Prog (TpuEff nD τ sig (Elt F) Λ₀ .tc) PUnit := do
  let v4 : Elt F .i32 ← smemLoad tabFi (Rect.unit (s := S16) (k0_off3 i) S1.size (k0_off3_inb i)) numel1_S1 rfl
  if k0_h2 : k0_cond2 v4 = 1#1 then do
    let ⟨v17, k0_hw2, v46⟩ : Σ' (v17 : Elt F .i32) (k0_hw2 : k0_chk2 v4 v17), FVec F S2048x512 .bf16 ← k0_part1 i (Memref.whole main_v0) (Memref.isWhole_whole _) (Memref.whole main_v1) (Memref.isWhole_whole _)
            (Memref.whole main_v39) (Memref.isWhole_whole _) (Memref.whole main_v21) (Memref.isWhole_whole _) (Memref.whole main_v38) (Memref.isWhole_whole _)
            M6 h6 arr0 (Memref.isWhole_whole _) arr1 (Memref.isWhole_whole _) arr2 (Memref.isWhole_whole _) M10 h10
            ring0 (Memref.isWhole_whole _) ring1 (Memref.isWhole_whole _) ring2 (Memref.isWhole_whole _)
            bufG (Memref.isWhole_whole _) bufU (Memref.isWhole_whole _) bufD (Memref.isWhole_whole _) cc0_scratch6 (BitVec.ofNat 32 (i 0).val) v4 k0_h2
    let v47 : Vec F S2048x512 .bf16 ← Prog.lift (.load bufG (Rect.unit (s := S2048x512) ![0, 0] S2048x512.size inb_S2048x512_S2048x512_0_0).toLoadRect (View.loadsAt_vmem h_S2048x512))
    Prog.lift (.store bufG (Rect.unit (s := S2048x512) ![0, 0] S2048x512.size inb_S2048x512_S2048x512_0_0) (k0_pay1 v46) Finset.univ (View.stores_vmem h_S2048x512 ((Memref.isWhole_whole cc0_scratch3).storeExact_slice rfl _ packedbf16_S2048x512_S2048x512_0_0) (fun _ => rfl)) (.inl rfl))
    let v51 : Vec F S1x2048x512 .f32 ← Prog.lift (.load ring1 (Rect.unit (s := S2x2048x512) (k0_off23 v17) S1x2048x512.size (k0_off23_inb v4 v17 k0_hw2 k0_h2)).toLoadRect (View.loadsAt_vmem h_S1x2048x512))
    let v54 : Vec F S2048x512 .bf16 ← Prog.lift (.load bufU (Rect.unit (s := S2048x512) ![0, 0] S2048x512.size inb_S2048x512_S2048x512_0_0).toLoadRect (View.loadsAt_vmem h_S2048x512))
    Prog.lift (.store bufU (Rect.unit (s := S2048x512) ![0, 0] S2048x512.size inb_S2048x512_S2048x512_0_0) (k0_pay2 v51) Finset.univ (View.stores_vmem h_S2048x512 ((Memref.isWhole_whole cc0_scratch4).storeExact_slice rfl _ packedbf16_S2048x512_S2048x512_0_0) (fun _ => rfl)) (.inl rfl))
    let v58 : Vec F S1x512x2048 .f32 ← Prog.lift (.load ring2 (Rect.unit (s := S2x512x2048) (k0_off24 v17) S1x512x2048.size (k0_off24_inb v4 v17 k0_hw2 k0_h2)).toLoadRect (View.loadsAt_vmem h_S1x512x2048))
    let v61 : Vec F S512x2048 .bf16 ← Prog.lift (.load bufD (Rect.unit (s := S512x2048) ![0, 0] S512x2048.size inb_S512x2048_S512x2048_0_0).toLoadRect (View.loadsAt_vmem h_S512x2048))
    Prog.lift (.store bufD (Rect.unit (s := S512x2048) ![0, 0] S512x2048.size inb_S512x2048_S512x2048_0_0) (k0_pay3 v58) Finset.univ (View.stores_vmem h_S512x2048 ((Memref.isWhole_whole cc0_scratch5).storeExact_slice rfl _ packedbf16_S512x2048_S512x2048_0_0) (fun _ => rfl)) (.inl rfl))
    pure ⟨⟩
  else do
    pure ⟨⟩
  tailProg i M6 M10 h10

/-- A point that begins no expert. -/
theorem run_keep (t : Fin 16) (i : grid0.Coords) (hi : (i 0).val = t.val) (M6 : Memref sig .tc .vmem S512x2048 .bf16) (h6 : M6.IsWhole)
    (M10 : Memref sig .tc .vmem S512x2048 .f32) (h10 : M10.IsWhole) (hf : T.fi (ent t) ≠ 1#32)
    {X : S512x2048.Idx → Elt F .bf16} {Y : S512x2048.Idx → Elt F .f32} {e : Fin 1} {Q : PUnit → sProp (Res F)} :
    iprop(Tabs T c ∗ Kept A c (some e) ∗ owns (c : Thread nD τ) M6 fullShare X ∗ owns (c : Thread nD τ) M10 fullShare Y)
      ⊢ iprop((iprop(Tabs T c ∗ Kept A c (some e) ∗ owns (c : Thread nD τ) M6 fullShare X
            ∗ owns (c : Thread nD τ) M10 fullShare (leaves A T i X e)) -∗ Q ⟨⟩)
        -∗ run c (midProg i M6 h6 M10 h10) Q) := by
  iintro ⟨⟨Tb, Tn, Tf, Ts, Tx⟩, K, H6, H10⟩ HQ
  iapply (run_word c (v := T.fi (ent t)) (read_fi T.fi t (by rw [k0_off3_eq, hi]) _)) $$ Tf
  iintro Tf
  rw [dif_neg fun h => hf ((cond2_iff _).1 h)]
  iapply (run_tail A T c i M6 M10 h10) $$ [Tb Tn Tf Ts Tx K H6 H10] [HQ]
  · isplitl [Tb Tn Tf Ts Tx]
    · isplitl [Tb]; · iexact Tb
      isplitl [Tn]; · iexact Tn
      isplitl [Tf]; · iexact Tf
      isplitl [Ts]; · iexact Ts
      iexact Tx
    isplitl [K]; · iexact K
    isplitl [H6]; · iexact H6
    iexact H10
  iexact HQ

/-- A point that begins an expert. -/
theorem run_new (t : Fin 16) (i : grid0.Coords) (hi : (i 0).val = t.val) (M6 : Memref sig .tc .vmem S512x2048 .bf16) (h6 : M6.IsWhole)
    (M10 : Memref sig .tc .vmem S512x2048 .f32) (h10 : M10.IsWhole) (hf : T.fi (ent t) = 1#32)
    {e : Fin 1} {b : Fin 2} {o : Option (Fin 1)} (hbe : T.be (ent t) = word e) (hsl : T.sl (ent t) = word b)
    (hnx : T.nx (ent t) = (match o with | none => 4294967295#32 | some e' => word e')) {Ws : Waits sig Unit}
    {X : S512x2048.Idx → Elt F .bf16} {Y : S512x2048.Idx → Elt F .f32} {Q : PUnit → sProp (Res F)} :
    iprop((lane0 A c (some (e, b)) ∗ lane1 A c (some (e, b)) ∗ lane2 A c (some (e, b))) ∗ Tabs T c ∗ Kept A c none
        ∗ owes (c : Thread nD τ) 0 Ws ∗ owns (c : Thread nD τ) M6 fullShare X ∗ owns (c : Thread nD τ) M10 fullShare Y)
      ⊢ iprop((iprop((lane0 A c (o.map fun e' => (e', 1 - b)) ∗ lane1 A c (o.map fun e' => (e', 1 - b)) ∗ lane2 A c (o.map fun e' => (e', 1 - b)))
            ∗ Tabs T c ∗ Kept A c (some e) ∗ (∃ Ws', owes (c : Thread nD τ) 0 Ws') ∗ owns (c : Thread nD τ) M6 fullShare X
            ∗ owns (c : Thread nD τ) M10 fullShare (leaves A T i X e)) -∗ Q ⟨⟩)
        -∗ run c (midProg i M6 h6 M10 h10) Q) := by
  simp only [Kept]
  iintro ⟨⟨L0, L1, L2⟩, ⟨Tb, Tn, Tf, Ts, Tx⟩, ⟨⟨%XG, KG⟩, ⟨%XU, KU⟩, ⟨%XD, KD⟩⟩, HO, H6, H10⟩ HQ
  iapply (run_word c (v := T.fi (ent t)) (read_fi T.fi t (by rw [k0_off3_eq, hi]) _)) $$ Tf
  iintro Tf
  rw [dif_pos ((cond2_iff _).2 hf)]
  iapply (run_bind c)
  iapply (run_part1 A T c t i hi M6 h6 M10 h10 (T.fi (ent t)) ((cond2_iff _).2 hf) hbe hsl hnx rfl) $$ [L0 L1 L2 Tb Tn Tf Ts Tx HO]
  · isplitl [L0]; · iexact L0
    isplitl [L1]; · iexact L1
    isplitl [L2]; · iexact L2
    isplitr [HO]
    · isplitl [Tb]; · iexact Tb
      isplitl [Tn]; · iexact Tn
      isplitl [Tf]; · iexact Tf
      isplitl [Ts]; · iexact Ts
      iexact Tx
    iexact HO
  iintro ⟨D0, D1, D2, O0, O1, O2, HT, HO⟩
  iapply (run_load zero2 c) $$ KG
  iintro KG
  iapply (run_store zero2 c) $$ KG
  iintro KG
  iapply (run_slot (off23_w b) c) $$ D1
  iintro D1
  iapply (run_load zero2 c) $$ KU
  iintro KU
  iapply (run_store zero2 c) $$ KU
  iintro KU
  iapply (run_slot (off24_w b) c) $$ D2
  iintro D2
  iapply (run_load zero2 c) $$ KD
  iintro KD
  iapply (run_store zero2 c) $$ KD
  iintro KD
  iapply (run_tail A T c i M6 M10 h10 (e := e)) $$ [HT KG KU KD H6 H10] [HQ D0 D1 D2 O0 O1 O2 HO]
  · isplitl [HT]; · iexact HT
    isplitl [KG KU KD]
    · simp only [Kept]
      isplitl [KG]; · iexact KG
      isplitl [KU]; · iexact KU
      iexact KD
    isplitl [H6]; · iexact H6
    iexact H10
  iintro ⟨HT, K, H6, H10⟩
  iapply HQ
  isplitl [D0 D1 D2 O0 O1 O2]
  · isplitl [D0 O0]
    · iapply (lane_of_other c)
      isplitl [D0]; · iexact D0
      iexact O0
    isplitl [D1 O1]
    · iapply (lane_of_other c)
      isplitl [D1]; · iexact D1
      iexact O1
    iapply (lane_of_other c)
    isplitl [D2]; · iexact D2
    iexact O2
  isplitl [HT]; · iexact HT
  isplitl [K]; · simp only [Kept]; iexact K
  isplitl [HO]; · iexact HO
  isplitl [H6]; · iexact H6
  iexact H10

/-- The transfer under way before point `t`: none before the first point. -/
def started (pend : ℕ → Option (Fin 1 × Fin 2)) (t : ℕ) : Option (Fin 1 × Fin 2) := if t = 0 then none else pend t
/-- The expert whose narrowed matrices are held before point `t`. -/
def held (cur : ℕ → Fin 1) (t : ℕ) : Option (Fin 1) := if t = 0 then none else some (cur t)
/-- The three lanes before point `t`. -/
abbrev Lanes (pend : ℕ → Option (Fin 1 × Fin 2)) (t : ℕ) : sProp (Res F) :=
  iprop(lane0 A c (started pend t) ∗ lane1 A c (started pend t) ∗ lane2 A c (started pend t))

/-- The kernel's body at point `t`. -/
theorem run_point {pend : ℕ → Option (Fin 1 × Fin 2)} {cur : ℕ → Fin 1} (hS : Sched T pend cur)
    (t : Fin 16) (i : grid0.Coords) (hi : (i 0).val = t.val) (M6 : Memref sig .tc .vmem S512x2048 .bf16) (h6 : M6.IsWhole)
    (M10 : Memref sig .tc .vmem S512x2048 .f32) (h10 : M10.IsWhole) {Ws : Waits sig Unit}
    {X : S512x2048.Idx → Elt F .bf16} {Y : S512x2048.Idx → Elt F .f32} {Q : PUnit → sProp (Res F)} :
    iprop(Lanes A c pend t.val ∗ Tabs T c ∗ Kept A c (held cur t.val)
        ∗ owes (c : Thread nD τ) 0 Ws ∗ owns (c : Thread nD τ) M6 fullShare X ∗ owns (c : Thread nD τ) M10 fullShare Y)
      ⊢ iprop((iprop(Lanes A c pend (t.val + 1) ∗ Tabs T c ∗ Kept A c (held cur (t.val + 1))
            ∗ (∃ Ws', owes (c : Thread nD τ) 0 Ws') ∗ owns (c : Thread nD τ) M6 fullShare X
            ∗ owns (c : Thread nD τ) M10 fullShare (leaves A T i X (cur (t.val + 1)))) -∗ Q ⟨⟩)
        -∗ run c (cc0_experts_shared i (Memref.whole main_v0) (Memref.isWhole_whole _) (Memref.whole main_v1) (Memref.isWhole_whole _)
            (Memref.whole main_v39) (Memref.isWhole_whole _) (Memref.whole main_v21) (Memref.isWhole_whole _) (Memref.whole main_v38) (Memref.isWhole_whole _)
            M6 h6 arr0 (Memref.isWhole_whole _) arr1 (Memref.isWhole_whole _) arr2 (Memref.isWhole_whole _) M10 h10
            ring0 (Memref.isWhole_whole _) ring1 (Memref.isWhole_whole _) ring2 (Memref.isWhole_whole _)
            bufG (Memref.isWhole_whole _) bufU (Memref.isWhole_whole _) bufD (Memref.isWhole_whole _) cc0_scratch6) Q) := by
  rw [cc0_experts_shared_eq_skeleton]
  unfold cc0_experts_shared_skel
  have hs1 : started pend (t.val + 1) = pend (t.val + 1) := if_neg (Nat.succ_ne_zero _)
  have hh1 : held cur (t.val + 1) = some (cur (t.val + 1)) := if_neg (Nat.succ_ne_zero _)
  by_cases h0 : t.val = 0
  · obtain rfl : t = 0 := Fin.ext h0
    obtain ⟨e, hbe, hp⟩ := hS.start
    obtain ⟨e', b, o, hbe', hsl, hp', hcur, hp1, hnx⟩ := hS.load 0 hS.first0
    have hpe : (e', b) = (e, 0) := Option.some.inj (hp'.symm.trans hp)
    obtain ⟨rfl, rfl⟩ := Prod.mk.inj hpe
    have hs0 : started pend (0 : Fin 16).val = none := if_pos rfl
    have hh0 : held cur (0 : Fin 16).val = none := if_pos rfl
    simp only [Lanes, hs0, hh0, hs1, hh1, hp1, hcur]
    have h1 : k0_cond1 i = 1#1 := (cond1_iff i).2 (hi.trans rfl)
    rw [dif_pos h1]
    iintro ⟨⟨L0, L1, L2⟩, ⟨Tb, Tn, Tf, Ts, Tx⟩, K, HO, H6, H10⟩ HQ
    iapply (run_word c (v := word e') (by rw [← hbe]; exact read_be T.be 0 rfl _)) $$ Tb
    iintro Tb
    iapply (run_assume (chk1_w i e') c)
    iapply (lane_start c (alike0 A c) (matA_eq (off1_w e') _) (slotA_eq (s := 0) rfl _) (cell_eq (j := 0) (s := 0) rfl _) (by decide)) $$ L0
    iintro L0
    iapply (lane_start c (alike1 A c) (matA_eq (off1_w e') _) (slotA_eq (s := 0) rfl _) (cell_eq (j := 1) (s := 0) rfl _) (by decide)) $$ L1
    iintro L1
    iapply (lane_start c (alike2 A c) (matB_eq (off2_w e') _) (slotB_eq (s := 0) rfl _) (cell_eq (j := 2) (s := 0) rfl _) (by decide)) $$ L2
    iintro L2
    iapply (run_new A T c 0 i hi M6 h6 M10 h10 hS.first0 hbe' hsl hnx) $$ [L0 L1 L2 Tb Tn Tf Ts Tx K HO H6 H10] [HQ]
    · isplitl [L0 L1 L2]
      · isplitl [L0]; · iexact L0
        isplitl [L1]; · iexact L1
        iexact L2
      isplitl [Tb Tn Tf Ts Tx]
      · isplitl [Tb]; · iexact Tb
        isplitl [Tn]; · iexact Tn
        isplitl [Tf]; · iexact Tf
        isplitl [Ts]; · iexact Ts
        iexact Tx
      isplitl [K]; · iexact K
      isplitl [HO]; · iexact HO
      isplitl [H6]; · iexact H6
      iexact H10
    iexact HQ
  · have h1 : ¬ k0_cond1 i = 1#1 := fun h => h0 (hi.symm.trans ((cond1_iff i).1 h))
    have hs0 : started pend t.val = pend t.val := if_neg h0
    have hh0 : held cur t.val = some (cur t.val) := if_neg h0
    rw [dif_neg h1]
    by_cases hf : T.fi (ent t) = 1#32
    · obtain ⟨e, b, o, hbe, hsl, hp, hcur, hp1, hnx⟩ := hS.load t hf
      simp only [Lanes, hs0, hh0, hs1, hh1, hp, hp1, hcur]
      iintro ⟨HL, HT, K, HO, H6, H10⟩ HQ
      iapply (run_new A T c t i hi M6 h6 M10 h10 hf hbe hsl hnx) $$ [HL HT K HO H6 H10] [HQ]
      · isplitl [HL]; · iexact HL
        isplitl [HT]; · iexact HT
        isplitl [K]; · iapply (kept_some A c (some (cur t.val))); iexact K
        isplitl [HO]; · iexact HO
        isplitl [H6]; · iexact H6
        iexact H10
      iexact HQ
    · obtain ⟨hp1, hcur⟩ := hS.keep t hf
      simp only [Lanes, hs0, hh0, hs1, hh1, hp1, hcur]
      iintro ⟨HL, HT, K, HO, H6, H10⟩ HQ
      iapply (run_keep A T c t i hi M6 h6 M10 h10 hf) $$ [HT K H6 H10] [HQ HL HO]
      · isplitl [HT]; · iexact HT
        isplitl [K]; · iexact K
        isplitl [H6]; · iexact H6
        iexact H10
      iintro ⟨HT, K, H6, H10⟩
      iapply HQ
      isplitl [HL]; · iexact HL
      isplitl [HT]; · iexact HT
      isplitl [K]; · iexact K
      isplitl [HO]; · iexists _; iexact HO
      isplitl [H6]; · iexact H6
      iexact H10

end Cert.ExpertsSharedIdeal.Hand

end
-- ==== Proof.SharedFrame.lean ====
/-
  The shared expert's region, run: from the memory the host's operations leave, through the 16 points, to the result's
  blocks. The schedule of the transfers is a hypothesis here.
-/
module

public import proofs.«01_k».proof.Proof.SharedPoint
public import proofs.«01_k».proof.Proof.Gen.ExpertsSharedIdeal.Launch
public import Idealize.ShloMosaic.Lib.Claim
public import Idealize.ShloMosaic.Lib.Ring

@[expose] public section

noncomputable section

namespace Cert.ExpertsSharedIdeal.Hand

open Cert.ExpertsSharedIdeal Cert.ExpertsSharedIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## Up to the region -/

/-- The host's operations before the region, stretch by stretch. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- The buffers as the region finds them. -/
def V (c : Dev nD) (b : Ref sig .tc) : Buf (Elt F) ((c : Thread nD τ).loc b) :=
  StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub,
    hostOps0_9_sub, hostOps0_10_sub⟩
theorem opss_fresh : (opss (F := F)).Forall fun ops => ops.Forall fun op => op.fresh = ∅ := by
  simp only [List.Forall]; repeat' constructor

set_option maxHeartbeats 800000 in
theorem entered : Pipeline.HMainP (Ix := Unit) (Name := ℕ) (U := Pipeline.UD sig nD τ) (Lvl := ℕ) (pcfgs (F := F)) 0 defs₀ Variants.none m (main (F := F)) (V m) :=
  Pipeline.hmainP_prefixes (pcfgs (F := F)) 0 defs₀ Variants.none m main opss opss_sub opss_fresh main_chain

theorem flat_arg (b : Ref sig .tc) (c : Dev nD)
    (h : (opss (F := F)).flatten.Forall fun op => Proc.devRef .tc b ∉ op.writes) : V m c b = m ((c : Thread nD τ).loc b) :=
  StableHlo.after_of_forall_not_mem (b := Proc.devRef .tc b) _ _ (List.forall_iff_forall_mem.mp h)

theorem V_arg0 (c : Dev nD) : V m c main_arg0 = m ((c : Thread nD τ).loc main_arg0) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg1 (c : Dev nD) : V m c main_arg1 = m ((c : Thread nD τ).loc main_arg1) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg2 (c : Dev nD) : V m c main_arg2 = m ((c : Thread nD τ).loc main_arg2) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))
theorem V_arg3 (c : Dev nD) : V m c main_arg3 = m ((c : Thread nD τ).loc main_arg3) := flat_arg m _ c (by
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))

/-! ## The tables and the weights -/

/-- The tables as the region finds them. -/
def tb (c : Dev nD) : Tables := ⟨V m c main_v0, V m c main_v1, V m c main_v39, V m c main_v21, V m c main_v38⟩
/-- The weights' arrays. -/
def ws (c : Dev nD) : Arrays F := ⟨V m c main_v2, V m c main_v3, V m c main_v4⟩

/-- The tables' contents, as the launch takes them. -/
def adm : (p : Fin 1) → (pcfgs (F := F) p).Adm := fun _ => ⟨fun k => V m 0 (pre0.ref k), trivial⟩

/-- The pipeline at those contents. -/
abbrev cfgE : Pipeline.Cfg sig Λ₀ := Pipeline.pin (pcfgs (F := F)) (adm m) 0

/-- Point `t`'s number. -/
abbrev num (t : Fin (cfgE m).N) : Fin 16 := ⟨t.val, lt_of_lt_of_eq t.isLt N_0⟩
theorem coords_num (t : Fin (cfgE m).N) : (grid0.coords t 0).val = (num m t).val := by
  rw [Pipeline.Grid.coords_val (G := grid0) t 0 (S := 1) (B := 16) (by decide) (by decide), Nat.div_one]
  exact Nat.mod_eq_of_lt (num m t).isLt

/-- Window `w`'s block at point `t`. -/
def iblk (c : Dev nD) (w : Fin (cfgE m).W) (t : Fin (cfgE m).N) : (((cfgE m).win w).xblock ((cfgE m).grid.coords t)).Idx → Elt F ((cfgE m).win w).elt :=
  (((cfgE m).win w).blk t).view.read (Elt F) (V m c (Pipeline.arrRef spec0 w))

variable (pend : ℕ → Option (Fin 1 × Fin 2)) (cur : ℕ → Fin 1)

/-- What holds before point `n` and after the last. -/
def inv (c : Dev nD) (n : ℕ) : sProp (Res F) :=
  iprop((∃ r, prngReg c r) ∗ Lanes (ws m c) c pend n ∗ Tabs (tb m c) c ∗ Kept (ws m c) c (held cur n))

/-- The proof data. -/
def dats (_ : Fin 1) (c : Dev nD) : Dat τ (Elt F) Unit ℕ (Pipeline.UD sig nD τ) ℕ (cfgE m) c where
  A w := V m c (Pipeline.arrRef spec0 w)
  after w t := match w with
    | ⟨0, _⟩ => iblk m c 0 t
    | ⟨1, _⟩ => leaves (ws m c) (tb m c) (grid0.coords t) (iblk m c 0 t) (cur (t.val + 1))
  Φ n := inv m pend cur c n.val
  q _ := fullShare
  owed _ := 0

theorem A_eq (c : Dev nD) (w : Fin (cfgE m).W) : (dats m pend cur 0 c).A w = V m c (Pipeline.arrRef spec0 w) := by
  dsimp only [dats]
theorem after0 (c : Dev nD) (t : Fin (cfgE m).N) : (dats m pend cur 0 c).after 0 t = iblk m c 0 t := by dsimp only [dats]; rfl
theorem after1 (c : Dev nD) (t : Fin (cfgE m).N) :
    (dats m pend cur 0 c).after 1 t = leaves (ws m c) (tb m c) (grid0.coords t) (iblk m c 0 t) (cur (t.val + 1)) := by dsimp only [dats]; rfl
theorem before0 (c : Dev nD) (t : Fin (cfgE m).N) (d) : (dats m pend cur 0 c).before 0 t d = iblk m c 0 t :=
  ((dats m pend cur 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)

/-! ## The body at a point -/

abbrev in6 (t : Fin (cfgE m).N) : Memref sig .tc .vmem S512x2048 .bf16 := spec0_0.stage ((cfgE m).slots t 0)
abbrev out10 (t : Fin (cfgE m).N) : Memref sig .tc .vmem S512x2048 .f32 := spec0_1.stage ((cfgE m).slots t 1)

/-- The kernel's body as the region calls it at point `t`. -/
abbrev bodyAt (t : Fin (cfgE m).N) : Prog (TpuEff nD τ sig (Elt F) Λ₀ .tc) PUnit :=
  cc0_experts_shared (grid0.coords t) (Memref.whole main_v0) (Memref.isWhole_whole _) (Memref.whole main_v1) (Memref.isWhole_whole _)
    (Memref.whole main_v39) (Memref.isWhole_whole _) (Memref.whole main_v21) (Memref.isWhole_whole _) (Memref.whole main_v38) (Memref.isWhole_whole _)
    (in6 m t) (hstage0_0 (((cfgE m).slots t 0).cast nbuf0_0)) arr0 (Memref.isWhole_whole _) arr1 (Memref.isWhole_whole _) arr2 (Memref.isWhole_whole _)
    (out10 m t) (hstage0_1 (((cfgE m).slots t 1).cast nbuf0_1))
    ring0 (Memref.isWhole_whole _) ring1 (Memref.isWhole_whole _) ring2 (Memref.isWhole_whole _)
    bufG (Memref.isWhole_whole _) bufU (Memref.isWhole_whole _) bufD (Memref.isWhole_whole _) cc0_scratch6

theorem row (t : Fin (cfgE m).N) : defs₀ (F := F) .tc (cfgE m).body ((cfgE m).bodyArgs t ((cfgE m).slots t)) = bodyAt m t := by
  unfold defs₀; rw [Defs.onTc_tc]

variable {pend cur}

def bodyPre (pend : ℕ → Option (Fin 1 × Fin 2)) (cur : ℕ → Fin 1) (c : Dev nD) (t : Fin (cfgE m).N) : sProp (Res F) :=
  iprop((dats m pend cur 0 c).Φ t.castSucc ∗ (dats m pend cur 0 c).owesAt () t.castSucc
    ∗ (∃ d, owns (c : Thread nD τ) (in6 m t) fullShare ((dats m pend cur 0 c).before 0 t d))
    ∗ (∃ d, owns (c : Thread nD τ) (out10 m t) fullShare ((dats m pend cur 0 c).before 1 t d)))

def bodyPost (pend : ℕ → Option (Fin 1 × Fin 2)) (cur : ℕ → Fin 1) (c : Dev nD) (t : Fin (cfgE m).N) : sProp (Res F) :=
  iprop((dats m pend cur 0 c).Φ t.succ ∗ (dats m pend cur 0 c).owesAt () t.succ
    ∗ owns (c : Thread nD τ) (in6 m t) fullShare ((dats m pend cur 0 c).after 0 t)
    ∗ owns (c : Thread nD τ) (out10 m t) fullShare ((dats m pend cur 0 c).after 1 t))

theorem sound (c : Dev nD) (hS : Sched (tb m c) pend cur) (t : Fin (cfgE m).N) :
    bodyPre m pend cur c t ⊢ run c (bodyAt m t) (fun _ => bodyPost m pend cur c t) := by
  unfold bodyPre bodyPost
  simp only [before0]
  rw [after0, after1]
  rw [show (dats m pend cur 0 c).Φ t.castSucc = inv m pend cur c t.val from rfl,
    show (dats m pend cur 0 c).Φ t.succ = inv m pend cur c (t.val + 1) from rfl]
  unfold inv
  iintro ⟨⟨Hg, HL, HT, HK⟩, ⟨%W, %hW, HO⟩, ⟨%d0, H6⟩, ⟨%d1, H10⟩⟩
  iapply (run_point (ws m c) (tb m c) c hS (num m t) (grid0.coords t) (coords_num m t) (in6 m t) _ (out10 m t) _) $$ [HL HT HK HO H6 H10] [Hg]
  · isplitl [HL]; · iexact HL
    isplitl [HT]; · iexact HT
    isplitl [HK]; · iexact HK
    isplitl [HO]; · iexact HO
    isplitl [H6]; · iexact H6
    iexact H10
  iintro ⟨HL, HT, HK, ⟨%W', HO⟩, H6, H10⟩
  isplitl [Hg HL HT HK]
  · isplitl [Hg]; · iexact Hg
    isplitl [HL]; · iexact HL
    isplitl [HT]; · iexact HT
    iexact HK
  isplitl [HO]
  · iexists W'
    isplitr
    · ipureintro; exact fun _ _ => Set.mem_union_left _ trivial
    iexact HO
  isplitl [H6]; · iexact H6
  iexact H10

theorem idle_off {a b : BitVec 1} (h : a = 1#1 ∨ b = 1#1) : (!(a == 1#1) && !(b == 1#1)) = false := by
  rcases h with rfl | rfl
  · rfl
  · cases (a == 1#1) <;> rfl

theorem idle_pf (pf : pre0.Contents (Elt F)) (i : grid0.Coords) : idle0 pf 1 i = false := by
  show (!(k0_cond4 i (pf.atD 1 ![0]) == 1#1) && !(k0_cond5 i (pf.atD 1 ![0]) == 1#1)) = false
  generalize pf.atD 1 ![0] = v
  refine idle_off ?_
  by_cases h4 : k0_cond4 i v = 1#1
  · exact .inl h4
  · exact .inr ((cond45 _ _).2 h4)

theorem idle_at (a : (pcfg0 (F := F)).Adm) (i : grid0.Coords) : (pcfg0.at a).idle (1 : Fin 2) i = false := idle_pf a.1 i

theorem idle1 (t : Fin (cfgE m).N) : (cfgE m).idle (1 : Fin 2) ((cfgE m).grid.coords t) = false := idle_at (adm m 0) _

theorem obliged (c : Dev nD) (hS : Sched (tb m c) pend cur) :
    BodyObligation (dats m pend cur 0 c) (defs₀ (F := F)) Variants.none () Set.univ := fun t => by
  have h1 := idle1 m t
  rw [bigSep_W0, bigSep_W0, row]
  rewrite [h1]
  exact triple_restated (sound m c hS t) rfl .rfl fun _ => .rfl

/-! ## The region's ends -/

theorem ringA_disjoint (b b' : Fin 2) (h : b ≠ b') :
    Disjoint (Rect.unit (s := S2x2048x512) ![b.val, 0, 0] S1x2048x512.size (slotIn b)).set (Rect.unit (s := S2x2048x512) ![b'.val, 0, 0] S1x2048x512.size (slotIn b')).set :=
  Ring.lead_disjoint (s := S2x2048x512) 0 1 (fun b : Fin 2 => ![b.val, 0, 0]) S1x2048x512.size slotIn (fun b => (Nat.one_mul _).symm) rfl b b' h
theorem ringA_cover : Finset.univ.biUnion (fun b : Fin 2 => (Rect.unit (s := S2x2048x512) ![b.val, 0, 0] S1x2048x512.size (slotIn b)).set) = Finset.univ :=
  Ring.lead_cover (s := S2x2048x512) 0 1 (fun b : Fin 2 => ![b.val, 0, 0]) S1x2048x512.size slotIn (fun b => (Nat.one_mul _).symm)
    (by decide) rfl (by decide) rfl
theorem ringB_disjoint (b b' : Fin 2) (h : b ≠ b') :
    Disjoint (Rect.unit (s := S2x512x2048) ![b.val, 0, 0] S1x512x2048.size (slotIn' b)).set (Rect.unit (s := S2x512x2048) ![b'.val, 0, 0] S1x512x2048.size (slotIn' b')).set :=
  Ring.lead_disjoint (s := S2x512x2048) 0 1 (fun b : Fin 2 => ![b.val, 0, 0]) S1x512x2048.size slotIn' (fun b => (Nat.one_mul _).symm) rfl b b' h
theorem ringB_cover : Finset.univ.biUnion (fun b : Fin 2 => (Rect.unit (s := S2x512x2048) ![b.val, 0, 0] S1x512x2048.size (slotIn' b)).set) = Finset.univ :=
  Ring.lead_cover (s := S2x512x2048) 0 1 (fun b : Fin 2 => ![b.val, 0, 0]) S1x512x2048.size slotIn' (fun b => (Nat.one_mul _).symm)
    (by decide) rfl (by decide) rfl

theorem set0 (b : Fin 2) : (slotA ring0 b).view.set = (Rect.unit (s := S2x2048x512) ![b.val, 0, 0] S1x2048x512.size (slotIn b)).set :=
  (Memref.set_view_squeeze _ _).trans (View.set_slice_whole _ _)
theorem set1 (b : Fin 2) : (slotA ring1 b).view.set = (Rect.unit (s := S2x2048x512) ![b.val, 0, 0] S1x2048x512.size (slotIn b)).set :=
  (Memref.set_view_squeeze _ _).trans (View.set_slice_whole _ _)
theorem set2 (b : Fin 2) : (slotB ring2 b).view.set = (Rect.unit (s := S2x512x2048) ![b.val, 0, 0] S1x512x2048.size (slotIn' b)).set :=
  (Memref.set_view_squeeze _ _).trans (View.set_slice_whole _ _)

theorem split0 (c : Dev nD) : iprop(∃ f : Buf (Elt F) ((c : Thread nD τ).loc cc0_scratch0), ((c : Thread nD τ).loc cc0_scratch0) ↦{fullShare} f)
    ⊢ (iprop(Slot (slotA ring0 0) c ∗ Slot (slotA ring0 1) c) : sProp (Res F)) :=
  Ring.slots2_split (ℓ := (c : Thread nD τ).loc cc0_scratch0) (fun b => (Rect.unit (s := S2x2048x512) ![b.val, 0, 0] S1x2048x512.size (slotIn b)).set)
    ringA_disjoint ringA_cover _ _ (fun f => by rw [← set0 0]) (fun f => by rw [← set0 1])
theorem join0 (c : Dev nD) : iprop(Slot (slotA ring0 0) c ∗ Slot (slotA ring0 1) c)
    ⊢ (iprop(∃ f : Buf (Elt F) ((c : Thread nD τ).loc cc0_scratch0), ((c : Thread nD τ).loc cc0_scratch0) ↦{fullShare} f) : sProp (Res F)) :=
  Ring.slots2_join (ℓ := (c : Thread nD τ).loc cc0_scratch0) (fun b => (Rect.unit (s := S2x2048x512) ![b.val, 0, 0] S1x2048x512.size (slotIn b)).set)
    ringA_disjoint ringA_cover _ _ (fun f => by rw [← set0 0]) (fun f => by rw [← set0 1])
theorem split1 (c : Dev nD) : iprop(∃ f : Buf (Elt F) ((c : Thread nD τ).loc cc0_scratch1), ((c : Thread nD τ).loc cc0_scratch1) ↦{fullShare} f)
    ⊢ (iprop(Slot (slotA ring1 0) c ∗ Slot (slotA ring1 1) c) : sProp (Res F)) :=
  Ring.slots2_split (ℓ := (c : Thread nD τ).loc cc0_scratch1) (fun b => (Rect.unit (s := S2x2048x512) ![b.val, 0, 0] S1x2048x512.size (slotIn b)).set)
    ringA_disjoint ringA_cover _ _ (fun f => by rw [← set1 0]) (fun f => by rw [← set1 1])
theorem join1 (c : Dev nD) : iprop(Slot (slotA ring1 0) c ∗ Slot (slotA ring1 1) c)
    ⊢ (iprop(∃ f : Buf (Elt F) ((c : Thread nD τ).loc cc0_scratch1), ((c : Thread nD τ).loc cc0_scratch1) ↦{fullShare} f) : sProp (Res F)) :=
  Ring.slots2_join (ℓ := (c : Thread nD τ).loc cc0_scratch1) (fun b => (Rect.unit (s := S2x2048x512) ![b.val, 0, 0] S1x2048x512.size (slotIn b)).set)
    ringA_disjoint ringA_cover _ _ (fun f => by rw [← set1 0]) (fun f => by rw [← set1 1])
theorem split2 (c : Dev nD) : iprop(∃ f : Buf (Elt F) ((c : Thread nD τ).loc cc0_scratch2), ((c : Thread nD τ).loc cc0_scratch2) ↦{fullShare} f)
    ⊢ (iprop(Slot (slotB ring2 0) c ∗ Slot (slotB ring2 1) c) : sProp (Res F)) :=
  Ring.slots2_split (ℓ := (c : Thread nD τ).loc cc0_scratch2) (fun b => (Rect.unit (s := S2x512x2048) ![b.val, 0, 0] S1x512x2048.size (slotIn' b)).set)
    ringB_disjoint ringB_cover _ _ (fun f => by rw [← set2 0]) (fun f => by rw [← set2 1])
theorem join2 (c : Dev nD) : iprop(Slot (slotB ring2 0) c ∗ Slot (slotB ring2 1) c)
    ⊢ (iprop(∃ f : Buf (Elt F) ((c : Thread nD τ).loc cc0_scratch2), ((c : Thread nD τ).loc cc0_scratch2) ↦{fullShare} f) : sProp (Res F)) :=
  Ring.slots2_join (ℓ := (c : Thread nD τ).loc cc0_scratch2) (fun b => (Rect.unit (s := S2x512x2048) ![b.val, 0, 0] S1x512x2048.size (slotIn' b)).set)
    ringB_disjoint ringB_cover _ _ (fun f => by rw [← set2 0]) (fun f => by rw [← set2 1])

theorem of_eq {P Q : sProp (Res F)} (e : P = Q) : P ⊢ Q := e ▸ .rfl

/-- A whole buffer at some contents, as the narrowed matrices' buffers are held. -/
theorem some_of (c : Dev nD) (r : Ref sig .tc) :
    iprop(∃ f : Buf (Elt F) ((c : Thread nD τ).loc r), ((c : Thread nD τ).loc r) ↦{fullShare} f)
      ⊢ (iprop(∃ X, owns (c : Thread nD τ) (Memref.whole r) fullShare X) : sProp (Res F)) := by
  iintro ⟨%f, H⟩
  iexists _
  iapply (of_eq (owns_whole (Ix := Unit) (Name := ℕ) (U := Pipeline.UD sig nD τ) (Lvl := ℕ) (c : Thread nD τ) r fullShare f).symm)
  iexact H
theorem some_to (c : Dev nD) (r : Ref sig .tc) :
    iprop(∃ X, owns (c : Thread nD τ) (Memref.whole r) fullShare X)
      ⊢ (iprop(∃ f : Buf (Elt F) ((c : Thread nD τ).loc r), ((c : Thread nD τ).loc r) ↦{fullShare} f) : sProp (Res F)) := by
  iintro ⟨%f, H⟩
  iexists _
  iapply (of_eq (owns_whole (Ix := Unit) (Name := ℕ) (U := Pipeline.UD sig nD τ) (Lvl := ℕ) (c : Thread nD τ) r fullShare f))
  iexact H

/-- The kernel's own semaphores. -/
abbrev osem : Fin 6 → SemLoc sig := fun j => (![.dma (cell 0 0), .dma (cell 0 1), .dma (cell 1 0), .dma (cell 1 1), .dma (cell 2 0), .dma (cell 2 1)] : Fin 6 → SemLoc sig) j

theorem osem_facts : Pipeline.OwnSemFacts spec0 osem := by decide

/-- The arrays the kernel reads by its own transfers. -/
abbrev own : Finset (Ref sig .tc) := {main_v2, main_v3, main_v4}

theorem own_sub : own ⊆ Pipeline.restRefsP sig pre0 spec0 := by decide

theorem own_eq (c : Dev nD) : (bigSep own fun b => ((c : Thread nD τ).loc b) ↦{fullShare} V m c b : sProp (Res F))
    = iprop((((c : Thread nD τ).loc main_v2) ↦{fullShare} V m c main_v2) ∗ (((c : Thread nD τ).loc main_v3) ↦{fullShare} V m c main_v3)
      ∗ (((c : Thread nD τ).loc main_v4) ↦{fullShare} V m c main_v4)) :=
  BI.bigSep_eq_bigSepL_of_eq [main_v2, main_v3, main_v4] (by decide) (by decide) _

theorem osem_eq (c : Dev nD) :
    (Pipeline.ownSems0 (Ix := Unit) (Name := ℕ) (U := Pipeline.UD sig nD τ) (Lvl := ℕ) (Val := Elt F) (τ := τ) osem c : sProp (Res F))
    = iprop(semVal ((c : Thread nD τ), SemLoc.dma (cell 0 0)) 0 ∗ semVal ((c : Thread nD τ), SemLoc.dma (cell 0 1)) 0
      ∗ semVal ((c : Thread nD τ), SemLoc.dma (cell 1 0)) 0 ∗ semVal ((c : Thread nD τ), SemLoc.dma (cell 1 1)) 0
      ∗ semVal ((c : Thread nD τ), SemLoc.dma (cell 2 0)) 0 ∗ semVal ((c : Thread nD τ), SemLoc.dma (cell 2 1)) 0) :=
  Pipeline.ownSems0_eq_of_list c osem [0, 1, 2, 3, 4, 5] (by decide) (by decide)

theorem tabs_eq (c : Dev nD) :
    (Pipeline.ΦT pre0 (adm m 0).1 c : sProp (Res F)) = Tabs (tb m c) c := by
  obtain rfl : c = 0 := Subsingleton.elim _ _
  exact bigSep_univ_eq_bigSepL [(0 : Fin 5), 1, 2, 3, 4] (by decide) (by decide) _

theorem begins (c : Dev nD) : iprop(Pipeline.ΦD osem spec0 own (V m) c ∗ Pipeline.ΦT pre0 (adm m 0).1 c) ⊢ inv m pend cur c 0 := by
  rw [Pipeline.ΦD_eq, scopedRest0_eq, osem_eq, own_eq, tabs_eq]
  unfold inv
  have hs0 : started pend 0 = none := if_pos rfl
  have hh0 : held cur 0 = none := if_pos rfl
  simp only [Lanes, hs0, hh0, Lane, Kept]
  iintro ⟨⟨⟨B0, B1, B2, B3, B4, B5⟩, Hg, ⟨s00, s01, s10, s11, s20, s21⟩, W3, W4, W5⟩, HT⟩
  ihave B0 := (split0 c) $$ B0
  icases B0 with ⟨B00, B01⟩
  ihave B1 := (split1 c) $$ B1
  icases B1 with ⟨B10, B11⟩
  ihave B2 := (split2 c) $$ B2
  icases B2 with ⟨B20, B21⟩
  ihave B3 := (some_of c cc0_scratch3) $$ B3
  ihave B4 := (some_of c cc0_scratch4) $$ B4
  ihave B5 := (some_of c cc0_scratch5) $$ B5
  isplitl [Hg]; · iexact Hg
  isplitl [W3 W4 W5 B00 B01 B10 B11 B20 B21 s00 s01 s10 s11 s20 s21]
  · isplitl [W3 B00 B01 s00 s01]
    · isplitl [W3]; · iexact W3
      isplitl [B00]; · iexact B00
      isplitl [B01]; · iexact B01
      isplitl [s00]; · iexact s00
      iexact s01
    isplitl [W4 B10 B11 s10 s11]
    · isplitl [W4]; · iexact W4
      isplitl [B10]; · iexact B10
      isplitl [B11]; · iexact B11
      isplitl [s10]; · iexact s10
      iexact s11
    isplitl [W5]; · iexact W5
    isplitl [B20]; · iexact B20
    isplitl [B21]; · iexact B21
    isplitl [s20]; · iexact s20
    iexact s21
  isplitl [HT]; · iexact HT
  isplitl [B3]; · iexact B3
  isplitl [B4]; · iexact B4
  iexact B5

theorem ends (c : Dev nD) (hS : Sched (tb m c) pend cur) : inv m pend cur c 16 ⊢ Pipeline.ΦD osem spec0 own (V m) c := by
  rw [Pipeline.ΦD_eq, scopedRest0_eq, osem_eq, own_eq]
  unfold inv
  have hs0 : started pend 16 = none := (if_neg (by decide)).trans hS.last
  refine (Laws.sep_mono .rfl (Laws.sep_mono .rfl (Laws.sep_mono .rfl (kept_some (ws m c) c (held cur 16))))).trans ?_
  simp only [Lanes, hs0, Lane, Kept]
  iintro ⟨Hg, ⟨⟨W3, B00, B01, s00, s01⟩, ⟨W4, B10, B11, s10, s11⟩, ⟨W5, B20, B21, s20, s21⟩⟩, HT, B3, B4, B5⟩
  ihave B0 := (join0 c) $$ [B00 B01]
  · isplitl [B00]; · iexact B00
    iexact B01
  ihave B1 := (join1 c) $$ [B10 B11]
  · isplitl [B10]; · iexact B10
    iexact B11
  ihave B2 := (join2 c) $$ [B20 B21]
  · isplitl [B20]; · iexact B20
    iexact B21
  ihave B3 := (some_to c cc0_scratch3) $$ B3
  ihave B4 := (some_to c cc0_scratch4) $$ B4
  ihave B5 := (some_to c cc0_scratch5) $$ B5
  isplitl [B0 B1 B2 B3 B4 B5]
  · isplitl [B0]; · iexact B0
    isplitl [B1]; · iexact B1
    isplitl [B2]; · iexact B2
    isplitl [B3]; · iexact B3
    isplitl [B4]; · iexact B4
    iexact B5
  isplitl [Hg]; · iexact Hg
  isplitl [s00 s01 s10 s11 s20 s21]
  · isplitl [s00]; · iexact s00
    isplitl [s01]; · iexact s01
    isplitl [s10]; · iexact s10
    isplitl [s11]; · iexact s11
    isplitl [s20]; · iexact s20
    iexact s21
  isplitl [W3]; · iexact W3
  isplitl [W4]; · iexact W4
  iexact W5

/-! ## The run -/

theorem pf_eq (c : Dev nD) (k : Fin 5) : V m c (pre0.ref k) = (adm m 0).1 k := by
  obtain rfl : c = 0 := Subsingleton.elim _ _
  rfl

set_option backward.isDefEq.respectTransparency.types false in
/-- The whole program run: every array as the points leave it, every other buffer as the region found it, the
    semaphores at zero. -/
theorem run_all (hS : ∀ c, Sched (tb m c) pend cur) :
    θ_run defs (onTc (τ := τ) (main (F := F))) (s₀ m ρ)
      (fun r => (Pipeline.FramePost (Pipeline.pin (pcfgs (F := F)) (adm m)) (dats m pend cur) 0 (V m)) r ∧ r.2.sem = fun _ => 0) :=
  Pipeline.θ_run_frameP_dma (Q' := _) (pcfgs (F := F)) (adm m) (dats m pend cur) (0 : Fin 1) launch0 osem defs₀ Variants.none osem_facts own own_sub m ρ main
    (hbody := fun c => (obliged m c (hS c)).loose) (hshare := fun c => (dats m pend cur 0 c).share_full fun _ => rfl)
    (howed := fun _ _ => rfl) (V := V m) (hmain := entered m) (hA := A_eq m pend cur) (hpf := pf_eq m)
    (hin := fun c => begins m c)
    (hout := fun c => (show (dats m pend cur 0 c).Φ (Fin.last (cfgE m).N) = inv m pend cur c 16 from congrArg (inv m pend cur c) N_0) ▸ ends m c (hS c))

theorem mem_rest (b : Ref sig .tc) (h : b ∈ Pipeline.restRefs sig spec0) {r : PUnit × MemSt nD τ sig (Elt F)}
    (hr : Pipeline.FramePost (Pipeline.pin (pcfgs (F := F)) (adm m)) (dats m pend cur) 0 (V m) r) (c : Dev nD) :
    r.2.mem ((c : Thread nD τ).loc b) = V m c b := (hr c).2 b h

/-- The arguments end unchanged. -/
theorem args_of {r : PUnit × MemSt nD τ sig (Elt F)}
    (h : Pipeline.FramePost (Pipeline.pin (pcfgs (F := F)) (adm m)) (dats m pend cur) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m pend cur 0 c).arrAt_in 0 rfl _).trans ((A_eq m pend cur c 0).trans (V_arg0 m c))),
    (mem_rest m main_arg1 (Pipeline.mem_restRefs_of main_arg1 (by decide) (by decide)) h c).trans (V_arg1 m c),
    (mem_rest m main_arg2 (Pipeline.mem_restRefs_of main_arg2 (by decide) (by decide)) h c).trans (V_arg2 m c),
    (mem_rest m main_arg3 (Pipeline.mem_restRefs_of main_arg3 (by decide) (by decide)) h c).trans (V_arg3 m c)⟩

/-- The run's frame: the arguments end unchanged and the semaphores at zero. -/
theorem frame_of_run (hS : ∀ c, Sched (tb m c) pend cur) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => args_of m h.1 c, h.2⟩) (run_all m ρ hS)

end Cert.ExpertsSharedIdeal.Hand

end
-- ==== Proof.SharedOrder.lean ====
/-
  Which expert's matrices are wanted when: of the points where an expert's run of blocks begins, the schedule of the
  transfers, from the tables' entries.
-/
module

public import proofs.«01_k».proof.Proof.SharedStep
public import Mathlib.Order.Interval.Finset.Nat

@[expose] public section

noncomputable section

namespace Cert.ExpertsSharedIdeal.Hand

open Cert.ExpertsSharedIdeal Cert.ExpertsSharedIdeal.Gen
open Idealize.ShloMosaic Idealize.ShloMosaic.TcCoe

open Classical in
/-- The first number from `t` on with the property, if there is one. -/
def nxt (P : ℕ → Prop) (t : ℕ) : Option ℕ := if h : ∃ q, t ≤ q ∧ P q then some (Nat.find h) else none

open Classical in
theorem nxt_some {P : ℕ → Prop} {t q : ℕ} (hq : t ≤ q) (hP : P q) (hm : ∀ r, t ≤ r → P r → q ≤ r) : nxt P t = some q := by
  have h : ∃ q, t ≤ q ∧ P q := ⟨q, hq, hP⟩
  unfold nxt
  rw [dif_pos h]
  exact congrArg some (le_antisymm (Nat.find_min' h ⟨hq, hP⟩) (hm _ (Nat.find_spec h).1 (Nat.find_spec h).2))

open Classical in
theorem nxt_none {P : ℕ → Prop} {t : ℕ} (hn : ∀ r, t ≤ r → ¬ P r) : nxt P t = none := by
  unfold nxt
  rw [dif_neg (fun ⟨q, hq, hP⟩ => hn q hq hP)]

open Classical in
theorem nxt_cases (P : ℕ → Prop) (t : ℕ) :
    (nxt P t = none ∧ ∀ r, t ≤ r → ¬ P r) ∨ ∃ q, nxt P t = some q ∧ t ≤ q ∧ P q ∧ ∀ r, t ≤ r → P r → q ≤ r := by
  by_cases h : ∃ q, t ≤ q ∧ P q
  · have hs := Nat.find_spec h
    exact .inr ⟨Nat.find h, nxt_some hs.1 hs.2 (fun r h1 h2 => Nat.find_min' h ⟨h1, h2⟩), hs.1, hs.2, fun r h1 h2 => Nat.find_min' h ⟨h1, h2⟩⟩
  · exact .inl ⟨nxt_none fun r h1 h2 => h ⟨r, h1, h2⟩, fun r h1 h2 => h ⟨r, h1, h2⟩⟩

theorem nxt_self {P : ℕ → Prop} {t : ℕ} (h : P t) : nxt P t = some t := nxt_some le_rfl h fun _ h _ => h

theorem nxt_step {P : ℕ → Prop} {t : ℕ} (h : ¬ P t) : nxt P (t + 1) = nxt P t := by
  rcases nxt_cases P (t + 1) with ⟨e, hn⟩ | ⟨q, e, hq, hP, hm⟩
  · rw [e, nxt_none]
    intro r hr hPr
    rcases Nat.eq_or_lt_of_le hr with rfl | hlt
    · exact h hPr
    · exact hn r hlt hPr
  · rw [e, nxt_some (by omega) hP]
    intro r hr hPr
    rcases Nat.eq_or_lt_of_le hr with rfl | hlt
    · exact absurd hPr h
    · exact hm r hlt hPr

open Classical in
/-- How many numbers below `t` have the property. -/
def cnt (P : ℕ → Prop) (t : ℕ) : ℕ := ((List.range t).map fun i => if P i then 1 else 0).sum

open Classical in
theorem cnt_succ (P : ℕ → Prop) (t : ℕ) : cnt P (t + 1) = cnt P t + if P t then 1 else 0 := by
  unfold cnt
  rw [List.range_succ, List.map_append, List.sum_append]
  simp

theorem cnt_pos {P : ℕ → Prop} {t : ℕ} (h : P t) : cnt P (t + 1) = cnt P t + 1 := by rw [cnt_succ, if_pos h]
theorem cnt_neg {P : ℕ → Prop} {t : ℕ} (h : ¬ P t) : cnt P (t + 1) = cnt P t := by rw [cnt_succ, if_neg h, Nat.add_zero]

theorem cnt_le (P : ℕ → Prop) (t : ℕ) : cnt P t ≤ t := by
  induction t with
  | zero => exact le_rfl
  | succ t ih => rw [cnt_succ]; split <;> omega

/-- The expert of block `t`. -/
def expert (B : ℕ → BitVec 32) (t : ℕ) : Fin 1 := ⟨(B t).toNat % 1, Nat.mod_lt _ (by decide)⟩
/-- The slot of the run that comes after `k` runs. -/
def slotOf (k : ℕ) : Fin 2 := ⟨k % 2, Nat.mod_lt _ (by decide)⟩

theorem slot_flip (k : ℕ) : slotOf (k + 1) = 1 - slotOf k := by
  rcases Nat.mod_two_eq_zero_or_one k with h | h
  · rw [show slotOf k = 0 from Fin.ext h, show slotOf (k + 1) = 1 from Fin.ext (by show (k + 1) % 2 = 1; omega)]; rfl
  · rw [show slotOf k = 1 from Fin.ext h, show slotOf (k + 1) = 0 from Fin.ext (by show (k + 1) % 2 = 0; omega)]; rfl

/-- Block `t` begins an expert's run: it is in use, and the block before it, if any, is another expert's. -/
def heads (B : ℕ → BitVec 32) (n : BitVec 32) (t : ℕ) : Prop :=
  t < 16 ∧ (BitVec.ofNat 32 t).slt n = true ∧ (t = 0 ∨ B t ≠ B (t - 1))

/-- The transfer under way before point `t`: the next run's expert, into the slots in turn. -/
def pendOf (B : ℕ → BitVec 32) (P : ℕ → Prop) (t : ℕ) : Option (Fin 1 × Fin 2) :=
  (nxt P t).map fun q => (expert B q, slotOf (cnt P t))

open Classical in
/-- The expert whose matrices are held before point `t`: the last run's to have begun. -/
def curOf (B : ℕ → BitVec 32) (P : ℕ → Prop) : ℕ → Fin 1
  | 0 => 0
  | t + 1 => if P t then expert B t else curOf B P t

theorem word_expert {B : ℕ → BitVec 32} {t : ℕ} (h : (B t).toNat < 1) : B t = word (expert B t) := by
  apply BitVec.eq_of_toNat_eq
  show _ = (BitVec.ofNat 32 ((B t).toNat % 1)).toNat
  rw [BitVec.toNat_ofNat, Nat.mod_eq_of_lt h, Nat.mod_eq_of_lt (by omega)]

theorem sched_of (T : Tables) (B : ℕ → BitVec 32) (P : ℕ → Prop) (hB : ∀ t : Fin 16, T.be (ent t) = B t.val)
    (hr : ∀ t, t < 16 → (B t).toNat < 1) (hP : ∀ t, P t → t < 16) (h0 : P 0)
    (hfi : ∀ t : Fin 16, T.fi (ent t) = 1#32 ↔ P t.val)
    (hsl : ∀ t : Fin 16, P t.val → T.sl (ent t) = BitVec.ofNat 32 (cnt P t.val % 2))
    (hnx : ∀ t : Fin 16, T.nx (ent t) = match nxt P (t.val + 1) with | none => 4294967295#32 | some q => B q) :
    Sched T (pendOf B P) (curOf B P) where
  first0 := (hfi 0).2 h0
  start := ⟨expert B 0, by rw [hB]; exact word_expert (hr 0 (by decide)), by unfold pendOf; rw [nxt_self h0]; rfl⟩
  load t ht := by
    have hPt := (hfi t).1 ht
    refine ⟨expert B t.val, slotOf (cnt P t.val), (nxt P (t.val + 1)).map (expert B), ?_, hsl t hPt, ?_, ?_, ?_, ?_⟩
    · rw [hB]; exact word_expert (hr _ t.isLt)
    · unfold pendOf; rw [nxt_self hPt]; rfl
    · exact if_pos hPt
    · unfold pendOf
      rw [cnt_pos hPt, slot_flip, Option.map_map]
      rfl
    · rw [hnx]
      rcases nxt_cases P (t.val + 1) with ⟨e, hn⟩ | ⟨q, e, hq, hPq, hm⟩
      · rw [e]; rfl
      · rw [e]; exact word_expert (hr _ (hP _ hPq))
  keep t ht := by
    have hPt := fun h => ht ((hfi t).2 h)
    refine ⟨?_, if_neg hPt⟩
    unfold pendOf
    rw [cnt_neg hPt, nxt_step hPt]
  last := by
    unfold pendOf
    rw [nxt_none fun r hr hPr => absurd (hP r hPr) (by omega)]
    rfl

/-- A block in use is computed with its own expert's matrices. -/
theorem cur_expert (B : ℕ → BitVec 32) (n : BitVec 32) (t : ℕ) (ht : t < 16) (hn : (BitVec.ofNat 32 t).slt n = true) :
    curOf B (heads B n) (t + 1) = expert B t := by
  induction t with
  | zero => exact if_pos ⟨ht, hn, .inl rfl⟩
  | succ t ih =>
    by_cases h : heads B n (t + 1)
    · exact if_pos h
    · have he : B (t + 1) = B t := by
        by_contra hne
        exact h ⟨ht, hn, .inr hne⟩
      have hn' : (BitVec.ofNat 32 t).slt n = true := by
        rw [BitVec.slt_iff_toInt_lt] at hn ⊢
        rw [WordCmp.toInt_ofNat_of_lt (by omega)] at hn ⊢
        omega
      refine (if_neg h).trans ((ih (by omega) hn').trans ?_)
      exact Fin.ext (by show _ % 1 = _ % 1; rw [he])

end Cert.ExpertsSharedIdeal.Hand
-- ==== Proof.SharedTables.lean ====
/-
  The tables the host computes for the region: where an expert's run of blocks begins, the slot of its matrices, and the
  expert of the run after it; and the schedule they spell.
-/
module

public import proofs.«01_k».proof.Proof.SharedFrame
public import proofs.«01_k».proof.Proof.SharedOrder
public import Idealize.ShloMosaic.Lib.StableHlo.ReadAt
public import Idealize.ShloMosaic.Lib.Routing.OpsSet

@[expose] public section

noncomputable section

namespace Cert.ExpertsSharedIdeal.Hand

open Cert.ExpertsSharedIdeal Cert.ExpertsSharedIdeal.Gen
open Idealize.ShloMosaic Idealize.ShloMosaic.TcCoe Idealize.ShloMosaic.Tactic

variable {F : FTy → Type} [FloatOps F]
variable (m : (ℓ : Loc nD τ sig) → Buf (Elt F) ℓ) (c : Dev nD)

/-! ## The operations, read -/

/-- What the operations up to the running minimum leave. -/
def mid : Valuation τ sig (Elt F) := StableHlo.after
  (hostOps0 ++ hostOps0_1 ++ hostOps0_2 ++ hostOps0_3 ++ hostOps0_4 ++ hostOps0_5 ++ hostOps0_6 ++ hostOps0_7) (fun b => m (c, b))

theorem after_both (k l : List (HloOp τ sig (Elt F))) (X : Valuation τ sig (Elt F)) :
    StableHlo.after (k ++ l) X = StableHlo.after l (StableHlo.after k X) := by
  induction k generalizing X with
  | nil => rfl
  | cons op k ih => exact ih _

theorem V_mid (b : Ref sig .tc) : V m c b = StableHlo.after (hostOps0_8 ++ hostOps0_9 ++ hostOps0_10) (mid m c) (Proc.devRef .tc b) := by
  unfold V mid
  rw [← after_both]
  simp only [opss, List.flatten_cons, List.flatten_nil, List.append_nil, List.append_assoc]

theorem ent_ix1 (t : Fin 16) : ent t = Idealize.ShloMosaic.ix1 t := by
  funext a
  match a with
  | ⟨0, _⟩ => rfl

theorem ent_vix1 (t : Fin 16) : ent t = Idealize.ShloMosaic.ValueIdx.ix1 t := by
  funext a
  match a with
  | ⟨0, _⟩ => rfl
theorem ent0_ix1 : ent0 = Idealize.ShloMosaic.ix1 0 := by
  funext a
  match a with
  | ⟨0, _⟩ => rfl

theorem v8_eq : V m c main_v8 = concatenate S16 0 [⟨S1, extractStridedSlice S1 ![0] (V m c main_v0) slices_S16_S1_0⟩,
    ⟨S15, extractStridedSlice S15 ![0] (V m c main_v0) slices_S16_S15_0⟩] concatenates_S1_S15_S16_d0 := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  rfl

theorem v16_eq : V m c main_v16 = (andi (cmpi .slt (iotaInDim S16 32 0) (broadcastInDim S16 ![] bcast_S_S16 (shapeCast S_ (V m c main_v1) shapeCasts_S1_S_)))
    (ori (cmpi .eq (iotaInDim S16 32 0) (broadcastInDim S16 ![] bcast_S_S16 (constantI S_ 32 0#32))) (cmpi .ne (V m c main_v0) (V m c main_v8))) : IVec S16 1) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  try rfl

theorem v39_eq : V m c main_v39 = extui 32 (V m c main_v16) natLt_1_32 := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp

theorem v18_eq : V m c main_v18 = Host.reduceWindow IntOp.addi ![16] ![1] ![15] ![0] (extui 32 (V m c main_v16) natLt_1_32)
    (broadcastInDim S_ ![] bcast_S_S_ (constantI S_ 32 0#32)) reduceWindows_S16_S16_w16s1p15_0 h_S_ := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  all_goals simp -implicitDefEqProofs only [StableHlo.TRef.toBuf, StableHlo.TRef.ofBuf, cast_cast, cast_eq]

/-- A word less one, taken modulo two as the host takes it. -/
def parity (W : BitVec 32) : BitVec 32 :=
  Scalar.select
    (IntOp.andi (IntOp.cmpi .ne (IntOp.cmpi .slt (IntOp.remsi .host (IntOp.subi W 1#32) 2#32) 0#32) (IntOp.cmpi .slt 2#32 0#32))
      (IntOp.cmpi .ne (IntOp.remsi .host (IntOp.subi W 1#32) 2#32) 0#32))
    (IntOp.addi (IntOp.remsi .host (IntOp.subi W 1#32) 2#32) 2#32)
    (IntOp.remsi .host (IntOp.subi W 1#32) 2#32)

theorem parity_at (k : Fin 17) : parity (BitVec.ofNat 32 (k.val + 1)) = BitVec.ofNat 32 (k.val % 2) := by
  revert k
  decide +kernel

theorem v21_at (t : Fin 16) : V m c main_v21 (ent t) = parity (V m c main_v18 (ent t)) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_at
  generalize Host.reduceWindow _ _ _ _ _ _ _ _ _ _ = W
  rfl

theorem v22_eq : V m c main_v22 = select (V m c main_v16) (iotaInDim S16 32 0) (broadcastInDim S16 ![] bcast_S_S16 (constantI S_ 32 16#32)) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  try simp -implicitDefEqProofs only [StableHlo.TRef.toBuf, StableHlo.TRef.ofBuf, cast_cast, cast_eq]
  try rfl

/-- What the operations before the shifted table leave. -/
def early : Valuation τ sig (Elt F) := StableHlo.after
  (hostOps0 ++ hostOps0_1 ++ hostOps0_2 ++ hostOps0_3 ++ hostOps0_4 ++ hostOps0_5) (fun b => m (c, b))

theorem V_early (b : Ref sig .tc) : V m c b
    = StableHlo.after (hostOps0_6 ++ hostOps0_7 ++ hostOps0_8 ++ hostOps0_9 ++ hostOps0_10) (early m c) (Proc.devRef .tc b) := by
  unfold V early
  rw [← after_both]
  simp only [opss, List.flatten_cons, List.flatten_nil, List.append_nil, List.append_assoc]

theorem v25_eq : V m c main_v25 = concatenate S16 0 [⟨S15, extractStridedSlice S15 ![1] (V m c main_v22) slices_S16_S15_1⟩,
    ⟨S1, broadcastInDim S1 ![] bcast_S_S1 (constantI S_ 32 16#32)⟩] concatenates_S15_S1_S16_d0 := by
  have e : V m c main_v22 = early m c (Proc.devRef .tc main_v22) := by
    rw [V_early]
    generalize early m c = X
    simp only [hostOps0_6, hostOps0_7, hostOps0_8, hostOps0_9, hostOps0_10, List.cons_append, List.nil_append]
    after_reads_simp
  rw [e, V_early]
  generalize early m c = X
  simp only [hostOps0_6, hostOps0_7, hostOps0_8, hostOps0_9, hostOps0_10, List.cons_append, List.nil_append]
  after_reads_simp
  rfl

theorem v26_eq : V m c main_v26 = Host.reduceWindow IntOp.minsi ![16] ![1] ![0] ![15] (V m c main_v25)
    (broadcastInDim S_ ![] bcast_S_S_ (constantI S_ 32 2147483647#32)) reduceWindows_S16_S16_w16s1p0_15 h_S_ := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp
  all_goals simp -implicitDefEqProofs only [StableHlo.TRef.toBuf, StableHlo.TRef.ofBuf, cast_cast, cast_eq]

theorem v38_at (t : Fin 16) : V m c main_v38 (ent t)
    = Scalar.select (IntOp.cmpi .slt (V m c main_v26 (ent t)) 16#32) (V m c main_v37 (ent t)) 4294967295#32 := by
  simp only [V_mid]
  generalize mid m c = X
  simp only [hostOps0_8, hostOps0_9, hostOps0_10, List.cons_append, List.nil_append]
  after_reads_at
  try rfl

theorem v36_at (t : Fin 16) : V m c main_v36 (Idealize.ShloMosaic.ix2 t (0 : Fin 1))
    = Scalar.select (IntOp.cmpi .slt (IntOp.minsi (V m c main_v26 (ent t)) 15#32) 0#32)
      (IntOp.addi (IntOp.minsi (V m c main_v26 (ent t)) 15#32) 16#32) (IntOp.minsi (V m c main_v26 (ent t)) 15#32) := by
  simp only [V_mid]
  generalize mid m c = X
  simp only [hostOps0_8, hostOps0_9, hostOps0_10, List.cons_append, List.nil_append]
  after_reads_at
  rw [ent_ix1]
  try rfl

theorem v37_eq : V m c main_v37 = Host.gather gather_S16_S16x1_S16_n_0_n_n_0_1_1 (V m c main_v0) (V m c main_v36) := by
  simp only [V_mid]
  generalize mid m c = X
  simp only [hostOps0_8, hostOps0_9, hostOps0_10, List.cons_append, List.nil_append]
  after_reads_simp

/-! ## Their entries -/

/-- A table's entries, as a sequence. -/
def seqOf (x : S16.Idx → BitVec 32) (t : ℕ) : BitVec 32 := if h : t < 16 then x (ent ⟨t, h⟩) else 0#32

theorem seqOf_at (x : S16.Idx → BitVec 32) (t : Fin 16) : x (ent t) = seqOf x t.val := by
  unfold seqOf
  rw [dif_pos t.isLt]

theorem before_at (x : IVec S16 32) (t : Fin 16) (h : 0 < t.val) :
    concatenate S16 0 [⟨S1, extractStridedSlice S1 ![0] x slices_S16_S1_0⟩, ⟨S15, extractStridedSlice S15 ![0] x slices_S16_S15_0⟩] concatenates_S1_S15_S16_d0 (ent t)
      = x (ent ⟨t.val - 1, by omega⟩) := by
  pointwise
  rw [dif_neg (by omega)]
  exact congrArg x (ent_ix1 _).symm

theorem shift_at (x : IVec S16 32) (t : Fin 16) :
    concatenate S16 0 [⟨S15, extractStridedSlice S15 ![1] x slices_S16_S15_1⟩, ⟨S1, broadcastInDim S1 ![] bcast_S_S1 (constantI S_ 32 16#32)⟩] concatenates_S15_S1_S16_d0 (ent t)
      = if h : t.val + 1 < 16 then x (ent ⟨t.val + 1, h⟩) else 16#32 := by
  pointwise
  by_cases h : t.val < 15
  · rw [dif_pos h, dif_pos (by omega)]
    exact congrArg x ((congrArg Idealize.ShloMosaic.ix1 (Fin.ext (Nat.add_comm _ _))).trans (ent_ix1 _).symm)
  · rw [dif_neg h, dif_neg (by omega)]

/-- The running minimum's fold: one of the values, and at most each of them. -/
theorem foldl_min' {ι : Type} (f : ι → BitVec 32) (l : List ι) (v : BitVec 32) :
    ((l.foldl (fun r n => IntOp.minsi r (f n)) v) = v ∨ ∃ n ∈ l, (l.foldl (fun r n => IntOp.minsi r (f n)) v) = f n)
      ∧ (l.foldl (fun r n => IntOp.minsi r (f n)) v).toInt ≤ v.toInt
      ∧ ∀ n ∈ l, (l.foldl (fun r n => IntOp.minsi r (f n)) v).toInt ≤ (f n).toInt := by
  induction l generalizing v with
  | nil => exact ⟨.inl rfl, le_rfl, fun n hn => absurd hn List.not_mem_nil⟩
  | cons a l ih =>
    rw [List.foldl_cons]
    obtain ⟨h1, h2, h3⟩ := ih (IntOp.minsi v (f a))
    have hle : (IntOp.minsi v (f a)).toInt ≤ v.toInt ∧ (IntOp.minsi v (f a)).toInt ≤ (f a).toInt ∧ (IntOp.minsi v (f a) = v ∨ IntOp.minsi v (f a) = f a) := by
      unfold IntOp.minsi
      split
      · next h => rw [BitVec.slt_iff_toInt_lt] at h; exact ⟨le_rfl, by omega, .inl rfl⟩
      · next h => rw [BitVec.slt_iff_toInt_lt] at h; exact ⟨by omega, le_rfl, .inr rfl⟩
    refine ⟨?_, by omega, fun n hn => ?_⟩
    · rcases h1 with h1 | ⟨n, hn, h1⟩
      · rcases hle.2.2 with e | e
        · exact .inl (h1.trans e)
        · exact .inr ⟨a, List.mem_cons_self, h1.trans e⟩
      · exact .inr ⟨n, List.mem_cons_of_mem _ hn, h1⟩
    · rcases List.mem_cons.mp hn with rfl | hn
      · omega
      · exact h3 n hn

theorem foldl_min {ι : Type} (f : ι → BitVec 32) (l : List ι) (v R : BitVec 32) (h : l.foldl (fun r n => IntOp.minsi r (f n)) v = R) :
    (R = v ∨ ∃ n ∈ l, R = f n) ∧ R.toInt ≤ v.toInt ∧ ∀ n ∈ l, R.toInt ≤ (f n).toInt := h ▸ foldl_min' f l v

set_option maxHeartbeats 1000000 in
theorem cummin_at {N K : ℕ} (hN : K + 1 = N) (x : IVec (Routing.shape1 N) 32) (init : IVec Routing.shape0 32) (v : BitVec 32)
    (h : (Routing.shape1 N).ReduceWindows (![N] : Fin 1 → ℕ) ![1] ![0] ![K] (Routing.shape1 N)) (hu : 0 < Routing.shape0.numel)
    (hinit : init (Shape.Idx.first hu) = v) (j : Fin N) :
    (Host.reduceWindow IntOp.minsi ![N] ![1] ![0] ![K] x init h hu (Idealize.ShloMosaic.ix1 j) = v
      ∨ ∃ i : Fin N, j.val ≤ i.val ∧ Host.reduceWindow IntOp.minsi ![N] ![1] ![0] ![K] x init h hu (Idealize.ShloMosaic.ix1 j) = x (Idealize.ShloMosaic.ix1 i))
    ∧ ∀ i : Fin N, j.val ≤ i.val →
      (Host.reduceWindow IntOp.minsi ![N] ![1] ![0] ![K] x init h hu (Idealize.ShloMosaic.ix1 j)).toInt ≤ (x (Idealize.ShloMosaic.ix1 i)).toInt := by
  subst hinit
  have hw : ∀ n : Fin (Routing.shape1 N).numel, ((Routing.shape1 N).rowMajor.symm n (0 : Fin 1)).val = n.val := fun n => by
    rw [Routing.symm1 n]; rfl
  have hj := j.isLt
  generalize hR : Host.reduceWindow IntOp.minsi _ _ _ _ x init h hu (Idealize.ShloMosaic.ix1 j) = R
  unfold Host.reduceWindow at hR
  dsimp only at hR
  obtain ⟨h1, h2, h3⟩ := foldl_min _ _ _ R hR
  refine ⟨?_, fun i hi => ?_⟩
  · rcases h1 with h1 | ⟨n, _, h1⟩
    · exact .inl h1
    · split at h1
      · next hin =>
        have h0 := (hin 0).2
        change j.val * 1 + ((Routing.shape1 N).rowMajor.symm n (0 : Fin 1)).val - 0 < N at h0
        refine .inr ⟨⟨_, h0⟩, ?_, h1.trans (congrArg x (funext fun a => Fin.ext ?_))⟩
        · show j.val ≤ j.val * 1 + _ - 0
          omega
        · match a with
          | ⟨0, _⟩ => rfl
      · exact .inl h1
  · have hn : i.val - j.val < (Routing.shape1 N).numel := by rw [Routing.numel1]; omega
    refine (h3 ⟨i.val - j.val, hn⟩ (List.mem_finRange _)).trans (le_of_eq (congrArg BitVec.toInt ?_))
    rw [dif_pos]
    · refine congrArg x (funext fun a => Fin.ext ?_)
      match a with
      | ⟨0, _⟩ =>
        show j.val * 1 + ((Routing.shape1 N).rowMajor.symm _ (0 : Fin 1)).val - 0 = i.val
        rw [hw]
        show j.val * 1 + (i.val - j.val) - 0 = i.val
        omega
    · intro a
      match a with
      | ⟨0, _⟩ =>
        show 0 ≤ j.val * 1 + ((Routing.shape1 N).rowMajor.symm _ (0 : Fin 1)).val ∧ j.val * 1 + ((Routing.shape1 N).rowMajor.symm _ (0 : Fin 1)).val - 0 < N
        rw [hw]
        show 0 ≤ j.val * 1 + (i.val - j.val) ∧ j.val * 1 + (i.val - j.val) - 0 < N
        omega

/-- The experts of the blocks, as a sequence. -/
abbrev blk : ℕ → BitVec 32 := seqOf (V m c main_v0)
/-- The number of blocks in use. -/
abbrev used : BitVec 32 := (V m c main_v1 : S1.Idx → BitVec 32) ent0
/-- Where the runs begin. -/
abbrev runs : ℕ → Prop := heads (blk m c) (used m c)

theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem wide_one (a : BitVec 1) : a.setWidth 32 = 1#32 ↔ a = 1#1 := by revert a; decide
theorem wide_bit (a : BitVec 1) (p : Prop) [Decidable p] (h : a = 1#1 ↔ p) : a.setWidth 32 = BitVec.ofNat 32 (if p then 1 else 0) := by
  by_cases hp : p
  · rw [if_pos hp, h.2 hp]; rfl
  · rw [if_neg hp]
    have : a ≠ 1#1 := fun e => hp (h.1 e)
    have key : ∀ a : BitVec 1, a ≠ 1#1 → a.setWidth 32 = 0#32 := by decide
    exact key a this
theorem ofBool_one (b : Bool) : BitVec.ofBool b = 1#1 ↔ b = true := by cases b <;> decide

theorem v16_iff (t : Fin 16) : V m c main_v16 (ent t) = (1#1 : BitVec 1) ↔ runs m c t.val := by
  have hv : V m c main_v16 (ent t) = IntOp.andi (IntOp.cmpi .slt (BitVec.ofNat 32 t.val) (used m c))
      (IntOp.ori (IntOp.cmpi .eq (BitVec.ofNat 32 t.val) 0#32) (IntOp.cmpi .ne ((V m c main_v0 : S16.Idx → BitVec 32) (ent t)) ((V m c main_v8 : S16.Idx → BitVec 32) (ent t)))) := by
    rw [v16_eq]
    generalize V m c main_v8 = W
    rw [show used m c = (V m c main_v1 : S1.Idx → BitVec 32) (Idealize.ShloMosaic.ix1 0) from congrArg (V m c main_v1 : S1.Idx → BitVec 32) ent0_ix1]
    pointwise
  rw [hv, and_one, or_one]
  unfold IntOp.cmpi
  simp only [ofBool_one, beq_iff_eq, bne_iff_ne]
  have ht := t.isLt
  unfold runs heads
  by_cases h0 : t.val = 0
  · rw [h0]
    simp
  · have h3 : (V m c main_v8 : S16.Idx → BitVec 32) (ent t) = blk m c (t.val - 1) := by
      rw [v8_eq]
      exact (before_at _ t (by omega)).trans (seqOf_at _ ⟨t.val - 1, by omega⟩)
    rw [h3, show (V m c main_v0 : S16.Idx → BitVec 32) (ent t) = blk m c t.val from seqOf_at _ t]
    have hz : ¬ BitVec.ofNat 32 t.val = 0#32 := fun e => h0 (by
      have := congrArg BitVec.toNat e
      rw [BitVec.toNat_ofNat, Nat.mod_eq_of_lt (by omega)] at this
      exact this)
    simp only [hz, h0, ht, false_or, true_and]

theorem v39_iff (t : Fin 16) : (V m c main_v39 : S16.Idx → BitVec 32) (ent t) = 1#32 ↔ runs m c t.val := by
  rw [v39_eq]
  exact (wide_one _).trans (v16_iff m c t)

open Classical in
theorem v18_at (t : Fin 16) : (V m c main_v18 : S16.Idx → BitVec 32) (ent t) = BitVec.ofNat 32 (cnt (runs m c) (t.val + 1)) := by
  rw [v18_eq, ent_vix1]
  exact Routing.cumsum1 (Nm1 := 15) rfl _ (fun i => if runs m c i then 1 else 0)
    (fun i => by rw [← ent_vix1]; exact wide_bit _ _ (v16_iff m c i)) _ rfl _ _ t

theorem v21_of (t : Fin 16) (h : runs m c t.val) : (V m c main_v21 : S16.Idx → BitVec 32) (ent t) = BitVec.ofNat 32 (cnt (runs m c) t.val % 2) := by
  rw [v21_at, v18_at, cnt_pos h]
  exact parity_at ⟨cnt (runs m c) t.val, by have := cnt_le (runs m c) t.val; have := t.isLt; omega⟩

open Classical in
theorem v25_at (t : Fin 16) : (V m c main_v25 : S16.Idx → BitVec 32) (ent t) = if runs m c (t.val + 1) then BitVec.ofNat 32 (t.val + 1) else 16#32 := by
  rw [v25_eq]
  refine (shift_at _ t).trans ?_
  by_cases h : t.val + 1 < 16
  · rw [dif_pos h, v22_eq]
    refine (?_ : Scalar.select (V m c main_v16 (ent ⟨t.val + 1, h⟩) : BitVec 1) (BitVec.ofNat 32 (t.val + 1)) 16#32 = _)
    unfold Scalar.select
    have e := v16_iff m c ⟨t.val + 1, h⟩
    by_cases hp : runs m c (t.val + 1)
    · rw [if_pos hp]; exact if_pos (e.2 hp)
    · rw [if_neg hp]; exact if_neg fun h' => hp (e.1 h')
  · rw [dif_neg h, if_neg fun hp => h hp.1]

theorem v26_at (t : Fin 16) : (V m c main_v26 : S16.Idx → BitVec 32) (ent t)
    = match nxt (runs m c) (t.val + 1) with | none => 16#32 | some q => BitVec.ofNat 32 q := by
  classical
  have key := cummin_at (K := 15) rfl (V m c main_v25) (broadcastInDim S_ ![] bcast_S_S_ (constantI S_ 32 2147483647#32)) 2147483647#32
    reduceWindows_S16_S16_w16s1p0_15 h_S_ rfl t
  have hR : (V m c main_v26 : S16.Idx → BitVec 32) (ent t) = Host.reduceWindow IntOp.minsi ![16] ![1] ![0] ![15] (V m c main_v25)
    (broadcastInDim S_ ![] bcast_S_S_ (constantI S_ 32 2147483647#32)) reduceWindows_S16_S16_w16s1p0_15 h_S_ (Idealize.ShloMosaic.ix1 t) := by
    rw [v26_eq, ent_ix1]
  rw [← hR] at key
  generalize (V m c main_v26 : S16.Idx → BitVec 32) (ent t) = R at key ⊢
  obtain ⟨h1, h2⟩ := key
  have ht := t.isLt
  have hx : ∀ i : Fin 16, (V m c main_v25 : S16.Idx → BitVec 32) (Idealize.ShloMosaic.ix1 i) = if runs m c (i.val + 1) then BitVec.ofNat 32 (i.val + 1) else 16#32 :=
    fun i => by rw [← ent_ix1]; exact v25_at m c i
  have hti : ∀ k : ℕ, k < 16 → (BitVec.ofNat 32 k).toInt = k := fun k hk => WordCmp.toInt_ofNat_of_lt (by omega)
  have hlast := h2 ⟨15, by decide⟩ (by show t.val ≤ 15; omega)
  rw [hx, if_neg fun hp => absurd hp.1 (by decide), show (16#32 : BitVec 32).toInt = 16 from rfl] at hlast
  rcases nxt_cases (runs m c) (t.val + 1) with ⟨e, hn⟩ | ⟨q, e, hq, hP, hm⟩
  · rw [e]
    rcases h1 with h1 | ⟨i, hi, h1⟩
    · rw [h1] at hlast
      exact absurd hlast (by decide)
    · rw [hx, if_neg (hn _ (by omega))] at h1
      exact h1
  · rw [e]
    have hq' := hP.1
    have hb := h2 ⟨q - 1, by omega⟩ (by show t.val ≤ q - 1; omega)
    rw [hx, show q - 1 + 1 = q by omega, if_pos hP, hti q hq'] at hb
    rcases h1 with h1 | ⟨i, hi, h1⟩
    · rw [h1] at hlast
      exact absurd hlast (by decide)
    · rw [hx] at h1
      by_cases hp : runs m c (i.val + 1)
      · rw [if_pos hp] at h1
        have hle := hm _ (by omega) hp
        have hlt := hp.1
        rw [h1, hti _ hlt] at hb
        rw [h1, show i.val + 1 = q by omega]
      · rw [if_neg hp] at h1
        rw [h1, show (16#32 : BitVec 32).toInt = 16 from rfl] at hb
        omega

theorem clamp_at (q : Fin 16) : Scalar.select (IntOp.cmpi .slt (IntOp.minsi (BitVec.ofNat 32 q.val) 15#32) 0#32)
      (IntOp.addi (IntOp.minsi (BitVec.ofNat 32 q.val) 15#32) 16#32) (IntOp.minsi (BitVec.ofNat 32 q.val) 15#32) = BitVec.ofNat 32 q.val := by
  revert q
  decide +kernel
theorem inside_at (q : Fin 16) : IntOp.cmpi .slt (BitVec.ofNat 32 q.val) 16#32 = 1#1 := by
  revert q
  decide +kernel

theorem v38_of (t : Fin 16) : (V m c main_v38 : S16.Idx → BitVec 32) (ent t)
    = match nxt (runs m c) (t.val + 1) with | none => 4294967295#32 | some q => blk m c q := by
  rw [v38_at]
  rcases nxt_cases (runs m c) (t.val + 1) with ⟨e, hn⟩ | ⟨q, e, hq, hP, hm⟩
  · rw [v26_at, e]
    exact if_neg (by show ¬ IntOp.cmpi .slt 16#32 16#32 = 1; decide)
  · have h21 := v26_at m c t
    rw [e] at h21 ⊢
    have hi : (V m c main_v36 : S16x1.Idx → BitVec 32) (Idealize.ShloMosaic.ix2 t (0 : Fin 1)) = BitVec.ofNat 32 q := by
      rw [v36_at, h21]
      exact clamp_at ⟨q, hP.1⟩
    rw [h21]
    refine (if_pos (inside_at ⟨q, hP.1⟩)).trans ?_
    rw [v37_eq, ent_vix1]
    refine (Routing.gather_take1 _ rfl rfl rfl rfl _ _ t ⟨q, hP.1⟩ hi (by decide)).trans ?_
    rw [← ent_vix1]
    exact seqOf_at _ ⟨q, hP.1⟩

/-! ## The schedule -/

/-- The experts named are experts, and some block is in use. -/
structure InUse : Prop where
  used_pos : (0#32 : BitVec 32).slt (used m c) = true
  named : ∀ t : Fin 16, ((V m c main_v0 : S16.Idx → BitVec 32) (ent t)).toNat < 1

theorem tb_be : (tb m c).be = V m c main_v0 := by
  unfold tb
  dsimp only
theorem tb_fi : (tb m c).fi = V m c main_v39 := by
  unfold tb
  dsimp only
theorem tb_sl : (tb m c).sl = V m c main_v21 := by
  unfold tb
  dsimp only
theorem tb_nx : (tb m c).nx = V m c main_v38 := by
  unfold tb
  dsimp only

theorem sched (h : InUse m c) : Sched (tb m c) (pendOf (blk m c) (runs m c)) (curOf (blk m c) (runs m c)) := by
  refine sched_of _ _ _ (fun t => ?_) (fun t ht => ?_) (fun t ht => ht.1) ⟨Nat.succ_pos _, h.used_pos, .inl rfl⟩ (fun t => ?_) (fun t ht => ?_) (fun t => ?_)
  · rw [tb_be]; exact seqOf_at _ t
  · rw [show blk m c t = (V m c main_v0 : S16.Idx → BitVec 32) (ent ⟨t, ht⟩) from (seqOf_at _ ⟨t, ht⟩).symm]
    exact h.named ⟨t, ht⟩
  · rw [tb_fi]; exact v39_iff m c t
  · rw [tb_sl]; exact v21_of m c t ht
  · rw [tb_nx]; exact v38_of m c t

/-! ## What the host gives the call -/

theorem v0_eq : V m c main_v0 = broadcastInDim S16 ![] bcast_S_S16 (constantI S_ 32 0#32) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp

theorem v1_eq : V m c main_v1 = broadcastInDim S1 ![] bcast_S_S1 (constantI S_ 32 16#32) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp

theorem v2_eq : V m c main_v2 = broadcastInDim S2x1x2048x512 ![0, 2, 3] bcast_S2x2048x512_S2x1x2048x512_0_2_3 (m (c.tc.loc main_arg1)) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp

theorem v3_eq : V m c main_v3 = broadcastInDim S2x1x2048x512 ![0, 2, 3] bcast_S2x2048x512_S2x1x2048x512_0_2_3 (m (c.tc.loc main_arg2)) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp

theorem v4_eq : V m c main_v4 = broadcastInDim S2x1x512x2048 ![0, 2, 3] bcast_S2x512x2048_S2x1x512x2048_0_2_3 (m (c.tc.loc main_arg3)) := by
  unfold V
  simp only [opss, hostOps0, hostOps0_1, hostOps0_2, hostOps0_3, hostOps0_4, hostOps0_5, hostOps0_6, hostOps0_7, hostOps0_8, hostOps0_9, hostOps0_10,
    List.flatten_cons, List.flatten_nil, List.append_nil, List.cons_append, List.nil_append]
  after_reads_simp

/-- Every block is in use. -/
theorem used_eq : used m c = 16#32 := by
  unfold used
  rw [v1_eq]
  rfl

/-- The one set of weights is every block's. -/
theorem inUse : InUse m c := by
  refine ⟨?_, fun t => ?_⟩
  · rw [used_eq]; decide
  · rw [v0_eq]; exact Nat.one_pos

end Cert.ExpertsSharedIdeal.Hand
-- ==== Proof.SharedRef.lean ====
/- The shared expert's reference, read at an entry: a row through the gated feed-forward of the first layer's weights. -/
module

public import proofs.«01_k».proof.Proof.Gen.SharedIdeal.Read
public import Idealize.ShloMosaic.Lib.Pointwise
public import Idealize.ShloMosaic.Lib.Pipeline.ValueKit

@[expose] public section

set_option maxRecDepth 16384

noncomputable section

namespace Cert.SharedIdeal.Hand

open Cert.SharedIdeal Cert.SharedIdeal.Read Idealize.ShloMosaic Idealize.ShloMosaic.TcCoe

/-- The activation: the product of a value with its logistic, times the other projection. -/
def act (g u : EReal) : EReal := g * Ideal.div (Ideal.ofBits .f32 0x3F800000#32) (Ideal.ofBits .f32 0x3F800000#32 + Ideal.exp (-g)) * u

/-- A row through the first layer's weights. -/
def through (X : S8192x2048.Idx → EReal) (G U : S2x2048x512.Idx → EReal) (D : S2x512x2048.Idx → EReal) (R : Fin 8192) (C : Fin 2048) : EReal :=
  ∑ k : Fin 512, act (∑ j : Fin 2048, X (ix2 R j) * G (ix3 0 j k)) (∑ j : Fin 2048, X (ix2 R j) * U (ix3 0 j k)) * D (ix3 0 k C)

theorem mat2 (G : S2x2048x512.Idx → EReal) (k : Fin 2048) (j : Fin 512) : val_main_v2 (F := Ideal) G (ix2 k j) = G (ix3 0 k j) := by
  rw [val_main_v2_apply, val_main_v1_apply]
  refine congrArg G ?_
  blk_ext

theorem mat6 (U : S2x2048x512.Idx → EReal) (k : Fin 2048) (j : Fin 512) : val_main_v6 (F := Ideal) U (ix2 k j) = U (ix3 0 k j) := by
  rw [val_main_v6_apply, val_main_v5_apply]
  refine congrArg U ?_
  blk_ext

theorem mat10 (D : S2x512x2048.Idx → EReal) (k : Fin 512) (j : Fin 2048) : val_main_v10 (F := Ideal) D (ix2 k j) = D (ix3 0 k j) := by
  rw [val_main_v10_apply, val_main_v9_apply]
  refine congrArg D ?_
  blk_ext

/-- The reference's entry. -/
theorem entry (X : S8192x2048.Idx → EReal) (G U : S2x2048x512.Idx → EReal) (D : S2x512x2048.Idx → EReal) (R : Fin 8192) (C : Fin 2048) :
    val_main_v11 (F := Ideal) X G U D (ix2 R C) = through X G U D R C := by
  have hx : ∀ k, val_main_v0 (F := Ideal) X (ix2 R k) = X (ix2 R k) := fun k => by
    rw [val_main_v0_apply]
    rfl
  have hg : ∀ k, val_main_v3 (F := Ideal) X G (ix2 R k) = ∑ j : Fin 2048, X (ix2 R j) * G (ix3 0 j k) := fun k => by
    rw [val_main_v3_apply]
    refine Finset.sum_congr rfl fun j _ => congr (congrArg _ (Eq.trans (congrArg _ ?_) (hx j))) (Eq.trans (congrArg _ ?_) (mat2 G j k))
    · blk_ext
    · blk_ext
  have hu : ∀ k, val_main_v7 (F := Ideal) X U (ix2 R k) = ∑ j : Fin 2048, X (ix2 R j) * U (ix3 0 j k) := fun k => by
    rw [val_main_v7_apply]
    refine Finset.sum_congr rfl fun j _ => congr (congrArg _ (Eq.trans (congrArg _ ?_) (hx j))) (Eq.trans (congrArg _ ?_) (mat6 U j k))
    · blk_ext
    · blk_ext
  have ha : ∀ k, val_main_v8 (F := Ideal) X G U (ix2 R k)
      = act (∑ j : Fin 2048, X (ix2 R j) * G (ix3 0 j k)) (∑ j : Fin 2048, X (ix2 R j) * U (ix3 0 j k)) := fun k => by
    rw [val_main_v8_apply, val_main_v4_apply, val_main_call0_v5_apply, val_main_call0_v4_apply, val_main_call0_v3_apply,
      val_main_call0_v2_apply, val_main_call0_v1_apply, val_main_call0_v0_apply, val_main_call0_cst_apply, val_main_call0_cst_0_apply,
      hg, hu]
    rfl
  rw [val_main_v11_apply]
  unfold through
  refine Finset.sum_congr rfl fun k _ => congr (congrArg _ (Eq.trans (congrArg _ ?_) (ha k))) (Eq.trans (congrArg _ ?_) (mat10 D k C))
  · blk_ext
  · blk_ext

end Cert.SharedIdeal.Hand

end
-- ==== Proof.SharedValue.lean ====
/- The shared expert's kernel over the extended reals: every block of its result is the block's rows through the one set of weights. -/
module

public import proofs.«01_k».proof.Proof.SharedTables
public import proofs.«01_k».proof.Proof.SharedRef
public import Idealize.ShloMosaic.Lib.Pointwise
public import Idealize.ShloMosaic.Lib.ValueLayout
public import Idealize.ShloMosaic.Lib.Pipeline.ValueKit

@[expose] public section

set_option maxRecDepth 16384

noncomputable section

namespace Cert.ExpertsSharedIdeal.Hand

open Cert.ExpertsSharedIdeal Cert.ExpertsSharedIdeal.Gen
open Idealize.ShloMosaic Idealize.ShloMosaic.TcCoe Idealize.ShloMosaic.Tactic
open Cert.SharedIdeal.Hand (act through)

/-! ## An expert's matrices -/

theorem four {P Q : ℕ} {e : Fin 1} {p : Fin P} {q : Fin Q} {i : (⟨4, ![2, 1, P, Q]⟩ : Shape).Idx} (h0 : (i 0).val = 0)
    (h1 : (i 1).val = e.val) (h2 : (i 2).val = p.val) (h3 : (i 3).val = q.val) : i = ix4 0 e p q := by
  funext a
  refine Fin.ext ?_
  match a with
  | ⟨0, _⟩ => exact h0
  | ⟨1, _⟩ => exact h1
  | ⟨2, _⟩ => exact h2
  | ⟨3, _⟩ => exact h3

theorem back {P Q : ℕ} (h : (⟨2, ![P, Q]⟩ : Shape).numel = (⟨4, ![1, 1, P, Q]⟩ : Shape).numel) (p : Fin P) (q : Fin Q) :
    Shape.reshapeEquiv h (ix2 p q) = ix4 (0 : Fin 1) (0 : Fin 1) p q := ValueIdx.reshapeEquiv_ix2_11ab h p q

theorem g_at (A : Arrays Ideal) (e : Fin 1) (k : Fin 2048) (j : Fin 512) : Xg A e (ix2 k j) = A.g (ix4 0 e k j) := by
  show (arr0.view.slice (Rect.unit (s := S2x1x2048x512) ![0, e.val, 0, 0] S1x1x2048x512.size (matIn e))).read (Elt Ideal) A.g
    (Shape.reshapeEquiv squeezes_S1x1x2048x512_S2048x512.numel_eq (ix2 k j)) = _
  rw [back _ k j]
  refine congrArg A.g (four rfl ?_ ?_ ?_)
  · show e.val + 1 * 0 = e.val; omega
  · show 0 + 1 * k.val = k.val; omega
  · show 0 + 1 * j.val = j.val; omega

theorem u_at (A : Arrays Ideal) (e : Fin 1) (k : Fin 2048) (j : Fin 512) : Xu A e (ix2 k j) = A.u (ix4 0 e k j) := by
  show (arr1.view.slice (Rect.unit (s := S2x1x2048x512) ![0, e.val, 0, 0] S1x1x2048x512.size (matIn e))).read (Elt Ideal) A.u
    (Shape.reshapeEquiv squeezes_S1x1x2048x512_S2048x512.numel_eq (ix2 k j)) = _
  rw [back _ k j]
  refine congrArg A.u (four rfl ?_ ?_ ?_)
  · show e.val + 1 * 0 = e.val; omega
  · show 0 + 1 * k.val = k.val; omega
  · show 0 + 1 * j.val = j.val; omega

theorem d_at (A : Arrays Ideal) (e : Fin 1) (k : Fin 512) (j : Fin 2048) : Xd A e (ix2 k j) = A.d (ix4 0 e k j) := by
  show (arr2.view.slice (Rect.unit (s := S2x1x512x2048) ![0, e.val, 0, 0] S1x1x512x2048.size (matIn' e))).read (Elt Ideal) A.d
    (Shape.reshapeEquiv squeezes_S1x1x512x2048_S512x2048.numel_eq (ix2 k j)) = _
  rw [back _ k j]
  refine congrArg A.d (four rfl ?_ ?_ ?_)
  · show e.val + 1 * 0 = e.val; omega
  · show 0 + 1 * k.val = k.val; omega
  · show 0 + 1 * j.val = j.val; omega

theorem unsqA (X : S2048x512.Idx → EReal) (k : Fin 2048) (j : Fin 512) :
    unsq (F := Ideal) squeezes_S1x2048x512_S2048x512 X (ix3 0 k j) = X (ix2 k j) := by
  refine congrArg X ?_
  rw [Equiv.symm_apply_eq]
  exact (ValueIdx.reshapeEquiv_ix2_1ab _ k j).symm

theorem unsqB (X : S512x2048.Idx → EReal) (k : Fin 512) (j : Fin 2048) :
    unsq (F := Ideal) squeezes_S1x512x2048_S512x2048 X (ix3 0 k j) = X (ix2 k j) := by
  refine congrArg X ?_
  rw [Equiv.symm_apply_eq]
  exact (ValueIdx.reshapeEquiv_ix2_1ab _ k j).symm

theorem Ng_at (A : Arrays Ideal) (e : Fin 1) (k : Fin 2048) (j : Fin 512) : Ng A e (ix2 k j) = A.g (ix4 0 e k j) := by
  unfold Ng k0_pay1 k0_pay6
  pointwise []
  exact (unsqA _ k j).trans (g_at A e k j)

theorem Nu_at (A : Arrays Ideal) (e : Fin 1) (k : Fin 2048) (j : Fin 512) : Nu A e (ix2 k j) = A.u (ix4 0 e k j) := by
  unfold Nu k0_pay2
  pointwise []
  exact (unsqA _ k j).trans (u_at A e k j)

theorem Nd_at (A : Arrays Ideal) (e : Fin 1) (k : Fin 512) (j : Fin 2048) : Nd A e (ix2 k j) = A.d (ix4 0 e k j) := by
  unfold Nd k0_pay3
  pointwise []
  exact (unsqB _ k j).trans (d_at A e k j)

/-! ## A block -/

theorem pay4_at (X : S512x2048.Idx → EReal) (G U : S2048x512.Idx → EReal) (D : S512x2048.Idx → EReal) (r : Fin 512) (C : Fin 2048) :
    k0_pay4 (F := Ideal) X G U D (ix2 r C)
      = ∑ k : Fin 512, act (∑ j : Fin 2048, X (ix2 r j) * G (ix2 j k)) (∑ j : Fin 2048, X (ix2 r j) * U (ix2 j k)) * D (ix2 k C) := by
  unfold k0_pay4
  pointwise []
  refine Finset.sum_congr rfl fun k _ => congrArg (· * D (ix2 k C)) ?_
  unfold act
  rw [Ideal.ofBits_one_f32, ← zero_sub]

theorem pay5_at (i : S512x2048.Idx) : k0_pay5 (F := Ideal) i = (0 : EReal) := Ideal.ofBits_zero FTy.f32

/-- What a point leaves, at an entry. -/
theorem leaves_at (A : Arrays Ideal) (T : Tables) (i : grid0.Coords) (X : S512x2048.Idx → EReal) (e : Fin 1) (r : Fin 512) (C : Fin 2048) :
    leaves (F := Ideal) A T i X e (ix2 r C)
      = if (BitVec.ofNat 32 (i 0).val).slt (T.nu ent0) = true then
          ∑ k : Fin 512, act (∑ j : Fin 2048, X (ix2 r j) * A.g (ix4 0 e j k)) (∑ j : Fin 2048, X (ix2 r j) * A.u (ix4 0 e j k)) * A.d (ix4 0 e k C)
        else (0 : EReal) := by
  unfold leaves
  by_cases h : (BitVec.ofNat 32 (i 0).val).slt (T.nu ent0) = true
  · rw [if_pos h, if_pos h, pay4_at]
    refine Finset.sum_congr rfl fun k _ => congr (congrArg _ (congr (congrArg act ?_) ?_)) (Nd_at A e k C)
    · exact Finset.sum_congr rfl fun j _ => congrArg _ (Ng_at A e j k)
    · exact Finset.sum_congr rfl fun j _ => congrArg _ (Nu_at A e j k)
  · rw [if_neg h, if_neg h]
    exact pay5_at _

/-- What a point leaves is the row through the weights, where the block is in use. -/
theorem leaves_through (X : S8192x2048.Idx → EReal) (G U : S2x2048x512.Idx → EReal) (D : S2x512x2048.Idx → EReal)
    (A : Arrays Ideal) (T : Tables) (i : grid0.Coords) (Y : S512x2048.Idx → EReal) (e : Fin 1) (r : Fin 512) (C : Fin 2048) (R : Fin 8192)
    (hY : ∀ j, Y (ix2 r j) = X (ix2 R j)) (hG : ∀ j k, A.g (ix4 0 0 j k) = G (ix3 0 j k)) (hU : ∀ j k, A.u (ix4 0 0 j k) = U (ix3 0 j k))
    (hD : ∀ j k, A.d (ix4 0 0 j k) = D (ix3 0 j k)) (hn : (BitVec.ofNat 32 (i 0).val).slt (T.nu ent0) = true) :
    leaves (F := Ideal) A T i Y e (ix2 r C) = through X G U D R C := by
  obtain rfl : e = 0 := Subsingleton.elim _ _
  rw [leaves_at, if_pos hn]
  unfold through
  simp only [hY, hG, hU, hD]

/-! ## The blocks of the result -/

variable (m : (ℓ : Loc nD τ sig) → Buf (Elt Ideal) ℓ)

theorem index0 (t : Fin (cfgE m).N) : ((cfgE m).win 0).index t = ![t.val, 0] := by
  show cc0_transform_0 (grid0.coords t) = _
  unfold cc0_transform_0
  rw [coords_num]
  have := (num m t).isLt
  funext a
  match a with
  | ⟨0, _⟩ => show (BitVec.ofNat 32 t.val).toNat = t.val; rw [BitVec.toNat_ofNat]; exact Nat.mod_eq_of_lt (by have : t.val < 16 := this; omega)
  | ⟨1, _⟩ => rfl

theorem index1 (t : Fin (cfgE m).N) : ((cfgE m).win 1).index t = ![t.val, 0] := by
  show cc0_transform_4 (grid0.coords t) = _
  unfold cc0_transform_4
  rw [coords_num]
  have := (num m t).isLt
  funext a
  match a with
  | ⟨0, _⟩ => show (BitVec.ofNat 32 t.val).toNat = t.val; rw [BitVec.toNat_ofNat]; exact Nat.mod_eq_of_lt (by have : t.val < 16 := this; omega)
  | ⟨1, _⟩ => rfl

theorem flushes (t : Fin (cfgE m).N) : ((cfgE m).win 1).flush t = true := by
  unfold Pipeline.Window.flush
  refine Bool.and_eq_true_iff.2 ⟨rfl, ?_⟩
  by_cases h : t.val + 1 = (cfgE m).grid.N
  · exact Bool.or_eq_true_iff.2 (.inl (decide_eq_true h))
  · refine Bool.or_eq_true_iff.2 (.inr (decide_eq_true ⟨lt_of_le_of_ne t.isLt h, fun e => ?_⟩))
    rw [index1, index1] at e
    have := congrFun e 0
    exact absurd (show t.val + 1 = t.val from this) (by omega)

theorem covers : ((cfgE m).win 1).Covers := by
  refine ⟨fun a => ?_, fun β => ?_⟩
  · match a with
    | ⟨0, _⟩ => show 0 < 512; decide
    | ⟨1, _⟩ => show 0 < 2048; decide
  · have h0 : (β (0 : Fin 2)).val < 16 := lt_of_lt_of_eq (β (0 : Fin 2)).isLt (by show (8192 + 512 - 1) / 512 = 16; rfl)
    have h1 : (β (1 : Fin 2)).val < 1 := lt_of_lt_of_eq (β (1 : Fin 2)).isLt (by show (2048 + 2048 - 1) / 2048 = 1; rfl)
    refine ⟨⟨(β (0 : Fin 2)).val, lt_of_lt_of_eq h0 N_0.symm⟩, flushes m _, fun a => ⟨?_, .inl ?_⟩⟩
    · rw [index1]
      match a with
      | ⟨0, _⟩ => rfl
      | ⟨1, _⟩ => show 0 = (β (1 : Fin 2)).val; omega
    · match a with
      | ⟨0, _⟩ => rfl
      | ⟨1, _⟩ => rfl

/-- The staged rows. -/
theorem rows (c : Dev nD) (t : Fin (cfgE m).N) (r : Fin 512) (k : Fin 2048) (R : Fin 8192) (hR : R.val = 512 * t.val + r.val) :
    iblk m c 0 t (ix2 r k) = m ((c : Thread nD τ).loc main_arg0) (ix2 R k) := by
  have e0 := index0 m t
  rw [← V_arg0 m c]
  blk_simp [iblk, e0]
  blk_ext [e0]

theorem wide_at (W : S2x2048x512.Idx → EReal) (j : Fin 2048) (k : Fin 512) :
    broadcastInDim S2x1x2048x512 ![0, 2, 3] bcast_S2x2048x512_S2x1x2048x512_0_2_3 W (ix4 0 0 j k) = W (ix3 0 j k) :=
  broadcastInDim_apply _ bcast_S2x2048x512_S2x1x2048x512_0_2_3 W (ix4 0 0 j k) (ix3 0 j k) (fun a => by
    match a with
    | ⟨0, _⟩ => rfl
    | ⟨1, _⟩ => rfl
    | ⟨2, _⟩ => rfl)

theorem tall_at (W : S2x512x2048.Idx → EReal) (j : Fin 512) (k : Fin 2048) :
    broadcastInDim S2x1x512x2048 ![0, 2, 3] bcast_S2x512x2048_S2x1x512x2048_0_2_3 W (ix4 0 0 j k) = W (ix3 0 j k) :=
  broadcastInDim_apply _ bcast_S2x512x2048_S2x1x512x2048_0_2_3 W (ix4 0 0 j k) (ix3 0 j k) (fun a => by
    match a with
    | ⟨0, _⟩ => rfl
    | ⟨1, _⟩ => rfl
    | ⟨2, _⟩ => rfl)

theorem gates (c : Dev nD) (j : Fin 2048) (k : Fin 512) :
    (ws m c).g (ix4 0 0 j k) = (m ((c : Thread nD τ).loc main_arg1) : S2x2048x512.Idx → EReal) (ix3 0 j k) := by
  show (V m c main_v2 : S2x1x2048x512.Idx → EReal) _ = _
  rw [v2_eq]
  exact wide_at _ j k

theorem ups (c : Dev nD) (j : Fin 2048) (k : Fin 512) :
    (ws m c).u (ix4 0 0 j k) = (m ((c : Thread nD τ).loc main_arg2) : S2x2048x512.Idx → EReal) (ix3 0 j k) := by
  show (V m c main_v3 : S2x1x2048x512.Idx → EReal) _ = _
  rw [v3_eq]
  exact wide_at _ j k

theorem downs (c : Dev nD) (j : Fin 512) (k : Fin 2048) :
    (ws m c).d (ix4 0 0 j k) = (m ((c : Thread nD τ).loc main_arg3) : S2x512x2048.Idx → EReal) (ix3 0 j k) := by
  show (V m c main_v4 : S2x1x512x2048.Idx → EReal) _ = _
  rw [v4_eq]
  exact tall_at _ j k

theorem below : ∀ k : Fin 16, (BitVec.ofNat 32 k.val).slt 16#32 = true := by decide

/-- A block of the result, entry by entry. -/
theorem block (c : Dev nD) (t : Fin (cfgE m).N) (e : Fin 1) (r : Fin 512) (C : Fin 2048) (R : Fin 8192) (hR : R.val = 512 * t.val + r.val) :
    leaves (ws m c) (tb m c) (grid0.coords t) (iblk m c 0 t) e (ix2 r C)
      = Cert.SharedIdeal.Read.val_main_v11 (F := Ideal) (m ((c : Thread nD τ).loc main_arg0)) (m ((c : Thread nD τ).loc main_arg1))
        (m ((c : Thread nD τ).loc main_arg2)) (m ((c : Thread nD τ).loc main_arg3)) (ix2 R C) := by
  refine Eq.trans ?_ (Cert.SharedIdeal.Hand.entry _ _ _ _ R C).symm
  refine leaves_through _ _ _ _ (ws m c) (tb m c) (grid0.coords t) (iblk m c 0 t) e r C R (fun j => rows m c t r j R hR)
    (gates m c) (ups m c) (downs m c) ?_
  rw [coords_num, show (tb m c).nu ent0 = 16#32 from used_eq m c]
  exact below (num m t)

/-- The call's result is the reference's. -/
theorem final (c : Dev nD) :
    (dats m (pendOf (blk m c) (runs m c)) (curOf (blk m c) (runs m c)) 0 c).arrAt 1 (cfgE m).N
      = Cert.SharedIdeal.Read.val_main_v11 (F := Ideal) (m ((c : Thread nD τ).loc main_arg0)) (m ((c : Thread nD τ).loc main_arg1))
        (m ((c : Thread nD τ).loc main_arg2)) (m ((c : Thread nD τ).loc main_arg3)) := by
  refine (dats m (pendOf (blk m c) (runs m c)) (curOf (blk m c) (runs m c)) 0 c).arrAt_eq_of_covers 1 _ (covers m) fun t hf y => ?_
  have e1 := index1 m t
  rw [after1]
  have ht : t.val < 16 := (num m t).isLt
  have hy0 : (y (0 : Fin 2)).val < 512 := (y (0 : Fin 2)).isLt
  have hy1 : (y (1 : Fin 2)).val < 2048 := (y (1 : Fin 2)).isLt
  refine Eq.trans ?_ ((block m c t (curOf (blk m c) (runs m c) (t.val + 1)) ⟨(y (0 : Fin 2)).val, hy0⟩ ⟨(y (1 : Fin 2)).val, hy1⟩
    ⟨512 * t.val + (y (0 : Fin 2)).val, by omega⟩ rfl).trans (congrArg _ ?_))
  · blk_simp
    refine congrArg _ ?_
    blk_ext
  · blk_ext [e1]

end Cert.ExpertsSharedIdeal.Hand

end
-- ==== Proof.SharedSame.lean ====
/-
  The kernel and its ideal reading have one text: their body tables and their programs are equal, so a run of the one is a
  run of the other.
-/
module

public import proofs.«01_k».proof.Proof.Gen.ExpertsShared
public import proofs.«01_k».proof.Proof.SharedFrame

@[expose] public section

namespace Cert.ExpertsShared.Hand

open Idealize.ShloMosaic

variable {F : FTy → Type} [FloatOps F]

theorem body_same : @Cert.ExpertsShared.cc0_experts_shared F _ _ = @Cert.ExpertsSharedIdeal.cc0_experts_shared F _ _ := rfl

theorem bodies_same : Cert.ExpertsShared.defs₀ (F := F) = Cert.ExpertsSharedIdeal.defs₀ (F := F) := by
  unfold Cert.ExpertsShared.defs₀ Cert.ExpertsSharedIdeal.defs₀
  refine congrArg Defs.onTc ?_
  funext l x
  match l with
  | ⟨0, _⟩ => rfl

theorem defs_same : Cert.ExpertsShared.defs (F := F) = Cert.ExpertsSharedIdeal.defs (F := F) :=
  congrArg (Pipeline.defs Cert.ExpertsShared.pcfgs) bodies_same

set_option maxHeartbeats 20000000 in
theorem main_same : @Cert.ExpertsShared.main F _ _ = @Cert.ExpertsSharedIdeal.main F _ _ := rfl

/-- What holds of every run of the ideal reading holds of every run of the kernel. -/
theorem of_ideal (s : MemSt Cert.ExpertsSharedIdeal.nD Cert.ExpertsSharedIdeal.τ Cert.ExpertsSharedIdeal.sig (Elt F))
    (Q : PUnit × MemSt Cert.ExpertsSharedIdeal.nD Cert.ExpertsSharedIdeal.τ Cert.ExpertsSharedIdeal.sig (Elt F) → Prop)
    (h : θ_run (Cert.ExpertsSharedIdeal.defs (F := F)) (onTc (τ := Cert.ExpertsSharedIdeal.τ) (Cert.ExpertsSharedIdeal.main (F := F))) s Q) :
    θ_run (Cert.ExpertsShared.defs (F := F)) (onTc (τ := Cert.ExpertsShared.τ) (Cert.ExpertsShared.main (F := F))) s Q := by
  rw [defs_same, main_same]
  exact h

end Cert.ExpertsShared.Hand
-- ==== Proof.RecurTable.lean ====
/- The first 64 rows of the recurrence's constant matrix are the lower triangle. -/
module

public import proofs.«01_k».proof.RecurIdeal

@[expose] public section

set_option maxRecDepth 16384

noncomputable section

namespace Cert.RecurIdeal.Value

open Cert.RecurIdeal

/-- Entry `i` of the table, row-major, is one (as a bfloat16 word) if its column is at most its row, and zero otherwise. -/
abbrev lowAt (i : ℕ) : Bool := Nat.beq (lit0t i).toNat (bif Nat.ble (i % 64) (i / 64) then 16256 else 0)

/-- So are the first 4096 entries. -/
theorem low : ((List.range 4096).all fun i => lowAt i) = true := by decide +kernel

/-- An entry of the first 64 rows: one on and below the diagonal, zero above it. -/
theorem lit_low (i : ℕ) (hi : i < 4096) : lit0t i = if i % 64 ≤ i / 64 then 0x3F80#16 else 0#16 := by
  have h := Nat.eq_of_beq_eq_true (List.all_eq_true.1 low i (List.mem_range.2 hi))
  apply BitVec.eq_of_toNat_eq
  rw [h]
  by_cases hc : i % 64 ≤ i / 64
  · rw [Nat.ble_eq_true_of_le hc, if_pos hc]; rfl
  · rw [show Nat.ble (i % 64) (i / 64) = false from Bool.eq_false_iff.2 fun h => hc (Nat.le_of_ble_eq_true h), if_neg hc]; rfl

/-- The table as a function of the index's value. -/
theorem lit_eq (j : Fin 28672) : lit0 j = lit0t j.val := by cases j; rfl

end Cert.RecurIdeal.Value

end
-- ==== Proof.RecurBlock.lean ====
/- The blocks that the recurrence's grid points stage, read off the arguments. -/
module

public import proofs.«01_k».proof.Proof.Gen.RecurIdeal.Value
public import proofs.«01_k».proof.Proof.RecurTable
public import Idealize.ShloMosaic.Lib.Pointwise
public import Idealize.ShloMosaic.Lib.Pipeline.ValueKit
public import Idealize.ShloMosaic.Lib.KernelVsHost
public import Idealize.ShloMosaic.Lib.StableHlo.ReadAt

@[expose] public section

set_option maxRecDepth 16384

noncomputable section

namespace Cert.RecurIdeal.Value

open Cert.RecurIdeal Cert.RecurIdeal.Gen Idealize.ShloMosaic Idealize.ShloMosaic.TcCoe Idealize.SL.Sem

variable (m : (ℓ : Loc nD τ sig) → Buf (Elt Ideal) ℓ)

/-- The blocks that a grid point's windows stage. -/
theorem idx : ∀ t : Fin cfg0.N, win0_1.index t = ![t.val / 16, 0, 16 + t.val % 16] ∧ win0_2.index t = ![t.val / 16, 0, 32 + t.val % 16]
    ∧ win0_4.index t = ![0, t.val % 16] ∧ win0_6.index t = ![t.val / 16, t.val % 16, 0, 0] ∧ win0_7.index t = ![0, 0]
    ∧ win0_10.index t = ![t.val / 16, t.val % 16, 0, 0] := by decide +kernel

/-- The region's first operand: the rows by sequence, 60 rows of padding after the four. -/
theorem v3_eq (c : Dev nD) : ∃ z : S_.Idx → EReal, V m c main_v3 = (shapeCast S8x64x8192 (shapeCast S512x8192 (pad S8x64x8192 ![0, 0, 0] ![0, 60, 0] ![0, 0, 0]
      (shapeCast S8x4x8192 (m (c.tc.loc main_arg0)) shapeCasts_S32x8192_S8x4x8192) z pads_S8x4x8192_S8x64x8192_000_0600_000 h_S_)
      shapeCasts_S8x64x8192_S512x8192) shapeCasts_S512x8192_S8x64x8192 : S8x64x8192.Idx → EReal) := by
  refine ⟨sitofp (F := Ideal) .f32 (constantI S_ 32 0#32), ?_⟩
  unfold V
  simp only [hostOps0, hostOps0_1, hostOps0_2,
    List.flatten_cons, List.flatten_nil, List.append_nil, List.cons_append, List.nil_append]
  after_reads_simp
  all_goals simp -implicitDefEqProofs only [StableHlo.TRef.toBuf, StableHlo.TRef.ofBuf, cast_cast, cast_eq]
  all_goals rfl

/-- One of the four rows of a sequence, in the region's first operand. -/
theorem v3_at (c : Dev nD) (b : Fin 8) (s : Fin 4) (C : Fin 8192) (R : Fin 32) (hR : R.val = 4 * b.val + s.val) :
    V m c main_v3 (ix3 b ⟨s.val, by omega⟩ C) = m ((c : Thread nD τ).loc main_arg0) (ix2 R C) := by
  obtain ⟨z, e⟩ := v3_eq m c
  rw [e]
  refine (shapeCast_apply _ _ _ (ix2 ⟨64 * b.val + s.val, by omega⟩ C) ?_).trans ?_
  · rw [Shape.rowMajor_val_two, Shape.rowMajor_val_three]
    show (64 * b.val + s.val) * 8192 + C.val = (b.val * 64 + s.val) * 8192 + C.val
    omega
  refine (shapeCast_apply _ _ _ (ix3 b ⟨s.val, by omega⟩ C) ?_).trans ?_
  · rw [Shape.rowMajor_val_two, Shape.rowMajor_val_three]
    show (b.val * 64 + s.val) * 8192 + C.val = (64 * b.val + s.val) * 8192 + C.val
    omega
  refine (pad_apply_of_inside _ _ _ _ _ _ _ _ (ix3 b s C) ?_).trans ?_
  · intro a; match a with
    | ⟨0, _⟩ => show b.val = 0 + b.val * (0 + 1); omega
    | ⟨1, _⟩ => show s.val = 0 + s.val * (0 + 1); omega
    | ⟨2, _⟩ => show C.val = 0 + C.val * (0 + 1); omega
  refine shapeCast_apply _ _ _ (ix2 R C) ?_
  rw [Shape.rowMajor_val_two, Shape.rowMajor_val_three]
  show R.val * 8192 + C.val = (b.val * 4 + s.val) * 8192 + C.val
  omega

/-- The staged forget gates of a sequence's head. -/
theorem forget (c : Dev nD) (t : Fin cfg0.N) (s : Fin 4) (k : Fin 128) (R : Fin 32) (hR : R.val = 4 * (t.val / 16) + s.val)
    (C : Fin 8192) (hC : C.val = 2048 + 128 * (t.val % 16) + k.val) :
    iblk m c 1 t (ix3 0 ⟨s.val, by omega⟩ k) = m ((c : Thread nD τ).loc main_arg0) (ix2 R C) := by
  obtain ⟨e1, e2, e4, e6, e7, e10⟩ := idx t
  have ht : t.val < 128 := t.isLt
  refine Eq.trans ?_ (v3_at m c ⟨t.val / 16, by omega⟩ s C R hR)
  blk_simp [iblk, e1]
  blk_ext [e1]

/-- The staged inputs of a sequence's head. -/
theorem input (c : Dev nD) (t : Fin cfg0.N) (s : Fin 4) (k : Fin 128) (R : Fin 32) (hR : R.val = 4 * (t.val / 16) + s.val)
    (C : Fin 8192) (hC : C.val = 4096 + 128 * (t.val % 16) + k.val) :
    iblk m c 2 t (ix3 0 ⟨s.val, by omega⟩ k) = m ((c : Thread nD τ).loc main_arg0) (ix2 R C) := by
  obtain ⟨e1, e2, e4, e6, e7, e10⟩ := idx t
  have ht : t.val < 128 := t.isLt
  refine Eq.trans ?_ (v3_at m c ⟨t.val / 16, by omega⟩ s C R hR)
  blk_simp [iblk, e2]
  blk_ext [e2]

/-- The staged lower bounds of a head. -/
theorem lower (c : Dev nD) (t : Fin cfg0.N) (k : Fin 128)
    (C : Fin 2048) (hC : C.val = 128 * (t.val % 16) + k.val) :
    iblk m c 4 t (ix2 0 k) = m ((c : Thread nD τ).loc main_arg1) (ix1 C) := by
  obtain ⟨e1, e2, e4, e6, e7, e10⟩ := idx t
  blk_simp [iblk, V, e4]
  entry_read
  refine (shapeCast_apply _ shapeCasts_S2048_S1x2048 _ (ix1 C) ?_)
  rw [Shape.rowMajor_val_one, Shape.rowMajor_val_two]
  have h0 : win0_4.index t 0 = 0 := by rw [e4]; rfl
  have h1 : win0_4.index t 1 = t.val % 16 := by rw [e4]; rfl
  show C.val = (win0_4.index t 0 * 1 + 1 * 0) * 2048 + (win0_4.index t 1 * 128 + 1 * k.val)
  omega

/-- The staged state that a head starts from. -/
theorem start (c : Dev nD) (t : Fin cfg0.N) (k v : Fin 128) (B : Fin 8) (hB : B.val = t.val / 16) (H : Fin 16) (hH : H.val = t.val % 16) :
    iblk m c 6 t (ix4 0 0 k v) = m ((c : Thread nD τ).loc main_arg3) (ix4 B H k v) := by
  obtain ⟨e1, e2, e4, e6, e7, e10⟩ := idx t
  blk_simp [iblk, V, e6]
  blk_ext [e6]

/-- The staged table of the running sums: ones on and below the diagonal. -/
theorem mats (c : Dev nD) (t : Fin cfg0.N) (s j : Fin 64) :
    iblk m c 7 t (ix2 ⟨s.val, by omega⟩ j) = if j.val ≤ s.val then (1 : EReal) else 0 := by
  obtain ⟨e1, e2, e4, e6, e7, e10⟩ := idx t
  blk_simp [iblk, V, e7]
  entry_read
  have e : ((View.whole main_cst).slice (win0_7.rect t)).emb (ix2 ⟨s.val, by omega⟩ j) = ix2 ⟨s.val, by omega⟩ j := by blk_ext [e7]
  rw [e]
  refine (congrArg (Ideal.ofBits .bf16) (lit_eq (S448x64.rowMajor (ix2 ⟨s.val, by omega⟩ j)))).trans ?_
  rw [Shape.rowMajor_val_two]
  refine (congrArg (fun n => Ideal.ofBits .bf16 (lit0t n)) (show _ = s.val * 64 + j.val from rfl)).trans ?_
  show Ideal.ofBits .bf16 (lit0t (s.val * 64 + j.val)) = _
  rw [lit_low _ (by omega), show (s.val * 64 + j.val) % 64 = j.val by omega, show (s.val * 64 + j.val) / 64 = s.val by omega]
  split
  · show FloatOps.ofBits (F := Ideal) .bf16 0x3F80#16 = 1
    pointwise []
  · show FloatOps.ofBits (F := Ideal) .bf16 0#16 = 0
    pointwise []

end Cert.RecurIdeal.Value

end
-- ==== Proof.RecurPay.lean ====
/- The recurrence's payloads, entry by entry. -/
module

public import proofs.«01_k».proof.Proof.Gen.RecurIdeal.Value
public import Idealize.ShloMosaic.Lib.Pointwise
public import Idealize.ShloMosaic.Lib.Pipeline.ValueKit

@[expose] public section

set_option maxRecDepth 16384

noncomputable section

namespace Cert.RecurIdeal.Value

open Cert.RecurIdeal Cert.RecurIdeal.Gen Idealize.ShloMosaic Idealize.ShloMosaic.TcCoe Idealize.SL.Sem

/-- The decay of a row and channel, from its logit and the lower bound. -/
def fade (l x : EReal) : EReal := l + (1 - l) * Ideal.div 1 (1 + Ideal.exp (0 - x))

/-- The payload of the decay. -/
theorem gateP (x1 : S1x64x128.Idx → EReal) (x4 : S1x128.Idx → EReal) (s : Fin 64) (k : Fin 128) :
    k0_pay7 (F := Ideal) x4 x1 (ix2 s k) = fade (x4 (ix2 0 k)) (x1 (ix3 0 s k)) := by
  unfold k0_pay7
  pointwise []
  rfl

/-- The first four rows are those of the sequence. -/
theorem maskP (s : Fin 64) (k : Fin 128) : k0_pay9 (ix2 s k) = if s.val < 4 then 1#1 else 0#1 := by
  unfold k0_pay9
  pointwise []
  revert s
  decide +kernel

/-- The payload of the logarithms: zero on the padding. -/
theorem logP (x1 : S1x64x128.Idx → EReal) (x4 : S1x128.Idx → EReal) (s : Fin 64) (k : Fin 128) :
    k0_pay10 (F := Ideal) x4 x1 (ix2 s k) = if s.val < 4 then Ideal.log (fade (x4 (ix2 0 k)) (x1 (ix3 0 s k))) else 0 := by
  unfold k0_pay10
  pointwise []
  rw [gateP, maskP]
  split <;> rfl

/-- The payload of the keys: zero on the padding. -/
theorem keyP (x1 : S1x64x128.Idx → EReal) (x4 : S1x128.Idx → EReal) (s : Fin 64) (k : Fin 128) :
    k0_pay12 (F := Ideal) (k0_pay8 x4 x1) k0_pay9 k0_pay11 (ix2 s k) = if s.val < 4 then 1 - fade (x4 (ix2 0 k)) (x1 (ix3 0 s k)) else 0 := by
  unfold k0_pay12 k0_pay8 k0_pay11
  pointwise []
  rw [gateP, maskP]
  split <;> rfl

/-- The payload of the running sums: the logarithms' two parts, summed apart. -/
theorem sumsP (L : S64x128.Idx → EReal) (x7 : S448x64.Idx → EReal) (s : Fin 64) (k : Fin 128) :
    k0_pay14 (F := Ideal) L x7 x7 (ix2 s k) = (∑ j : Fin 64, x7 (ix2 ⟨s.val, by omega⟩ j) * L (ix2 j k))
      + ∑ j : Fin 64, x7 (ix2 ⟨s.val, by omega⟩ j) * (L (ix2 j k) - L (ix2 j k)) := by
  unfold k0_pay14 k0_pay13
  pointwise []

/-- The payload of the state after the rows. -/
theorem stateP (K B : S64x128.Idx → EReal) (x2 : S1x64x128.Idx → EReal) (x6 : S1x1x128x128.Idx → EReal) (k v : Fin 128) :
    k0_pay3 (F := Ideal) (k0_pay2 (F := Ideal) (k0_pay21 (F := Ideal) K B (k0_pay18 B) x2 (k0_pay4 (F := Ideal) x6))) (ix4 0 0 k v)
      = Ideal.exp (B (ix2 63 k)) * x6 (ix4 0 0 k v) + ∑ s : Fin 64, x2 (ix3 0 s v) * (K (ix2 s k) * Ideal.exp (B (ix2 63 k) - B (ix2 s k))) := by
  unfold k0_pay3 k0_pay2 k0_pay21 k0_pay18 k0_pay20 k0_pay4
  pointwise []

end Cert.RecurIdeal.Value

end
-- ==== Proof.RecurSum.lean ====
/- The running sums of the plain recurrence, and the arithmetic of its decays. -/
module

public import proofs.«01_k».proof.Proof.Gen.StateIdeal.Read
public import proofs.«01_k».proof.Proof.RecurPay
public import Idealize.ShloMosaic.Lib.Pointwise

@[expose] public section

set_option maxRecDepth 16384

noncomputable section

namespace Cert.RecurIdeal.Value

open Idealize.ShloMosaic Idealize.ShloMosaic.TcCoe Idealize.SL.Sem

/-- The window of the running sum. -/
def wind : Shape := ⟨4, ![1, 4, 1, 1]⟩

/-- The window's positions differ in the second coordinate only. -/
theorem wind_at : ∀ (n : Fin wind.numel) (a : Fin 4), ((wind.rowMajor.symm n) a).val = if a = 1 then n.val else 0 := by
  decide +kernel

open Cert.StateIdeal Cert.StateIdeal.Gen in
/-- The running sum over the rows of a sequence. -/
theorem running (x : S8x4x16x128.Idx → EReal) (z : S_.Idx → EReal) (hz : ∀ i, z i = 0) (b : Fin 8) (s : Fin 4) (h : Fin 16) (k : Fin 128) :
    Host.reduceWindowAdd (F := Ideal) (φ := .f32) ![1, 4, 1, 1] ![1, 1, 1, 1] ![0, 3, 0, 0] ![0, 0, 0, 0] x z
      reduceWindows_S8x4x16x128_S8x4x16x128_w1s1p0_0_w4s1p3_0_w1s1p0_0_w1s1p0_0 h_S_ (ix4 b s h k)
      = ∑ j : Fin 4, if j.val ≤ s.val then x (ix4 b j h k) else 0 := by
  unfold Host.reduceWindowAdd
  rw [Ideal.hostReduceWindowAdd_def]
  unfold Ideal.hostReduceWindowAdd Host.reduceWindow
  dsimp only
  rw [hz]
  refine (List.foldl_ext _ (fun (r : EReal) (n : Fin wind.numel) => r + if 3 ≤ s.val + n.val then x (ix4 b (Fin.ofNat 4 (s.val + n.val - 3)) h k) else 0)
    _ fun r n _ => congrArg (r + ·) ?_).trans ?_
  · have hn : n.val < 4 := n.isLt
    have w0 := wind_at n 0
    have w1 := wind_at n 1
    have w2 := wind_at n 2
    have w3 := wind_at n 3
    rw [if_neg (by decide)] at w0 w2 w3
    rw [if_pos rfl] at w1
    by_cases hs : 3 ≤ s.val + n.val
    · rw [if_pos hs]
      refine (dif_pos ?_).trans (congrArg x ?_)
      · intro a; match a with
        | ⟨0, _⟩ => show 0 ≤ b.val * 1 + (wind.rowMajor.symm n (0 : Fin 4)).val ∧ b.val * 1 + (wind.rowMajor.symm n (0 : Fin 4)).val - 0 < 8; omega
        | ⟨1, _⟩ => show 3 ≤ s.val * 1 + (wind.rowMajor.symm n (1 : Fin 4)).val ∧ s.val * 1 + (wind.rowMajor.symm n (1 : Fin 4)).val - 3 < 4; omega
        | ⟨2, _⟩ => show 0 ≤ h.val * 1 + (wind.rowMajor.symm n (2 : Fin 4)).val ∧ h.val * 1 + (wind.rowMajor.symm n (2 : Fin 4)).val - 0 < 16; omega
        | ⟨3, _⟩ => show 0 ≤ k.val * 1 + (wind.rowMajor.symm n (3 : Fin 4)).val ∧ k.val * 1 + (wind.rowMajor.symm n (3 : Fin 4)).val - 0 < 128; omega
      · funext a; apply Fin.ext; match a with
        | ⟨0, _⟩ => show b.val * 1 + (wind.rowMajor.symm n (0 : Fin 4)).val - 0 = b.val; omega
        | ⟨1, _⟩ => show s.val * 1 + (wind.rowMajor.symm n (1 : Fin 4)).val - 3 = (s.val + n.val - 3) % 4; omega
        | ⟨2, _⟩ => show h.val * 1 + (wind.rowMajor.symm n (2 : Fin 4)).val - 0 = h.val; omega
        | ⟨3, _⟩ => show k.val * 1 + (wind.rowMajor.symm n (3 : Fin 4)).val - 0 = k.val; omega
    · rw [if_neg hs]
      refine dif_neg fun hin => hs ?_
      have h1 : 3 ≤ s.val * 1 + (wind.rowMajor.symm n (1 : Fin 4)).val := (hin 1).1
      omega
  · rw [Fin.sum_univ_four]
    show 0 + (if 3 ≤ s.val + 0 then x (ix4 b (Fin.ofNat 4 (s.val + 0 - 3)) h k) else 0) + (if 3 ≤ s.val + 1 then x (ix4 b (Fin.ofNat 4 (s.val + 1 - 3)) h k) else 0)
      + (if 3 ≤ s.val + 2 then x (ix4 b (Fin.ofNat 4 (s.val + 2 - 3)) h k) else 0) + (if 3 ≤ s.val + 3 then x (ix4 b (Fin.ofNat 4 (s.val + 3 - 3)) h k) else 0) = _
    match s with
    | ⟨0, _⟩ => simp
    | ⟨1, _⟩ => simp; rfl
    | ⟨2, _⟩ => simp; rfl
    | ⟨3, _⟩ => simp; rfl

/-- A sigmoid is a real number. -/
theorem sigmoid (x : EReal) : ∃ r : ℝ, Ideal.div 1 (1 + Ideal.exp x) = r := by
  induction x with
  | bot => exact ⟨1, by rw [show Ideal.exp ⊥ = 0 from rfl]; simp [Ideal.div]⟩
  | top => exact ⟨0, by rw [show Ideal.exp ⊤ = ⊤ from rfl, show (1 : EReal) + ⊤ = ⊤ from EReal.add_top_of_ne_bot (EReal.coe_ne_bot 1)]; simp [Ideal.div]⟩
  | coe a =>
    refine ⟨(1 + Real.exp a)⁻¹, ?_⟩
    have h : (1 : EReal) + Ideal.exp (a : EReal) = ((1 + Real.exp a : ℝ) : EReal) := by
      rw [show Ideal.exp (a : EReal) = (Real.exp a : EReal) from rfl]
      push_cast
      rfl
    have hp : (0 : ℝ) < 1 + Real.exp a := by positivity
    rw [h]
    unfold Ideal.div
    rw [if_neg (by exact_mod_cast hp.ne')]
    rw [one_mul, EReal.coe_inv]

/-- A decay is below `+∞` where its lower bound is. -/
theorem fade_ne_top (l x : EReal) (hl : l ≠ ⊤) : fade l x ≠ ⊤ := by
  unfold fade
  obtain ⟨r, e⟩ := sigmoid (0 - x)
  rw [e]
  induction l with
  | bot => simp
  | top => exact absurd rfl hl
  | coe a =>
    have h : (a : EReal) + (1 - (a : EReal)) * (r : EReal) = ((a + (1 - a) * r : ℝ) : EReal) := by push_cast; rfl
    rw [h]
    exact EReal.coe_ne_top _

/-- A logarithm below `+∞`. -/
theorem log_ne_top (x : EReal) (hx : x ≠ ⊤) : Ideal.log x ≠ ⊤ := by
  induction x with
  | bot => exact bot_ne_top
  | top => exact absurd rfl hx
  | coe a =>
    show (if a ≤ 0 then ⊥ else (Real.log a : EReal)) ≠ ⊤
    split <;> simp

/-- The rounding's remainder of a number below `+∞` adds nothing. -/
theorem add_rest (a : EReal) (ha : a ≠ ⊤) : a + (a - a) = a := by
  induction a with
  | bot => simp
  | top => exact absurd rfl ha
  | coe r => norm_cast; simp

/-- A sum over the padded rows is the sum over the four rows. -/
theorem cut (f : Fin 64 → EReal) (h : ∀ j, 4 ≤ j.val → f j = 0) : ∑ j, f j = ∑ j : Fin 4, f ⟨j.val, by omega⟩ := by
  refine (Fin.sum_univ_add (a := 4) (b := 60) f).trans ?_
  rw [Finset.sum_eq_zero (s := Finset.univ) (f := fun i : Fin 60 => f (Fin.natAdd 4 i)) fun i _ => h _ (by simp), add_zero]
  rfl

/-- The running sum of the padded logarithms, with its rounding's remainder. -/
theorem sums (M L : Fin 64 → EReal) (l : Fin 4 → EReal) (s : Nat) (hM : ∀ j, M j = if j.val ≤ s then 1 else 0)
    (hL : ∀ j : Fin 4, L ⟨j.val, by omega⟩ = l j) (hZ : ∀ j, 4 ≤ j.val → L j = 0) (hl : ∀ j, l j ≠ ⊤) :
    (∑ j, M j * L j) + ∑ j, M j * (L j - L j) = ∑ j : Fin 4, if j.val ≤ s then l j else 0 := by
  rw [← Finset.sum_add_distrib]
  rw [cut _ fun j hj => by rw [hZ j hj]; simp]
  refine Finset.sum_congr rfl fun j _ => ?_
  rw [hM, hL]
  show (if j.val ≤ s then (1 : EReal) else 0) * l j + (if j.val ≤ s then (1 : EReal) else 0) * (l j - l j) = _
  split
  · rw [one_mul, one_mul, add_rest _ (hl j)]
  · rw [zero_mul, zero_mul, add_zero]

end Cert.RecurIdeal.Value

end
-- ==== Proof.RecurTile.lean ====
/- The state after the rows, read off the arguments. -/
module

public import proofs.«01_k».proof.Proof.RecurBlock
public import proofs.«01_k».proof.Proof.RecurSum

@[expose] public section

set_option maxRecDepth 16384

noncomputable section

namespace Cert.RecurIdeal.Value

open Cert.RecurIdeal Cert.RecurIdeal.Gen Idealize.ShloMosaic Idealize.ShloMosaic.TcCoe Idealize.SL.Sem

/-- A head's state after the four rows, from the decays `f`, the inputs `x` and the state `a` before them. -/
def after4 (f : Fin 4 → EReal) (x : Fin 4 → EReal) (a : EReal) : EReal :=
  Ideal.exp (∑ j : Fin 4, Ideal.log (f j)) * a
    + ∑ s : Fin 4, (1 - f s) * Ideal.exp ((∑ j : Fin 4, Ideal.log (f j)) - ∑ j : Fin 4, if j.val ≤ s.val then Ideal.log (f j) else 0) * x s

open Cert.StateIdeal Cert.StateIdeal.Read Cert.StateIdeal.Gen in
/-- The plain decay of a row and channel. -/
theorem decay (x0 : S32x8192.Idx → EReal) (x1 : S2048.Idx → EReal) (b : Fin 8) (s : Fin 4) (C : Fin 2048)
    (R : Fin 32) (hR : R.val = 4 * b.val + s.val) (D : Fin 8192) (hD : D.val = 2048 + C.val) :
    val_main_v18 (F := Ideal) x0 x1 (ix3 b s C) = fade (x1 (ix1 C)) (x0 (ix2 R D)) := by
  rw [val_main_v18_apply, val_main_v17_apply, val_main_v16_apply, val_main_v15_apply, val_main_v14_apply, val_main_v13_apply,
    val_main_v6_apply, val_main_v5_apply, val_main_cst_apply, val_main_v12_apply, val_main_v11_apply, val_main_cst_1_apply,
    val_main_v10_apply, val_main_v9_apply, val_main_cst_0_apply, val_main_v8_apply, val_main_v7_apply, val_main_v2_apply, val_main_v0_apply]
  have e1 : idx_main_v16 (idx_main_v17 (ix3 b s C)) = ix1 C := by
    funext a; match a with | ⟨0, _⟩ => rfl
  have e2 : idx_main_v13 (idx_main_v14 (ix3 b s C)) = ix1 C := by
    funext a; match a with | ⟨0, _⟩ => rfl
  have e3 : idx_main_v0 (idx_main_v2 (ix3 b s C)) = ix2 R D := by
    funext a; apply Fin.ext; match a with
    | ⟨0, _⟩ => show ((b.val * 4 + s.val) * 8192 + (2048 + C.val)) / 8192 = R.val; omega
    | ⟨1, _⟩ => show ((b.val * 4 + s.val) * 8192 + (2048 + C.val)) % 8192 = D.val; omega
  rw [e1, e2, e3]
  unfold fade
  pointwise []
  simp

open Cert.StateIdeal Cert.StateIdeal.Read Cert.StateIdeal.Gen in
/-- The plain running sum of the logarithms. -/
theorem logs (x0 : S32x8192.Idx → EReal) (x1 : S2048.Idx → EReal) (b : Fin 8) (s : Fin 4) (h : Fin 16) (k : Fin 128)
    (C : Fin 2048) (hC : C.val = 128 * h.val + k.val) :
    val_main_v21 (F := Ideal) x0 x1 (ix4 b s h k)
      = ∑ j : Fin 4, if j.val ≤ s.val then Ideal.log (val_main_v18 (F := Ideal) x0 x1 (ix3 b j C)) else 0 := by
  unfold val_main_v21
  refine (running _ _ (fun i => ?_) b s h k).trans (Finset.sum_congr rfl fun j _ => ?_)
  · rw [val_main_call0_call0_v0_apply, val_main_call0_call0_cst_apply]
    pointwise []
  · have e : idx_main_v20 (ix4 b j h k) = ix3 b j C := by
      funext a; apply Fin.ext; match a with
      | ⟨0, _⟩ => show (((b.val * 4 + j.val) * 16 + h.val) * 128 + k.val) / 8192 = b.val; omega
      | ⟨1, _⟩ => show (((b.val * 4 + j.val) * 16 + h.val) * 128 + k.val) / 2048 % 4 = j.val; omega
      | ⟨2, _⟩ => show (((b.val * 4 + j.val) * 16 + h.val) * 128 + k.val) % 2048 = C.val; omega
    rw [val_main_v20_apply, e, val_main_v19_apply]
    rfl

open Cert.StateIdeal Cert.StateIdeal.Read Cert.StateIdeal.Gen in
/-- The plain state after the rows. -/
theorem plain (x0 : S32x8192.Idx → EReal) (x1 : S2048.Idx → EReal) (x3 : S8x16x128x128.Idx → EReal) (b : Fin 8) (h : Fin 16) (k v : Fin 128)
    (C D : Fin 2048) (hC : C.val = 128 * h.val + k.val) (hD : D.val = 128 * h.val + v.val)
    (f : Fin 4 → EReal) (hf : ∀ s, val_main_v18 (F := Ideal) x0 x1 (ix3 b s C) = f s)
    (x : Fin 4 → EReal) (hx : ∀ s, val_main_v3 (F := Ideal) x0 (ix3 b s D) = x s) :
    val_main_v37 (F := Ideal) x0 x1 x3 (ix4 b h k v) = after4 f x (x3 (ix4 b h k v)) := by
  have l : ∀ s : Fin 4, val_main_v21 (F := Ideal) x0 x1 (ix4 b s h k) = ∑ j : Fin 4, if j.val ≤ s.val then Ideal.log (f j) else 0 := fun s => by
    rw [logs x0 x1 b s h k C hC]
    exact Finset.sum_congr rfl fun j _ => by rw [hf]
  have l3 : val_main_v22 (F := Ideal) x0 x1 (ix4 b 0 h k) = ∑ j : Fin 4, Ideal.log (f j) := by
    rw [val_main_v22_apply]
    have e : idx_main_v22 (ix4 b 0 h k) = ix4 b 3 h k := by
      funext a; apply Fin.ext; match a with
      | ⟨0, _⟩ => rfl
      | ⟨1, _⟩ => rfl
      | ⟨2, _⟩ => rfl
      | ⟨3, _⟩ => rfl
    rw [e, l]
    exact Finset.sum_congr rfl fun j _ => if_pos (by have := j.isLt; show j.val ≤ 3; omega)
  rw [val_main_v37_apply, val_main_v27_apply, val_main_v26_apply, val_main_v25_apply, val_main_v24_apply, val_main_v23_apply, val_main_v36_apply]
  have e : idx_main_v23 (idx_main_v25 (idx_main_v26 (ix4 b h k v))) = ix4 b 0 h k := by
    funext a; apply Fin.ext; match a with
    | ⟨0, _⟩ => show ((b.val * 16 + h.val) * 128 + k.val) / 2048 = b.val; omega
    | ⟨1, _⟩ => rfl
    | ⟨2, _⟩ => show ((b.val * 16 + h.val) * 128 + k.val) / 128 % 16 = h.val; omega
    | ⟨3, _⟩ => show ((b.val * 16 + h.val) * 128 + k.val) % 128 = k.val; omega
  rw [e, l3]
  unfold after4
  refine congrArg (Ideal.exp (∑ j : Fin 4, Ideal.log (f j)) * x3 (ix4 b h k v) + ·) (Finset.sum_congr rfl fun s _ => ?_)
  have el : lidx_main_v36 (ix4 b h k v) s = ix4 b s h k := by
    funext a; apply Fin.ext; match a with
    | ⟨0, _⟩ => rfl
    | ⟨1, _⟩ => rfl
    | ⟨2, _⟩ => rfl
    | ⟨3, _⟩ => rfl
  have er : ridx_main_v36 (ix4 b h k v) s = ix4 b s h v := by
    funext a; apply Fin.ext; match a with
    | ⟨0, _⟩ => rfl
    | ⟨1, _⟩ => rfl
    | ⟨2, _⟩ => rfl
    | ⟨3, _⟩ => rfl
  have e30 : idx_main_v30 (ix4 b s h k) = ix3 b s C := by
    funext a; apply Fin.ext; match a with
    | ⟨0, _⟩ => show (((b.val * 4 + s.val) * 16 + h.val) * 128 + k.val) / 8192 = b.val; omega
    | ⟨1, _⟩ => show (((b.val * 4 + s.val) * 16 + h.val) * 128 + k.val) / 2048 % 4 = s.val; omega
    | ⟨2, _⟩ => show (((b.val * 4 + s.val) * 16 + h.val) * 128 + k.val) % 2048 = C.val; omega
  have e35 : idx_main_v35 (ix4 b s h v) = ix3 b s D := by
    funext a; apply Fin.ext; match a with
    | ⟨0, _⟩ => show (((b.val * 4 + s.val) * 16 + h.val) * 128 + v.val) / 8192 = b.val; omega
    | ⟨1, _⟩ => show (((b.val * 4 + s.val) * 16 + h.val) * 128 + v.val) / 2048 % 4 = s.val; omega
    | ⟨2, _⟩ => show (((b.val * 4 + s.val) * 16 + h.val) * 128 + v.val) % 2048 = D.val; omega
  have e31 : idx_main_v31 (ix4 b s h k) = ix4 b 0 h k := by
    funext a; apply Fin.ext; match a with
    | ⟨0, _⟩ => rfl
    | ⟨1, _⟩ => rfl
    | ⟨2, _⟩ => rfl
    | ⟨3, _⟩ => rfl
  rw [el, er, val_main_v34_apply, val_main_v30_apply, e30, val_main_v29_apply, hf, val_main_v28_apply, val_main_cst_2_apply,
    val_main_v33_apply, val_main_v32_apply, val_main_v31_apply, e31, l3, l, val_main_v35_apply, e35, hx]
  pointwise []

variable (m : (ℓ : Loc nD τ sig) → Buf (Elt Ideal) ℓ)

/-- A block of the state. -/
theorem block (hb : ∀ (c : Dev nD) i, m ((c : Thread nD τ).loc main_arg1) i ≠ (⊤ : EReal)) (c : Dev nD) (t : Fin cfg0.N) (k v : Fin 128)
    (B : Fin 8) (hB : B.val = t.val / 16) (H : Fin 16) (hH : H.val = t.val % 16) (C : Fin 2048) (hC : C.val = 128 * (t.val % 16) + k.val)
    (R : Fin 4 → Fin 32) (hR : ∀ s, (R s).val = 4 * (t.val / 16) + s.val)
    (P : Fin 8192) (hP : P.val = 2048 + 128 * (t.val % 16) + k.val) (Q : Fin 8192) (hQ : Q.val = 4096 + 128 * (t.val % 16) + v.val) :
    (outsAt0 m c t).2 (ix4 0 0 k v)
      = after4 (fun s => fade (m ((c : Thread nD τ).loc main_arg1) (ix1 C)) (m ((c : Thread nD τ).loc main_arg0) (ix2 (R s) P)))
          (fun s => m ((c : Thread nD τ).loc main_arg0) (ix2 (R s) Q)) (m ((c : Thread nD τ).loc main_arg3) (ix4 B H k v)) := by
  unfold outsAt0
  dsimp only
  frame_out
  refine (stateP _ _ _ _ k v).trans ?_
  have hf : ∀ s : Fin 4, fade (iblk m c 4 t (ix2 0 k)) (iblk m c 1 t (ix3 0 ⟨s.val, by omega⟩ k))
      = fade (m ((c : Thread nD τ).loc main_arg1) (ix1 C)) (m ((c : Thread nD τ).loc main_arg0) (ix2 (R s) P)) := fun s => by
    rw [lower m c t k C hC, forget m c t s k (R s) (hR s) P hP]
  have hL : ∀ s : Fin 4, k0_pay10 (F := Ideal) (iblk m c 4 t) (iblk m c 1 t) (ix2 ⟨s.val, by omega⟩ k)
      = Ideal.log (fade (m ((c : Thread nD τ).loc main_arg1) (ix1 C)) (m ((c : Thread nD τ).loc main_arg0) (ix2 (R s) P))) := fun s => by
    rw [logP, if_pos s.isLt, hf]
  have hZ : ∀ s : Fin 64, 4 ≤ s.val → k0_pay10 (F := Ideal) (iblk m c 4 t) (iblk m c 1 t) (ix2 s k) = 0 := fun s hs => by
    rw [logP, if_neg (by omega)]
  have hS : ∀ s : Fin 64, k0_pay14 (F := Ideal) (k0_pay10 (iblk m c 4 t) (iblk m c 1 t)) (iblk m c 7 t) (iblk m c 7 t) (ix2 s k)
      = ∑ j : Fin 4, if j.val ≤ s.val then Ideal.log (fade (m ((c : Thread nD τ).loc main_arg1) (ix1 C)) (m ((c : Thread nD τ).loc main_arg0) (ix2 (R j) P))) else 0 := fun s => by
    refine (sumsP _ _ s k).trans ?_
    exact sums (fun j => iblk m c 7 t (ix2 ⟨s.val, by omega⟩ j)) (fun j => k0_pay10 (F := Ideal) (iblk m c 4 t) (iblk m c 1 t) (ix2 j k)) _ s.val
      (fun j => mats m c t s j) hL hZ fun j => log_ne_top _ (fade_ne_top _ _ (hb c _))
  have h63 : k0_pay14 (F := Ideal) (k0_pay10 (iblk m c 4 t) (iblk m c 1 t)) (iblk m c 7 t) (iblk m c 7 t) (ix2 63 k)
      = ∑ j : Fin 4, Ideal.log (fade (m ((c : Thread nD τ).loc main_arg1) (ix1 C)) (m ((c : Thread nD τ).loc main_arg0) (ix2 (R j) P))) :=
    (hS 63).trans (Finset.sum_congr rfl fun j _ => if_pos (by have := j.isLt; show j.val ≤ 63; omega))
  unfold after4
  rw [h63]
  refine congr (congrArg _ (congrArg _ (start m c t k v B hB H hH))) ?_
  refine (cut _ fun s hs => ?_).trans (Finset.sum_congr rfl fun s _ => ?_)
  · rw [keyP, if_neg (by omega), zero_mul, mul_zero]
  · rw [keyP, if_pos s.isLt, hf, hS]
    refine (congrArg (fun z : EReal => z * _) (input m c t s v (R s) (hR s) Q hQ)).trans ?_
    exact mul_comm _ _

open Cert.StateIdeal.Read in
/-- The call's second result is the plain recurrence's state after the rows. -/
theorem final (hb : ∀ (c : Dev nD) i, m ((c : Thread nD τ).loc main_arg1) i ≠ (⊤ : EReal)) (c : Dev nD) : (dats m 0 c).arrAt 10 cfg0.N
    = val_main_v37 (F := Ideal) (m ((c : Thread nD τ).loc main_arg0)) (m ((c : Thread nD τ).loc main_arg1)) (m ((c : Thread nD τ).loc main_arg3)) := by
  refine (dats m 0 c).arrAt_eq_of_covers 10 _ (by decide +kernel) fun t hf y => ?_
  obtain ⟨-, -, -, -, -, e10⟩ := idx t
  blk_simp
  rw [after0_10]
  have ht : t.val < 128 := t.isLt
  have hy0 : (y 0).val < 1 := (y 0).isLt
  have hy1 : (y 1).val < 1 := (y 1).isLt
  have hy2 : (y 2).val < 128 := (y 2).isLt
  have hy3 : (y 3).val < 128 := (y 3).isLt
  have ey : y = ix4 0 0 (y 2) (y 3) := by
    funext a; apply Fin.ext; match a with
    | ⟨0, _⟩ => show (y 0).val = 0; omega
    | ⟨1, _⟩ => show (y 1).val = 0; omega
    | ⟨2, _⟩ => rfl
    | ⟨3, _⟩ => rfl
  refine (congrArg _ ey).trans ((block m hb c t (y 2) (y 3) ⟨t.val / 16, by omega⟩ rfl ⟨t.val % 16, by omega⟩ rfl ⟨128 * (t.val % 16) + (y 2).val, by omega⟩ rfl
    (fun s => ⟨4 * (t.val / 16) + s.val, by omega⟩) (fun _ => rfl) ⟨2048 + 128 * (t.val % 16) + (y 2).val, by omega⟩ rfl
    ⟨4096 + 128 * (t.val % 16) + (y 3).val, by omega⟩ rfl).trans ?_)
  refine (plain _ _ _ ⟨t.val / 16, by omega⟩ ⟨t.val % 16, by omega⟩ (y 2) (y 3) ⟨128 * (t.val % 16) + (y 2).val, by omega⟩
    ⟨128 * (t.val % 16) + (y 3).val, by omega⟩ rfl rfl _ (fun s => decay _ _ _ s _ ⟨4 * (t.val / 16) + s.val, by omega⟩ rfl
      ⟨2048 + 128 * (t.val % 16) + (y 2).val, by omega⟩ (by show 2048 + 128 * (t.val % 16) + (y 2).val = 2048 + (128 * (t.val % 16) + (y 2).val); omega)) _ (fun s => ?_)).symm.trans (congrArg _ ?_)
  · rw [val_main_v3_apply, val_main_v0_apply]
    refine congrArg (m ((c : Thread nD τ).loc main_arg0)) ?_
    funext a; apply Fin.ext; match a with
    | ⟨0, _⟩ => show ((t.val / 16 * 4 + s.val) * 8192 + (4096 + (128 * (t.val % 16) + (y 3).val))) / 8192 = 4 * (t.val / 16) + s.val; omega
    | ⟨1, _⟩ => show ((t.val / 16 * 4 + s.val) * 8192 + (4096 + (128 * (t.val % 16) + (y 3).val))) % 8192 = 4096 + 128 * (t.val % 16) + (y 3).val; omega
  · blk_ext [e10]

end Cert.RecurIdeal.Value

end
-- ==== Proof.PromptTable.lean ====
/- The first 64 rows of the prompt group's constant matrix are the lower triangle. -/
module

public import proofs.«01_k».proof.RecurPromptIdeal

@[expose] public section

set_option maxRecDepth 16384

noncomputable section

namespace Cert.RecurPromptIdeal.Value

open Cert.RecurPromptIdeal

/-- Entry `i` of the table, row-major, is one (as a bfloat16 word) if its column is at most its row, and zero otherwise. -/
abbrev lowAt (i : ℕ) : Bool := Nat.beq (lit0t i).toNat (bif Nat.ble (i % 64) (i / 64) then 16256 else 0)

/-- So are the first 4096 entries. -/
theorem low : ((List.range 4096).all fun i => lowAt i) = true := by decide +kernel

/-- An entry of the first 64 rows: one on and below the diagonal, zero above it. -/
theorem lit_low (i : ℕ) (hi : i < 4096) : lit0t i = if i % 64 ≤ i / 64 then 0x3F80#16 else 0#16 := by
  have h := Nat.eq_of_beq_eq_true (List.all_eq_true.1 low i (List.mem_range.2 hi))
  apply BitVec.eq_of_toNat_eq
  rw [h]
  by_cases hc : i % 64 ≤ i / 64
  · rw [Nat.ble_eq_true_of_le hc, if_pos hc]; rfl
  · rw [show Nat.ble (i % 64) (i / 64) = false from Bool.eq_false_iff.2 fun h => hc (Nat.le_of_ble_eq_true h), if_neg hc]; rfl

/-- The table as a function of the index's value. -/
theorem lit_eq (j : Fin 28672) : lit0 j = lit0t j.val := by cases j; rfl

end Cert.RecurPromptIdeal.Value

end
-- ==== Proof.PromptBlock.lean ====
/- The blocks that the prompt group's grid points stage, read off the arguments. -/
module

public import proofs.«01_k».proof.Proof.Gen.RecurPromptIdeal.Value
public import proofs.«01_k».proof.Proof.PromptTable
public import Idealize.ShloMosaic.Lib.Pointwise
public import Idealize.ShloMosaic.Lib.Pipeline.ValueKit
public import Idealize.ShloMosaic.Lib.StableHlo.ReadAt

@[expose] public section

set_option maxRecDepth 16384

noncomputable section

namespace Cert.RecurPromptIdeal.Value

open Cert.RecurPromptIdeal Cert.RecurPromptIdeal.Gen Idealize.ShloMosaic Idealize.ShloMosaic.TcCoe Idealize.SL.Sem

variable (m : (ℓ : Loc nD τ sig) → Buf (Elt Ideal) ℓ)

/-- The blocks that a grid point's windows stage. -/
theorem idx : ∀ t : Fin cfg0.N, win0_1.index t = ![t.val / 64, t.val % 4, 16 + t.val / 4 % 16] ∧ win0_2.index t = ![t.val / 64, t.val % 4, 32 + t.val / 4 % 16]
    ∧ win0_4.index t = ![0, t.val / 4 % 16] ∧ win0_6.index t = ![t.val / 64, t.val / 4 % 16, 0, 0] ∧ win0_7.index t = ![0, 0]
    ∧ win0_10.index t = ![t.val / 64, t.val / 4 % 16, 0, 0] := by decide +kernel

/-- The region's first operand: the rows by sequence. -/
theorem v0_at (c : Dev nD) (b : Fin 4) (r : Fin 2048) (C R : Fin 8192) (hR : R.val = 2048 * b.val + r.val) :
    V m c main_v0 (ix3 b r C) = m ((c : Thread nD τ).loc main_arg0) (ix2 R C) := by
  have e : V m c main_v0 = (shapeCast S4x2048x8192 (m (c.tc.loc main_arg0)) shapeCasts_S8192x8192_S4x2048x8192 : S4x2048x8192.Idx → EReal) := by
    unfold V
    simp only [hostOps0]
    after_reads_simp
    all_goals rfl
  rw [e]
  refine shapeCast_apply _ _ _ (ix2 R C) ?_
  rw [Shape.rowMajor_val_two, Shape.rowMajor_val_three]
  show R.val * 8192 + C.val = (b.val * 2048 + r.val) * 8192 + C.val
  omega

/-- The staged forget gates of a head. -/
theorem forget (c : Dev nD) (t : Fin cfg0.N) (s : Fin 512) (k : Fin 128) (R : Fin 8192) (hR : R.val = 2048 * (t.val / 64) + 512 * (t.val % 4) + s.val)
    (C : Fin 8192) (hC : C.val = 2048 + 128 * (t.val / 4 % 16) + k.val) :
    iblk m c 1 t (ix3 0 s k) = m ((c : Thread nD τ).loc main_arg0) (ix2 R C) := by
  obtain ⟨e1, e2, e4, e6, e7, e10⟩ := idx t
  have ht : t.val < 256 := t.isLt
  refine Eq.trans ?_ (v0_at m c ⟨t.val / 64, by omega⟩ ⟨512 * (t.val % 4) + s.val, by omega⟩ C R (by show R.val = 2048 * (t.val / 64) + (512 * (t.val % 4) + s.val); omega))
  blk_simp [iblk, e1]
  blk_ext [e1]

/-- The staged inputs of a head. -/
theorem input (c : Dev nD) (t : Fin cfg0.N) (s : Fin 512) (k : Fin 128) (R : Fin 8192) (hR : R.val = 2048 * (t.val / 64) + 512 * (t.val % 4) + s.val)
    (C : Fin 8192) (hC : C.val = 4096 + 128 * (t.val / 4 % 16) + k.val) :
    iblk m c 2 t (ix3 0 s k) = m ((c : Thread nD τ).loc main_arg0) (ix2 R C) := by
  obtain ⟨e1, e2, e4, e6, e7, e10⟩ := idx t
  have ht : t.val < 256 := t.isLt
  refine Eq.trans ?_ (v0_at m c ⟨t.val / 64, by omega⟩ ⟨512 * (t.val % 4) + s.val, by omega⟩ C R (by show R.val = 2048 * (t.val / 64) + (512 * (t.val % 4) + s.val); omega))
  blk_simp [iblk, e2]
  blk_ext [e2]

/-- The staged lower bounds of a head. -/
theorem lower (c : Dev nD) (t : Fin cfg0.N) (k : Fin 128)
    (C : Fin 2048) (hC : C.val = 128 * (t.val / 4 % 16) + k.val) :
    iblk m c 4 t (ix2 0 k) = m ((c : Thread nD τ).loc main_arg1) (ix1 C) := by
  obtain ⟨e1, e2, e4, e6, e7, e10⟩ := idx t
  blk_simp [iblk, V, e4]
  entry_read
  refine (shapeCast_apply _ shapeCasts_S2048_S1x2048 _ (ix1 C) ?_)
  rw [Shape.rowMajor_val_one, Shape.rowMajor_val_two]
  have h0 : win0_4.index t 0 = 0 := by rw [e4]; rfl
  have h1 : win0_4.index t 1 = t.val / 4 % 16 := by rw [e4]; rfl
  show C.val = (win0_4.index t 0 * 1 + 1 * 0) * 2048 + (win0_4.index t 1 * 128 + 1 * k.val)
  omega

/-- The staged state that a head starts from. -/
theorem start (c : Dev nD) (t : Fin cfg0.N) (k v : Fin 128) (B : Fin 4) (hB : B.val = t.val / 64) (H : Fin 16) (hH : H.val = t.val / 4 % 16) :
    iblk m c 6 t (ix4 0 0 k v) = m ((c : Thread nD τ).loc main_arg3) (ix4 B H k v) := by
  obtain ⟨e1, e2, e4, e6, e7, e10⟩ := idx t
  blk_simp [iblk, V, e6]
  blk_ext [e6]

/-- The staged table of the running sums: ones on and below the diagonal. -/
theorem mats (c : Dev nD) (t : Fin cfg0.N) (s j : Fin 64) :
    iblk m c 7 t (ix2 ⟨s.val, by omega⟩ j) = if j.val ≤ s.val then (1 : EReal) else 0 := by
  obtain ⟨e1, e2, e4, e6, e7, e10⟩ := idx t
  blk_simp [iblk, V, e7]
  entry_read
  have e : ((View.whole main_cst).slice (win0_7.rect t)).emb (ix2 ⟨s.val, by omega⟩ j) = ix2 ⟨s.val, by omega⟩ j := by blk_ext [e7]
  rw [e]
  refine (congrArg (Ideal.ofBits .bf16) (lit_eq (S448x64.rowMajor (ix2 ⟨s.val, by omega⟩ j)))).trans ?_
  rw [Shape.rowMajor_val_two]
  refine (congrArg (fun n => Ideal.ofBits .bf16 (lit0t n)) (show _ = s.val * 64 + j.val from rfl)).trans ?_
  show Ideal.ofBits .bf16 (lit0t (s.val * 64 + j.val)) = _
  rw [lit_low _ (by omega), show (s.val * 64 + j.val) % 64 = j.val by omega, show (s.val * 64 + j.val) / 64 = s.val by omega]
  split
  · show FloatOps.ofBits (F := Ideal) .bf16 0x3F80#16 = 1
    pointwise []
  · show FloatOps.ofBits (F := Ideal) .bf16 0#16 = 0
    pointwise []

end Cert.RecurPromptIdeal.Value

end
-- ==== Proof.PromptPay.lean ====
/- The prompt group's recurrence: the payloads of its chunks, entry by entry. -/
module

public import proofs.«01_k».proof.Proof.Gen.RecurPromptIdeal.Value
public import proofs.«01_k».proof.Proof.RecurSum
public import Idealize.ShloMosaic.Lib.Pointwise
public import Idealize.ShloMosaic.Lib.Pipeline.ValueKit

@[expose] public section

set_option maxRecDepth 16384

noncomputable section

namespace Cert.RecurPromptIdeal.Value

open Cert.RecurPromptIdeal Cert.RecurPromptIdeal.Gen Idealize.ShloMosaic Idealize.ShloMosaic.TcCoe Idealize.SL.Sem
open Cert.RecurIdeal.Value (fade)

/-- The logarithm of a row's decay. -/
def lg (l : S1x128.Idx → EReal) (x : S1x64x128.Idx → EReal) (k : Fin 128) (j : Fin 64) : EReal :=
  Ideal.log (fade (l (ix2 0 k)) (x (ix3 0 j k)))

/-- The running sum that the kernel forms: the logarithms' two parts, summed apart. -/
def row (l : S1x128.Idx → EReal) (M : S448x64.Idx → EReal) (x : S1x64x128.Idx → EReal) (k : Fin 128) (s : Fin 64) : EReal :=
  (∑ j : Fin 64, M (ix2 ⟨s.val, by omega⟩ j) * lg l x k j) + ∑ j : Fin 64, M (ix2 ⟨s.val, by omega⟩ j) * (lg l x k j - lg l x k j)

/-- The transposed state after a chunk. -/
def chunk (l : S1x128.Idx → EReal) (M : S448x64.Idx → EReal) (x y : S1x64x128.Idx → EReal) (St : S128x128.Idx → EReal) : S128x128.Idx → EReal :=
  fun i => Ideal.exp (row l M x (i 1) 63) * St i
    + ∑ s : Fin 64, y (ix3 0 s (i 0)) * ((1 - fade (l (ix2 0 (i 1))) (x (ix3 0 s (i 1)))) * Ideal.exp (row l M x (i 1) 63 - row l M x (i 1) s))

/-- An index by its two coordinates. -/
theorem ix_eta (i : S128x128.Idx) : i = ix2 (i 0) (i 1) := by
  funext a; match a with
  | ⟨0, _⟩ => rfl
  | ⟨1, _⟩ => rfl

variable (l : S1x128.Idx → EReal) (M : S448x64.Idx → EReal) (x y x' y' : S1x64x128.Idx → EReal) (St : S128x128.Idx → EReal)

/-- The first chunk of a block. -/
theorem chunk0 : k0_pay137 (F := Ideal) (k0_pay20 y) (k0_pay21 (k0_pay9 l x) (k0_pay14 (k0_pay11 l x) (k0_pay12 l x M) M)) (k0_pay22 (k0_pay17 (k0_pay14 (k0_pay11 l x) (k0_pay12 l x M) M))) St = chunk l M x y St := by
  funext i
  rw [ix_eta i]
  generalize i 0 = v
  generalize i 1 = k
  unfold k0_pay22 k0_pay12 k0_pay11 k0_pay10 k0_pay8 k0_pay14 k0_pay13 k0_pay9 k0_pay7 k0_pay4 k0_pay21 k0_pay17 k0_pay20 k0_pay137 chunk
  pointwise []
  rfl

/-- The second chunk of a block. -/
theorem chunk1 : k0_pay140 (F := Ideal) (k0_pay35 y) (k0_pay36 (k0_pay25 (k0_pay4 l) x) (k0_pay27 (k0_pay4 l) x M M)) (k0_pay37 (k0_pay27 (k0_pay4 l) x M M)) St = chunk l M x y St := by
  funext i
  rw [ix_eta i]
  generalize i 0 = v
  generalize i 1 = k
  unfold k0_pay37 k0_pay27 k0_pay26 k0_pay4 k0_pay25 k0_pay24 k0_pay36 k0_pay32 k0_pay35 k0_pay140 chunk
  pointwise []
  rfl

/-- The third and the fourth chunk of a block. -/
theorem chunk23 : k0_pay146 (F := Ideal) (k0_pay53 y) (k0_pay54 (k0_pay43 (k0_pay4 l) (k0_pay39 (k0_pay4 l)) (k0_pay40 x) k0_pay41) (k0_pay45 (k0_pay4 l) (k0_pay39 (k0_pay4 l)) (k0_pay40 x) k0_pay41 M M)) (k0_pay55 (k0_pay45 (k0_pay4 l) (k0_pay39 (k0_pay4 l)) (k0_pay40 x) k0_pay41 M M)) (k0_pay68 y') (k0_pay69 (k0_pay59 (k0_pay4 l) x') (k0_pay61 (k0_pay58 (k0_pay4 l) x') M M) (k0_pay65 (k0_pay61 (k0_pay58 (k0_pay4 l) x') M M))) (k0_pay70 (k0_pay65 (k0_pay61 (k0_pay58 (k0_pay4 l) x') M M))) St = chunk l M x' y' (chunk l M x y St) := by
  funext i
  rw [ix_eta i]
  generalize i 0 = v
  generalize i 1 = k
  unfold k0_pay70 k0_pay65 k0_pay58 k0_pay61 k0_pay60 k0_pay59 k0_pay57 k0_pay69 k0_pay68 k0_pay55 k0_pay45 k0_pay44 k0_pay41 k0_pay40 k0_pay39 k0_pay4 k0_pay43 k0_pay42 k0_pay54 k0_pay50 k0_pay53 k0_pay146 k0_pay143 chunk
  pointwise []
  rfl

/-- The fifth chunk of a block. -/
theorem chunk4 : k0_pay150 (F := Ideal) (k0_pay81 y) (k0_pay82 (k0_pay73 (k0_pay4 l) x) (k0_pay75 (k0_pay4 l) x M M)) (k0_pay83 (k0_pay75 (k0_pay4 l) x M M)) St = chunk l M x y St := by
  funext i
  rw [ix_eta i]
  generalize i 0 = v
  generalize i 1 = k
  unfold k0_pay83 k0_pay75 k0_pay74 k0_pay4 k0_pay73 k0_pay72 k0_pay82 k0_pay78 k0_pay81 k0_pay150 chunk
  pointwise []
  rfl

/-- The sixth chunk of a block. -/
theorem chunk5 : k0_pay154 (F := Ideal) (k0_pay96 y) (k0_pay97 (k0_pay86 (k0_pay4 l) x) (k0_pay88 (k0_pay4 l) x M M)) (k0_pay98 (k0_pay88 (k0_pay4 l) x M M)) St = chunk l M x y St := by
  funext i
  rw [ix_eta i]
  generalize i 0 = v
  generalize i 1 = k
  unfold k0_pay98 k0_pay88 k0_pay87 k0_pay4 k0_pay86 k0_pay85 k0_pay97 k0_pay93 k0_pay96 k0_pay154 chunk
  pointwise []
  rfl

/-- The seventh chunk of a block. -/
theorem chunk6 : k0_pay159 (F := Ideal) (k0_pay116 y) (k0_pay117 (k0_pay104 (k0_pay4 l) (k0_pay100 (k0_pay4 l)) (k0_pay101 x) k0_pay102) (k0_pay106 (k0_pay4 l) (k0_pay100 (k0_pay4 l)) (k0_pay101 x) k0_pay102 M M)) (k0_pay118 (k0_pay106 (k0_pay4 l) (k0_pay100 (k0_pay4 l)) (k0_pay101 x) k0_pay102 M M)) St = chunk l M x y St := by
  funext i
  rw [ix_eta i]
  generalize i 0 = v
  generalize i 1 = k
  unfold k0_pay118 k0_pay106 k0_pay105 k0_pay102 k0_pay101 k0_pay100 k0_pay4 k0_pay104 k0_pay103 k0_pay117 k0_pay113 k0_pay116 k0_pay159 chunk
  pointwise []
  rfl

/-- The eighth chunk of a block. -/
theorem chunk7 : k0_pay1 (F := Ideal) (k0_pay163 (k0_pay134 y) (k0_pay135 (k0_pay122 (k0_pay4 l) x) (k0_pay126 (k0_pay123 (k0_pay4 l) x) (k0_pay124 (k0_pay4 l) x) M M) (k0_pay131 (k0_pay126 (k0_pay123 (k0_pay4 l) x) (k0_pay124 (k0_pay4 l) x) M M))) (k0_pay136 (k0_pay131 (k0_pay126 (k0_pay123 (k0_pay4 l) x) (k0_pay124 (k0_pay4 l) x) M M))) St) = chunk l M x y St := by
  funext i
  rw [ix_eta i]
  generalize i 0 = v
  generalize i 1 = k
  unfold k0_pay136 k0_pay131 k0_pay124 k0_pay123 k0_pay121 k0_pay126 k0_pay125 k0_pay4 k0_pay122 k0_pay120 k0_pay135 k0_pay134 k0_pay163 k0_pay1 chunk
  pointwise []
  rfl

/-- The eight chunks of a block. -/
theorem eight (x0 x1 x2 x3 x4 x5 x6 x7 y0 y1 y2 y3 y4 y5 y6 y7 : S1x64x128.Idx → EReal) :
    k0_pay1 (F := Ideal) (k0_pay163 (k0_pay134 y7) (k0_pay135 (k0_pay122 (k0_pay4 l) x7) (k0_pay126 (k0_pay123 (k0_pay4 l) x7) (k0_pay124 (k0_pay4 l) x7) M M) (k0_pay131 (k0_pay126 (k0_pay123 (k0_pay4 l) x7) (k0_pay124 (k0_pay4 l) x7) M M))) (k0_pay136 (k0_pay131 (k0_pay126 (k0_pay123 (k0_pay4 l) x7) (k0_pay124 (k0_pay4 l) x7) M M))) (k0_pay159 (k0_pay116 y6) (k0_pay117 (k0_pay104 (k0_pay4 l) (k0_pay100 (k0_pay4 l)) (k0_pay101 x6) k0_pay102) (k0_pay106 (k0_pay4 l) (k0_pay100 (k0_pay4 l)) (k0_pay101 x6) k0_pay102 M M)) (k0_pay118 (k0_pay106 (k0_pay4 l) (k0_pay100 (k0_pay4 l)) (k0_pay101 x6) k0_pay102 M M)) (k0_pay154 (k0_pay96 y5) (k0_pay97 (k0_pay86 (k0_pay4 l) x5) (k0_pay88 (k0_pay4 l) x5 M M)) (k0_pay98 (k0_pay88 (k0_pay4 l) x5 M M)) (k0_pay150 (k0_pay81 y4) (k0_pay82 (k0_pay73 (k0_pay4 l) x4) (k0_pay75 (k0_pay4 l) x4 M M)) (k0_pay83 (k0_pay75 (k0_pay4 l) x4 M M)) (k0_pay146 (k0_pay53 y2) (k0_pay54 (k0_pay43 (k0_pay4 l) (k0_pay39 (k0_pay4 l)) (k0_pay40 x2) k0_pay41) (k0_pay45 (k0_pay4 l) (k0_pay39 (k0_pay4 l)) (k0_pay40 x2) k0_pay41 M M)) (k0_pay55 (k0_pay45 (k0_pay4 l) (k0_pay39 (k0_pay4 l)) (k0_pay40 x2) k0_pay41 M M)) (k0_pay68 y3) (k0_pay69 (k0_pay59 (k0_pay4 l) x3) (k0_pay61 (k0_pay58 (k0_pay4 l) x3) M M) (k0_pay65 (k0_pay61 (k0_pay58 (k0_pay4 l) x3) M M))) (k0_pay70 (k0_pay65 (k0_pay61 (k0_pay58 (k0_pay4 l) x3) M M))) (k0_pay140 (k0_pay35 y1) (k0_pay36 (k0_pay25 (k0_pay4 l) x1) (k0_pay27 (k0_pay4 l) x1 M M)) (k0_pay37 (k0_pay27 (k0_pay4 l) x1 M M)) (k0_pay137 (k0_pay20 y0) (k0_pay21 (k0_pay9 l x0) (k0_pay14 (k0_pay11 l x0) (k0_pay12 l x0 M) M)) (k0_pay22 (k0_pay17 (k0_pay14 (k0_pay11 l x0) (k0_pay12 l x0 M) M))) St)))))))
      = chunk l M x7 y7 (chunk l M x6 y6 (chunk l M x5 y5 (chunk l M x4 y4 (chunk l M x3 y3 (chunk l M x2 y2 (chunk l M x1 y1 (chunk l M x0 y0 St))))))) := by
  rw [chunk7, chunk6, chunk5, chunk4, chunk23, chunk1, chunk0]

end Cert.RecurPromptIdeal.Value

end
-- ==== Proof.PromptSum.lean ====
/- The running sums of the plain recurrence over chunks of 64 rows, and the recurrence itself. -/
module

public import proofs.«01_k».proof.Proof.Gen.StatePromptIdeal.Read
public import proofs.«01_k».proof.Proof.RecurSum
public import Idealize.ShloMosaic.Lib.Pointwise

@[expose] public section

set_option maxRecDepth 16384

noncomputable section

namespace Cert.RecurPromptIdeal.Value

open Idealize.ShloMosaic Idealize.ShloMosaic.TcCoe Idealize.SL.Sem
open Cert.RecurIdeal.Value (fade add_rest)

/-- The window of the running sum. -/
def wind : Shape := ⟨5, ![1, 1, 64, 1, 1]⟩

/-- The window's positions differ in the third coordinate only. -/
theorem wind_at : ∀ (n : Fin wind.numel) (a : Fin 5), ((wind.rowMajor.symm n) a).val = if a = 2 then n.val else 0 := by
  decide +kernel

/-- A sum added up in order. -/
theorem foldl_sum (f : Fin 64 → EReal) : (List.finRange 64).foldl (fun r n => r + f n) 0 = ∑ n, f n := by
  rw [Fin.sum_univ_def, List.sum_eq_foldl, List.foldl_map]

/-- The window's sum, its positions before the chunk counting as zero. -/
theorem turn (x : Fin 64 → EReal) (s : Fin 64) :
    (∑ n : Fin 64, if 63 ≤ s.val + n.val then x (Fin.ofNat 64 (s.val + n.val - 63)) else 0) = ∑ j : Fin 64, if j.val ≤ s.val then x j else 0 := by
  refine Fintype.sum_equiv (Equiv.addRight (s + 1)) _ _ fun n => ?_
  have e : (n + (s + 1)).val = (n.val + (s.val + 1)) % 64 := by
    rw [Fin.val_add, Fin.val_add]
    show (n.val + (s.val + 1) % 64) % 64 = _
    omega
  show _ = if (n + (s + 1)).val ≤ s.val then x (n + (s + 1)) else 0
  by_cases h : 63 ≤ s.val + n.val
  · rw [if_pos h, if_pos (by rw [e]; omega)]
    refine congrArg x (Fin.ext ?_)
    rw [e]
    show (s.val + n.val - 63) % 64 = _
    omega
  · rw [if_neg h, if_neg (by rw [e]; omega)]

open Cert.StatePromptIdeal Cert.StatePromptIdeal.Gen in
/-- The running sum over the rows of a chunk. -/
theorem running (x : S4x32x64x16x128.Idx → EReal) (z : S_.Idx → EReal) (hz : ∀ i, z i = 0) (b : Fin 4) (q : Fin 32) (s : Fin 64) (h : Fin 16) (k : Fin 128) :
    Host.reduceWindowAdd (F := Ideal) (φ := .f32) ![1, 1, 64, 1, 1] ![1, 1, 1, 1, 1] ![0, 0, 63, 0, 0] ![0, 0, 0, 0, 0] x z
      reduceWindows_S4x32x64x16x128_S4x32x64x16x128_w1s1p0_0_w1s1p0_0_w64s1p63_0_w1s1p0_0_w1s1p0_0 h_S_ (ix5 b q s h k)
      = ∑ j : Fin 64, if j.val ≤ s.val then x (ix5 b q j h k) else 0 := by
  unfold Host.reduceWindowAdd
  rw [Ideal.hostReduceWindowAdd_def]
  unfold Ideal.hostReduceWindowAdd Host.reduceWindow
  dsimp only
  rw [hz]
  refine (List.foldl_ext _ (fun (r : EReal) (n : Fin wind.numel) => r + if 63 ≤ s.val + n.val then x (ix5 b q (Fin.ofNat 64 (s.val + n.val - 63)) h k) else 0)
    _ fun r n _ => congrArg (r + ·) ?_).trans ?_
  · have hn : n.val < 64 := n.isLt
    have w0 := wind_at n 0
    have w1 := wind_at n 1
    have w2 := wind_at n 2
    have w3 := wind_at n 3
    have w4 := wind_at n 4
    rw [if_neg (by decide)] at w0 w1 w3 w4
    rw [if_pos rfl] at w2
    by_cases hs : 63 ≤ s.val + n.val
    · rw [if_pos hs]
      refine (dif_pos ?_).trans (congrArg x ?_)
      · intro a; match a with
        | ⟨0, _⟩ => show 0 ≤ b.val * 1 + (wind.rowMajor.symm n (0 : Fin 5)).val ∧ b.val * 1 + (wind.rowMajor.symm n (0 : Fin 5)).val - 0 < 4; omega
        | ⟨1, _⟩ => show 0 ≤ q.val * 1 + (wind.rowMajor.symm n (1 : Fin 5)).val ∧ q.val * 1 + (wind.rowMajor.symm n (1 : Fin 5)).val - 0 < 32; omega
        | ⟨2, _⟩ => show 63 ≤ s.val * 1 + (wind.rowMajor.symm n (2 : Fin 5)).val ∧ s.val * 1 + (wind.rowMajor.symm n (2 : Fin 5)).val - 63 < 64; omega
        | ⟨3, _⟩ => show 0 ≤ h.val * 1 + (wind.rowMajor.symm n (3 : Fin 5)).val ∧ h.val * 1 + (wind.rowMajor.symm n (3 : Fin 5)).val - 0 < 16; omega
        | ⟨4, _⟩ => show 0 ≤ k.val * 1 + (wind.rowMajor.symm n (4 : Fin 5)).val ∧ k.val * 1 + (wind.rowMajor.symm n (4 : Fin 5)).val - 0 < 128; omega
      · funext a; apply Fin.ext; match a with
        | ⟨0, _⟩ => show b.val * 1 + (wind.rowMajor.symm n (0 : Fin 5)).val - 0 = b.val; omega
        | ⟨1, _⟩ => show q.val * 1 + (wind.rowMajor.symm n (1 : Fin 5)).val - 0 = q.val; omega
        | ⟨2, _⟩ => show s.val * 1 + (wind.rowMajor.symm n (2 : Fin 5)).val - 63 = (s.val + n.val - 63) % 64; omega
        | ⟨3, _⟩ => show h.val * 1 + (wind.rowMajor.symm n (3 : Fin 5)).val - 0 = h.val; omega
        | ⟨4, _⟩ => show k.val * 1 + (wind.rowMajor.symm n (4 : Fin 5)).val - 0 = k.val; omega
    · rw [if_neg hs]
      refine dif_neg fun hin => hs ?_
      have h1 : 63 ≤ s.val * 1 + (wind.rowMajor.symm n (2 : Fin 5)).val := (hin 2).1
      omega
  · exact (foldl_sum _).trans (turn (fun j => x (ix5 b q j h k)) s)

/-- The running sum of the logarithms, with its rounding's remainder. -/
theorem sums (M L : Fin 64 → EReal) (s : Nat) (hM : ∀ j, M j = if j.val ≤ s then 1 else 0) (hl : ∀ j, L j ≠ ⊤) :
    (∑ j, M j * L j) + ∑ j, M j * (L j - L j) = ∑ j : Fin 64, if j.val ≤ s then L j else 0 := by
  rw [← Finset.sum_add_distrib]
  refine Finset.sum_congr rfl fun j _ => ?_
  rw [hM]
  split
  · rw [one_mul, one_mul, add_rest _ (hl j)]
  · rw [zero_mul, zero_mul, add_zero]

/-- A head's state after a chunk, from the decays `f`, the inputs `x` and the state `a` before it. -/
def adv (f x : Fin 64 → EReal) (a : EReal) : EReal :=
  Ideal.exp (∑ j : Fin 64, Ideal.log (f j)) * a
    + ∑ s : Fin 64, (1 - f s) * Ideal.exp ((∑ j : Fin 64, Ideal.log (f j)) - ∑ j : Fin 64, if j.val ≤ s.val then Ideal.log (f j) else 0) * x s

/-- A head's state after `n` chunks. -/
def roll (f x : ℕ → Fin 64 → EReal) (a : EReal) : ℕ → EReal
  | 0 => a
  | n + 1 => adv (f n) (x n) (roll f x a n)

/-- The decay of a row of a chunk, in a channel of a head. -/
def decayAt (a0 : (⟨2, ![8192, 8192]⟩ : Shape).Idx → EReal) (a1 : (⟨1, ![2048]⟩ : Shape).Idx → EReal) (b h k n : ℕ) (s : Fin 64) : EReal :=
  fade (a1 (ix1 (Fin.ofNat 2048 (128 * h + k)))) (a0 (ix2 (Fin.ofNat 8192 (2048 * b + 64 * n + s.val)) (Fin.ofNat 8192 (2048 + 128 * h + k))))

/-- The input of a row of a chunk, in a channel of a head. -/
def inputAt (a0 : (⟨2, ![8192, 8192]⟩ : Shape).Idx → EReal) (b h v n : ℕ) (s : Fin 64) : EReal :=
  a0 (ix2 (Fin.ofNat 8192 (2048 * b + 64 * n + s.val)) (Fin.ofNat 8192 (4096 + 128 * h + v)))

end Cert.RecurPromptIdeal.Value

end
-- ==== Proof.PromptPlain.lean ====
/- The plain recurrence over the prompt group, as its chunks' recurrence. -/
module

public import proofs.«01_k».proof.Proof.PromptSum

@[expose] public section

set_option maxRecDepth 16384

noncomputable section

namespace Cert.RecurPromptIdeal.Value

open Idealize.ShloMosaic Idealize.ShloMosaic.TcCoe Idealize.SL.Sem
open Cert.RecurIdeal.Value (fade)
open Cert.StatePromptIdeal Cert.StatePromptIdeal.Read Cert.StatePromptIdeal.Gen

variable (x0 : S8192x8192.Idx → EReal) (x1 : S2048.Idx → EReal) (x3 : S4x16x128x128.Idx → EReal)

/-- The plain decay of a row and channel. -/
theorem decay (b : Fin 4) (s : Fin 2048) (C : Fin 2048)
    (R : Fin 8192) (hR : R.val = 2048 * b.val + s.val) (D : Fin 8192) (hD : D.val = 2048 + C.val) :
    val_main_v18 (F := Ideal) x0 x1 (ix3 b s C) = fade (x1 (ix1 C)) (x0 (ix2 R D)) := by
  rw [val_main_v18_apply, val_main_v17_apply, val_main_v16_apply, val_main_v15_apply, val_main_v14_apply, val_main_v13_apply,
    val_main_v6_apply, val_main_v5_apply, val_main_cst_apply, val_main_v12_apply, val_main_v11_apply, val_main_cst_1_apply,
    val_main_v10_apply, val_main_v9_apply, val_main_cst_0_apply, val_main_v8_apply, val_main_v7_apply, val_main_v2_apply, val_main_v0_apply]
  have e1 : idx_main_v16 (idx_main_v17 (ix3 b s C)) = ix1 C := by
    funext a; match a with | ⟨0, _⟩ => rfl
  have e2 : idx_main_v13 (idx_main_v14 (ix3 b s C)) = ix1 C := by
    funext a; match a with | ⟨0, _⟩ => rfl
  have e3 : idx_main_v0 (idx_main_v2 (ix3 b s C)) = ix2 R D := by
    funext a; apply Fin.ext; match a with
    | ⟨0, _⟩ => show ((b.val * 2048 + s.val) * 8192 + (2048 + C.val)) / 8192 = R.val; omega
    | ⟨1, _⟩ => show ((b.val * 2048 + s.val) * 8192 + (2048 + C.val)) % 8192 = D.val; omega
  rw [e1, e2, e3]
  unfold fade
  pointwise []
  simp

/-- The plain decay of a row of a chunk. -/
theorem decay_chunk (b : Fin 4) (q : Fin 32) (s : Fin 64) (h : Fin 16) (k : Fin 128) (r : Fin 2048) (hr : r.val = 64 * q.val + s.val)
    (C : Fin 2048) (hC : C.val = 128 * h.val + k.val) :
    val_main_v18 (F := Ideal) x0 x1 (ix3 b r C) = decayAt x0 x1 b.val h.val k.val q.val s := by
  have eC : C = Fin.ofNat 2048 (128 * h.val + k.val) := Fin.ext (by show C.val = (128 * h.val + k.val) % 2048; omega)
  rw [decay x0 x1 b r C (Fin.ofNat 8192 (2048 * b.val + 64 * q.val + s.val)) (by show (2048 * b.val + 64 * q.val + s.val) % 8192 = _; omega)
    (Fin.ofNat 8192 (2048 + 128 * h.val + k.val)) (by show (2048 + 128 * h.val + k.val) % 8192 = _; omega), eC]
  rfl

/-- The plain running sum of the logarithms. -/
theorem logs (b : Fin 4) (q : Fin 32) (s : Fin 64) (h : Fin 16) (k : Fin 128) :
    val_main_v21 (F := Ideal) x0 x1 (ix5 b q s h k)
      = ∑ j : Fin 64, if j.val ≤ s.val then Ideal.log (decayAt x0 x1 b.val h.val k.val q.val j) else 0 := by
  unfold val_main_v21
  refine (running _ _ (fun i => ?_) b q s h k).trans (Finset.sum_congr rfl fun j _ => ?_)
  · rw [val_main_call0_call0_v0_apply, val_main_call0_call0_cst_apply]
    pointwise []
  · have e : idx_main_v20 (ix5 b q j h k) = ix3 b ⟨64 * q.val + j.val, by omega⟩ ⟨128 * h.val + k.val, by omega⟩ := by
      funext a; apply Fin.ext; match a with
      | ⟨0, _⟩ => show ((((b.val * 32 + q.val) * 64 + j.val) * 16 + h.val) * 128 + k.val) / 4194304 = b.val; omega
      | ⟨1, _⟩ => show ((((b.val * 32 + q.val) * 64 + j.val) * 16 + h.val) * 128 + k.val) / 2048 % 2048 = 64 * q.val + j.val; omega
      | ⟨2, _⟩ => show ((((b.val * 32 + q.val) * 64 + j.val) * 16 + h.val) * 128 + k.val) % 2048 = 128 * h.val + k.val; omega
    rw [val_main_v20_apply, e, val_main_v19_apply, decay_chunk x0 x1 b q j h k _ rfl _ rfl]
    rfl

/-- The plain sum of a chunk's logarithms. -/
theorem total (b : Fin 4) (q : Fin 32) (h : Fin 16) (k : Fin 128) :
    val_main_v22 (F := Ideal) x0 x1 (ix5 b q 0 h k) = ∑ j : Fin 64, Ideal.log (decayAt x0 x1 b.val h.val k.val q.val j) := by
  rw [val_main_v22_apply]
  have e : idx_main_v22 (ix5 b q 0 h k) = ix5 b q 63 h k := by
    funext a; apply Fin.ext; match a with
    | ⟨0, _⟩ => rfl
    | ⟨1, _⟩ => rfl
    | ⟨2, _⟩ => rfl
    | ⟨3, _⟩ => rfl
    | ⟨4, _⟩ => rfl
  rw [e, logs]
  exact Finset.sum_congr rfl fun j _ => if_pos (by have := j.isLt; show j.val ≤ 63; omega)

/-- The plain decay over a chunk. -/
theorem whole (b : Fin 4) (q : Fin 32) (h : Fin 16) (k v : Fin 128) :
    val_main_v26 (F := Ideal) x0 x1 (ix5 b q h k v) = Ideal.exp (∑ j : Fin 64, Ideal.log (decayAt x0 x1 b.val h.val k.val q.val j)) := by
  rw [val_main_v26_apply, val_main_v25_apply, val_main_v24_apply, val_main_v23_apply]
  have e : idx_main_v23 (idx_main_v25 (idx_main_v26 (ix5 b q h k v))) = ix5 b q 0 h k := by
    funext a; apply Fin.ext; match a with
    | ⟨0, _⟩ => show (((b.val * 32 + q.val) * 16 + h.val) * 128 + k.val) / 65536 = b.val; omega
    | ⟨1, _⟩ => show (((b.val * 32 + q.val) * 16 + h.val) * 128 + k.val) / 2048 % 32 = q.val; omega
    | ⟨2, _⟩ => rfl
    | ⟨3, _⟩ => show (((b.val * 32 + q.val) * 16 + h.val) * 128 + k.val) / 128 % 16 = h.val; omega
    | ⟨4, _⟩ => show (((b.val * 32 + q.val) * 16 + h.val) * 128 + k.val) % 128 = k.val; omega
  rw [e, total]
  rfl

/-- What a chunk adds to the plain state. -/
theorem added (b : Fin 4) (q : Fin 32) (h : Fin 16) (k v : Fin 128) :
    val_main_v35 (F := Ideal) x0 x1 (ix5 b q h k v) = ∑ s : Fin 64, (1 - decayAt x0 x1 b.val h.val k.val q.val s)
      * Ideal.exp ((∑ j : Fin 64, Ideal.log (decayAt x0 x1 b.val h.val k.val q.val j))
        - ∑ j : Fin 64, if j.val ≤ s.val then Ideal.log (decayAt x0 x1 b.val h.val k.val q.val j) else 0) * inputAt x0 b.val h.val v.val q.val s := by
  rw [val_main_v35_apply]
  refine Finset.sum_congr rfl fun s _ => ?_
  have el : lidx_main_v35 (ix5 b q h k v) s = ix5 b q s h k := by
    funext a; apply Fin.ext; match a with
    | ⟨0, _⟩ => rfl
    | ⟨1, _⟩ => rfl
    | ⟨2, _⟩ => rfl
    | ⟨3, _⟩ => rfl
    | ⟨4, _⟩ => rfl
  have er : ridx_main_v35 (ix5 b q h k v) s = ix5 b q s h v := by
    funext a; apply Fin.ext; match a with
    | ⟨0, _⟩ => rfl
    | ⟨1, _⟩ => rfl
    | ⟨2, _⟩ => rfl
    | ⟨3, _⟩ => rfl
    | ⟨4, _⟩ => rfl
  have e29 : idx_main_v29 (ix5 b q s h k) = ix3 b ⟨64 * q.val + s.val, by omega⟩ ⟨128 * h.val + k.val, by omega⟩ := by
    funext a; apply Fin.ext; match a with
    | ⟨0, _⟩ => show ((((b.val * 32 + q.val) * 64 + s.val) * 16 + h.val) * 128 + k.val) / 4194304 = b.val; omega
    | ⟨1, _⟩ => show ((((b.val * 32 + q.val) * 64 + s.val) * 16 + h.val) * 128 + k.val) / 2048 % 2048 = 64 * q.val + s.val; omega
    | ⟨2, _⟩ => show ((((b.val * 32 + q.val) * 64 + s.val) * 16 + h.val) * 128 + k.val) % 2048 = 128 * h.val + k.val; omega
  have e34 : idx_main_v34 (ix5 b q s h v) = ix3 b ⟨64 * q.val + s.val, by omega⟩ ⟨128 * h.val + v.val, by omega⟩ := by
    funext a; apply Fin.ext; match a with
    | ⟨0, _⟩ => show ((((b.val * 32 + q.val) * 64 + s.val) * 16 + h.val) * 128 + v.val) / 4194304 = b.val; omega
    | ⟨1, _⟩ => show ((((b.val * 32 + q.val) * 64 + s.val) * 16 + h.val) * 128 + v.val) / 2048 % 2048 = 64 * q.val + s.val; omega
    | ⟨2, _⟩ => show ((((b.val * 32 + q.val) * 64 + s.val) * 16 + h.val) * 128 + v.val) % 2048 = 128 * h.val + v.val; omega
  have e30 : idx_main_v30 (ix5 b q s h k) = ix5 b q 0 h k := by
    funext a; apply Fin.ext; match a with
    | ⟨0, _⟩ => rfl
    | ⟨1, _⟩ => rfl
    | ⟨2, _⟩ => rfl
    | ⟨3, _⟩ => rfl
    | ⟨4, _⟩ => rfl
  have e3 : idx_main_v0 (idx_main_v3 (ix3 b ⟨64 * q.val + s.val, by omega⟩ ⟨128 * h.val + v.val, by omega⟩))
      = ix2 (Fin.ofNat 8192 (2048 * b.val + 64 * q.val + s.val)) (Fin.ofNat 8192 (4096 + 128 * h.val + v.val)) := by
    funext a; apply Fin.ext; match a with
    | ⟨0, _⟩ => show ((b.val * 2048 + (64 * q.val + s.val)) * 8192 + (4096 + (128 * h.val + v.val))) / 8192 = (2048 * b.val + 64 * q.val + s.val) % 8192; omega
    | ⟨1, _⟩ => show ((b.val * 2048 + (64 * q.val + s.val)) * 8192 + (4096 + (128 * h.val + v.val))) % 8192 = (4096 + 128 * h.val + v.val) % 8192; omega
  rw [el, er, val_main_v33_apply, val_main_v29_apply, e29, val_main_v28_apply, decay_chunk x0 x1 b q s h k _ rfl _ rfl, val_main_v27_apply, val_main_cst_2_apply,
    val_main_v32_apply, val_main_v31_apply, val_main_v30_apply, e30, total, logs, val_main_v34_apply, e34, val_main_v3_apply, val_main_v0_apply, e3]
  unfold inputAt
  pointwise []

/-- The plain state after 1 chunk. -/
theorem step0 (b : Fin 4) (h : Fin 16) (k v : Fin 128) : val_main_v40 (F := Ideal) x0 x1 x3 (ix5 b 0 h k v)
    = adv (decayAt x0 x1 b.val h.val k.val 0) (inputAt x0 b.val h.val v.val 0) (val_main_v36 (F := Ideal) x3 (ix5 b 0 h k v)) := by
  have e : idx_main_v37 (ix5 b 0 h k v) = ix5 b 0 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v39 (ix5 b 0 h k v) = ix5 b 0 h k v := by
    funext a; apply Fin.ext; match a with
    | ⟨0, _⟩ => rfl
    | ⟨1, _⟩ => rfl
    | ⟨2, _⟩ => rfl
    | ⟨3, _⟩ => rfl
    | ⟨4, _⟩ => rfl
  rw [val_main_v40_apply, val_main_v38_apply, val_main_v37_apply, e, val_main_v39_apply, e', whole, added]
  rfl

/-- The plain state after 2 chunks. -/
theorem step1 (b : Fin 4) (h : Fin 16) (k v : Fin 128) : val_main_v44 (F := Ideal) x0 x1 x3 (ix5 b 0 h k v)
    = adv (decayAt x0 x1 b.val h.val k.val 1) (inputAt x0 b.val h.val v.val 1) (val_main_v40 (F := Ideal) x0 x1 x3 (ix5 b 0 h k v)) := by
  have e : idx_main_v41 (ix5 b 0 h k v) = ix5 b 1 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v43 (ix5 b 0 h k v) = ix5 b 1 h k v := by
    funext a; apply Fin.ext; match a with
    | ⟨0, _⟩ => rfl
    | ⟨1, _⟩ => rfl
    | ⟨2, _⟩ => rfl
    | ⟨3, _⟩ => rfl
    | ⟨4, _⟩ => rfl
  rw [val_main_v44_apply, val_main_v42_apply, val_main_v41_apply, e, val_main_v43_apply, e', whole, added]
  rfl

/-- The plain state after 3 chunks. -/
theorem step2 (b : Fin 4) (h : Fin 16) (k v : Fin 128) : val_main_v48 (F := Ideal) x0 x1 x3 (ix5 b 0 h k v)
    = adv (decayAt x0 x1 b.val h.val k.val 2) (inputAt x0 b.val h.val v.val 2) (val_main_v44 (F := Ideal) x0 x1 x3 (ix5 b 0 h k v)) := by
  have e : idx_main_v45 (ix5 b 0 h k v) = ix5 b 2 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v47 (ix5 b 0 h k v) = ix5 b 2 h k v := by
    funext a; apply Fin.ext; match a with
    | ⟨0, _⟩ => rfl
    | ⟨1, _⟩ => rfl
    | ⟨2, _⟩ => rfl
    | ⟨3, _⟩ => rfl
    | ⟨4, _⟩ => rfl
  rw [val_main_v48_apply, val_main_v46_apply, val_main_v45_apply, e, val_main_v47_apply, e', whole, added]
  rfl

/-- The plain state after 4 chunks. -/
theorem step3 (b : Fin 4) (h : Fin 16) (k v : Fin 128) : val_main_v52 (F := Ideal) x0 x1 x3 (ix5 b 0 h k v)
    = adv (decayAt x0 x1 b.val h.val k.val 3) (inputAt x0 b.val h.val v.val 3) (val_main_v48 (F := Ideal) x0 x1 x3 (ix5 b 0 h k v)) := by
  have e : idx_main_v49 (ix5 b 0 h k v) = ix5 b 3 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v51 (ix5 b 0 h k v) = ix5 b 3 h k v := by
    funext a; apply Fin.ext; match a with
    | ⟨0, _⟩ => rfl
    | ⟨1, _⟩ => rfl
    | ⟨2, _⟩ => rfl
    | ⟨3, _⟩ => rfl
    | ⟨4, _⟩ => rfl
  rw [val_main_v52_apply, val_main_v50_apply, val_main_v49_apply, e, val_main_v51_apply, e', whole, added]
  rfl

/-- The plain state after 5 chunks. -/
theorem step4 (b : Fin 4) (h : Fin 16) (k v : Fin 128) : val_main_v56 (F := Ideal) x0 x1 x3 (ix5 b 0 h k v)
    = adv (decayAt x0 x1 b.val h.val k.val 4) (inputAt x0 b.val h.val v.val 4) (val_main_v52 (F := Ideal) x0 x1 x3 (ix5 b 0 h k v)) := by
  have e : idx_main_v53 (ix5 b 0 h k v) = ix5 b 4 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v55 (ix5 b 0 h k v) = ix5 b 4 h k v := by
    funext a; apply Fin.ext; match a with
    | ⟨0, _⟩ => rfl
    | ⟨1, _⟩ => rfl
    | ⟨2, _⟩ => rfl
    | ⟨3, _⟩ => rfl
    | ⟨4, _⟩ => rfl
  rw [val_main_v56_apply, val_main_v54_apply, val_main_v53_apply, e, val_main_v55_apply, e', whole, added]
  rfl

/-- The plain state after 6 chunks. -/
theorem step5 (b : Fin 4) (h : Fin 16) (k v : Fin 128) : val_main_v60 (F := Ideal) x0 x1 x3 (ix5 b 0 h k v)
    = adv (decayAt x0 x1 b.val h.val k.val 5) (inputAt x0 b.val h.val v.val 5) (val_main_v56 (F := Ideal) x0 x1 x3 (ix5 b 0 h k v)) := by
  have e : idx_main_v57 (ix5 b 0 h k v) = ix5 b 5 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v59 (ix5 b 0 h k v) = ix5 b 5 h k v := by
    funext a; apply Fin.ext; match a with
    | ⟨0, _⟩ => rfl
    | ⟨1, _⟩ => rfl
    | ⟨2, _⟩ => rfl
    | ⟨3, _⟩ => rfl
    | ⟨4, _⟩ => rfl
  rw [val_main_v60_apply, val_main_v58_apply, val_main_v57_apply, e, val_main_v59_apply, e', whole, added]
  rfl

/-- The plain state after 7 chunks. -/
theorem step6 (b : Fin 4) (h : Fin 16) (k v : Fin 128) : val_main_v64 (F := Ideal) x0 x1 x3 (ix5 b 0 h k v)
    = adv (decayAt x0 x1 b.val h.val k.val 6) (inputAt x0 b.val h.val v.val 6) (val_main_v60 (F := Ideal) x0 x1 x3 (ix5 b 0 h k v)) := by
  have e : idx_main_v61 (ix5 b 0 h k v) = ix5 b 6 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v63 (ix5 b 0 h k v) = ix5 b 6 h k v := by
    funext a; apply Fin.ext; match a with
    | ⟨0, _⟩ => rfl
    | ⟨1, _⟩ => rfl
    | ⟨2, _⟩ => rfl
    | ⟨3, _⟩ => rfl
    | ⟨4, _⟩ => rfl
  rw [val_main_v64_apply, val_main_v62_apply, val_main_v61_apply, e, val_main_v63_apply, e', whole, added]
  rfl

/-- The plain state after 8 chunks. -/
theorem step7 (b : Fin 4) (h : Fin 16) (k v : Fin 128) : val_main_v68 (F := Ideal) x0 x1 x3 (ix5 b 0 h k v)
    = adv (decayAt x0 x1 b.val h.val k.val 7) (inputAt x0 b.val h.val v.val 7) (val_main_v64 (F := Ideal) x0 x1 x3 (ix5 b 0 h k v)) := by
  have e : idx_main_v65 (ix5 b 0 h k v) = ix5 b 7 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v67 (ix5 b 0 h k v) = ix5 b 7 h k v := by
    funext a; apply Fin.ext; match a with
    | ⟨0, _⟩ => rfl
    | ⟨1, _⟩ => rfl
    | ⟨2, _⟩ => rfl
    | ⟨3, _⟩ => rfl
    | ⟨4, _⟩ => rfl
  rw [val_main_v68_apply, val_main_v66_apply, val_main_v65_apply, e, val_main_v67_apply, e', whole, added]
  rfl

/-- The plain state after 9 chunks. -/
theorem step8 (b : Fin 4) (h : Fin 16) (k v : Fin 128) : val_main_v72 (F := Ideal) x0 x1 x3 (ix5 b 0 h k v)
    = adv (decayAt x0 x1 b.val h.val k.val 8) (inputAt x0 b.val h.val v.val 8) (val_main_v68 (F := Ideal) x0 x1 x3 (ix5 b 0 h k v)) := by
  have e : idx_main_v69 (ix5 b 0 h k v) = ix5 b 8 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v71 (ix5 b 0 h k v) = ix5 b 8 h k v := by
    funext a; apply Fin.ext; match a with
    | ⟨0, _⟩ => rfl
    | ⟨1, _⟩ => rfl
    | ⟨2, _⟩ => rfl
    | ⟨3, _⟩ => rfl
    | ⟨4, _⟩ => rfl
  rw [val_main_v72_apply, val_main_v70_apply, val_main_v69_apply, e, val_main_v71_apply, e', whole, added]
  rfl

/-- The plain state after 10 chunks. -/
theorem step9 (b : Fin 4) (h : Fin 16) (k v : Fin 128) : val_main_v76 (F := Ideal) x0 x1 x3 (ix5 b 0 h k v)
    = adv (decayAt x0 x1 b.val h.val k.val 9) (inputAt x0 b.val h.val v.val 9) (val_main_v72 (F := Ideal) x0 x1 x3 (ix5 b 0 h k v)) := by
  have e : idx_main_v73 (ix5 b 0 h k v) = ix5 b 9 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v75 (ix5 b 0 h k v) = ix5 b 9 h k v := by
    funext a; apply Fin.ext; match a with
    | ⟨0, _⟩ => rfl
    | ⟨1, _⟩ => rfl
    | ⟨2, _⟩ => rfl
    | ⟨3, _⟩ => rfl
    | ⟨4, _⟩ => rfl
  rw [val_main_v76_apply, val_main_v74_apply, val_main_v73_apply, e, val_main_v75_apply, e', whole, added]
  rfl

/-- The plain state after 11 chunks. -/
theorem step10 (b : Fin 4) (h : Fin 16) (k v : Fin 128) : val_main_v80 (F := Ideal) x0 x1 x3 (ix5 b 0 h k v)
    = adv (decayAt x0 x1 b.val h.val k.val 10) (inputAt x0 b.val h.val v.val 10) (val_main_v76 (F := Ideal) x0 x1 x3 (ix5 b 0 h k v)) := by
  have e : idx_main_v77 (ix5 b 0 h k v) = ix5 b 10 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v79 (ix5 b 0 h k v) = ix5 b 10 h k v := by
    funext a; apply Fin.ext; match a with
    | ⟨0, _⟩ => rfl
    | ⟨1, _⟩ => rfl
    | ⟨2, _⟩ => rfl
    | ⟨3, _⟩ => rfl
    | ⟨4, _⟩ => rfl
  rw [val_main_v80_apply, val_main_v78_apply, val_main_v77_apply, e, val_main_v79_apply, e', whole, added]
  rfl

/-- The plain state after 12 chunks. -/
theorem step11 (b : Fin 4) (h : Fin 16) (k v : Fin 128) : val_main_v84 (F := Ideal) x0 x1 x3 (ix5 b 0 h k v)
    = adv (decayAt x0 x1 b.val h.val k.val 11) (inputAt x0 b.val h.val v.val 11) (val_main_v80 (F := Ideal) x0 x1 x3 (ix5 b 0 h k v)) := by
  have e : idx_main_v81 (ix5 b 0 h k v) = ix5 b 11 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v83 (ix5 b 0 h k v) = ix5 b 11 h k v := by
    funext a; apply Fin.ext; match a with
    | ⟨0, _⟩ => rfl
    | ⟨1, _⟩ => rfl
    | ⟨2, _⟩ => rfl
    | ⟨3, _⟩ => rfl
    | ⟨4, _⟩ => rfl
  rw [val_main_v84_apply, val_main_v82_apply, val_main_v81_apply, e, val_main_v83_apply, e', whole, added]
  rfl

/-- The plain state after 13 chunks. -/
theorem step12 (b : Fin 4) (h : Fin 16) (k v : Fin 128) : val_main_v88 (F := Ideal) x0 x1 x3 (ix5 b 0 h k v)
    = adv (decayAt x0 x1 b.val h.val k.val 12) (inputAt x0 b.val h.val v.val 12) (val_main_v84 (F := Ideal) x0 x1 x3 (ix5 b 0 h k v)) := by
  have e : idx_main_v85 (ix5 b 0 h k v) = ix5 b 12 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v87 (ix5 b 0 h k v) = ix5 b 12 h k v := by
    funext a; apply Fin.ext; match a with
    | ⟨0, _⟩ => rfl
    | ⟨1, _⟩ => rfl
    | ⟨2, _⟩ => rfl
    | ⟨3, _⟩ => rfl
    | ⟨4, _⟩ => rfl
  rw [val_main_v88_apply, val_main_v86_apply, val_main_v85_apply, e, val_main_v87_apply, e', whole, added]
  rfl

/-- The plain state after 14 chunks. -/
theorem step13 (b : Fin 4) (h : Fin 16) (k v : Fin 128) : val_main_v92 (F := Ideal) x0 x1 x3 (ix5 b 0 h k v)
    = adv (decayAt x0 x1 b.val h.val k.val 13) (inputAt x0 b.val h.val v.val 13) (val_main_v88 (F := Ideal) x0 x1 x3 (ix5 b 0 h k v)) := by
  have e : idx_main_v89 (ix5 b 0 h k v) = ix5 b 13 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v91 (ix5 b 0 h k v) = ix5 b 13 h k v := by
    funext a; apply Fin.ext; match a with
    | ⟨0, _⟩ => rfl
    | ⟨1, _⟩ => rfl
    | ⟨2, _⟩ => rfl
    | ⟨3, _⟩ => rfl
    | ⟨4, _⟩ => rfl
  rw [val_main_v92_apply, val_main_v90_apply, val_main_v89_apply, e, val_main_v91_apply, e', whole, added]
  rfl

/-- The plain state after 15 chunks. -/
theorem step14 (b : Fin 4) (h : Fin 16) (k v : Fin 128) : val_main_v96 (F := Ideal) x0 x1 x3 (ix5 b 0 h k v)
    = adv (decayAt x0 x1 b.val h.val k.val 14) (inputAt x0 b.val h.val v.val 14) (val_main_v92 (F := Ideal) x0 x1 x3 (ix5 b 0 h k v)) := by
  have e : idx_main_v93 (ix5 b 0 h k v) = ix5 b 14 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v95 (ix5 b 0 h k v) = ix5 b 14 h k v := by
    funext a; apply Fin.ext; match a with
    | ⟨0, _⟩ => rfl
    | ⟨1, _⟩ => rfl
    | ⟨2, _⟩ => rfl
    | ⟨3, _⟩ => rfl
    | ⟨4, _⟩ => rfl
  rw [val_main_v96_apply, val_main_v94_apply, val_main_v93_apply, e, val_main_v95_apply, e', whole, added]
  rfl

/-- The plain state after 16 chunks. -/
theorem step15 (b : Fin 4) (h : Fin 16) (k v : Fin 128) : val_main_v100 (F := Ideal) x0 x1 x3 (ix5 b 0 h k v)
    = adv (decayAt x0 x1 b.val h.val k.val 15) (inputAt x0 b.val h.val v.val 15) (val_main_v96 (F := Ideal) x0 x1 x3 (ix5 b 0 h k v)) := by
  have e : idx_main_v97 (ix5 b 0 h k v) = ix5 b 15 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v99 (ix5 b 0 h k v) = ix5 b 15 h k v := by
    funext a; apply Fin.ext; match a with
    | ⟨0, _⟩ => rfl
    | ⟨1, _⟩ => rfl
    | ⟨2, _⟩ => rfl
    | ⟨3, _⟩ => rfl
    | ⟨4, _⟩ => rfl
  rw [val_main_v100_apply, val_main_v98_apply, val_main_v97_apply, e, val_main_v99_apply, e', whole, added]
  rfl

/-- The plain state after 17 chunks. -/
theorem step16 (b : Fin 4) (h : Fin 16) (k v : Fin 128) : val_main_v104 (F := Ideal) x0 x1 x3 (ix5 b 0 h k v)
    = adv (decayAt x0 x1 b.val h.val k.val 16) (inputAt x0 b.val h.val v.val 16) (val_main_v100 (F := Ideal) x0 x1 x3 (ix5 b 0 h k v)) := by
  have e : idx_main_v101 (ix5 b 0 h k v) = ix5 b 16 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v103 (ix5 b 0 h k v) = ix5 b 16 h k v := by
    funext a; apply Fin.ext; match a with
    | ⟨0, _⟩ => rfl
    | ⟨1, _⟩ => rfl
    | ⟨2, _⟩ => rfl
    | ⟨3, _⟩ => rfl
    | ⟨4, _⟩ => rfl
  rw [val_main_v104_apply, val_main_v102_apply, val_main_v101_apply, e, val_main_v103_apply, e', whole, added]
  rfl

/-- The plain state after 18 chunks. -/
theorem step17 (b : Fin 4) (h : Fin 16) (k v : Fin 128) : val_main_v108 (F := Ideal) x0 x1 x3 (ix5 b 0 h k v)
    = adv (decayAt x0 x1 b.val h.val k.val 17) (inputAt x0 b.val h.val v.val 17) (val_main_v104 (F := Ideal) x0 x1 x3 (ix5 b 0 h k v)) := by
  have e : idx_main_v105 (ix5 b 0 h k v) = ix5 b 17 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v107 (ix5 b 0 h k v) = ix5 b 17 h k v := by
    funext a; apply Fin.ext; match a with
    | ⟨0, _⟩ => rfl
    | ⟨1, _⟩ => rfl
    | ⟨2, _⟩ => rfl
    | ⟨3, _⟩ => rfl
    | ⟨4, _⟩ => rfl
  rw [val_main_v108_apply, val_main_v106_apply, val_main_v105_apply, e, val_main_v107_apply, e', whole, added]
  rfl

/-- The plain state after 19 chunks. -/
theorem step18 (b : Fin 4) (h : Fin 16) (k v : Fin 128) : val_main_v112 (F := Ideal) x0 x1 x3 (ix5 b 0 h k v)
    = adv (decayAt x0 x1 b.val h.val k.val 18) (inputAt x0 b.val h.val v.val 18) (val_main_v108 (F := Ideal) x0 x1 x3 (ix5 b 0 h k v)) := by
  have e : idx_main_v109 (ix5 b 0 h k v) = ix5 b 18 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v111 (ix5 b 0 h k v) = ix5 b 18 h k v := by
    funext a; apply Fin.ext; match a with
    | ⟨0, _⟩ => rfl
    | ⟨1, _⟩ => rfl
    | ⟨2, _⟩ => rfl
    | ⟨3, _⟩ => rfl
    | ⟨4, _⟩ => rfl
  rw [val_main_v112_apply, val_main_v110_apply, val_main_v109_apply, e, val_main_v111_apply, e', whole, added]
  rfl

/-- The plain state after 20 chunks. -/
theorem step19 (b : Fin 4) (h : Fin 16) (k v : Fin 128) : val_main_v116 (F := Ideal) x0 x1 x3 (ix5 b 0 h k v)
    = adv (decayAt x0 x1 b.val h.val k.val 19) (inputAt x0 b.val h.val v.val 19) (val_main_v112 (F := Ideal) x0 x1 x3 (ix5 b 0 h k v)) := by
  have e : idx_main_v113 (ix5 b 0 h k v) = ix5 b 19 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v115 (ix5 b 0 h k v) = ix5 b 19 h k v := by
    funext a; apply Fin.ext; match a with
    | ⟨0, _⟩ => rfl
    | ⟨1, _⟩ => rfl
    | ⟨2, _⟩ => rfl
    | ⟨3, _⟩ => rfl
    | ⟨4, _⟩ => rfl
  rw [val_main_v116_apply, val_main_v114_apply, val_main_v113_apply, e, val_main_v115_apply, e', whole, added]
  rfl

/-- The plain state after 21 chunks. -/
theorem step20 (b : Fin 4) (h : Fin 16) (k v : Fin 128) : val_main_v120 (F := Ideal) x0 x1 x3 (ix5 b 0 h k v)
    = adv (decayAt x0 x1 b.val h.val k.val 20) (inputAt x0 b.val h.val v.val 20) (val_main_v116 (F := Ideal) x0 x1 x3 (ix5 b 0 h k v)) := by
  have e : idx_main_v117 (ix5 b 0 h k v) = ix5 b 20 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v119 (ix5 b 0 h k v) = ix5 b 20 h k v := by
    funext a; apply Fin.ext; match a with
    | ⟨0, _⟩ => rfl
    | ⟨1, _⟩ => rfl
    | ⟨2, _⟩ => rfl
    | ⟨3, _⟩ => rfl
    | ⟨4, _⟩ => rfl
  rw [val_main_v120_apply, val_main_v118_apply, val_main_v117_apply, e, val_main_v119_apply, e', whole, added]
  rfl

/-- The plain state after 22 chunks. -/
theorem step21 (b : Fin 4) (h : Fin 16) (k v : Fin 128) : val_main_v124 (F := Ideal) x0 x1 x3 (ix5 b 0 h k v)
    = adv (decayAt x0 x1 b.val h.val k.val 21) (inputAt x0 b.val h.val v.val 21) (val_main_v120 (F := Ideal) x0 x1 x3 (ix5 b 0 h k v)) := by
  have e : idx_main_v121 (ix5 b 0 h k v) = ix5 b 21 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v123 (ix5 b 0 h k v) = ix5 b 21 h k v := by
    funext a; apply Fin.ext; match a with
    | ⟨0, _⟩ => rfl
    | ⟨1, _⟩ => rfl
    | ⟨2, _⟩ => rfl
    | ⟨3, _⟩ => rfl
    | ⟨4, _⟩ => rfl
  rw [val_main_v124_apply, val_main_v122_apply, val_main_v121_apply, e, val_main_v123_apply, e', whole, added]
  rfl

/-- The plain state after 23 chunks. -/
theorem step22 (b : Fin 4) (h : Fin 16) (k v : Fin 128) : val_main_v128 (F := Ideal) x0 x1 x3 (ix5 b 0 h k v)
    = adv (decayAt x0 x1 b.val h.val k.val 22) (inputAt x0 b.val h.val v.val 22) (val_main_v124 (F := Ideal) x0 x1 x3 (ix5 b 0 h k v)) := by
  have e : idx_main_v125 (ix5 b 0 h k v) = ix5 b 22 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v127 (ix5 b 0 h k v) = ix5 b 22 h k v := by
    funext a; apply Fin.ext; match a with
    | ⟨0, _⟩ => rfl
    | ⟨1, _⟩ => rfl
    | ⟨2, _⟩ => rfl
    | ⟨3, _⟩ => rfl
    | ⟨4, _⟩ => rfl
  rw [val_main_v128_apply, val_main_v126_apply, val_main_v125_apply, e, val_main_v127_apply, e', whole, added]
  rfl

/-- The plain state after 24 chunks. -/
theorem step23 (b : Fin 4) (h : Fin 16) (k v : Fin 128) : val_main_v132 (F := Ideal) x0 x1 x3 (ix5 b 0 h k v)
    = adv (decayAt x0 x1 b.val h.val k.val 23) (inputAt x0 b.val h.val v.val 23) (val_main_v128 (F := Ideal) x0 x1 x3 (ix5 b 0 h k v)) := by
  have e : idx_main_v129 (ix5 b 0 h k v) = ix5 b 23 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v131 (ix5 b 0 h k v) = ix5 b 23 h k v := by
    funext a; apply Fin.ext; match a with
    | ⟨0, _⟩ => rfl
    | ⟨1, _⟩ => rfl
    | ⟨2, _⟩ => rfl
    | ⟨3, _⟩ => rfl
    | ⟨4, _⟩ => rfl
  rw [val_main_v132_apply, val_main_v130_apply, val_main_v129_apply, e, val_main_v131_apply, e', whole, added]
  rfl

/-- The plain state after 25 chunks. -/
theorem step24 (b : Fin 4) (h : Fin 16) (k v : Fin 128) : val_main_v136 (F := Ideal) x0 x1 x3 (ix5 b 0 h k v)
    = adv (decayAt x0 x1 b.val h.val k.val 24) (inputAt x0 b.val h.val v.val 24) (val_main_v132 (F := Ideal) x0 x1 x3 (ix5 b 0 h k v)) := by
  have e : idx_main_v133 (ix5 b 0 h k v) = ix5 b 24 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v135 (ix5 b 0 h k v) = ix5 b 24 h k v := by
    funext a; apply Fin.ext; match a with
    | ⟨0, _⟩ => rfl
    | ⟨1, _⟩ => rfl
    | ⟨2, _⟩ => rfl
    | ⟨3, _⟩ => rfl
    | ⟨4, _⟩ => rfl
  rw [val_main_v136_apply, val_main_v134_apply, val_main_v133_apply, e, val_main_v135_apply, e', whole, added]
  rfl

/-- The plain state after 26 chunks. -/
theorem step25 (b : Fin 4) (h : Fin 16) (k v : Fin 128) : val_main_v140 (F := Ideal) x0 x1 x3 (ix5 b 0 h k v)
    = adv (decayAt x0 x1 b.val h.val k.val 25) (inputAt x0 b.val h.val v.val 25) (val_main_v136 (F := Ideal) x0 x1 x3 (ix5 b 0 h k v)) := by
  have e : idx_main_v137 (ix5 b 0 h k v) = ix5 b 25 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v139 (ix5 b 0 h k v) = ix5 b 25 h k v := by
    funext a; apply Fin.ext; match a with
    | ⟨0, _⟩ => rfl
    | ⟨1, _⟩ => rfl
    | ⟨2, _⟩ => rfl
    | ⟨3, _⟩ => rfl
    | ⟨4, _⟩ => rfl
  rw [val_main_v140_apply, val_main_v138_apply, val_main_v137_apply, e, val_main_v139_apply, e', whole, added]
  rfl

/-- The plain state after 27 chunks. -/
theorem step26 (b : Fin 4) (h : Fin 16) (k v : Fin 128) : val_main_v144 (F := Ideal) x0 x1 x3 (ix5 b 0 h k v)
    = adv (decayAt x0 x1 b.val h.val k.val 26) (inputAt x0 b.val h.val v.val 26) (val_main_v140 (F := Ideal) x0 x1 x3 (ix5 b 0 h k v)) := by
  have e : idx_main_v141 (ix5 b 0 h k v) = ix5 b 26 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v143 (ix5 b 0 h k v) = ix5 b 26 h k v := by
    funext a; apply Fin.ext; match a with
    | ⟨0, _⟩ => rfl
    | ⟨1, _⟩ => rfl
    | ⟨2, _⟩ => rfl
    | ⟨3, _⟩ => rfl
    | ⟨4, _⟩ => rfl
  rw [val_main_v144_apply, val_main_v142_apply, val_main_v141_apply, e, val_main_v143_apply, e', whole, added]
  rfl

/-- The plain state after 28 chunks. -/
theorem step27 (b : Fin 4) (h : Fin 16) (k v : Fin 128) : val_main_v148 (F := Ideal) x0 x1 x3 (ix5 b 0 h k v)
    = adv (decayAt x0 x1 b.val h.val k.val 27) (inputAt x0 b.val h.val v.val 27) (val_main_v144 (F := Ideal) x0 x1 x3 (ix5 b 0 h k v)) := by
  have e : idx_main_v145 (ix5 b 0 h k v) = ix5 b 27 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v147 (ix5 b 0 h k v) = ix5 b 27 h k v := by
    funext a; apply Fin.ext; match a with
    | ⟨0, _⟩ => rfl
    | ⟨1, _⟩ => rfl
    | ⟨2, _⟩ => rfl
    | ⟨3, _⟩ => rfl
    | ⟨4, _⟩ => rfl
  rw [val_main_v148_apply, val_main_v146_apply, val_main_v145_apply, e, val_main_v147_apply, e', whole, added]
  rfl

/-- The plain state after 29 chunks. -/
theorem step28 (b : Fin 4) (h : Fin 16) (k v : Fin 128) : val_main_v152 (F := Ideal) x0 x1 x3 (ix5 b 0 h k v)
    = adv (decayAt x0 x1 b.val h.val k.val 28) (inputAt x0 b.val h.val v.val 28) (val_main_v148 (F := Ideal) x0 x1 x3 (ix5 b 0 h k v)) := by
  have e : idx_main_v149 (ix5 b 0 h k v) = ix5 b 28 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v151 (ix5 b 0 h k v) = ix5 b 28 h k v := by
    funext a; apply Fin.ext; match a with
    | ⟨0, _⟩ => rfl
    | ⟨1, _⟩ => rfl
    | ⟨2, _⟩ => rfl
    | ⟨3, _⟩ => rfl
    | ⟨4, _⟩ => rfl
  rw [val_main_v152_apply, val_main_v150_apply, val_main_v149_apply, e, val_main_v151_apply, e', whole, added]
  rfl

/-- The plain state after 30 chunks. -/
theorem step29 (b : Fin 4) (h : Fin 16) (k v : Fin 128) : val_main_v156 (F := Ideal) x0 x1 x3 (ix5 b 0 h k v)
    = adv (decayAt x0 x1 b.val h.val k.val 29) (inputAt x0 b.val h.val v.val 29) (val_main_v152 (F := Ideal) x0 x1 x3 (ix5 b 0 h k v)) := by
  have e : idx_main_v153 (ix5 b 0 h k v) = ix5 b 29 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v155 (ix5 b 0 h k v) = ix5 b 29 h k v := by
    funext a; apply Fin.ext; match a with
    | ⟨0, _⟩ => rfl
    | ⟨1, _⟩ => rfl
    | ⟨2, _⟩ => rfl
    | ⟨3, _⟩ => rfl
    | ⟨4, _⟩ => rfl
  rw [val_main_v156_apply, val_main_v154_apply, val_main_v153_apply, e, val_main_v155_apply, e', whole, added]
  rfl

/-- The plain state after 31 chunks. -/
theorem step30 (b : Fin 4) (h : Fin 16) (k v : Fin 128) : val_main_v160 (F := Ideal) x0 x1 x3 (ix5 b 0 h k v)
    = adv (decayAt x0 x1 b.val h.val k.val 30) (inputAt x0 b.val h.val v.val 30) (val_main_v156 (F := Ideal) x0 x1 x3 (ix5 b 0 h k v)) := by
  have e : idx_main_v157 (ix5 b 0 h k v) = ix5 b 30 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v159 (ix5 b 0 h k v) = ix5 b 30 h k v := by
    funext a; apply Fin.ext; match a with
    | ⟨0, _⟩ => rfl
    | ⟨1, _⟩ => rfl
    | ⟨2, _⟩ => rfl
    | ⟨3, _⟩ => rfl
    | ⟨4, _⟩ => rfl
  rw [val_main_v160_apply, val_main_v158_apply, val_main_v157_apply, e, val_main_v159_apply, e', whole, added]
  rfl

/-- The plain state after 32 chunks. -/
theorem step31 (b : Fin 4) (h : Fin 16) (k v : Fin 128) : val_main_v164 (F := Ideal) x0 x1 x3 (ix5 b 0 h k v)
    = adv (decayAt x0 x1 b.val h.val k.val 31) (inputAt x0 b.val h.val v.val 31) (val_main_v160 (F := Ideal) x0 x1 x3 (ix5 b 0 h k v)) := by
  have e : idx_main_v161 (ix5 b 0 h k v) = ix5 b 31 h k v := by
    funext a; apply Fin.ext; match a with
    | ⟨0, _⟩ => rfl
    | ⟨1, _⟩ => rfl
    | ⟨2, _⟩ => rfl
    | ⟨3, _⟩ => rfl
    | ⟨4, _⟩ => rfl
  have e' : idx_main_v163 (ix5 b 0 h k v) = ix5 b 31 h k v := by
    funext a; apply Fin.ext; match a with
    | ⟨0, _⟩ => rfl
    | ⟨1, _⟩ => rfl
    | ⟨2, _⟩ => rfl
    | ⟨3, _⟩ => rfl
    | ⟨4, _⟩ => rfl
  rw [val_main_v164_apply, val_main_v162_apply, val_main_v161_apply, e, val_main_v163_apply, e', whole, added]
  rfl

/-- The plain state after every chunk. -/
theorem plain (b : Fin 4) (h : Fin 16) (k v : Fin 128) : val_main_v165 (F := Ideal) x0 x1 x3 (ix4 b h k v)
    = roll (decayAt x0 x1 b.val h.val k.val) (inputAt x0 b.val h.val v.val) (x3 (ix4 b h k v)) 32 := by
  have e : idx_main_v165 (ix4 b h k v) = ix5 b 0 h k v := by
    funext a; apply Fin.ext; match a with
    | ⟨0, _⟩ => show (((b.val * 16 + h.val) * 128 + k.val) * 128 + v.val) / 262144 = b.val; omega
    | ⟨1, _⟩ => rfl
    | ⟨2, _⟩ => show (((b.val * 16 + h.val) * 128 + k.val) * 128 + v.val) / 16384 % 16 = h.val; omega
    | ⟨3, _⟩ => show (((b.val * 16 + h.val) * 128 + k.val) * 128 + v.val) / 128 % 128 = k.val; omega
    | ⟨4, _⟩ => show (((b.val * 16 + h.val) * 128 + k.val) * 128 + v.val) % 128 = v.val; omega
  have e' : idx_main_v36 (ix5 b 0 h k v) = ix4 b h k v := by
    funext a; apply Fin.ext; match a with
    | ⟨0, _⟩ => rfl
    | ⟨1, _⟩ => rfl
    | ⟨2, _⟩ => rfl
    | ⟨3, _⟩ => rfl
  rw [val_main_v165_apply, e, step31, step30, step29, step28, step27, step26, step25, step24, step23, step22, step21, step20, step19, step18, step17, step16, step15, step14, step13, step12, step11, step10, step9, step8, step7, step6, step5, step4, step3, step2, step1, step0, val_main_v36_apply, e']
  rfl

end Cert.RecurPromptIdeal.Value

end
-- ==== Proof.PromptTile.lean ====
/- The prompt group's state after its rows, read off the arguments. -/
module

public import proofs.«01_k».proof.Proof.PromptBlock
public import proofs.«01_k».proof.Proof.PromptPay
public import proofs.«01_k».proof.Proof.PromptPlain

@[expose] public section

set_option maxRecDepth 16384

noncomputable section

namespace Cert.RecurPromptIdeal.Value

open Cert.RecurPromptIdeal Cert.RecurPromptIdeal.Gen Idealize.ShloMosaic Idealize.ShloMosaic.TcCoe Idealize.SL.Sem
open Cert.RecurIdeal.Value (fade fade_ne_top log_ne_top)

/-- A chunk of the kernel is a chunk of the recurrence. -/
theorem chunk_adv (l : S1x128.Idx → EReal) (M : S448x64.Idx → EReal) (x y : S1x64x128.Idx → EReal) (St : S128x128.Idx → EReal) (v k : Fin 128)
    (f g : Fin 64 → EReal) (hf : ∀ s, fade (l (ix2 0 k)) (x (ix3 0 s k)) = f s) (hg : ∀ s, y (ix3 0 s v) = g s) (ht : ∀ s, f s ≠ ⊤)
    (hM : ∀ s j : Fin 64, M (ix2 ⟨s.val, by omega⟩ j) = if j.val ≤ s.val then (1 : EReal) else 0) :
    chunk l M x y St (ix2 v k) = adv f g (St (ix2 v k)) := by
  have hr : ∀ s : Fin 64, row l M x k s = ∑ j : Fin 64, if j.val ≤ s.val then Ideal.log (f j) else 0 := fun s => by
    unfold row
    have hl : ∀ j : Fin 64, lg l x k j = Ideal.log (f j) := fun j => by unfold lg; rw [hf]
    rw [sums (fun j => M (ix2 ⟨s.val, by omega⟩ j)) (fun j => lg l x k j) s.val (hM s) fun j => by rw [hl]; exact log_ne_top _ (ht j)]
    exact Finset.sum_congr rfl fun j _ => by rw [hl]
  have h63 : row l M x k 63 = ∑ j : Fin 64, Ideal.log (f j) :=
    (hr 63).trans (Finset.sum_congr rfl fun j _ => if_pos (by have := j.isLt; show j.val ≤ 63; omega))
  show Ideal.exp (row l M x k 63) * St (ix2 v k)
    + ∑ s : Fin 64, y (ix3 0 s v) * ((1 - fade (l (ix2 0 k)) (x (ix3 0 s k))) * Ideal.exp (row l M x k 63 - row l M x k s)) = _
  rw [h63]
  unfold adv
  refine congrArg _ (Finset.sum_congr rfl fun s _ => ?_)
  rw [hf, hg, hr, mul_comm]

variable (m : (ℓ : Loc nD τ sig) → Buf (Elt Ideal) ℓ)

/-- The decays of a chunk of a head. -/
def fs (c : Dev nD) (t : ℕ) (k : Fin 128) : ℕ → Fin 64 → EReal :=
  decayAt (m ((c : Thread nD τ).loc main_arg0)) (m ((c : Thread nD τ).loc main_arg1)) (t / 64) (t / 4 % 16) k.val

/-- The inputs of a chunk of a head. -/
def gs (c : Dev nD) (t : ℕ) (v : Fin 128) : ℕ → Fin 64 → EReal :=
  inputAt (m ((c : Thread nD τ).loc main_arg0)) (t / 64) (t / 4 % 16) v.val

/-- A chunk of a grid point. -/
theorem part (hb : ∀ (c : Dev nD) i, m ((c : Thread nD τ).loc main_arg1) i ≠ (⊤ : EReal)) (c : Dev nD) (t : Fin cfg0.N) (k v : Fin 128)
    (n : ℕ) (hn : n < 8) (x y : S1x64x128.Idx → EReal)
    (hx : ∀ s : Fin 64, x (ix3 0 s k) = iblk m c 1 t (ix3 0 ⟨64 * n + s.val, by omega⟩ k))
    (hy : ∀ s : Fin 64, y (ix3 0 s v) = iblk m c 2 t (ix3 0 ⟨64 * n + s.val, by omega⟩ v)) (St : S128x128.Idx → EReal) :
    chunk (iblk m c 4 t) (iblk m c 7 t) x y St (ix2 v k)
      = adv (fs m c t.val k (8 * (t.val % 4) + n)) (gs m c t.val v (8 * (t.val % 4) + n)) (St (ix2 v k)) := by
  have ht : t.val < 256 := t.isLt
  refine chunk_adv _ _ _ _ _ v k _ _ (fun s => ?_) (fun s => ?_) (fun s => fade_ne_top _ _ (hb c _)) (mats m c t)
  · rw [hx, lower m c t k (Fin.ofNat 2048 (128 * (t.val / 4 % 16) + k.val)) (by show (128 * (t.val / 4 % 16) + k.val) % 2048 = _; omega),
      forget m c t ⟨64 * n + s.val, by omega⟩ k (Fin.ofNat 8192 (2048 * (t.val / 64) + 64 * (8 * (t.val % 4) + n) + s.val))
        (by show (2048 * (t.val / 64) + 64 * (8 * (t.val % 4) + n) + s.val) % 8192 = 2048 * (t.val / 64) + 512 * (t.val % 4) + (64 * n + s.val); omega)
        (Fin.ofNat 8192 (2048 + 128 * (t.val / 4 % 16) + k.val)) (by show (2048 + 128 * (t.val / 4 % 16) + k.val) % 8192 = _; omega)]
    rfl
  · rw [hy, input m c t ⟨64 * n + s.val, by omega⟩ v (Fin.ofNat 8192 (2048 * (t.val / 64) + 64 * (8 * (t.val % 4) + n) + s.val))
        (by show (2048 * (t.val / 64) + 64 * (8 * (t.val % 4) + n) + s.val) % 8192 = 2048 * (t.val / 64) + 512 * (t.val % 4) + (64 * n + s.val); omega)
        (Fin.ofNat 8192 (4096 + 128 * (t.val / 4 % 16) + v.val)) (by show (4096 + 128 * (t.val / 4 % 16) + v.val) % 8192 = _; omega)]
    rfl

/-- The rows of chunk 0 of a block. -/
theorem at0 (X : S1x512x128.Idx → EReal) (s : Fin 64) (k : Fin 128) :
    X ((Rect.unit (s := S1x512x128) ![0, 0, 0] ![1, 64, 128] inb_S1x512x128_S1x64x128_0_0_0).idx (ix3 0 s k : S1x64x128.Idx)) = X (ix3 0 ⟨64 * 0 + s.val, by omega⟩ k) := by
  refine congrArg X ?_
  funext a; apply Fin.ext; match a with
  | ⟨0, _⟩ => rfl
  | ⟨1, _⟩ => show 0 + 1 * s.val = 64 * 0 + s.val; omega
  | ⟨2, _⟩ => show 0 + 1 * k.val = k.val; omega

/-- The rows of chunk 1 of a block. -/
theorem at1 (X : S1x512x128.Idx → EReal) (s : Fin 64) (k : Fin 128) :
    X ((Rect.unit (s := S1x512x128) ![0, 64, 0] ![1, 64, 128] inb_S1x512x128_S1x64x128_0_64_0).idx (ix3 0 s k : S1x64x128.Idx)) = X (ix3 0 ⟨64 * 1 + s.val, by omega⟩ k) := by
  refine congrArg X ?_
  funext a; apply Fin.ext; match a with
  | ⟨0, _⟩ => rfl
  | ⟨1, _⟩ => show 64 + 1 * s.val = 64 * 1 + s.val; omega
  | ⟨2, _⟩ => show 0 + 1 * k.val = k.val; omega

/-- The rows of chunk 2 of a block. -/
theorem at2 (X : S1x512x128.Idx → EReal) (s : Fin 64) (k : Fin 128) :
    X ((Rect.unit (s := S1x512x128) ![0, 128, 0] ![1, 64, 128] inb_S1x512x128_S1x64x128_0_128_0).idx (ix3 0 s k : S1x64x128.Idx)) = X (ix3 0 ⟨64 * 2 + s.val, by omega⟩ k) := by
  refine congrArg X ?_
  funext a; apply Fin.ext; match a with
  | ⟨0, _⟩ => rfl
  | ⟨1, _⟩ => show 128 + 1 * s.val = 64 * 2 + s.val; omega
  | ⟨2, _⟩ => show 0 + 1 * k.val = k.val; omega

/-- The rows of chunk 3 of a block. -/
theorem at3 (X : S1x512x128.Idx → EReal) (s : Fin 64) (k : Fin 128) :
    X ((Rect.unit (s := S1x512x128) ![0, 192, 0] ![1, 64, 128] inb_S1x512x128_S1x64x128_0_192_0).idx (ix3 0 s k : S1x64x128.Idx)) = X (ix3 0 ⟨64 * 3 + s.val, by omega⟩ k) := by
  refine congrArg X ?_
  funext a; apply Fin.ext; match a with
  | ⟨0, _⟩ => rfl
  | ⟨1, _⟩ => show 192 + 1 * s.val = 64 * 3 + s.val; omega
  | ⟨2, _⟩ => show 0 + 1 * k.val = k.val; omega

/-- The rows of chunk 4 of a block. -/
theorem at4 (X : S1x512x128.Idx → EReal) (s : Fin 64) (k : Fin 128) :
    X ((Rect.unit (s := S1x512x128) ![0, 256, 0] ![1, 64, 128] inb_S1x512x128_S1x64x128_0_256_0).idx (ix3 0 s k : S1x64x128.Idx)) = X (ix3 0 ⟨64 * 4 + s.val, by omega⟩ k) := by
  refine congrArg X ?_
  funext a; apply Fin.ext; match a with
  | ⟨0, _⟩ => rfl
  | ⟨1, _⟩ => show 256 + 1 * s.val = 64 * 4 + s.val; omega
  | ⟨2, _⟩ => show 0 + 1 * k.val = k.val; omega

/-- The rows of chunk 5 of a block. -/
theorem at5 (X : S1x512x128.Idx → EReal) (s : Fin 64) (k : Fin 128) :
    X ((Rect.unit (s := S1x512x128) ![0, 320, 0] ![1, 64, 128] inb_S1x512x128_S1x64x128_0_320_0).idx (ix3 0 s k : S1x64x128.Idx)) = X (ix3 0 ⟨64 * 5 + s.val, by omega⟩ k) := by
  refine congrArg X ?_
  funext a; apply Fin.ext; match a with
  | ⟨0, _⟩ => rfl
  | ⟨1, _⟩ => show 320 + 1 * s.val = 64 * 5 + s.val; omega
  | ⟨2, _⟩ => show 0 + 1 * k.val = k.val; omega

/-- The rows of chunk 6 of a block. -/
theorem at6 (X : S1x512x128.Idx → EReal) (s : Fin 64) (k : Fin 128) :
    X ((Rect.unit (s := S1x512x128) ![0, 384, 0] ![1, 64, 128] inb_S1x512x128_S1x64x128_0_384_0).idx (ix3 0 s k : S1x64x128.Idx)) = X (ix3 0 ⟨64 * 6 + s.val, by omega⟩ k) := by
  refine congrArg X ?_
  funext a; apply Fin.ext; match a with
  | ⟨0, _⟩ => rfl
  | ⟨1, _⟩ => show 384 + 1 * s.val = 64 * 6 + s.val; omega
  | ⟨2, _⟩ => show 0 + 1 * k.val = k.val; omega

/-- The rows of chunk 7 of a block. -/
theorem at7 (X : S1x512x128.Idx → EReal) (s : Fin 64) (k : Fin 128) :
    X ((Rect.unit (s := S1x512x128) ![0, 448, 0] ![1, 64, 128] inb_S1x512x128_S1x64x128_0_448_0).idx (ix3 0 s k : S1x64x128.Idx)) = X (ix3 0 ⟨64 * 7 + s.val, by omega⟩ k) := by
  refine congrArg X ?_
  funext a; apply Fin.ext; match a with
  | ⟨0, _⟩ => rfl
  | ⟨1, _⟩ => show 448 + 1 * s.val = 64 * 7 + s.val; omega
  | ⟨2, _⟩ => show 0 + 1 * k.val = k.val; omega

/-- The scratch after a point that starts a head: eight chunks on the state before the rows. -/
theorem turnA (hb : ∀ (c : Dev nD) i, m ((c : Thread nD τ).loc main_arg1) i ≠ (⊤ : EReal)) (c : Dev nD) (t : Fin cfg0.N) (k v : Fin 128)
    (h0 : t.val % 4 = 0) (h1 : ¬t.val % 4 = 3) (a : EReal) (n : ℕ) (hn : n = 8 * (t.val % 4))
    (ha : iblk m c 6 t (ix4 0 0 k v) = roll (fs m c t.val k) (gs m c t.val v) a n) :
    (outsAt0 m c t.val t.isLt).2.2 (ix2 v k) = roll (fs m c t.val k) (gs m c t.val v) a (n + 8) := by
  subst hn
  rw [outsAt0_A m c t h0 h1]
  dsimp only
  frame_out
  refine (congrFun (eight _ _ _ _ _ _ _ _ _ _ _ _ _ _ _ _ _ _ _) (ix2 v k)).trans ?_
  refine (part m hb c t k v 7 (by omega) _ _ (fun s => at7 _ s k) (fun s => at7 _ s v) _).trans (congrArg _ ?_)
  refine (part m hb c t k v 6 (by omega) _ _ (fun s => at6 _ s k) (fun s => at6 _ s v) _).trans (congrArg _ ?_)
  refine (part m hb c t k v 5 (by omega) _ _ (fun s => at5 _ s k) (fun s => at5 _ s v) _).trans (congrArg _ ?_)
  refine (part m hb c t k v 4 (by omega) _ _ (fun s => at4 _ s k) (fun s => at4 _ s v) _).trans (congrArg _ ?_)
  refine (part m hb c t k v 3 (by omega) _ _ (fun s => at3 _ s k) (fun s => at3 _ s v) _).trans (congrArg _ ?_)
  refine (part m hb c t k v 2 (by omega) _ _ (fun s => at2 _ s k) (fun s => at2 _ s v) _).trans (congrArg _ ?_)
  refine (part m hb c t k v 1 (by omega) _ _ (fun s => at1 _ s k) (fun s => at1 _ s v) _).trans (congrArg _ ?_)
  refine (part m hb c t k v 0 (by omega) _ _ (fun s => at0 _ s k) (fun s => at0 _ s v) _).trans (congrArg _ ?_)
  unfold k0_pay3
  pointwise []
  exact ha

/-- The scratch after a point inside a head: eight chunks on the scratch before it. -/
theorem turnB (hb : ∀ (c : Dev nD) i, m ((c : Thread nD τ).loc main_arg1) i ≠ (⊤ : EReal)) (c : Dev nD) (t : Fin cfg0.N) (k v : Fin 128)
    (h0 : ¬t.val % 4 = 0) (h1 : ¬t.val % 4 = 3) (a : EReal) (n : ℕ) (hn : n = 8 * (t.val % 4))
    (ha : (outsAt0 m c (t.val - 1) (by omega)).2.2 (ix2 v k) = roll (fs m c t.val k) (gs m c t.val v) a n) :
    (outsAt0 m c t.val t.isLt).2.2 (ix2 v k) = roll (fs m c t.val k) (gs m c t.val v) a (n + 8) := by
  subst hn
  rw [outsAt0_B m c t h0 h1]
  dsimp only
  frame_out
  refine (congrFun (eight _ _ _ _ _ _ _ _ _ _ _ _ _ _ _ _ _ _ _) (ix2 v k)).trans ?_
  refine (part m hb c t k v 7 (by omega) _ _ (fun s => at7 _ s k) (fun s => at7 _ s v) _).trans (congrArg _ ?_)
  refine (part m hb c t k v 6 (by omega) _ _ (fun s => at6 _ s k) (fun s => at6 _ s v) _).trans (congrArg _ ?_)
  refine (part m hb c t k v 5 (by omega) _ _ (fun s => at5 _ s k) (fun s => at5 _ s v) _).trans (congrArg _ ?_)
  refine (part m hb c t k v 4 (by omega) _ _ (fun s => at4 _ s k) (fun s => at4 _ s v) _).trans (congrArg _ ?_)
  refine (part m hb c t k v 3 (by omega) _ _ (fun s => at3 _ s k) (fun s => at3 _ s v) _).trans (congrArg _ ?_)
  refine (part m hb c t k v 2 (by omega) _ _ (fun s => at2 _ s k) (fun s => at2 _ s v) _).trans (congrArg _ ?_)
  refine (part m hb c t k v 1 (by omega) _ _ (fun s => at1 _ s k) (fun s => at1 _ s v) _).trans (congrArg _ ?_)
  refine (part m hb c t k v 0 (by omega) _ _ (fun s => at0 _ s k) (fun s => at0 _ s v) _).trans (congrArg _ ?_)
  exact (congrFun ((Memref.isWhole_whole _).read_unread _) _).trans ha

/-- The scratch after a point that ends a head: eight chunks on the scratch before it. -/
theorem turnC (hb : ∀ (c : Dev nD) i, m ((c : Thread nD τ).loc main_arg1) i ≠ (⊤ : EReal)) (c : Dev nD) (t : Fin cfg0.N) (k v : Fin 128)
    (h0 : ¬t.val % 4 = 0) (h1 : t.val % 4 = 3) (a : EReal) (n : ℕ) (hn : n = 8 * (t.val % 4))
    (ha : (outsAt0 m c (t.val - 1) (by omega)).2.2 (ix2 v k) = roll (fs m c t.val k) (gs m c t.val v) a n) :
    (outsAt0 m c t.val t.isLt).2.2 (ix2 v k) = roll (fs m c t.val k) (gs m c t.val v) a (n + 8) := by
  subst hn
  rw [outsAt0_C m c t h0 h1]
  dsimp only
  frame_out
  refine (congrFun (eight _ _ _ _ _ _ _ _ _ _ _ _ _ _ _ _ _ _ _) (ix2 v k)).trans ?_
  refine (part m hb c t k v 7 (by omega) _ _ (fun s => at7 _ s k) (fun s => at7 _ s v) _).trans (congrArg _ ?_)
  refine (part m hb c t k v 6 (by omega) _ _ (fun s => at6 _ s k) (fun s => at6 _ s v) _).trans (congrArg _ ?_)
  refine (part m hb c t k v 5 (by omega) _ _ (fun s => at5 _ s k) (fun s => at5 _ s v) _).trans (congrArg _ ?_)
  refine (part m hb c t k v 4 (by omega) _ _ (fun s => at4 _ s k) (fun s => at4 _ s v) _).trans (congrArg _ ?_)
  refine (part m hb c t k v 3 (by omega) _ _ (fun s => at3 _ s k) (fun s => at3 _ s v) _).trans (congrArg _ ?_)
  refine (part m hb c t k v 2 (by omega) _ _ (fun s => at2 _ s k) (fun s => at2 _ s v) _).trans (congrArg _ ?_)
  refine (part m hb c t k v 1 (by omega) _ _ (fun s => at1 _ s k) (fun s => at1 _ s v) _).trans (congrArg _ ?_)
  refine (part m hb c t k v 0 (by omega) _ _ (fun s => at0 _ s k) (fun s => at0 _ s v) _).trans (congrArg _ ?_)
  exact (congrFun ((Memref.isWhole_whole _).read_unread _) _).trans ha

/-- The scratch after a point: the recurrence's state after the point's chunks, transposed. -/
theorem held (hb : ∀ (c : Dev nD) i, m ((c : Thread nD τ).loc main_arg1) i ≠ (⊤ : EReal)) (c : Dev nD) (k v : Fin 128) : ∀ (n : ℕ) (hn : n < cfg0.N)
    (B : Fin 4) (_ : B.val = n / 64) (H : Fin 16) (_ : H.val = n / 4 % 16),
    (outsAt0 m c n hn).2.2 (ix2 v k) = roll (fs m c n k) (gs m c n v) (m ((c : Thread nD τ).loc main_arg3) (ix4 B H k v)) (8 * (n % 4) + 8) := by
  intro n
  induction n with
  | zero =>
    intro hn B hB H hH
    exact turnA m hb c ⟨0, hn⟩ k v rfl (by show ¬0 % 4 = 3; decide) _ _ rfl (start m c ⟨0, hn⟩ k v B hB H hH)
  | succ n ih =>
    intro hn B hB H hH
    by_cases h0 : (n + 1) % 4 = 0
    · refine turnA m hb c ⟨n + 1, hn⟩ k v h0 (by show ¬(n + 1) % 4 = 3; omega) _ _ rfl ((start m c ⟨n + 1, hn⟩ k v B hB H hH).trans ?_)
      show _ = roll _ _ _ (8 * ((n + 1) % 4))
      rw [h0]
      rfl
    · have hp := ih (by omega) B (by omega) H (by omega)
      have ef : fs m c n k = fs m c (n + 1) k := by
        unfold fs
        rw [show n / 64 = (n + 1) / 64 by omega, show n / 4 % 16 = (n + 1) / 4 % 16 by omega]
      have eg : gs m c n v = gs m c (n + 1) v := by
        unfold gs
        rw [show n / 64 = (n + 1) / 64 by omega, show n / 4 % 16 = (n + 1) / 4 % 16 by omega]
      rw [ef, eg, show 8 * (n % 4) + 8 = 8 * ((n + 1) % 4) by omega] at hp
      by_cases h1 : (n + 1) % 4 = 3
      · exact turnC m hb c ⟨n + 1, hn⟩ k v h0 h1 _ _ rfl hp
      · exact turnB m hb c ⟨n + 1, hn⟩ k v h0 h1 _ _ rfl hp

/-- The block that a head ends with is the scratch, transposed. -/
theorem ends (c : Dev nD) (t : Fin cfg0.N) (h0 : ¬t.val % 4 = 0) (h1 : t.val % 4 = 3) (k v : Fin 128) :
    (outsAt0 m c t.val t.isLt).2.1 (ix4 0 0 k v) = (outsAt0 m c t.val t.isLt).2.2 (ix2 v k) := by
  rw [outsAt0_C m c t h0 h1]
  dsimp only
  frame_out
  generalize k0_pay1 (F := Ideal) _ = X
  unfold k0_pay2
  pointwise []

/-- A head's block is written back at the head's last point. -/
theorem lasts : ∀ t : Fin cfg0.N, win0_10.flush t = true → t.val % 4 = 3 := by decide +kernel

open Cert.StatePromptIdeal.Read in
/-- The call's second result is the plain recurrence's state after the rows. -/
theorem final (hb : ∀ (c : Dev nD) i, m ((c : Thread nD τ).loc main_arg1) i ≠ (⊤ : EReal)) (c : Dev nD) : (dats m 0 c).arrAt 10 cfg0.N
    = val_main_v165 (F := Ideal) (m ((c : Thread nD τ).loc main_arg0)) (m ((c : Thread nD τ).loc main_arg1)) (m ((c : Thread nD τ).loc main_arg3)) := by
  refine (dats m 0 c).arrAt_eq_of_covers 10 _ (by decide +kernel) fun t hf y => ?_
  obtain ⟨-, -, -, -, -, e10⟩ := idx t
  have h3 : t.val % 4 = 3 := lasts t hf
  blk_simp
  rw [after0_10]
  have ht : t.val < 256 := t.isLt
  have hy0 : (y 0).val < 1 := (y 0).isLt
  have hy1 : (y 1).val < 1 := (y 1).isLt
  have hy2 : (y 2).val < 128 := (y 2).isLt
  have hy3 : (y 3).val < 128 := (y 3).isLt
  have ey : y = ix4 0 0 (y 2) (y 3) := by
    funext a; apply Fin.ext; match a with
    | ⟨0, _⟩ => show (y 0).val = 0; omega
    | ⟨1, _⟩ => show (y 1).val = 0; omega
    | ⟨2, _⟩ => rfl
    | ⟨3, _⟩ => rfl
  refine (congrArg _ ey).trans ((ends m c t (by omega) h3 (y 2) (y 3)).trans ((held m hb c (y 2) (y 3) t.val t.isLt ⟨t.val / 64, by omega⟩ rfl
    ⟨t.val / 4 % 16, by omega⟩ rfl).trans ?_))
  rw [h3]
  refine (plain _ _ _ ⟨t.val / 64, by omega⟩ ⟨t.val / 4 % 16, by omega⟩ (y 2) (y 3)).symm.trans (congrArg _ ?_)
  blk_ext [e10]

end Cert.RecurPromptIdeal.Value

end
-- ==== Proof.lean ====
/- The proof of the claims: the prompt's stick-breaking attention, the projections around it and the combination of the experts, against plain mathematics. -/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Value
public import proofs.«01_k».proof.Proof.Gen.StickIdeal
public import proofs.«01_k».proof.Proof.Gen.StickIdeal.Run
public import proofs.«01_k».proof.Proof.Gen.StickIdeal.Read
public import proofs.«01_k».proof.Proof.Gen.Pre_finite
public import proofs.«01_k».proof.Proof.Final
public import proofs.«01_k».proof.Proof.Gen.KProj
public import proofs.«01_k».proof.Proof.Gen.KProj.Frame
public import proofs.«01_k».proof.Proof.Gen.KProjIdeal
public import proofs.«01_k».proof.Proof.Gen.KProjIdeal.Value
public import proofs.«01_k».proof.Proof.Gen.KeysIdeal
public import proofs.«01_k».proof.Proof.Gen.KeysIdeal.Run
public import proofs.«01_k».proof.Proof.Gen.KeysIdeal.Read
public import proofs.«01_k».proof.Proof.KTile
public import proofs.«01_k».proof.Proof.Gen.VProj
public import proofs.«01_k».proof.Proof.Gen.VProj.Frame
public import proofs.«01_k».proof.Proof.Gen.VProjIdeal
public import proofs.«01_k».proof.Proof.Gen.VProjIdeal.Value
public import proofs.«01_k».proof.Proof.Gen.ValuesIdeal
public import proofs.«01_k».proof.Proof.Gen.ValuesIdeal.Run
public import proofs.«01_k».proof.Proof.Gen.ValuesIdeal.Read
public import proofs.«01_k».proof.Proof.VTile
public import proofs.«01_k».proof.Proof.Gen.HgIn
public import proofs.«01_k».proof.Proof.Gen.HgIn.Frame
public import proofs.«01_k».proof.Proof.Gen.HgInIdeal
public import proofs.«01_k».proof.Proof.Gen.HgInIdeal.Value
public import proofs.«01_k».proof.Proof.Gen.GatesIdeal
public import proofs.«01_k».proof.Proof.Gen.GatesIdeal.Run
public import proofs.«01_k».proof.Proof.Gen.GatesIdeal.Read
public import proofs.«01_k».proof.Proof.HgTile
public import proofs.«01_k».proof.Proof.Gen.QProj
public import proofs.«01_k».proof.Proof.Gen.QProj.Frame
public import proofs.«01_k».proof.Proof.Gen.QProjIdeal
public import proofs.«01_k».proof.Proof.Gen.QProjIdeal.Value
public import proofs.«01_k».proof.Proof.Gen.QueriesIdeal
public import proofs.«01_k».proof.Proof.Gen.QueriesIdeal.Run
public import proofs.«01_k».proof.Proof.Gen.QueriesIdeal.Read
public import proofs.«01_k».proof.Proof.QTile
public import proofs.«01_k».proof.Proof.Gen.SbOut
public import proofs.«01_k».proof.Proof.Gen.SbOut.Frame
public import proofs.«01_k».proof.Proof.Gen.SbOutIdeal
public import proofs.«01_k».proof.Proof.Gen.SbOutIdeal.Value
public import proofs.«01_k».proof.Proof.Gen.MixedIdeal
public import proofs.«01_k».proof.Proof.Gen.MixedIdeal.Run
public import proofs.«01_k».proof.Proof.Gen.MixedIdeal.Read
public import proofs.«01_k».proof.Proof.SbTile
public import proofs.«01_k».proof.Proof.Gen.KSample
public import proofs.«01_k».proof.Proof.Gen.KSample.Frame
public import proofs.«01_k».proof.Proof.Gen.KSampleIdeal
public import proofs.«01_k».proof.Proof.Gen.KSampleIdeal.Value
public import proofs.«01_k».proof.Proof.Gen.KeysSampleIdeal
public import proofs.«01_k».proof.Proof.Gen.KeysSampleIdeal.Run
public import proofs.«01_k».proof.Proof.Gen.KeysSampleIdeal.Read
public import proofs.«01_k».proof.Proof.KSampleTile
public import proofs.«01_k».proof.Proof.Gen.VSample
public import proofs.«01_k».proof.Proof.Gen.VSample.Frame
public import proofs.«01_k».proof.Proof.Gen.VSampleIdeal
public import proofs.«01_k».proof.Proof.Gen.VSampleIdeal.Value
public import proofs.«01_k».proof.Proof.Gen.ValuesSampleIdeal
public import proofs.«01_k».proof.Proof.Gen.ValuesSampleIdeal.Run
public import proofs.«01_k».proof.Proof.Gen.ValuesSampleIdeal.Read
public import proofs.«01_k».proof.Proof.VSampleTile
public import proofs.«01_k».proof.Proof.Gen.Combine
public import proofs.«01_k».proof.Proof.Gen.Combine.Frame
public import proofs.«01_k».proof.Proof.Gen.CombineIdeal
public import proofs.«01_k».proof.Proof.Gen.CombineIdeal.Value
public import proofs.«01_k».proof.Proof.Gen.CombinedIdeal
public import proofs.«01_k».proof.Proof.Gen.CombinedIdeal.Run
public import proofs.«01_k».proof.Proof.Gen.CombinedIdeal.Read
public import proofs.«01_k».proof.Proof.CombineTile
public import proofs.«01_k».proof.Proof.Gen.CombineSample
public import proofs.«01_k».proof.Proof.Gen.CombineSample.Frame
public import proofs.«01_k».proof.Proof.Gen.CombineSampleIdeal
public import proofs.«01_k».proof.Proof.Gen.CombineSampleIdeal.Value
public import proofs.«01_k».proof.Proof.Gen.CombinedSampleIdeal
public import proofs.«01_k».proof.Proof.Gen.CombinedSampleIdeal.Run
public import proofs.«01_k».proof.Proof.Gen.CombinedSampleIdeal.Read
public import proofs.«01_k».proof.Proof.CombineSampleTile
public import proofs.«01_k».proof.Proof.Gen.ExpertsShared
public import proofs.«01_k».proof.Proof.Gen.ExpertsSharedIdeal
public import proofs.«01_k».proof.Proof.Gen.ExpertsSharedIdeal.Launch
public import proofs.«01_k».proof.Proof.Gen.ExpertsSharedIdeal.Skeleton
public import proofs.«01_k».proof.Proof.Gen.ExpertsSharedIdeal.Flash
public import proofs.«01_k».proof.Proof.Gen.SharedIdeal
public import proofs.«01_k».proof.Proof.Gen.SharedIdeal.Run
public import proofs.«01_k».proof.Proof.Gen.SharedIdeal.Read
public import proofs.«01_k».proof.Proof.Gen.Experts
public import proofs.«01_k».proof.Proof.Gen.ExpertsIdeal
public import proofs.«01_k».proof.Proof.Gen.ExpertsIdeal.Launch
public import proofs.«01_k».proof.Proof.Gen.ExpertsIdeal.Skeleton
public import proofs.«01_k».proof.Proof.Gen.ExpertsIdeal.Flash
public import proofs.«01_k».proof.Proof.Gen.RoutedIdeal
public import proofs.«01_k».proof.Proof.Gen.RoutedIdeal.Run
public import proofs.«01_k».proof.Proof.Gen.RoutedIdeal.Read
public import proofs.«01_k».proof.Proof.Gen.Pre_in_use
public import proofs.«01_k».proof.Proof.Gen.Recur
public import proofs.«01_k».proof.Proof.Gen.Recur.Frame
public import proofs.«01_k».proof.Proof.Gen.RecurIdeal
public import proofs.«01_k».proof.Proof.Gen.RecurIdeal.Value
public import proofs.«01_k».proof.Proof.Gen.StateIdeal
public import proofs.«01_k».proof.Proof.Gen.StateIdeal.Run
public import proofs.«01_k».proof.Proof.Gen.StateIdeal.Read
public import proofs.«01_k».proof.Proof.Gen.Pre_bounded
public import proofs.«01_k».proof.Proof.Gen.RecurPrompt
public import proofs.«01_k».proof.Proof.Gen.RecurPrompt.Frame
public import proofs.«01_k».proof.Proof.Gen.RecurPromptIdeal
public import proofs.«01_k».proof.Proof.Gen.RecurPromptIdeal.Value
public import proofs.«01_k».proof.Proof.Gen.StatePromptIdeal
public import proofs.«01_k».proof.Proof.Gen.StatePromptIdeal.Run
public import proofs.«01_k».proof.Proof.Gen.StatePromptIdeal.Read
public import proofs.«01_k».proof.Proof.Gen.Pre_bounded_prompt
public import proofs.«01_k».proof.Proof.ExpertsValue
public import proofs.«01_k».proof.Proof.ExpertsSame
public import proofs.«01_k».proof.Proof.SharedValue
public import proofs.«01_k».proof.Proof.SharedSame
public import proofs.«01_k».proof.Proof.RecurTile
public import proofs.«01_k».proof.Proof.PromptTile
public import Idealize.ShloMosaic.Lib.Claim

@[expose] public section

namespace Cert.Proof

open Idealize.ShloMosaic Idealize.ShloMosaic.TcCoe Idealize.SL.Sem

/-- The kernel terminates, leaves its arguments as they were and every counter at zero. -/
theorem frame_attn : Cert.quiescent_Attn := fun m ρ _ => Cert.Attn.Gen.frame m ρ

/-- So does its ideal reading. -/
theorem frame_attnIdeal : Cert.quiescent_AttnIdeal := fun m ρ _ => Cert.AttnIdeal.Gen.frame m ρ

/-- So does the reference's ideal reading. -/
theorem frame_stickIdeal : Cert.quiescent_StickIdeal := fun m ρ _ =>
  (θ_run Cert.StickIdeal.defs _ _).mono (fun r h => ⟨fun c => (h c).2,
      Idealize.ShloMosaic.sem_eq_zero_of_no_sems (by decide) r.2⟩)
    (Cert.StickIdeal.Value.run (F := Ideal) m ρ)

/-- The two named constants are `1 / log 2` and `1 / (log 2 · sqrt 128)`, rounded. -/
theorem named : Cert.preserves_Attn_AttnIdeal :=
  ⟨IdealRules.named_const.statement Cert.AttnIdeal.κ "log2e" .f32 0x3FB8AA3B#32 _ rfl,
    IdealRules.named_const.statement Cert.AttnIdeal.κ "scale_log2e" .f32 0x3E0293EE#32 _ rfl⟩

/-- On finite queries, keys and biases the kernel ends with the reference's result. -/
theorem value : Cert.algebraic_AttnIdeal_StickIdeal_pre_finite := by
  intro m g m' g' hpre hag
  refine ⟨fun c => Cert.StickIdeal.Value.res_main_v26 m' c, ?_, ?_⟩
  · refine (θ_run Cert.AttnIdeal.defs _ _).mono (fun _ h c => ⟨(h c).1.trans ?_, (h c).2⟩)
      (Cert.AttnIdeal.Value.run_blocks (F := Ideal) m g)
    obtain ⟨h0, h1, h3⟩ := Cert.AttnIdeal.Value.finite_decode _ _ _ _ (hpre c)
    obtain ⟨a0, a1, a2, a3⟩ := hag c
    refine (Cert.AttnIdeal.Value.final m c _ _ _ h0 h1 h3).trans ((Cert.StickIdeal.Read.val_main_v26_eq m' c).trans ?_).symm
    rw [a0, a1, a2, a3]
  · exact Cert.StickIdeal.Value.run (F := Ideal) m' g'

theorem frame_k : Cert.quiescent_KProj := fun m ρ _ => Cert.KProj.Gen.frame m ρ

theorem frame_kIdeal : Cert.quiescent_KProjIdeal := fun m ρ _ => Cert.KProjIdeal.Gen.frame m ρ

theorem frame_kRef : Cert.quiescent_KeysIdeal := fun m ρ _ =>
  (θ_run Cert.KeysIdeal.defs _ _).mono (fun r h => ⟨fun c => (h c).2,
      Idealize.ShloMosaic.sem_eq_zero_of_no_sems (by decide) r.2⟩)
    (Cert.KeysIdeal.Value.run (F := Ideal) m ρ)

/-- The call `KProj` ends with its reference's result. -/
theorem value_k : Cert.algebraic_KProjIdeal_KeysIdeal := by
  intro m g m' g' _ hag
  refine ⟨fun c => Cert.KeysIdeal.Read.val_main_v18 (F := Ideal) (m' ((c.tc : Thread _ _).loc Cert.KeysIdeal.main_arg0)) (m' ((c.tc : Thread _ _).loc Cert.KeysIdeal.main_arg1)) (m' ((c.tc : Thread _ _).loc Cert.KeysIdeal.main_arg2)), ?_, ?_⟩
  · refine (θ_run Cert.KProjIdeal.defs _ _).mono (fun _ h c => ⟨(h c).1.trans ?_, (h c).2⟩)
      (Cert.KProjIdeal.Value.run_blocks (F := Ideal) m g)
    obtain ⟨a0, a1, a2⟩ := hag c
    refine (Cert.KProjIdeal.Value.final m c).trans ?_
    dsimp only
    rw [a0, a1, a2]
  · exact (θ_run Cert.KeysIdeal.defs _ _).mono (fun _ h c => ⟨(h c).1.trans (Cert.KeysIdeal.Read.val_main_v18_eq _ _ _ ), (h c).2⟩) (Cert.KeysIdeal.Value.run (F := Ideal) m' g')

theorem frame_v : Cert.quiescent_VProj := fun m ρ _ => Cert.VProj.Gen.frame m ρ

theorem frame_vIdeal : Cert.quiescent_VProjIdeal := fun m ρ _ => Cert.VProjIdeal.Gen.frame m ρ

theorem frame_vRef : Cert.quiescent_ValuesIdeal := fun m ρ _ =>
  (θ_run Cert.ValuesIdeal.defs _ _).mono (fun r h => ⟨fun c => (h c).2,
      Idealize.ShloMosaic.sem_eq_zero_of_no_sems (by decide) r.2⟩)
    (Cert.ValuesIdeal.Value.run (F := Ideal) m ρ)

/-- The call `VProj` ends with its reference's result. -/
theorem value_v : Cert.algebraic_VProjIdeal_ValuesIdeal := by
  intro m g m' g' _ hag
  refine ⟨fun c => Cert.ValuesIdeal.Read.val_main_v3 (F := Ideal) (m' ((c.tc : Thread _ _).loc Cert.ValuesIdeal.main_arg0)) (m' ((c.tc : Thread _ _).loc Cert.ValuesIdeal.main_arg1)), ?_, ?_⟩
  · refine (θ_run Cert.VProjIdeal.defs _ _).mono (fun _ h c => ⟨(h c).1.trans ?_, (h c).2⟩)
      (Cert.VProjIdeal.Value.run_blocks (F := Ideal) m g)
    obtain ⟨a0, a1⟩ := hag c
    refine (Cert.VProjIdeal.Value.final m c).trans ?_
    dsimp only
    rw [a0, a1]
  · exact (θ_run Cert.ValuesIdeal.defs _ _).mono (fun _ h c => ⟨(h c).1.trans (Cert.ValuesIdeal.Read.val_main_v3_eq _ _ ), (h c).2⟩) (Cert.ValuesIdeal.Value.run (F := Ideal) m' g')

theorem frame_hg : Cert.quiescent_HgIn := fun m ρ _ => Cert.HgIn.Gen.frame m ρ

theorem frame_hgIdeal : Cert.quiescent_HgInIdeal := fun m ρ _ => Cert.HgInIdeal.Gen.frame m ρ

theorem frame_hgRef : Cert.quiescent_GatesIdeal := fun m ρ _ =>
  (θ_run Cert.GatesIdeal.defs _ _).mono (fun r h => ⟨fun c => (h c).2,
      Idealize.ShloMosaic.sem_eq_zero_of_no_sems (by decide) r.2⟩)
    (Cert.GatesIdeal.Value.run (F := Ideal) m ρ)

/-- The call `HgIn` ends with its reference's result. -/
theorem value_hg : Cert.algebraic_HgInIdeal_GatesIdeal := by
  intro m g m' g' _ hag
  refine ⟨fun c => Cert.GatesIdeal.Read.val_main_v2 (F := Ideal) (m' ((c.tc : Thread _ _).loc Cert.GatesIdeal.main_arg0)) (m' ((c.tc : Thread _ _).loc Cert.GatesIdeal.main_arg1)), ?_, ?_⟩
  · refine (θ_run Cert.HgInIdeal.defs _ _).mono (fun _ h c => ⟨(h c).1.trans ?_, (h c).2⟩)
      (Cert.HgInIdeal.Value.run_blocks (F := Ideal) m g)
    obtain ⟨a0, a1⟩ := hag c
    refine (Cert.HgInIdeal.Value.final m c).trans ?_
    dsimp only
    rw [a0, a1]
  · exact (θ_run Cert.GatesIdeal.defs _ _).mono (fun _ h c => ⟨(h c).1.trans (Cert.GatesIdeal.Read.val_main_v2_eq _ _ ), (h c).2⟩) (Cert.GatesIdeal.Value.run (F := Ideal) m' g')

theorem frame_q : Cert.quiescent_QProj := fun m ρ _ => Cert.QProj.Gen.frame m ρ

theorem frame_qIdeal : Cert.quiescent_QProjIdeal := fun m ρ _ => Cert.QProjIdeal.Gen.frame m ρ

theorem frame_qRef : Cert.quiescent_QueriesIdeal := fun m ρ _ =>
  (θ_run Cert.QueriesIdeal.defs _ _).mono (fun r h => ⟨fun c => (h c).2,
      Idealize.ShloMosaic.sem_eq_zero_of_no_sems (by decide) r.2⟩)
    (Cert.QueriesIdeal.Value.run (F := Ideal) m ρ)

/-- The call `QProj` ends with its reference's result. -/
theorem value_q : Cert.algebraic_QProjIdeal_QueriesIdeal := by
  intro m g m' g' _ hag
  refine ⟨fun c => Cert.QueriesIdeal.Read.val_main_v18 (F := Ideal) (m' ((c.tc : Thread _ _).loc Cert.QueriesIdeal.main_arg0)) (m' ((c.tc : Thread _ _).loc Cert.QueriesIdeal.main_arg1)) (m' ((c.tc : Thread _ _).loc Cert.QueriesIdeal.main_arg2)), ?_, ?_⟩
  · refine (θ_run Cert.QProjIdeal.defs _ _).mono (fun _ h c => ⟨(h c).1.trans ?_, (h c).2⟩)
      (Cert.QProjIdeal.Value.run_blocks (F := Ideal) m g)
    obtain ⟨a0, a1, a2⟩ := hag c
    refine (Cert.QProjIdeal.Value.final m c).trans ?_
    dsimp only
    rw [a0, a1, a2]
  · exact (θ_run Cert.QueriesIdeal.defs _ _).mono (fun _ h c => ⟨(h c).1.trans (Cert.QueriesIdeal.Read.val_main_v18_eq _ _ _ ), (h c).2⟩) (Cert.QueriesIdeal.Value.run (F := Ideal) m' g')

theorem frame_sb : Cert.quiescent_SbOut := fun m ρ _ => Cert.SbOut.Gen.frame m ρ

theorem frame_sbIdeal : Cert.quiescent_SbOutIdeal := fun m ρ _ => Cert.SbOutIdeal.Gen.frame m ρ

theorem frame_sbRef : Cert.quiescent_MixedIdeal := fun m ρ _ =>
  (θ_run Cert.MixedIdeal.defs _ _).mono (fun r h => ⟨fun c => (h c).2,
      Idealize.ShloMosaic.sem_eq_zero_of_no_sems (by decide) r.2⟩)
    (Cert.MixedIdeal.Value.run (F := Ideal) m ρ)

/-- The call `SbOut` ends with its reference's result. -/
theorem value_sb : Cert.algebraic_SbOutIdeal_MixedIdeal := by
  intro m g m' g' _ hag
  refine ⟨fun c => Cert.MixedIdeal.Read.val_main_v9 (F := Ideal) (m' ((c.tc : Thread _ _).loc Cert.MixedIdeal.main_arg0)) (m' ((c.tc : Thread _ _).loc Cert.MixedIdeal.main_arg1)) (m' ((c.tc : Thread _ _).loc Cert.MixedIdeal.main_arg2)) (m' ((c.tc : Thread _ _).loc Cert.MixedIdeal.main_arg3)), ?_, ?_⟩
  · refine (θ_run Cert.SbOutIdeal.defs _ _).mono (fun _ h c => ⟨(h c).1.trans ?_, (h c).2⟩)
      (Cert.SbOutIdeal.Value.run_blocks (F := Ideal) m g)
    obtain ⟨a0, a1, a2, a3⟩ := hag c
    refine (Cert.SbOutIdeal.Value.final m c).trans ?_
    dsimp only
    rw [a0, a1, a2, a3]
  · exact (θ_run Cert.MixedIdeal.defs _ _).mono (fun _ h c => ⟨(h c).1.trans (Cert.MixedIdeal.Read.val_main_v9_eq _ _ _ _ ), (h c).2⟩) (Cert.MixedIdeal.Value.run (F := Ideal) m' g')

theorem frame_kS : Cert.quiescent_KSample := fun m ρ _ => Cert.KSample.Gen.frame m ρ

theorem frame_kSIdeal : Cert.quiescent_KSampleIdeal := fun m ρ _ => Cert.KSampleIdeal.Gen.frame m ρ

theorem frame_kSRef : Cert.quiescent_KeysSampleIdeal := fun m ρ _ =>
  (θ_run Cert.KeysSampleIdeal.defs _ _).mono (fun r h => ⟨fun c => (h c).2, Idealize.ShloMosaic.sem_eq_zero_of_no_sems (by decide) r.2⟩)
    (Cert.KeysSampleIdeal.Value.run (F := Ideal) m ρ)

/-- The call `KSample` ends with its reference's result. -/
theorem value_kS : Cert.algebraic_KSampleIdeal_KeysSampleIdeal := by
  intro m g m' g' _ hag
  refine ⟨fun c => Cert.KeysSampleIdeal.Read.val_main_v18 (F := Ideal) (m' ((c.tc : Thread _ _).loc Cert.KeysSampleIdeal.main_arg0)) (m' ((c.tc : Thread _ _).loc Cert.KeysSampleIdeal.main_arg1)) (m' ((c.tc : Thread _ _).loc Cert.KeysSampleIdeal.main_arg2)), ?_, ?_⟩
  · refine (θ_run Cert.KSampleIdeal.defs _ _).mono (fun _ h c => ⟨(h c).1.trans ?_, (h c).2⟩)
      (Cert.KSampleIdeal.Value.run_blocks (F := Ideal) m g)
    obtain ⟨a0, a1, a2⟩ := hag c
    refine (Cert.KSampleIdeal.Value.final m c).trans ?_
    dsimp only
    rw [a0, a1, a2]
  · exact (θ_run Cert.KeysSampleIdeal.defs _ _).mono (fun _ h c => ⟨(h c).1.trans (Cert.KeysSampleIdeal.Read.val_main_v18_eq _ _ _ ), (h c).2⟩) (Cert.KeysSampleIdeal.Value.run (F := Ideal) m' g')

theorem frame_vS : Cert.quiescent_VSample := fun m ρ _ => Cert.VSample.Gen.frame m ρ

theorem frame_vSIdeal : Cert.quiescent_VSampleIdeal := fun m ρ _ => Cert.VSampleIdeal.Gen.frame m ρ

theorem frame_vSRef : Cert.quiescent_ValuesSampleIdeal := fun m ρ _ =>
  (θ_run Cert.ValuesSampleIdeal.defs _ _).mono (fun r h => ⟨fun c => (h c).2, Idealize.ShloMosaic.sem_eq_zero_of_no_sems (by decide) r.2⟩)
    (Cert.ValuesSampleIdeal.Value.run (F := Ideal) m ρ)

/-- The call `VSample` ends with its reference's result. -/
theorem value_vS : Cert.algebraic_VSampleIdeal_ValuesSampleIdeal := by
  intro m g m' g' _ hag
  refine ⟨fun c => Cert.ValuesSampleIdeal.Read.val_main_v3 (F := Ideal) (m' ((c.tc : Thread _ _).loc Cert.ValuesSampleIdeal.main_arg0)) (m' ((c.tc : Thread _ _).loc Cert.ValuesSampleIdeal.main_arg1)), ?_, ?_⟩
  · refine (θ_run Cert.VSampleIdeal.defs _ _).mono (fun _ h c => ⟨(h c).1.trans ?_, (h c).2⟩)
      (Cert.VSampleIdeal.Value.run_blocks (F := Ideal) m g)
    obtain ⟨a0, a1⟩ := hag c
    refine (Cert.VSampleIdeal.Value.final m c).trans ?_
    dsimp only
    rw [a0, a1]
  · exact (θ_run Cert.ValuesSampleIdeal.defs _ _).mono (fun _ h c => ⟨(h c).1.trans (Cert.ValuesSampleIdeal.Read.val_main_v3_eq _ _ ), (h c).2⟩) (Cert.ValuesSampleIdeal.Value.run (F := Ideal) m' g')

theorem frame_c : Cert.quiescent_Combine := fun m ρ _ => Cert.Combine.Gen.frame m ρ

theorem frame_cIdeal : Cert.quiescent_CombineIdeal := fun m ρ _ => Cert.CombineIdeal.Gen.frame m ρ

theorem frame_cRef : Cert.quiescent_CombinedIdeal := fun m ρ _ =>
  (θ_run Cert.CombinedIdeal.defs _ _).mono (fun r h => ⟨fun c => (h c).2, Idealize.ShloMosaic.sem_eq_zero_of_no_sems (by decide) r.2⟩)
    (Cert.CombinedIdeal.Value.run (F := Ideal) m ρ)

/-- The call `Combine` ends with its reference's result. -/
theorem value_c : Cert.algebraic_CombineIdeal_CombinedIdeal := by
  intro m g m' g' _ hag
  refine ⟨fun c => Cert.CombinedIdeal.Read.val_main_v10 (F := Ideal) (m' ((c.tc : Thread _ _).loc Cert.CombinedIdeal.main_arg0)) (m' ((c.tc : Thread _ _).loc Cert.CombinedIdeal.main_arg1)) (m' ((c.tc : Thread _ _).loc Cert.CombinedIdeal.main_arg2)) (m' ((c.tc : Thread _ _).loc Cert.CombinedIdeal.main_arg3)) (m' ((c.tc : Thread _ _).loc Cert.CombinedIdeal.main_arg4)), ?_, ?_⟩
  · refine (θ_run Cert.CombineIdeal.defs _ _).mono (fun _ h c => ⟨(h c).1.trans ?_, (h c).2⟩)
      (Cert.CombineIdeal.Value.run_blocks (F := Ideal) m g)
    obtain ⟨a0, a1, a2, a3, a4⟩ := hag c
    refine (Cert.CombineIdeal.Value.final m c).trans ?_
    dsimp only
    rw [a0, a1, a2, a3, a4]
  · exact (θ_run Cert.CombinedIdeal.defs _ _).mono (fun _ h c => ⟨(h c).1.trans (Cert.CombinedIdeal.Read.val_main_v10_eq _ _ _ _ _ ), (h c).2⟩) (Cert.CombinedIdeal.Value.run (F := Ideal) m' g')

theorem frame_cS : Cert.quiescent_CombineSample := fun m ρ _ => Cert.CombineSample.Gen.frame m ρ

theorem frame_cSIdeal : Cert.quiescent_CombineSampleIdeal := fun m ρ _ => Cert.CombineSampleIdeal.Gen.frame m ρ

theorem frame_cSRef : Cert.quiescent_CombinedSampleIdeal := fun m ρ _ =>
  (θ_run Cert.CombinedSampleIdeal.defs _ _).mono (fun r h => ⟨fun c => (h c).2, Idealize.ShloMosaic.sem_eq_zero_of_no_sems (by decide) r.2⟩)
    (Cert.CombinedSampleIdeal.Value.run (F := Ideal) m ρ)

/-- The call `CombineSample` ends with its reference's result. -/
theorem value_cS : Cert.algebraic_CombineSampleIdeal_CombinedSampleIdeal := by
  intro m g m' g' _ hag
  refine ⟨fun c => Cert.CombinedSampleIdeal.Read.val_main_v10 (F := Ideal) (m' ((c.tc : Thread _ _).loc Cert.CombinedSampleIdeal.main_arg0)) (m' ((c.tc : Thread _ _).loc Cert.CombinedSampleIdeal.main_arg1)) (m' ((c.tc : Thread _ _).loc Cert.CombinedSampleIdeal.main_arg2)) (m' ((c.tc : Thread _ _).loc Cert.CombinedSampleIdeal.main_arg3)) (m' ((c.tc : Thread _ _).loc Cert.CombinedSampleIdeal.main_arg4)), ?_, ?_⟩
  · refine (θ_run Cert.CombineSampleIdeal.defs _ _).mono (fun _ h c => ⟨(h c).1.trans ?_, (h c).2⟩)
      (Cert.CombineSampleIdeal.Value.run_blocks (F := Ideal) m g)
    obtain ⟨a0, a1, a2, a3, a4⟩ := hag c
    refine (Cert.CombineSampleIdeal.Value.final m c).trans ?_
    dsimp only
    rw [a0, a1, a2, a3, a4]
  · exact (θ_run Cert.CombinedSampleIdeal.defs _ _).mono (fun _ h c => ⟨(h c).1.trans (Cert.CombinedSampleIdeal.Read.val_main_v10_eq _ _ _ _ _ ), (h c).2⟩) (Cert.CombinedSampleIdeal.Value.run (F := Ideal) m' g')

/-- A comparison that reads one holds. -/
theorem of_bit {b : Bool} (h : BitVec.ofBool b = 1#1) : b = true := by
  cases b
  · exact absurd h (by decide)
  · rfl

/-- A signed word from zero on and below 64 is below 64. -/
theorem below64 (x : BitVec 32) (h0 : (0#32 : BitVec 32).sle x = true) (h1 : x.slt 64#32 = true) : x.toNat < 64 := by
  rw [BitVec.sle_iff_toInt_le] at h0
  rw [BitVec.slt_iff_toInt_lt] at h1
  have e0 : (0#32 : BitVec 32).toInt = 0 := by decide
  have e1 : (64#32 : BitVec 32).toInt = 64 := by decide
  have := BitVec.toInt_eq_toNat_cond x
  have hx := x.isLt
  split at this <;> omega

/-- A signed word from one on is positive. -/
theorem positive (x : BitVec 32) (h : (1#32 : BitVec 32).sle x = true) : (0#32 : BitVec 32).slt x = true := by
  rw [BitVec.sle_iff_toInt_le] at h
  rw [BitVec.slt_iff_toInt_lt]
  have e0 : (0#32 : BitVec 32).toInt = 0 := by decide
  have e1 : (1#32 : BitVec 32).toInt = 1 := by decide
  omega

open Cert.ExpertsIdeal in
/-- What the precondition says: some block is in use, and every block's expert is one of the 64. -/
theorem in_use {F : FTy → Type} [FloatOps F] (m : (ℓ : Loc nD τ sig) → Buf (Elt F) ℓ) (c : Dev nD)
    (h0 : cmpi .sge (m ((c.tc : Thread nD τ).loc main_arg2) : IVec S1 32) (fun _ => 1#32) = fun _ => 1#1)
    (h1 : cmpi .sge (m ((c.tc : Thread nD τ).loc main_arg1) : IVec S193 32) (fun _ => 0#32) = fun _ => 1#1)
    (h2 : cmpi .slt (m ((c.tc : Thread nD τ).loc main_arg1) : IVec S193 32) (fun _ => 64#32) = fun _ => 1#1) : Hand.InUse m c :=
  ⟨positive _ (of_bit (congrFun h0 Hand.ent0)),
    fun t => below64 _ (of_bit (congrFun h1 (Hand.ent t))) (of_bit (congrFun h2 (Hand.ent t)))⟩

open Cert.ExpertsIdeal in
/-- The schedule of the one device is the schedule of every device. -/
theorem scheds {F : FTy → Type} [FloatOps F] (m : (ℓ : Loc nD τ sig) → Buf (Elt F) ℓ) (h : Hand.InUse m 0) (c : Dev nD) :
    Hand.Sched (Hand.tb m c) (Hand.pendOf (Hand.blk m 0) (Hand.runs m 0)) (Hand.curOf (Hand.blk m 0) (Hand.runs m 0)) := by
  obtain rfl : c = 0 := Subsingleton.elim _ _
  exact Hand.sched m 0 h

theorem frame_eIdeal : Cert.quiescent_ExpertsIdeal := fun m ρ h =>
  Cert.ExpertsIdeal.Hand.frame_of_run m ρ (scheds m (in_use m 0 (h 0).1 (h 0).2.1 (h 0).2.2))

theorem frame_e : Cert.quiescent_Experts := fun m ρ h =>
  Cert.Experts.Hand.of_ideal _ _
    (Cert.ExpertsIdeal.Hand.frame_of_run (F := Bits) m ρ (scheds m (in_use (F := Bits) m 0 (h 0).1 (h 0).2.1 (h 0).2.2)))

theorem frame_eRef : Cert.quiescent_RoutedIdeal := fun m ρ _ =>
  (θ_run Cert.RoutedIdeal.defs _ _).mono (fun r h => ⟨fun c => (h c).2, Idealize.ShloMosaic.sem_eq_zero_of_no_sems (by decide) r.2⟩)
    (Cert.RoutedIdeal.Value.run (F := Ideal) m ρ)

/-- The call `Experts` ends with its reference's result, where the blocks' experts are experts and some block is in use. -/
theorem value_e : Cert.algebraic_ExpertsIdeal_RoutedIdeal := by
  intro m g m' g' h hag
  have hu := in_use m 0 (h 0).1 (h 0).2.1 (h 0).2.2
  refine ⟨fun c => Cert.RoutedIdeal.Read.val_main_v41 (F := Ideal) (m' ((c.tc : Thread _ _).loc Cert.RoutedIdeal.main_arg0)) (m' ((c.tc : Thread _ _).loc Cert.RoutedIdeal.main_arg1)) (m' ((c.tc : Thread _ _).loc Cert.RoutedIdeal.main_arg2)) (m' ((c.tc : Thread _ _).loc Cert.RoutedIdeal.main_arg3)) (m' ((c.tc : Thread _ _).loc Cert.RoutedIdeal.main_arg4)) (m' ((c.tc : Thread _ _).loc Cert.RoutedIdeal.main_arg5)), ?_, ?_⟩
  · refine (θ_run Cert.ExpertsIdeal.defs _ _).mono (fun _ h c => ⟨((h.1 c).1 1).trans ?_, Cert.ExpertsIdeal.Hand.args_of m h.1 c⟩)
      (Cert.ExpertsIdeal.Hand.run_all m g (scheds m hu))
    obtain rfl : c = 0 := Subsingleton.elim _ _
    obtain ⟨a0, a1, a2, a3, a4, a5⟩ := hag 0
    refine (Cert.ExpertsIdeal.Hand.final m 0 hu).trans ?_
    dsimp only
    rw [a0, a1, a2, a3, a4, a5]
  · exact (θ_run Cert.RoutedIdeal.defs _ _).mono (fun _ h c => ⟨(h c).1.trans (Cert.RoutedIdeal.Read.val_main_v41_eq _ _ _ _ _ _), (h c).2⟩) (Cert.RoutedIdeal.Value.run (F := Ideal) m' g')

theorem frame_r : Cert.quiescent_Recur := fun m ρ _ => Cert.Recur.Gen.frame m ρ

theorem frame_rIdeal : Cert.quiescent_RecurIdeal := fun m ρ _ => Cert.RecurIdeal.Gen.frame m ρ

theorem frame_rRef : Cert.quiescent_StateIdeal := fun m ρ _ =>
  (θ_run Cert.StateIdeal.defs _ _).mono (fun r h => ⟨fun c => (h c).2, Idealize.ShloMosaic.sem_eq_zero_of_no_sems (by decide) r.2⟩)
    (Cert.StateIdeal.Value.run (F := Ideal) m ρ)

/-- What the precondition says: every lower bound is below `+∞`. -/
theorem bounded (x : Cert.Pre_bounded.S2048.Idx → EReal)
    (h : cmpf (F := Ideal) (φ := .f32) .olt x (broadcastInDim Cert.Pre_bounded.S2048 ![] Cert.Pre_bounded.Facts.bcast_S_S2048 (constant (F := Ideal) Cert.Pre_bounded.S_ .f32 0x7F800000#32)) = fun _ => 1#1)
    (i : Cert.Pre_bounded.S2048.Idx) : x i ≠ ⊤ := by
  have hi := of_bit (congrFun h i)
  exact ne_top_of_lt (of_decide_eq_true hi)

/-- The call `Recur` ends with its reference's state, where every lower bound is below `+∞`. -/
theorem value_r : Cert.algebraic_RecurIdeal_StateIdeal_pre_bounded := by
  intro m g m' g' h hag
  refine ⟨fun c => Cert.StateIdeal.Read.val_main_v37 (F := Ideal) (m' ((c.tc : Thread _ _).loc Cert.StateIdeal.main_arg0)) (m' ((c.tc : Thread _ _).loc Cert.StateIdeal.main_arg1)) (m' ((c.tc : Thread _ _).loc Cert.StateIdeal.main_arg3)), ?_, ?_⟩
  · refine (θ_run Cert.RecurIdeal.defs _ _).mono (fun _ r c => ⟨(r c).2.1.trans ?_, (r c).2.2⟩)
      (Cert.RecurIdeal.Value.run_blocks (F := Ideal) m g)
    obtain ⟨a0, a1, a2, a3⟩ := hag c
    refine (Cert.RecurIdeal.Value.final m (fun c i => bounded _ (h c) i) c).trans ?_
    dsimp only
    rw [a0, a1, a3]
  · exact (θ_run Cert.StateIdeal.defs _ _).mono (fun _ h c => ⟨(h c).1.trans (Cert.StateIdeal.Read.val_main_v37_eq _ _), (h c).2⟩) (Cert.StateIdeal.Value.run (F := Ideal) m' g')

theorem frame_rP : Cert.quiescent_RecurPrompt := fun m ρ _ => Cert.RecurPrompt.Gen.frame m ρ

theorem frame_rPIdeal : Cert.quiescent_RecurPromptIdeal := fun m ρ _ => Cert.RecurPromptIdeal.Gen.frame m ρ

theorem frame_rPRef : Cert.quiescent_StatePromptIdeal := fun m ρ _ =>
  (θ_run Cert.StatePromptIdeal.defs _ _).mono (fun r h => ⟨fun c => (h c).2, Idealize.ShloMosaic.sem_eq_zero_of_no_sems (by decide) r.2⟩)
    (Cert.StatePromptIdeal.Value.run (F := Ideal) m ρ)

/-- What the prompt group's precondition says: every lower bound is below `+∞`. -/
theorem bounded_prompt (x : Cert.Pre_bounded_prompt.S2048.Idx → EReal)
    (h : cmpf (F := Ideal) (φ := .f32) .olt x (broadcastInDim Cert.Pre_bounded_prompt.S2048 ![] Cert.Pre_bounded_prompt.Facts.bcast_S_S2048 (constant (F := Ideal) Cert.Pre_bounded_prompt.S_ .f32 0x7F800000#32)) = fun _ => 1#1)
    (i : Cert.Pre_bounded_prompt.S2048.Idx) : x i ≠ ⊤ := by
  have hi := of_bit (congrFun h i)
  exact ne_top_of_lt (of_decide_eq_true hi)

/-- The call `RecurPrompt` ends with its reference's state, where every lower bound is below `+∞`. -/
theorem value_rP : Cert.algebraic_RecurPromptIdeal_StatePromptIdeal_pre_bounded_prompt := by
  intro m g m' g' h hag
  refine ⟨fun c => Cert.StatePromptIdeal.Read.val_main_v165 (F := Ideal) (m' ((c.tc : Thread _ _).loc Cert.StatePromptIdeal.main_arg0)) (m' ((c.tc : Thread _ _).loc Cert.StatePromptIdeal.main_arg1)) (m' ((c.tc : Thread _ _).loc Cert.StatePromptIdeal.main_arg3)), ?_, ?_⟩
  · refine (θ_run Cert.RecurPromptIdeal.defs _ _).mono (fun _ r c => ⟨(r c).2.1.trans ?_, (r c).2.2⟩)
      (Cert.RecurPromptIdeal.Value.run_blocks (F := Ideal) m g)
    obtain ⟨a0, a1, a2, a3⟩ := hag c
    refine (Cert.RecurPromptIdeal.Value.final m (fun c i => bounded_prompt _ (h c) i) c).trans ?_
    dsimp only
    rw [a0, a1, a3]
  · exact (θ_run Cert.StatePromptIdeal.defs _ _).mono (fun _ h c => ⟨(h c).1.trans (Cert.StatePromptIdeal.Read.val_main_v165_eq _), (h c).2⟩) (Cert.StatePromptIdeal.Value.run (F := Ideal) m' g')

open Cert.ExpertsSharedIdeal in
/-- The schedule of the one device is the schedule of every device. -/
theorem scheds_shared {F : FTy → Type} [FloatOps F] (m : (ℓ : Loc nD τ sig) → Buf (Elt F) ℓ) (c : Dev nD) :
    Hand.Sched (Hand.tb m c) (Hand.pendOf (Hand.blk m 0) (Hand.runs m 0)) (Hand.curOf (Hand.blk m 0) (Hand.runs m 0)) := by
  obtain rfl : c = 0 := Subsingleton.elim _ _
  exact Hand.sched m 0 (Hand.inUse m 0)

theorem frame_shIdeal : Cert.quiescent_ExpertsSharedIdeal := fun m ρ _ =>
  Cert.ExpertsSharedIdeal.Hand.frame_of_run m ρ (scheds_shared m)

theorem frame_sh : Cert.quiescent_ExpertsShared := fun m ρ _ =>
  Cert.ExpertsShared.Hand.of_ideal _ _ (Cert.ExpertsSharedIdeal.Hand.frame_of_run (F := Bits) m ρ (scheds_shared m))

theorem frame_shRef : Cert.quiescent_SharedIdeal := fun m ρ _ =>
  (θ_run Cert.SharedIdeal.defs _ _).mono (fun r h => ⟨fun c => (h c).2, Idealize.ShloMosaic.sem_eq_zero_of_no_sems (by decide) r.2⟩)
    (Cert.SharedIdeal.Value.run (F := Ideal) m ρ)

/-- The call `ExpertsShared` ends with its reference's result. -/
theorem value_sh : Cert.algebraic_ExpertsSharedIdeal_SharedIdeal := by
  intro m g m' g' _ hag
  refine ⟨fun c => Cert.SharedIdeal.Read.val_main_v11 (F := Ideal) (m' ((c.tc : Thread _ _).loc Cert.SharedIdeal.main_arg0)) (m' ((c.tc : Thread _ _).loc Cert.SharedIdeal.main_arg1)) (m' ((c.tc : Thread _ _).loc Cert.SharedIdeal.main_arg2)) (m' ((c.tc : Thread _ _).loc Cert.SharedIdeal.main_arg3)), ?_, ?_⟩
  · refine (θ_run Cert.ExpertsSharedIdeal.defs _ _).mono (fun _ h c => ⟨((h.1 c).1 1).trans ?_, Cert.ExpertsSharedIdeal.Hand.args_of m h.1 c⟩)
      (Cert.ExpertsSharedIdeal.Hand.run_all m g (scheds_shared m))
    obtain rfl : c = 0 := Subsingleton.elim _ _
    obtain ⟨a0, a1, a2, a3⟩ := hag 0
    refine (Cert.ExpertsSharedIdeal.Hand.final m 0).trans ?_
    dsimp only
    rw [a0, a1, a2, a3]
  · exact (θ_run Cert.SharedIdeal.defs _ _).mono (fun _ h c => ⟨(h c).1.trans (Cert.SharedIdeal.Read.val_main_v11_eq _ _ _ _), (h c).2⟩) (Cert.SharedIdeal.Value.run (F := Ideal) m' g')

/-- All the claims. -/
theorem claim : Cert.Claim :=
  ⟨Cert.Attn.Gen.facts, Cert.AttnIdeal.Gen.facts, Cert.StickIdeal.Gen.facts, Cert.KProj.Gen.facts, Cert.KProjIdeal.Gen.facts, Cert.KeysIdeal.Gen.facts, Cert.VProj.Gen.facts, Cert.VProjIdeal.Gen.facts, Cert.ValuesIdeal.Gen.facts, Cert.HgIn.Gen.facts, Cert.HgInIdeal.Gen.facts, Cert.GatesIdeal.Gen.facts, Cert.QProj.Gen.facts, Cert.QProjIdeal.Gen.facts, Cert.QueriesIdeal.Gen.facts, Cert.SbOut.Gen.facts, Cert.SbOutIdeal.Gen.facts, Cert.MixedIdeal.Gen.facts, Cert.KSample.Gen.facts, Cert.KSampleIdeal.Gen.facts, Cert.KeysSampleIdeal.Gen.facts, Cert.VSample.Gen.facts, Cert.VSampleIdeal.Gen.facts, Cert.ValuesSampleIdeal.Gen.facts, Cert.Combine.Gen.facts, Cert.CombineIdeal.Gen.facts, Cert.CombinedIdeal.Gen.facts, Cert.CombineSample.Gen.facts, Cert.CombineSampleIdeal.Gen.facts, Cert.CombinedSampleIdeal.Gen.facts, Cert.Experts.Gen.facts, Cert.ExpertsIdeal.Gen.facts, Cert.RoutedIdeal.Gen.facts, Cert.Recur.Gen.facts, Cert.RecurIdeal.Gen.facts, Cert.StateIdeal.Gen.facts, Cert.RecurPrompt.Gen.facts, Cert.RecurPromptIdeal.Gen.facts, Cert.StatePromptIdeal.Gen.facts, Cert.ExpertsShared.Gen.facts, Cert.ExpertsSharedIdeal.Gen.facts, Cert.SharedIdeal.Gen.facts, Cert.Pre_finite.Gen.facts, Cert.Pre_in_use.Gen.facts, Cert.Pre_bounded.Gen.facts, Cert.Pre_bounded_prompt.Gen.facts,
    frame_attn, frame_attnIdeal, fun m ρ _ => Cert.AttnIdeal.Gen.frame m ρ, frame_stickIdeal,
    fun m ρ _ => frame_stickIdeal m ρ trivial,
    frame_k, frame_kIdeal, frame_kRef, frame_v, frame_vIdeal, frame_vRef, frame_hg, frame_hgIdeal, frame_hgRef, frame_q, frame_qIdeal, frame_qRef, frame_sb, frame_sbIdeal, frame_sbRef, frame_kS, frame_kSIdeal, frame_kSRef, frame_vS, frame_vSIdeal, frame_vSRef, frame_c, frame_cIdeal, frame_cRef, frame_cS, frame_cSIdeal, frame_cSRef,
    frame_e, frame_eIdeal, frame_eRef, fun m ρ _ => frame_eRef m ρ trivial,
    frame_r, frame_rIdeal, fun m ρ _ => Cert.RecurIdeal.Gen.frame m ρ, frame_rRef, fun m ρ _ => frame_rRef m ρ trivial,
    frame_rP, frame_rPIdeal, fun m ρ _ => Cert.RecurPromptIdeal.Gen.frame m ρ, frame_rPRef, fun m ρ _ => frame_rPRef m ρ trivial,
    frame_sh, frame_shIdeal, frame_shRef,
    named, value, trivial, value_k, trivial, value_v, trivial, value_hg, trivial, value_q, trivial, value_sb, trivial, value_kS, trivial, value_vS, trivial, value_c, trivial, value_cS, trivial, value_e, trivial, value_r, trivial, value_rP, trivial, value_sh⟩

end Cert.Proof
